-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_weights (hKernelIdeal := hKernelIdeal) (hReferenceIdeal := hReferenceIdeal) (hPre_finite_weights := hPre_finite_weights)
    ∧ preserves_Kernel2_Kernel2Ideal
    ∧ algebraic_Kernel2Ideal_Reference2Ideal (hKernel2Ideal := hKernel2Ideal) (hReference2Ideal := hReference2Ideal)
-- ==== Pre_finite_weights.lean ====
abbrev S8x8192x1024 : Shape := ⟨3, ![8, 8192, 1024]⟩
abbrev S1x1024 : Shape := ⟨2, ![1, 1024]⟩
abbrev S1x1024x4624 : Shape := ⟨3, ![1, 1024, 4624]⟩
abbrev S1x4x1024 : Shape := ⟨3, ![1, 4, 1024]⟩
abbrev S1x16x64x64 : Shape := ⟨4, ![1, 16, 64, 64]⟩
abbrev S1x4x1536 : Shape := ⟨3, ![1, 4, 1536]⟩
abbrev S1x1536 : Shape := ⟨2, ![1, 1536]⟩
abbrev S1x16 : Shape := ⟨2, ![1, 16]⟩
abbrev S1x2048x1024 : Shape := ⟨3, ![1, 2048, 1024]⟩
abbrev S_ : Shape := ⟨0, ![]⟩

class Facts : Prop where
  bcast_S_S1x1024 : S_.BroadcastsInDim S1x1024 (![] : Fin 0 → Fin S1x1024.rank)
  bcast_S_S1x1024x4624 : S_.BroadcastsInDim S1x1024x4624 (![] : Fin 0 → Fin S1x1024x4624.rank)
  bcast_S_S1x4x1536 : S_.BroadcastsInDim S1x4x1536 (![] : Fin 0 → Fin S1x4x1536.rank)
  bcast_S_S1x1536 : S_.BroadcastsInDim S1x1536 (![] : Fin 0 → Fin S1x1536.rank)
  bcast_S_S1x16 : S_.BroadcastsInDim S1x16 (![] : Fin 0 → Fin S1x16.rank)

variable [Facts]

def fn {F : FTy → Type} [FloatOps F] (main_arg0 : FVec F S8x8192x1024 .f32) (main_arg1 : FVec F S1x1024 .f32) (main_arg2 : FVec F S1x1024x4624 .f32) (main_arg3 : FVec F S1x4x1024 .f32) (main_arg4 : FVec F S1x1024 .f32) (main_arg5 : FVec F S1x16x64x64 .f32) (main_arg6 : FVec F S1x1024 .f32) (main_arg7 : FVec F S1x16x64x64 .f32) (main_arg8 : FVec F S1x1024 .f32) (main_arg9 : FVec F S1x1024 .f32) (main_arg10 : FVec F S1x1024 .f32) (main_arg11 : FVec F S1x4x1536 .f32) (main_arg12 : FVec F S1x1536 .f32) (main_arg13 : FVec F S1x16 .f32) (main_arg14 : FVec F S1x16 .f32) (main_arg15 : FVec F S1x16 .f32) (main_arg16 : FVec F S1x1024 .f32) (main_arg17 : FVec F S1x2048x1024 .f32) (main_arg18 : FVec F S1x1024 .f32) : IVec S1x1024 1 × IVec S1x1024x4624 1 × IVec S1x4x1536 1 × IVec S1x1536 1 × IVec S1x16 1 × IVec S1x16 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x4624 .f32 := Host.absf main_arg2
  let main_cst_0 : FVec F S_ .f32 := constant S_ .f32 0x7F800000#32
  let main_v4 : FVec F S1x1024x4624 .f32 := broadcastInDim S1x1024x4624 ![] bcast_S_S1x1024x4624 main_cst_0
  let main_v5 : IVec S1x1024x4624 1 := cmpf .olt main_v3 main_v4
  let main_v6 : FVec F S1x4x1536 .f32 := Host.absf main_arg11
  let main_cst_1 : FVec F S_ .f32 := constant S_ .f32 0x7F800000#32
  let main_v7 : FVec F S1x4x1536 .f32 := broadcastInDim S1x4x1536 ![] bcast_S_S1x4x1536 main_cst_1
  let main_v8 : IVec S1x4x1536 1 := cmpf .olt main_v6 main_v7
  let main_v9 : FVec F S1x1536 .f32 := Host.absf main_arg12
  let main_cst_2 : FVec F S_ .f32 := constant S_ .f32 0x7F800000#32
  let main_v10 : FVec F S1x1536 .f32 := broadcastInDim S1x1536 ![] bcast_S_S1x1536 main_cst_2
  let main_v11 : IVec S1x1536 1 := cmpf .olt main_v9 main_v10
  let main_v12 : FVec F S1x16 .f32 := Host.absf main_arg13
  let main_cst_3 : FVec F S_ .f32 := constant S_ .f32 0x7F800000#32
  let main_v13 : FVec F S1x16 .f32 := broadcastInDim S1x16 ![] bcast_S_S1x16 main_cst_3
  let main_v14 : IVec S1x16 1 := cmpf .olt main_v12 main_v13
  let main_v15 : FVec F S1x16 .f32 := Host.absf main_arg14
  let main_cst_4 : FVec F S_ .f32 := constant S_ .f32 0x7F800000#32
  let main_v16 : FVec F S1x16 .f32 := broadcastInDim S1x16 ![] bcast_S_S1x16 main_cst_4
  let main_v17 : IVec S1x16 1 := cmpf .olt main_v15 main_v16
  (main_v2, main_v5, main_v8, main_v11, main_v14, main_v17)
-- ==== Kernel.lean ====
abbrev S8x8192x1024 : Shape := ⟨3, ![8, 8192, 1024]⟩
abbrev S1x1024 : Shape := ⟨2, ![1, 1024]⟩
abbrev S1x1024x4624 : Shape := ⟨3, ![1, 1024, 4624]⟩
abbrev S1x4x1024 : Shape := ⟨3, ![1, 4, 1024]⟩
abbrev S1x16x64x64 : Shape := ⟨4, ![1, 16, 64, 64]⟩
abbrev S1x4x1536 : Shape := ⟨3, ![1, 4, 1536]⟩
abbrev S1x1536 : Shape := ⟨2, ![1, 1536]⟩
abbrev S1x16 : Shape := ⟨2, ![1, 16]⟩
abbrev S1x2048x1024 : Shape := ⟨3, ![1, 2048, 1024]⟩
abbrev S1024x4624 : Shape := ⟨2, ![1024, 4624]⟩
abbrev S2048x1024 : Shape := ⟨2, ![2048, 1024]⟩
abbrev S1024 : Shape := ⟨1, ![1024]⟩
abbrev S1024x1024 : Shape := ⟨2, ![1024, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S4x1024 : Shape := ⟨2, ![4, 1024]⟩
abbrev S16x64x64 : Shape := ⟨3, ![16, 64, 64]⟩
abbrev S4x4x64x64 : Shape := ⟨4, ![4, 4, 64, 64]⟩
abbrev S4x4 : Shape := ⟨2, ![4, 4]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S4x1536 : Shape := ⟨2, ![4, 1536]⟩
abbrev S1536 : Shape := ⟨1, ![1536]⟩
abbrev S16 : Shape := ⟨1, ![16]⟩
abbrev S1x128 : Shape := ⟨2, ![1, 128]⟩
abbrev S16x64 : Shape := ⟨2, ![16, 64]⟩
abbrev S1x256x1024 : Shape := ⟨3, ![1, 256, 1024]⟩
abbrev S264x1024 : Shape := ⟨2, ![264, 1024]⟩
abbrev S264x1536 : Shape := ⟨2, ![264, 1536]⟩
abbrev S8x1024 : Shape := ⟨2, ![8, 1024]⟩
abbrev S8x128x128 : Shape := ⟨3, ![8, 128, 128]⟩
abbrev S8x1536 : Shape := ⟨2, ![8, 1536]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S256x128 : Shape := ⟨2, ![256, 128]⟩
abbrev S256x256 : Shape := ⟨2, ![256, 256]⟩
abbrev S1x256x512 : Shape := ⟨3, ![1, 256, 512]⟩
abbrev S256x512 : Shape := ⟨2, ![256, 512]⟩
abbrev S32x8x1024 : Shape := ⟨3, ![32, 8, 1024]⟩
abbrev S1x8x1024 : Shape := ⟨3, ![1, 8, 1024]⟩
abbrev S128x128 : Shape := ⟨2, ![128, 128]⟩
abbrev S128x1024 : Shape := ⟨2, ![128, 1024]⟩
abbrev S1x128x128 : Shape := ⟨3, ![1, 128, 128]⟩
abbrev S128x1 : Shape := ⟨2, ![128, 1]⟩
abbrev S512x128 : Shape := ⟨2, ![512, 128]⟩
abbrev S128x512 : Shape := ⟨2, ![128, 512]⟩
abbrev S128x256 : Shape := ⟨2, ![128, 256]⟩

abbrev nBuf : Space → Nat
  | .hbm => 100
  | .vmem => 30
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x4624, .f32⟩
  | .hbm, ⟨3, _⟩ => ⟨S1x4x1024, .f32⟩
  | .hbm, ⟨4, _⟩ => ⟨S1x1024, .f32⟩
  | .hbm, ⟨5, _⟩ => ⟨S1x16x64x64, .f32⟩
  | .hbm, ⟨6, _⟩ => ⟨S1x1024, .f32⟩
  | .hbm, ⟨7, _⟩ => ⟨S1x16x64x64, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x4x1536, .f32⟩
  | .hbm, ⟨12, _⟩ => ⟨S1x1536, .f32⟩
  | .hbm, ⟨13, _⟩ => ⟨S1x16, .f32⟩
  | .hbm, ⟨14, _⟩ => ⟨S1x16, .f32⟩
  | .hbm, ⟨15, _⟩ => ⟨S1x16, .f32⟩
  | .hbm, ⟨16, _⟩ => ⟨S1x1024, .f32⟩
  | .hbm, ⟨17, _⟩ => ⟨S1x2048x1024, .f32⟩
  | .hbm, ⟨18, _⟩ => ⟨S1x1024, .f32⟩
  | .hbm, ⟨19, _⟩ => ⟨S1024x4624, .f32⟩
  | .hbm, ⟨20, _⟩ => ⟨S1024x4624, .bf16⟩
  | .hbm, ⟨21, _⟩ => ⟨S2048x1024, .f32⟩
  | .hbm, ⟨22, _⟩ => ⟨S2048x1024, .bf16⟩
  | .hbm, ⟨23, _⟩ => ⟨S1024, .f32⟩
  | .hbm, ⟨24, _⟩ => ⟨S1x1024, .f32⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S1024x1536, .bf16⟩
  | .hbm, ⟨29, _⟩ => ⟨S1024x16, .bf16⟩
  | .hbm, ⟨30, _⟩ => ⟨S_, .i32⟩
  | .hbm, ⟨31, _⟩ => ⟨S_, .bf16⟩
  | .hbm, ⟨32, _⟩ => ⟨S1024x128, .bf16⟩
  | .hbm, ⟨33, _⟩ => ⟨S4x1024, .f32⟩
  | .hbm, ⟨34, _⟩ => ⟨S1024, .f32⟩
  | .hbm, ⟨35, _⟩ => ⟨S1x1024, .f32⟩
  | .hbm, ⟨36, _⟩ => ⟨S16x64x64, .f32⟩
  | .hbm, ⟨37, _⟩ => ⟨S16x64x64, .f32⟩
  | .hbm, ⟨38, _⟩ => ⟨S4x4x64x64, .f32⟩
  | .hbm, ⟨39, _⟩ => ⟨S4x4, .i32⟩
  | .hbm, ⟨40, _⟩ => ⟨S4x4, .i32⟩
  | .hbm, ⟨41, _⟩ => ⟨S_, .i32⟩
  | .hbm, ⟨42, _⟩ => ⟨S4x4, .i32⟩
  | .hbm, ⟨43, _⟩ => ⟨S4x4, .i32⟩
  | .hbm, ⟨44, _⟩ => ⟨S4x4, .i1⟩
  | .hbm, ⟨45, _⟩ => ⟨S4x4, .f32⟩
  | .hbm, ⟨46, _⟩ => ⟨S4x4x64x1x64, .f32⟩
  | .hbm, ⟨47, _⟩ => ⟨S1x4x1x4x1, .f32⟩
  | .hbm, ⟨48, _⟩ => ⟨S4x4x64x4x64, .f32⟩
  | .hbm, ⟨49, _⟩ => ⟨S4x4x64x4x64, .f32⟩
  | .hbm, ⟨50, _⟩ => ⟨S4x4x64x4x64, .f32⟩
  | .hbm, ⟨51, _⟩ => ⟨S4x256x256, .f32⟩
  | .hbm, ⟨52, _⟩ => ⟨S4x4x64x64, .f32⟩
  | .hbm, ⟨53, _⟩ => ⟨S4x4, .i32⟩
  | .hbm, ⟨54, _⟩ => ⟨S4x4, .i32⟩
  | .hbm, ⟨55, _⟩ => ⟨S_, .i32⟩
  | .hbm, ⟨56, _⟩ => ⟨S4x4, .i32⟩
  | .hbm, ⟨57, _⟩ => ⟨S4x4, .i32⟩
  | .hbm, ⟨58, _⟩ => ⟨S4x4, .i1⟩
  | .hbm, ⟨59, _⟩ => ⟨S4x4, .f32⟩
  | .hbm, ⟨60, _⟩ => ⟨S4x4x64x1x64, .f32⟩
  | .hbm, ⟨61, _⟩ => ⟨S1x4x1x4x1, .f32⟩
  | .hbm, ⟨62, _⟩ => ⟨S4x4x64x4x64, .f32⟩
  | .hbm, ⟨63, _⟩ => ⟨S4x4x64x4x64, .f32⟩
  | .hbm, ⟨64, _⟩ => ⟨S4x4x64x4x64, .f32⟩
  | .hbm, ⟨65, _⟩ => ⟨S4x256x256, .f32⟩
  | .hbm, ⟨66, _⟩ => ⟨S4x256x512, .f32⟩
  | .hbm, ⟨67, _⟩ => ⟨S4x256x512, .bf16⟩
  | .hbm, ⟨68, _⟩ => ⟨S1024, .f32⟩
  | .hbm, ⟨69, _⟩ => ⟨S1x1024, .f32⟩
  | .hbm, ⟨70, _⟩ => ⟨S1024, .f32⟩
  | .hbm, ⟨71, _⟩ => ⟨S1x1024, .f32⟩
  | .hbm, ⟨72, _⟩ => ⟨S1024, .f32⟩
  | .hbm, ⟨73, _⟩ => ⟨S1x1024, .f32⟩
  | .hbm, ⟨74, _⟩ => ⟨S1024, .f32⟩
  | .hbm, ⟨75, _⟩ => ⟨S1x1024, .f32⟩
  | .hbm, ⟨76, _⟩ => ⟨S4x1536, .f32⟩
  | .hbm, ⟨77, _⟩ => ⟨S1536, .f32⟩
  | .hbm, ⟨78, _⟩ => ⟨S1x1536, .f32⟩
  | .hbm, ⟨79, _⟩ => ⟨S16, .f32⟩
  | .hbm, ⟨80, _⟩ => ⟨S1x16, .f32⟩
  | .hbm, ⟨81, _⟩ => ⟨S_, .i32⟩
  | .hbm, ⟨82, _⟩ => ⟨S_, .f32⟩
  | .hbm, ⟨83, _⟩ => ⟨S1x128, .f32⟩
  | .hbm, ⟨84, _⟩ => ⟨S16, .f32⟩
  | .hbm, ⟨85, _⟩ => ⟨S1x16, .f32⟩
  | .hbm, ⟨86, _⟩ => ⟨S_, .i32⟩
  | .hbm, ⟨87, _⟩ => ⟨S_, .f32⟩
  | .hbm, ⟨88, _⟩ => ⟨S1x128, .f32⟩
  | .hbm, ⟨89, _⟩ => ⟨S16, .f32⟩
  | .hbm, ⟨90, _⟩ => ⟨S16x64, .f32⟩
  | .hbm, ⟨91, _⟩ => ⟨S1024, .f32⟩
  | .hbm, ⟨92, _⟩ => ⟨S1x1024, .f32⟩
  | .hbm, ⟨93, _⟩ => ⟨S1024, .f32⟩
  | .hbm, ⟨94, _⟩ => ⟨S1x1024, .f32⟩
  | .hbm, ⟨95, _⟩ => ⟨S1024x1024, .bf16⟩
  | .hbm, ⟨96, _⟩ => ⟨S1024x1024, .bf16⟩
  | .hbm, ⟨97, _⟩ => ⟨S1024, .f32⟩
  | .hbm, ⟨98, _⟩ => ⟨S1x1024, .f32⟩
  | .hbm, ⟨99, _⟩ => ⟨S8x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1536, .bf16⟩
  | .local _ .vmem, ⟨7, _⟩ => ⟨S1024x128, .bf16⟩
  | .local _ .vmem, ⟨8, _⟩ => ⟨S4x1024, .f32⟩
  | .local _ .vmem, ⟨9, _⟩ => ⟨S1x1024, .f32⟩
  | .local _ .vmem, ⟨10, _⟩ => ⟨S4x256x512, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S4x1536, .f32⟩
  | .local _ .vmem, ⟨16, _⟩ => ⟨S1x1536, .f32⟩
  | .local _ .vmem, ⟨17, _⟩ => ⟨S1x128, .f32⟩
  | .local _ .vmem, ⟨18, _⟩ => ⟨S1x128, .f32⟩
  | .local _ .vmem, ⟨19, _⟩ => ⟨S1x1024, .f32⟩
  | .local _ .vmem, ⟨20, _⟩ => ⟨S1x1024, .f32⟩
  | .local _ .vmem, ⟨21, _⟩ => ⟨S1024x1024, .bf16⟩
  | .local _ .vmem, ⟨22, _⟩ => ⟨S1024x1024, .bf16⟩
  | .local _ .vmem, ⟨23, _⟩ => ⟨S1x1024, .f32⟩
  | .local _ .vmem, ⟨24, _⟩ => ⟨S1x256x1024, .f32⟩
  | .local _ .vmem, ⟨25, _⟩ => ⟨S1x256x1024, .f32⟩
  | .local _ .vmem, ⟨26, _⟩ => ⟨S264x1024, .f32⟩
  | .local _ .vmem, ⟨27, _⟩ => ⟨S264x1536, .f32⟩
  | .local _ .vmem, ⟨28, _⟩ => ⟨S8x1024, .f32⟩
  | .local _ .vmem, ⟨29, _⟩ => ⟨S8x128x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_call0_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_1 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_2 : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_3 : Ref sig .tc := ⟨.hbm, 86, rfl⟩
abbrev main_call2_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S1x256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ReferenceIdeal.lean ====
abbrev S8x8192x1024 : Shape := ⟨3, ![8, 8192, 1024]⟩
abbrev S1x1024 : Shape := ⟨2, ![1, 1024]⟩
abbrev S1x1024x4624 : Shape := ⟨3, ![1, 1024, 4624]⟩
abbrev S1x4x1024 : Shape := ⟨3, ![1, 4, 1024]⟩
abbrev S1x16x64x64 : Shape := ⟨4, ![1, 16, 64, 64]⟩
abbrev S1x4x1536 : Shape := ⟨3, ![1, 4, 1536]⟩
abbrev S1x1536 : Shape := ⟨2, ![1, 1536]⟩
abbrev S1x16 : Shape := ⟨2, ![1, 16]⟩
abbrev S1x2048x1024 : Shape := ⟨3, ![1, 2048, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x4624 : Shape := ⟨2, ![1024, 4624]⟩
abbrev S8x8192x4624 : Shape := ⟨3, ![8, 8192, 4624]⟩
abbrev S8x8192x1536 : Shape := ⟨3, ![8, 8192, 1536]⟩
abbrev S8x8192x16 : Shape := ⟨3, ![8, 8192, 16]⟩
abbrev S4x1024 : Shape := ⟨2, ![4, 1024]⟩
abbrev S8x8195x1024 : Shape := ⟨3, ![8, 8195, 1024]⟩
abbrev S8x8192x16x64 : Shape := ⟨4, ![8, 8192, 16, 64]⟩
abbrev S16x64x64 : Shape := ⟨3, ![16, 64, 64]⟩
abbrev S16x64x8x8192 : Shape := ⟨4, ![16, 64, 8, 8192]⟩
abbrev S4x1536 : Shape := ⟨2, ![4, 1536]⟩
abbrev S1536 : Shape := ⟨1, ![1536]⟩
abbrev S8x8195x1536 : Shape := ⟨3, ![8, 8195, 1536]⟩
abbrev S1x1x1536 : Shape := ⟨3, ![1, 1, 1536]⟩
abbrev S8x8192x2x8x64 : Shape := ⟨5, ![8, 8192, 2, 8, 64]⟩
abbrev S8x8192x256 : Shape := ⟨3, ![8, 8192, 256]⟩
abbrev S8x8192x2x128 : Shape := ⟨4, ![8, 8192, 2, 128]⟩
abbrev S16 : Shape := ⟨1, ![16]⟩
abbrev S1x1x16 : Shape := ⟨3, ![1, 1, 16]⟩
abbrev S8x8192x2x8 : Shape := ⟨4, ![8, 8192, 2, 8]⟩
abbrev S2x8 : Shape := ⟨2, ![2, 8]⟩
abbrev S1x1x2x8 : Shape := ⟨4, ![1, 1, 2, 8]⟩
abbrev S8x8192x2x8x1 : Shape := ⟨5, ![8, 8192, 2, 8, 1]⟩
abbrev S8x1024 : Shape := ⟨2, ![8, 1024]⟩
abbrev S8x2x8x64x128 : Shape := ⟨5, ![8, 2, 8, 64, 128]⟩
abbrev S8192x8x1024 : Shape := ⟨3, ![8192, 8, 1024]⟩
abbrev S8192x8x2x8 : Shape := ⟨4, ![8192, 8, 2, 8]⟩
abbrev S8192x8x2x8x64 : Shape := ⟨5, ![8192, 8, 2, 8, 64]⟩
abbrev S8192x8x2x128 : Shape := ⟨4, ![8192, 8, 2, 128]⟩
abbrev S1x8x1024 : Shape := ⟨3, ![1, 8, 1024]⟩
abbrev S1x8x2x8 : Shape := ⟨4, ![1, 8, 2, 8]⟩
abbrev S8x2x8 : Shape := ⟨3, ![8, 2, 8]⟩
abbrev S1x8x2x8x64 : Shape := ⟨5, ![1, 8, 2, 8, 64]⟩
abbrev S8x2x8x64 : Shape := ⟨4, ![8, 2, 8, 64]⟩
abbrev S1x8x2x128 : Shape := ⟨4, ![1, 8, 2, 128]⟩
abbrev S8x2x128 : Shape := ⟨3, ![8, 2, 128]⟩
abbrev S8x2x8x1x1 : Shape := ⟨5, ![8, 2, 8, 1, 1]⟩
abbrev S8x2x8x64x1 : Shape := ⟨5, ![8, 2, 8, 64, 1]⟩
abbrev S8x2x1x1x128 : Shape := ⟨5, ![8, 2, 1, 1, 128]⟩
abbrev S8 : Shape := ⟨1, ![8]⟩
abbrev S8x1 : Shape := ⟨2, ![8, 1]⟩
abbrev S2x8x1 : Shape := ⟨3, ![2, 8, 1]⟩
abbrev S1x2x8x1 : Shape := ⟨4, ![1, 2, 8, 1]⟩
abbrev S8x2048 : Shape := ⟨2, ![8, 2048]⟩
abbrev S2048x1024 : Shape := ⟨2, ![2048, 1024]⟩

abbrev nBuf : Space → Nat
  | .hbm => 421
  | .vmem => 0
  | .smem => 0
  | _ => 0

abbrev hbmTy0_0 (i : Nat) : BufTy := match i % 128 with
  | 0 => ⟨S8x8192x1024, .f32⟩
  | 1 => ⟨S1x1024, .f32⟩
  | 2 => ⟨S1x1024x4624, .f32⟩
  | 3 => ⟨S1x4x1024, .f32⟩
  | 4 => ⟨S1x1024, .f32⟩
  | 5 => ⟨S1x16x64x64, .f32⟩
  | 6 => ⟨S1x1024, .f32⟩
  | 7 => ⟨S1x16x64x64, .f32⟩
  | 8 => ⟨S1x1024, .f32⟩
  | 9 => ⟨S1x1024, .f32⟩
  | 10 => ⟨S1x1024, .f32⟩
  | 11 => ⟨S1x4x1536, .f32⟩
  | 12 => ⟨S1x1536, .f32⟩
  | 13 => ⟨S1x16, .f32⟩
  | 14 => ⟨S1x16, .f32⟩
  | 15 => ⟨S1x16, .f32⟩
  | 16 => ⟨S1x1024, .f32⟩
  | 17 => ⟨S1x2048x1024, .f32⟩
  | 18 => ⟨S1x1024, .f32⟩
  | 19 => ⟨S1024, .f32⟩
  | 20 => ⟨S8x8192x1024, .f32⟩
  | 21 => ⟨S_, .f32⟩
  | 22 => ⟨S8x8192, .f32⟩
  | 23 => ⟨S8x8192x1, .f32⟩
  | 24 => ⟨S_, .f32⟩
  | 25 => ⟨S8x8192x1, .f32⟩
  | 26 => ⟨S8x8192x1, .f32⟩
  | 27 => ⟨S_, .f32⟩
  | 28 => ⟨S8x8192x1, .f32⟩
  | 29 => ⟨S8x8192x1, .f32⟩
  | 30 => ⟨S8x8192x1, .f32⟩
  | 31 => ⟨S8x8192x1024, .f32⟩
  | 32 => ⟨S8x8192x1024, .f32⟩
  | 33 => ⟨S1x1x1024, .f32⟩
  | 34 => ⟨S8x8192x1024, .f32⟩
  | 35 => ⟨S8x8192x1024, .f32⟩
  | 36 => ⟨S1024x4624, .f32⟩
  | 37 => ⟨S8x8192x4624, .f32⟩
  | 38 => ⟨S8x8192x1024, .f32⟩
  | 39 => ⟨S8x8192x1024, .f32⟩
  | 40 => ⟨S8x8192x1024, .f32⟩
  | 41 => ⟨S8x8192x1536, .f32⟩
  | 42 => ⟨S8x8192x16, .f32⟩
  | 43 => ⟨S4x1024, .f32⟩
  | 44 => ⟨S1024, .f32⟩
  | 45 => ⟨S_, .i32⟩
  | 46 => ⟨S_, .f32⟩
  | 47 => ⟨S8x8195x1024, .f32⟩
  | 48 => ⟨S8x8192x1024, .f32⟩
  | 49 => ⟨S1x1024, .f32⟩
  | 50 => ⟨S1024, .f32⟩
  | 51 => ⟨S1x1x1024, .f32⟩
  | 52 => ⟨S8x8192x1024, .f32⟩
  | 53 => ⟨S8x8192x1024, .f32⟩
  | 54 => ⟨S1x1x1024, .f32⟩
  | 55 => ⟨S8x8192x1024, .f32⟩
  | 56 => ⟨S8x8192x1024, .f32⟩
  | 57 => ⟨S8x8192x1024, .f32⟩
  | 58 => ⟨S1x1024, .f32⟩
  | 59 => ⟨S1024, .f32⟩
  | 60 => ⟨S1x1x1024, .f32⟩
  | 61 => ⟨S8x8192x1024, .f32⟩
  | 62 => ⟨S8x8192x1024, .f32⟩
  | 63 => ⟨S8x8192x1024, .f32⟩
  | 64 => ⟨S8x8192x1024, .f32⟩
  | 65 => ⟨S1x1024, .f32⟩
  | 66 => ⟨S1024, .f32⟩
  | 67 => ⟨S1x1x1024, .f32⟩
  | 68 => ⟨S8x8192x1024, .f32⟩
  | 69 => ⟨S8x8192x1024, .f32⟩
  | 70 => ⟨S8x8192x1024, .f32⟩
  | 71 => ⟨S8x8192x1024, .f32⟩
  | 72 => ⟨S1x1024, .f32⟩
  | 73 => ⟨S1024, .f32⟩
  | 74 => ⟨S1x1x1024, .f32⟩
  | 75 => ⟨S8x8192x1024, .f32⟩
  | 76 => ⟨S8x8192x1024, .f32⟩
  | 77 => ⟨S8x8192x1024, .f32⟩
  | 78 => ⟨S8x8192x16x64, .f32⟩
  | 79 => ⟨S16x64x64, .f32⟩
  | 80 => ⟨S16x64x8x8192, .f32⟩
  | 81 => ⟨S8x8192x16x64, .f32⟩
  | 82 => ⟨S8x8192x1024, .f32⟩
  | 83 => ⟨S1024, .f32⟩
  | 84 => ⟨S1x1x1024, .f32⟩
  | 85 => ⟨S8x8192x1024, .f32⟩
  | 86 => ⟨S8x8192x1024, .f32⟩
  | 87 => ⟨S8x8192x1024, .f32⟩
  | 88 => ⟨S8x8192x1024, .f32⟩
  | 89 => ⟨S_, .f32⟩
  | 90 => ⟨S8x8192x1024, .f32⟩
  | 91 => ⟨S8x8192x1024, .f32⟩
  | 92 => ⟨S_, .f32⟩
  | 93 => ⟨S8x8192x1024, .f32⟩
  | 94 => ⟨S8x8192x1024, .f32⟩
  | 95 => ⟨S16x64x64, .f32⟩
  | 96 => ⟨S16x64x8x8192, .f32⟩
  | 97 => ⟨S8x8192x16x64, .f32⟩
  | 98 => ⟨S8x8192x1024, .f32⟩
  | 99 => ⟨S1024, .f32⟩
  | 100 => ⟨S1x1x1024, .f32⟩
  | 101 => ⟨S8x8192x1024, .f32⟩
  | 102 => ⟨S8x8192x1024, .f32⟩
  | 103 => ⟨S8x8192x1024, .f32⟩
  | 104 => ⟨S8x8192x1024, .f32⟩
  | 105 => ⟨S_, .f32⟩
  | 106 => ⟨S8x8192x1024, .f32⟩
  | 107 => ⟨S8x8192x1024, .f32⟩
  | 108 => ⟨S_, .f32⟩
  | 109 => ⟨S8x8192x1024, .f32⟩
  | 110 => ⟨S8x8192x1024, .f32⟩
  | 111 => ⟨S_, .f32⟩
  | 112 => ⟨S8x8192x1024, .f32⟩
  | 113 => ⟨S8x8192x1024, .f32⟩
  | 114 => ⟨S1024, .f32⟩
  | 115 => ⟨S1024, .f32⟩
  | 116 => ⟨S_, .f32⟩
  | 117 => ⟨S1024, .f32⟩
  | 118 => ⟨S1024, .f32⟩
  | 119 => ⟨S1024, .f32⟩
  | 120 => ⟨S1024, .f32⟩
  | 121 => ⟨S1024, .i1⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S8x8192x1024, .f32⟩

abbrev hbmTy0_1 (i : Nat) : BufTy := match i % 128 with
  | 0 => ⟨S1024, .f32⟩
  | 1 => ⟨S1024, .f32⟩
  | 2 => ⟨S1x1x1024, .f32⟩
  | 3 => ⟨S8x8192x1024, .f32⟩
  | 4 => ⟨S8x8192x1024, .f32⟩
  | 5 => ⟨S8x8192x1024, .f32⟩
  | 6 => ⟨S_, .f32⟩
  | 7 => ⟨S8x8192x1024, .f32⟩
  | 8 => ⟨S8x8192x1024, .f32⟩
  | 9 => ⟨S8x8192x1024, .f32⟩
  | 10 => ⟨S8x8192x1024, .f32⟩
  | 11 => ⟨S8x8192x1024, .f32⟩
  | 12 => ⟨S8x8192x1024, .f32⟩
  | 13 => ⟨S8x8192x1024, .f32⟩
  | 14 => ⟨S4x1536, .f32⟩
  | 15 => ⟨S1536, .f32⟩
  | 16 => ⟨S_, .i32⟩
  | 17 => ⟨S_, .f32⟩
  | 18 => ⟨S8x8195x1536, .f32⟩
  | 19 => ⟨S8x8192x1536, .f32⟩
  | 20 => ⟨S1x1536, .f32⟩
  | 21 => ⟨S1536, .f32⟩
  | 22 => ⟨S1x1x1536, .f32⟩
  | 23 => ⟨S8x8192x1536, .f32⟩
  | 24 => ⟨S8x8192x1536, .f32⟩
  | 25 => ⟨S1x1x1536, .f32⟩
  | 26 => ⟨S8x8192x1536, .f32⟩
  | 27 => ⟨S8x8192x1536, .f32⟩
  | 28 => ⟨S8x8192x1536, .f32⟩
  | 29 => ⟨S1x1536, .f32⟩
  | 30 => ⟨S1536, .f32⟩
  | 31 => ⟨S1x1x1536, .f32⟩
  | 32 => ⟨S8x8192x1536, .f32⟩
  | 33 => ⟨S8x8192x1536, .f32⟩
  | 34 => ⟨S8x8192x1536, .f32⟩
  | 35 => ⟨S8x8192x1536, .f32⟩
  | 36 => ⟨S1x1536, .f32⟩
  | 37 => ⟨S1536, .f32⟩
  | 38 => ⟨S1x1x1536, .f32⟩
  | 39 => ⟨S8x8192x1536, .f32⟩
  | 40 => ⟨S8x8192x1536, .f32⟩
  | 41 => ⟨S8x8192x1536, .f32⟩
  | 42 => ⟨S8x8192x1536, .f32⟩
  | 43 => ⟨S1x1536, .f32⟩
  | 44 => ⟨S1536, .f32⟩
  | 45 => ⟨S1x1x1536, .f32⟩
  | 46 => ⟨S8x8192x1536, .f32⟩
  | 47 => ⟨S8x8192x1536, .f32⟩
  | 48 => ⟨S8x8192x1536, .f32⟩
  | 49 => ⟨S8x8192x1536, .f32⟩
  | 50 => ⟨S8x8192x1536, .f32⟩
  | 51 => ⟨S_, .f32⟩
  | 52 => ⟨S8x8192x1536, .f32⟩
  | 53 => ⟨S8x8192x1536, .f32⟩
  | 54 => ⟨S_, .f32⟩
  | 55 => ⟨S8x8192x1536, .f32⟩
  | 56 => ⟨S8x8192x1536, .f32⟩
  | 57 => ⟨S8x8192x1536, .f32⟩
  | 58 => ⟨S8x8192x1024, .f32⟩
  | 59 => ⟨S8x8192x2x8x64, .f32⟩
  | 60 => ⟨S8x8192x256, .f32⟩
  | 61 => ⟨S8x8192x2x128, .f32⟩
  | 62 => ⟨S8x8192x256, .f32⟩
  | 63 => ⟨S8x8192x2x128, .f32⟩
  | 64 => ⟨S16, .f32⟩
  | 65 => ⟨S1x1x16, .f32⟩
  | 66 => ⟨S8x8192x16, .f32⟩
  | 67 => ⟨S8x8192x16, .f32⟩
  | 68 => ⟨S_, .f32⟩
  | 69 => ⟨S8x8192x16, .f32⟩
  | 70 => ⟨S8x8192x16, .f32⟩
  | 71 => ⟨S8x8192x16, .f32⟩
  | 72 => ⟨S8x8192x16, .f32⟩
  | 73 => ⟨S8x8192x16, .i1⟩
  | 74 => ⟨S8x8192x16, .f32⟩
  | 75 => ⟨S8x8192x16, .f32⟩
  | 76 => ⟨S8x8192x16, .f32⟩
  | 77 => ⟨S8x8192x16, .f32⟩
  | 78 => ⟨S8x8192x16, .f32⟩
  | 79 => ⟨S8x8192x16, .f32⟩
  | 80 => ⟨S8x8192x16, .f32⟩
  | 81 => ⟨S8x8192x16, .f32⟩
  | 82 => ⟨S8x8192x2x8, .f32⟩
  | 83 => ⟨S16, .f32⟩
  | 84 => ⟨S16, .f32⟩
  | 85 => ⟨S2x8, .f32⟩
  | 86 => ⟨S2x8, .f32⟩
  | 87 => ⟨S1x1x2x8, .f32⟩
  | 88 => ⟨S8x8192x2x8, .f32⟩
  | 89 => ⟨S8x8192x2x8, .f32⟩
  | 90 => ⟨S8x8192x2x8, .f32⟩
  | 91 => ⟨S8x8192x2x8x1, .f32⟩
  | 92 => ⟨S8x8192x2x8x64, .f32⟩
  | 93 => ⟨S8x8192x2x8x64, .f32⟩
  | 94 => ⟨S_, .f32⟩
  | 95 => ⟨S8x1024, .f32⟩
  | 96 => ⟨S_, .f32⟩
  | 97 => ⟨S8x2x8x64x128, .f32⟩
  | 98 => ⟨S8192x8x1024, .f32⟩
  | 99 => ⟨S8192x8x1024, .f32⟩
  | 100 => ⟨S8192x8x2x8, .f32⟩
  | 101 => ⟨S8192x8x2x8x64, .f32⟩
  | 102 => ⟨S8192x8x2x128, .f32⟩
  | 103 => ⟨S8192x8x2x128, .f32⟩
  | 104 => ⟨S8192x8x2x8x64, .f32⟩
  | 105 => ⟨S8192x8x1024, .f32⟩
  | 106 => ⟨S8192x8x1024, .f32⟩
  | 107 => ⟨S8192x8x1024, .f32⟩
  | 108 => ⟨S_, .f32⟩
  | 109 => ⟨S8192x8x1024, .f32⟩
  | 110 => ⟨S_, .i32⟩
  | 111 => ⟨S8192x8x1024, .f32⟩
  | 112 => ⟨S8192x8x1024, .f32⟩
  | 113 => ⟨S8192x8x2x8, .f32⟩
  | 114 => ⟨S8192x8x2x8x64, .f32⟩
  | 115 => ⟨S8192x8x2x128, .f32⟩
  | 116 => ⟨S8192x8x2x128, .f32⟩
  | 117 => ⟨S8192x8x2x8x64, .f32⟩
  | 118 => ⟨S8192x8x1024, .f32⟩
  | 119 => ⟨S8192x8x1024, .f32⟩
  | 120 => ⟨S8192x8x1024, .f32⟩
  | 121 => ⟨S1x1024, .f32⟩
  | 122 => ⟨S1x16, .f32⟩
  | 123 => ⟨S1x1024, .f32⟩
  | 124 => ⟨S1x2048x1024, .f32⟩
  | 125 => ⟨S1x1024, .f32⟩
  | 126 => ⟨S_, .i32⟩
  | 127 => ⟨S8x1024, .f32⟩
  | _ => ⟨S8x8192x1024, .f32⟩

abbrev hbmTy0_2 (i : Nat) : BufTy := match i % 128 with
  | 0 => ⟨S8x2x8x64x128, .f32⟩
  | 1 => ⟨S8192x8x1024, .f32⟩
  | 2 => ⟨S_, .i32⟩
  | 3 => ⟨S_, .i1⟩
  | 4 => ⟨S_, .i32⟩
  | 5 => ⟨S_, .i32⟩
  | 6 => ⟨S1x8x1024, .f32⟩
  | 7 => ⟨S8x1024, .f32⟩
  | 8 => ⟨S_, .i32⟩
  | 9 => ⟨S_, .i32⟩
  | 10 => ⟨S1x8x1024, .f32⟩
  | 11 => ⟨S8x1024, .f32⟩
  | 12 => ⟨S_, .i32⟩
  | 13 => ⟨S_, .i32⟩
  | 14 => ⟨S_, .i32⟩
  | 15 => ⟨S1x8x2x8, .f32⟩
  | 16 => ⟨S8x2x8, .f32⟩
  | 17 => ⟨S_, .i32⟩
  | 18 => ⟨S_, .i32⟩
  | 19 => ⟨S_, .i32⟩
  | 20 => ⟨S_, .i32⟩
  | 21 => ⟨S1x8x2x8x64, .f32⟩
  | 22 => ⟨S8x2x8x64, .f32⟩
  | 23 => ⟨S_, .i32⟩
  | 24 => ⟨S_, .i32⟩
  | 25 => ⟨S_, .i32⟩
  | 26 => ⟨S1x8x2x128, .f32⟩
  | 27 => ⟨S8x2x128, .f32⟩
  | 28 => ⟨S_, .i32⟩
  | 29 => ⟨S_, .i32⟩
  | 30 => ⟨S_, .i32⟩
  | 31 => ⟨S1x8x2x128, .f32⟩
  | 32 => ⟨S8x2x128, .f32⟩
  | 33 => ⟨S_, .i32⟩
  | 34 => ⟨S_, .i32⟩
  | 35 => ⟨S_, .i32⟩
  | 36 => ⟨S_, .i32⟩
  | 37 => ⟨S1x8x2x8x64, .f32⟩
  | 38 => ⟨S8x2x8x64, .f32⟩
  | 39 => ⟨S_, .i32⟩
  | 40 => ⟨S_, .i32⟩
  | 41 => ⟨S1x8x1024, .f32⟩
  | 42 => ⟨S8x1024, .f32⟩
  | 43 => ⟨S_, .i32⟩
  | 44 => ⟨S_, .i32⟩
  | 45 => ⟨S1x8x1024, .f32⟩
  | 46 => ⟨S8x1024, .f32⟩
  | 47 => ⟨S_, .i32⟩
  | 48 => ⟨S_, .i32⟩
  | 49 => ⟨S1x8x1024, .f32⟩
  | 50 => ⟨S8x1024, .f32⟩
  | 51 => ⟨S8x1024, .f32⟩
  | 52 => ⟨S8x1024, .f32⟩
  | 53 => ⟨S8x2x8x1x1, .f32⟩
  | 54 => ⟨S8x2x8x64x128, .f32⟩
  | 55 => ⟨S8x2x8x64x128, .f32⟩
  | 56 => ⟨S8x2x8x64x1, .f32⟩
  | 57 => ⟨S8x2x1x1x128, .f32⟩
  | 58 => ⟨S8x2x8x64x128, .f32⟩
  | 59 => ⟨S8x2x8x64x128, .f32⟩
  | 60 => ⟨S8x2x8x64x128, .f32⟩
  | 61 => ⟨S8x2x8x64x128, .f32⟩
  | 62 => ⟨S8x2x1x1x128, .f32⟩
  | 63 => ⟨S8x2x8x64x128, .f32⟩
  | 64 => ⟨S8x2x8x64x128, .f32⟩
  | 65 => ⟨S_, .f32⟩
  | 66 => ⟨S8x2x8x64, .f32⟩
  | 67 => ⟨S8x1024, .f32⟩
  | 68 => ⟨S8x1024, .f32⟩
  | 69 => ⟨S_, .f32⟩
  | 70 => ⟨S8x1024, .f32⟩
  | 71 => ⟨S8x1024, .f32⟩
  | 72 => ⟨S8x1024, .f32⟩
  | 73 => ⟨S_, .f32⟩
  | 74 => ⟨S8x1024, .f32⟩
  | 75 => ⟨S8x1024, .f32⟩
  | 76 => ⟨S8x1024, .f32⟩
  | 77 => ⟨S_, .f32⟩
  | 78 => ⟨S8x1024, .f32⟩
  | 79 => ⟨S8x1024, .f32⟩
  | 80 => ⟨S_, .f32⟩
  | 81 => ⟨S8x1024, .f32⟩
  | 82 => ⟨S8x1024, .f32⟩
  | 83 => ⟨S8x1024, .f32⟩
  | 84 => ⟨S8x1024, .f32⟩
  | 85 => ⟨S1024, .f32⟩
  | 86 => ⟨S8x1024, .f32⟩
  | 87 => ⟨S_, .f32⟩
  | 88 => ⟨S8, .f32⟩
  | 89 => ⟨S8x1, .f32⟩
  | 90 => ⟨S_, .f32⟩
  | 91 => ⟨S8x1, .f32⟩
  | 92 => ⟨S8x1, .f32⟩
  | 93 => ⟨S_, .f32⟩
  | 94 => ⟨S8x1, .f32⟩
  | 95 => ⟨S8x1, .f32⟩
  | 96 => ⟨S8x1, .f32⟩
  | 97 => ⟨S8x1024, .f32⟩
  | 98 => ⟨S8x1024, .f32⟩
  | 99 => ⟨S1x1024, .f32⟩
  | 100 => ⟨S8x1024, .f32⟩
  | 101 => ⟨S8x1024, .f32⟩
  | 102 => ⟨S16, .f32⟩
  | 103 => ⟨S2x8, .f32⟩
  | 104 => ⟨S2x8x1, .f32⟩
  | 105 => ⟨S1x2x8x1, .f32⟩
  | 106 => ⟨S8x2x8x64, .f32⟩
  | 107 => ⟨S8x2x8x64, .f32⟩
  | 108 => ⟨S8x2x8x64, .f32⟩
  | 109 => ⟨S8x1024, .f32⟩
  | 110 => ⟨S8x1024, .f32⟩
  | 111 => ⟨S8x1024, .f32⟩
  | 112 => ⟨S_, .f32⟩
  | 113 => ⟨S8x1024, .f32⟩
  | 114 => ⟨S8x1024, .f32⟩
  | 115 => ⟨S_, .f32⟩
  | 116 => ⟨S8x1024, .f32⟩
  | 117 => ⟨S8x1024, .f32⟩
  | 118 => ⟨S8x1024, .f32⟩
  | 119 => ⟨S8x1024, .f32⟩
  | 120 => ⟨S1024, .f32⟩
  | 121 => ⟨S8x1024, .f32⟩
  | 122 => ⟨S_, .f32⟩
  | 123 => ⟨S8, .f32⟩
  | 124 => ⟨S8x1, .f32⟩
  | 125 => ⟨S_, .f32⟩
  | 126 => ⟨S8x1, .f32⟩
  | 127 => ⟨S8x1, .f32⟩
  | _ => ⟨S8x8192x1024, .f32⟩

abbrev hbmTy0_3 (i : Nat) : BufTy := match i % 128 with
  | 0 => ⟨S_, .f32⟩
  | 1 => ⟨S8x1, .f32⟩
  | 2 => ⟨S8x1, .f32⟩
  | 3 => ⟨S8x1, .f32⟩
  | 4 => ⟨S8x1024, .f32⟩
  | 5 => ⟨S8x1024, .f32⟩
  | 6 => ⟨S1x1024, .f32⟩
  | 7 => ⟨S8x1024, .f32⟩
  | 8 => ⟨S8x1024, .f32⟩
  | 9 => ⟨S8x2048, .f32⟩
  | 10 => ⟨S2048x1024, .f32⟩
  | 11 => ⟨S8x1024, .f32⟩
  | 12 => ⟨S1024, .f32⟩
  | 13 => ⟨S8x1024, .f32⟩
  | 14 => ⟨S_, .f32⟩
  | 15 => ⟨S8, .f32⟩
  | 16 => ⟨S8x1, .f32⟩
  | 17 => ⟨S_, .f32⟩
  | 18 => ⟨S8x1, .f32⟩
  | 19 => ⟨S8x1, .f32⟩
  | 20 => ⟨S_, .f32⟩
  | 21 => ⟨S8x1, .f32⟩
  | 22 => ⟨S8x1, .f32⟩
  | 23 => ⟨S8x1, .f32⟩
  | 24 => ⟨S8x1024, .f32⟩
  | 25 => ⟨S8x1024, .f32⟩
  | 26 => ⟨S1x1024, .f32⟩
  | 27 => ⟨S8x1024, .f32⟩
  | 28 => ⟨S8x1024, .f32⟩
  | 29 => ⟨S8x1024, .f32⟩
  | 30 => ⟨S1x8x1024, .f32⟩
  | 31 => ⟨S_, .i32⟩
  | 32 => ⟨S_, .i32⟩
  | 33 => ⟨S8192x8x1024, .f32⟩
  | 34 => ⟨S_, .i32⟩
  | 35 => ⟨S_, .i32⟩
  | 36 => ⟨S8x8192x1024, .f32⟩
  | _ => ⟨S8x8192x1024, .f32⟩

abbrev hbmTy (i : Nat) : BufTy := match i / 128 with
  | 0 => hbmTy0_0 i
  | 1 => hbmTy0_1 i
  | 2 => hbmTy0_2 i
  | 3 => hbmTy0_3 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_cst_1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c : Ref sig .tc := ⟨.hbm, 45, rfl⟩
abbrev main_call0_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_2 : Ref sig .tc := ⟨.hbm, 89, rfl⟩
abbrev main_v65 : Ref sig .tc := ⟨.hbm, 90, rfl⟩
abbrev main_v66 : Ref sig .tc := ⟨.hbm, 91, rfl⟩
abbrev main_cst_3 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_4 : Ref sig .tc := ⟨.hbm, 105, rfl⟩
abbrev main_v79 : Ref sig .tc := ⟨.hbm, 106, rfl⟩
abbrev main_v80 : Ref sig .tc := ⟨.hbm, 107, rfl⟩
abbrev main_cst_5 : Ref sig .tc := ⟨.hbm, 108, rfl⟩
abbrev main_v81 : Ref sig .tc := ⟨.hbm, 109, rfl⟩
abbrev main_v82 : Ref sig .tc := ⟨.hbm, 110, rfl⟩
abbrev main_cst_6 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_call1_cst : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_v8 : Ref sig .tc := ⟨.hbm, 125, rfl⟩
abbrev main_call1_v9 : Ref sig .tc := ⟨.hbm, 126, rfl⟩
abbrev main_call1_v10 : Ref sig .tc := ⟨.hbm, 127, rfl⟩
abbrev main_call1_v11 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_7 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_c_8 : Ref sig .tc := ⟨.hbm, 144, rfl⟩
abbrev main_call2_v0 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_call3_v0 : Ref sig .tc := ⟨.hbm, 177, rfl⟩
abbrev main_call3_v1 : Ref sig .tc := ⟨.hbm, 178, rfl⟩
abbrev main_call3_cst : Ref sig .tc := ⟨.hbm, 179, rfl⟩
abbrev main_call3_v2 : Ref sig .tc := ⟨.hbm, 180, rfl⟩
abbrev main_call3_v3 : Ref sig .tc := ⟨.hbm, 181, rfl⟩
abbrev main_call3_cst_0 : Ref sig .tc := ⟨.hbm, 182, rfl⟩
abbrev main_call3_v4 : Ref sig .tc := ⟨.hbm, 183, rfl⟩
abbrev main_call3_v5 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_call4_cst : Ref sig .tc := ⟨.hbm, 196, rfl⟩
abbrev main_call4_v0 : Ref sig .tc := ⟨.hbm, 197, rfl⟩
abbrev main_call4_v1 : Ref sig .tc := ⟨.hbm, 198, rfl⟩
abbrev main_call4_v2 : Ref sig .tc := ⟨.hbm, 199, rfl⟩
abbrev main_call4_v3 : Ref sig .tc := ⟨.hbm, 200, rfl⟩
abbrev main_call4_v4 : Ref sig .tc := ⟨.hbm, 201, rfl⟩
abbrev main_call4_v5 : Ref sig .tc := ⟨.hbm, 202, rfl⟩
abbrev main_call4_v6 : Ref sig .tc := ⟨.hbm, 203, rfl⟩
abbrev main_call4_v7 : Ref sig .tc := ⟨.hbm, 204, rfl⟩
abbrev main_call4_v8 : Ref sig .tc := ⟨.hbm, 205, rfl⟩
abbrev main_call4_v9 : Ref sig .tc := ⟨.hbm, 206, rfl⟩
abbrev main_call4_v10 : Ref sig .tc := ⟨.hbm, 207, rfl⟩
abbrev main_call4_v11 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_cst_9 : Ref sig .tc := ⟨.hbm, 222, rfl⟩
abbrev main_v156 : Ref sig .tc := ⟨.hbm, 223, rfl⟩
abbrev main_cst_10 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_cst_11 : Ref sig .tc := ⟨.hbm, 236, rfl⟩
abbrev main_v168 : Ref sig .tc := ⟨.hbm, 237, rfl⟩
abbrev main_c_12 : Ref sig .tc := ⟨.hbm, 238, rfl⟩
abbrev main_v169_0 : Ref sig .tc := ⟨.hbm, 239, rfl⟩
abbrev main_v169_1 : Ref sig .tc := ⟨.hbm, 240, rfl⟩
abbrev main_v169_2 : Ref sig .tc := ⟨.hbm, 241, rfl⟩
abbrev main_v169_3 : Ref sig .tc := ⟨.hbm, 242, rfl⟩
abbrev main_v169_4 : Ref sig .tc := ⟨.hbm, 243, rfl⟩
abbrev main_v169_5 : Ref sig .tc := ⟨.hbm, 244, rfl⟩
abbrev main_v169_6 : Ref sig .tc := ⟨.hbm, 245, rfl⟩
abbrev main_v169_7 : Ref sig .tc := ⟨.hbm, 246, rfl⟩
abbrev main_v169_8 : Ref sig .tc := ⟨.hbm, 247, rfl⟩
abbrev main_v169_9 : Ref sig .tc := ⟨.hbm, 248, rfl⟩
abbrev main_v169_10 : Ref sig .tc := ⟨.hbm, 249, rfl⟩
abbrev main_v169_11 : Ref sig .tc := ⟨.hbm, 250, rfl⟩
abbrev main_v169_12 : Ref sig .tc := ⟨.hbm, 251, rfl⟩
abbrev main_v169_13 : Ref sig .tc := ⟨.hbm, 252, rfl⟩
abbrev main_v169_14 : Ref sig .tc := ⟨.hbm, 253, rfl⟩
abbrev main_v169_15 : Ref sig .tc := ⟨.hbm, 254, rfl⟩
abbrev main_v169_16 : Ref sig .tc := ⟨.hbm, 255, rfl⟩
abbrev main_v169_17 : Ref sig .tc := ⟨.hbm, 256, rfl⟩
abbrev main_v169_18 : Ref sig .tc := ⟨.hbm, 257, rfl⟩
abbrev main_while0c_c_31 : Ref sig .tc := ⟨.hbm, 258, rfl⟩
abbrev main_while0c_v171 : Ref sig .tc := ⟨.hbm, 259, rfl⟩
abbrev main_while0b_call5_c : Ref sig .tc := ⟨.hbm, 260, rfl⟩
abbrev main_while0b_call5_c_0 : Ref sig .tc := ⟨.hbm, 261, rfl⟩
abbrev main_while0b_call5_v0 : Ref sig .tc := ⟨.hbm, 262, rfl⟩
abbrev main_while0b_v171 : Ref sig .tc := ⟨.hbm, 263, rfl⟩
abbrev main_while0b_call6_c : Ref sig .tc := ⟨.hbm, 264, rfl⟩
abbrev main_while0b_call6_c_0 : Ref sig .tc := ⟨.hbm, 265, rfl⟩
abbrev main_while0b_call6_v0 : Ref sig .tc := ⟨.hbm, 266, rfl⟩
abbrev main_while0b_v172 : Ref sig .tc := ⟨.hbm, 267, rfl⟩
abbrev main_while0b_call7_c : Ref sig .tc := ⟨.hbm, 268, rfl⟩
abbrev main_while0b_call7_c_0 : Ref sig .tc := ⟨.hbm, 269, rfl⟩
abbrev main_while0b_call7_c_1 : Ref sig .tc := ⟨.hbm, 270, rfl⟩
abbrev main_while0b_call7_v0 : Ref sig .tc := ⟨.hbm, 271, rfl⟩
abbrev main_while0b_v173 : Ref sig .tc := ⟨.hbm, 272, rfl⟩
abbrev main_while0b_call8_c : Ref sig .tc := ⟨.hbm, 273, rfl⟩
abbrev main_while0b_call8_c_0 : Ref sig .tc := ⟨.hbm, 274, rfl⟩
abbrev main_while0b_call8_c_1 : Ref sig .tc := ⟨.hbm, 275, rfl⟩
abbrev main_while0b_call8_c_2 : Ref sig .tc := ⟨.hbm, 276, rfl⟩
abbrev main_while0b_call8_v0 : Ref sig .tc := ⟨.hbm, 277, rfl⟩
abbrev main_while0b_v174 : Ref sig .tc := ⟨.hbm, 278, rfl⟩
abbrev main_while0b_call9_c : Ref sig .tc := ⟨.hbm, 279, rfl⟩
abbrev main_while0b_call9_c_0 : Ref sig .tc := ⟨.hbm, 280, rfl⟩
abbrev main_while0b_call9_c_1 : Ref sig .tc := ⟨.hbm, 281, rfl⟩
abbrev main_while0b_call9_v0 : Ref sig .tc := ⟨.hbm, 282, rfl⟩
abbrev main_while0b_v175 : Ref sig .tc := ⟨.hbm, 283, rfl⟩
abbrev main_while0b_call10_c : Ref sig .tc := ⟨.hbm, 284, rfl⟩
abbrev main_while0b_call10_c_0 : Ref sig .tc := ⟨.hbm, 285, rfl⟩
abbrev main_while0b_call10_c_1 : Ref sig .tc := ⟨.hbm, 286, rfl⟩
abbrev main_while0b_call10_v0 : Ref sig .tc := ⟨.hbm, 287, rfl⟩
abbrev main_while0b_v176 : Ref sig .tc := ⟨.hbm, 288, rfl⟩
abbrev main_while0b_call11_c : Ref sig .tc := ⟨.hbm, 289, rfl⟩
abbrev main_while0b_call11_c_0 : Ref sig .tc := ⟨.hbm, 290, rfl⟩
abbrev main_while0b_call11_c_1 : Ref sig .tc := ⟨.hbm, 291, rfl⟩
abbrev main_while0b_call11_c_2 : Ref sig .tc := ⟨.hbm, 292, rfl⟩
abbrev main_while0b_call11_v0 : Ref sig .tc := ⟨.hbm, 293, rfl⟩
abbrev main_while0b_v177 : Ref sig .tc := ⟨.hbm, 294, rfl⟩
abbrev main_while0b_call12_c : Ref sig .tc := ⟨.hbm, 295, rfl⟩
abbrev main_while0b_call12_c_0 : Ref sig .tc := ⟨.hbm, 296, rfl⟩
abbrev main_while0b_call12_v0 : Ref sig .tc := ⟨.hbm, 297, rfl⟩
abbrev main_while0b_v178 : Ref sig .tc := ⟨.hbm, 298, rfl⟩
abbrev main_while0b_call13_c : Ref sig .tc := ⟨.hbm, 299, rfl⟩
abbrev main_while0b_call13_c_0 : Ref sig .tc := ⟨.hbm, 300, rfl⟩
abbrev main_while0b_call13_v0 : Ref sig .tc := ⟨.hbm, 301, rfl⟩
abbrev main_while0b_v179 : Ref sig .tc := ⟨.hbm, 302, rfl⟩
abbrev main_while0b_call14_c : Ref sig .tc := ⟨.hbm, 303, rfl⟩
abbrev main_while0b_call14_c_0 : Ref sig .tc := ⟨.hbm, 304, rfl⟩
abbrev main_while0b_call14_v0 : Ref sig .tc := ⟨.hbm, 305, rfl⟩
abbrev main_while0b_v180 : Ref sig .tc := ⟨.hbm, 306, rfl⟩
abbrev main_while0b_v181 : Ref sig .tc := ⟨.hbm, 307, rfl⟩
abbrev main_while0b_v182 : Ref sig .tc := ⟨.hbm, 308, rfl⟩
abbrev main_while0b_v183 : Ref sig .tc := ⟨.hbm, 309, rfl⟩
abbrev main_while0b_v184 : Ref sig .tc := ⟨.hbm, 310, rfl⟩
abbrev main_while0b_v185 : Ref sig .tc := ⟨.hbm, 311, rfl⟩
abbrev main_while0b_v186 : Ref sig .tc := ⟨.hbm, 312, rfl⟩
abbrev main_while0b_v187 : Ref sig .tc := ⟨.hbm, 313, rfl⟩
abbrev main_while0b_v188 : Ref sig .tc := ⟨.hbm, 314, rfl⟩
abbrev main_while0b_v189 : Ref sig .tc := ⟨.hbm, 315, rfl⟩
abbrev main_while0b_v190 : Ref sig .tc := ⟨.hbm, 316, rfl⟩
abbrev main_while0b_v191 : Ref sig .tc := ⟨.hbm, 317, rfl⟩
abbrev main_while0b_v192 : Ref sig .tc := ⟨.hbm, 318, rfl⟩
abbrev main_while0b_v193 : Ref sig .tc := ⟨.hbm, 319, rfl⟩
abbrev main_while0b_v194 : Ref sig .tc := ⟨.hbm, 320, rfl⟩
abbrev main_while0b_cst_31 : Ref sig .tc := ⟨.hbm, 321, rfl⟩
abbrev main_while0b_v195 : Ref sig .tc := ⟨.hbm, 322, rfl⟩
abbrev main_while0b_v196 : Ref sig .tc := ⟨.hbm, 323, rfl⟩
abbrev main_while0b_v197 : Ref sig .tc := ⟨.hbm, 324, rfl⟩
abbrev main_while0b_cst_32 : Ref sig .tc := ⟨.hbm, 325, rfl⟩
abbrev main_while0b_v198 : Ref sig .tc := ⟨.hbm, 326, rfl⟩
abbrev main_while0b_v199 : Ref sig .tc := ⟨.hbm, 327, rfl⟩
abbrev main_while0b_v200 : Ref sig .tc := ⟨.hbm, 328, rfl⟩
abbrev main_while0b_cst_33 : Ref sig .tc := ⟨.hbm, 329, rfl⟩
abbrev main_while0b_v201 : Ref sig .tc := ⟨.hbm, 330, rfl⟩
abbrev main_while0b_v202 : Ref sig .tc := ⟨.hbm, 331, rfl⟩
abbrev main_while0b_v203 : Ref sig .tc := ⟨.hbm, 332, rfl⟩
abbrev main_while0b_cst_34 : Ref sig .tc := ⟨.hbm, 333, rfl⟩
abbrev main_while0b_v204 : Ref sig .tc := ⟨.hbm, 334, rfl⟩
abbrev main_while0b_v205 : Ref sig .tc := ⟨.hbm, 335, rfl⟩
abbrev main_while0b_cst_35 : Ref sig .tc := ⟨.hbm, 336, rfl⟩
abbrev main_while0b_v206 : Ref sig .tc := ⟨.hbm, 337, rfl⟩
abbrev main_while0b_v207 : Ref sig .tc := ⟨.hbm, 338, rfl⟩
abbrev main_while0b_v208 : Ref sig .tc := ⟨.hbm, 339, rfl⟩
abbrev main_while0b_v209 : Ref sig .tc := ⟨.hbm, 340, rfl⟩
abbrev main_while0b_v210 : Ref sig .tc := ⟨.hbm, 341, rfl⟩
abbrev main_while0b_v211 : Ref sig .tc := ⟨.hbm, 342, rfl⟩
abbrev main_while0b_cst_36 : Ref sig .tc := ⟨.hbm, 343, rfl⟩
abbrev main_while0b_v212 : Ref sig .tc := ⟨.hbm, 344, rfl⟩
abbrev main_while0b_v213 : Ref sig .tc := ⟨.hbm, 345, rfl⟩
abbrev main_while0b_cst_37 : Ref sig .tc := ⟨.hbm, 346, rfl⟩
abbrev main_while0b_v214 : Ref sig .tc := ⟨.hbm, 347, rfl⟩
abbrev main_while0b_v215 : Ref sig .tc := ⟨.hbm, 348, rfl⟩
abbrev main_while0b_cst_38 : Ref sig .tc := ⟨.hbm, 349, rfl⟩
abbrev main_while0b_v216 : Ref sig .tc := ⟨.hbm, 350, rfl⟩
abbrev main_while0b_v217 : Ref sig .tc := ⟨.hbm, 351, rfl⟩
abbrev main_while0b_v218 : Ref sig .tc := ⟨.hbm, 352, rfl⟩
abbrev main_while0b_v219 : Ref sig .tc := ⟨.hbm, 353, rfl⟩
abbrev main_while0b_v220 : Ref sig .tc := ⟨.hbm, 354, rfl⟩
abbrev main_while0b_v221 : Ref sig .tc := ⟨.hbm, 355, rfl⟩
abbrev main_while0b_v222 : Ref sig .tc := ⟨.hbm, 356, rfl⟩
abbrev main_while0b_v223 : Ref sig .tc := ⟨.hbm, 357, rfl⟩
abbrev main_while0b_v224 : Ref sig .tc := ⟨.hbm, 358, rfl⟩
abbrev main_while0b_v225 : Ref sig .tc := ⟨.hbm, 359, rfl⟩
abbrev main_while0b_v226 : Ref sig .tc := ⟨.hbm, 360, rfl⟩
abbrev main_while0b_v227 : Ref sig .tc := ⟨.hbm, 361, rfl⟩
abbrev main_while0b_v228 : Ref sig .tc := ⟨.hbm, 362, rfl⟩
abbrev main_while0b_v229 : Ref sig .tc := ⟨.hbm, 363, rfl⟩
abbrev main_while0b_v230 : Ref sig .tc := ⟨.hbm, 364, rfl⟩
abbrev main_while0b_v231 : Ref sig .tc := ⟨.hbm, 365, rfl⟩
abbrev main_while0b_call15_v0 : Ref sig .tc := ⟨.hbm, 366, rfl⟩
abbrev main_while0b_call15_v1 : Ref sig .tc := ⟨.hbm, 367, rfl⟩
abbrev main_while0b_call15_cst : Ref sig .tc := ⟨.hbm, 368, rfl⟩
abbrev main_while0b_call15_v2 : Ref sig .tc := ⟨.hbm, 369, rfl⟩
abbrev main_while0b_call15_v3 : Ref sig .tc := ⟨.hbm, 370, rfl⟩
abbrev main_while0b_call15_cst_0 : Ref sig .tc := ⟨.hbm, 371, rfl⟩
abbrev main_while0b_call15_v4 : Ref sig .tc := ⟨.hbm, 372, rfl⟩
abbrev main_while0b_call15_v5 : Ref sig .tc := ⟨.hbm, 373, rfl⟩
abbrev main_while0b_v232 : Ref sig .tc := ⟨.hbm, 374, rfl⟩
abbrev main_while0b_v233 : Ref sig .tc := ⟨.hbm, 375, rfl⟩
abbrev main_while0b_v234 : Ref sig .tc := ⟨.hbm, 376, rfl⟩
abbrev main_while0b_v235 : Ref sig .tc := ⟨.hbm, 377, rfl⟩
abbrev main_while0b_cst_39 : Ref sig .tc := ⟨.hbm, 378, rfl⟩
abbrev main_while0b_v236 : Ref sig .tc := ⟨.hbm, 379, rfl⟩
abbrev main_while0b_v237 : Ref sig .tc := ⟨.hbm, 380, rfl⟩
abbrev main_while0b_cst_40 : Ref sig .tc := ⟨.hbm, 381, rfl⟩
abbrev main_while0b_v238 : Ref sig .tc := ⟨.hbm, 382, rfl⟩
abbrev main_while0b_v239 : Ref sig .tc := ⟨.hbm, 383, rfl⟩
abbrev main_while0b_cst_41 : Ref sig .tc := ⟨.hbm, 384, rfl⟩
abbrev main_while0b_v240 : Ref sig .tc := ⟨.hbm, 385, rfl⟩
abbrev main_while0b_v241 : Ref sig .tc := ⟨.hbm, 386, rfl⟩
abbrev main_while0b_v242 : Ref sig .tc := ⟨.hbm, 387, rfl⟩
abbrev main_while0b_v243 : Ref sig .tc := ⟨.hbm, 388, rfl⟩
abbrev main_while0b_v244 : Ref sig .tc := ⟨.hbm, 389, rfl⟩
abbrev main_while0b_v245 : Ref sig .tc := ⟨.hbm, 390, rfl⟩
abbrev main_while0b_v246 : Ref sig .tc := ⟨.hbm, 391, rfl⟩
abbrev main_while0b_v247 : Ref sig .tc := ⟨.hbm, 392, rfl⟩
abbrev main_while0b_v248 : Ref sig .tc := ⟨.hbm, 393, rfl⟩
abbrev main_while0b_v249 : Ref sig .tc := ⟨.hbm, 394, rfl⟩
abbrev main_while0b_v250 : Ref sig .tc := ⟨.hbm, 395, rfl⟩
abbrev main_while0b_v251 : Ref sig .tc := ⟨.hbm, 396, rfl⟩
abbrev main_while0b_v252 : Ref sig .tc := ⟨.hbm, 397, rfl⟩
abbrev main_while0b_cst_42 : Ref sig .tc := ⟨.hbm, 398, rfl⟩
abbrev main_while0b_v253 : Ref sig .tc := ⟨.hbm, 399, rfl⟩
abbrev main_while0b_v254 : Ref sig .tc := ⟨.hbm, 400, rfl⟩
abbrev main_while0b_cst_43 : Ref sig .tc := ⟨.hbm, 401, rfl⟩
abbrev main_while0b_v255 : Ref sig .tc := ⟨.hbm, 402, rfl⟩
abbrev main_while0b_v256 : Ref sig .tc := ⟨.hbm, 403, rfl⟩
abbrev main_while0b_cst_44 : Ref sig .tc := ⟨.hbm, 404, rfl⟩
abbrev main_while0b_v257 : Ref sig .tc := ⟨.hbm, 405, rfl⟩
abbrev main_while0b_v258 : Ref sig .tc := ⟨.hbm, 406, rfl⟩
abbrev main_while0b_v259 : Ref sig .tc := ⟨.hbm, 407, rfl⟩
abbrev main_while0b_v260 : Ref sig .tc := ⟨.hbm, 408, rfl⟩
abbrev main_while0b_v261 : Ref sig .tc := ⟨.hbm, 409, rfl⟩
abbrev main_while0b_v262 : Ref sig .tc := ⟨.hbm, 410, rfl⟩
abbrev main_while0b_v263 : Ref sig .tc := ⟨.hbm, 411, rfl⟩
abbrev main_while0b_v264 : Ref sig .tc := ⟨.hbm, 412, rfl⟩
abbrev main_while0b_v265 : Ref sig .tc := ⟨.hbm, 413, rfl⟩
abbrev main_while0b_call16_v0 : Ref sig .tc := ⟨.hbm, 414, rfl⟩
abbrev main_while0b_call16_c : Ref sig .tc := ⟨.hbm, 415, rfl⟩
abbrev main_while0b_call16_c_0 : Ref sig .tc := ⟨.hbm, 416, rfl⟩
abbrev main_while0b_v266 : Ref sig .tc := ⟨.hbm, 417, rfl⟩
abbrev main_while0b_c_45 : Ref sig .tc := ⟨.hbm, 418, rfl⟩
abbrev main_while0b_v267 : Ref sig .tc := ⟨.hbm, 419, rfl⟩
abbrev main_v170 : Ref sig .tc := ⟨.hbm, 420, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S8x8192x1024 : Shape := ⟨3, ![8, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 18
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S65536x1024, .f32⟩
  | .hbm, ⟨17, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x8192x1024 : Shape := ⟨3, ![8, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x2816 : Shape := ⟨2, ![1024, 2816]⟩
abbrev S8x8192x2816 : Shape := ⟨3, ![8, 8192, 2816]⟩
abbrev S2816x1024 : Shape := ⟨2, ![2816, 1024]⟩
abbrev S65536x1024 : Shape := ⟨2, ![65536, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S8x8192x1024, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S8x8192x1, .f32⟩
  | .hbm, ⟨18, _⟩ => ⟨S8x8192x1024, .f32⟩
  | .hbm, ⟨19, _⟩ => ⟨S8x8192x1024, .f32⟩
  | .hbm, ⟨20, _⟩ => ⟨S1x1x1024, .f32⟩
  | .hbm, ⟨21, _⟩ => ⟨S8x8192x1024, .f32⟩
  | .hbm, ⟨22, _⟩ => ⟨S8x8192x1024, .f32⟩
  | .hbm, ⟨23, _⟩ => ⟨S1024x2816, .f32⟩
  | .hbm, ⟨24, _⟩ => ⟨S8x8192x2816, .f32⟩
  | .hbm, ⟨25, _⟩ => ⟨S8x8192x2816, .f32⟩
  | .hbm, ⟨26, _⟩ => ⟨S8x8192x2816, .f32⟩
  | .hbm, ⟨27, _⟩ => ⟨S_, .f32⟩
  | .hbm, ⟨28, _⟩ => ⟨S8x8192x2816, .f32⟩
  | .hbm, ⟨29, _⟩ => ⟨S8x8192x2816, .f32⟩
  | .hbm, ⟨30, _⟩ => ⟨S_, .f32⟩
  | .hbm, ⟨31, _⟩ => ⟨S8x8192x2816, .f32⟩
  | .hbm, ⟨32, _⟩ => ⟨S8x8192x2816, .f32⟩
  | .hbm, ⟨33, _⟩ => ⟨S8x8192x2816, .f32⟩
  | .hbm, ⟨34, _⟩ => ⟨S1024x2816, .f32⟩
  | .hbm, ⟨35, _⟩ => ⟨S8x8192x2816, .f32⟩
  | .hbm, ⟨36, _⟩ => ⟨S8x8192x2816, .f32⟩
  | .hbm, ⟨37, _⟩ => ⟨S2816x1024, .f32⟩
  | .hbm, ⟨38, _⟩ => ⟨S8x8192x1024, .f32⟩
  | .hbm, ⟨39, _⟩ => ⟨S1024, .f32⟩
  | .hbm, ⟨40, _⟩ => ⟨S8x8192x1024, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S_, .f32⟩
  | .hbm, ⟨48, _⟩ => ⟨S8x8192x1, .f32⟩
  | .hbm, ⟨49, _⟩ => ⟨S8x8192x1, .f32⟩
  | .hbm, ⟨50, _⟩ => ⟨S8x8192x1, .f32⟩
  | .hbm, ⟨51, _⟩ => ⟨S8x8192x1024, .f32⟩
  | .hbm, ⟨52, _⟩ => ⟨S8x8192x1024, .f32⟩
  | .hbm, ⟨53, _⟩ => ⟨S1x1x1024, .f32⟩
  | .hbm, ⟨54, _⟩ => ⟨S8x8192x1024, .f32⟩
  | .hbm, ⟨55, _⟩ => ⟨S8x8192x1024, .f32⟩
  | .hbm, ⟨56, _⟩ => ⟨S8x8192x1024, .f32⟩
  | .hbm, ⟨57, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Proof.FfnKernel.lean ====
module

public import proofs.«01_k».proof.Proof.Gen.Kernel2Ideal.Value
public import Idealize.ShloMosaic.Lib.Pointwise

/-!
  The feed-forward kernel's block, read element by element on the extended reals: one output element is a function
  (`Ffn.out`) of its own row of the input and of the weights.
-/

@[expose] public section

noncomputable section

namespace Cert.Ffn

open Idealize.ShloMosaic

/-- The mean of the squares of a row, plus the small constant of the norm. -/
def msq (x : Fin 1024 → EReal) : EReal :=
  Ideal.div (∑ k, x k * x k) (Ideal.ofBits .f32 0x44800000#32) + Ideal.ofBits .f32 0x358637BD#32

/-- A row divided by its root mean square and scaled. -/
def nrm (x g : Fin 1024 → EReal) (k : Fin 1024) : EReal := x k * Ideal.rsqrt (msq x) * g k

/-- One element of the product of the normalised row with a weight matrix. -/
def lin (x g : Fin 1024 → EReal) (w : Fin 1024 → Fin 2816 → EReal) (j : Fin 2816) : EReal := ∑ k, nrm x g k * w k j

/-- One element of the feed-forward product before its norm. -/
def ffn (x g : Fin 1024 → EReal) (wg wu : Fin 1024 → Fin 2816 → EReal) (wd : Fin 2816 → Fin 1024 → EReal)
    (l : Fin 1024) : EReal :=
  ∑ j, lin x g wg j * Ideal.logistic (lin x g wg j) * lin x g wu j * wd j l

/-- One element of the call's result: the input plus the normalised feed-forward product. -/
def out (x g : Fin 1024 → EReal) (wg wu : Fin 1024 → Fin 2816 → EReal) (wd : Fin 2816 → Fin 1024 → EReal)
    (g2 : Fin 1024 → EReal) (l : Fin 1024) : EReal :=
  x l + nrm (ffn x g wg wu wd) g2 l

open Cert.Kernel2Ideal Cert.Kernel2Ideal.Gen

theorem pay3_apply (P0 : Vec Ideal S256x1024 .f32) (P1 : Vec Ideal S1x1024 .f32) (P2 P3 : Vec Ideal S1024x2816 .bf16)
    (P4 : Vec Ideal S2816x1024 .bf16) (r : Fin 256) (l : Fin 1024) :
    k0_pay3 P0 P1 P2 P3 P4 (ix2 r l)
      = ffn (fun k => P0 (ix2 r k)) (fun k => P1 (ix2 0 k)) (fun k j => P2 (ix2 k j)) (fun k j => P3 (ix2 k j))
          (fun j l => P4 (ix2 j l)) l := by
  unfold k0_pay3 k0_pay2
  pointwise
  rfl

/-- One element of the block the body leaves. -/
theorem E6_apply (P0 : Vec Ideal S256x1024 .f32) (P1 : Vec Ideal S1x1024 .f32) (P2 P3 : Vec Ideal S1024x2816 .bf16)
    (P4 : Vec Ideal S2816x1024 .bf16) (P5 : Vec Ideal S1x1024 .f32) (r : Fin 256) (l : Fin 1024) :
    Value.E6 (F := Ideal) P0 P1 P2 P3 P4 P5 (ix2 r l)
      = out (fun k => P0 (ix2 r k)) (fun k => P1 (ix2 0 k)) (fun k j => P2 (ix2 k j)) (fun k j => P3 (ix2 k j))
          (fun j l => P4 (ix2 j l)) (fun k => P5 (ix2 0 k)) l := by
  rw [← Value.canon6_eq, View.canon_unit_zero (by funext a; fin_cases a <;> rfl)]
  unfold k0_pay1 k0_pay5 k0_pay4 k0_pay2 k0_pay6
  generalize h : k0_pay3 P0 P1 P2 P3 P4 = y
  pointwise
  subst h
  simp only [pay3_apply]
  rfl

end Cert.Ffn
end
-- ==== Proof.FfnRun.lean ====
module

public import proofs.«01_k».proof.Proof.FfnKernel

/-! The feed-forward kernel's run: the array it leaves, element by element. -/

@[expose] public section

set_option maxRecDepth 16384

noncomputable section

namespace Cert.Ffn

open Idealize.ShloMosaic Idealize.ShloMosaic.TcCoe Idealize.SL.Sem Cert.Kernel2Ideal Cert.Kernel2Ideal.Gen

variable (m : (ℓ : Loc nD τ sig) → Buf (Elt Ideal) ℓ) (ρ : Dev nD → PrngReg)

/-- What the region finds in the arrays its windows read. -/
theorem V_v10 (c : Dev nD) (b : Fin 8) (t : Fin 8192) (k : Fin 1024) (R : Fin 65536) (hR : R.val = 8192 * b.val + t.val) :
    (V m c main_v10 : S65536x1024.Idx → EReal) (ix2 R k) = (m ((c : Thread nD τ).loc main_arg0) : S8x8192x1024.Idx → EReal) (ix3 b t k) := by
  have e : V m c main_v10 = shapeCast S65536x1024 (m ((c : Thread nD τ).loc main_arg0) : S8x8192x1024.Idx → EReal) shapeCasts_S8x8192x1024_S65536x1024 := by
    dsimp only [V, hostOps0]
    after_results_simp <;> rfl
  rw [e]
  refine shapeCast_apply _ _ (ix2 R k) (ix3 b t k) ?_
  rw [Shape.rowMajor_val_two, Shape.rowMajor_val_three]
  show (b.val * 8192 + t.val) * 1024 + k.val = R.val * 1024 + k.val
  omega

theorem V_v1 (c : Dev nD) (k : Fin 1024) :
    (V m c main_v1 : S1x1024.Idx → EReal) (ix2 0 k) = (m ((c : Thread nD τ).loc main_arg1) : S1x1024.Idx → EReal) (ix2 0 k) := by
  have e : V m c main_v1 = shapeCast S1x1024 (shapeCast S1024 (m ((c : Thread nD τ).loc main_arg1) : S1x1024.Idx → EReal) shapeCasts_S1x1024_S1024) shapeCasts_S1024_S1x1024 := by
    dsimp only [V, hostOps0]
    after_results_simp <;> rfl
  rw [e]
  refine (shapeCast_apply _ _ (ix2 0 k) (ix1 k) ?_).trans (shapeCast_apply _ _ (ix1 k) (ix2 0 k) ?_)
  · rw [Shape.rowMajor_val_one, Shape.rowMajor_val_two]
    show k.val = 0 * 1024 + k.val
    omega
  · rw [Shape.rowMajor_val_one, Shape.rowMajor_val_two]
    show 0 * 1024 + k.val = k.val
    omega

theorem V_v3 (c : Dev nD) (k : Fin 1024) (j : Fin 2816) :
    (V m c main_v3 : S1024x2816.Idx → EReal) (ix2 k j) = (m ((c : Thread nD τ).loc main_arg2) : S1x1024x2816.Idx → EReal) (ix3 0 k j) := by
  have e : V m c main_v3 = (truncf .bf16 (shapeCast S1024x2816 (m ((c : Thread nD τ).loc main_arg2) : FVec Ideal S1x1024x2816 .f32) shapeCasts_S1x1024x2816_S1024x2816) bitsLt_bf16_f32 : FVec Ideal S1024x2816 .bf16) := by
    dsimp only [V, hostOps0]
    after_results_simp <;> rfl
  rw [e]
  show shapeCast S1024x2816 _ _ (ix2 k j) = _
  refine shapeCast_apply _ _ (ix2 k j) (ix3 0 k j) ?_
  rw [Shape.rowMajor_val_two, Shape.rowMajor_val_three]
  show (0 * 1024 + k.val) * 2816 + j.val = k.val * 2816 + j.val
  omega

theorem V_v5 (c : Dev nD) (k : Fin 1024) (j : Fin 2816) :
    (V m c main_v5 : S1024x2816.Idx → EReal) (ix2 k j) = (m ((c : Thread nD τ).loc main_arg3) : S1x1024x2816.Idx → EReal) (ix3 0 k j) := by
  have e : V m c main_v5 = (truncf .bf16 (shapeCast S1024x2816 (m ((c : Thread nD τ).loc main_arg3) : FVec Ideal S1x1024x2816 .f32) shapeCasts_S1x1024x2816_S1024x2816) bitsLt_bf16_f32 : FVec Ideal S1024x2816 .bf16) := by
    dsimp only [V, hostOps0]
    after_results_simp <;> rfl
  rw [e]
  show shapeCast S1024x2816 _ _ (ix2 k j) = _
  refine shapeCast_apply _ _ (ix2 k j) (ix3 0 k j) ?_
  rw [Shape.rowMajor_val_two, Shape.rowMajor_val_three]
  show (0 * 1024 + k.val) * 2816 + j.val = k.val * 2816 + j.val
  omega

theorem V_v7 (c : Dev nD) (k : Fin 2816) (j : Fin 1024) :
    (V m c main_v7 : S2816x1024.Idx → EReal) (ix2 k j) = (m ((c : Thread nD τ).loc main_arg4) : S1x2816x1024.Idx → EReal) (ix3 0 k j) := by
  have e : V m c main_v7 = (truncf .bf16 (shapeCast S2816x1024 (m ((c : Thread nD τ).loc main_arg4) : FVec Ideal S1x2816x1024 .f32) shapeCasts_S1x2816x1024_S2816x1024) bitsLt_bf16_f32 : FVec Ideal S2816x1024 .bf16) := by
    dsimp only [V, hostOps0]
    after_results_simp <;> rfl
  rw [e]
  show shapeCast S2816x1024 _ _ (ix2 k j) = _
  refine shapeCast_apply _ _ (ix2 k j) (ix3 0 k j) ?_
  rw [Shape.rowMajor_val_two, Shape.rowMajor_val_three]
  show (0 * 2816 + k.val) * 1024 + j.val = k.val * 1024 + j.val
  omega

theorem V_v9 (c : Dev nD) (k : Fin 1024) :
    (V m c main_v9 : S1x1024.Idx → EReal) (ix2 0 k) = (m ((c : Thread nD τ).loc main_arg5) : S1x1024.Idx → EReal) (ix2 0 k) := by
  have e : V m c main_v9 = shapeCast S1x1024 (shapeCast S1024 (m ((c : Thread nD τ).loc main_arg5) : S1x1024.Idx → EReal) shapeCasts_S1x1024_S1024) shapeCasts_S1024_S1x1024 := by
    dsimp only [V, hostOps0]
    after_results_simp <;> rfl
  rw [e]
  refine (shapeCast_apply _ _ (ix2 0 k) (ix1 k) ?_).trans (shapeCast_apply _ _ (ix1 k) (ix2 0 k) ?_)
  · rw [Shape.rowMajor_val_one, Shape.rowMajor_val_two]
    show k.val = 0 * 1024 + k.val
    omega
  · rw [Shape.rowMajor_val_one, Shape.rowMajor_val_two]
    show 0 * 1024 + k.val = k.val
    omega

/-! The blocks the windows stage: block `t` of the rows, and the whole of each weight. -/

theorem iblk0 (c : Dev nD) (t : Fin cfg0.N) (r : Fin 256) (k : Fin 1024) (R : Fin 65536) (hR : R.val = 256 * t.val + r.val) :
    (iblk m c 0 t : S256x1024.Idx → EReal) (ix2 r k) = (V m c main_v10 : S65536x1024.Idx → EReal) (ix2 R k) := by
  have e : win0_0.index t ⟨0, by decide⟩ = t.val := (by decide +kernel : ∀ t : Fin grid0.N, win0_0.index t ⟨0, by decide⟩ = t.val) t
  have e' : win0_0.index t ⟨1, by decide⟩ = 0 := (by decide +kernel : ∀ t : Fin grid0.N, win0_0.index t ⟨1, by decide⟩ = 0) t
  unfold iblk
  show (V m c main_v10 : S65536x1024.Idx → EReal) _ = _
  refine congrArg _ (funext fun a => Fin.ext ?_)
  match a with
  | ⟨0, _⟩ => show win0_0.index t ⟨0, _⟩ * 256 + 1 * r.val = R.val; rw [e]; omega
  | ⟨1, _⟩ => show win0_0.index t ⟨1, _⟩ * 1024 + 1 * k.val = k.val; rw [e']; omega

theorem iblk1 (c : Dev nD) (t : Fin cfg0.N) (r : Fin 1) (k : Fin 1024) :
    (iblk m c 1 t : S1x1024.Idx → EReal) (ix2 r k) = (V m c main_v1 : S1x1024.Idx → EReal) (ix2 r k) := by
  have e : win0_1.index t ⟨0, by decide⟩ = 0 := (by decide +kernel : ∀ t : Fin grid0.N, win0_1.index t ⟨0, by decide⟩ = 0) t
  have e' : win0_1.index t ⟨1, by decide⟩ = 0 := (by decide +kernel : ∀ t : Fin grid0.N, win0_1.index t ⟨1, by decide⟩ = 0) t
  unfold iblk
  show (V m c main_v1 : S1x1024.Idx → EReal) _ = _
  refine congrArg _ (funext fun a => Fin.ext ?_)
  match a with
  | ⟨0, _⟩ => show win0_1.index t ⟨0, _⟩ * 1 + 1 * r.val = r.val; rw [e]; omega
  | ⟨1, _⟩ => show win0_1.index t ⟨1, _⟩ * 1024 + 1 * k.val = k.val; rw [e']; omega

theorem iblk2 (c : Dev nD) (t : Fin cfg0.N) (r : Fin 1024) (k : Fin 2816) :
    (iblk m c 2 t : S1024x2816.Idx → EReal) (ix2 r k) = (V m c main_v3 : S1024x2816.Idx → EReal) (ix2 r k) := by
  have e : win0_2.index t ⟨0, by decide⟩ = 0 := (by decide +kernel : ∀ t : Fin grid0.N, win0_2.index t ⟨0, by decide⟩ = 0) t
  have e' : win0_2.index t ⟨1, by decide⟩ = 0 := (by decide +kernel : ∀ t : Fin grid0.N, win0_2.index t ⟨1, by decide⟩ = 0) t
  unfold iblk
  show (V m c main_v3 : S1024x2816.Idx → EReal) _ = _
  refine congrArg _ (funext fun a => Fin.ext ?_)
  match a with
  | ⟨0, _⟩ => show win0_2.index t ⟨0, _⟩ * 1024 + 1 * r.val = r.val; rw [e]; omega
  | ⟨1, _⟩ => show win0_2.index t ⟨1, _⟩ * 2816 + 1 * k.val = k.val; rw [e']; omega

theorem iblk3 (c : Dev nD) (t : Fin cfg0.N) (r : Fin 1024) (k : Fin 2816) :
    (iblk m c 3 t : S1024x2816.Idx → EReal) (ix2 r k) = (V m c main_v5 : S1024x2816.Idx → EReal) (ix2 r k) := by
  have e : win0_3.index t ⟨0, by decide⟩ = 0 := (by decide +kernel : ∀ t : Fin grid0.N, win0_3.index t ⟨0, by decide⟩ = 0) t
  have e' : win0_3.index t ⟨1, by decide⟩ = 0 := (by decide +kernel : ∀ t : Fin grid0.N, win0_3.index t ⟨1, by decide⟩ = 0) t
  unfold iblk
  show (V m c main_v5 : S1024x2816.Idx → EReal) _ = _
  refine congrArg _ (funext fun a => Fin.ext ?_)
  match a with
  | ⟨0, _⟩ => show win0_3.index t ⟨0, _⟩ * 1024 + 1 * r.val = r.val; rw [e]; omega
  | ⟨1, _⟩ => show win0_3.index t ⟨1, _⟩ * 2816 + 1 * k.val = k.val; rw [e']; omega

theorem iblk4 (c : Dev nD) (t : Fin cfg0.N) (r : Fin 2816) (k : Fin 1024) :
    (iblk m c 4 t : S2816x1024.Idx → EReal) (ix2 r k) = (V m c main_v7 : S2816x1024.Idx → EReal) (ix2 r k) := by
  have e : win0_4.index t ⟨0, by decide⟩ = 0 := (by decide +kernel : ∀ t : Fin grid0.N, win0_4.index t ⟨0, by decide⟩ = 0) t
  have e' : win0_4.index t ⟨1, by decide⟩ = 0 := (by decide +kernel : ∀ t : Fin grid0.N, win0_4.index t ⟨1, by decide⟩ = 0) t
  unfold iblk
  show (V m c main_v7 : S2816x1024.Idx → EReal) _ = _
  refine congrArg _ (funext fun a => Fin.ext ?_)
  match a with
  | ⟨0, _⟩ => show win0_4.index t ⟨0, _⟩ * 2816 + 1 * r.val = r.val; rw [e]; omega
  | ⟨1, _⟩ => show win0_4.index t ⟨1, _⟩ * 1024 + 1 * k.val = k.val; rw [e']; omega

theorem iblk5 (c : Dev nD) (t : Fin cfg0.N) (r : Fin 1) (k : Fin 1024) :
    (iblk m c 5 t : S1x1024.Idx → EReal) (ix2 r k) = (V m c main_v9 : S1x1024.Idx → EReal) (ix2 r k) := by
  have e : win0_5.index t ⟨0, by decide⟩ = 0 := (by decide +kernel : ∀ t : Fin grid0.N, win0_5.index t ⟨0, by decide⟩ = 0) t
  have e' : win0_5.index t ⟨1, by decide⟩ = 0 := (by decide +kernel : ∀ t : Fin grid0.N, win0_5.index t ⟨1, by decide⟩ = 0) t
  unfold iblk
  show (V m c main_v9 : S1x1024.Idx → EReal) _ = _
  refine congrArg _ (funext fun a => Fin.ext ?_)
  match a with
  | ⟨0, _⟩ => show win0_5.index t ⟨0, _⟩ * 1 + 1 * r.val = r.val; rw [e]; omega
  | ⟨1, _⟩ => show win0_5.index t ⟨1, _⟩ * 1024 + 1 * k.val = k.val; rw [e']; omega

/-- The call's result as a function of the six arguments, element by element. -/
def res (x0 : S8x8192x1024.Idx → EReal) (x1 : S1x1024.Idx → EReal) (x2 x3 : S1x1024x2816.Idx → EReal)
    (x4 : S1x2816x1024.Idx → EReal) (x5 : S1x1024.Idx → EReal) : S65536x1024.Idx → EReal := fun i =>
  have h : (i 0).val < 65536 := (i 0).isLt
  out (fun k => x0 (ix3 ⟨(i 0).val / 8192, by omega⟩ ⟨(i 0).val % 8192, by omega⟩ k)) (fun k => x1 (ix2 0 k))
    (fun k j => x2 (ix3 0 k j)) (fun k j => x3 (ix3 0 k j)) (fun j l => x4 (ix3 0 j l)) (fun k => x5 (ix2 0 k)) (i 1)

/-- The result at row `R`, which is row `t` of sequence `b`. -/
theorem res_apply (x0 : S8x8192x1024.Idx → EReal) (x1 : S1x1024.Idx → EReal) (x2 x3 : S1x1024x2816.Idx → EReal)
    (x4 : S1x2816x1024.Idx → EReal) (x5 : S1x1024.Idx → EReal) (b : Fin 8) (t : Fin 8192) (l : Fin 1024) (R : Fin 65536)
    (hR : R.val = 8192 * b.val + t.val) :
    res x0 x1 x2 x3 x4 x5 (ix2 R l)
      = out (fun k => x0 (ix3 b t k)) (fun k => x1 (ix2 0 k)) (fun k j => x2 (ix3 0 k j)) (fun k j => x3 (ix3 0 k j))
          (fun j l => x4 (ix3 0 j l)) (fun k => x5 (ix2 0 k)) l := by
  have h0 := b.isLt
  have h1 := t.isLt
  have eb : (⟨R.val / 8192, by omega⟩ : Fin 8) = b := Fin.ext (by show R.val / 8192 = b.val; omega)
  have et : (⟨R.val % 8192, by omega⟩ : Fin 8192) = t := Fin.ext (by show R.val % 8192 = t.val; omega)
  show out (fun k => x0 (ix3 ⟨R.val / 8192, _⟩ ⟨R.val % 8192, _⟩ k)) _ _ _ _ _ l = _
  rw [eb, et]

/-- The result over the launch memory of device `c`. -/
def mres (c : Dev nD) : S65536x1024.Idx → EReal :=
  res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem hz : (![0, 0] : Fin 2 → Nat) = fun _ => 0 := funext fun a => by fin_cases a <;> rfl

/-- What the body leaves in its output block at point `t`: the rows of the result it is to fill. -/
theorem out_apply (c : Dev nD) (t : Fin cfg0.N) (r : Fin 256) (l : Fin 1024) (R : Fin 65536) (hR : R.val = 256 * t.val + r.val) :
    (out0_6 (iblk m c 0 t) (iblk m c 1 t) (iblk m c 2 t) (iblk m c 3 t) (iblk m c 4 t) (iblk m c 5 t) : S256x1024.Idx → EReal) (ix2 r l)
      = mres m c (ix2 R l) := by
  have h := R.isLt
  have hR' : R.val = 8192 * (R.val / 8192) + R.val % 8192 := by omega
  unfold out0_6
  rw [Value.canon6_eq]
  rw [View.ld_unit_zero hz, View.ld_unit_zero hz, View.ld_unit_zero hz, View.ld_unit_zero hz, View.ld_unit_zero hz, View.ld_unit_zero hz]
  refine (E6_apply _ _ _ _ _ _ r l).trans ?_
  unfold mres
  rw [res_apply _ _ _ _ _ _ ⟨R.val / 8192, by omega⟩ ⟨R.val % 8192, by omega⟩ l R hR']
  congr 1
  · funext k; exact (iblk0 m c t r k R hR).trans (V_v10 m c _ _ k R hR')
  · funext k; exact (iblk1 m c t 0 k).trans (V_v1 m c k)
  · funext k j; exact (iblk2 m c t k j).trans (V_v3 m c k j)
  · funext k j; exact (iblk3 m c t k j).trans (V_v5 m c k j)
  · funext k j; exact (iblk4 m c t k j).trans (V_v7 m c k j)
  · funext k; exact (iblk5 m c t 0 k).trans (V_v9 m c k)

/-- What point `t` writes back is its block of the result. -/
theorem flushed_eq (c : Dev nD) (t : Fin cfg0.N) :
    (dats m 0 c).flushed 6 t = (win0_6.blk t).view.read (Elt Ideal) (mres m c) := by
  have e : win0_6.index t ⟨0, by decide⟩ = t.val := Value.idx_pt6 t
  have e' : win0_6.index t ⟨1, by decide⟩ = 0 := (by decide +kernel : ∀ t : Fin grid0.N, win0_6.index t ⟨1, by decide⟩ = 0) t
  have ht : t.val < 256 := t.isLt
  rw [Value.flushed6]
  funext y
  have h0 : (y 0).val < 256 := (y 0).isLt
  have h1 : (y 1).val < 1024 := (y 1).isLt
  have key := out_apply m c t ⟨(y 0).val, h0⟩ ⟨(y 1).val, h1⟩ ⟨256 * t.val + (y 0).val, by omega⟩ rfl
  show (out0_6 (iblk m c 0 t) (iblk m c 1 t) (iblk m c 2 t) (iblk m c 3 t) (iblk m c 4 t) (iblk m c 5 t) : S256x1024.Idx → EReal) _ = mres m c _
  refine Eq.trans (congrArg _ ?_) (key.trans (congrArg _ ?_))
  · funext a; match a with | ⟨0, _⟩ => rfl | ⟨1, _⟩ => rfl
  · funext a
    refine Fin.ext ?_
    match a with
    | ⟨0, _⟩ => show 256 * t.val + (y 0).val = win0_6.index t ⟨0, _⟩ * 256 + 1 * (y 0).val; rw [e]; omega
    | ⟨1, _⟩ => show (y 1).val = win0_6.index t ⟨1, _⟩ * 1024 + 1 * (y 1).val; rw [e']; omega

/-- The blocks fill the array. -/
theorem cover (i : S65536x1024.Idx) :
    ∃ t : Fin cfg0.N, (cfg0.win 6).flush t = true ∧ i ∈ ((cfg0.win 6).blk t).view.set := by
  have h0 : (i 0).val < 65536 := (i 0).isLt
  have h1 : (i 1).val < 1024 := (i 1).isLt
  have hN : cfg0.N = 256 := N_0
  refine ⟨⟨(i 0).val / 256, by omega⟩, flush0_6 _, ?_⟩
  generalize ht : (⟨(i 0).val / 256, by omega⟩ : Fin cfg0.N) = t
  have ht' : t.val = (i 0).val / 256 := by rw [← ht]
  have e : win0_6.index t ⟨0, by decide⟩ = t.val := Value.idx_pt6 t
  have e' : win0_6.index t ⟨1, by decide⟩ = 0 := (by decide +kernel : ∀ t : Fin grid0.N, win0_6.index t ⟨1, by decide⟩ = 0) t
  show i ∈ ((View.whole main_v11).slice (win0_6.rect t)).set
  rw [View.set_slice_whole, Rect.mem_set_unit]
  intro a
  match a with
  | ⟨0, _⟩ =>
    show win0_6.index t ⟨0, _⟩ * 256 ≤ (i 0).val ∧ (i 0).val < win0_6.index t ⟨0, _⟩ * 256 + 256
    rw [e]; omega
  | ⟨1, _⟩ =>
    show win0_6.index t ⟨1, _⟩ * 1024 ≤ (i 1).val ∧ (i 1).val < win0_6.index t ⟨1, _⟩ * 1024 + 1024
    rw [e']; omega

/-- The array the run leaves. -/
theorem final (c : Dev nD) : (dats m 0 c).arrAt 6 cfg0.N = mres m c :=
  (dats m 0 c).arrAt_eq_of_cover 6 (mres m c) (fun t _ => flushed_eq m c t) cover

end Cert.Ffn
end
-- ==== Proof.FfnRef.lean ====
module

public import proofs.«01_k».proof.Proof.FfnKernel
public import proofs.«01_k».proof.Proof.Gen.Reference2Ideal.Read

/-! The feed-forward reference, read element by element on the extended reals: the same function `Ffn.out`. -/

@[expose] public section

noncomputable section

namespace Cert.Ffn

open Idealize.ShloMosaic Cert.Reference2Ideal Cert.Reference2Ideal.Gen Cert.Reference2Ideal.Read

variable (x0 : (⟨S8x8192x1024, .f32⟩ : BufTy).Contents (Elt Ideal)) (x1 : (⟨S1x1024, .f32⟩ : BufTy).Contents (Elt Ideal))
  (x2 x3 : (⟨S1x1024x2816, .f32⟩ : BufTy).Contents (Elt Ideal)) (x4 : (⟨S1x2816x1024, .f32⟩ : BufTy).Contents (Elt Ideal))
  (x5 : (⟨S1x1024, .f32⟩ : BufTy).Contents (Elt Ideal))

theorem v13_apply (b : Fin 8) (t : Fin 8192) (k : Fin 1024) :
    val_main_v13 (F := Ideal) x0 x1 (ix3 b t k) = nrm (fun k => x0 (ix3 b t k)) (fun k => x1 (ix2 0 k)) k := by
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply]
  have e : ∀ q, idx_main_v2 (idx_main_v3 (idx_main_v9 (ix3 b t k))) q = ix3 b t q := fun q => by
    funext a; match a with | ⟨0, _⟩ => rfl | ⟨1, _⟩ => rfl | ⟨2, _⟩ => rfl
  have e' : idx_main_v0 (idx_main_v11 (idx_main_v12 (ix3 b t k))) = ix2 0 k := by
    funext a; match a with | ⟨0, _⟩ => rfl | ⟨1, _⟩ => exact Fin.ext (Nat.mod_eq_of_lt k.isLt)
  simp only [e, e']
  pointwise
  rfl

theorem v15_apply (b : Fin 8) (t : Fin 8192) (j : Fin 2816) :
    val_main_v15 (F := Ideal) x0 x1 x2 (ix3 b t j)
      = lin (fun k => x0 (ix3 b t k)) (fun k => x1 (ix2 0 k)) (fun k j => x2 (ix3 0 k j)) j := by
  rw [val_main_v15_apply]
  refine Finset.sum_congr rfl fun k _ => ?_
  have e : lidx_main_v15 (ix3 b t j) k = ix3 b t k := by
    funext a; match a with | ⟨0, _⟩ => rfl | ⟨1, _⟩ => rfl | ⟨2, _⟩ => rfl
  have e' : idx_main_v14 (ridx_main_v15 (ix3 b t j) k) = ix3 0 k j := by
    have h0 := k.isLt
    have h1 := j.isLt
    funext a; match a with
    | ⟨0, _⟩ => rfl
    | ⟨1, _⟩ => refine Fin.ext ?_; dsimp; omega
    | ⟨2, _⟩ => refine Fin.ext ?_; dsimp; omega
  rw [e, v13_apply, val_main_v14_apply, e']

theorem v18_apply (b : Fin 8) (t : Fin 8192) (j : Fin 2816) :
    val_main_v18 (F := Ideal) x0 x1 x3 (ix3 b t j)
      = lin (fun k => x0 (ix3 b t k)) (fun k => x1 (ix2 0 k)) (fun k j => x3 (ix3 0 k j)) j := by
  rw [val_main_v18_apply]
  refine Finset.sum_congr rfl fun k _ => ?_
  have e : lidx_main_v18 (ix3 b t j) k = ix3 b t k := by
    funext a; match a with | ⟨0, _⟩ => rfl | ⟨1, _⟩ => rfl | ⟨2, _⟩ => rfl
  have e' : idx_main_v17 (ridx_main_v18 (ix3 b t j) k) = ix3 0 k j := by
    have h0 := k.isLt
    have h1 := j.isLt
    funext a; match a with
    | ⟨0, _⟩ => rfl
    | ⟨1, _⟩ => refine Fin.ext ?_; dsimp; omega
    | ⟨2, _⟩ => refine Fin.ext ?_; dsimp; omega
  rw [e, v13_apply, val_main_v17_apply, e']

theorem v21_apply (b : Fin 8) (t : Fin 8192) (l : Fin 1024) :
    val_main_v21 (F := Ideal) x0 x1 x2 x3 x4 (ix3 b t l)
      = ffn (fun k => x0 (ix3 b t k)) (fun k => x1 (ix2 0 k)) (fun k j => x2 (ix3 0 k j)) (fun k j => x3 (ix3 0 k j))
          (fun j l => x4 (ix3 0 j l)) l := by
  rw [val_main_v21_apply]
  refine Finset.sum_congr rfl fun j _ => ?_
  have e : lidx_main_v21 (ix3 b t l) j = ix3 b t j := by
    funext a; match a with | ⟨0, _⟩ => rfl | ⟨1, _⟩ => rfl | ⟨2, _⟩ => rfl
  have e' : idx_main_v20 (ridx_main_v21 (ix3 b t l) j) = ix3 0 j l := by
    have h0 := l.isLt
    have h1 := j.isLt
    funext a; match a with
    | ⟨0, _⟩ => rfl
    | ⟨1, _⟩ => refine Fin.ext ?_; dsimp; omega
    | ⟨2, _⟩ => refine Fin.ext ?_; dsimp; omega
  rw [e, val_main_v20_apply, e']
  simp only [val_main_v19_apply, val_main_v16_apply, val_main_call0_v5_apply, val_main_call0_v4_apply, val_main_call0_v3_apply,
    val_main_call0_v2_apply, val_main_call0_v1_apply, val_main_call0_v0_apply, val_main_call0_cst_apply,
    val_main_call0_cst_0_apply, v15_apply, v18_apply]
  pointwise
  rfl

/-- The reference's result at row `8192 b + t`. -/
theorem v37_apply (b : Fin 8) (t : Fin 8192) (l : Fin 1024) (R : Fin 65536) (hR : R.val = 8192 * b.val + t.val) :
    val_main_v37 (F := Ideal) x0 x1 x2 x3 x4 x5 (ix2 R l)
      = out (fun k => x0 (ix3 b t k)) (fun k => x1 (ix2 0 k)) (fun k j => x2 (ix3 0 k j)) (fun k j => x3 (ix3 0 k j))
          (fun j l => x4 (ix3 0 j l)) (fun k => x5 (ix2 0 k)) l := by
  have h0 := b.isLt
  have h1 := t.isLt
  have h2 := l.isLt
  have e0 : idx_main_v37 (ix2 R l) = ix3 b t l := by
    funext a; match a with
    | ⟨0, _⟩ => refine Fin.ext ?_; dsimp; omega
    | ⟨1, _⟩ => refine Fin.ext ?_; dsimp; omega
    | ⟨2, _⟩ => refine Fin.ext ?_; dsimp; omega
  rw [val_main_v37_apply, e0]
  simp only [val_main_v36_apply, val_main_v35_apply, val_main_v34_apply, val_main_v33_apply, val_main_v32_apply,
    val_main_v31_apply, val_main_v30_apply, val_main_v29_apply, val_main_v28_apply, val_main_v27_apply,
    val_main_v26_apply, val_main_v25_apply, val_main_v24_apply, val_main_v23_apply, val_main_v22_apply,
    val_main_cst_2_apply, val_main_cst_3_apply, val_main_cst_4_apply]
  have e : ∀ q, idx_main_v24 (idx_main_v25 (idx_main_v31 (ix3 b t l))) q = ix3 b t q := fun q => by
    funext a; match a with | ⟨0, _⟩ => rfl | ⟨1, _⟩ => rfl | ⟨2, _⟩ => rfl
  have e' : idx_main_v22 (idx_main_v33 (idx_main_v34 (ix3 b t l))) = ix2 0 l := by
    funext a; match a with | ⟨0, _⟩ => rfl | ⟨1, _⟩ => exact Fin.ext (Nat.mod_eq_of_lt l.isLt)
  simp only [e, e', v21_apply]
  pointwise
  rfl

end Cert.Ffn
end
-- ==== Proof.FfnClaims.lean ====
module

public import proofs.«01_k».proof.Defs
public import proofs.«01_k».proof.Proof.FfnRun
public import proofs.«01_k».proof.Proof.FfnRef
public import proofs.«01_k».proof.Proof.Gen.Kernel2.Frame
public import proofs.«01_k».proof.Proof.Gen.Reference2Ideal.Run
public import Idealize.ShloMosaic.Lib.Quiescent

/-! The claims about the feed-forward call. -/

@[expose] public section

set_option maxRecDepth 16384

noncomputable section

namespace Cert.Ffn

open Idealize.ShloMosaic Idealize.ShloMosaic.TcCoe Idealize.SL.Sem

theorem frame_kernel : Cert.quiescent_Kernel2 (hKernel2 := Cert.Kernel2.Gen.facts) := fun m ρ _ => Cert.Kernel2.Gen.frame m ρ
theorem frame_ideal : Cert.quiescent_Kernel2Ideal (hKernel2Ideal := Cert.Kernel2Ideal.Gen.facts) := fun m ρ _ => Cert.Kernel2Ideal.Gen.frame m ρ
theorem frame_ref : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)
theorem preserves : Cert.preserves_Kernel2_Kernel2Ideal := trivial

/-- The reference's result array is the function `res` of its arguments. -/
theorem ref_res (x0 : (⟨Cert.Reference2Ideal.S8x8192x1024, .f32⟩ : BufTy).Contents (Elt Ideal))
    (x1 : (⟨Cert.Reference2Ideal.S1x1024, .f32⟩ : BufTy).Contents (Elt Ideal))
    (x2 x3 : (⟨Cert.Reference2Ideal.S1x1024x2816, .f32⟩ : BufTy).Contents (Elt Ideal))
    (x4 : (⟨Cert.Reference2Ideal.S1x2816x1024, .f32⟩ : BufTy).Contents (Elt Ideal))
    (x5 : (⟨Cert.Reference2Ideal.S1x1024, .f32⟩ : BufTy).Contents (Elt Ideal)) :
    Cert.Reference2Ideal.Read.val_main_v37 (F := Ideal) x0 x1 x2 x3 x4 x5 = res x0 x1 x2 x3 x4 x5 := by
  funext i
  have h0 : (i 0).val < 65536 := (i 0).isLt
  have h1 : (i 1).val < 1024 := (i 1).isLt
  have e : i = ix2 (i 0) (i 1) := eq_ix2 i
  have hR : (i 0).val = 8192 * ((i 0).val / 8192) + (i 0).val % 8192 := by omega
  rw [e]
  exact (v37_apply x0 x1 x2 x3 x4 x5 ⟨(i 0).val / 8192, by omega⟩ ⟨(i 0).val % 8192, by omega⟩ (i 1) (i 0) hR).trans
    (res_apply x0 x1 x2 x3 x4 x5 ⟨(i 0).val / 8192, by omega⟩ ⟨(i 0).val % 8192, by omega⟩ (i 1) (i 0) hR).symm

theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => mres m c, ?_, ?_⟩
  · exact (θ_run Cert.Kernel2Ideal.defs _ _).mono (fun _ h c => ⟨(h c).1.trans (final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    rw [Cert.Reference2Ideal.Read.val_main_v37_eq]
    refine (ref_res _ _ _ _ _ _).trans ?_
    obtain ⟨e0, e1, e2, e3, e4, e5⟩ := hagree c
    unfold mres
    rw [e0, e1, e2, e3, e4, e5]

end Cert.Ffn
end
-- ==== Proof.MixR.lean ====
module

public import proofs.«01_k».proof.Proof.Gen.KernelIdeal.Skeleton
public import Idealize.ShloMosaic.Lib.Pipeline.FrameBody
public import Idealize.ShloMosaic.PureOps.Ideal

@[expose] public section

/-! The values of one block of the mixer's grid as functions of what the block is given: its input blocks, the eight rows the
    two convolutions look back on, the recurrence's carried row and the eight carried states. -/

noncomputable section

namespace Cert.Mix

open Cert.KernelIdeal Cert.KernelIdeal.Gen Idealize.ShloMosaic

/-- What a block is given. -/
structure Blk where
  x0 : Vec Ideal S1x256x1024 .f32
  x1 : Vec Ideal S1x1024 .f32
  x2 : Vec Ideal S1024x1024 .bf16
  x3 : Vec Ideal S1024x1024 .bf16
  x4 : Vec Ideal S1024x1024 .bf16
  x5 : Vec Ideal S1024x1536 .bf16
  x6 : Vec Ideal S1024x128 .bf16
  x7 : Vec Ideal S4x1024 .f32
  x8 : Vec Ideal S1x1024 .f32
  x9 : Vec Ideal S4x256x512 .bf16
  x10 : Vec Ideal S1x1024 .f32
  x11 : Vec Ideal S1x1024 .f32
  x12 : Vec Ideal S1x1024 .f32
  x13 : Vec Ideal S1x1024 .f32
  x14 : Vec Ideal S4x1536 .f32
  x15 : Vec Ideal S1x1536 .f32
  x16 : Vec Ideal S1x128 .f32
  x17 : Vec Ideal S1x128 .f32
  x18 : Vec Ideal S1x1024 .f32
  x19 : Vec Ideal S1x1024 .f32
  x20 : Vec Ideal S1024x1024 .bf16
  x21 : Vec Ideal S1024x1024 .bf16
  x22 : Vec Ideal S1x1024 .f32
  hd0 : Vec Ideal S8x1024 .f32
  hd1 : Vec Ideal S8x1536 .f32
  h0 : Vec Ideal S8x1024 .f32
  st : Vec Ideal S8x128x128 .f32

def R_cst_72 (b : Blk) : Ideal .f32 := FloatOps.ofBits FTy.f32 1065353216#32
def R_HS0_2 (b : Blk) : List (View.Piece (Elt Ideal) S264x1024 .f32) := [⟨Rect.unit ![8, 0] S256x1024.size inb_S264x1024_S256x1024_8_0, k0_pay10 (View.ld b.x0 (Rect.unit ![0, 0, 0] S1x256x1024.size inb_S1x256x1024_S1x256x1024_0_0_0)) (View.ld b.x1 (Rect.unit ![0, 0] S1x1024.size inb_S1x1024_S1x1024_0_0)) (View.ld b.x2 (Rect.unit ![0, 0] S1024x1024.size inb_S1024x1024_S1024x1024_0_0))⟩, ⟨Rect.unit ![0, 0] S8x1024.size inb_S264x1024_S8x1024_0_0, b.hd0⟩]
def R_v46 (b : Blk) : Vec Ideal S256x1024 .f32 := fun j => View.canon (R_HS0_2 b) (((Rect.unit ![5, 0] S256x1024.size inb_S264x1024_S256x1024_5_0) : Rect S264x1024).toLoadRect.idx j)
def R_v53 (b : Blk) : Vec Ideal S256x1024 .f32 := fun j => View.canon (R_HS0_2 b) (((Rect.unit ![6, 0] S256x1024.size inb_S264x1024_S256x1024_6_0) : Rect S264x1024).toLoadRect.idx j)
def R_v59 (b : Blk) : Vec Ideal S256x1024 .f32 := fun j => View.canon (R_HS0_2 b) (((Rect.unit ![7, 0] S256x1024.size inb_S264x1024_S256x1024_7_0) : Rect S264x1024).toLoadRect.idx j)
def R_r_6 (b : Blk) := k0_pay16 (View.ld b.x8 (Rect.unit ![0, 0] S1x1024.size inb_S1x1024_S1x1024_0_0)) (R_v46 b) (View.ld b.x7 (Rect.unit ![0, 0] S1x1024.size inb_S4x1024_S1x1024_0_0)) (R_v53 b) (View.ld b.x7 (Rect.unit ![1, 0] S1x1024.size inb_S4x1024_S1x1024_1_0)) (R_v59 b) (View.ld b.x7 (Rect.unit ![2, 0] S1x1024.size inb_S4x1024_S1x1024_2_0))
def R_v65 (b : Blk) : Vec Ideal S256x1024 .f32 := fun j => View.canon (R_HS0_2 b) (((Rect.unit ![8, 0] S256x1024.size inb_S264x1024_S256x1024_8_0) : Rect S264x1024).toLoadRect.idx j)
def R_r_9 (b : Blk) := k0_pay24 (R_r_6 b) (R_v65 b) (View.ld b.x7 (Rect.unit ![3, 0] S1x1024.size inb_S4x1024_S1x1024_3_0)) (View.ld b.x9 (Rect.unit ![0, 0, 0] S1x256x512.size inb_S4x256x512_S1x256x512_0_0_0)) (View.ld b.x9 (Rect.unit ![1, 0, 0] S1x256x512.size inb_S4x256x512_S1x256x512_1_0_0)) (View.ld b.x9 (Rect.unit ![2, 0, 0] S1x256x512.size inb_S4x256x512_S1x256x512_2_0_0)) (View.ld b.x9 (Rect.unit ![3, 0, 0] S1x256x512.size inb_S4x256x512_S1x256x512_3_0_0)) (View.ld b.x10 (Rect.unit ![0, 0] S1x1024.size inb_S1x1024_S1x1024_0_0))
def R_r_12 (b : Blk) := k0_pay28 (R_r_9 b) (View.ld b.x12 (Rect.unit ![0, 0] S1x1024.size inb_S1x1024_S1x1024_0_0))
def R_r_13 (b : Blk) := k0_pay30 (R_r_9 b) (View.ld b.x12 (Rect.unit ![0, 0] S1x1024.size inb_S1x1024_S1x1024_0_0))
def R_r_10 (b : Blk) := k0_pay25 (View.ld b.x11 (Rect.unit ![0, 0] S1x1024.size inb_S1x1024_S1x1024_0_0))
def R_r_7 (b : Blk) := k0_pay17 (R_r_6 b) (R_v65 b) (View.ld b.x7 (Rect.unit ![3, 0] S1x1024.size inb_S4x1024_S1x1024_3_0))
def R_r_8 (b : Blk) := k0_pay23 (R_r_6 b) (R_v65 b) (View.ld b.x7 (Rect.unit ![3, 0] S1x1024.size inb_S4x1024_S1x1024_3_0)) (View.ld b.x9 (Rect.unit ![0, 0, 0] S1x256x512.size inb_S4x256x512_S1x256x512_0_0_0)) (View.ld b.x9 (Rect.unit ![1, 0, 0] S1x256x512.size inb_S4x256x512_S1x256x512_1_0_0)) (View.ld b.x9 (Rect.unit ![2, 0, 0] S1x256x512.size inb_S4x256x512_S1x256x512_2_0_0)) (View.ld b.x9 (Rect.unit ![3, 0, 0] S1x256x512.size inb_S4x256x512_S1x256x512_3_0_0))
def R_r_14 (b : Blk) := k0_pay31 (R_r_7 b) (R_r_8 b) (R_r_9 b) (R_r_10 b) (View.ld b.x12 (Rect.unit ![0, 0] S1x1024.size inb_S1x1024_S1x1024_0_0))
def R_v138 (b : Blk) := iota Kind.tc S1x8x1024 32 [1] iota_S1x8x1024_d1_w32
def R_r_15 (b : Blk) := k0_pay37 (R_r_12 b) (R_v138 b) (R_r_13 b) (R_r_14 b) (R_cst_72 b) k0_pay32
def R_r_28 (b : Blk) := k0_pay50 (R_r_15 b)
def R_r_1 (b : Blk) := k0_pay9 (View.ld b.x0 (Rect.unit ![0, 0, 0] S1x256x1024.size inb_S1x256x1024_S1x256x1024_0_0_0)) (View.ld b.x1 (Rect.unit ![0, 0] S1x1024.size inb_S1x1024_S1x1024_0_0))
def R_r_5 (b : Blk) := k0_pay15 (R_r_1 b) (View.ld b.x6 (Rect.unit ![0, 0] S1024x128.size inb_S1024x128_S1024x128_0_0))
def R_r_64 (b : Blk) := k0_pay88 (R_r_5 b) (View.ld b.x16 (Rect.unit ![0, 0] S1x128.size inb_S1x128_S1x128_0_0))
def R_r_65 (b : Blk) := (View.ld b.x17 (Rect.unit ![0, 0] S1x128.size inb_S1x128_S1x128_0_0))
def R_r_70 (b : Blk) := k0_pay98 (R_r_64 b) k0_pay89 (R_r_65 b)
def R_r_59 (b : Blk) := k0_pay82 (View.ld b.x15 (Rect.unit ![0, 0] S1x1536.size inb_S1x1536_S1x1536_0_0))
def R_HS1_1 (b : Blk) : List (View.Piece (Elt Ideal) S264x1536 .f32) := [⟨Rect.unit ![0, 0] S8x1536.size inb_S264x1536_S8x1536_0_0, b.hd1⟩]
def R_r_2 (b : Blk) := k0_pay11 (View.ld b.x0 (Rect.unit ![0, 0, 0] S1x256x1024.size inb_S1x256x1024_S1x256x1024_0_0_0)) (View.ld b.x1 (Rect.unit ![0, 0] S1x1024.size inb_S1x1024_S1x1024_0_0)) (View.ld b.x5 (Rect.unit ![0, 0] S1024x1536.size inb_S1024x1536_S1024x1536_0_0))
def R_HS1_2 (b : Blk) : List (View.Piece (Elt Ideal) S264x1536 .f32) := ⟨Rect.unit ![8, 0] S256x1536.size inb_S264x1536_S256x1536_8_0, k0_pay12 (R_r_2 b)⟩ :: (R_HS1_1 b)
def R_v477 (b : Blk) : Vec Ideal S256x1536 .f32 := fun j => View.canon (R_HS1_2 b) (((Rect.unit ![5, 0] S256x1536.size inb_S264x1536_S256x1536_5_0) : Rect S264x1536).toLoadRect.idx j)
def R_r_60 (b : Blk) := k0_pay83 (R_v477 b) (View.ld b.x14 (Rect.unit ![0, 0] S1x1536.size inb_S4x1536_S1x1536_0_0))
def R_v484 (b : Blk) : Vec Ideal S256x1536 .f32 := fun j => View.canon (R_HS1_2 b) (((Rect.unit ![6, 0] S256x1536.size inb_S264x1536_S256x1536_6_0) : Rect S264x1536).toLoadRect.idx j)
def R_v490 (b : Blk) : Vec Ideal S256x1536 .f32 := fun j => View.canon (R_HS1_2 b) (((Rect.unit ![7, 0] S256x1536.size inb_S264x1536_S256x1536_7_0) : Rect S264x1536).toLoadRect.idx j)
def R_v496 (b : Blk) : Vec Ideal S256x1536 .f32 := fun j => View.canon (R_HS1_2 b) (((Rect.unit ![8, 0] S256x1536.size inb_S264x1536_S256x1536_8_0) : Rect S264x1536).toLoadRect.idx j)
def R_r_62 (b : Blk) := k0_pay86 (R_r_59 b) (R_r_60 b) (R_v484 b) (View.ld b.x14 (Rect.unit ![1, 0] S1x1536.size inb_S4x1536_S1x1536_1_0)) (R_v490 b) (View.ld b.x14 (Rect.unit ![2, 0] S1x1536.size inb_S4x1536_S1x1536_2_0)) (R_v496 b) (View.ld b.x14 (Rect.unit ![3, 0] S1x1536.size inb_S4x1536_S1x1536_3_0))
def R_r_73 (b : Blk) := k0_pay101 (R_r_62 b)
def R_r_61 (b : Blk) := k0_pay85 (R_r_59 b) (R_r_60 b) (R_v484 b) (View.ld b.x14 (Rect.unit ![1, 0] S1x1536.size inb_S4x1536_S1x1536_1_0)) (R_v490 b) (View.ld b.x14 (Rect.unit ![2, 0] S1x1536.size inb_S4x1536_S1x1536_2_0)) (R_v496 b) (View.ld b.x14 (Rect.unit ![3, 0] S1x1536.size inb_S4x1536_S1x1536_3_0))
def R_r_76 (b : Blk) := k0_pay104 (R_r_61 b)
def R_r_75 (b : Blk) := k0_pay103 (R_r_61 b)
def R_r_77 (b : Blk) := k0_pay105 k0_pay93 (R_r_75 b)
def R_r_78 (b : Blk) := k0_pay106 (View.ld b.st (Rect.unit ![0, 0, 0] S1x128x128.size inb_S8x128x128_S1x128x128_0_0_0))
def R_r_83 (b : Blk) := k0_pay113 (R_r_70 b) (R_r_73 b)
def R_r_67 (b : Blk) := k0_pay95 (R_r_64 b) k0_pay89 (R_r_65 b)
def R_r_84 (b : Blk) := k0_pay114 (R_r_67 b)
def R_r_85 (b : Blk) := k0_pay115 (R_r_67 b)
def R_S0_0 (b : Blk) : Vec Ideal S1x128x128 .f32 := k0_pay119 k0_pay93 (R_r_70 b) (R_r_73 b) (R_r_76 b) (R_r_77 b) (R_r_78 b) (R_r_83 b) (R_r_84 b) (R_r_85 b)
def R_v1256 (b : Blk) := (R_S0_0 b)
def R_r_104 (b : Blk) := k0_pay145 (R_r_67 b)
def R_r_165 (b : Blk) := k0_pay240 (R_r_61 b)
def R_r_177 (b : Blk) := k0_pay257 (R_r_165 b)
def R_r_66 (b : Blk) := k0_pay90 (R_r_64 b) k0_pay89 (R_r_65 b)
def R_r_160 (b : Blk) := k0_pay235 (R_r_66 b) k0_pay92
def R_r_63 (b : Blk) := k0_pay87 (R_r_59 b) (R_r_60 b) (R_v484 b) (View.ld b.x14 (Rect.unit ![1, 0] S1x1536.size inb_S4x1536_S1x1536_1_0)) (R_v490 b) (View.ld b.x14 (Rect.unit ![2, 0] S1x1536.size inb_S4x1536_S1x1536_2_0)) (R_v496 b) (View.ld b.x14 (Rect.unit ![3, 0] S1x1536.size inb_S4x1536_S1x1536_3_0))
def R_r_166 (b : Blk) := k0_pay241 (R_r_63 b)
def R_r_189 (b : Blk) := k0_pay274 (R_r_160 b) (R_r_166 b)
def R_r_72 (b : Blk) := k0_pay100 (R_r_63 b)
def R_r_102 (b : Blk) := k0_pay143 (R_r_67 b) (R_r_72 b)
def R_r_159 (b : Blk) := k0_pay234 (R_r_64 b)
def R_r_161 (b : Blk) := k0_pay236 (R_r_66 b) k0_pay92
def R_r_164 (b : Blk) := k0_pay239 (R_r_159 b) (R_r_160 b) (R_r_161 b)
def R_r_157 (b : Blk) := k0_pay229 (R_r_67 b)
def R_r_225 (b : Blk) := k0_pay327 k0_pay93 (R_r_165 b)
def R_r_178 (b : Blk) := k0_pay258 k0_pay93 (R_r_165 b)
def R_r_179 (b : Blk) := k0_pay261 (R_r_177 b) (k0_pay259 k0_pay93) k0_pay260
def R_r_71 (b : Blk) := k0_pay99 (R_r_61 b)
def R_r_88 (b : Blk) := k0_pay121 k0_pay93 (R_r_71 b)
def R_r_89 (b : Blk) := k0_pay122 k0_pay93 (R_r_71 b)
def R_v660 (b : Blk) := (View.ld b.st (Rect.unit ![1, 0, 0] S1x128x128.size inb_S8x128x128_S1x128x128_1_0_0))
def R_r_90 (b : Blk) := k0_pay123 (R_v660 b)
def R_r_93 (b : Blk) := k0_pay126 (R_r_67 b)
def R_r_95 (b : Blk) := k0_pay132 k0_pay93 (R_r_67 b) (R_r_70 b) (R_r_73 b) (R_r_88 b) (R_r_89 b) (R_r_90 b) (R_r_93 b)
def R_S0_1 (b : Blk) : Vec Ideal S1x128x128 .f32 := k0_pay133 (R_r_95 b)
def R_v1336 (b : Blk) := (R_S0_1 b)
def R_r_181 (b : Blk) := k0_pay263 k0_pay93 (R_v1336 b)
def R_r_182 (b : Blk) := k0_pay264 k0_pay93 (R_v1336 b)
def R_r_162 (b : Blk) := k0_pay237 (R_r_160 b)
def R_r_163 (b : Blk) := k0_pay238 (R_r_159 b)
def R_r_168 (b : Blk) := k0_pay243 (R_r_62 b) (R_r_63 b)
def R_r_183 (b : Blk) := k0_pay267 k0_pay91 (R_r_160 b) (R_r_162 b) (R_r_163 b) (R_r_168 b)
def R_r_184 (b : Blk) := k0_pay268 (R_r_160 b) (R_r_166 b)
def R_r_188 (b : Blk) := k0_pay273 k0_pay91 (R_r_160 b) (R_r_162 b) (R_r_163 b) (R_r_168 b)
def R_r_190 (b : Blk) := k0_pay275 (R_r_178 b) (R_r_179 b) (R_r_181 b) (R_r_182 b) (R_r_183 b) (R_r_184 b) (R_r_188 b) (R_r_189 b)
def R_r_214 (b : Blk) := k0_pay309 (R_r_62 b) (R_r_63 b)
def R_r_239 (b : Blk) := k0_pay348 k0_pay91 (R_r_160 b) (R_r_162 b) (R_r_163 b) (R_r_214 b)
def R_r_16 (b : Blk) := k0_pay38 (R_r_12 b) (R_v138 b) (R_r_13 b) (R_cst_72 b) k0_pay32
def R_r_11 (b : Blk) := (View.ld b.h0 (Rect.unit ![0, 0] S1x1024.size inb_S8x1024_S1x1024_0_0))
def R_r_19 (b : Blk) := k0_pay41 (R_r_11 b) (R_r_12 b) (R_v138 b) (R_r_13 b) (R_r_14 b) (R_cst_72 b) k0_pay32
def R_r_27 (b : Blk) := k0_pay49 (R_r_15 b) (R_r_16 b) (R_r_19 b)
def R_r_29 (b : Blk) := k0_pay51 (R_r_16 b)
def R_r_38 (b : Blk) := k0_pay60 (R_r_15 b) (R_r_16 b) (R_r_27 b) (R_r_28 b) (R_r_29 b)
def R_r_45 (b : Blk) := k0_pay67 (R_r_15 b) (R_r_16 b) (R_r_38 b)
def R_r_92 (b : Blk) := k0_pay125 k0_pay93 (R_v660 b)
def R_r_17 (b : Blk) := k0_pay39 (R_r_11 b) (R_r_12 b) (R_v138 b) (R_r_13 b) (R_r_14 b) (R_cst_72 b) k0_pay32
def R_r_18 (b : Blk) := k0_pay40 (R_r_11 b) (R_r_12 b) (R_v138 b) (R_r_13 b) (R_r_14 b) (R_cst_72 b) k0_pay32
def R_r_20 (b : Blk) := k0_pay42 (R_r_15 b) (R_r_16 b) (R_r_19 b)
def R_r_21 (b : Blk) := k0_pay43 (R_r_15 b) (R_r_16 b) (R_r_19 b)
def R_r_22 (b : Blk) := k0_pay44 (R_r_15 b) (R_r_16 b) (R_r_19 b)
def R_r_23 (b : Blk) := k0_pay45 (R_r_15 b) (R_r_16 b) (R_r_19 b)
def R_r_24 (b : Blk) := k0_pay46 (R_r_15 b) (R_r_16 b) (R_r_19 b)
def R_r_25 (b : Blk) := k0_pay47 (R_r_15 b) (R_r_16 b) (R_r_19 b)
def R_r_26 (b : Blk) := k0_pay48 (R_r_15 b) (R_r_16 b) (R_r_19 b)
def R_r_3 (b : Blk) := k0_pay13 (R_r_1 b) (View.ld b.x3 (Rect.unit ![0, 0] S1024x1024.size inb_S1024x1024_S1024x1024_0_0))
def R_r_30 (b : Blk) := k0_pay52 (R_r_27 b) (R_r_28 b) (R_r_29 b)
def R_r_31 (b : Blk) := k0_pay53 (R_r_15 b) (R_r_16 b) (R_r_27 b) (R_r_28 b) (R_r_29 b)
def R_r_32 (b : Blk) := k0_pay54 (R_r_15 b) (R_r_16 b) (R_r_27 b) (R_r_28 b) (R_r_29 b)
def R_r_33 (b : Blk) := k0_pay55 (R_r_15 b) (R_r_16 b) (R_r_27 b) (R_r_28 b) (R_r_29 b)
def R_r_34 (b : Blk) := k0_pay56 (R_r_15 b) (R_r_16 b) (R_r_27 b) (R_r_28 b) (R_r_29 b)
def R_r_35 (b : Blk) := k0_pay57 (R_r_15 b) (R_r_16 b) (R_r_27 b) (R_r_28 b) (R_r_29 b)
def R_r_36 (b : Blk) := k0_pay58 (R_r_15 b) (R_r_16 b) (R_r_27 b) (R_r_28 b) (R_r_29 b)
def R_r_37 (b : Blk) := k0_pay59 (R_r_15 b) (R_r_16 b) (R_r_27 b) (R_r_28 b) (R_r_29 b)
def R_r_39 (b : Blk) := k0_pay61 (R_r_15 b) (R_r_16 b) (R_r_38 b)
def R_r_40 (b : Blk) := k0_pay62 (R_r_15 b) (R_r_16 b) (R_r_38 b)
def R_r_41 (b : Blk) := k0_pay63 (R_r_15 b) (R_r_16 b) (R_r_38 b)
def R_r_42 (b : Blk) := k0_pay64 (R_r_15 b) (R_r_16 b) (R_r_38 b)
def R_r_43 (b : Blk) := k0_pay65 (R_r_15 b) (R_r_16 b) (R_r_38 b)
def R_r_44 (b : Blk) := k0_pay66 (R_r_15 b) (R_r_16 b) (R_r_38 b)
def R_r_46 (b : Blk) := k0_pay68 (R_r_15 b) (R_r_16 b) (R_r_38 b)
def R_r_47 (b : Blk) := k0_pay69 (R_r_15 b)
def R_r_48 (b : Blk) := k0_pay70 (R_r_16 b)
def R_r_49 (b : Blk) := k0_pay71 (R_r_46 b) (R_r_47 b) (R_r_48 b)
def R_r_50 (b : Blk) := k0_pay72 (R_r_15 b) (R_r_16 b) (R_r_46 b) (R_r_47 b) (R_r_48 b)
def R_r_51 (b : Blk) := k0_pay73 (R_r_15 b) (R_r_16 b) (R_r_46 b) (R_r_47 b) (R_r_48 b)
def R_r_52 (b : Blk) := k0_pay74 (R_r_15 b) (R_r_16 b) (R_r_46 b) (R_r_47 b) (R_r_48 b)
def R_r_53 (b : Blk) := k0_pay75 (R_r_15 b) (R_r_16 b) (R_r_46 b) (R_r_47 b) (R_r_48 b)
def R_r_54 (b : Blk) := k0_pay76 (R_r_15 b) (R_r_16 b) (R_r_46 b) (R_r_47 b) (R_r_48 b)
def R_r_55 (b : Blk) := k0_pay77 (R_r_15 b) (R_r_16 b) (R_r_46 b) (R_r_47 b) (R_r_48 b)
def R_r_56 (b : Blk) := k0_pay78 (R_r_15 b) (R_r_16 b) (R_r_46 b) (R_r_47 b) (R_r_48 b)
def R_r_58 (b : Blk) := k0_pay81 (R_r_3 b) (R_r_17 b) (R_r_18 b) (R_r_20 b) (R_r_21 b) (R_r_22 b) (R_r_23 b) (R_r_24 b) (R_r_25 b) (R_r_26 b) (R_r_30 b) (R_r_31 b) (R_r_32 b) (R_r_33 b) (R_r_34 b) (R_r_35 b) (R_r_36 b) (R_r_37 b) (R_r_39 b) (R_r_40 b) (R_r_41 b) (R_r_42 b) (R_r_43 b) (R_r_44 b) (R_r_45 b) (R_r_49 b) (R_r_50 b) (R_r_51 b) (R_r_52 b) (R_r_53 b) (R_r_54 b) (R_r_55 b) (R_r_56 b) (View.ld b.x13 (Rect.unit ![0, 0] S1x1024.size inb_S1x1024_S1x1024_0_0))
def R_r_69 (b : Blk) := k0_pay97 (R_r_64 b)
def R_r_199 (b : Blk) := k0_pay290 (R_r_165 b)
def R_r_201 (b : Blk) := k0_pay292 k0_pay93 (R_r_199 b)
def R_v820 (b : Blk) := (View.ld b.st (Rect.unit ![3, 0, 0] S1x128x128.size inb_S8x128x128_S1x128x128_3_0_0))
def R_r_110 (b : Blk) := k0_pay154 (R_v820 b)
def R_r_111 (b : Blk) := k0_pay159 (R_r_67 b)
def R_r_112 (b : Blk) := k0_pay162 (R_r_67 b)
def R_r_114 (b : Blk) := k0_pay164 (R_r_70 b) (R_r_73 b)
def R_r_108 (b : Blk) := k0_pay152 k0_pay93 (R_r_71 b)
def R_r_109 (b : Blk) := k0_pay153 k0_pay93 (R_r_71 b)
def R_r_115 (b : Blk) := k0_pay165 (R_r_108 b) (R_r_109 b)
def R_S0_3 (b : Blk) : Vec Ideal S1x128x128 .f32 := k0_pay166 k0_pay93 (R_r_110 b) (R_r_111 b) (R_r_112 b) (R_r_114 b) (R_r_115 b)
def R_v1496 (b : Blk) := (R_S0_3 b)
def R_r_203 (b : Blk) := k0_pay294 k0_pay93 (R_v1496 b)
def R_r_169 (b : Blk) := k0_pay245 (R_r_61 b) k0_pay93
def R_r_137 (b : Blk) := k0_pay198 (R_r_67 b)
def R_v986 (b : Blk) := (View.ld b.st (Rect.unit ![5, 0, 0] S1x128x128.size inb_S8x128x128_S1x128x128_5_0_0))
def R_r_221 (b : Blk) := k0_pay321 (R_r_160 b)
def R_r_97 (b : Blk) := k0_pay136 k0_pay93 (R_r_71 b)
def R_r_119 (b : Blk) := k0_pay171 k0_pay93 (R_r_71 b)
def R_r_208 (b : Blk) := k0_pay301 (R_r_160 b)
def R_r_167 (b : Blk) := k0_pay242 (R_r_62 b)
def R_r_213 (b : Blk) := k0_pay308 (R_r_62 b)
def R_r_241 (b : Blk) := k0_pay350 (R_r_164 b) (R_r_213 b)
def R_r_218 (b : Blk) := k0_pay316 (R_r_164 b) (R_r_213 b)
def R_v906 (b : Blk) := (View.ld b.st (Rect.unit ![4, 0, 0] S1x128x128.size inb_S8x128x128_S1x128x128_4_0_0))
def R_r_121 (b : Blk) := k0_pay173 (R_v906 b)
def R_r_68 (b : Blk) := k0_pay96 (R_r_64 b) k0_pay89 (R_r_65 b)
def R_r_74 (b : Blk) := k0_pay102 (R_r_62 b) (R_r_63 b)
def R_r_91 (b : Blk) := k0_pay124 k0_pay93 (R_v660 b)
def R_r_94 (b : Blk) := k0_pay131 k0_pay91 (R_r_67 b) (R_r_68 b) (R_r_69 b) (R_r_72 b) (R_r_74 b) (R_r_88 b) (R_r_89 b) (R_r_91 b) (R_r_92 b) (R_r_93 b)
def R_r_174 (b : Blk) := k0_pay251 (R_r_160 b)
def R_cst_304 (b : Blk) : FVec Ideal S128x128 .f32 := constant S128x128 FTy.f32 0#32
def R_r_197 (b : Blk) := k0_pay284 (R_r_160 b) (R_r_162 b)
def R_r_187 (b : Blk) := k0_pay272 (R_r_160 b)
def R_r_212 (b : Blk) := k0_pay307 (R_r_63 b)
def R_r_226 (b : Blk) := k0_pay328 k0_pay93 (R_r_165 b)
def R_r_117 (b : Blk) := k0_pay168 (R_r_62 b)
def R_r_127 (b : Blk) := k0_pay184 (R_r_71 b)
def R_r_128 (b : Blk) := k0_pay187 (R_r_127 b) (k0_pay185 k0_pay93) k0_pay186
def R_r_129 (b : Blk) := k0_pay188 k0_pay93 (R_r_127 b)
def R_r_130 (b : Blk) := k0_pay189 (R_v986 b)
def R_r_135 (b : Blk) := k0_pay196 (R_r_70 b) (R_r_117 b)
def R_r_136 (b : Blk) := k0_pay197 (R_r_67 b)
def R_S0_5 (b : Blk) : Vec Ideal S1x128x128 .f32 := k0_pay203 k0_pay93 (R_r_70 b) (R_r_117 b) (R_r_128 b) (R_r_129 b) (R_r_130 b) (R_r_135 b) (R_r_136 b) (R_r_137 b)
def R_v1662 (b : Blk) := (R_S0_5 b)
def R_r_228 (b : Blk) := k0_pay330 k0_pay93 (R_v1662 b)
def R_r_229 (b : Blk) := k0_pay331 k0_pay93 (R_v1662 b)
def R_r_230 (b : Blk) := k0_pay332 (R_r_160 b)
def R_r_231 (b : Blk) := k0_pay333 k0_pay91 (R_r_160 b) (R_r_162 b) (R_r_163 b) (R_r_214 b)
def R_r_232 (b : Blk) := k0_pay337 k0_pay91 (R_r_160 b) (R_r_162 b) (R_r_163 b) (R_r_212 b) (R_r_214 b) (R_r_225 b) (R_r_226 b) (R_r_228 b) (R_r_229 b) (R_r_230 b) (R_r_231 b)
def R_r_210 (b : Blk) := k0_pay303 (R_r_160 b) (R_r_162 b) (R_r_168 b)
def R_r_57 (b : Blk) := k0_pay79 (R_r_15 b) (R_r_16 b) (R_r_46 b) (R_r_47 b) (R_r_48 b)
def R_r_170 (b : Blk) := k0_pay246 (R_r_61 b) k0_pay93
def R_r_172 (b : Blk) := k0_pay248 k0_pay93 (R_v1256 b)
def R_r_173 (b : Blk) := k0_pay249 k0_pay93 (R_v1256 b)
def R_r_175 (b : Blk) := k0_pay252 (R_r_62 b) (R_r_63 b) k0_pay91 (R_r_159 b) (R_r_160 b)
def R_r_176 (b : Blk) := k0_pay255 k0_pay91 (R_r_160 b) (R_r_162 b) (R_r_163 b) (R_r_166 b) (R_r_168 b) (R_r_169 b) (R_r_170 b) (R_r_172 b) (R_r_173 b) (R_r_174 b) (R_r_175 b)
def R_r_202 (b : Blk) := k0_pay293 (R_v1496 b)
def R_r_209 (b : Blk) := k0_pay302 (R_r_160 b)
def R_r_86 (b : Blk) := k0_pay116 k0_pay91 (R_r_67 b) (R_r_68 b) (R_r_69 b) (R_r_74 b)
def R_r_251 (b : Blk) := k0_pay363 (R_r_160 b)
def R_r_103 (b : Blk) := k0_pay144 (R_r_70 b) (R_r_73 b)
def R_r_105 (b : Blk) := k0_pay146 (R_r_67 b)
def R_r_96 (b : Blk) := k0_pay135 k0_pay93 (R_r_71 b)
def R_v740 (b : Blk) := (View.ld b.st (Rect.unit ![2, 0, 0] S1x128x128.size inb_S8x128x128_S1x128x128_2_0_0))
def R_r_98 (b : Blk) := k0_pay137 (R_v740 b)
def R_S0_2 (b : Blk) : Vec Ideal S1x128x128 .f32 := k0_pay150 k0_pay93 (R_r_70 b) (R_r_73 b) (R_r_96 b) (R_r_97 b) (R_r_98 b) (R_r_103 b) (R_r_104 b) (R_r_105 b)
def R_v1416 (b : Blk) := (R_S0_2 b)
def R_r_195 (b : Blk) := k0_pay282 k0_pay93 (R_v1416 b)
def R_r_118 (b : Blk) := k0_pay169 (R_r_62 b) (R_r_63 b)
def R_r_153 (b : Blk) := k0_pay225 k0_pay91 (R_r_67 b) (R_r_68 b) (R_r_69 b) (R_r_118 b)
def R_r_141 (b : Blk) := k0_pay205 k0_pay93 (R_r_71 b)
def R_r_100 (b : Blk) := k0_pay139 k0_pay93 (R_v740 b)
def R_r_101 (b : Blk) := k0_pay142 k0_pay91 (R_r_67 b) (R_r_68 b) (R_r_69 b) (R_r_74 b)
def R_r_106 (b : Blk) := k0_pay147 (R_r_68 b)
def R_r_99 (b : Blk) := k0_pay138 k0_pay93 (R_v740 b)
def R_r_107 (b : Blk) := k0_pay149 k0_pay91 (R_r_69 b) (R_r_72 b) (R_r_74 b) (R_r_96 b) (R_r_97 b) (R_r_99 b) (R_r_100 b) (R_r_101 b) (R_r_102 b) (R_r_105 b) (R_r_106 b)
def R_r_113 (b : Blk) := k0_pay163 k0_pay91 k0_pay93 (R_r_67 b) (R_r_68 b) (R_r_69 b) (R_r_72 b) (R_r_74 b) (R_r_108 b) (R_r_109 b) (R_r_110 b) (k0_pay155 k0_pay93) k0_pay156
def R_r_116 (b : Blk) := k0_pay167 (R_r_63 b)
def R_r_120 (b : Blk) := k0_pay172 k0_pay93 (R_r_71 b)
def R_r_122 (b : Blk) := k0_pay174 k0_pay93 (R_v906 b)
def R_r_123 (b : Blk) := k0_pay175 k0_pay93 (R_v906 b)
def R_r_124 (b : Blk) := k0_pay176 (R_r_67 b)
def R_r_125 (b : Blk) := k0_pay177 (R_r_62 b) (R_r_63 b) (R_r_67 b) (R_r_68 b)
def R_r_126 (b : Blk) := k0_pay182 k0_pay91 (R_r_67 b) (R_r_68 b) (R_r_69 b) (R_r_116 b) (R_r_118 b) (R_r_119 b) (R_r_120 b) (R_r_122 b) (R_r_123 b) (R_r_124 b) (R_r_125 b) k0_pay178
def R_r_131 (b : Blk) := k0_pay190 k0_pay93 (R_v986 b)
def R_r_132 (b : Blk) := k0_pay191 k0_pay93 (R_v986 b)
def R_r_133 (b : Blk) := k0_pay194 k0_pay91 (R_r_67 b) (R_r_68 b) (R_r_69 b) (R_r_118 b)
def R_r_134 (b : Blk) := k0_pay195 (R_r_67 b) (R_r_116 b)
def R_r_138 (b : Blk) := k0_pay199 k0_pay91 (R_r_67 b) (R_r_68 b) (R_r_118 b)
def R_r_139 (b : Blk) := k0_pay200 (R_r_69 b)
def R_r_140 (b : Blk) := k0_pay202 (R_r_116 b) (R_r_128 b) (R_r_129 b) (R_r_131 b) (R_r_132 b) (R_r_133 b) (R_r_134 b) (R_r_137 b) (R_r_138 b) (R_r_139 b)
def R_r_142 (b : Blk) := k0_pay206 k0_pay93 (R_r_71 b)
def R_v1066 (b : Blk) := (View.ld b.st (Rect.unit ![6, 0, 0] S1x128x128.size inb_S8x128x128_S1x128x128_6_0_0))
def R_r_144 (b : Blk) := k0_pay208 k0_pay93 (R_v1066 b)
def R_r_145 (b : Blk) := k0_pay209 k0_pay93 (R_v1066 b)
def R_r_146 (b : Blk) := k0_pay214 k0_pay91 (R_r_67 b) (R_r_68 b) (R_r_69 b) (R_r_116 b) (R_r_118 b) (R_r_141 b) (R_r_142 b) (R_r_144 b) (R_r_145 b)
def R_r_148 (b : Blk) := k0_pay218 k0_pay93 (R_r_71 b)
def R_r_149 (b : Blk) := k0_pay219 k0_pay93 (R_r_71 b)
def R_v1146 (b : Blk) := (View.ld b.st (Rect.unit ![7, 0, 0] S1x128x128.size inb_S8x128x128_S1x128x128_7_0_0))
def R_r_151 (b : Blk) := k0_pay221 k0_pay93 (R_v1146 b)
def R_r_152 (b : Blk) := k0_pay222 k0_pay93 (R_v1146 b)
def R_r_154 (b : Blk) := k0_pay226 (R_r_67 b) (R_r_116 b)
def R_r_79 (b : Blk) := k0_pay107 k0_pay93 (View.ld b.st (Rect.unit ![0, 0, 0] S1x128x128.size inb_S8x128x128_S1x128x128_0_0_0))
def R_r_80 (b : Blk) := k0_pay108 k0_pay93 (View.ld b.st (Rect.unit ![0, 0, 0] S1x128x128.size inb_S8x128x128_S1x128x128_0_0_0))
def R_r_81 (b : Blk) := k0_pay111 k0_pay91 (R_r_67 b) (R_r_68 b) (R_r_69 b) (R_r_74 b)
def R_r_82 (b : Blk) := k0_pay112 (R_r_67 b) (R_r_72 b)
def R_r_87 (b : Blk) := k0_pay118 (R_r_72 b) (R_r_76 b) (R_r_77 b) (R_r_79 b) (R_r_80 b) (R_r_81 b) (R_r_82 b) (R_r_85 b) (R_r_86 b)
def R_r_158 (b : Blk) := k0_pay233 k0_pay91 (R_r_68 b) (R_r_69 b) (R_r_87 b) (R_r_94 b) (R_r_107 b) (R_r_113 b) (R_r_116 b) (R_r_118 b) (R_r_126 b) (R_r_140 b) (R_r_146 b) (R_r_148 b) (R_r_149 b) (R_r_151 b) (R_r_152 b) (R_r_153 b) (R_r_154 b) (R_r_157 b)
def R_r_191 (b : Blk) := k0_pay278 k0_pay93 (R_r_165 b)
def R_r_192 (b : Blk) := k0_pay279 k0_pay93 (R_r_165 b)
def R_r_194 (b : Blk) := k0_pay281 k0_pay93 (R_v1416 b)
def R_r_196 (b : Blk) := k0_pay283 (R_r_160 b)
def R_r_198 (b : Blk) := k0_pay288 k0_pay91 (R_r_160 b) (R_r_162 b) (R_r_163 b) (R_r_166 b) (R_r_168 b) (R_r_191 b) (R_r_192 b) (R_r_194 b) (R_r_195 b) (R_r_196 b) (R_r_197 b)
def R_r_200 (b : Blk) := k0_pay291 k0_pay93 (R_r_199 b)
def R_r_204 (b : Blk) := k0_pay295 k0_pay93 (R_v1496 b)
def R_r_205 (b : Blk) := k0_pay298 k0_pay91 (R_r_160 b) (R_r_162 b) (R_r_163 b) (R_r_168 b)
def R_r_206 (b : Blk) := k0_pay299 (R_r_160 b) (R_r_166 b)
def R_r_211 (b : Blk) := k0_pay305 k0_pay91 (R_r_163 b) (R_r_166 b) (R_r_200 b) (R_r_201 b) (R_r_203 b) (R_r_204 b) (R_r_205 b) (R_r_206 b) (R_r_209 b) (R_r_210 b)
def R_cst_300 (b : Blk) : Ideal .f32 := FloatOps.ofBits FTy.f32 0#32
def R_r_215 (b : Blk) := k0_pay311 k0_pay93 (R_r_165 b)
def R_r_216 (b : Blk) := k0_pay312 k0_pay93 (R_r_165 b)
def R_S0_4 (b : Blk) : Vec Ideal S1x128x128 .f32 := k0_pay183 k0_pay93 (R_r_67 b) (R_r_70 b) (R_r_117 b) (R_r_119 b) (R_r_120 b) (R_r_121 b) (R_r_124 b)
def R_v1582 (b : Blk) := (R_S0_4 b)
def R_r_217 (b : Blk) := k0_pay313 (R_v1582 b)
def R_r_222 (b : Blk) := k0_pay322 k0_pay93 (R_r_215 b) (R_r_216 b) (R_r_217 b) (R_cst_300 b)
def R_r_223 (b : Blk) := k0_pay323 k0_pay91 (R_r_160 b) (R_r_162 b) (R_r_163 b) (R_r_212 b) (R_r_214 b)
def R_r_224 (b : Blk) := k0_pay324 (R_r_222 b) (R_r_223 b) (R_cst_304 b)
def R_r_234 (b : Blk) := k0_pay340 k0_pay93 (R_r_165 b)
def R_r_233 (b : Blk) := k0_pay339 (R_r_165 b)
def R_r_235 (b : Blk) := k0_pay342 (R_r_233 b) (R_cst_300 b) (k0_pay341 k0_pay93)
def R_r_143 (b : Blk) := k0_pay207 (R_v1066 b)
def R_r_147 (b : Blk) := k0_pay215 k0_pay93 (R_r_67 b) (R_r_70 b) (R_r_117 b) (R_r_141 b) (R_r_142 b) (R_r_143 b)
def R_S0_6 (b : Blk) : Vec Ideal S1x128x128 .f32 := k0_pay216 (R_r_147 b)
def R_v1742 (b : Blk) := (R_S0_6 b)
def R_r_237 (b : Blk) := k0_pay344 k0_pay93 (R_v1742 b)
def R_r_238 (b : Blk) := k0_pay345 k0_pay93 (R_v1742 b)
def R_r_240 (b : Blk) := k0_pay349 (R_r_160 b) (R_r_212 b)
def R_r_243 (b : Blk) := k0_pay353 (R_r_160 b)
def R_r_244 (b : Blk) := k0_pay354 k0_pay91 (R_r_160 b) (R_r_162 b) (R_r_163 b) (R_r_214 b)
def R_r_245 (b : Blk) := k0_pay355 (R_r_212 b) (R_r_234 b) (R_r_235 b) (R_r_237 b) (R_r_238 b) (R_r_239 b) (R_r_240 b) (R_r_243 b) (R_r_244 b)
def R_r_246 (b : Blk) := k0_pay358 k0_pay93 (R_r_165 b)
def R_r_247 (b : Blk) := k0_pay359 k0_pay93 (R_r_165 b)
def R_r_150 (b : Blk) := k0_pay220 (R_v1146 b)
def R_r_155 (b : Blk) := k0_pay227 (R_r_70 b) (R_r_117 b)
def R_r_156 (b : Blk) := k0_pay228 (R_r_67 b)
def R_S0_7 (b : Blk) : Vec Ideal S1x128x128 .f32 := k0_pay232 k0_pay93 (R_r_70 b) (R_r_117 b) (R_r_148 b) (R_r_149 b) (R_r_150 b) (R_r_155 b) (R_r_156 b) (R_r_157 b)
def R_v1822 (b : Blk) := (R_S0_7 b)
def R_r_249 (b : Blk) := k0_pay361 k0_pay93 (R_v1822 b)
def R_r_250 (b : Blk) := k0_pay362 k0_pay93 (R_v1822 b)
def R_r_252 (b : Blk) := k0_pay364 (R_r_162 b)
def R_r_253 (b : Blk) := k0_pay368 k0_pay91 (R_r_160 b) (R_r_162 b) (R_r_163 b) (R_r_212 b) (R_r_214 b) (R_r_246 b) (R_r_247 b) (R_r_249 b) (R_r_250 b) (R_r_251 b) (R_r_252 b)
def R_r_4 (b : Blk) := k0_pay14 (R_r_1 b) (View.ld b.x4 (Rect.unit ![0, 0] S1024x1024.size inb_S1024x1024_S1024x1024_0_0))
def R_r_255 (b : Blk) := k0_pay370 (R_r_4 b) (R_r_58 b) (R_r_61 b) (R_r_158 b) (R_r_176 b) (R_r_190 b) (R_r_198 b) (R_r_211 b) (R_r_224 b) (R_r_232 b) (R_r_245 b) (R_r_253 b) (View.ld b.x18 (Rect.unit ![0, 0] S1x1024.size inb_S1x1024_S1x1024_0_0)) (View.ld b.x19 (Rect.unit ![0, 0] S1x1024.size inb_S1x1024_S1x1024_0_0)) (View.ld b.x20 (Rect.unit ![0, 0] S1024x1024.size inb_S1024x1024_S1024x1024_0_0)) (View.ld b.x21 (Rect.unit ![0, 0] S1024x1024.size inb_S1024x1024_S1024x1024_0_0))
def R_r_180 (b : Blk) := k0_pay262 (R_v1336 b)
def R_r_242 (b : Blk) := k0_pay351 (R_r_160 b)
def R_r_227 (b : Blk) := k0_pay329 (R_v1662 b)
def R_r_236 (b : Blk) := k0_pay343 (R_v1742 b)
def R_r_207 (b : Blk) := k0_pay300 (R_r_164 b) (R_r_167 b)
def R_r_257 (b : Blk) := k0_pay372 (R_r_4 b) (R_r_58 b) (R_r_61 b) (R_r_158 b) (R_r_176 b) (R_r_190 b) (R_r_198 b) (R_r_211 b) (R_r_224 b) (R_r_232 b) (R_r_245 b) (R_r_253 b) (View.ld b.x18 (Rect.unit ![0, 0] S1x1024.size inb_S1x1024_S1x1024_0_0)) (View.ld b.x19 (Rect.unit ![0, 0] S1x1024.size inb_S1x1024_S1x1024_0_0)) (View.ld b.x20 (Rect.unit ![0, 0] S1024x1024.size inb_S1024x1024_S1024x1024_0_0)) (View.ld b.x21 (Rect.unit ![0, 0] S1024x1024.size inb_S1024x1024_S1024x1024_0_0))
def R_r_219 (b : Blk) := k0_pay317 (R_r_160 b)
def R_r_248 (b : Blk) := k0_pay360 (R_v1822 b)
def R_r (b : Blk) := k0_pay8 (View.ld b.x0 (Rect.unit ![0, 0, 0] S1x256x1024.size inb_S1x256x1024_S1x256x1024_0_0_0))
def R_r_220 (b : Blk) := k0_pay320 (R_r_164 b) (R_r_213 b)
def R_r_185 (b : Blk) := k0_pay269 (R_r_164 b) (R_r_167 b)
def R_r_186 (b : Blk) := k0_pay270 (R_r_160 b)
def R_r_171 (b : Blk) := k0_pay247 (R_v1256 b)
def R_r_254 (b : Blk) := k0_pay369 k0_pay93 (R_r_160 b) (R_r_164 b) (R_r_213 b) (R_r_246 b) (R_r_247 b) (R_r_248 b) (R_r_251 b)
def R_r_256 (b : Blk) := k0_pay371 (View.ld b.x22 (Rect.unit ![0, 0] S1x1024.size inb_S1x1024_S1x1024_0_0))
def R_r_193 (b : Blk) := k0_pay280 (R_v1416 b)
def R_S1_0 (b : Blk) : Vec Ideal S1x128x128 .f32 := k0_pay256 k0_pay93 (R_r_160 b) (R_r_164 b) (R_r_167 b) (R_r_169 b) (R_r_170 b) (R_r_171 b) (R_r_174 b)
def R_S1_1 (b : Blk) : Vec Ideal S1x128x128 .f32 := k0_pay276 k0_pay93 (R_r_164 b) (R_r_167 b) (R_r_178 b) (R_r_179 b) (R_r_180 b) (R_r_185 b) (R_r_186 b) (R_r_187 b)
def R_S1_2 (b : Blk) : Vec Ideal S1x128x128 .f32 := k0_pay289 k0_pay93 (R_r_160 b) (R_r_164 b) (R_r_167 b) (R_r_191 b) (R_r_192 b) (R_r_193 b) (R_r_196 b)
def R_S1_3 (b : Blk) : Vec Ideal S1x128x128 .f32 := k0_pay306 k0_pay93 (R_r_164 b) (R_r_167 b) (R_r_200 b) (R_r_201 b) (R_r_202 b) (R_r_207 b) (R_r_208 b) (R_r_209 b)
def R_S1_4 (b : Blk) : Vec Ideal S1x128x128 .f32 := k0_pay325 k0_pay93 (R_r_215 b) (R_r_216 b) (R_r_217 b) (R_r_218 b) (R_r_219 b) (R_r_220 b) (R_r_221 b)
def R_S1_5 (b : Blk) : Vec Ideal S1x128x128 .f32 := k0_pay338 k0_pay93 (R_r_160 b) (R_r_164 b) (R_r_213 b) (R_r_225 b) (R_r_226 b) (R_r_227 b) (R_r_230 b)
def R_S1_6 (b : Blk) : Vec Ideal S1x128x128 .f32 := k0_pay356 k0_pay93 (R_r_164 b) (R_r_213 b) (R_r_234 b) (R_r_235 b) (R_r_236 b) (R_r_241 b) (R_r_242 b) (R_r_243 b)
def R_S1_7 (b : Blk) : Vec Ideal S1x128x128 .f32 := (R_r_254 b)

/-- What the block leaves: its rows of the result, and the carried arrays. -/
def R_out (b : Blk) := k0_pay1 (F := Ideal) (R_r b) (R_r_255 b) (R_r_256 b) (R_r_257 b)
def R_carry (b : Blk) := k0_pay80 (F := Ideal) (R_r_57 b)

end Cert.Mix

end
-- ==== Proof.MixMath.lean ====
module

public import Idealize.ShloMosaic.PureOps.Ideal
public import Idealize.ShloMosaic.Lib.Pointwise

@[expose] public section

/-! The arithmetic of the mixer over the extended reals: the composed affine steps of the gated recurrence, the
    chunked form of the state-space recurrence, and which operations keep a value real. -/

noncomputable section

namespace Cert.Mix

open Idealize.ShloMosaic

/-! ## The gated recurrence: affine steps compose -/

theorem coe_left_distrib {r : ℝ} (h : 0 ≤ r) (b c : EReal) : (r : EReal) * (b + c) = r * b + r * c :=
  EReal.left_distrib_of_nonneg_of_ne_top (by exact_mod_cast h) (EReal.coe_ne_top r) b c

/-- Two affine steps in a row are one, with the product of the factors. -/
theorem affine_comp {r : ℝ} (h : 0 ≤ r) (u v a z : EReal) :
    (u + (r : EReal) * v) + ((r : EReal) * a) * z = u + (r : EReal) * (v + a * z) := by
  rw [coe_left_distrib h, mul_assoc, add_assoc]

/-- One doubling of eight rows at distance `d`: the rows below `d` are left as they are. -/
def dblU (d : ℕ) (A U : ℕ → EReal) (s : ℕ) : EReal := U s + A s * (if d ≤ s then U (s - d) else 0)
def dblA (d : ℕ) (A : ℕ → EReal) (s : ℕ) : EReal := A s * (if d ≤ s then A (s - d) else 1)

/-- The recurrence from `h`, after `n` steps. -/
def rec1 (A U : ℕ → EReal) (h : EReal) : ℕ → EReal
  | 0 => h
  | n + 1 => U n + A n * rec1 A U h n

/-- A factor that is a real number and not negative. -/
def NN (x : EReal) : Prop := ∃ r : ℝ, 0 ≤ r ∧ x = (r : EReal)

theorem NN.mul {x y : EReal} : NN x → NN y → NN (x * y) := fun ⟨a, ha, ea⟩ ⟨b, hb, eb⟩ =>
  ⟨a * b, mul_nonneg ha hb, by rw [ea, eb]; rfl⟩
theorem NN.one : NN 1 := ⟨1, zero_le_one, rfl⟩

theorem dblA_nn {d : ℕ} {A : ℕ → EReal} (hA : ∀ s, NN (A s)) (s : ℕ) : NN (dblA d A s) := by
  unfold dblA
  split
  · exact (hA s).mul (hA _)
  · exact (hA s).mul NN.one

theorem dbl_apply {d : ℕ} {A : ℕ → EReal} (hA : ∀ s, NN (A s)) (U : ℕ → EReal) (s : ℕ) (z : EReal) :
    dblU d A U s + dblA d A s * z = U s + A s * (if d ≤ s then U (s - d) + A (s - d) * z else z) := by
  obtain ⟨r, hr, e⟩ := hA s
  unfold dblU dblA
  split
  · rw [e, affine_comp hr]
  · rw [mul_zero, add_zero, mul_one]

theorem dbl_eight (A U : ℕ → EReal) (hA : ∀ s, NN (A s)) (h : EReal) (s : ℕ) (hs : s < 8) :
    dblU 4 (dblA 2 (dblA 1 A)) (dblU 2 (dblA 1 A) (dblU 1 A U)) s
      + dblA 4 (dblA 2 (dblA 1 A)) s * h = rec1 A U h (s + 1) := by
  rw [dbl_apply (dblA_nn (dblA_nn hA))]
  simp only [dbl_apply (dblA_nn hA), dbl_apply hA]
  interval_cases s <;> simp [rec1]

/-! ## The hyperbolic form of `1 - a²` -/

theorem tanh_expm1 (l : EReal) :
    (0 - Ideal.tanh l) * (Ideal.exp l * Ideal.exp l + 1) = -(Ideal.exp (2 * l) - 1) := by
  induction l with
  | bot =>
    have h2 : (2 : EReal) * ⊥ = ⊥ := EReal.mul_bot_of_pos (by norm_num)
    rw [h2]; simp only [Ideal.tanh_bot, Ideal.exp_bot]
    norm_num
  | top =>
    have h2 : (2 : EReal) * ⊤ = ⊤ := EReal.mul_top_of_pos (by norm_num)
    rw [h2]; simp only [Ideal.tanh_top, Ideal.exp_top]
    have : (⊤ : EReal) * ⊤ + 1 = ⊤ := by rw [EReal.top_mul_top]; rfl
    rw [this]
    have h3 : (0 : EReal) - 1 = ((-1 : ℝ) : EReal) := by norm_num
    rw [h3, EReal.coe_mul_top_of_neg (by norm_num)]
    have h4 : (⊤ : EReal) - 1 = ⊤ := by rfl
    rw [h4]; rfl
  | coe x =>
    have h2 : (2 : EReal) * (x : EReal) = ((2 * x : ℝ) : EReal) := by push_cast; rfl
    rw [h2]; simp only [Ideal.tanh_coe, Ideal.exp_coe]
    have : ((0 - Real.tanh x) * (Real.exp x * Real.exp x + 1) : ℝ) = -(Real.exp (2 * x) - 1) := by
      rw [Real.tanh_eq_sinh_div_cosh, Real.sinh_eq, Real.cosh_eq]
      have e1 : Real.exp (-x) = (Real.exp x)⁻¹ := Real.exp_neg x
      have e2 : Real.exp (2 * x) = Real.exp x * Real.exp x := by rw [← Real.exp_add]; congr 1; ring
      have p := Real.exp_pos x
      rw [e1, e2]
      field_simp
      ring
    exact_mod_cast congrArg (fun r : ℝ => (r : EReal)) this

/-! ## Real values -/

theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The value is a real number. -/
def Fin' (x : EReal) : Prop := ∃ r : ℝ, x = (r : EReal)

theorem Fin'.coe (r : ℝ) : Fin' (r : EReal) := ⟨r, rfl⟩
theorem Fin'.zero : Fin' 0 := ⟨0, rfl⟩
theorem Fin'.one : Fin' 1 := ⟨1, rfl⟩
theorem Fin'.add {x y : EReal} : Fin' x → Fin' y → Fin' (x + y) := fun ⟨a, ha⟩ ⟨b, hb⟩ => ⟨a + b, by rw [ha, hb]; rfl⟩
theorem Fin'.mul {x y : EReal} : Fin' x → Fin' y → Fin' (x * y) := fun ⟨a, ha⟩ ⟨b, hb⟩ => ⟨a * b, by rw [ha, hb]; rfl⟩
theorem Fin'.neg {x : EReal} : Fin' x → Fin' (-x) := fun ⟨a, ha⟩ => ⟨-a, by rw [ha]; rfl⟩
theorem Fin'.sub {x y : EReal} : Fin' x → Fin' y → Fin' (x - y) := fun ⟨a, ha⟩ ⟨b, hb⟩ => ⟨a - b, by rw [ha, hb]; rfl⟩
theorem Fin'.exp {x : EReal} : Fin' x → Fin' (Ideal.exp x) := fun ⟨a, ha⟩ => ⟨Real.exp a, by rw [ha]; rfl⟩
theorem Fin'.max {x y : EReal} (hx : Fin' x) (hy : Fin' y) : Fin' (max x y) := by
  rcases max_choice x y with h | h <;> rw [h] <;> assumption
theorem Fin'.sum {n : ℕ} {f : Fin n → EReal} (h : ∀ k, Fin' (f k)) : Fin' (∑ k, f k) := by
  choose g hg using h
  refine ⟨∑ k, g k, ?_⟩
  rw [Finset.sum_congr rfl fun k _ => hg k]
  exact (coe_sum _ _).symm

theorem Fin'.sub_self {x : EReal} : Fin' x → x - x = 0 := fun ⟨a, ha⟩ => by
  rw [ha, ← EReal.coe_sub, _root_.sub_self]; rfl

theorem fin'_iff {x : EReal} : Fin' x ↔ x ≠ ⊥ ∧ x ≠ ⊤ := by
  constructor
  · rintro ⟨r, rfl⟩; exact ⟨EReal.coe_ne_bot r, EReal.coe_ne_top r⟩
  · rintro ⟨h1, h2⟩; lift x to ℝ using ⟨h2, h1⟩; exact ⟨x, rfl⟩

/-- `1 / (1 + e^(-x))` is real for every `x`, and not negative. -/
theorem logistic_nonneg_fin (x : EReal) : ∃ r : ℝ, 0 ≤ r ∧ Ideal.div 1 (1 + Ideal.exp (-x)) = (r : EReal) := by
  induction x with
  | bot =>
    refine ⟨0, le_rfl, ?_⟩
    have : (1 : EReal) + ⊤ = ⊤ := by rfl
    simp [Ideal.div, this]
  | top =>
    refine ⟨1, by norm_num, ?_⟩
    simp [Ideal.div]
  | coe x =>
    have p := Real.exp_pos (-x)
    refine ⟨1 * (1 + Real.exp (-x))⁻¹, by positivity, ?_⟩
    have e : (1 : EReal) + Ideal.exp (-(x : EReal)) = ((1 + Real.exp (-x) : ℝ) : EReal) := by
      rw [← EReal.coe_neg, Ideal.exp_coe]; rfl
    rw [e]
    have hne : ((1 + Real.exp (-x) : ℝ) : EReal) ≠ 0 := by
      intro h; have h' : (1 + Real.exp (-x) : ℝ) = 0 := by exact_mod_cast h
      linarith
    unfold Ideal.div
    rw [if_neg hne]
    rfl

theorem logistic_fin (x : EReal) : Fin' (Ideal.div 1 (1 + Ideal.exp (-x))) :=
  let ⟨r, _, h⟩ := logistic_nonneg_fin x; ⟨r, h⟩

/-- `log (1 + e^x)` is real for a real `x`. -/
theorem log1p_exp_fin {x : EReal} : Fin' x → Fin' (Ideal.log1p (Ideal.exp x)) := fun ⟨a, ha⟩ => by
  have p := Real.exp_pos a
  refine ⟨Real.log (1 + Real.exp a), ?_⟩
  have e : (1 : EReal) + ((Real.exp a : ℝ) : EReal) = ((1 + Real.exp a : ℝ) : EReal) := rfl
  rw [ha, Ideal.log1p, Ideal.exp_coe, e, Ideal.log_coe, if_neg (by linarith)]

/-- `log (1 + e^x)` is never negative. -/
theorem log1p_exp_nonneg (x : EReal) : 0 ≤ Ideal.log1p (Ideal.exp x) := by
  induction x with
  | bot =>
    simp only [Ideal.log1p, Ideal.exp_bot, add_zero]
    show 0 ≤ Ideal.log ((1 : ℝ) : EReal)
    rw [Ideal.log_coe, if_neg (by norm_num), Real.log_one]; exact le_rfl
  | top =>
    have : (1 : EReal) + ⊤ = ⊤ := by rfl
    simp [Ideal.log1p, this]
  | coe x =>
    have p := Real.exp_pos x
    have e : (1 : EReal) + ((Real.exp x : ℝ) : EReal) = ((1 + Real.exp x : ℝ) : EReal) := rfl
    rw [Ideal.log1p, Ideal.exp_coe, e, Ideal.log_coe, if_neg (by linarith)]
    exact_mod_cast Real.log_nonneg (by linarith)

/-- The reciprocal root of a mean square plus a positive constant times the value: real for every row. -/
theorem mul_rsqrt_fin {n : ℕ} (x : Fin n → EReal) (c d : ℝ) (hc : 0 < c) (hd : 0 < d) (k : Fin n) :
    Fin' (x k * Ideal.rsqrt (Ideal.div (∑ k, x k * x k) (c : EReal) + (d : EReal))) := by
  have hnn : 0 ≤ ∑ k, x k * x k := Finset.sum_nonneg fun k _ => by
    induction x k with
    | bot => rw [EReal.bot_mul_bot]; exact le_top
    | top => rw [EReal.top_mul_top]; exact le_top
    | coe r => exact_mod_cast mul_self_nonneg r
  have hle : x k * x k ≤ ∑ k, x k * x k := Finset.single_le_sum (f := fun k => x k * x k) (fun k _ => by
    induction x k with
    | bot => rw [EReal.bot_mul_bot]; exact le_top
    | top => rw [EReal.top_mul_top]; exact le_top
    | coe r => exact_mod_cast mul_self_nonneg r) (Finset.mem_univ k)
  have hc0 : (c : EReal) ≠ 0 := by intro h; have : c = 0 := by exact_mod_cast h
                                   linarith
  unfold Ideal.div
  rw [if_neg hc0]
  have hci : ((c : EReal))⁻¹ = ((c⁻¹ : ℝ) : EReal) := rfl
  rw [hci]
  generalize (∑ k, x k * x k) = s at hnn hle
  induction s with
  | bot => exact absurd hnn (by simp)
  | top =>
    have h1 : (⊤ : EReal) * ((c⁻¹ : ℝ) : EReal) = ⊤ := EReal.top_mul_coe_of_pos (by positivity)
    have h2 : (⊤ : EReal) + (d : EReal) = ⊤ := rfl
    rw [h1, h2, Ideal.rsqrt_top, mul_zero]; exact Fin'.zero
  | coe r =>
    have hr : 0 ≤ r := by exact_mod_cast hnn
    have h1 : (r : EReal) * ((c⁻¹ : ℝ) : EReal) + (d : EReal) = ((r * c⁻¹ + d : ℝ) : EReal) := rfl
    have hp : 0 < r * c⁻¹ + d := by positivity
    rw [h1, Ideal.rsqrt_coe, if_neg (by linarith), if_neg (by linarith)]
    refine Fin'.mul ?_ (Fin'.coe _)
    revert hle
    induction x k with
    | bot => intro h; rw [EReal.bot_mul_bot] at h; exact absurd (top_le_iff.mp h) (EReal.coe_ne_top r)
    | top => intro h; rw [EReal.top_mul_top] at h; exact absurd (top_le_iff.mp h) (EReal.coe_ne_top r)
    | coe q => intro _; exact Fin'.coe q

/-! ## The state-space recurrence in chunks -/

/-- The state after `k` tokens of a chunk, for one lane of the state: `S ↦ e^(α_k) S + (X_k dt_k) B_k`. -/
def ssm (α dt X B : ℕ → ℝ) (S0 : ℝ) : ℕ → ℝ
  | 0 => S0
  | k + 1 => Real.exp (α k) * ssm α dt X B S0 k + (X k * dt k) * B k

def cum (α : ℕ → ℝ) (k : ℕ) : ℝ := ∑ j ∈ Finset.range (k + 1), α j

theorem ssm_closed (α dt X B : ℕ → ℝ) (S0 : ℝ) (k : ℕ) :
    ssm α dt X B S0 (k + 1) = Real.exp (cum α k) * S0
      + ∑ j ∈ Finset.range (k + 1), Real.exp (cum α k - cum α j) * dt j * X j * B j := by
  induction k with
  | zero => simp only [ssm, cum, Finset.sum_range_succ, Finset.sum_range_zero, zero_add, sub_self, Real.exp_zero]; ring
  | succ k ih =>
    have hc : cum α (k + 1) = cum α k + α (k + 1) := Finset.sum_range_succ _ _
    have h2 : ∀ j, Real.exp (cum α (k + 1) - cum α j) = Real.exp (α (k+1)) * Real.exp (cum α k - cum α j) := fun j => by
      rw [← Real.exp_add, hc]; congr 1; ring
    rw [Finset.sum_range_succ _ (k + 1), sub_self, Real.exp_zero]
    simp only [h2]
    rw [ssm, ih, mul_add, Finset.mul_sum, hc, Real.exp_add]
    have h3 : ∀ j ∈ Finset.range (k+1), Real.exp (α (k+1)) * (Real.exp (cum α k - cum α j) * dt j * X j * B j)
      = Real.exp (α (k+1)) * Real.exp (cum α k - cum α j) * dt j * X j * B j := fun j _ => by ring
    rw [Finset.sum_congr rfl h3]
    ring

end Cert.Mix

end
-- ==== Proof.MixSpec.lean ====
module

public import proofs.«01_k».proof.Proof.MixMath
public import Idealize.ShloMosaic.PureOps.Ideal

/-!
  The mixer, written down once for both programs: every value at a token as a function of the weights and of the tokens of
  one sequence up to it.
-/

@[expose] public section

noncomputable section

namespace Cert.Mix

open Idealize.ShloMosaic

/-- The mixer's weights. -/
structure Wt where
  pre : Fin 1024 → EReal
  win : Fin 1024 → Fin 4624 → EReal
  lcw : Fin 4 → Fin 1024 → EReal
  lcb : Fin 1024 → EReal
  wa : Fin 16 → Fin 64 → Fin 64 → EReal
  ba : Fin 1024 → EReal
  wx : Fin 16 → Fin 64 → Fin 64 → EReal
  bx : Fin 1024 → EReal
  lam : Fin 1024 → EReal
  lno : Fin 1024 → EReal
  scw : Fin 4 → Fin 1536 → EReal
  scb : Fin 1536 → EReal
  dtb : Fin 16 → EReal
  alog : Fin 16 → EReal
  dd : Fin 16 → EReal
  sno : Fin 1024 → EReal
  wout : Fin 2048 → Fin 1024 → EReal
  post : Fin 1024 → EReal

/-- The mean of the squares of a row, plus the small constant of the norm. -/
def msq (x : Fin 1024 → EReal) : EReal :=
  Ideal.div (∑ k, x k * x k) (Ideal.ofBits .f32 0x44800000#32) + Ideal.ofBits .f32 0x358637BD#32

/-- A row divided by its root mean square and scaled. -/
def nrm (x g : Fin 1024 → EReal) (k : Fin 1024) : EReal := x k * Ideal.rsqrt (msq x) * g k

/-- `log (1 + e^x)`, as both programs compute it. -/
def sp (x : EReal) : EReal := max x 0 + Ideal.log1p (Ideal.exp (-(max x (-x))))

def sgm (x : EReal) : EReal := Ideal.div 1 (1 + Ideal.exp (-x))

def silu (x : EReal) : EReal := x * sgm x

def gelu (g : EReal) : EReal :=
  g * (Ideal.ofBits .f32 0x3F000000#32 * (1 + Ideal.tanh (Ideal.ofBits .f32 0x3F4C422A#32
    * (g + Ideal.ofBits .f32 0x3D372713#32 * (g * g * g)))))

/-- The sequence three tokens late, zero before its start. -/
def back (s : ℕ → EReal) (n : ℕ) : EReal := if n < 3 then 0 else s (n - 3)

/-- A causal convolution with four taps. -/
def conv (s : ℕ → EReal) (w : Fin 4 → EReal) (b : EReal) (t : ℕ) : EReal :=
  b + back s t * w 0 + back s (t + 1) * w 1 + back s (t + 2) * w 2 + back s (t + 3) * w 3

variable (W : Wt) (X : ℕ → Fin 1024 → EReal)

/-- The normalised token. -/
def hb (t : ℕ) (k : Fin 1024) : EReal := nrm (X t) W.pre k

/-- A column of the token's projection. -/
def pj (t : ℕ) (c : Fin 4624) : EReal := ∑ k, hb W X t k * W.win k c

def lx (t : ℕ) (l : Fin 1024) : EReal :=
  conv (fun s => pj W X s ⟨l, by omega⟩) (fun k => W.lcw k l) (W.lcb l) t

/-- The product of a token with one of the sixteen square blocks of a gate. -/
def gat (w : Fin 16 → Fin 64 → Fin 64 → EReal) (t : ℕ) (l : Fin 1024) : EReal :=
  ∑ i : Fin 64, lx W X t ⟨64 * (l / 64) + i, by omega⟩ * w ⟨l / 64, by omega⟩ i ⟨l % 64, by omega⟩

def rg (t : ℕ) (l : Fin 1024) : EReal := sgm (gat W X W.wa t l + W.ba l)
def ig (t : ℕ) (l : Fin 1024) : EReal := sgm (gat W X W.wx t l + W.bx l)

def la (t : ℕ) (l : Fin 1024) : EReal := Ideal.ofBits .f32 0xC1000000#32 * rg W X t l * sp (-(W.lam l))
def av (t : ℕ) (l : Fin 1024) : EReal := Ideal.exp (la W X t l)
def uv (t : ℕ) (l : Fin 1024) : EReal :=
  Ideal.sqrt (-(Ideal.exp (2 * la W X t l) - 1)) * (ig W X t l * lx W X t l)

/-- The recurrence's value before token `t`. -/
def hst (t : ℕ) (l : Fin 1024) : EReal := rec1 (fun s => av W X s l) (fun s => uv W X s l) 0 t

def yl (t : ℕ) (l : Fin 1024) : EReal :=
  nrm (fun l => hst W X (t + 1) l * gelu (pj W X t ⟨1024 + l, by omega⟩)) W.lno l

def xbc (t : ℕ) (c : Fin 1536) : EReal :=
  silu (conv (fun s => pj W X s ⟨3072 + c, by omega⟩) (fun k => W.scw k c) (W.scb c) t)

def dt (t : ℕ) (e : Fin 16) : EReal := sp (pj W X t ⟨4608 + e, by omega⟩ + W.dtb e)
def dec (t : ℕ) (e : Fin 16) : EReal := Ideal.exp (dt W X t e * -(Ideal.exp (W.alog e)))

/-- The matrix-valued state before token `t`: lane `L`, state column `n`. -/
def sst : ℕ → Fin 1024 → Fin 128 → EReal
  | 0, _, _ => 0
  | t + 1, L, n => dec W X t ⟨L / 64, by omega⟩ * sst t L n
      + (xbc W X t ⟨L, by omega⟩ * dt W X t ⟨L / 64, by omega⟩) * xbc W X t ⟨1024 + 128 * (L / 512) + n, by omega⟩

/-- The state read out at a token. -/
def yr (t : ℕ) (L : Fin 1024) : EReal :=
  ∑ n : Fin 128, sst W X (t + 1) L n * xbc W X t ⟨1280 + 128 * (L / 512) + n, by omega⟩

def ys (t : ℕ) (L : Fin 1024) : EReal :=
  nrm (fun L => (yr W X t L + W.dd ⟨L / 64, by omega⟩ * xbc W X t ⟨L, by omega⟩) * silu (pj W X t ⟨2048 + L, by omega⟩))
    W.sno L

/-- The two halves beside one another, times the output weights. -/
def mix (t : ℕ) (k : Fin 1024) : EReal :=
  ∑ j : Fin 2048, (if h : (j : ℕ) < 1024 then yl W X t ⟨j, h⟩ else ys W X t ⟨j - 1024, by omega⟩) * W.wout j k

/-- The mixer's result at a token. -/
def outp (t : ℕ) (k : Fin 1024) : EReal := X t k + nrm (mix W X t) W.post k

/-! ## First facts -/

theorem av_nn (t : ℕ) (l : Fin 1024) (h : la W X t l ≠ ⊤) : NN (av W X t l) := by
  unfold av
  induction e : la W X t l with
  | bot => exact ⟨0, le_rfl, by rw [Ideal.exp_bot]; rfl⟩
  | top => exact absurd e h
  | coe r => exact ⟨Real.exp r, (Real.exp_pos r).le, by rw [Ideal.exp_coe]⟩

end Cert.Mix
end
-- ==== Proof.MixKerA.lean ====
module

public import proofs.«01_k».proof.Proof.MixR
public import proofs.«01_k».proof.Proof.MixSpec
public import Idealize.ShloMosaic.Lib.Pointwise

/-!
  One block of the mixer read element by element: the projections, the two convolutions and the gates of the linear
  recurrence are the specification's values at the block's tokens.
-/

@[expose] public section

set_option maxRecDepth 16384

noncomputable section

namespace Cert.Mix

open Cert.KernelIdeal Cert.KernelIdeal.Gen Idealize.ShloMosaic

/-- What the block is given is the specification's: its tokens start at `t0`, its weights are the layer's, and what is
    carried is what the tokens before `t0` leave. -/
structure Agr (W : Wt) (X : ℕ → Fin 1024 → EReal) (t0 : ℕ) (b : Blk) : Prop where
  x : ∀ (i : Fin 256) (k : Fin 1024), b.x0 (ix3 0 i k) = X (t0 + i) k
  pre : ∀ k : Fin 1024, b.x1 (ix2 0 k) = W.pre k
  wlx : ∀ k l : Fin 1024, b.x2 (ix2 k l) = W.win k ⟨l, by omega⟩
  wlg : ∀ k l : Fin 1024, b.x3 (ix2 k l) = W.win k ⟨1024 + l, by omega⟩
  wz : ∀ k l : Fin 1024, b.x4 (ix2 k l) = W.win k ⟨2048 + l, by omega⟩
  wxb : ∀ (k : Fin 1024) (l : Fin 1536), b.x5 (ix2 k l) = W.win k ⟨3072 + l, by omega⟩
  wdt : ∀ (k : Fin 1024) (e : Fin 128), b.x6 (ix2 k e) = if h : (e : ℕ) < 16 then W.win k ⟨4608 + e, by omega⟩ else 0
  lcw : ∀ (k : Fin 4) (l : Fin 1024), b.x7 (ix2 k l) = W.lcw k l
  lcb : ∀ l : Fin 1024, b.x8 (ix2 0 l) = W.lcb l
  wa : ∀ (q : Fin 4) (x j : Fin 256), b.x9 (ix3 q x ⟨j, by omega⟩) = if (x : ℕ) / 64 = j / 64 then
    W.wa ⟨4 * q + x / 64, by omega⟩ ⟨x % 64, by omega⟩ ⟨j % 64, by omega⟩ else 0
  wx : ∀ (q : Fin 4) (x j : Fin 256), b.x9 (ix3 q x ⟨256 + j, by omega⟩) = if (x : ℕ) / 64 = j / 64 then
    W.wx ⟨4 * q + x / 64, by omega⟩ ⟨x % 64, by omega⟩ ⟨j % 64, by omega⟩ else 0
  ba : ∀ l : Fin 1024, b.x10 (ix2 0 l) = W.ba l
  bx : ∀ l : Fin 1024, b.x11 (ix2 0 l) = W.bx l
  lam : ∀ l : Fin 1024, b.x12 (ix2 0 l) = W.lam l
  lno : ∀ l : Fin 1024, b.x13 (ix2 0 l) = W.lno l
  scw : ∀ (k : Fin 4) (l : Fin 1536), b.x14 (ix2 k l) = W.scw k l
  scb : ∀ l : Fin 1536, b.x15 (ix2 0 l) = W.scb l
  dtb : ∀ e : Fin 128, b.x16 (ix2 0 e) = if h : (e : ℕ) < 16 then W.dtb ⟨e, h⟩ else 0
  alog : ∀ e : Fin 128, b.x17 (ix2 0 e) = if h : (e : ℕ) < 16 then W.alog ⟨e, h⟩ else 0
  dd : ∀ l : Fin 1024, b.x18 (ix2 0 l) = W.dd ⟨l / 64, by omega⟩
  sno : ∀ l : Fin 1024, b.x19 (ix2 0 l) = W.sno l
  wol : ∀ j k : Fin 1024, b.x20 (ix2 j k) = W.wout ⟨j, by omega⟩ k
  wos : ∀ j k : Fin 1024, b.x21 (ix2 j k) = W.wout ⟨1024 + j, by omega⟩ k
  post : ∀ k : Fin 1024, b.x22 (ix2 0 k) = W.post k
  hd0 : ∀ (j : Fin 3) (l : Fin 1024), b.hd0 (ix2 (⟨5 + j, by omega⟩ : Fin 8) l) = back (fun s => pj W X s ⟨l, by omega⟩) (t0 + j)
  hd1 : ∀ (j : Fin 3) (l : Fin 1536), b.hd1 (ix2 (⟨5 + j, by omega⟩ : Fin 8) l) = back (fun s => pj W X s ⟨3072 + l, by omega⟩) (t0 + j)
  h0 : ∀ l : Fin 1024, b.h0 (ix2 0 l) = hst W X t0 l
  st : ∀ (p : Fin 8) (n l : Fin 128), b.st (ix3 p n l) = sst W X t0 ⟨128 * p + l, by omega⟩ n

variable {W : Wt} {X : ℕ → Fin 1024 → EReal} {t0 : ℕ} {b : Blk}

/-! ## The projections -/

theorem k_r (A : Agr W X t0 b) (r : Fin 256) (k : Fin 1024) : R_r b (ix2 r k) = X (t0 + r) k := by
  rw [← A.x]; pointwise [R_r, k0_pay8]

theorem k_hb (A : Agr W X t0 b) (r : Fin 256) (k : Fin 1024) : R_r_1 b (ix2 r k) = hb W X (t0 + r) k := by
  have e : R_r_1 b (ix2 r k) = nrm (fun k => b.x0 (ix3 0 r k)) (fun k => b.x1 (ix2 0 k)) k := by
    pointwise [R_r_1, k0_pay9, k0_pay8]; rfl
  rw [e]; unfold hb
  rw [show (fun k => b.x0 (ix3 0 r k)) = X (t0 + r) from funext fun k => A.x r k,
    show (fun k => b.x1 (ix2 0 k)) = W.pre from funext fun k => A.pre k]

theorem k_gate (A : Agr W X t0 b) (r : Fin 256) (l : Fin 1024) :
    R_r_3 b (ix2 r l) = pj W X (t0 + r) ⟨1024 + l, by omega⟩ := by
  have e : R_r_3 b (ix2 r l) = ∑ k : Fin 1024, R_r_1 b (ix2 r k) * b.x3 (ix2 k l) := by
    pointwise [R_r_3, k0_pay13] <;> rfl
  rw [e]; exact Finset.sum_congr rfl fun k _ => by rw [k_hb A, A.wlg]

theorem k_z (A : Agr W X t0 b) (r : Fin 256) (l : Fin 1024) :
    R_r_4 b (ix2 r l) = pj W X (t0 + r) ⟨2048 + l, by omega⟩ := by
  have e : R_r_4 b (ix2 r l) = ∑ k : Fin 1024, R_r_1 b (ix2 r k) * b.x4 (ix2 k l) := by
    pointwise [R_r_4, k0_pay14] <;> rfl
  rw [e]; exact Finset.sum_congr rfl fun k _ => by rw [k_hb A, A.wz]

theorem k_dtraw (A : Agr W X t0 b) (r : Fin 256) (j : Fin 128) :
    R_r_5 b (ix2 r j) = if h : (j : ℕ) < 16 then pj W X (t0 + r) ⟨4608 + j, by omega⟩ else 0 := by
  have e : R_r_5 b (ix2 r j) = ∑ k : Fin 1024, R_r_1 b (ix2 r k) * b.x6 (ix2 k j) := by
    pointwise [R_r_5, k0_pay15] <;> rfl
  rw [e]
  split
  · next h => exact Finset.sum_congr rfl fun k _ => by rw [k_hb A, A.wdt, dif_pos h]
  · next h => exact Finset.sum_eq_zero fun k _ => by rw [A.wdt, dif_neg h, mul_zero]

theorem k_xbc (A : Agr W X t0 b) (r : Fin 256) (l : Fin 1536) :
    R_r_2 b (ix2 r l) = pj W X (t0 + r) ⟨3072 + l, by omega⟩ := by
  have e : R_r_2 b (ix2 r l) = ∑ k : Fin 1024, R_r_1 b (ix2 r k) * b.x5 (ix2 k l) := by
    pointwise [R_r_2, k0_pay11] <;> rfl
  rw [e]; exact Finset.sum_congr rfl fun k _ => by rw [k_hb A, A.wxb]

/-- The rows the recurrence's convolution reads. -/
def lxp (b : Blk) : Vec Ideal S256x1024 .f32 := k0_pay10 (View.ld b.x0 (Rect.unit ![0, 0, 0] S1x256x1024.size inb_S1x256x1024_S1x256x1024_0_0_0)) (View.ld b.x1 (Rect.unit ![0, 0] S1x1024.size inb_S1x1024_S1x1024_0_0)) (View.ld b.x2 (Rect.unit ![0, 0] S1024x1024.size inb_S1024x1024_S1024x1024_0_0))

theorem k_lxp (A : Agr W X t0 b) (r : Fin 256) (l : Fin 1024) : lxp b (ix2 r l) = pj W X (t0 + r) ⟨l, by omega⟩ := by
  have e : lxp b (ix2 r l) = ∑ k : Fin 1024, R_r_1 b (ix2 r k) * b.x2 (ix2 k l) := by
    pointwise [lxp, k0_pay10] <;> rfl
  rw [e]; exact Finset.sum_congr rfl fun k _ => by rw [k_hb A, A.wlx]

/-! ## The rows the convolutions read: eight carried rows, then the block's own. -/

theorem canon_two (w : Vec Ideal S256x1024 .f32) (hd : Vec Ideal S8x1024 .f32) (n : Fin 264) (l : Fin 1024) :
    View.canon [(⟨Rect.unit ![8, 0] S256x1024.size inb_S264x1024_S256x1024_8_0, w⟩ : View.Piece (Elt Ideal) S264x1024 .f32),
      ⟨Rect.unit ![0, 0] S8x1024.size inb_S264x1024_S8x1024_0_0, hd⟩] (ix2 n l)
      = if h : (n : ℕ) < 8 then hd (ix2 (⟨n, h⟩ : Fin 8) l) else w (ix2 (⟨n - 8, by omega⟩ : Fin 256) l) := by
  split
  · next h =>
    have e : (Rect.unit ![0, 0] S8x1024.size inb_S264x1024_S8x1024_0_0 : Rect S264x1024).emb
        (ix2 (⟨n, h⟩ : Fin 8) l) = (ix2 n l : S264x1024.Idx) := by
      funext a; apply Fin.ext; match a with
      | ⟨0, _⟩ => show 0 + 1 * (n : ℕ) = n; omega
      | ⟨1, _⟩ => show 0 + 1 * (l : ℕ) = l; omega
    refine (View.canon_cons_of_not_mem _ _ fun hm => ?_).trans ((congrArg _ e.symm).trans (View.canon_cons_emb _ _ _ _))
    obtain ⟨x, hx⟩ := LoadRect.exists_idx_of_mem _ hm
    have h2 := congrArg (fun i : S264x1024.Idx => (i 0 : ℕ)) hx
    have h3 : 8 + 1 * (x 0 : ℕ) = n := h2
    omega
  · next h =>
    have e : (Rect.unit ![8, 0] S256x1024.size inb_S264x1024_S256x1024_8_0 : Rect S264x1024).emb
        (ix2 (⟨n - 8, by omega⟩ : Fin 256) l) = (ix2 n l : S264x1024.Idx) := by
      funext a; apply Fin.ext; match a with
      | ⟨0, _⟩ => show 8 + 1 * ((n : ℕ) - 8) = n; omega
      | ⟨1, _⟩ => show 0 + 1 * (l : ℕ) = l; omega
    exact (congrArg _ e.symm).trans (View.canon_cons_emb _ _ _ _)

theorem canon_two' (w : Vec Ideal S256x1536 .f32) (hd : Vec Ideal S8x1536 .f32) (n : Fin 264) (l : Fin 1536) :
    View.canon [(⟨Rect.unit ![8, 0] S256x1536.size inb_S264x1536_S256x1536_8_0, w⟩ : View.Piece (Elt Ideal) S264x1536 .f32),
      ⟨Rect.unit ![0, 0] S8x1536.size inb_S264x1536_S8x1536_0_0, hd⟩] (ix2 n l)
      = if h : (n : ℕ) < 8 then hd (ix2 (⟨n, h⟩ : Fin 8) l) else w (ix2 (⟨n - 8, by omega⟩ : Fin 256) l) := by
  split
  · next h =>
    have e : (Rect.unit ![0, 0] S8x1536.size inb_S264x1536_S8x1536_0_0 : Rect S264x1536).emb
        (ix2 (⟨n, h⟩ : Fin 8) l) = (ix2 n l : S264x1536.Idx) := by
      funext a; apply Fin.ext; match a with
      | ⟨0, _⟩ => show 0 + 1 * (n : ℕ) = n; omega
      | ⟨1, _⟩ => show 0 + 1 * (l : ℕ) = l; omega
    refine (View.canon_cons_of_not_mem _ _ fun hm => ?_).trans ((congrArg _ e.symm).trans (View.canon_cons_emb _ _ _ _))
    obtain ⟨x, hx⟩ := LoadRect.exists_idx_of_mem _ hm
    have h2 := congrArg (fun i : S264x1536.Idx => (i 0 : ℕ)) hx
    have h3 : 8 + 1 * (x 0 : ℕ) = n := h2
    omega
  · next h =>
    have e : (Rect.unit ![8, 0] S256x1536.size inb_S264x1536_S256x1536_8_0 : Rect S264x1536).emb
        (ix2 (⟨n - 8, by omega⟩ : Fin 256) l) = (ix2 n l : S264x1536.Idx) := by
      funext a; apply Fin.ext; match a with
      | ⟨0, _⟩ => show 8 + 1 * ((n : ℕ) - 8) = n; omega
      | ⟨1, _⟩ => show 0 + 1 * (l : ℕ) = l; omega
    exact (congrArg _ e.symm).trans (View.canon_cons_emb _ _ _ _)

theorem lxb (A : Agr W X t0 b) (m : ℕ) (hm : m < 259) (l : Fin 1024) :
    View.canon (R_HS0_2 b) (ix2 (⟨5 + m, by omega⟩ : Fin 264) l) = back (fun s => pj W X s ⟨l, by omega⟩) (t0 + m) := by
  refine (canon_two (lxp b) b.hd0 _ l).trans ?_
  by_cases h : m < 3
  · rw [dif_pos (show 5 + m < 8 by omega)]; exact A.hd0 ⟨m, h⟩ l
  · rw [dif_neg (show ¬ 5 + m < 8 by omega)]
    unfold back
    rw [if_neg (by omega), k_lxp A]
    show pj W X (t0 + (5 + m - 8)) _ = _
    rw [show t0 + (5 + m - 8) = t0 + m - 3 by omega]

theorem xbb (A : Agr W X t0 b) (m : ℕ) (hm : m < 259) (l : Fin 1536) :
    View.canon (R_HS1_2 b) (ix2 (⟨5 + m, by omega⟩ : Fin 264) l) = back (fun s => pj W X s ⟨3072 + l, by omega⟩) (t0 + m) := by
  refine (canon_two' (k0_pay12 (R_r_2 b)) b.hd1 _ l).trans ?_
  by_cases h : m < 3
  · rw [dif_pos (show 5 + m < 8 by omega)]; exact A.hd1 ⟨m, h⟩ l
  · rw [dif_neg (show ¬ 5 + m < 8 by omega)]
    unfold back
    rw [if_neg (by omega)]
    have e (r : Fin 256) : k0_pay12 (R_r_2 b) (ix2 r l) = R_r_2 b (ix2 r l) := by pointwise [k0_pay12]
    rw [e, k_xbc A]
    show pj W X (t0 + (5 + m - 8)) _ = _
    rw [show t0 + (5 + m - 8) = t0 + m - 3 by omega]

theorem k_v46 (A : Agr W X t0 b) (r : Fin 256) (l : Fin 1024) :
    R_v46 b (ix2 r l) = back (fun s => pj W X s ⟨l, by omega⟩) (t0 + r) := by
  refine (congrArg (View.canon (R_HS0_2 b)) ?_).trans (lxb A r (by omega) l)
  funext a; apply Fin.ext; match a with
  | ⟨0, _⟩ => show 5 + 1 * (r : ℕ) = 5 + r; omega
  | ⟨1, _⟩ => show 0 + 1 * (l : ℕ) = l; omega
theorem k_v53 (A : Agr W X t0 b) (r : Fin 256) (l : Fin 1024) :
    R_v53 b (ix2 r l) = back (fun s => pj W X s ⟨l, by omega⟩) (t0 + r + 1) := by
  refine (congrArg (View.canon (R_HS0_2 b)) ?_).trans (lxb A (r + 1) (by omega) l)
  funext a; apply Fin.ext; match a with
  | ⟨0, _⟩ => show 6 + 1 * (r : ℕ) = 5 + (r + 1); omega
  | ⟨1, _⟩ => show 0 + 1 * (l : ℕ) = l; omega
theorem k_v59 (A : Agr W X t0 b) (r : Fin 256) (l : Fin 1024) :
    R_v59 b (ix2 r l) = back (fun s => pj W X s ⟨l, by omega⟩) (t0 + r + 2) := by
  refine (congrArg (View.canon (R_HS0_2 b)) ?_).trans (lxb A (r + 2) (by omega) l)
  funext a; apply Fin.ext; match a with
  | ⟨0, _⟩ => show 7 + 1 * (r : ℕ) = 5 + (r + 2); omega
  | ⟨1, _⟩ => show 0 + 1 * (l : ℕ) = l; omega
theorem k_v65 (A : Agr W X t0 b) (r : Fin 256) (l : Fin 1024) :
    R_v65 b (ix2 r l) = back (fun s => pj W X s ⟨l, by omega⟩) (t0 + r + 3) := by
  refine (congrArg (View.canon (R_HS0_2 b)) ?_).trans (lxb A (r + 3) (by omega) l)
  funext a; apply Fin.ext; match a with
  | ⟨0, _⟩ => show 8 + 1 * (r : ℕ) = 5 + (r + 3); omega
  | ⟨1, _⟩ => show 0 + 1 * (l : ℕ) = l; omega

theorem k_v477 (A : Agr W X t0 b) (r : Fin 256) (l : Fin 1536) :
    R_v477 b (ix2 r l) = back (fun s => pj W X s ⟨3072 + l, by omega⟩) (t0 + r) := by
  refine (congrArg (View.canon (R_HS1_2 b)) ?_).trans (xbb A r (by omega) l)
  funext a; apply Fin.ext; match a with
  | ⟨0, _⟩ => show 5 + 1 * (r : ℕ) = 5 + r; omega
  | ⟨1, _⟩ => show 0 + 1 * (l : ℕ) = l; omega
theorem k_v484 (A : Agr W X t0 b) (r : Fin 256) (l : Fin 1536) :
    R_v484 b (ix2 r l) = back (fun s => pj W X s ⟨3072 + l, by omega⟩) (t0 + r + 1) := by
  refine (congrArg (View.canon (R_HS1_2 b)) ?_).trans (xbb A (r + 1) (by omega) l)
  funext a; apply Fin.ext; match a with
  | ⟨0, _⟩ => show 6 + 1 * (r : ℕ) = 5 + (r + 1); omega
  | ⟨1, _⟩ => show 0 + 1 * (l : ℕ) = l; omega
theorem k_v490 (A : Agr W X t0 b) (r : Fin 256) (l : Fin 1536) :
    R_v490 b (ix2 r l) = back (fun s => pj W X s ⟨3072 + l, by omega⟩) (t0 + r + 2) := by
  refine (congrArg (View.canon (R_HS1_2 b)) ?_).trans (xbb A (r + 2) (by omega) l)
  funext a; apply Fin.ext; match a with
  | ⟨0, _⟩ => show 7 + 1 * (r : ℕ) = 5 + (r + 2); omega
  | ⟨1, _⟩ => show 0 + 1 * (l : ℕ) = l; omega
theorem k_v496 (A : Agr W X t0 b) (r : Fin 256) (l : Fin 1536) :
    R_v496 b (ix2 r l) = back (fun s => pj W X s ⟨3072 + l, by omega⟩) (t0 + r + 3) := by
  refine (congrArg (View.canon (R_HS1_2 b)) ?_).trans (xbb A (r + 3) (by omega) l)
  funext a; apply Fin.ext; match a with
  | ⟨0, _⟩ => show 8 + 1 * (r : ℕ) = 5 + (r + 3); omega
  | ⟨1, _⟩ => show 0 + 1 * (l : ℕ) = l; omega

/-! ## The convolutions -/

theorem k_lx (A : Agr W X t0 b) (r : Fin 256) (l : Fin 1024) : R_r_7 b (ix2 r l) = lx W X (t0 + r) l := by
  have e : R_r_7 b (ix2 r l) = b.x8 (ix2 0 l) + R_v46 b (ix2 r l) * b.x7 (ix2 0 l) + R_v53 b (ix2 r l) * b.x7 (ix2 1 l)
      + R_v59 b (ix2 r l) * b.x7 (ix2 2 l) + R_v65 b (ix2 r l) * b.x7 (ix2 3 l) := by
    pointwise [R_r_7, k0_pay17, R_r_6, k0_pay16] <;> rfl
  rw [e, k_v46 A, k_v53 A, k_v59 A, k_v65 A, A.lcb, A.lcw, A.lcw, A.lcw, A.lcw]; rfl

/-- The convolution before the second branch, through its gate. -/
def sx3 (b : Blk) (r : Fin 256) (l : Fin 1536) : EReal :=
  silu (b.x15 (ix2 0 l) + R_v477 b (ix2 r l) * b.x14 (ix2 0 l) + R_v484 b (ix2 r l) * b.x14 (ix2 1 l)
      + R_v490 b (ix2 r l) * b.x14 (ix2 2 l) + R_v496 b (ix2 r l) * b.x14 (ix2 3 l))

theorem k_sx3 (A : Agr W X t0 b) (r : Fin 256) (l : Fin 1536) : sx3 b r l = xbc W X (t0 + r) l := by
  unfold sx3
  rw [k_v477 A, k_v484 A, k_v490 A, k_v496 A, A.scb, A.scw, A.scw, A.scw, A.scw]; rfl

theorem k_sx (A : Agr W X t0 b) (r : Fin 256) (l : Fin 1024) : R_r_61 b (ix2 r l) = xbc W X (t0 + r) ⟨l, by omega⟩ := by
  rw [← k_sx3 A]
  pointwise [R_r_61, k0_pay85, k0_pay84, R_r_59, k0_pay82, R_r_60, k0_pay83] <;> rfl
theorem k_sB (A : Agr W X t0 b) (r : Fin 256) (l : Fin 256) : R_r_62 b (ix2 r l) = xbc W X (t0 + r) ⟨1024 + l, by omega⟩ := by
  rw [← k_sx3 A]
  pointwise [R_r_62, k0_pay86, k0_pay84, R_r_59, k0_pay82, R_r_60, k0_pay83] <;> rfl
theorem k_sC (A : Agr W X t0 b) (r : Fin 256) (l : Fin 256) : R_r_63 b (ix2 r l) = xbc W X (t0 + r) ⟨1280 + l, by omega⟩ := by
  rw [← k_sx3 A]
  pointwise [R_r_63, k0_pay87, k0_pay84, R_r_59, k0_pay82, R_r_60, k0_pay83] <;> rfl

/-! ## The gates of the recurrence -/

/-- A block-diagonal column has the entries of its own square block alone. -/
theorem sum_diag (j : Fin 256) (f : Fin 256 → EReal) (w : Fin 4 → Fin 64 → EReal) :
    (∑ x : Fin 256, f x * (if (x : ℕ) / 64 = j / 64 then w ⟨x / 64, by omega⟩ ⟨x % 64, by omega⟩ else 0))
      = ∑ i : Fin 64, f ⟨64 * (j / 64) + i, by omega⟩ * w ⟨j / 64, by omega⟩ i := by
  symm
  refine Fintype.sum_of_injective (fun i : Fin 64 => (⟨64 * (j / 64) + i, by omega⟩ : Fin 256)) ?_ _ _ ?_ ?_
  · intro i i' h
    have := congrArg Fin.val h
    exact Fin.ext (by simpa using this)
  · intro x hx
    rw [if_neg, mul_zero]
    intro h
    exact hx ⟨⟨x % 64, by omega⟩, Fin.ext (by show 64 * ((j : ℕ) / 64) + x % 64 = x; omega)⟩
  · intro i
    have h1 : (64 * ((j : ℕ) / 64) + i) / 64 = j / 64 := by omega
    have h2 : (64 * ((j : ℕ) / 64) + i) % 64 = i := by omega
    simp only [h1, h2, if_true]

theorem k_gat (f : Fin 1024 → EReal) (w : Fin 16 → Fin 64 → Fin 64 → EReal) (v : Fin 4 → Fin 256 → Fin 256 → EReal)
    (hv : ∀ (q : Fin 4) (x j : Fin 256), v q x j = if (x : ℕ) / 64 = j / 64 then
      w ⟨4 * q + x / 64, by omega⟩ ⟨x % 64, by omega⟩ ⟨j % 64, by omega⟩ else 0) (q : Fin 4) (j : Fin 256) (l : Fin 1024)
    (hl : (l : ℕ) = 256 * q + j) :
    (∑ x : Fin 256, f ⟨256 * q + x, by omega⟩ * v q x j)
      = ∑ i : Fin 64, f ⟨64 * (l / 64) + i, by omega⟩ * w ⟨l / 64, by omega⟩ i ⟨l % 64, by omega⟩ := by
  rw [Finset.sum_congr rfl fun x _ => by rw [hv q x j],
    sum_diag j (fun x => f ⟨256 * q + x, by omega⟩) (fun a i => w ⟨4 * q + a, by omega⟩ i ⟨j % 64, by omega⟩)]
  refine Finset.sum_congr rfl fun i _ => ?_
  have h1 : (⟨256 * q + (64 * ((j : ℕ) / 64) + i), by omega⟩ : Fin 1024) = ⟨64 * (l / 64) + i, by omega⟩ :=
    Fin.ext (by show 256 * (q : ℕ) + (64 * ((j : ℕ) / 64) + i) = 64 * (l / 64) + i; omega)
  have h2 : (⟨4 * q + (j : ℕ) / 64, by omega⟩ : Fin 16) = ⟨l / 64, by omega⟩ := Fin.ext (by show 4 * (q : ℕ) + (j : ℕ) / 64 = l / 64; omega)
  have h3 : (⟨(j : ℕ) % 64, by omega⟩ : Fin 64) = ⟨l % 64, by omega⟩ := Fin.ext (by show (j : ℕ) % 64 = l % 64; omega)
  simp only [h1, h2, h3]

theorem k_ga (A : Agr W X t0 b) (r : Fin 256) (l : Fin 1024) : R_r_8 b (ix2 r l) = gat W X W.wx (t0 + r) l := by
  pointwise [R_r_8, k0_pay23, k0_pay22, k0_pay21, k0_pay20, k0_pay19, k0_pay18]
  by_cases h0 : (l : ℕ) < 256
  · rw [dif_pos (show (l : ℕ) < 256 by omega)]
    exact (Finset.sum_congr rfl fun x _ => congrArg₂ (· * ·) ((k_lx A r _).trans (congrArg (lx W X (t0 + r))
        (Fin.ext (by show (x : ℕ) = 256 * 0 + x; omega))))
        (congrArg (fun i => b.x9 (ix3 0 x i)) (Fin.ext (by show 256 + ((l : ℕ)) = 256 + ((l : ℕ) - 256 * 0); omega)))).trans
        (k_gat (lx W X (t0 + r)) W.wx (fun q x j => b.x9 (ix3 q x ⟨256 + j, by omega⟩)) A.wx 0 ⟨l - 256 * 0, by omega⟩ l
          (by show (l : ℕ) = 256 * 0 + (l - 256 * 0); omega))
  by_cases h1 : (l : ℕ) < 512
  · rw [dif_neg (show ¬ ((l : ℕ) < 256) by omega), dif_pos (show (l : ℕ) - 256 < 256 by omega)]
    exact (Finset.sum_congr rfl fun x _ => congrArg₂ (· * ·) ((k_lx A r _).trans (congrArg (lx W X (t0 + r))
        (Fin.ext (by show 256 + (x : ℕ) = 256 * 1 + x; omega))))
        (congrArg (fun i => b.x9 (ix3 1 x i)) (Fin.ext (by show 256 + ((l : ℕ) - 256) = 256 + ((l : ℕ) - 256 * 1); omega)))).trans
        (k_gat (lx W X (t0 + r)) W.wx (fun q x j => b.x9 (ix3 q x ⟨256 + j, by omega⟩)) A.wx 1 ⟨l - 256 * 1, by omega⟩ l
          (by show (l : ℕ) = 256 * 1 + (l - 256 * 1); omega))
  by_cases h2 : (l : ℕ) < 768
  · rw [dif_neg (show ¬ ((l : ℕ) < 256) by omega), dif_neg (show ¬ ((l : ℕ) - 256 < 256) by omega), dif_pos (show (l : ℕ) - 256 - 256 < 256 by omega)]
    exact (Finset.sum_congr rfl fun x _ => congrArg₂ (· * ·) ((k_lx A r _).trans (congrArg (lx W X (t0 + r))
        (Fin.ext (by show 512 + (x : ℕ) = 256 * 2 + x; omega))))
        (congrArg (fun i => b.x9 (ix3 2 x i)) (Fin.ext (by show 256 + ((l : ℕ) - 256 - 256) = 256 + ((l : ℕ) - 256 * 2); omega)))).trans
        (k_gat (lx W X (t0 + r)) W.wx (fun q x j => b.x9 (ix3 q x ⟨256 + j, by omega⟩)) A.wx 2 ⟨l - 256 * 2, by omega⟩ l
          (by show (l : ℕ) = 256 * 2 + (l - 256 * 2); omega))
  · rw [dif_neg (show ¬ ((l : ℕ) < 256) by omega), dif_neg (show ¬ ((l : ℕ) - 256 < 256) by omega), dif_neg (show ¬ ((l : ℕ) - 256 - 256 < 256) by omega)]
    exact (Finset.sum_congr rfl fun x _ => congrArg₂ (· * ·) ((k_lx A r _).trans (congrArg (lx W X (t0 + r))
        (Fin.ext (by show 768 + (x : ℕ) = 256 * 3 + x; omega))))
        (congrArg (fun i => b.x9 (ix3 3 x i)) (Fin.ext (by show 256 + ((l : ℕ) - 256 - 256 - 256) = 256 + ((l : ℕ) - 256 * 3); omega)))).trans
        (k_gat (lx W X (t0 + r)) W.wx (fun q x j => b.x9 (ix3 q x ⟨256 + j, by omega⟩)) A.wx 3 ⟨l - 256 * 3, by omega⟩ l
          (by show (l : ℕ) = 256 * 3 + (l - 256 * 3); omega))

theorem k_rg (A : Agr W X t0 b) (r : Fin 256) (l : Fin 1024) : R_r_9 b (ix2 r l) = rg W X (t0 + r) l := by
  pointwise [R_r_9, k0_pay24, k0_pay22, k0_pay21, k0_pay20, k0_pay19, k0_pay18]
  rw [A.ba]
  refine congrArg (fun y => sgm (y + W.ba l)) ?_
  by_cases h0 : (l : ℕ) < 256
  · rw [dif_pos (show (l : ℕ) < 256 by omega)]
    exact (Finset.sum_congr rfl fun x _ => congrArg₂ (· * ·) ((k_lx A r _).trans (congrArg (lx W X (t0 + r))
        (Fin.ext (by show (x : ℕ) = 256 * 0 + x; omega))))
        (congrArg (fun i => b.x9 (ix3 0 x i)) (Fin.ext (by show ((l : ℕ)) = ((l : ℕ) - 256 * 0); omega)))).trans
        (k_gat (lx W X (t0 + r)) W.wa (fun q x j => b.x9 (ix3 q x ⟨j, by omega⟩)) A.wa 0 ⟨l - 256 * 0, by omega⟩ l
          (by show (l : ℕ) = 256 * 0 + (l - 256 * 0); omega))
  by_cases h1 : (l : ℕ) < 512
  · rw [dif_neg (show ¬ ((l : ℕ) < 256) by omega), dif_pos (show (l : ℕ) - 256 < 256 by omega)]
    exact (Finset.sum_congr rfl fun x _ => congrArg₂ (· * ·) ((k_lx A r _).trans (congrArg (lx W X (t0 + r))
        (Fin.ext (by show 256 + (x : ℕ) = 256 * 1 + x; omega))))
        (congrArg (fun i => b.x9 (ix3 1 x i)) (Fin.ext (by show ((l : ℕ) - 256) = ((l : ℕ) - 256 * 1); omega)))).trans
        (k_gat (lx W X (t0 + r)) W.wa (fun q x j => b.x9 (ix3 q x ⟨j, by omega⟩)) A.wa 1 ⟨l - 256 * 1, by omega⟩ l
          (by show (l : ℕ) = 256 * 1 + (l - 256 * 1); omega))
  by_cases h2 : (l : ℕ) < 768
  · rw [dif_neg (show ¬ ((l : ℕ) < 256) by omega), dif_neg (show ¬ ((l : ℕ) - 256 < 256) by omega), dif_pos (show (l : ℕ) - 256 - 256 < 256 by omega)]
    exact (Finset.sum_congr rfl fun x _ => congrArg₂ (· * ·) ((k_lx A r _).trans (congrArg (lx W X (t0 + r))
        (Fin.ext (by show 512 + (x : ℕ) = 256 * 2 + x; omega))))
        (congrArg (fun i => b.x9 (ix3 2 x i)) (Fin.ext (by show ((l : ℕ) - 256 - 256) = ((l : ℕ) - 256 * 2); omega)))).trans
        (k_gat (lx W X (t0 + r)) W.wa (fun q x j => b.x9 (ix3 q x ⟨j, by omega⟩)) A.wa 2 ⟨l - 256 * 2, by omega⟩ l
          (by show (l : ℕ) = 256 * 2 + (l - 256 * 2); omega))
  · rw [dif_neg (show ¬ ((l : ℕ) < 256) by omega), dif_neg (show ¬ ((l : ℕ) - 256 < 256) by omega), dif_neg (show ¬ ((l : ℕ) - 256 - 256 < 256) by omega)]
    exact (Finset.sum_congr rfl fun x _ => congrArg₂ (· * ·) ((k_lx A r _).trans (congrArg (lx W X (t0 + r))
        (Fin.ext (by show 768 + (x : ℕ) = 256 * 3 + x; omega))))
        (congrArg (fun i => b.x9 (ix3 3 x i)) (Fin.ext (by show ((l : ℕ) - 256 - 256 - 256) = ((l : ℕ) - 256 * 3); omega)))).trans
        (k_gat (lx W X (t0 + r)) W.wa (fun q x j => b.x9 (ix3 q x ⟨j, by omega⟩)) A.wa 3 ⟨l - 256 * 3, by omega⟩ l
          (by show (l : ℕ) = 256 * 3 + (l - 256 * 3); omega))

end Cert.Mix
end
-- ==== Proof.MixKerB.lean ====
module

public import proofs.«01_k».proof.Proof.MixKerA

/-!
  One block of the mixer read element by element: the recurrence's 32 tiles of eight rows hold the specification's
  recurrence, and the first branch's output is the specification's.
-/

@[expose] public section

set_option maxRecDepth 16384

noncomputable section

namespace Cert.Mix

open Cert.KernelIdeal Cert.KernelIdeal.Gen Idealize.ShloMosaic

variable {W : Wt} {X : ℕ → Fin 1024 → EReal} {t0 : ℕ} {b : Blk}

theorem sel1 (n : ℕ) (hn : n < 8) (x y : EReal) :
    Scalar.select (IntOp.cmpi CmpIPredicate.sge (BitVec.ofNat 32 n) 1#32) x y = if 1 ≤ n then x else y := by
  have h : ∀ n < 8, IntOp.cmpi CmpIPredicate.sge (BitVec.ofNat 32 n) 1#32 = if 1 ≤ n then 1 else 0 := by decide
  unfold Scalar.select; rw [h n hn]; by_cases h : 1 ≤ n <;> simp [h]
theorem sel2 (n : ℕ) (hn : n < 8) (x y : EReal) :
    Scalar.select (IntOp.cmpi CmpIPredicate.sge (BitVec.ofNat 32 n) 2#32) x y = if 2 ≤ n then x else y := by
  have h : ∀ n < 8, IntOp.cmpi CmpIPredicate.sge (BitVec.ofNat 32 n) 2#32 = if 2 ≤ n then 1 else 0 := by decide
  unfold Scalar.select; rw [h n hn]; by_cases h : 2 ≤ n <;> simp [h]
theorem sel4 (n : ℕ) (hn : n < 8) (x y : EReal) :
    Scalar.select (IntOp.cmpi CmpIPredicate.sge (BitVec.ofNat 32 n) 4#32) x y = if 4 ≤ n then x else y := by
  have h : ∀ n < 8, IntOp.cmpi CmpIPredicate.sge (BitVec.ofNat 32 n) 4#32 = if 4 ≤ n then 1 else 0 := by decide
  unfold Scalar.select; rw [h n hn]; by_cases h : 4 ≤ n <;> simp [h]

/-! ## The gate of the recurrence -/

theorem sp_nonneg (x : EReal) : 0 ≤ sp x := add_nonneg (le_max_right _ _) (log1p_exp_nonneg _)

theorem la_ne_top (t : ℕ) (l : Fin 1024) : la W X t l ≠ ⊤ := by
  obtain ⟨q, hq, eq⟩ := logistic_nonneg_fin (gat W X W.wa t l + W.ba l)
  have h8 : Ideal.ofBits FTy.f32 0xC1000000#32 = ((-8 : ℝ) : EReal) := by
    simp [Ideal.ofBits, Ideal.ieee, -EReal.coe_mul, -EReal.coe_neg]; norm_num
  have : la W X t l ≤ 0 := by
    unfold la rg sgm
    rw [eq, h8, ← EReal.coe_mul]
    have h0 : ((-8 * q : ℝ) : EReal) ≤ 0 := by exact_mod_cast (by nlinarith : -8 * q ≤ 0)
    exact EReal.mul_nonpos_iff.mpr (Or.inr ⟨h0, sp_nonneg _⟩)
  intro h; rw [h] at this; exact absurd this (by simp)

/-- The logarithm of the gate, at a row of the block. -/
theorem k_la (A : Agr W X t0 b) (r : Fin 256) (l : Fin 1024) :
    k0_pay26 (R_r_9 b) (View.ld b.x12 (Rect.unit ![0, 0] S1x1024.size inb_S1x1024_S1x1024_0_0)) (ix2 r l) = la W X (t0 + r) l := by
  have e : k0_pay26 (R_r_9 b) (View.ld b.x12 (Rect.unit ![0, 0] S1x1024.size inb_S1x1024_S1x1024_0_0)) (ix2 r l)
      = Ideal.ofBits .f32 0xC1000000#32 * R_r_9 b (ix2 r l) * (max (0 - b.x12 (ix2 0 l)) 0
        + Ideal.log1p (Ideal.exp (0 - max (0 - b.x12 (ix2 0 l)) (-(0 - b.x12 (ix2 0 l)))))) := by
    pointwise [k0_pay26] <;> rfl
  rw [e, k_rg A, A.lam]
  simp only [zero_sub]
  rfl

theorem k_a3 (A : Agr W X t0 b) (i : Fin 32) (r : Fin 8) (l : Fin 1024) :
    R_r_12 b (ix3 i r l) = av W X (t0 + 8 * i + r) l := by
  have e : R_r_12 b (ix3 i r l) = Ideal.exp (k0_pay26 (R_r_9 b) (View.ld b.x12 (Rect.unit ![0, 0] S1x1024.size inb_S1x1024_S1x1024_0_0)) (ix2 (⟨i * 8 + r, by omega⟩ : Fin 256) l)) := by
    pointwise [R_r_12, k0_pay28, k0_pay27] <;> rfl
  rw [e, k_la A]
  show Ideal.exp (la W X (t0 + (i * 8 + r)) l) = av W X (t0 + 8 * i + r) l
  rw [show t0 + ((i : ℕ) * 8 + r) = t0 + 8 * i + r by omega]; rfl

theorem k_a3r (i : Fin 32) (r : Fin 8) (l : Fin 1024) :
    R_r_13 b (ix3 i r l) = R_r_12 b (ix3 i (⟨(r + 8 - 1) % 8, by omega⟩ : Fin 8) l) := by
  pointwise [R_r_13, k0_pay30] <;> rfl

/-- The input of the recurrence at a row of the block. -/
theorem k_u0 (A : Agr W X t0 b) (r : Fin 256) (l : Fin 1024) :
    Ideal.sqrt ((0 - Ideal.tanh (la W X (t0 + r) l)) * (Ideal.exp (la W X (t0 + r) l) * Ideal.exp (la W X (t0 + r) l) + 1))
      * (Ideal.logistic (R_r_8 b (ix2 r l) + b.x11 (ix2 0 l)) * R_r_7 b (ix2 r l)) = uv W X (t0 + r) l := by
  rw [tanh_expm1, k_ga A, k_lx A, A.bx]; rfl

/-- The same, as the block spells it. -/
theorem k_u0' (A : Agr W X t0 b) (r : Fin 256) (l : Fin 1024) :
    Ideal.sqrt ((0 - Ideal.tanh (k0_pay26 (R_r_9 b) (View.ld b.x12 (Rect.unit ![0, 0] S1x1024.size inb_S1x1024_S1x1024_0_0)) (ix2 r l)))
      * (Ideal.exp (k0_pay26 (R_r_9 b) (View.ld b.x12 (Rect.unit ![0, 0] S1x1024.size inb_S1x1024_S1x1024_0_0)) (ix2 r l))
        * Ideal.exp (k0_pay26 (R_r_9 b) (View.ld b.x12 (Rect.unit ![0, 0] S1x1024.size inb_S1x1024_S1x1024_0_0)) (ix2 r l)) + 1))
      * (Ideal.logistic (R_r_8 b (ix2 r l) + b.x11 (ix2 0 l)) * R_r_7 b (ix2 r l)) = uv W X (t0 + r) l := by
  rw [k_la A, k_u0 A]

theorem k_u1 (A : Agr W X t0 b) (i : Fin 32) (r : Fin 8) (l : Fin 1024) :
    R_r_14 b (ix3 i r l) = dblU 1 (fun s => av W X (t0 + 8 * i + s) l) (fun s => uv W X (t0 + 8 * i + s) l) r := by
  have en (m : ℕ) : t0 + ((i : ℕ) * 8 + m) = t0 + 8 * i + m := by omega
  pointwise [R_r_14, k0_pay31, k0_pay29, k0_pay28, k0_pay27, R_r_10, k0_pay25]
  refine (congrArg₂ (· + ·) (k_u0' A (⟨i * 8 + r, by omega⟩ : Fin 256) l) (congrArg₂ (Scalar.select _)
    (congrArg₂ (· * ·) (congrArg Ideal.exp (k_la A (⟨i * 8 + r, by omega⟩ : Fin 256) l))
      (k_u0' A (⟨i * 8 + (r + 8 - 1) % 8, by omega⟩ : Fin 256) l)) rfl)).trans ?_
  show uv W X (t0 + ((i : ℕ) * 8 + r)) l + Scalar.select (IntOp.cmpi CmpIPredicate.sge (BitVec.ofNat 32 r) 1#32)
      (av W X (t0 + ((i : ℕ) * 8 + r)) l * uv W X (t0 + ((i : ℕ) * 8 + (r + 8 - 1) % 8)) l) 0 = _
  rw [sel1 _ r.isLt, en, en]
  unfold dblU
  by_cases h : 1 ≤ (r : ℕ)
  · rw [if_pos h, if_pos h, show ((r : ℕ) + 8 - 1) % 8 = r - 1 by omega]
  · rw [if_neg h, if_neg h, mul_zero]

theorem k_A1 (A : Agr W X t0 b) (i : Fin 32) (r : Fin 8) (l : Fin 1024) :
    k0_pay33 (R_r_12 b) (R_r_13 b) (R_cst_72 b) k0_pay32 (ix3 i r l) = dblA 1 (fun s => av W X (t0 + 8 * i + s) l) r := by
  pointwise [k0_pay33, k0_pay32, k0_pay29, R_cst_72]
  rw [sel1 _ r.isLt, k_a3r, k_a3 A, k_a3 A]
  unfold dblA
  by_cases h : 1 ≤ (r : ℕ)
  · rw [if_pos h, if_pos h]
    show _ * av W X (t0 + 8 * i + (r + 8 - 1) % 8) l = _
    rw [show ((r : ℕ) + 8 - 1) % 8 = r - 1 by omega]
  · rw [if_neg h, if_neg h]

theorem k_AF (A : Agr W X t0 b) (i : Fin 32) (r : Fin 8) (l : Fin 1024) :
    R_r_16 b (ix3 i r l) = dblA 4 (dblA 2 (dblA 1 (fun s => av W X (t0 + 8 * i + s) l))) r := by
  pointwise [R_r_16, k0_pay38, k0_pay36, k0_pay35, k0_pay34, R_v138]
  simp only [k_A1 A]
  generalize dblA 1 (fun s => av W X (t0 + 8 * i + s) l) = F
  rw [sel2 _ r.isLt, sel4 _ r.isLt, sel2 _ (by omega)]
  fin_cases r <;> simp [dblA]

theorem k_UF (A : Agr W X t0 b) (i : Fin 32) (r : Fin 8) (l : Fin 1024) :
    R_r_15 b (ix3 i r l) = dblU 4 (dblA 2 (dblA 1 (fun s => av W X (t0 + 8 * i + s) l))) (dblU 2 (dblA 1 (fun s => av W X (t0 + 8 * i + s) l)) (dblU 1 (fun s => av W X (t0 + 8 * i + s) l) (fun s => uv W X (t0 + 8 * i + s) l))) r := by
  pointwise [R_r_15, k0_pay37, k0_pay36, k0_pay35, k0_pay34, R_v138]
  simp only [k_A1 A, k_u1 A]
  generalize dblU 1 (fun s => av W X (t0 + 8 * i + s) l) (fun s => uv W X (t0 + 8 * i + s) l) = G
  generalize dblA 1 (fun s => av W X (t0 + 8 * i + s) l) = F
  rw [sel2 _ r.isLt, sel4 _ r.isLt, sel2 _ r.isLt, sel2 _ (by omega)]
  fin_cases r <;> simp [dblA, dblU]

/-! ## The tiles -/

theorem rec1_add (A U : ℕ → EReal) (h : EReal) (m n : ℕ) :
    rec1 (fun s => A (m + s)) (fun s => U (m + s)) (rec1 A U h m) n = rec1 A U h (m + n) := by
  induction n with
  | zero => rfl
  | succ n ih => show _ + _ * _ = U (m + n) + A (m + n) * rec1 A U h (m + n); rw [ih]

theorem k_tile (A : Agr W X t0 b) (i : Fin 32) (r : Fin 8) (l : Fin 1024) (h : EReal) (hh : h = hst W X (t0 + 8 * i) l) :
    R_r_15 b (ix3 i r l) + R_r_16 b (ix3 i r l) * h = hst W X (t0 + 8 * i + r + 1) l := by
  rw [k_UF A, k_AF A, hh, dbl_eight _ _ (fun s => av_nn W X _ l (la_ne_top _ l)) _ r r.isLt]
  exact rec1_add (fun s => av W X s l) (fun s => uv W X s l) 0 (t0 + 8 * i) (r + 1)

theorem tile0 (A : Agr W X t0 b) (r : Fin 8) (l : Fin 1024) : R_r_17 b (ix2 r l) = hst W X (t0 + 8 * 0 + r + 1) l := by
  have e : R_r_17 b (ix2 r l) = R_r_15 b (ix3 (0 : Fin 32) r l) + R_r_16 b (ix3 (0 : Fin 32) r l) * b.h0 (ix2 0 l) := by
    pointwise [R_r_17, k0_pay39, R_r_11] <;> rfl
  exact e.trans (k_tile A 0 r l _ (by rw [A.h0]; rfl))

theorem tile1 (A : Agr W X t0 b) (r : Fin 8) (l : Fin 1024) : R_r_18 b (ix2 r l) = hst W X (t0 + 8 * 1 + r + 1) l := by
  have e : R_r_18 b (ix2 r l) = R_r_15 b (ix3 (1 : Fin 32) r l) + R_r_16 b (ix3 (1 : Fin 32) r l) * R_r_17 b (ix2 7 l) := by
    pointwise [R_r_18, k0_pay40] <;> rfl
  exact e.trans (k_tile A 1 r l _ ((tile0 A 7 l)))

theorem tile2 (A : Agr W X t0 b) (r : Fin 8) (l : Fin 1024) : R_r_20 b (ix2 r l) = hst W X (t0 + 8 * 2 + r + 1) l := by
  have e : R_r_20 b (ix2 r l) = R_r_15 b (ix3 (2 : Fin 32) r l) + R_r_16 b (ix3 (2 : Fin 32) r l) * R_r_18 b (ix2 7 l) := by
    pointwise [R_r_20, k0_pay42, R_r_19, k0_pay41] <;> rfl
  exact e.trans (k_tile A 2 r l _ ((tile1 A 7 l)))

theorem tile3 (A : Agr W X t0 b) (r : Fin 8) (l : Fin 1024) : R_r_21 b (ix2 r l) = hst W X (t0 + 8 * 3 + r + 1) l := by
  have e : R_r_21 b (ix2 r l) = R_r_15 b (ix3 (3 : Fin 32) r l) + R_r_16 b (ix3 (3 : Fin 32) r l) * R_r_20 b (ix2 7 l) := by
    pointwise [R_r_21, k0_pay43] <;> rfl
  exact e.trans (k_tile A 3 r l _ ((tile2 A 7 l)))

theorem tile4 (A : Agr W X t0 b) (r : Fin 8) (l : Fin 1024) : R_r_22 b (ix2 r l) = hst W X (t0 + 8 * 4 + r + 1) l := by
  have e : R_r_22 b (ix2 r l) = R_r_15 b (ix3 (4 : Fin 32) r l) + R_r_16 b (ix3 (4 : Fin 32) r l) * R_r_21 b (ix2 7 l) := by
    pointwise [R_r_22, k0_pay44] <;> rfl
  exact e.trans (k_tile A 4 r l _ ((tile3 A 7 l)))

theorem tile5 (A : Agr W X t0 b) (r : Fin 8) (l : Fin 1024) : R_r_23 b (ix2 r l) = hst W X (t0 + 8 * 5 + r + 1) l := by
  have e : R_r_23 b (ix2 r l) = R_r_15 b (ix3 (5 : Fin 32) r l) + R_r_16 b (ix3 (5 : Fin 32) r l) * R_r_22 b (ix2 7 l) := by
    pointwise [R_r_23, k0_pay45] <;> rfl
  exact e.trans (k_tile A 5 r l _ ((tile4 A 7 l)))

theorem tile6 (A : Agr W X t0 b) (r : Fin 8) (l : Fin 1024) : R_r_24 b (ix2 r l) = hst W X (t0 + 8 * 6 + r + 1) l := by
  have e : R_r_24 b (ix2 r l) = R_r_15 b (ix3 (6 : Fin 32) r l) + R_r_16 b (ix3 (6 : Fin 32) r l) * R_r_23 b (ix2 7 l) := by
    pointwise [R_r_24, k0_pay46] <;> rfl
  exact e.trans (k_tile A 6 r l _ ((tile5 A 7 l)))

theorem tile7 (A : Agr W X t0 b) (r : Fin 8) (l : Fin 1024) : R_r_25 b (ix2 r l) = hst W X (t0 + 8 * 7 + r + 1) l := by
  have e : R_r_25 b (ix2 r l) = R_r_15 b (ix3 (7 : Fin 32) r l) + R_r_16 b (ix3 (7 : Fin 32) r l) * R_r_24 b (ix2 7 l) := by
    pointwise [R_r_25, k0_pay47] <;> rfl
  exact e.trans (k_tile A 7 r l _ ((tile6 A 7 l)))

theorem tile8 (A : Agr W X t0 b) (r : Fin 8) (l : Fin 1024) : R_r_26 b (ix2 r l) = hst W X (t0 + 8 * 8 + r + 1) l := by
  have e : R_r_26 b (ix2 r l) = R_r_15 b (ix3 (8 : Fin 32) r l) + R_r_16 b (ix3 (8 : Fin 32) r l) * R_r_25 b (ix2 7 l) := by
    pointwise [R_r_26, k0_pay48] <;> rfl
  exact e.trans (k_tile A 8 r l _ ((tile7 A 7 l)))

theorem tile9 (A : Agr W X t0 b) (r : Fin 8) (l : Fin 1024) : R_r_30 b (ix2 r l) = hst W X (t0 + 8 * 9 + r + 1) l := by
  have e : R_r_30 b (ix2 r l) = R_r_15 b (ix3 (9 : Fin 32) r l) + R_r_16 b (ix3 (9 : Fin 32) r l) * R_r_26 b (ix2 7 l) := by
    pointwise [R_r_30, k0_pay52, R_r_27, k0_pay49, R_r_28, k0_pay50, R_r_29, k0_pay51] <;> rfl
  exact e.trans (k_tile A 9 r l _ ((tile8 A 7 l)))

theorem tile10 (A : Agr W X t0 b) (r : Fin 8) (l : Fin 1024) : R_r_31 b (ix2 r l) = hst W X (t0 + 8 * 10 + r + 1) l := by
  have e : R_r_31 b (ix2 r l) = R_r_15 b (ix3 (10 : Fin 32) r l) + R_r_16 b (ix3 (10 : Fin 32) r l) * R_r_30 b (ix2 7 l) := by
    pointwise [R_r_31, k0_pay53] <;> rfl
  exact e.trans (k_tile A 10 r l _ ((tile9 A 7 l)))

theorem tile11 (A : Agr W X t0 b) (r : Fin 8) (l : Fin 1024) : R_r_32 b (ix2 r l) = hst W X (t0 + 8 * 11 + r + 1) l := by
  have e : R_r_32 b (ix2 r l) = R_r_15 b (ix3 (11 : Fin 32) r l) + R_r_16 b (ix3 (11 : Fin 32) r l) * R_r_31 b (ix2 7 l) := by
    pointwise [R_r_32, k0_pay54] <;> rfl
  exact e.trans (k_tile A 11 r l _ ((tile10 A 7 l)))

theorem tile12 (A : Agr W X t0 b) (r : Fin 8) (l : Fin 1024) : R_r_33 b (ix2 r l) = hst W X (t0 + 8 * 12 + r + 1) l := by
  have e : R_r_33 b (ix2 r l) = R_r_15 b (ix3 (12 : Fin 32) r l) + R_r_16 b (ix3 (12 : Fin 32) r l) * R_r_32 b (ix2 7 l) := by
    pointwise [R_r_33, k0_pay55] <;> rfl
  exact e.trans (k_tile A 12 r l _ ((tile11 A 7 l)))

theorem tile13 (A : Agr W X t0 b) (r : Fin 8) (l : Fin 1024) : R_r_34 b (ix2 r l) = hst W X (t0 + 8 * 13 + r + 1) l := by
  have e : R_r_34 b (ix2 r l) = R_r_15 b (ix3 (13 : Fin 32) r l) + R_r_16 b (ix3 (13 : Fin 32) r l) * R_r_33 b (ix2 7 l) := by
    pointwise [R_r_34, k0_pay56] <;> rfl
  exact e.trans (k_tile A 13 r l _ ((tile12 A 7 l)))

theorem tile14 (A : Agr W X t0 b) (r : Fin 8) (l : Fin 1024) : R_r_35 b (ix2 r l) = hst W X (t0 + 8 * 14 + r + 1) l := by
  have e : R_r_35 b (ix2 r l) = R_r_15 b (ix3 (14 : Fin 32) r l) + R_r_16 b (ix3 (14 : Fin 32) r l) * R_r_34 b (ix2 7 l) := by
    pointwise [R_r_35, k0_pay57] <;> rfl
  exact e.trans (k_tile A 14 r l _ ((tile13 A 7 l)))

theorem tile15 (A : Agr W X t0 b) (r : Fin 8) (l : Fin 1024) : R_r_36 b (ix2 r l) = hst W X (t0 + 8 * 15 + r + 1) l := by
  have e : R_r_36 b (ix2 r l) = R_r_15 b (ix3 (15 : Fin 32) r l) + R_r_16 b (ix3 (15 : Fin 32) r l) * R_r_35 b (ix2 7 l) := by
    pointwise [R_r_36, k0_pay58] <;> rfl
  exact e.trans (k_tile A 15 r l _ ((tile14 A 7 l)))

theorem tile16 (A : Agr W X t0 b) (r : Fin 8) (l : Fin 1024) : R_r_37 b (ix2 r l) = hst W X (t0 + 8 * 16 + r + 1) l := by
  have e : R_r_37 b (ix2 r l) = R_r_15 b (ix3 (16 : Fin 32) r l) + R_r_16 b (ix3 (16 : Fin 32) r l) * R_r_36 b (ix2 7 l) := by
    pointwise [R_r_37, k0_pay59] <;> rfl
  exact e.trans (k_tile A 16 r l _ ((tile15 A 7 l)))

theorem tile17 (A : Agr W X t0 b) (r : Fin 8) (l : Fin 1024) : R_r_39 b (ix2 r l) = hst W X (t0 + 8 * 17 + r + 1) l := by
  have e : R_r_39 b (ix2 r l) = R_r_15 b (ix3 (17 : Fin 32) r l) + R_r_16 b (ix3 (17 : Fin 32) r l) * R_r_37 b (ix2 7 l) := by
    pointwise [R_r_39, k0_pay61, R_r_38, k0_pay60] <;> rfl
  exact e.trans (k_tile A 17 r l _ ((tile16 A 7 l)))

theorem tile18 (A : Agr W X t0 b) (r : Fin 8) (l : Fin 1024) : R_r_40 b (ix2 r l) = hst W X (t0 + 8 * 18 + r + 1) l := by
  have e : R_r_40 b (ix2 r l) = R_r_15 b (ix3 (18 : Fin 32) r l) + R_r_16 b (ix3 (18 : Fin 32) r l) * R_r_39 b (ix2 7 l) := by
    pointwise [R_r_40, k0_pay62] <;> rfl
  exact e.trans (k_tile A 18 r l _ ((tile17 A 7 l)))

theorem tile19 (A : Agr W X t0 b) (r : Fin 8) (l : Fin 1024) : R_r_41 b (ix2 r l) = hst W X (t0 + 8 * 19 + r + 1) l := by
  have e : R_r_41 b (ix2 r l) = R_r_15 b (ix3 (19 : Fin 32) r l) + R_r_16 b (ix3 (19 : Fin 32) r l) * R_r_40 b (ix2 7 l) := by
    pointwise [R_r_41, k0_pay63] <;> rfl
  exact e.trans (k_tile A 19 r l _ ((tile18 A 7 l)))

theorem tile20 (A : Agr W X t0 b) (r : Fin 8) (l : Fin 1024) : R_r_42 b (ix2 r l) = hst W X (t0 + 8 * 20 + r + 1) l := by
  have e : R_r_42 b (ix2 r l) = R_r_15 b (ix3 (20 : Fin 32) r l) + R_r_16 b (ix3 (20 : Fin 32) r l) * R_r_41 b (ix2 7 l) := by
    pointwise [R_r_42, k0_pay64] <;> rfl
  exact e.trans (k_tile A 20 r l _ ((tile19 A 7 l)))

theorem tile21 (A : Agr W X t0 b) (r : Fin 8) (l : Fin 1024) : R_r_43 b (ix2 r l) = hst W X (t0 + 8 * 21 + r + 1) l := by
  have e : R_r_43 b (ix2 r l) = R_r_15 b (ix3 (21 : Fin 32) r l) + R_r_16 b (ix3 (21 : Fin 32) r l) * R_r_42 b (ix2 7 l) := by
    pointwise [R_r_43, k0_pay65] <;> rfl
  exact e.trans (k_tile A 21 r l _ ((tile20 A 7 l)))

theorem tile22 (A : Agr W X t0 b) (r : Fin 8) (l : Fin 1024) : R_r_44 b (ix2 r l) = hst W X (t0 + 8 * 22 + r + 1) l := by
  have e : R_r_44 b (ix2 r l) = R_r_15 b (ix3 (22 : Fin 32) r l) + R_r_16 b (ix3 (22 : Fin 32) r l) * R_r_43 b (ix2 7 l) := by
    pointwise [R_r_44, k0_pay66] <;> rfl
  exact e.trans (k_tile A 22 r l _ ((tile21 A 7 l)))

theorem tile23 (A : Agr W X t0 b) (r : Fin 8) (l : Fin 1024) : R_r_45 b (ix2 r l) = hst W X (t0 + 8 * 23 + r + 1) l := by
  have e : R_r_45 b (ix2 r l) = R_r_15 b (ix3 (23 : Fin 32) r l) + R_r_16 b (ix3 (23 : Fin 32) r l) * R_r_44 b (ix2 7 l) := by
    pointwise [R_r_45, k0_pay67] <;> rfl
  exact e.trans (k_tile A 23 r l _ ((tile22 A 7 l)))

theorem tile24 (A : Agr W X t0 b) (r : Fin 8) (l : Fin 1024) : R_r_49 b (ix2 r l) = hst W X (t0 + 8 * 24 + r + 1) l := by
  have e : R_r_49 b (ix2 r l) = R_r_15 b (ix3 (24 : Fin 32) r l) + R_r_16 b (ix3 (24 : Fin 32) r l) * R_r_45 b (ix2 7 l) := by
    pointwise [R_r_49, k0_pay71, R_r_46, k0_pay68, R_r_47, k0_pay69, R_r_48, k0_pay70] <;> rfl
  exact e.trans (k_tile A 24 r l _ ((tile23 A 7 l)))

theorem tile25 (A : Agr W X t0 b) (r : Fin 8) (l : Fin 1024) : R_r_50 b (ix2 r l) = hst W X (t0 + 8 * 25 + r + 1) l := by
  have e : R_r_50 b (ix2 r l) = R_r_15 b (ix3 (25 : Fin 32) r l) + R_r_16 b (ix3 (25 : Fin 32) r l) * R_r_49 b (ix2 7 l) := by
    pointwise [R_r_50, k0_pay72] <;> rfl
  exact e.trans (k_tile A 25 r l _ ((tile24 A 7 l)))

theorem tile26 (A : Agr W X t0 b) (r : Fin 8) (l : Fin 1024) : R_r_51 b (ix2 r l) = hst W X (t0 + 8 * 26 + r + 1) l := by
  have e : R_r_51 b (ix2 r l) = R_r_15 b (ix3 (26 : Fin 32) r l) + R_r_16 b (ix3 (26 : Fin 32) r l) * R_r_50 b (ix2 7 l) := by
    pointwise [R_r_51, k0_pay73] <;> rfl
  exact e.trans (k_tile A 26 r l _ ((tile25 A 7 l)))

theorem tile27 (A : Agr W X t0 b) (r : Fin 8) (l : Fin 1024) : R_r_52 b (ix2 r l) = hst W X (t0 + 8 * 27 + r + 1) l := by
  have e : R_r_52 b (ix2 r l) = R_r_15 b (ix3 (27 : Fin 32) r l) + R_r_16 b (ix3 (27 : Fin 32) r l) * R_r_51 b (ix2 7 l) := by
    pointwise [R_r_52, k0_pay74] <;> rfl
  exact e.trans (k_tile A 27 r l _ ((tile26 A 7 l)))

theorem tile28 (A : Agr W X t0 b) (r : Fin 8) (l : Fin 1024) : R_r_53 b (ix2 r l) = hst W X (t0 + 8 * 28 + r + 1) l := by
  have e : R_r_53 b (ix2 r l) = R_r_15 b (ix3 (28 : Fin 32) r l) + R_r_16 b (ix3 (28 : Fin 32) r l) * R_r_52 b (ix2 7 l) := by
    pointwise [R_r_53, k0_pay75] <;> rfl
  exact e.trans (k_tile A 28 r l _ ((tile27 A 7 l)))

theorem tile29 (A : Agr W X t0 b) (r : Fin 8) (l : Fin 1024) : R_r_54 b (ix2 r l) = hst W X (t0 + 8 * 29 + r + 1) l := by
  have e : R_r_54 b (ix2 r l) = R_r_15 b (ix3 (29 : Fin 32) r l) + R_r_16 b (ix3 (29 : Fin 32) r l) * R_r_53 b (ix2 7 l) := by
    pointwise [R_r_54, k0_pay76] <;> rfl
  exact e.trans (k_tile A 29 r l _ ((tile28 A 7 l)))

theorem tile30 (A : Agr W X t0 b) (r : Fin 8) (l : Fin 1024) : R_r_55 b (ix2 r l) = hst W X (t0 + 8 * 30 + r + 1) l := by
  have e : R_r_55 b (ix2 r l) = R_r_15 b (ix3 (30 : Fin 32) r l) + R_r_16 b (ix3 (30 : Fin 32) r l) * R_r_54 b (ix2 7 l) := by
    pointwise [R_r_55, k0_pay77] <;> rfl
  exact e.trans (k_tile A 30 r l _ ((tile29 A 7 l)))

theorem tile31 (A : Agr W X t0 b) (r : Fin 8) (l : Fin 1024) : R_r_56 b (ix2 r l) = hst W X (t0 + 8 * 31 + r + 1) l := by
  have e : R_r_56 b (ix2 r l) = R_r_15 b (ix3 (31 : Fin 32) r l) + R_r_16 b (ix3 (31 : Fin 32) r l) * R_r_55 b (ix2 7 l) := by
    pointwise [R_r_56, k0_pay78] <;> rfl
  exact e.trans (k_tile A 31 r l _ ((tile30 A 7 l)))

end Cert.Mix
end
-- ==== Proof.MixKerY.lean ====
module

public import proofs.«01_k».proof.Proof.MixKerB

/-!
  One block of the mixer read element by element: the first branch's output and the row the recurrence carries on.
-/

@[expose] public section

set_option maxRecDepth 16384

noncomputable section

namespace Cert.Mix

open Cert.KernelIdeal Cert.KernelIdeal.Gen Idealize.ShloMosaic

variable {W : Wt} {X : ℕ → Fin 1024 → EReal} {t0 : ℕ} {b : Blk}

/-- The row carried to the next block. -/
theorem k_carry (A : Agr W X t0 b) (r : Fin 8) (l : Fin 1024) : R_carry b (ix2 r l) = hst W X (t0 + 256) l := by
  have e : R_carry b (ix2 r l) = R_r_56 b (ix2 7 l) := by
    pointwise [R_carry, k0_pay80, R_r_57, k0_pay79] <;> rfl
  rw [e, tile31 A]; rfl

theorem stack32 (a : Fin 32 → Vec Ideal S8x1024 .f32) (h) (r : Fin 256) (l : Fin 1024) :
    concatenate (α := Ideal .f32) S256x1024 0 [⟨S8x1024, a 0⟩, ⟨S8x1024, a 1⟩, ⟨S8x1024, a 2⟩, ⟨S8x1024, a 3⟩, ⟨S8x1024, a 4⟩, ⟨S8x1024, a 5⟩, ⟨S8x1024, a 6⟩, ⟨S8x1024, a 7⟩, ⟨S8x1024, a 8⟩, ⟨S8x1024, a 9⟩, ⟨S8x1024, a 10⟩, ⟨S8x1024, a 11⟩, ⟨S8x1024, a 12⟩, ⟨S8x1024, a 13⟩, ⟨S8x1024, a 14⟩, ⟨S8x1024, a 15⟩, ⟨S8x1024, a 16⟩, ⟨S8x1024, a 17⟩, ⟨S8x1024, a 18⟩, ⟨S8x1024, a 19⟩, ⟨S8x1024, a 20⟩, ⟨S8x1024, a 21⟩, ⟨S8x1024, a 22⟩, ⟨S8x1024, a 23⟩, ⟨S8x1024, a 24⟩, ⟨S8x1024, a 25⟩, ⟨S8x1024, a 26⟩, ⟨S8x1024, a 27⟩, ⟨S8x1024, a 28⟩, ⟨S8x1024, a 29⟩, ⟨S8x1024, a 30⟩, ⟨S8x1024, a 31⟩] h (ix2 r l) = a ⟨r / 8, by omega⟩ (ix2 ⟨r % 8, by omega⟩ l) := by
  have key : ∀ (xs : List ((s : Shape) × (s.Idx → Ideal .f32))) (_ : xs = List.ofFn fun n : Fin 32 => ⟨S8x1024, a n⟩) (h : Shape.Concatenates (xs.map (·.1)) S256x1024 0),
      concatenate (α := Ideal .f32) S256x1024 0 xs h (ix2 r l) = a ⟨r / 8, by omega⟩ (ix2 ⟨r % 8, by omega⟩ l) := by
    rintro _ rfl h
    exact concatenate_ofFn_apply (t := S256x1024) (s₁ := S8x1024) (N := 32) 0 a h rfl 8 rfl (ix2 r l) ⟨r / 8, by omega⟩ rfl (ix2 ⟨r % 8, by omega⟩ l) rfl
      (by intro b hb; match b with | ⟨0, _⟩ => exact absurd rfl hb | ⟨1, _⟩ => rfl)
  exact key _ (by rfl) h

/-- The 32 tiles one under another. -/
theorem k_stack (A : Agr W X t0 b) (C : Vec Ideal S256x1024 .f32)
    (hC : concatenate S256x1024 0 [⟨S8x1024, R_r_17 b⟩, ⟨S8x1024, R_r_18 b⟩, ⟨S8x1024, R_r_20 b⟩, ⟨S8x1024, R_r_21 b⟩, ⟨S8x1024, R_r_22 b⟩, ⟨S8x1024, R_r_23 b⟩, ⟨S8x1024, R_r_24 b⟩, ⟨S8x1024, R_r_25 b⟩, ⟨S8x1024, R_r_26 b⟩, ⟨S8x1024, R_r_30 b⟩, ⟨S8x1024, R_r_31 b⟩, ⟨S8x1024, R_r_32 b⟩, ⟨S8x1024, R_r_33 b⟩, ⟨S8x1024, R_r_34 b⟩, ⟨S8x1024, R_r_35 b⟩, ⟨S8x1024, R_r_36 b⟩, ⟨S8x1024, R_r_37 b⟩, ⟨S8x1024, R_r_39 b⟩, ⟨S8x1024, R_r_40 b⟩, ⟨S8x1024, R_r_41 b⟩, ⟨S8x1024, R_r_42 b⟩, ⟨S8x1024, R_r_43 b⟩, ⟨S8x1024, R_r_44 b⟩, ⟨S8x1024, R_r_45 b⟩, ⟨S8x1024, R_r_49 b⟩, ⟨S8x1024, R_r_50 b⟩, ⟨S8x1024, R_r_51 b⟩, ⟨S8x1024, R_r_52 b⟩, ⟨S8x1024, R_r_53 b⟩, ⟨S8x1024, R_r_54 b⟩, ⟨S8x1024, R_r_55 b⟩, ⟨S8x1024, R_r_56 b⟩] concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0 = C) (r : Fin 256) (l : Fin 1024) : C (ix2 r l) = hst W X (t0 + r + 1) l := by
  rw [← hC]
  let T : Fin 32 → Vec Ideal S8x1024 .f32 := ![R_r_17 b, R_r_18 b, R_r_20 b, R_r_21 b, R_r_22 b, R_r_23 b, R_r_24 b, R_r_25 b, R_r_26 b, R_r_30 b, R_r_31 b, R_r_32 b, R_r_33 b, R_r_34 b, R_r_35 b, R_r_36 b, R_r_37 b, R_r_39 b, R_r_40 b, R_r_41 b, R_r_42 b, R_r_43 b, R_r_44 b, R_r_45 b, R_r_49 b, R_r_50 b, R_r_51 b, R_r_52 b, R_r_53 b, R_r_54 b, R_r_55 b, R_r_56 b]
  have hT : ∀ (k : Fin 32) (r : Fin 8) (l : Fin 1024), T k (ix2 r l) = hst W X (t0 + 8 * k + r + 1) l := fun k r l =>
    match k with
    | ⟨0, _⟩ => tile0 A r l
    | ⟨1, _⟩ => tile1 A r l
    | ⟨2, _⟩ => tile2 A r l
    | ⟨3, _⟩ => tile3 A r l
    | ⟨4, _⟩ => tile4 A r l
    | ⟨5, _⟩ => tile5 A r l
    | ⟨6, _⟩ => tile6 A r l
    | ⟨7, _⟩ => tile7 A r l
    | ⟨8, _⟩ => tile8 A r l
    | ⟨9, _⟩ => tile9 A r l
    | ⟨10, _⟩ => tile10 A r l
    | ⟨11, _⟩ => tile11 A r l
    | ⟨12, _⟩ => tile12 A r l
    | ⟨13, _⟩ => tile13 A r l
    | ⟨14, _⟩ => tile14 A r l
    | ⟨15, _⟩ => tile15 A r l
    | ⟨16, _⟩ => tile16 A r l
    | ⟨17, _⟩ => tile17 A r l
    | ⟨18, _⟩ => tile18 A r l
    | ⟨19, _⟩ => tile19 A r l
    | ⟨20, _⟩ => tile20 A r l
    | ⟨21, _⟩ => tile21 A r l
    | ⟨22, _⟩ => tile22 A r l
    | ⟨23, _⟩ => tile23 A r l
    | ⟨24, _⟩ => tile24 A r l
    | ⟨25, _⟩ => tile25 A r l
    | ⟨26, _⟩ => tile26 A r l
    | ⟨27, _⟩ => tile27 A r l
    | ⟨28, _⟩ => tile28 A r l
    | ⟨29, _⟩ => tile29 A r l
    | ⟨30, _⟩ => tile30 A r l
    | ⟨31, _⟩ => tile31 A r l
    | ⟨n + 32, h⟩ => absurd h (by omega)
  exact (stack32 T _ r l).trans ((hT ⟨r / 8, by omega⟩ ⟨r % 8, by omega⟩ l).trans
    (congrArg (fun n => hst W X n l) (by show t0 + 8 * ((r : ℕ) / 8) + r % 8 + 1 = t0 + r + 1; omega)))

theorem k_yl (A : Agr W X t0 b) (r : Fin 256) (l : Fin 1024) : R_r_58 b (ix2 r l) = yl W X (t0 + r) l := by
  unfold R_r_58 k0_pay81
  generalize hC : concatenate S256x1024 0 _ _ = C
  have h := k_stack A C hC
  clear hC
  pointwise
  simp only [h, k_gate A, A.lno]
  unfold yl nrm msq gelu
  simp only [mul_comm (pj W X (t0 + r) _) (pj W X (t0 + r) _ * pj W X (t0 + r) _)]

end Cert.Mix
end
-- ==== Proof.MixFin.lean ====
module

public import proofs.«01_k».proof.Proof.MixSpec

/-!
  With finite weights every value of the second branch is a real number, and a stretch of 128 tokens has the closed form
  that the kernel computes.
-/

@[expose] public section

noncomputable section

namespace Cert.Mix

open Idealize.ShloMosaic

/-- The weights the second branch reads, and the norm before it, are real numbers. -/
structure FinW (W : Wt) : Prop where
  pre : ∀ k, Fin' (W.pre k)
  win : ∀ k c, Fin' (W.win k c)
  scw : ∀ k c, Fin' (W.scw k c)
  scb : ∀ c, Fin' (W.scb c)
  dtb : ∀ e, Fin' (W.dtb e)
  alog : ∀ e, Fin' (W.alog e)

variable {W : Wt} {X : ℕ → Fin 1024 → EReal}

theorem fin_hb (F : FinW W) (t : ℕ) (k : Fin 1024) : Fin' (hb W X t k) := by
  have e1 : Ideal.ofBits .f32 0x44800000#32 = ((1024 : ℝ) : EReal) := by
    simp [Ideal.ofBits, Ideal.ieee, -EReal.coe_mul, -EReal.coe_neg]; norm_num
  have e2 : ∃ d : ℝ, 0 < d ∧ Ideal.ofBits .f32 0x358637BD#32 = (d : EReal) := by
    refine ⟨_, ?_, by simp [Ideal.ofBits, Ideal.ieee, -EReal.coe_mul, -EReal.coe_neg]; rfl⟩
    norm_num
  obtain ⟨d, hd, e2⟩ := e2
  unfold hb nrm msq
  rw [e1, e2]
  exact (mul_rsqrt_fin (X t) 1024 d (by norm_num) hd k).mul (F.pre k)

theorem fin_pj (F : FinW W) (t : ℕ) (c : Fin 4624) : Fin' (pj W X t c) :=
  Fin'.sum fun k => (fin_hb F t k).mul (F.win k c)

theorem fin_back {s : ℕ → EReal} (h : ∀ n, Fin' (s n)) (n : ℕ) : Fin' (back s n) := by
  unfold back; split
  · exact Fin'.zero
  · exact h _

theorem fin_xbc (F : FinW W) (t : ℕ) (c : Fin 1536) : Fin' (xbc W X t c) := by
  have hb := fin_back (s := fun s => pj W X s ⟨3072 + c, by omega⟩) (fun n => fin_pj F n _)
  have hc : Fin' (conv (fun s => pj W X s ⟨3072 + c, by omega⟩) (fun k => W.scw k c) (W.scb c) t) :=
    (((((F.scb c).add ((hb _).mul (F.scw _ c))).add ((hb _).mul (F.scw _ c))).add ((hb _).mul (F.scw _ c))).add
      ((hb _).mul (F.scw _ c)))
  exact hc.mul (logistic_fin _)

theorem fin_dt (F : FinW W) (t : ℕ) (e : Fin 16) : Fin' (dt W X t e) := by
  have h := (fin_pj (X := X) F t ⟨4608 + e, by omega⟩).add (F.dtb e)
  exact (h.max Fin'.zero).add (log1p_exp_fin (h.max h.neg).neg)

/-- The exponent of a token's decay. -/
def adt (W : Wt) (X : ℕ → Fin 1024 → EReal) (t : ℕ) (e : Fin 16) : EReal := dt W X t e * -(Ideal.exp (W.alog e))

theorem fin_adt (F : FinW W) (t : ℕ) (e : Fin 16) : Fin' (adt W X t e) := (fin_dt F t e).mul (F.alog e).exp.neg

/-- The sum of the exponents of tokens `t … t + r`. -/
def csE (W : Wt) (X : ℕ → Fin 1024 → EReal) (t : ℕ) (e : Fin 16) (r : ℕ) : EReal :=
  ∑ j : Fin 128, if (j : ℕ) ≤ r then adt W X (t + j) e else 0

theorem sum_upto {M : Type*} [AddCommMonoid M] (f : ℕ → M) (r : Fin 128) :
    (∑ x : Fin 128, if (x : ℕ) ≤ r then f x else 0) = ∑ j ∈ Finset.range (r + 1), f j := by
  rw [← Finset.sum_range (f := fun j => if j ≤ (r : ℕ) then f j else 0), ← Finset.sum_filter]
  refine Finset.sum_congr ?_ fun _ _ => rfl
  ext j; simp only [Finset.mem_filter, Finset.mem_range]; omega

/-- The real numbers behind one lane of a stretch. -/
theorem reals (F : FinW W) (t : ℕ) (L : Fin 1024) : ∃ (al d Xr : ℕ → ℝ) (Br Cr : ℕ → Fin 128 → ℝ),
    (∀ j, adt W X (t + j) ⟨L / 64, by omega⟩ = al j) ∧ (∀ j, dt W X (t + j) ⟨L / 64, by omega⟩ = d j) ∧
    (∀ j, xbc W X (t + j) ⟨L, by omega⟩ = Xr j) ∧
    (∀ j (n : Fin 128), xbc W X (t + j) ⟨1024 + 128 * (L / 512) + n, by omega⟩ = Br j n) ∧
    (∀ j (n : Fin 128), xbc W X (t + j) ⟨1280 + 128 * (L / 512) + n, by omega⟩ = Cr j n) := by
  choose al ha using fun j : ℕ => fin_adt (X := X) F (t + j) ⟨L / 64, by omega⟩
  choose d hd using fun j : ℕ => fin_dt (X := X) F (t + j) ⟨L / 64, by omega⟩
  choose Xr hX using fun j : ℕ => fin_xbc (X := X) F (t + j) ⟨L, by omega⟩
  choose Br hB using fun (j : ℕ) (n : Fin 128) => fin_xbc (X := X) F (t + j) ⟨1024 + 128 * (L / 512) + n, by omega⟩
  choose Cr hC using fun (j : ℕ) (n : Fin 128) => fin_xbc (X := X) F (t + j) ⟨1280 + 128 * (L / 512) + n, by omega⟩
  exact ⟨al, d, Xr, Br, Cr, ha, hd, hX, hB, hC⟩

theorem fin_sst (F : FinW W) (t : ℕ) (L : Fin 1024) (n : Fin 128) : Fin' (sst W X t L n) := by
  induction t with
  | zero => exact Fin'.zero
  | succ t ih => exact (((fin_adt F t _).exp).mul ih).add (((fin_xbc F t _).mul (fin_dt F t _)).mul (fin_xbc F t _))

/-- The state after `k` more tokens, as a real number. -/
theorem sst_real (t : ℕ) (L : Fin 1024) (al d Xr : ℕ → ℝ) (Br : ℕ → Fin 128 → ℝ) (S : Fin 128 → ℝ)
    (ha : ∀ j, adt W X (t + j) ⟨L / 64, by omega⟩ = al j) (hd : ∀ j, dt W X (t + j) ⟨L / 64, by omega⟩ = d j)
    (hX : ∀ j, xbc W X (t + j) ⟨L, by omega⟩ = Xr j)
    (hB : ∀ j (n : Fin 128), xbc W X (t + j) ⟨1024 + 128 * (L / 512) + n, by omega⟩ = Br j n)
    (hS : ∀ n, sst W X t L n = S n) (k : ℕ) (n : Fin 128) :
    sst W X (t + k) L n = (ssm al d Xr (fun j => Br j n) (S n) k : ℝ) := by
  induction k with
  | zero => exact hS n
  | succ k ih =>
    have e : sst W X (t + (k + 1)) L n = Ideal.exp (adt W X (t + k) ⟨L / 64, by omega⟩) * sst W X (t + k) L n
      + (xbc W X (t + k) ⟨L, by omega⟩ * dt W X (t + k) ⟨L / 64, by omega⟩)
        * xbc W X (t + k) ⟨1024 + 128 * (L / 512) + n, by omega⟩ := rfl
    rw [e, ha, hd, hX, hB, ih, Ideal.exp_coe]
    simp only [ssm, EReal.coe_add, EReal.coe_mul]

theorem csE_real (t : ℕ) (e : Fin 16) (al : ℕ → ℝ) (ha : ∀ j, adt W X (t + j) e = al j) (r : Fin 128) :
    csE W X t e r = (cum al r : ℝ) := by
  unfold csE cum
  rw [coe_sum, ← sum_upto (fun j => (al j : EReal)) r]
  exact Finset.sum_congr rfl fun j _ => by rw [ha]

theorem ite_coe (p : Prop) [Decidable p] (x : ℝ) : (if p then (x : EReal) else 0) = ((if p then x else 0 : ℝ) : EReal) := by
  split <;> rfl

theorem chunk_y (F : FinW W) (t : ℕ) (L : Fin 1024) (r : Fin 128) :
    (∑ x : Fin 128, if (x : ℕ) ≤ r then
      (∑ n : Fin 128, xbc W X (t + r) ⟨1280 + 128 * (L / 512) + n, by omega⟩
          * xbc W X (t + x) ⟨1024 + 128 * (L / 512) + n, by omega⟩)
        * Ideal.exp (csE W X t ⟨L / 64, by omega⟩ r - csE W X t ⟨L / 64, by omega⟩ x)
        * dt W X (t + x) ⟨L / 64, by omega⟩ * xbc W X (t + x) ⟨L, by omega⟩ else 0)
    + ∑ n : Fin 128, xbc W X (t + r) ⟨1280 + 128 * (L / 512) + n, by omega⟩ * Ideal.exp (csE W X t ⟨L / 64, by omega⟩ r)
        * sst W X t L n = yr W X (t + r) L := by
  obtain ⟨al, d, Xr, Br, Cr, ha, hd, hX, hB, hC⟩ := reals (X := X) F t L
  choose S hS using fun n => fin_sst (X := X) F t L n
  unfold yr
  have hs : ∀ n, sst W X (t + r + 1) L n = _ := fun n => sst_real t L al d Xr Br S ha hd hX hB hS (r + 1) n
  simp only [hs, hd, hX, hB, hC, hS, csE_real t _ al ha, ← EReal.coe_mul, ← EReal.coe_sub, ← EReal.coe_add, Ideal.exp_coe,
    ← coe_sum, ite_coe]
  refine congrArg _ ?_
  rw [sum_upto (fun x => (∑ n : Fin 128, Cr r n * Br x n) * Real.exp (cum al r - cum al x) * d x * Xr x) r]
  simp only [ssm_closed, add_mul, Finset.sum_add_distrib]
  rw [add_comm]
  refine congrArg₂ (· + ·) (Finset.sum_congr rfl fun n _ => by ring) ?_
  simp only [Finset.sum_mul]
  rw [Finset.sum_comm]
  exact Finset.sum_congr rfl fun n _ => Finset.sum_congr rfl fun j _ => by ring

theorem chunk_s (F : FinW W) (t : ℕ) (L : Fin 1024) (n : Fin 128) :
    sst W X t L n * Ideal.exp (csE W X t ⟨L / 64, by omega⟩ (127 : ℕ))
    + (∑ x : Fin 128, xbc W X (t + x) ⟨1024 + 128 * (L / 512) + n, by omega⟩
        * (Ideal.exp (csE W X t ⟨L / 64, by omega⟩ (127 : ℕ) - csE W X t ⟨L / 64, by omega⟩ x)
          * dt W X (t + x) ⟨L / 64, by omega⟩) * xbc W X (t + x) ⟨L, by omega⟩) = sst W X (t + 128) L n := by
  obtain ⟨al, d, Xr, Br, Cr, ha, hd, hX, hB, hC⟩ := reals (X := X) F t L
  choose S hS using fun n => fin_sst (X := X) F t L n
  have hs := sst_real t L al d Xr Br S ha hd hX hB hS 128 n
  have h127 : csE W X t ⟨L / 64, by omega⟩ (127 : ℕ) = (cum al 127 : ℝ) := csE_real t _ al ha (⟨127, by omega⟩ : Fin 128)
  rw [hs, h127]
  simp only [hd, hX, hB, hS, csE_real t _ al ha, ← EReal.coe_mul, ← EReal.coe_sub, ← EReal.coe_add, Ideal.exp_coe,
    ← coe_sum]
  refine congrArg _ ?_
  rw [ssm_closed, Finset.sum_range (n := 127 + 1)]
  exact congrArg₂ (· + ·) (mul_comm _ _) (Finset.sum_congr rfl fun j _ => by ring)

end Cert.Mix
end
-- ==== Proof.MixKerC.lean ====
module

public import proofs.«01_k».proof.Proof.MixKerA
public import proofs.«01_k».proof.Proof.MixFin

/-!
  The second branch of a block: the shape of a pair of heads over a stretch of 128 tokens, and what it amounts to.
-/

@[expose] public section

set_option maxRecDepth 16384

noncomputable section

namespace Cert.Mix

open Cert.KernelIdeal Cert.KernelIdeal.Gen Idealize.ShloMosaic

variable {W : Wt} {X : ℕ → Fin 1024 → EReal} {t0 : ℕ} {b : Blk}

theorem sum512 (F : Fin 512 → EReal) : ∑ x, F x = (∑ x : Fin 128, F ⟨x, by omega⟩) + (∑ x : Fin 128, F ⟨128 + x, by omega⟩) + (∑ x : Fin 128, F ⟨256 + x, by omega⟩) + (∑ x : Fin 128, F ⟨384 + x, by omega⟩) := by
  rw [show ∑ x, F x = ∑ x : Fin (128 + 128 + 128 + 128), F x from rfl, Fin.sum_univ_add, Fin.sum_univ_add, Fin.sum_univ_add]
  rfl

theorem cat_matmul (a0 a1 a2 a3 b0 b1 b2 b3 : Vec Ideal S128x128 .bf16) (r l : Fin 128) :
    matmul dot_S128x512_S512x128_S128x128_1_0_0_1_n_n none (concatenate (α := Ideal .bf16) S128x512 1 [⟨S128x128, a0⟩, ⟨S128x128, a1⟩, ⟨S128x128, a2⟩, ⟨S128x128, a3⟩] concatenates_S128x128_S128x128_S128x128_S128x128_S128x512_d1) (concatenate (α := Ideal .bf16) S512x128 0 [⟨S128x128, b0⟩, ⟨S128x128, b1⟩, ⟨S128x128, b2⟩, ⟨S128x128, b3⟩] concatenates_S128x128_S128x128_S128x128_S128x128_S512x128_d0) (constant (F := Ideal) S128x128 .f32 0x00000000#32) (ix2 r l) =
    (∑ x : Fin 128, a0 (ix2 r x) * b0 (ix2 x l)) + (∑ x : Fin 128, a1 (ix2 r x) * b1 (ix2 x l)) + (∑ x : Fin 128, a2 (ix2 r x) * b2 (ix2 x l)) + (∑ x : Fin 128, a3 (ix2 r x) * b3 (ix2 x l)) := by
  pointwise
  rw [sum512]
  refine congrArg₂ (· + ·) (congrArg₂ (· + ·) (congrArg₂ (· + ·) ?_ ?_) ?_) ?_ <;> refine Finset.sum_congr rfl fun x _ => ?_
  · rw [dif_pos (show (x : ℕ) < 128 from x.isLt), dif_pos (show (x : ℕ) < 128 from x.isLt)]
  · rw [dif_neg (show ¬ 128 + (x : ℕ) < 128 by omega), dif_pos (show 128 + (x : ℕ) - 128 < 128 by omega), dif_neg (show ¬ 128 + (x : ℕ) < 128 by omega), dif_pos (show 128 + (x : ℕ) - 128 < 128 by omega)]
    simp only [Nat.add_sub_cancel_left]
  · rw [dif_neg (show ¬ 256 + (x : ℕ) < 128 by omega), dif_neg (show ¬ 256 + (x : ℕ) - 128 < 128 by omega), dif_pos (show 256 + (x : ℕ) - 128 - 128 < 128 by omega), dif_neg (show ¬ 256 + (x : ℕ) < 128 by omega), dif_neg (show ¬ 256 + (x : ℕ) - 128 < 128 by omega), dif_pos (show 256 + (x : ℕ) - 128 - 128 < 128 by omega)]
    simp only [show 256 + (x : ℕ) - 128 - 128 = x by omega]
  · rw [dif_neg (show ¬ 384 + (x : ℕ) < 128 by omega), dif_neg (show ¬ 384 + (x : ℕ) - 128 < 128 by omega), dif_neg (show ¬ 384 + (x : ℕ) - 128 - 128 < 128 by omega), dif_neg (show ¬ 384 + (x : ℕ) < 128 by omega), dif_neg (show ¬ 384 + (x : ℕ) - 128 < 128 by omega), dif_neg (show ¬ 384 + (x : ℕ) - 128 - 128 < 128 by omega)]
    simp only [show 384 + (x : ℕ) - 128 - 128 - 128 = x by omega]

theorem selge (r x : Fin 128) (u v : EReal) :
    Scalar.select (IntOp.cmpi CmpIPredicate.sge (BitVec.ofNat 32 r) (BitVec.ofNat 32 x)) u v = if (x : ℕ) ≤ r then u else v := by
  have h : ∀ r x : Fin 128, IntOp.cmpi CmpIPredicate.sge (BitVec.ofNat 32 r) (BitVec.ofNat 32 x) = if (x : ℕ) ≤ r then 1 else 0 := by
    decide +kernel
  unfold Scalar.select; rw [h]; by_cases h : (x : ℕ) ≤ r <;> simp [h]

theorem sellt (l : Fin 128) (u v : EReal) :
    Scalar.select (IntOp.cmpi CmpIPredicate.slt (BitVec.ofNat 32 l) 64#32) u v = if (l : ℕ) < 64 then u else v := by
  have h : ∀ l : Fin 128, IntOp.cmpi CmpIPredicate.slt (BitVec.ofNat 32 l) 64#32 = if (l : ℕ) < 64 then 1 else 0 := by
    decide +kernel
  unfold Scalar.select; rw [h]; by_cases h : (l : ℕ) < 64 <;> simp [h]

theorem sel16 (l : Fin 128) (u v : EReal) :
    Scalar.select (IntOp.cmpi CmpIPredicate.slt (BitVec.ofNat 32 l) 16#32) u v = if (l : ℕ) < 16 then u else v := by
  have h : ∀ l : Fin 128, IntOp.cmpi CmpIPredicate.slt (BitVec.ofNat 32 l) 16#32 = if (l : ℕ) < 16 then 1 else 0 := by
    decide +kernel
  unfold Scalar.select; rw [h]; by_cases h : (l : ℕ) < 16 <;> simp [h]

theorem maskge (r x : Fin 128) (u : EReal) :
    (FloatOps.sitofp (F := Ideal) FTy.f32 (BitVec.setWidth 32 (IntOp.cmpi CmpIPredicate.sge (BitVec.ofNat 32 r) (BitVec.ofNat 32 x))) : EReal) * u
      = if (x : ℕ) ≤ r then u else 0 := by
  have h : ∀ r x : Fin 128, IntOp.cmpi CmpIPredicate.sge (BitVec.ofNat 32 r) (BitVec.ofNat 32 x) = if (x : ℕ) ≤ r then 1 else 0 := by
    decide +kernel
  rw [h]
  by_cases h : (x : ℕ) ≤ r
  · rw [if_pos h, if_pos h]
    have e : (FloatOps.sitofp (F := Ideal) FTy.f32 (BitVec.setWidth 32 1#1) : EReal) = 1 := by
      show (((BitVec.setWidth 32 1#1).toInt : ℝ) : EReal) = 1
      norm_num
    exact (congrArg (· * u) e).trans (one_mul u)
  · rw [if_neg h, if_neg h]
    have e : (FloatOps.sitofp (F := Ideal) FTy.f32 (BitVec.setWidth 32 0#1) : EReal) = 0 := by
      show (((BitVec.setWidth 32 0#1).toInt : ℝ) : EReal) = 0
      norm_num
    exact (congrArg (· * u) e).trans (zero_mul u)

/-- What a pair of heads reads out at a token of a stretch. -/
def yfm (sc cs dtm sx c st : Fin 128 → Fin 128 → EReal) (e0 e1 r l : Fin 128) : EReal :=
  (∑ x : Fin 128, Scalar.select (IntOp.cmpi CmpIPredicate.slt (BitVec.ofNat 32 l) 64#32)
    (Scalar.select (IntOp.cmpi CmpIPredicate.sge (BitVec.ofNat 32 r) (BitVec.ofNat 32 x))
      (sc r x * Ideal.exp (cs r e0 - cs x e0) * dtm x e0 * sx x l) 0) 0)
  + (∑ x : Fin 128, Scalar.select (IntOp.cmpi CmpIPredicate.slt (BitVec.ofNat 32 l) 64#32)
      (c r x * Ideal.exp (cs r e0) * st x l) 0)
  + (∑ x : Fin 128, Scalar.select (IntOp.cmpi CmpIPredicate.slt (BitVec.ofNat 32 l) 64#32) 0
    (Scalar.select (IntOp.cmpi CmpIPredicate.sge (BitVec.ofNat 32 r) (BitVec.ofNat 32 x))
      (sc r x * Ideal.exp (cs r e1 - cs x e1) * dtm x e1 * sx x l) 0))
  + (∑ x : Fin 128, Scalar.select (IntOp.cmpi CmpIPredicate.slt (BitVec.ofNat 32 l) 64#32) 0
      (c r x * Ideal.exp (cs r e1) * st x l))

/-- The state a pair of heads leaves after a stretch. -/
def sfm (cs dtm sx bb st : Fin 128 → Fin 128 → EReal) (e0 e1 n l : Fin 128) : EReal :=
  st n l * Scalar.select (IntOp.cmpi CmpIPredicate.slt (BitVec.ofNat 32 l) 64#32) (Ideal.exp (cs 127 e0)) (Ideal.exp (cs 127 e1))
  + ((∑ x : Fin 128, Scalar.select (IntOp.cmpi CmpIPredicate.slt (BitVec.ofNat 32 l) 64#32)
      (bb x n * (Ideal.exp (cs 127 e0 - cs x e0) * dtm x e0) * sx x l) 0)
    + ∑ x : Fin 128, Scalar.select (IntOp.cmpi CmpIPredicate.slt (BitVec.ofNat 32 l) 64#32) 0
      (bb x n * (Ideal.exp (cs 127 e1 - cs x e1) * dtm x e1) * sx x l))

theorem yfm_sem (F : FinW W) (t : ℕ) (p : Fin 8) {sc cs dtm sx c st : Fin 128 → Fin 128 → EReal} (e0 e1 : Fin 128)
  (he0 : (e0 : ℕ) = 2 * p) (he1 : (e1 : ℕ) = 2 * p + 1)
  (hcs : ∀ (r e : Fin 128) (h : (e : ℕ) < 16), cs r e = csE W X t ⟨e, h⟩ r)
  (hdt : ∀ (x e : Fin 128) (h : (e : ℕ) < 16), dtm x e = dt W X (t + x) ⟨e, h⟩)
  (hsx : ∀ x l : Fin 128, sx x l = xbc W X (t + x) ⟨128 * p + l, by omega⟩)
  (hst : ∀ n l : Fin 128, st n l = sst W X t ⟨128 * p + l, by omega⟩ n)
    (hsc : ∀ r x : Fin 128, sc r x = ∑ n : Fin 128, xbc W X (t + r) ⟨1280 + 128 * (p / 4) + n, by omega⟩
      * xbc W X (t + x) ⟨1024 + 128 * (p / 4) + n, by omega⟩)
    (hc : ∀ r n : Fin 128, c r n = xbc W X (t + r) ⟨1280 + 128 * (p / 4) + n, by omega⟩) (r l : Fin 128) :
    yfm sc cs dtm sx c st e0 e1 r l = yr W X (t + r) ⟨128 * p + l, by omega⟩ := by
  rw [← chunk_y F t ⟨128 * p + l, by omega⟩ r]
  have hg : (128 * (p : ℕ) + l) / 512 = p / 4 := by omega
  unfold yfm
  simp only [sellt, selge, hsc, hc, hsx, hst, hg]
  by_cases hl : (l : ℕ) < 64
  · have he : (128 * (p : ℕ) + l) / 64 = e0 := by omega
    simp only [if_pos hl, Finset.sum_const_zero, add_zero, he, fun r => hcs r e0 (by omega), fun r => hdt r e0 (by omega)]
  · have he : (128 * (p : ℕ) + l) / 64 = e1 := by omega
    simp only [if_neg hl, Finset.sum_const_zero, add_zero, zero_add, he, fun r => hcs r e1 (by omega), fun r => hdt r e1 (by omega)]

theorem sfm_sem (F : FinW W) (t : ℕ) (p : Fin 8) {cs dtm sx bb st : Fin 128 → Fin 128 → EReal} (e0 e1 : Fin 128)
  (he0 : (e0 : ℕ) = 2 * p) (he1 : (e1 : ℕ) = 2 * p + 1)
  (hcs : ∀ (r e : Fin 128) (h : (e : ℕ) < 16), cs r e = csE W X t ⟨e, h⟩ r)
  (hdt : ∀ (x e : Fin 128) (h : (e : ℕ) < 16), dtm x e = dt W X (t + x) ⟨e, h⟩)
  (hsx : ∀ x l : Fin 128, sx x l = xbc W X (t + x) ⟨128 * p + l, by omega⟩)
  (hst : ∀ n l : Fin 128, st n l = sst W X t ⟨128 * p + l, by omega⟩ n)
    (hbb : ∀ r n : Fin 128, bb r n = xbc W X (t + r) ⟨1024 + 128 * (p / 4) + n, by omega⟩) (n l : Fin 128) :
    sfm cs dtm sx bb st e0 e1 n l = sst W X (t + 128) ⟨128 * p + l, by omega⟩ n := by
  rw [← chunk_s F t ⟨128 * p + l, by omega⟩ n]
  have hg : (128 * (p : ℕ) + l) / 512 = p / 4 := by omega
  have h7 : ((127 : Fin 128) : ℕ) = 127 := rfl
  unfold sfm
  simp only [sellt, hbb, hsx, hst, hg]
  by_cases hl : (l : ℕ) < 64
  · have he : (128 * (p : ℕ) + l) / 64 = e0 := by omega
    simp only [if_pos hl, Finset.sum_const_zero, add_zero, he, fun r => hcs r e0 (by omega), fun r => hdt r e0 (by omega), h7]
  · have he : (128 * (p : ℕ) + l) / 64 = e1 := by omega
    simp only [if_neg hl, Finset.sum_const_zero, add_zero, zero_add, he, fun r => hcs r e1 (by omega), fun r => hdt r e1 (by omega), h7]

/-! ## The pieces the pairs share -/

theorem k_dt (A : Agr W X t0 b) (r : Fin 256) (e : Fin 128) (h : (e : ℕ) < 16) : R_r_64 b (ix2 r e) = dt W X (t0 + r) ⟨e, h⟩ := by
  have e1 : R_r_64 b (ix2 r e) = max (R_r_5 b (ix2 r e) + b.x16 (ix2 0 e)) 0
      + Ideal.log1p (Ideal.exp (0 - max (R_r_5 b (ix2 r e) + b.x16 (ix2 0 e)) (-(R_r_5 b (ix2 r e) + b.x16 (ix2 0 e))))) := by
    pointwise [R_r_64, k0_pay88] <;> rfl
  rw [e1, k_dtraw A, A.dtb, dif_pos h, dif_pos h, zero_sub]; rfl

theorem k_adt (A : Agr W X t0 b) (r : Fin 256) (e : Fin 128) (h : (e : ℕ) < 16) : R_r_66 b (ix2 r e) = adt W X (t0 + r) ⟨e, h⟩ := by
  have e1 : R_r_66 b (ix2 r e) = Scalar.select (IntOp.cmpi CmpIPredicate.slt (BitVec.ofNat 32 e) 16#32)
      (R_r_64 b (ix2 r e) * (0 - Ideal.exp (b.x17 (ix2 0 e)))) 0 := by
    pointwise [R_r_66, k0_pay90, k0_pay89, R_r_65] <;> rfl
  rw [e1, sel16, if_pos h, k_dt A r e h, A.alog, dif_pos h, zero_sub]; rfl

theorem split_cs (v : Fin 128 → EReal) (hv : ∀ x, Fin' (v x)) (r : Fin 128) :
    (∑ x : Fin 128, (FloatOps.sitofp (F := Ideal) FTy.f32 (BitVec.setWidth 32 (IntOp.cmpi CmpIPredicate.sge (BitVec.ofNat 32 r) (BitVec.ofNat 32 x))) : EReal) * v x)
    + (∑ x : Fin 128, (FloatOps.sitofp (F := Ideal) FTy.f32 (BitVec.setWidth 32 (IntOp.cmpi CmpIPredicate.sge (BitVec.ofNat 32 r) (BitVec.ofNat 32 x))) : EReal) * (v x - v x))
    + (∑ x : Fin 128, (FloatOps.sitofp (F := Ideal) FTy.f32 (BitVec.setWidth 32 (IntOp.cmpi CmpIPredicate.sge (BitVec.ofNat 32 r) (BitVec.ofNat 32 x))) : EReal) * (v x - v x - (v x - v x)))
    = ∑ x : Fin 128, if (x : ℕ) ≤ r then v x else 0 := by
  have h0 : ∀ x, v x - v x = 0 := fun x => (hv x).sub_self
  have h1 : (0 : EReal) - 0 = 0 := by rw [zero_sub, neg_zero]
  simp only [maskge, h0, h1, ite_self, Finset.sum_const_zero, add_zero]

theorem k_cs0 (A : Agr W X t0 b) (F : FinW W) (r e : Fin 128) (h : (e : ℕ) < 16) : R_r_67 b (ix2 r e) = csE W X t0 ⟨e, h⟩ r := by
  have e1 : R_r_67 b (ix2 r e) = (∑ x : Fin 128, (FloatOps.sitofp (F := Ideal) FTy.f32 (BitVec.setWidth 32 (IntOp.cmpi CmpIPredicate.sge (BitVec.ofNat 32 r) (BitVec.ofNat 32 x))) : EReal) * R_r_66 b (ix2 ⟨x, by omega⟩ e))
      + (∑ x : Fin 128, (FloatOps.sitofp (F := Ideal) FTy.f32 (BitVec.setWidth 32 (IntOp.cmpi CmpIPredicate.sge (BitVec.ofNat 32 r) (BitVec.ofNat 32 x))) : EReal) * (R_r_66 b (ix2 ⟨x, by omega⟩ e) - R_r_66 b (ix2 ⟨x, by omega⟩ e)))
      + (∑ x : Fin 128, (FloatOps.sitofp (F := Ideal) FTy.f32 (BitVec.setWidth 32 (IntOp.cmpi CmpIPredicate.sge (BitVec.ofNat 32 r) (BitVec.ofNat 32 x))) : EReal) * (R_r_66 b (ix2 ⟨x, by omega⟩ e) - R_r_66 b (ix2 ⟨x, by omega⟩ e) - (R_r_66 b (ix2 ⟨x, by omega⟩ e) - R_r_66 b (ix2 ⟨x, by omega⟩ e)))) := by
    pointwise [R_r_67, k0_pay95, k0_pay92, k0_pay91] <;> rfl
  have hv : ∀ x : Fin 128, R_r_66 b (ix2 (⟨x, by omega⟩ : Fin 256) e) = adt W X (t0 + x) ⟨e, h⟩ := fun x => k_adt A _ e h
  rw [e1, split_cs (fun x : Fin 128 => R_r_66 b (ix2 (⟨x, by omega⟩ : Fin 256) e)) (fun x => by rw [hv]; exact fin_adt F _ _) r]
  unfold csE
  simp only [hv]

theorem k_cs1 (A : Agr W X t0 b) (F : FinW W) (r e : Fin 128) (h : (e : ℕ) < 16) : R_r_160 b (ix2 r e) = csE W X (t0 + 128) ⟨e, h⟩ r := by
  have e1 : R_r_160 b (ix2 r e) = (∑ x : Fin 128, (FloatOps.sitofp (F := Ideal) FTy.f32 (BitVec.setWidth 32 (IntOp.cmpi CmpIPredicate.sge (BitVec.ofNat 32 r) (BitVec.ofNat 32 x))) : EReal) * R_r_66 b (ix2 ⟨128 + x, by omega⟩ e))
      + (∑ x : Fin 128, (FloatOps.sitofp (F := Ideal) FTy.f32 (BitVec.setWidth 32 (IntOp.cmpi CmpIPredicate.sge (BitVec.ofNat 32 r) (BitVec.ofNat 32 x))) : EReal) * (R_r_66 b (ix2 ⟨128 + x, by omega⟩ e) - R_r_66 b (ix2 ⟨128 + x, by omega⟩ e)))
      + (∑ x : Fin 128, (FloatOps.sitofp (F := Ideal) FTy.f32 (BitVec.setWidth 32 (IntOp.cmpi CmpIPredicate.sge (BitVec.ofNat 32 r) (BitVec.ofNat 32 x))) : EReal) * (R_r_66 b (ix2 ⟨128 + x, by omega⟩ e) - R_r_66 b (ix2 ⟨128 + x, by omega⟩ e) - (R_r_66 b (ix2 ⟨128 + x, by omega⟩ e) - R_r_66 b (ix2 ⟨128 + x, by omega⟩ e)))) := by
    pointwise [R_r_160, k0_pay235, k0_pay92, k0_pay91] <;> rfl
  have hv : ∀ x : Fin 128, R_r_66 b (ix2 (⟨128 + x, by omega⟩ : Fin 256) e) = adt W X (t0 + 128 + x) ⟨e, h⟩ := fun x =>
    (k_adt A _ e h).trans (congrArg (fun n => adt W X n _) (Nat.add_assoc t0 128 x).symm)
  rw [e1, split_cs (fun x : Fin 128 => R_r_66 b (ix2 (⟨128 + x, by omega⟩ : Fin 256) e)) (fun x => by rw [hv]; exact fin_adt F _ _) r]
  unfold csE
  simp only [hv]

theorem k_dt1 (A : Agr W X t0 b) (x e : Fin 128) (h : (e : ℕ) < 16) :
    R_r_64 b (ix2 (⟨128 + x, by omega⟩ : Fin 256) e) = dt W X (t0 + 128 + x) ⟨e, h⟩ :=
  (k_dt A _ e h).trans (congrArg (fun n => dt W X n _) (Nat.add_assoc t0 128 x).symm)
theorem k_sx1 (A : Agr W X t0 b) (x : Fin 128) (l : Fin 1024) :
    R_r_61 b (ix2 (⟨128 + x, by omega⟩ : Fin 256) l) = xbc W X (t0 + 128 + x) ⟨l, by omega⟩ :=
  (k_sx A _ l).trans (congrArg (fun n => xbc W X n _) (Nat.add_assoc t0 128 x).symm)
theorem k_sB1 (A : Agr W X t0 b) (x : Fin 128) (l : Fin 256) :
    R_r_62 b (ix2 (⟨128 + x, by omega⟩ : Fin 256) l) = xbc W X (t0 + 128 + x) ⟨1024 + l, by omega⟩ :=
  (k_sB A _ l).trans (congrArg (fun n => xbc W X n _) (Nat.add_assoc t0 128 x).symm)
theorem k_sC1 (A : Agr W X t0 b) (x : Fin 128) (l : Fin 256) :
    R_r_63 b (ix2 (⟨128 + x, by omega⟩ : Fin 256) l) = xbc W X (t0 + 128 + x) ⟨1280 + l, by omega⟩ :=
  (k_sC A _ l).trans (congrArg (fun n => xbc W X n _) (Nat.add_assoc t0 128 x).symm)

theorem k_sc00 (A : Agr W X t0 b) (r x : Fin 128) : R_r_74 b (ix2 r x) =
    ∑ n : Fin 128, xbc W X (t0 + r) ⟨1280 + n, by omega⟩ * xbc W X (t0 + x) ⟨1024 + n, by omega⟩ := by
  have e : R_r_74 b (ix2 r x) = ∑ n : Fin 128, R_r_63 b (ix2 ⟨r, by omega⟩ ⟨n, by omega⟩) * R_r_62 b (ix2 ⟨x, by omega⟩ ⟨n, by omega⟩) := by
    pointwise [R_r_74, k0_pay102, k0_pay100, k0_pay101] <;> rfl
  rw [e]
  exact Finset.sum_congr rfl fun n _ => congrArg₂ (· * ·) ((k_sC A (⟨r, by omega⟩ : Fin 256) ⟨n, by omega⟩).trans (congrArg (xbc W X _) (Fin.ext (by first | rfl | (dsimp only; omega))))) ((k_sB A (⟨x, by omega⟩ : Fin 256) ⟨n, by omega⟩).trans (congrArg (xbc W X _) (Fin.ext (by first | rfl | (dsimp only; omega)))))

theorem k_sc01 (A : Agr W X t0 b) (r x : Fin 128) : R_r_118 b (ix2 r x) =
    ∑ n : Fin 128, xbc W X (t0 + r) ⟨1408 + n, by omega⟩ * xbc W X (t0 + x) ⟨1152 + n, by omega⟩ := by
  have e : R_r_118 b (ix2 r x) = ∑ n : Fin 128, R_r_63 b (ix2 ⟨r, by omega⟩ ⟨128 + n, by omega⟩) * R_r_62 b (ix2 ⟨x, by omega⟩ ⟨128 + n, by omega⟩) := by
    pointwise [R_r_118, k0_pay169, k0_pay167, k0_pay168] <;> rfl
  rw [e]
  exact Finset.sum_congr rfl fun n _ => congrArg₂ (· * ·) ((k_sC A (⟨r, by omega⟩ : Fin 256) ⟨128 + n, by omega⟩).trans (congrArg (xbc W X _) (Fin.ext (by first | rfl | (dsimp only; omega))))) ((k_sB A (⟨x, by omega⟩ : Fin 256) ⟨128 + n, by omega⟩).trans (congrArg (xbc W X _) (Fin.ext (by first | rfl | (dsimp only; omega)))))

theorem k_sc10 (A : Agr W X t0 b) (r x : Fin 128) : R_r_168 b (ix2 r x) =
    ∑ n : Fin 128, xbc W X (t0 + 128 + r) ⟨1280 + n, by omega⟩ * xbc W X (t0 + 128 + x) ⟨1024 + n, by omega⟩ := by
  have e : R_r_168 b (ix2 r x) = ∑ n : Fin 128, R_r_63 b (ix2 ⟨128 + r, by omega⟩ ⟨n, by omega⟩) * R_r_62 b (ix2 ⟨128 + x, by omega⟩ ⟨n, by omega⟩) := by
    pointwise [R_r_168, k0_pay243, k0_pay241, k0_pay242] <;> rfl
  rw [e]
  exact Finset.sum_congr rfl fun n _ => congrArg₂ (· * ·) ((k_sC1 A r ⟨n, by omega⟩).trans (congrArg (xbc W X _) (Fin.ext (by first | rfl | (dsimp only; omega))))) ((k_sB1 A x ⟨n, by omega⟩).trans (congrArg (xbc W X _) (Fin.ext (by first | rfl | (dsimp only; omega)))))

theorem k_sc11 (A : Agr W X t0 b) (r x : Fin 128) : R_r_214 b (ix2 r x) =
    ∑ n : Fin 128, xbc W X (t0 + 128 + r) ⟨1408 + n, by omega⟩ * xbc W X (t0 + 128 + x) ⟨1152 + n, by omega⟩ := by
  have e : R_r_214 b (ix2 r x) = ∑ n : Fin 128, R_r_63 b (ix2 ⟨128 + r, by omega⟩ ⟨128 + n, by omega⟩) * R_r_62 b (ix2 ⟨128 + x, by omega⟩ ⟨128 + n, by omega⟩) := by
    pointwise [R_r_214, k0_pay309, k0_pay307, k0_pay308] <;> rfl
  rw [e]
  exact Finset.sum_congr rfl fun n _ => congrArg₂ (· * ·) ((k_sC1 A r ⟨128 + n, by omega⟩).trans (congrArg (xbc W X _) (Fin.ext (by first | rfl | (dsimp only; omega))))) ((k_sB1 A x ⟨128 + n, by omega⟩).trans (congrArg (xbc W X _) (Fin.ext (by first | rfl | (dsimp only; omega)))))

theorem cat8_0 (a0 a1 a2 a3 a4 a5 a6 a7 : Vec Ideal S128x128 .f32) (r l : Fin 128) :
    concatenate (α := Ideal .f32) S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S128x1024_d1 (ix2 r ⟨l, by omega⟩) = a0 (ix2 r l) := by
  pointwise

theorem cat8_1 (a0 a1 a2 a3 a4 a5 a6 a7 : Vec Ideal S128x128 .f32) (r l : Fin 128) :
    concatenate (α := Ideal .f32) S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S128x1024_d1 (ix2 r ⟨128 + l, by omega⟩) = a1 (ix2 r l) := by
  pointwise

theorem cat8_2 (a0 a1 a2 a3 a4 a5 a6 a7 : Vec Ideal S128x128 .f32) (r l : Fin 128) :
    concatenate (α := Ideal .f32) S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S128x1024_d1 (ix2 r ⟨256 + l, by omega⟩) = a2 (ix2 r l) := by
  pointwise
  rw [dif_neg (show ¬ (256 + (l : ℕ)) < 128 by omega), dif_neg (show ¬ (256 + (l : ℕ) - 128) < 128 by omega), dif_pos (show (256 + (l : ℕ) - 128 - 128) < 128 by omega)]
  simp only [show (256 + (l : ℕ) - 128 - 128) = (l : ℕ) by omega]

theorem cat8_3 (a0 a1 a2 a3 a4 a5 a6 a7 : Vec Ideal S128x128 .f32) (r l : Fin 128) :
    concatenate (α := Ideal .f32) S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S128x1024_d1 (ix2 r ⟨384 + l, by omega⟩) = a3 (ix2 r l) := by
  pointwise
  rw [dif_neg (show ¬ (384 + (l : ℕ)) < 128 by omega), dif_neg (show ¬ (384 + (l : ℕ) - 128) < 128 by omega), dif_neg (show ¬ (384 + (l : ℕ) - 128 - 128) < 128 by omega), dif_pos (show (384 + (l : ℕ) - 128 - 128 - 128) < 128 by omega)]
  simp only [show (384 + (l : ℕ) - 128 - 128 - 128) = (l : ℕ) by omega]

theorem cat8_4 (a0 a1 a2 a3 a4 a5 a6 a7 : Vec Ideal S128x128 .f32) (r l : Fin 128) :
    concatenate (α := Ideal .f32) S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S128x1024_d1 (ix2 r ⟨512 + l, by omega⟩) = a4 (ix2 r l) := by
  pointwise
  rw [dif_neg (show ¬ (512 + (l : ℕ)) < 128 by omega), dif_neg (show ¬ (512 + (l : ℕ) - 128) < 128 by omega), dif_neg (show ¬ (512 + (l : ℕ) - 128 - 128) < 128 by omega), dif_neg (show ¬ (512 + (l : ℕ) - 128 - 128 - 128) < 128 by omega), dif_pos (show (512 + (l : ℕ) - 128 - 128 - 128 - 128) < 128 by omega)]
  simp only [show (512 + (l : ℕ) - 128 - 128 - 128 - 128) = (l : ℕ) by omega]

theorem cat8_5 (a0 a1 a2 a3 a4 a5 a6 a7 : Vec Ideal S128x128 .f32) (r l : Fin 128) :
    concatenate (α := Ideal .f32) S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S128x1024_d1 (ix2 r ⟨640 + l, by omega⟩) = a5 (ix2 r l) := by
  pointwise
  rw [dif_neg (show ¬ (640 + (l : ℕ)) < 128 by omega), dif_neg (show ¬ (640 + (l : ℕ) - 128) < 128 by omega), dif_neg (show ¬ (640 + (l : ℕ) - 128 - 128) < 128 by omega), dif_neg (show ¬ (640 + (l : ℕ) - 128 - 128 - 128) < 128 by omega), dif_neg (show ¬ (640 + (l : ℕ) - 128 - 128 - 128 - 128) < 128 by omega), dif_pos (show (640 + (l : ℕ) - 128 - 128 - 128 - 128 - 128) < 128 by omega)]
  simp only [show (640 + (l : ℕ) - 128 - 128 - 128 - 128 - 128) = (l : ℕ) by omega]

theorem cat8_6 (a0 a1 a2 a3 a4 a5 a6 a7 : Vec Ideal S128x128 .f32) (r l : Fin 128) :
    concatenate (α := Ideal .f32) S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S128x1024_d1 (ix2 r ⟨768 + l, by omega⟩) = a6 (ix2 r l) := by
  pointwise
  rw [dif_neg (show ¬ (768 + (l : ℕ)) < 128 by omega), dif_neg (show ¬ (768 + (l : ℕ) - 128) < 128 by omega), dif_neg (show ¬ (768 + (l : ℕ) - 128 - 128) < 128 by omega), dif_neg (show ¬ (768 + (l : ℕ) - 128 - 128 - 128) < 128 by omega), dif_neg (show ¬ (768 + (l : ℕ) - 128 - 128 - 128 - 128) < 128 by omega), dif_neg (show ¬ (768 + (l : ℕ) - 128 - 128 - 128 - 128 - 128) < 128 by omega), dif_pos (show (768 + (l : ℕ) - 128 - 128 - 128 - 128 - 128 - 128) < 128 by omega)]
  simp only [show (768 + (l : ℕ) - 128 - 128 - 128 - 128 - 128 - 128) = (l : ℕ) by omega]

theorem cat8_7 (a0 a1 a2 a3 a4 a5 a6 a7 : Vec Ideal S128x128 .f32) (r l : Fin 128) :
    concatenate (α := Ideal .f32) S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S128x1024_d1 (ix2 r ⟨896 + l, by omega⟩) = a7 (ix2 r l) := by
  pointwise
  rw [dif_neg (show ¬ (896 + (l : ℕ)) < 128 by omega), dif_neg (show ¬ (896 + (l : ℕ) - 128) < 128 by omega), dif_neg (show ¬ (896 + (l : ℕ) - 128 - 128) < 128 by omega), dif_neg (show ¬ (896 + (l : ℕ) - 128 - 128 - 128) < 128 by omega), dif_neg (show ¬ (896 + (l : ℕ) - 128 - 128 - 128 - 128) < 128 by omega), dif_neg (show ¬ (896 + (l : ℕ) - 128 - 128 - 128 - 128 - 128) < 128 by omega), dif_neg (show ¬ (896 + (l : ℕ) - 128 - 128 - 128 - 128 - 128 - 128) < 128 by omega)]
  simp only [show (896 + (l : ℕ) - 128 - 128 - 128 - 128 - 128 - 128 - 128) = (l : ℕ) by omega]

end Cert.Mix
end
-- ==== Proof.MixKerY0.lean ====
module

public import proofs.«01_k».proof.Proof.MixKerC

/-!
  What the heads read out in the first half of a block.
-/

@[expose] public section

set_option maxRecDepth 16384

noncomputable section

namespace Cert.Mix

open Cert.KernelIdeal Cert.KernelIdeal.Gen Idealize.ShloMosaic

variable {W : Wt} {X : ℕ → Fin 1024 → EReal} {t0 : ℕ} {b : Blk}

set_option maxHeartbeats 1000000 in
theorem y0_0f (r l : Fin 128) : R_r_87 b (ix2 r l) = yfm (fun r x => R_r_74 b (ix2 r x)) (fun r e => R_r_67 b (ix2 r e)) (fun x e => R_r_64 b (ix2 ⟨x, by omega⟩ e)) (fun x l => R_r_61 b (ix2 ⟨x, by omega⟩ ⟨l, by omega⟩)) (fun r n => R_r_63 b (ix2 ⟨r, by omega⟩ ⟨n, by omega⟩)) (fun n l => b.st (ix3 0 n l)) 0 1 r l := by
  refine (cat_matmul _ _ _ _ _ _ _ _ r l).trans ?_
  unfold yfm
  pointwise [R_r_87, R_r_86, R_r_69, k0_pay97, k0_pay94, R_r_68, R_r_65, k0_pay89, k0_pay96, k0_pay91, k0_pay116, k0_pay115, R_r_85, R_r_82, R_r_72, k0_pay100, k0_pay112, k0_pay110, k0_pay109, R_r_81, k0_pay111, R_r_80, k0_pay93, k0_pay108, k0_pay106, R_r_79, k0_pay107, R_r_77, R_r_75, k0_pay103, k0_pay99, k0_pay105, R_r_76, k0_pay104, k0_pay118, k0_pay117] <;> rfl

theorem y0_0 (A : Agr W X t0 b) (F : FinW W) (r l : Fin 128) : R_r_87 b (ix2 r l) = yr W X (t0 + r) ⟨0 + l, by omega⟩ :=
  (y0_0f r l).trans (yfm_sem F t0 0 0 1 rfl rfl (k_cs0 A F) (fun x e h => k_dt A (⟨x, by omega⟩ : Fin 256) e h) (fun x l => (k_sx A (⟨x, by omega⟩ : Fin 256) ⟨l, by omega⟩).trans (congrArg (xbc W X _) (Fin.ext (show (l : ℕ) = 128 * 0 + l by omega)))) (fun n l => A.st 0 n l) (k_sc00 A) (fun r n => (k_sC A (⟨r, by omega⟩ : Fin 256) ⟨n, by omega⟩).trans (congrArg (xbc W X _) (Fin.ext (by first | rfl | (dsimp only; omega))))) r l)

set_option maxHeartbeats 1000000 in
theorem y0_1f (r l : Fin 128) : R_r_94 b (ix2 r l) = yfm (fun r x => R_r_74 b (ix2 r x)) (fun r e => R_r_67 b (ix2 r e)) (fun x e => R_r_64 b (ix2 ⟨x, by omega⟩ e)) (fun x l => R_r_61 b (ix2 ⟨x, by omega⟩ ⟨128 + l, by omega⟩)) (fun r n => R_r_63 b (ix2 ⟨r, by omega⟩ ⟨n, by omega⟩)) (fun n l => b.st (ix3 1 n l)) 2 3 r l := by
  refine (cat_matmul _ _ _ _ _ _ _ _ r l).trans ?_
  unfold yfm
  pointwise [R_r_94, R_r_93, k0_pay126, R_r_92, R_v660, k0_pay93, k0_pay125, k0_pay123, R_r_91, k0_pay124, R_r_89, R_r_71, k0_pay99, k0_pay122, k0_pay120, R_r_88, k0_pay121, R_r_72, k0_pay100, R_r_69, k0_pay97, k0_pay94, R_r_68, R_r_65, k0_pay89, k0_pay96, k0_pay91, k0_pay131, k0_pay130, k0_pay129, k0_pay128, k0_pay127] <;> rfl

theorem y0_1 (A : Agr W X t0 b) (F : FinW W) (r l : Fin 128) : R_r_94 b (ix2 r l) = yr W X (t0 + r) ⟨128 + l, by omega⟩ :=
  (y0_1f r l).trans (yfm_sem F t0 1 2 3 rfl rfl (k_cs0 A F) (fun x e h => k_dt A (⟨x, by omega⟩ : Fin 256) e h) (fun x l => k_sx A (⟨x, by omega⟩ : Fin 256) ⟨128 + l, by omega⟩) (fun n l => A.st 1 n l) (k_sc00 A) (fun r n => (k_sC A (⟨r, by omega⟩ : Fin 256) ⟨n, by omega⟩).trans (congrArg (xbc W X _) (Fin.ext (by first | rfl | (dsimp only; omega))))) r l)

set_option maxHeartbeats 1000000 in
theorem y0_2f (r l : Fin 128) : R_r_107 b (ix2 r l) = yfm (fun r x => R_r_74 b (ix2 r x)) (fun r e => R_r_67 b (ix2 r e)) (fun x e => R_r_64 b (ix2 ⟨x, by omega⟩ e)) (fun x l => R_r_61 b (ix2 ⟨x, by omega⟩ ⟨256 + l, by omega⟩)) (fun r n => R_r_63 b (ix2 ⟨r, by omega⟩ ⟨n, by omega⟩)) (fun n l => b.st (ix3 2 n l)) 4 5 r l := by
  refine (cat_matmul _ _ _ _ _ _ _ _ r l).trans ?_
  unfold yfm
  pointwise [R_r_107, R_r_106, R_r_68, R_r_65, k0_pay89, k0_pay96, k0_pay147, R_r_105, k0_pay146, R_r_102, R_r_72, k0_pay100, k0_pay143, k0_pay141, k0_pay140, R_r_101, R_r_69, k0_pay97, k0_pay94, k0_pay91, k0_pay142, R_r_100, R_v740, k0_pay93, k0_pay139, k0_pay137, R_r_99, k0_pay138, R_r_97, R_r_71, k0_pay99, k0_pay136, k0_pay134, R_r_96, k0_pay135, k0_pay149, k0_pay148] <;> rfl

theorem y0_2 (A : Agr W X t0 b) (F : FinW W) (r l : Fin 128) : R_r_107 b (ix2 r l) = yr W X (t0 + r) ⟨256 + l, by omega⟩ :=
  (y0_2f r l).trans (yfm_sem F t0 2 4 5 rfl rfl (k_cs0 A F) (fun x e h => k_dt A (⟨x, by omega⟩ : Fin 256) e h) (fun x l => k_sx A (⟨x, by omega⟩ : Fin 256) ⟨256 + l, by omega⟩) (fun n l => A.st 2 n l) (k_sc00 A) (fun r n => (k_sC A (⟨r, by omega⟩ : Fin 256) ⟨n, by omega⟩).trans (congrArg (xbc W X _) (Fin.ext (by first | rfl | (dsimp only; omega))))) r l)

set_option maxHeartbeats 1000000 in
theorem y0_3f (r l : Fin 128) : R_r_113 b (ix2 r l) = yfm (fun r x => R_r_74 b (ix2 r x)) (fun r e => R_r_67 b (ix2 r e)) (fun x e => R_r_64 b (ix2 ⟨x, by omega⟩ e)) (fun x l => R_r_61 b (ix2 ⟨x, by omega⟩ ⟨384 + l, by omega⟩)) (fun r n => R_r_63 b (ix2 ⟨r, by omega⟩ ⟨n, by omega⟩)) (fun n l => b.st (ix3 3 n l)) 6 7 r l := by
  refine (cat_matmul _ _ _ _ _ _ _ _ r l).trans ?_
  unfold yfm
  pointwise [R_r_113, k0_pay156, k0_pay93, k0_pay155, R_r_110, R_v820, k0_pay154, R_r_109, R_r_71, k0_pay99, k0_pay153, k0_pay151, R_r_108, k0_pay152, R_r_72, k0_pay100, R_r_69, k0_pay97, k0_pay94, R_r_68, R_r_65, k0_pay89, k0_pay96, k0_pay91, k0_pay163, k0_pay161, k0_pay160, k0_pay158, k0_pay157] <;> rfl

theorem y0_3 (A : Agr W X t0 b) (F : FinW W) (r l : Fin 128) : R_r_113 b (ix2 r l) = yr W X (t0 + r) ⟨384 + l, by omega⟩ :=
  (y0_3f r l).trans (yfm_sem F t0 3 6 7 rfl rfl (k_cs0 A F) (fun x e h => k_dt A (⟨x, by omega⟩ : Fin 256) e h) (fun x l => k_sx A (⟨x, by omega⟩ : Fin 256) ⟨384 + l, by omega⟩) (fun n l => A.st 3 n l) (k_sc00 A) (fun r n => (k_sC A (⟨r, by omega⟩ : Fin 256) ⟨n, by omega⟩).trans (congrArg (xbc W X _) (Fin.ext (by first | rfl | (dsimp only; omega))))) r l)

set_option maxHeartbeats 1000000 in
theorem y0_4f (r l : Fin 128) : R_r_126 b (ix2 r l) = yfm (fun r x => R_r_118 b (ix2 r x)) (fun r e => R_r_67 b (ix2 r e)) (fun x e => R_r_64 b (ix2 ⟨x, by omega⟩ e)) (fun x l => R_r_61 b (ix2 ⟨x, by omega⟩ ⟨512 + l, by omega⟩)) (fun r n => R_r_63 b (ix2 ⟨r, by omega⟩ ⟨128 + n, by omega⟩)) (fun n l => b.st (ix3 4 n l)) 8 9 r l := by
  refine (cat_matmul _ _ _ _ _ _ _ _ r l).trans ?_
  unfold yfm
  pointwise [R_r_126, k0_pay178, R_r_125, R_r_68, R_r_65, k0_pay89, k0_pay96, k0_pay177, k0_pay176, R_r_124, R_r_123, R_v906, k0_pay93, k0_pay175, k0_pay173, R_r_122, k0_pay174, R_r_120, R_r_71, k0_pay99, k0_pay172, k0_pay170, R_r_119, k0_pay171, R_r_116, k0_pay167, R_r_69, k0_pay97, k0_pay94, k0_pay91, k0_pay182, k0_pay181, k0_pay180, k0_pay179] <;> rfl

theorem y0_4 (A : Agr W X t0 b) (F : FinW W) (r l : Fin 128) : R_r_126 b (ix2 r l) = yr W X (t0 + r) ⟨512 + l, by omega⟩ :=
  (y0_4f r l).trans (yfm_sem F t0 4 8 9 rfl rfl (k_cs0 A F) (fun x e h => k_dt A (⟨x, by omega⟩ : Fin 256) e h) (fun x l => k_sx A (⟨x, by omega⟩ : Fin 256) ⟨512 + l, by omega⟩) (fun n l => A.st 4 n l) (k_sc01 A) (fun r n => (k_sC A (⟨r, by omega⟩ : Fin 256) ⟨128 + n, by omega⟩).trans (congrArg (xbc W X _) (Fin.ext (by first | rfl | (dsimp only; omega))))) r l)

set_option maxHeartbeats 1000000 in
theorem y0_5f (r l : Fin 128) : R_r_140 b (ix2 r l) = yfm (fun r x => R_r_118 b (ix2 r x)) (fun r e => R_r_67 b (ix2 r e)) (fun x e => R_r_64 b (ix2 ⟨x, by omega⟩ e)) (fun x l => R_r_61 b (ix2 ⟨x, by omega⟩ ⟨640 + l, by omega⟩)) (fun r n => R_r_63 b (ix2 ⟨r, by omega⟩ ⟨128 + n, by omega⟩)) (fun n l => b.st (ix3 5 n l)) 10 11 r l := by
  refine (cat_matmul _ _ _ _ _ _ _ _ r l).trans ?_
  unfold yfm
  pointwise [R_r_140, R_r_139, R_r_69, k0_pay97, k0_pay94, k0_pay200, R_r_138, R_r_68, R_r_65, k0_pay89, k0_pay96, k0_pay91, k0_pay199, k0_pay198, R_r_137, R_r_134, R_r_116, k0_pay167, k0_pay195, k0_pay193, k0_pay192, R_r_133, k0_pay194, R_r_132, R_v986, k0_pay93, k0_pay191, k0_pay189, R_r_131, k0_pay190, R_r_129, R_r_127, R_r_71, k0_pay99, k0_pay184, k0_pay188, R_r_128, k0_pay186, k0_pay185, k0_pay187, k0_pay202, k0_pay201] <;> rfl

theorem y0_5 (A : Agr W X t0 b) (F : FinW W) (r l : Fin 128) : R_r_140 b (ix2 r l) = yr W X (t0 + r) ⟨640 + l, by omega⟩ :=
  (y0_5f r l).trans (yfm_sem F t0 5 10 11 rfl rfl (k_cs0 A F) (fun x e h => k_dt A (⟨x, by omega⟩ : Fin 256) e h) (fun x l => k_sx A (⟨x, by omega⟩ : Fin 256) ⟨640 + l, by omega⟩) (fun n l => A.st 5 n l) (k_sc01 A) (fun r n => (k_sC A (⟨r, by omega⟩ : Fin 256) ⟨128 + n, by omega⟩).trans (congrArg (xbc W X _) (Fin.ext (by first | rfl | (dsimp only; omega))))) r l)

set_option maxHeartbeats 1000000 in
theorem y0_6f (r l : Fin 128) : R_r_146 b (ix2 r l) = yfm (fun r x => R_r_118 b (ix2 r x)) (fun r e => R_r_67 b (ix2 r e)) (fun x e => R_r_64 b (ix2 ⟨x, by omega⟩ e)) (fun x l => R_r_61 b (ix2 ⟨x, by omega⟩ ⟨768 + l, by omega⟩)) (fun r n => R_r_63 b (ix2 ⟨r, by omega⟩ ⟨128 + n, by omega⟩)) (fun n l => b.st (ix3 6 n l)) 12 13 r l := by
  refine (cat_matmul _ _ _ _ _ _ _ _ r l).trans ?_
  unfold yfm
  pointwise [R_r_146, R_r_145, R_v1066, k0_pay93, k0_pay209, k0_pay207, R_r_144, k0_pay208, R_r_142, R_r_71, k0_pay99, k0_pay206, k0_pay204, R_r_141, k0_pay205, R_r_116, k0_pay167, R_r_69, k0_pay97, k0_pay94, R_r_68, R_r_65, k0_pay89, k0_pay96, k0_pay91, k0_pay214, k0_pay213, k0_pay212, k0_pay211, k0_pay210] <;> rfl

theorem y0_6 (A : Agr W X t0 b) (F : FinW W) (r l : Fin 128) : R_r_146 b (ix2 r l) = yr W X (t0 + r) ⟨768 + l, by omega⟩ :=
  (y0_6f r l).trans (yfm_sem F t0 6 12 13 rfl rfl (k_cs0 A F) (fun x e h => k_dt A (⟨x, by omega⟩ : Fin 256) e h) (fun x l => k_sx A (⟨x, by omega⟩ : Fin 256) ⟨768 + l, by omega⟩) (fun n l => A.st 6 n l) (k_sc01 A) (fun r n => (k_sC A (⟨r, by omega⟩ : Fin 256) ⟨128 + n, by omega⟩).trans (congrArg (xbc W X _) (Fin.ext (by first | rfl | (dsimp only; omega))))) r l)

set_option maxHeartbeats 1000000 in
theorem y0_7f (r l : Fin 128) : R_r_158 b (ix2 r ⟨896 + l, by omega⟩) = yfm (fun r x => R_r_118 b (ix2 r x)) (fun r e => R_r_67 b (ix2 r e)) (fun x e => R_r_64 b (ix2 ⟨x, by omega⟩ e)) (fun x l => R_r_61 b (ix2 ⟨x, by omega⟩ ⟨896 + l, by omega⟩)) (fun r n => R_r_63 b (ix2 ⟨r, by omega⟩ ⟨128 + n, by omega⟩)) (fun n l => b.st (ix3 7 n l)) 14 15 r l := by
  refine (cat8_7 _ _ _ _ _ _ _ _ r l).trans ((cat_matmul _ _ _ _ _ _ _ _ r l).trans ?_)
  unfold yfm
  pointwise [R_r_158, R_r_157, k0_pay229, R_r_154, R_r_116, k0_pay167, k0_pay226, k0_pay224, k0_pay223, R_r_153, R_r_69, k0_pay97, k0_pay94, R_r_68, R_r_65, k0_pay89, k0_pay96, k0_pay91, k0_pay225, R_r_152, R_v1146, k0_pay93, k0_pay222, k0_pay220, R_r_151, k0_pay221, R_r_149, R_r_71, k0_pay99, k0_pay219, k0_pay217, R_r_148, k0_pay218, R_r_146, R_r_145, R_v1066, k0_pay209, k0_pay207, R_r_144, k0_pay208, R_r_142, k0_pay206, k0_pay204, R_r_141, k0_pay205, k0_pay214, k0_pay213, k0_pay212, k0_pay211, k0_pay210, R_r_140, R_r_139, k0_pay200, R_r_138, k0_pay199, k0_pay198, R_r_137, R_r_134, k0_pay195, k0_pay193, k0_pay192, R_r_133, k0_pay194, R_r_132, R_v986, k0_pay191, k0_pay189, R_r_131, k0_pay190, R_r_129, R_r_127, k0_pay184, k0_pay188, R_r_128, k0_pay186, k0_pay185, k0_pay187, k0_pay202, k0_pay201, R_r_126, k0_pay178, R_r_125, k0_pay177, k0_pay176, R_r_124, R_r_123, R_v906, k0_pay175, k0_pay173, R_r_122, k0_pay174, R_r_120, k0_pay172, k0_pay170, R_r_119, k0_pay171, k0_pay182, k0_pay181, k0_pay180, k0_pay179, R_r_113, k0_pay156, k0_pay155, R_r_110, R_v820, k0_pay154, R_r_109, k0_pay153, k0_pay151, R_r_108, k0_pay152, R_r_72, k0_pay100, k0_pay163, k0_pay161, k0_pay160, k0_pay158, k0_pay157, R_r_107, R_r_106, k0_pay147, R_r_105, k0_pay146, R_r_102, k0_pay143, k0_pay141, k0_pay140, R_r_101, k0_pay142, R_r_100, R_v740, k0_pay139, k0_pay137, R_r_99, k0_pay138, R_r_97, k0_pay136, k0_pay134, R_r_96, k0_pay135, k0_pay149, k0_pay148, R_r_94, R_r_93, k0_pay126, R_r_92, R_v660, k0_pay125, k0_pay123, R_r_91, k0_pay124, R_r_89, k0_pay122, k0_pay120, R_r_88, k0_pay121, k0_pay131, k0_pay130, k0_pay129, k0_pay128, k0_pay127, R_r_87, R_r_86, k0_pay116, k0_pay115, R_r_85, R_r_82, k0_pay112, k0_pay110, k0_pay109, R_r_81, k0_pay111, R_r_80, k0_pay108, k0_pay106, R_r_79, k0_pay107, R_r_77, R_r_75, k0_pay103, k0_pay105, R_r_76, k0_pay104, k0_pay118, k0_pay117, k0_pay233, k0_pay231, k0_pay230] <;> rfl

theorem y0_7 (A : Agr W X t0 b) (F : FinW W) (r l : Fin 128) : R_r_158 b (ix2 r ⟨896 + l, by omega⟩) = yr W X (t0 + r) ⟨896 + l, by omega⟩ :=
  (y0_7f r l).trans (yfm_sem F t0 7 14 15 rfl rfl (k_cs0 A F) (fun x e h => k_dt A (⟨x, by omega⟩ : Fin 256) e h) (fun x l => k_sx A (⟨x, by omega⟩ : Fin 256) ⟨896 + l, by omega⟩) (fun n l => A.st 7 n l) (k_sc01 A) (fun r n => (k_sC A (⟨r, by omega⟩ : Fin 256) ⟨128 + n, by omega⟩).trans (congrArg (xbc W X _) (Fin.ext (by first | rfl | (dsimp only; omega))))) r l)

end Cert.Mix
end
-- ==== Proof.MixKerS0.lean ====
module

public import proofs.«01_k».proof.Proof.MixKerC

/-!
  The states after the first half of a block.
-/

@[expose] public section

set_option maxRecDepth 16384

noncomputable section

namespace Cert.Mix

open Cert.KernelIdeal Cert.KernelIdeal.Gen Idealize.ShloMosaic

variable {W : Wt} {X : ℕ → Fin 1024 → EReal} {t0 : ℕ} {b : Blk}

set_option maxHeartbeats 1000000 in
theorem s0_0f (n l : Fin 128) : R_S0_0 b (ix3 0 n l) = sfm (fun r e => R_r_67 b (ix2 r e)) (fun x e => R_r_64 b (ix2 ⟨x, by omega⟩ e)) (fun x l => R_r_61 b (ix2 ⟨x, by omega⟩ ⟨l, by omega⟩)) (fun r n => R_r_62 b (ix2 ⟨r, by omega⟩ ⟨n, by omega⟩)) (fun n l => b.st (ix3 0 n l)) 0 1 n l := by
  unfold sfm
  pointwise [R_S0_0, R_r_85, k0_pay115, R_r_84, k0_pay114, k0_pay110, k0_pay109, R_r_83, R_r_73, k0_pay101, R_r_70, R_r_65, k0_pay89, k0_pay98, k0_pay94, k0_pay113, R_r_78, k0_pay106, R_r_77, R_r_75, k0_pay103, k0_pay99, k0_pay93, k0_pay105, R_r_76, k0_pay104, k0_pay119, k0_pay117] <;> rfl

theorem s0_0 (A : Agr W X t0 b) (F : FinW W) (n l : Fin 128) : R_S0_0 b (ix3 0 n l) = sst W X (t0 + 128) ⟨0 + l, by omega⟩ n :=
  (s0_0f n l).trans (sfm_sem F t0 0 0 1 rfl rfl (k_cs0 A F) (fun x e h => k_dt A (⟨x, by omega⟩ : Fin 256) e h) (fun x l => (k_sx A (⟨x, by omega⟩ : Fin 256) ⟨l, by omega⟩).trans (congrArg (xbc W X _) (Fin.ext (show (l : ℕ) = 128 * 0 + l by omega)))) (fun n l => A.st 0 n l) (fun r n => (k_sB A (⟨r, by omega⟩ : Fin 256) ⟨n, by omega⟩).trans (congrArg (xbc W X _) (Fin.ext (by first | rfl | (dsimp only; omega))))) n l)

set_option maxHeartbeats 1000000 in
theorem s0_1f (n l : Fin 128) : R_S0_1 b (ix3 0 n l) = sfm (fun r e => R_r_67 b (ix2 r e)) (fun x e => R_r_64 b (ix2 ⟨x, by omega⟩ e)) (fun x l => R_r_61 b (ix2 ⟨x, by omega⟩ ⟨128 + l, by omega⟩)) (fun r n => R_r_62 b (ix2 ⟨r, by omega⟩ ⟨n, by omega⟩)) (fun n l => b.st (ix3 1 n l)) 2 3 n l := by
  unfold sfm
  pointwise [R_S0_1, R_r_95, R_r_93, k0_pay126, R_r_90, R_v660, k0_pay123, R_r_89, R_r_71, k0_pay99, k0_pay93, k0_pay122, k0_pay120, R_r_88, k0_pay121, R_r_73, k0_pay101, R_r_70, R_r_65, k0_pay89, k0_pay98, k0_pay94, k0_pay132, k0_pay130, k0_pay129, k0_pay128, k0_pay127, k0_pay133] <;> rfl

theorem s0_1 (A : Agr W X t0 b) (F : FinW W) (n l : Fin 128) : R_S0_1 b (ix3 0 n l) = sst W X (t0 + 128) ⟨128 + l, by omega⟩ n :=
  (s0_1f n l).trans (sfm_sem F t0 1 2 3 rfl rfl (k_cs0 A F) (fun x e h => k_dt A (⟨x, by omega⟩ : Fin 256) e h) (fun x l => k_sx A (⟨x, by omega⟩ : Fin 256) ⟨128 + l, by omega⟩) (fun n l => A.st 1 n l) (fun r n => (k_sB A (⟨r, by omega⟩ : Fin 256) ⟨n, by omega⟩).trans (congrArg (xbc W X _) (Fin.ext (by first | rfl | (dsimp only; omega))))) n l)

set_option maxHeartbeats 1000000 in
theorem s0_2f (n l : Fin 128) : R_S0_2 b (ix3 0 n l) = sfm (fun r e => R_r_67 b (ix2 r e)) (fun x e => R_r_64 b (ix2 ⟨x, by omega⟩ e)) (fun x l => R_r_61 b (ix2 ⟨x, by omega⟩ ⟨256 + l, by omega⟩)) (fun r n => R_r_62 b (ix2 ⟨r, by omega⟩ ⟨n, by omega⟩)) (fun n l => b.st (ix3 2 n l)) 4 5 n l := by
  unfold sfm
  pointwise [R_S0_2, R_r_105, k0_pay146, R_r_104, k0_pay145, k0_pay141, k0_pay140, R_r_103, R_r_73, k0_pay101, R_r_70, R_r_65, k0_pay89, k0_pay98, k0_pay94, k0_pay144, R_r_98, R_v740, k0_pay137, R_r_97, R_r_71, k0_pay99, k0_pay93, k0_pay136, k0_pay134, R_r_96, k0_pay135, k0_pay150, k0_pay148] <;> rfl

theorem s0_2 (A : Agr W X t0 b) (F : FinW W) (n l : Fin 128) : R_S0_2 b (ix3 0 n l) = sst W X (t0 + 128) ⟨256 + l, by omega⟩ n :=
  (s0_2f n l).trans (sfm_sem F t0 2 4 5 rfl rfl (k_cs0 A F) (fun x e h => k_dt A (⟨x, by omega⟩ : Fin 256) e h) (fun x l => k_sx A (⟨x, by omega⟩ : Fin 256) ⟨256 + l, by omega⟩) (fun n l => A.st 2 n l) (fun r n => (k_sB A (⟨r, by omega⟩ : Fin 256) ⟨n, by omega⟩).trans (congrArg (xbc W X _) (Fin.ext (by first | rfl | (dsimp only; omega))))) n l)

set_option maxHeartbeats 1000000 in
theorem s0_3f (n l : Fin 128) : R_S0_3 b (ix3 0 n l) = sfm (fun r e => R_r_67 b (ix2 r e)) (fun x e => R_r_64 b (ix2 ⟨x, by omega⟩ e)) (fun x l => R_r_61 b (ix2 ⟨x, by omega⟩ ⟨384 + l, by omega⟩)) (fun r n => R_r_62 b (ix2 ⟨r, by omega⟩ ⟨n, by omega⟩)) (fun n l => b.st (ix3 3 n l)) 6 7 n l := by
  unfold sfm
  pointwise [R_S0_3, R_r_115, R_r_109, R_r_71, k0_pay99, k0_pay93, k0_pay153, k0_pay151, R_r_108, k0_pay152, k0_pay165, R_r_114, R_r_73, k0_pay101, R_r_70, R_r_65, k0_pay89, k0_pay98, k0_pay94, k0_pay164, R_r_112, k0_pay162, k0_pay161, k0_pay160, R_r_111, k0_pay159, k0_pay158, k0_pay157, R_r_110, R_v820, k0_pay154, k0_pay166] <;> rfl

theorem s0_3 (A : Agr W X t0 b) (F : FinW W) (n l : Fin 128) : R_S0_3 b (ix3 0 n l) = sst W X (t0 + 128) ⟨384 + l, by omega⟩ n :=
  (s0_3f n l).trans (sfm_sem F t0 3 6 7 rfl rfl (k_cs0 A F) (fun x e h => k_dt A (⟨x, by omega⟩ : Fin 256) e h) (fun x l => k_sx A (⟨x, by omega⟩ : Fin 256) ⟨384 + l, by omega⟩) (fun n l => A.st 3 n l) (fun r n => (k_sB A (⟨r, by omega⟩ : Fin 256) ⟨n, by omega⟩).trans (congrArg (xbc W X _) (Fin.ext (by first | rfl | (dsimp only; omega))))) n l)

set_option maxHeartbeats 1000000 in
theorem s0_4f (n l : Fin 128) : R_S0_4 b (ix3 0 n l) = sfm (fun r e => R_r_67 b (ix2 r e)) (fun x e => R_r_64 b (ix2 ⟨x, by omega⟩ e)) (fun x l => R_r_61 b (ix2 ⟨x, by omega⟩ ⟨512 + l, by omega⟩)) (fun r n => R_r_62 b (ix2 ⟨r, by omega⟩ ⟨128 + n, by omega⟩)) (fun n l => b.st (ix3 4 n l)) 8 9 n l := by
  unfold sfm
  pointwise [R_S0_4, R_r_124, k0_pay176, R_r_121, R_v906, k0_pay173, R_r_120, R_r_71, k0_pay99, k0_pay93, k0_pay172, k0_pay170, R_r_119, k0_pay171, R_r_117, k0_pay168, R_r_70, R_r_65, k0_pay89, k0_pay98, k0_pay94, k0_pay183, k0_pay181, k0_pay180, k0_pay179] <;> rfl

theorem s0_4 (A : Agr W X t0 b) (F : FinW W) (n l : Fin 128) : R_S0_4 b (ix3 0 n l) = sst W X (t0 + 128) ⟨512 + l, by omega⟩ n :=
  (s0_4f n l).trans (sfm_sem F t0 4 8 9 rfl rfl (k_cs0 A F) (fun x e h => k_dt A (⟨x, by omega⟩ : Fin 256) e h) (fun x l => k_sx A (⟨x, by omega⟩ : Fin 256) ⟨512 + l, by omega⟩) (fun n l => A.st 4 n l) (fun r n => (k_sB A (⟨r, by omega⟩ : Fin 256) ⟨128 + n, by omega⟩).trans (congrArg (xbc W X _) (Fin.ext (by first | rfl | (dsimp only; omega))))) n l)

set_option maxHeartbeats 1000000 in
theorem s0_5f (n l : Fin 128) : R_S0_5 b (ix3 0 n l) = sfm (fun r e => R_r_67 b (ix2 r e)) (fun x e => R_r_64 b (ix2 ⟨x, by omega⟩ e)) (fun x l => R_r_61 b (ix2 ⟨x, by omega⟩ ⟨640 + l, by omega⟩)) (fun r n => R_r_62 b (ix2 ⟨r, by omega⟩ ⟨128 + n, by omega⟩)) (fun n l => b.st (ix3 5 n l)) 10 11 n l := by
  unfold sfm
  pointwise [R_S0_5, R_r_137, k0_pay198, R_r_136, k0_pay197, k0_pay193, k0_pay192, R_r_135, R_r_117, k0_pay168, R_r_70, R_r_65, k0_pay89, k0_pay98, k0_pay94, k0_pay196, R_r_130, R_v986, k0_pay189, R_r_129, R_r_127, R_r_71, k0_pay99, k0_pay184, k0_pay93, k0_pay188, R_r_128, k0_pay186, k0_pay185, k0_pay187, k0_pay203, k0_pay201] <;> rfl

theorem s0_5 (A : Agr W X t0 b) (F : FinW W) (n l : Fin 128) : R_S0_5 b (ix3 0 n l) = sst W X (t0 + 128) ⟨640 + l, by omega⟩ n :=
  (s0_5f n l).trans (sfm_sem F t0 5 10 11 rfl rfl (k_cs0 A F) (fun x e h => k_dt A (⟨x, by omega⟩ : Fin 256) e h) (fun x l => k_sx A (⟨x, by omega⟩ : Fin 256) ⟨640 + l, by omega⟩) (fun n l => A.st 5 n l) (fun r n => (k_sB A (⟨r, by omega⟩ : Fin 256) ⟨128 + n, by omega⟩).trans (congrArg (xbc W X _) (Fin.ext (by first | rfl | (dsimp only; omega))))) n l)

set_option maxHeartbeats 1000000 in
theorem s0_6f (n l : Fin 128) : R_S0_6 b (ix3 0 n l) = sfm (fun r e => R_r_67 b (ix2 r e)) (fun x e => R_r_64 b (ix2 ⟨x, by omega⟩ e)) (fun x l => R_r_61 b (ix2 ⟨x, by omega⟩ ⟨768 + l, by omega⟩)) (fun r n => R_r_62 b (ix2 ⟨r, by omega⟩ ⟨128 + n, by omega⟩)) (fun n l => b.st (ix3 6 n l)) 12 13 n l := by
  unfold sfm
  pointwise [R_S0_6, R_r_147, R_r_143, R_v1066, k0_pay207, R_r_142, R_r_71, k0_pay99, k0_pay93, k0_pay206, k0_pay204, R_r_141, k0_pay205, R_r_117, k0_pay168, R_r_70, R_r_65, k0_pay89, k0_pay98, k0_pay94, k0_pay215, k0_pay213, k0_pay212, k0_pay211, k0_pay210, k0_pay216] <;> rfl

theorem s0_6 (A : Agr W X t0 b) (F : FinW W) (n l : Fin 128) : R_S0_6 b (ix3 0 n l) = sst W X (t0 + 128) ⟨768 + l, by omega⟩ n :=
  (s0_6f n l).trans (sfm_sem F t0 6 12 13 rfl rfl (k_cs0 A F) (fun x e h => k_dt A (⟨x, by omega⟩ : Fin 256) e h) (fun x l => k_sx A (⟨x, by omega⟩ : Fin 256) ⟨768 + l, by omega⟩) (fun n l => A.st 6 n l) (fun r n => (k_sB A (⟨r, by omega⟩ : Fin 256) ⟨128 + n, by omega⟩).trans (congrArg (xbc W X _) (Fin.ext (by first | rfl | (dsimp only; omega))))) n l)

set_option maxHeartbeats 1000000 in
theorem s0_7f (n l : Fin 128) : R_S0_7 b (ix3 0 n l) = sfm (fun r e => R_r_67 b (ix2 r e)) (fun x e => R_r_64 b (ix2 ⟨x, by omega⟩ e)) (fun x l => R_r_61 b (ix2 ⟨x, by omega⟩ ⟨896 + l, by omega⟩)) (fun r n => R_r_62 b (ix2 ⟨r, by omega⟩ ⟨128 + n, by omega⟩)) (fun n l => b.st (ix3 7 n l)) 14 15 n l := by
  unfold sfm
  pointwise [R_S0_7, R_r_157, k0_pay229, R_r_156, k0_pay228, k0_pay224, k0_pay223, R_r_155, R_r_117, k0_pay168, R_r_70, R_r_65, k0_pay89, k0_pay98, k0_pay94, k0_pay227, R_r_150, R_v1146, k0_pay220, R_r_149, R_r_71, k0_pay99, k0_pay93, k0_pay219, k0_pay217, R_r_148, k0_pay218, k0_pay232, k0_pay231, k0_pay230] <;> rfl

theorem s0_7 (A : Agr W X t0 b) (F : FinW W) (n l : Fin 128) : R_S0_7 b (ix3 0 n l) = sst W X (t0 + 128) ⟨896 + l, by omega⟩ n :=
  (s0_7f n l).trans (sfm_sem F t0 7 14 15 rfl rfl (k_cs0 A F) (fun x e h => k_dt A (⟨x, by omega⟩ : Fin 256) e h) (fun x l => k_sx A (⟨x, by omega⟩ : Fin 256) ⟨896 + l, by omega⟩) (fun n l => A.st 7 n l) (fun r n => (k_sB A (⟨r, by omega⟩ : Fin 256) ⟨128 + n, by omega⟩).trans (congrArg (xbc W X _) (Fin.ext (by first | rfl | (dsimp only; omega))))) n l)

end Cert.Mix
end
-- ==== Proof.MixKerY1.lean ====
module

public import proofs.«01_k».proof.Proof.MixKerS0

/-!
  What the heads read out in the second half of a block.
-/

@[expose] public section

set_option maxRecDepth 16384

noncomputable section

namespace Cert.Mix

open Cert.KernelIdeal Cert.KernelIdeal.Gen Idealize.ShloMosaic

variable {W : Wt} {X : ℕ → Fin 1024 → EReal} {t0 : ℕ} {b : Blk}

set_option maxHeartbeats 1000000 in
theorem y1_0f (r l : Fin 128) : R_r_176 b (ix2 r l) = yfm (fun r x => R_r_168 b (ix2 r x)) (fun r e => R_r_160 b (ix2 r e)) (fun x e => R_r_64 b (ix2 ⟨128 + x, by omega⟩ e)) (fun x l => R_r_61 b (ix2 ⟨128 + x, by omega⟩ ⟨l, by omega⟩)) (fun r n => R_r_63 b (ix2 ⟨128 + r, by omega⟩ ⟨n, by omega⟩)) (fun n l => R_S0_0 b (ix3 0 n l)) 0 1 r l := by
  refine (cat_matmul _ _ _ _ _ _ _ _ r l).trans ?_
  unfold yfm
  pointwise [R_r_176, R_r_175, R_r_159, k0_pay234, k0_pay91, k0_pay252, k0_pay238, k0_pay250, k0_pay237, R_r_174, k0_pay251, R_r_173, R_v1256, k0_pay93, k0_pay249, k0_pay247, R_r_172, k0_pay248, R_r_170, k0_pay246, k0_pay244, k0_pay240, R_r_169, k0_pay245, R_r_166, k0_pay241, R_r_163, R_r_162, k0_pay255, k0_pay254, k0_pay253] <;> rfl

theorem y1_0 (A : Agr W X t0 b) (F : FinW W) (r l : Fin 128) : R_r_176 b (ix2 r l) = yr W X ((t0 + 128) + r) ⟨0 + l, by omega⟩ :=
  (y1_0f r l).trans (yfm_sem F (t0 + 128) 0 0 1 rfl rfl (k_cs1 A F) (fun x e h => k_dt1 A x e h) (fun x l => (k_sx1 A x ⟨l, by omega⟩).trans (congrArg (xbc W X _) (Fin.ext (show (l : ℕ) = 128 * 0 + l by omega)))) (fun n l => s0_0 A F n l) (k_sc10 A) (fun r n => (k_sC1 A r ⟨n, by omega⟩).trans (congrArg (xbc W X _) (Fin.ext (by first | rfl | (dsimp only; omega))))) r l)

set_option maxHeartbeats 1000000 in
theorem y1_1f (r l : Fin 128) : R_r_190 b (ix2 r l) = yfm (fun r x => R_r_168 b (ix2 r x)) (fun r e => R_r_160 b (ix2 r e)) (fun x e => R_r_64 b (ix2 ⟨128 + x, by omega⟩ e)) (fun x l => R_r_61 b (ix2 ⟨128 + x, by omega⟩ ⟨128 + l, by omega⟩)) (fun r n => R_r_63 b (ix2 ⟨128 + r, by omega⟩ ⟨n, by omega⟩)) (fun n l => R_S0_1 b (ix3 0 n l)) 2 3 r l := by
  refine (cat_matmul _ _ _ _ _ _ _ _ r l).trans ?_
  unfold yfm
  pointwise [R_r_190, R_r_189, R_r_166, k0_pay241, k0_pay274, k0_pay272, k0_pay271, R_r_188, R_r_163, R_r_159, k0_pay234, k0_pay238, R_r_162, k0_pay237, k0_pay91, k0_pay273, R_r_184, k0_pay268, k0_pay266, k0_pay265, R_r_183, k0_pay267, R_r_182, R_v1336, k0_pay93, k0_pay264, k0_pay262, R_r_181, k0_pay263, R_r_179, k0_pay260, k0_pay259, R_r_177, R_r_165, k0_pay240, k0_pay257, k0_pay261, R_r_178, k0_pay258, k0_pay275] <;> rfl

theorem y1_1 (A : Agr W X t0 b) (F : FinW W) (r l : Fin 128) : R_r_190 b (ix2 r l) = yr W X ((t0 + 128) + r) ⟨128 + l, by omega⟩ :=
  (y1_1f r l).trans (yfm_sem F (t0 + 128) 1 2 3 rfl rfl (k_cs1 A F) (fun x e h => k_dt1 A x e h) (fun x l => k_sx1 A x ⟨128 + l, by omega⟩) (fun n l => s0_1 A F n l) (k_sc10 A) (fun r n => (k_sC1 A r ⟨n, by omega⟩).trans (congrArg (xbc W X _) (Fin.ext (by first | rfl | (dsimp only; omega))))) r l)

set_option maxHeartbeats 1000000 in
theorem y1_2f (r l : Fin 128) : R_r_198 b (ix2 r l) = yfm (fun r x => R_r_168 b (ix2 r x)) (fun r e => R_r_160 b (ix2 r e)) (fun x e => R_r_64 b (ix2 ⟨128 + x, by omega⟩ e)) (fun x l => R_r_61 b (ix2 ⟨128 + x, by omega⟩ ⟨256 + l, by omega⟩)) (fun r n => R_r_63 b (ix2 ⟨128 + r, by omega⟩ ⟨n, by omega⟩)) (fun n l => R_S0_2 b (ix3 0 n l)) 4 5 r l := by
  refine (cat_matmul _ _ _ _ _ _ _ _ r l).trans ?_
  unfold yfm
  pointwise [R_r_198, R_r_197, R_r_162, k0_pay237, k0_pay284, k0_pay283, R_r_196, R_r_195, R_v1416, k0_pay93, k0_pay282, k0_pay280, R_r_194, k0_pay281, R_r_192, R_r_165, k0_pay240, k0_pay279, k0_pay277, R_r_191, k0_pay278, R_r_166, k0_pay241, R_r_163, R_r_159, k0_pay234, k0_pay238, k0_pay91, k0_pay288, k0_pay287, k0_pay286, k0_pay285] <;> rfl

theorem y1_2 (A : Agr W X t0 b) (F : FinW W) (r l : Fin 128) : R_r_198 b (ix2 r l) = yr W X ((t0 + 128) + r) ⟨256 + l, by omega⟩ :=
  (y1_2f r l).trans (yfm_sem F (t0 + 128) 2 4 5 rfl rfl (k_cs1 A F) (fun x e h => k_dt1 A x e h) (fun x l => k_sx1 A x ⟨256 + l, by omega⟩) (fun n l => s0_2 A F n l) (k_sc10 A) (fun r n => (k_sC1 A r ⟨n, by omega⟩).trans (congrArg (xbc W X _) (Fin.ext (by first | rfl | (dsimp only; omega))))) r l)

set_option maxHeartbeats 1000000 in
theorem y1_3f (r l : Fin 128) : R_r_211 b (ix2 r l) = yfm (fun r x => R_r_168 b (ix2 r x)) (fun r e => R_r_160 b (ix2 r e)) (fun x e => R_r_64 b (ix2 ⟨128 + x, by omega⟩ e)) (fun x l => R_r_61 b (ix2 ⟨128 + x, by omega⟩ ⟨384 + l, by omega⟩)) (fun r n => R_r_63 b (ix2 ⟨128 + r, by omega⟩ ⟨n, by omega⟩)) (fun n l => R_S0_3 b (ix3 0 n l)) 6 7 r l := by
  refine (cat_matmul _ _ _ _ _ _ _ _ r l).trans ?_
  unfold yfm
  pointwise [R_r_211, R_r_210, R_r_162, k0_pay237, k0_pay303, k0_pay302, R_r_209, R_r_206, R_r_166, k0_pay241, k0_pay299, k0_pay297, k0_pay296, R_r_205, R_r_163, R_r_159, k0_pay234, k0_pay238, k0_pay91, k0_pay298, R_r_204, R_v1496, k0_pay93, k0_pay295, k0_pay293, R_r_203, k0_pay294, R_r_201, R_r_199, R_r_165, k0_pay240, k0_pay290, k0_pay292, R_r_200, k0_pay291, k0_pay305, k0_pay304] <;> rfl

theorem y1_3 (A : Agr W X t0 b) (F : FinW W) (r l : Fin 128) : R_r_211 b (ix2 r l) = yr W X ((t0 + 128) + r) ⟨384 + l, by omega⟩ :=
  (y1_3f r l).trans (yfm_sem F (t0 + 128) 3 6 7 rfl rfl (k_cs1 A F) (fun x e h => k_dt1 A x e h) (fun x l => k_sx1 A x ⟨384 + l, by omega⟩) (fun n l => s0_3 A F n l) (k_sc10 A) (fun r n => (k_sC1 A r ⟨n, by omega⟩).trans (congrArg (xbc W X _) (Fin.ext (by first | rfl | (dsimp only; omega))))) r l)

set_option maxHeartbeats 1000000 in
theorem y1_4f (r l : Fin 128) : R_r_224 b (ix2 r l) = yfm (fun r x => R_r_214 b (ix2 r x)) (fun r e => R_r_160 b (ix2 r e)) (fun x e => R_r_64 b (ix2 ⟨128 + x, by omega⟩ e)) (fun x l => R_r_61 b (ix2 ⟨128 + x, by omega⟩ ⟨512 + l, by omega⟩)) (fun r n => R_r_63 b (ix2 ⟨128 + r, by omega⟩ ⟨128 + n, by omega⟩)) (fun n l => R_S0_4 b (ix3 0 n l)) 8 9 r l := by
  refine (cat_matmul _ _ _ _ _ _ _ _ r l).trans ?_
  unfold yfm
  pointwise [R_r_224, R_cst_304, R_r_223, R_r_212, k0_pay307, R_r_163, R_r_159, k0_pay234, k0_pay238, R_r_162, k0_pay237, k0_pay91, k0_pay323, k0_pay319, k0_pay318, k0_pay315, k0_pay314, R_r_222, R_cst_300, R_r_217, R_v1582, k0_pay313, R_r_216, R_r_165, k0_pay240, k0_pay93, k0_pay312, k0_pay310, R_r_215, k0_pay311, k0_pay322, k0_pay324] <;> rfl

theorem y1_4 (A : Agr W X t0 b) (F : FinW W) (r l : Fin 128) : R_r_224 b (ix2 r l) = yr W X ((t0 + 128) + r) ⟨512 + l, by omega⟩ :=
  (y1_4f r l).trans (yfm_sem F (t0 + 128) 4 8 9 rfl rfl (k_cs1 A F) (fun x e h => k_dt1 A x e h) (fun x l => k_sx1 A x ⟨512 + l, by omega⟩) (fun n l => s0_4 A F n l) (k_sc11 A) (fun r n => (k_sC1 A r ⟨128 + n, by omega⟩).trans (congrArg (xbc W X _) (Fin.ext (by first | rfl | (dsimp only; omega))))) r l)

set_option maxHeartbeats 1000000 in
theorem y1_5f (r l : Fin 128) : R_r_232 b (ix2 r l) = yfm (fun r x => R_r_214 b (ix2 r x)) (fun r e => R_r_160 b (ix2 r e)) (fun x e => R_r_64 b (ix2 ⟨128 + x, by omega⟩ e)) (fun x l => R_r_61 b (ix2 ⟨128 + x, by omega⟩ ⟨640 + l, by omega⟩)) (fun r n => R_r_63 b (ix2 ⟨128 + r, by omega⟩ ⟨128 + n, by omega⟩)) (fun n l => R_S0_5 b (ix3 0 n l)) 10 11 r l := by
  refine (cat_matmul _ _ _ _ _ _ _ _ r l).trans ?_
  unfold yfm
  pointwise [R_r_232, R_r_231, R_r_163, R_r_159, k0_pay234, k0_pay238, R_r_162, k0_pay237, k0_pay91, k0_pay333, k0_pay332, R_r_230, R_r_229, R_v1662, k0_pay93, k0_pay331, k0_pay329, R_r_228, k0_pay330, R_r_226, R_r_165, k0_pay240, k0_pay328, k0_pay326, R_r_225, k0_pay327, R_r_212, k0_pay307, k0_pay337, k0_pay336, k0_pay335, k0_pay334] <;> rfl

theorem y1_5 (A : Agr W X t0 b) (F : FinW W) (r l : Fin 128) : R_r_232 b (ix2 r l) = yr W X ((t0 + 128) + r) ⟨640 + l, by omega⟩ :=
  (y1_5f r l).trans (yfm_sem F (t0 + 128) 5 10 11 rfl rfl (k_cs1 A F) (fun x e h => k_dt1 A x e h) (fun x l => k_sx1 A x ⟨640 + l, by omega⟩) (fun n l => s0_5 A F n l) (k_sc11 A) (fun r n => (k_sC1 A r ⟨128 + n, by omega⟩).trans (congrArg (xbc W X _) (Fin.ext (by first | rfl | (dsimp only; omega))))) r l)

set_option maxHeartbeats 1000000 in
theorem y1_6f (r l : Fin 128) : R_r_245 b (ix2 r l) = yfm (fun r x => R_r_214 b (ix2 r x)) (fun r e => R_r_160 b (ix2 r e)) (fun x e => R_r_64 b (ix2 ⟨128 + x, by omega⟩ e)) (fun x l => R_r_61 b (ix2 ⟨128 + x, by omega⟩ ⟨768 + l, by omega⟩)) (fun r n => R_r_63 b (ix2 ⟨128 + r, by omega⟩ ⟨128 + n, by omega⟩)) (fun n l => R_S0_6 b (ix3 0 n l)) 12 13 r l := by
  refine (cat_matmul _ _ _ _ _ _ _ _ r l).trans ?_
  unfold yfm
  pointwise [R_r_245, R_r_244, R_r_163, R_r_159, k0_pay234, k0_pay238, R_r_162, k0_pay237, k0_pay91, k0_pay354, k0_pay352, R_r_243, k0_pay353, R_r_240, R_r_212, k0_pay307, k0_pay349, k0_pay347, k0_pay346, R_r_239, k0_pay348, R_r_238, R_v1742, k0_pay93, k0_pay345, k0_pay343, R_r_237, k0_pay344, R_r_235, k0_pay341, R_cst_300, R_r_233, R_r_165, k0_pay240, k0_pay339, k0_pay342, R_r_234, k0_pay340, k0_pay355] <;> rfl

theorem y1_6 (A : Agr W X t0 b) (F : FinW W) (r l : Fin 128) : R_r_245 b (ix2 r l) = yr W X ((t0 + 128) + r) ⟨768 + l, by omega⟩ :=
  (y1_6f r l).trans (yfm_sem F (t0 + 128) 6 12 13 rfl rfl (k_cs1 A F) (fun x e h => k_dt1 A x e h) (fun x l => k_sx1 A x ⟨768 + l, by omega⟩) (fun n l => s0_6 A F n l) (k_sc11 A) (fun r n => (k_sC1 A r ⟨128 + n, by omega⟩).trans (congrArg (xbc W X _) (Fin.ext (by first | rfl | (dsimp only; omega))))) r l)

set_option maxHeartbeats 1000000 in
theorem y1_7f (r l : Fin 128) : R_r_253 b (ix2 r l) = yfm (fun r x => R_r_214 b (ix2 r x)) (fun r e => R_r_160 b (ix2 r e)) (fun x e => R_r_64 b (ix2 ⟨128 + x, by omega⟩ e)) (fun x l => R_r_61 b (ix2 ⟨128 + x, by omega⟩ ⟨896 + l, by omega⟩)) (fun r n => R_r_63 b (ix2 ⟨128 + r, by omega⟩ ⟨128 + n, by omega⟩)) (fun n l => R_S0_7 b (ix3 0 n l)) 14 15 r l := by
  refine (cat_matmul _ _ _ _ _ _ _ _ r l).trans ?_
  unfold yfm
  pointwise [R_r_253, R_r_252, R_r_162, k0_pay237, k0_pay364, R_r_251, k0_pay363, R_r_250, R_v1822, k0_pay93, k0_pay362, k0_pay360, R_r_249, k0_pay361, R_r_247, R_r_165, k0_pay240, k0_pay359, k0_pay357, R_r_246, k0_pay358, R_r_212, k0_pay307, R_r_163, R_r_159, k0_pay234, k0_pay238, k0_pay91, k0_pay368, k0_pay367, k0_pay366, k0_pay365] <;> rfl

theorem y1_7 (A : Agr W X t0 b) (F : FinW W) (r l : Fin 128) : R_r_253 b (ix2 r l) = yr W X ((t0 + 128) + r) ⟨896 + l, by omega⟩ :=
  (y1_7f r l).trans (yfm_sem F (t0 + 128) 7 14 15 rfl rfl (k_cs1 A F) (fun x e h => k_dt1 A x e h) (fun x l => k_sx1 A x ⟨896 + l, by omega⟩) (fun n l => s0_7 A F n l) (k_sc11 A) (fun r n => (k_sC1 A r ⟨128 + n, by omega⟩).trans (congrArg (xbc W X _) (Fin.ext (by first | rfl | (dsimp only; omega))))) r l)

end Cert.Mix
end
-- ==== Proof.MixKerS1.lean ====
module

public import proofs.«01_k».proof.Proof.MixKerS0

/-!
  The states after the second half of a block.
-/

@[expose] public section

set_option maxRecDepth 16384

noncomputable section

namespace Cert.Mix

open Cert.KernelIdeal Cert.KernelIdeal.Gen Idealize.ShloMosaic

variable {W : Wt} {X : ℕ → Fin 1024 → EReal} {t0 : ℕ} {b : Blk}

set_option maxHeartbeats 1000000 in
theorem s1_0f (n l : Fin 128) : R_S1_0 b (ix3 0 n l) = sfm (fun r e => R_r_160 b (ix2 r e)) (fun x e => R_r_64 b (ix2 ⟨128 + x, by omega⟩ e)) (fun x l => R_r_61 b (ix2 ⟨128 + x, by omega⟩ ⟨l, by omega⟩)) (fun r n => R_r_62 b (ix2 ⟨128 + r, by omega⟩ ⟨n, by omega⟩)) (fun n l => R_S0_0 b (ix3 0 n l)) 0 1 n l := by
  unfold sfm
  pointwise [R_S1_0, R_r_174, k0_pay251, k0_pay250, R_r_171, R_v1256, k0_pay247, R_r_170, k0_pay93, k0_pay246, k0_pay244, k0_pay240, R_r_169, k0_pay245, R_r_167, k0_pay242, R_r_164, R_r_161, k0_pay92, k0_pay91, k0_pay236, R_r_159, k0_pay234, k0_pay239, k0_pay256, k0_pay254, k0_pay253] <;> rfl

theorem s1_0 (A : Agr W X t0 b) (F : FinW W) (n l : Fin 128) : R_S1_0 b (ix3 0 n l) = sst W X ((t0 + 128) + 128) ⟨0 + l, by omega⟩ n :=
  (s1_0f n l).trans (sfm_sem F (t0 + 128) 0 0 1 rfl rfl (k_cs1 A F) (fun x e h => k_dt1 A x e h) (fun x l => (k_sx1 A x ⟨l, by omega⟩).trans (congrArg (xbc W X _) (Fin.ext (show (l : ℕ) = 128 * 0 + l by omega)))) (fun n l => s0_0 A F n l) (fun r n => (k_sB1 A r ⟨n, by omega⟩).trans (congrArg (xbc W X _) (Fin.ext (by first | rfl | (dsimp only; omega))))) n l)

set_option maxHeartbeats 1000000 in
theorem s1_1f (n l : Fin 128) : R_S1_1 b (ix3 0 n l) = sfm (fun r e => R_r_160 b (ix2 r e)) (fun x e => R_r_64 b (ix2 ⟨128 + x, by omega⟩ e)) (fun x l => R_r_61 b (ix2 ⟨128 + x, by omega⟩ ⟨128 + l, by omega⟩)) (fun r n => R_r_62 b (ix2 ⟨128 + r, by omega⟩ ⟨n, by omega⟩)) (fun n l => R_S0_1 b (ix3 0 n l)) 2 3 n l := by
  unfold sfm
  pointwise [R_S1_1, R_r_187, k0_pay272, k0_pay271, R_r_186, k0_pay270, k0_pay266, k0_pay265, R_r_185, R_r_167, k0_pay242, R_r_164, R_r_161, k0_pay92, k0_pay91, k0_pay236, R_r_159, k0_pay234, k0_pay239, k0_pay269, R_r_180, R_v1336, k0_pay262, R_r_179, k0_pay260, k0_pay93, k0_pay259, R_r_177, R_r_165, k0_pay240, k0_pay257, k0_pay261, R_r_178, k0_pay258, k0_pay276] <;> rfl

theorem s1_1 (A : Agr W X t0 b) (F : FinW W) (n l : Fin 128) : R_S1_1 b (ix3 0 n l) = sst W X ((t0 + 128) + 128) ⟨128 + l, by omega⟩ n :=
  (s1_1f n l).trans (sfm_sem F (t0 + 128) 1 2 3 rfl rfl (k_cs1 A F) (fun x e h => k_dt1 A x e h) (fun x l => k_sx1 A x ⟨128 + l, by omega⟩) (fun n l => s0_1 A F n l) (fun r n => (k_sB1 A r ⟨n, by omega⟩).trans (congrArg (xbc W X _) (Fin.ext (by first | rfl | (dsimp only; omega))))) n l)

set_option maxHeartbeats 1000000 in
theorem s1_2f (n l : Fin 128) : R_S1_2 b (ix3 0 n l) = sfm (fun r e => R_r_160 b (ix2 r e)) (fun x e => R_r_64 b (ix2 ⟨128 + x, by omega⟩ e)) (fun x l => R_r_61 b (ix2 ⟨128 + x, by omega⟩ ⟨256 + l, by omega⟩)) (fun r n => R_r_62 b (ix2 ⟨128 + r, by omega⟩ ⟨n, by omega⟩)) (fun n l => R_S0_2 b (ix3 0 n l)) 4 5 n l := by
  unfold sfm
  pointwise [R_S1_2, R_r_196, k0_pay283, R_r_193, R_v1416, k0_pay280, R_r_192, R_r_165, k0_pay240, k0_pay93, k0_pay279, k0_pay277, R_r_191, k0_pay278, R_r_167, k0_pay242, R_r_164, R_r_161, k0_pay92, k0_pay91, k0_pay236, R_r_159, k0_pay234, k0_pay239, k0_pay289, k0_pay287, k0_pay286, k0_pay285] <;> rfl

theorem s1_2 (A : Agr W X t0 b) (F : FinW W) (n l : Fin 128) : R_S1_2 b (ix3 0 n l) = sst W X ((t0 + 128) + 128) ⟨256 + l, by omega⟩ n :=
  (s1_2f n l).trans (sfm_sem F (t0 + 128) 2 4 5 rfl rfl (k_cs1 A F) (fun x e h => k_dt1 A x e h) (fun x l => k_sx1 A x ⟨256 + l, by omega⟩) (fun n l => s0_2 A F n l) (fun r n => (k_sB1 A r ⟨n, by omega⟩).trans (congrArg (xbc W X _) (Fin.ext (by first | rfl | (dsimp only; omega))))) n l)

set_option maxHeartbeats 1000000 in
theorem s1_3f (n l : Fin 128) : R_S1_3 b (ix3 0 n l) = sfm (fun r e => R_r_160 b (ix2 r e)) (fun x e => R_r_64 b (ix2 ⟨128 + x, by omega⟩ e)) (fun x l => R_r_61 b (ix2 ⟨128 + x, by omega⟩ ⟨384 + l, by omega⟩)) (fun r n => R_r_62 b (ix2 ⟨128 + r, by omega⟩ ⟨n, by omega⟩)) (fun n l => R_S0_3 b (ix3 0 n l)) 6 7 n l := by
  unfold sfm
  pointwise [R_S1_3, R_r_209, k0_pay302, R_r_208, k0_pay301, k0_pay297, k0_pay296, R_r_207, R_r_167, k0_pay242, R_r_164, R_r_161, k0_pay92, k0_pay91, k0_pay236, R_r_159, k0_pay234, k0_pay239, k0_pay300, R_r_202, R_v1496, k0_pay293, R_r_201, R_r_199, R_r_165, k0_pay240, k0_pay290, k0_pay93, k0_pay292, R_r_200, k0_pay291, k0_pay306, k0_pay304] <;> rfl

theorem s1_3 (A : Agr W X t0 b) (F : FinW W) (n l : Fin 128) : R_S1_3 b (ix3 0 n l) = sst W X ((t0 + 128) + 128) ⟨384 + l, by omega⟩ n :=
  (s1_3f n l).trans (sfm_sem F (t0 + 128) 3 6 7 rfl rfl (k_cs1 A F) (fun x e h => k_dt1 A x e h) (fun x l => k_sx1 A x ⟨384 + l, by omega⟩) (fun n l => s0_3 A F n l) (fun r n => (k_sB1 A r ⟨n, by omega⟩).trans (congrArg (xbc W X _) (Fin.ext (by first | rfl | (dsimp only; omega))))) n l)

set_option maxHeartbeats 1000000 in
theorem s1_4f (n l : Fin 128) : R_S1_4 b (ix3 0 n l) = sfm (fun r e => R_r_160 b (ix2 r e)) (fun x e => R_r_64 b (ix2 ⟨128 + x, by omega⟩ e)) (fun x l => R_r_61 b (ix2 ⟨128 + x, by omega⟩ ⟨512 + l, by omega⟩)) (fun r n => R_r_62 b (ix2 ⟨128 + r, by omega⟩ ⟨128 + n, by omega⟩)) (fun n l => R_S0_4 b (ix3 0 n l)) 8 9 n l := by
  unfold sfm
  pointwise [R_S1_4, R_r_221, k0_pay321, k0_pay319, k0_pay318, R_r_220, R_r_213, k0_pay308, R_r_164, R_r_161, k0_pay92, k0_pay91, k0_pay236, R_r_159, k0_pay234, k0_pay239, k0_pay320, R_r_219, k0_pay317, k0_pay315, k0_pay314, R_r_218, k0_pay316, R_r_217, R_v1582, k0_pay313, R_r_216, R_r_165, k0_pay240, k0_pay93, k0_pay312, k0_pay310, R_r_215, k0_pay311, k0_pay325] <;> rfl

theorem s1_4 (A : Agr W X t0 b) (F : FinW W) (n l : Fin 128) : R_S1_4 b (ix3 0 n l) = sst W X ((t0 + 128) + 128) ⟨512 + l, by omega⟩ n :=
  (s1_4f n l).trans (sfm_sem F (t0 + 128) 4 8 9 rfl rfl (k_cs1 A F) (fun x e h => k_dt1 A x e h) (fun x l => k_sx1 A x ⟨512 + l, by omega⟩) (fun n l => s0_4 A F n l) (fun r n => (k_sB1 A r ⟨128 + n, by omega⟩).trans (congrArg (xbc W X _) (Fin.ext (by first | rfl | (dsimp only; omega))))) n l)

set_option maxHeartbeats 1000000 in
theorem s1_5f (n l : Fin 128) : R_S1_5 b (ix3 0 n l) = sfm (fun r e => R_r_160 b (ix2 r e)) (fun x e => R_r_64 b (ix2 ⟨128 + x, by omega⟩ e)) (fun x l => R_r_61 b (ix2 ⟨128 + x, by omega⟩ ⟨640 + l, by omega⟩)) (fun r n => R_r_62 b (ix2 ⟨128 + r, by omega⟩ ⟨128 + n, by omega⟩)) (fun n l => R_S0_5 b (ix3 0 n l)) 10 11 n l := by
  unfold sfm
  pointwise [R_S1_5, R_r_230, k0_pay332, R_r_227, R_v1662, k0_pay329, R_r_226, R_r_165, k0_pay240, k0_pay93, k0_pay328, k0_pay326, R_r_225, k0_pay327, R_r_213, k0_pay308, R_r_164, R_r_161, k0_pay92, k0_pay91, k0_pay236, R_r_159, k0_pay234, k0_pay239, k0_pay338, k0_pay336, k0_pay335, k0_pay334] <;> rfl

theorem s1_5 (A : Agr W X t0 b) (F : FinW W) (n l : Fin 128) : R_S1_5 b (ix3 0 n l) = sst W X ((t0 + 128) + 128) ⟨640 + l, by omega⟩ n :=
  (s1_5f n l).trans (sfm_sem F (t0 + 128) 5 10 11 rfl rfl (k_cs1 A F) (fun x e h => k_dt1 A x e h) (fun x l => k_sx1 A x ⟨640 + l, by omega⟩) (fun n l => s0_5 A F n l) (fun r n => (k_sB1 A r ⟨128 + n, by omega⟩).trans (congrArg (xbc W X _) (Fin.ext (by first | rfl | (dsimp only; omega))))) n l)

set_option maxHeartbeats 1000000 in
theorem s1_6f (n l : Fin 128) : R_S1_6 b (ix3 0 n l) = sfm (fun r e => R_r_160 b (ix2 r e)) (fun x e => R_r_64 b (ix2 ⟨128 + x, by omega⟩ e)) (fun x l => R_r_61 b (ix2 ⟨128 + x, by omega⟩ ⟨768 + l, by omega⟩)) (fun r n => R_r_62 b (ix2 ⟨128 + r, by omega⟩ ⟨128 + n, by omega⟩)) (fun n l => R_S0_6 b (ix3 0 n l)) 12 13 n l := by
  unfold sfm
  pointwise [R_S1_6, R_r_243, k0_pay353, k0_pay352, R_r_242, k0_pay351, k0_pay347, k0_pay346, R_r_241, R_r_213, k0_pay308, R_r_164, R_r_161, k0_pay92, k0_pay91, k0_pay236, R_r_159, k0_pay234, k0_pay239, k0_pay350, R_r_236, R_v1742, k0_pay343, R_r_235, k0_pay93, k0_pay341, R_cst_300, R_r_233, R_r_165, k0_pay240, k0_pay339, k0_pay342, R_r_234, k0_pay340, k0_pay356] <;> rfl

theorem s1_6 (A : Agr W X t0 b) (F : FinW W) (n l : Fin 128) : R_S1_6 b (ix3 0 n l) = sst W X ((t0 + 128) + 128) ⟨768 + l, by omega⟩ n :=
  (s1_6f n l).trans (sfm_sem F (t0 + 128) 6 12 13 rfl rfl (k_cs1 A F) (fun x e h => k_dt1 A x e h) (fun x l => k_sx1 A x ⟨768 + l, by omega⟩) (fun n l => s0_6 A F n l) (fun r n => (k_sB1 A r ⟨128 + n, by omega⟩).trans (congrArg (xbc W X _) (Fin.ext (by first | rfl | (dsimp only; omega))))) n l)

set_option maxHeartbeats 1000000 in
theorem s1_7f (n l : Fin 128) : R_S1_7 b (ix3 0 n l) = sfm (fun r e => R_r_160 b (ix2 r e)) (fun x e => R_r_64 b (ix2 ⟨128 + x, by omega⟩ e)) (fun x l => R_r_61 b (ix2 ⟨128 + x, by omega⟩ ⟨896 + l, by omega⟩)) (fun r n => R_r_62 b (ix2 ⟨128 + r, by omega⟩ ⟨128 + n, by omega⟩)) (fun n l => R_S0_7 b (ix3 0 n l)) 14 15 n l := by
  unfold sfm
  pointwise [R_S1_7, R_r_254, R_r_251, k0_pay363, R_r_248, R_v1822, k0_pay360, R_r_247, R_r_165, k0_pay240, k0_pay93, k0_pay359, k0_pay357, R_r_246, k0_pay358, R_r_213, k0_pay308, R_r_164, R_r_161, k0_pay92, k0_pay91, k0_pay236, R_r_159, k0_pay234, k0_pay239, k0_pay369, k0_pay367, k0_pay366, k0_pay365] <;> rfl

theorem s1_7 (A : Agr W X t0 b) (F : FinW W) (n l : Fin 128) : R_S1_7 b (ix3 0 n l) = sst W X ((t0 + 128) + 128) ⟨896 + l, by omega⟩ n :=
  (s1_7f n l).trans (sfm_sem F (t0 + 128) 7 14 15 rfl rfl (k_cs1 A F) (fun x e h => k_dt1 A x e h) (fun x l => k_sx1 A x ⟨896 + l, by omega⟩) (fun n l => s0_7 A F n l) (fun r n => (k_sB1 A r ⟨128 + n, by omega⟩).trans (congrArg (xbc W X _) (Fin.ext (by first | rfl | (dsimp only; omega))))) n l)

end Cert.Mix
end
-- ==== Proof.MixKerD.lean ====
module

public import proofs.«01_k».proof.Proof.MixKerY
public import proofs.«01_k».proof.Proof.MixKerY0
public import proofs.«01_k».proof.Proof.MixKerY1
public import proofs.«01_k».proof.Proof.MixKerS1
public import Idealize.ShloMosaic.Lib.Pointwise

/-!
  The block of results: the state's readings of both chunks beside one another, the skip, the gate, the norm, the two
  products with the output weights and the last norm are the specification's values.
-/

@[expose] public section

set_option maxRecDepth 16384

noncomputable section

namespace Cert.Mix

open Cert.KernelIdeal Cert.KernelIdeal.Gen Idealize.ShloMosaic

/-- The sum over both halves, one after the other. -/
theorem mix_halves (W : Wt) (X : ℕ → Fin 1024 → EReal) (t : ℕ) (k : Fin 1024) : mix W X t k
    = ∑ x : Fin 1024, yl W X t x * W.wout ⟨x, by omega⟩ k + ∑ x : Fin 1024, ys W X t x * W.wout ⟨1024 + x, by omega⟩ k := by
  unfold mix
  refine (Fin.sum_univ_add (a := 1024) (b := 1024) _).trans ?_
  congr 1

theorem eight {P : Fin 1024 → Prop} (h0 : ∀ l : Fin 128, P ⟨l, by omega⟩)
    (h1 : ∀ l : Fin 128, P ⟨128 + l, by omega⟩)
    (h2 : ∀ l : Fin 128, P ⟨256 + l, by omega⟩)
    (h3 : ∀ l : Fin 128, P ⟨384 + l, by omega⟩)
    (h4 : ∀ l : Fin 128, P ⟨512 + l, by omega⟩)
    (h5 : ∀ l : Fin 128, P ⟨640 + l, by omega⟩)
    (h6 : ∀ l : Fin 128, P ⟨768 + l, by omega⟩)
    (h7 : ∀ l : Fin 128, P ⟨896 + l, by omega⟩)
    (L : Fin 1024) : P L := by
  by_cases g0 : (L : ℕ) < 128
  · have h := h0 ⟨L - 0, by omega⟩
    rwa [show (⟨((⟨(L : ℕ) - 0, by omega⟩ : Fin 128) : ℕ), by show _ < 1024; simp only []; omega⟩ : Fin 1024) = L from Fin.ext (by simp only []; omega)] at h
  by_cases g1 : (L : ℕ) < 256
  · have h := h1 ⟨L - 128, by omega⟩
    rwa [show (⟨128 + ((⟨(L : ℕ) - 128, by omega⟩ : Fin 128) : ℕ), by show _ < 1024; simp only []; omega⟩ : Fin 1024) = L from Fin.ext (by simp only []; omega)] at h
  by_cases g2 : (L : ℕ) < 384
  · have h := h2 ⟨L - 256, by omega⟩
    rwa [show (⟨256 + ((⟨(L : ℕ) - 256, by omega⟩ : Fin 128) : ℕ), by show _ < 1024; simp only []; omega⟩ : Fin 1024) = L from Fin.ext (by simp only []; omega)] at h
  by_cases g3 : (L : ℕ) < 512
  · have h := h3 ⟨L - 384, by omega⟩
    rwa [show (⟨384 + ((⟨(L : ℕ) - 384, by omega⟩ : Fin 128) : ℕ), by show _ < 1024; simp only []; omega⟩ : Fin 1024) = L from Fin.ext (by simp only []; omega)] at h
  by_cases g4 : (L : ℕ) < 640
  · have h := h4 ⟨L - 512, by omega⟩
    rwa [show (⟨512 + ((⟨(L : ℕ) - 512, by omega⟩ : Fin 128) : ℕ), by show _ < 1024; simp only []; omega⟩ : Fin 1024) = L from Fin.ext (by simp only []; omega)] at h
  by_cases g5 : (L : ℕ) < 768
  · have h := h5 ⟨L - 640, by omega⟩
    rwa [show (⟨640 + ((⟨(L : ℕ) - 640, by omega⟩ : Fin 128) : ℕ), by show _ < 1024; simp only []; omega⟩ : Fin 1024) = L from Fin.ext (by simp only []; omega)] at h
  by_cases g6 : (L : ℕ) < 896
  · have h := h6 ⟨L - 768, by omega⟩
    rwa [show (⟨768 + ((⟨(L : ℕ) - 768, by omega⟩ : Fin 128) : ℕ), by show _ < 1024; simp only []; omega⟩ : Fin 1024) = L from Fin.ext (by simp only []; omega)] at h
  by_cases g7 : (L : ℕ) < 1024
  · have h := h7 ⟨L - 896, by omega⟩
    rwa [show (⟨896 + ((⟨(L : ℕ) - 896, by omega⟩ : Fin 128) : ℕ), by show _ < 1024; simp only []; omega⟩ : Fin 1024) = L from Fin.ext (by simp only []; omega)] at h
  exact absurd L.2 g7

theorem cat2_lo (y w : Vec Ideal S128x1024 .f32) (r : Fin 128) (L : Fin 1024) :
    concatenate (α := Ideal .f32) S256x1024 0 [⟨S128x1024, y⟩, ⟨S128x1024, w⟩] concatenates_S128x1024_S128x1024_S256x1024_d0 (ix2 ⟨r, by omega⟩ L) = y (ix2 r L) := by
  pointwise

theorem cat2_hi (y w : Vec Ideal S128x1024 .f32) (r : Fin 128) (L : Fin 1024) :
    concatenate (α := Ideal .f32) S256x1024 0 [⟨S128x1024, y⟩, ⟨S128x1024, w⟩] concatenates_S128x1024_S128x1024_S256x1024_d0 (ix2 ⟨128 + r, by omega⟩ L) = w (ix2 r L) := by
  pointwise

/-- The readings of both chunks, one below the other. -/
def yc (y0 : Vec Ideal S128x1024 .f32) (a0 a1 a2 a3 a4 a5 a6 a7 : Vec Ideal S128x128 .f32) : Vec Ideal S256x1024 .f32 :=
  concatenate (α := Ideal .f32) S256x1024 0 [⟨S128x1024, y0⟩, ⟨S128x1024, concatenate (α := Ideal .f32) S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S128x1024_d1⟩] concatenates_S128x1024_S128x1024_S256x1024_d0

theorem p370 (z : Vec Ideal S256x1024 .f32) (y : Vec Ideal S256x1024 .bf16) (sx : Vec Ideal S256x1024 .f32) (y0 : Vec Ideal S128x1024 .f32) (a0 a1 a2 a3 a4 a5 a6 a7 : Vec Ideal S128x128 .f32)
    (D N : Vec Ideal S1x1024 .f32) (wl ws : Vec Ideal S1024x1024 .bf16) (r : Fin 256) (k : Fin 1024) :
    k0_pay370 (F := Ideal) z y sx y0 a0 a1 a2 a3 a4 a5 a6 a7 D N wl ws (ix2 r k)
      = ∑ x : Fin 1024, y (ix2 r x) * wl (ix2 x k) + ∑ x : Fin 1024,
        nrm (fun L => (yc y0 a0 a1 a2 a3 a4 a5 a6 a7 (ix2 r L) + D (ix2 0 L) * sx (ix2 r L)) * silu (z (ix2 r L))) (fun L => N (ix2 0 L)) x * ws (ix2 x k) := by
  dsimp only [k0_pay370, yc]
  generalize concatenate (α := Ideal .f32) S256x1024 0 [⟨S128x1024, y0⟩, ⟨S128x1024, concatenate (α := Ideal .f32) S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S128x1024_d1⟩] concatenates_S128x1024_S128x1024_S256x1024_d0 = Y
  pointwise <;> rfl

variable {W : Wt} {X : ℕ → Fin 1024 → EReal} {t0 : ℕ} {b : Blk}

theorem y_lo (A : Agr W X t0 b) (F : FinW W) (r : Fin 128) : ∀ L : Fin 1024, R_r_158 b (ix2 r L) = yr W X (t0 + r) L :=
  eight (P := fun L => R_r_158 b (ix2 r L) = yr W X (t0 + r) L)
    (fun l => (cat8_0 _ _ _ _ _ _ _ _ r l).trans ((y0_0 A F r l).trans (congrArg _ (Fin.ext (Nat.zero_add _)))))
    (fun l => (cat8_1 _ _ _ _ _ _ _ _ r l).trans (y0_1 A F r l))
    (fun l => (cat8_2 _ _ _ _ _ _ _ _ r l).trans (y0_2 A F r l))
    (fun l => (cat8_3 _ _ _ _ _ _ _ _ r l).trans (y0_3 A F r l))
    (fun l => (cat8_4 _ _ _ _ _ _ _ _ r l).trans (y0_4 A F r l))
    (fun l => (cat8_5 _ _ _ _ _ _ _ _ r l).trans (y0_5 A F r l))
    (fun l => (cat8_6 _ _ _ _ _ _ _ _ r l).trans (y0_6 A F r l))
    (fun l => y0_7 A F r l)

theorem y_hi (A : Agr W X t0 b) (F : FinW W) (r : Fin 128) : ∀ L : Fin 1024,
    concatenate (α := Ideal .f32) S128x1024 1 [⟨S128x128, (R_r_176 b)⟩, ⟨S128x128, (R_r_190 b)⟩, ⟨S128x128, (R_r_198 b)⟩, ⟨S128x128, (R_r_211 b)⟩, ⟨S128x128, (R_r_224 b)⟩, ⟨S128x128, (R_r_232 b)⟩, ⟨S128x128, (R_r_245 b)⟩, ⟨S128x128, (R_r_253 b)⟩] concatenates_S128x128_S128x128_S128x128_S128x128_S128x128_S128x128_S128x128_S128x128_S128x1024_d1 (ix2 r L) = yr W X (t0 + 128 + r) L :=
  eight (P := fun L => concatenate (α := Ideal .f32) S128x1024 1 [⟨S128x128, (R_r_176 b)⟩, ⟨S128x128, (R_r_190 b)⟩, ⟨S128x128, (R_r_198 b)⟩, ⟨S128x128, (R_r_211 b)⟩, ⟨S128x128, (R_r_224 b)⟩, ⟨S128x128, (R_r_232 b)⟩, ⟨S128x128, (R_r_245 b)⟩, ⟨S128x128, (R_r_253 b)⟩] concatenates_S128x128_S128x128_S128x128_S128x128_S128x128_S128x128_S128x128_S128x128_S128x1024_d1 (ix2 r L) = yr W X (t0 + 128 + r) L)
    (fun l => (cat8_0 _ _ _ _ _ _ _ _ r l).trans ((y1_0 A F r l).trans (congrArg _ (Fin.ext (Nat.zero_add _)))))
    (fun l => (cat8_1 _ _ _ _ _ _ _ _ r l).trans (y1_1 A F r l))
    (fun l => (cat8_2 _ _ _ _ _ _ _ _ r l).trans (y1_2 A F r l))
    (fun l => (cat8_3 _ _ _ _ _ _ _ _ r l).trans (y1_3 A F r l))
    (fun l => (cat8_4 _ _ _ _ _ _ _ _ r l).trans (y1_4 A F r l))
    (fun l => (cat8_5 _ _ _ _ _ _ _ _ r l).trans (y1_5 A F r l))
    (fun l => (cat8_6 _ _ _ _ _ _ _ _ r l).trans (y1_6 A F r l))
    (fun l => (cat8_7 _ _ _ _ _ _ _ _ r l).trans (y1_7 A F r l))

theorem y_all (A : Agr W X t0 b) (F : FinW W) (r : Fin 256) (L : Fin 1024) :
    yc (R_r_158 b) (R_r_176 b) (R_r_190 b) (R_r_198 b) (R_r_211 b) (R_r_224 b) (R_r_232 b) (R_r_245 b) (R_r_253 b) (ix2 r L) = yr W X (t0 + r) L := by
  by_cases h : (r : ℕ) < 128
  · exact (cat2_lo _ _ ⟨r, h⟩ L).trans (y_lo A F ⟨r, h⟩ L)
  · have e : r = ⟨128 + ((⟨r - 128, by omega⟩ : Fin 128) : ℕ), by simp only []; omega⟩ := Fin.ext (by simp only []; omega)
    have e2 : t0 + 128 + ((⟨r - 128, by omega⟩ : Fin 128) : ℕ) = t0 + r := by simp only []; omega
    rw [← e2]
    conv_lhs => rw [e]
    exact (cat2_hi _ _ (⟨r - 128, by omega⟩ : Fin 128) L).trans (y_hi A F ⟨r - 128, by omega⟩ L)

theorem k_mix (A : Agr W X t0 b) (F : FinW W) (r : Fin 256) (k : Fin 1024) : R_r_255 b (ix2 r k) = mix W X (t0 + r) k := by
  refine (p370 _ _ _ _ _ _ _ _ _ _ _ _ _ _ _ _ r k).trans ?_
  rw [mix_halves]
  have e1 : ∀ L : Fin 1024, View.ld b.x18 (Rect.unit ![0, 0] S1x1024.size inb_S1x1024_S1x1024_0_0) (ix2 0 L) = b.x18 (ix2 0 L) := by
    intro L; pointwise
  have e2 : ∀ L : Fin 1024, View.ld b.x19 (Rect.unit ![0, 0] S1x1024.size inb_S1x1024_S1x1024_0_0) (ix2 0 L) = b.x19 (ix2 0 L) := by
    intro L; pointwise
  have e3 : ∀ x k : Fin 1024, View.ld b.x20 (Rect.unit ![0, 0] S1024x1024.size inb_S1024x1024_S1024x1024_0_0) (ix2 x k) = b.x20 (ix2 x k) := by
    intro x k; pointwise
  have e4 : ∀ x k : Fin 1024, View.ld b.x21 (Rect.unit ![0, 0] S1024x1024.size inb_S1024x1024_S1024x1024_0_0) (ix2 x k) = b.x21 (ix2 x k) := by
    intro x k; pointwise
  refine congrArg₂ (· + ·) (Finset.sum_congr rfl fun x _ => ?_) (Finset.sum_congr rfl fun x _ => ?_)
  · rw [k_yl A, e3, A.wol]
  · rw [e4, A.wos]
    refine congrArg (· * _) ?_
    unfold ys
    refine congrArg₂ (fun f g => nrm f g x) (funext fun L => ?_) (funext fun L => ?_)
    · rw [y_all A F, e1, A.dd, k_sx A, k_z A]
    · rw [e2, A.sno]

theorem k_out (A : Agr W X t0 b) (F : FinW W) (r : Fin 256) (k : Fin 1024) : R_out b (ix3 0 r k) = outp W X (t0 + r) k := by
  have e2 : ∀ k : Fin 1024, R_r_257 b (ix2 r 0) = msq (fun k => R_r_255 b (ix2 r k)) := by
    intro k
    pointwise [R_r_257, k0_pay372] <;> rfl
  have e3 : R_r_256 b (ix2 0 k) = b.x22 (ix2 0 k) := by
    pointwise [R_r_256, k0_pay371] <;> rfl
  have e : R_out b (ix3 0 r k) = R_r b (ix2 r k) + R_r_255 b (ix2 r k) * Ideal.rsqrt (R_r_257 b (ix2 r 0)) * R_r_256 b (ix2 0 k) := by
    pointwise [R_out, k0_pay1] <;> rfl
  rw [e, e2 k, e3, k_r A, A.post]
  rw [show (fun k => R_r_255 b (ix2 r k)) = mix W X (t0 + r) from funext fun k => k_mix A F r k, k_mix A F]
  rfl

end Cert.Mix
end
-- ==== Proof.MixRunA.lean ====
module

public import proofs.«01_k».proof.Proof.Gen.KernelIdeal.Frame.Runs

@[expose] public section

set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body at the first block of a sequence: what its stores leave in the result's block and in the four scratch
    buffers, as pieces, with the proof that the body runs to them from any contents of those buffers. -/
noncomputable def runFirst (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1536 .bf16) (harg7 : arg7.IsWhole) (arg8 : Memref sig .tc .vmem S1024x128 .bf16) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x1536 .f32) (harg16 : arg16.IsWhole) (arg17 : Memref sig .tc .vmem S1x1536 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1x1024 .f32) (harg24 : arg24.IsWhole) (arg25 : Memref sig .tc .vmem S1x256x1024 .f32) (harg25 : arg25.IsWhole) (arg26 : Memref sig .tc .vmem S264x1024 .f32) (harg26 : arg26.IsWhole) (arg27 : Memref sig .tc .vmem S264x1536 .f32) (harg27 : arg27.IsWhole) (arg28 : Memref sig .tc .vmem S8x1024 .f32) (harg28 : arg28.IsWhole) (arg29 : Memref sig .tc .vmem S8x128x128 .f32) (harg29 : arg29.IsWhole) (hc0 : cond0_0 i) (hc1 : ¬cond0_1 i)
    (x0 : Vec F S1x256x1024 .f32) (x1 : Vec F S1x1024 .f32) (x2 : Vec F S1024x1024 .bf16) (x3 : Vec F S1024x1024 .bf16) (x4 : Vec F S1024x1024 .bf16) (x5 : Vec F S1024x1536 .bf16) (x6 : Vec F S1024x128 .bf16) (x7 : Vec F S4x1024 .f32) (x8 : Vec F S1x1024 .f32) (x9 : Vec F S4x256x512 .bf16) (x10 : Vec F S1x1024 .f32) (x11 : Vec F S1x1024 .f32) (x12 : Vec F S1x1024 .f32) (x13 : Vec F S1x1024 .f32) (x14 : Vec F S4x1536 .f32) (x15 : Vec F S1x1536 .f32) (x16 : Vec F S1x128 .f32) (x17 : Vec F S1x128 .f32) (x18 : Vec F S1x1024 .f32) (x19 : Vec F S1x1024 .f32) (x20 : Vec F S1024x1024 .bf16) (x21 : Vec F S1024x1024 .bf16) (x22 : Vec F S1x1024 .f32) :
    Σ' (L23 : List (View.Piece (Elt F) S1x256x1024 .f32)), Σ' (LS0 : List (View.Piece (Elt F) S264x1024 .f32)), Σ' (LS1 : List (View.Piece (Elt F) S264x1536 .f32)), Σ' (LS2 : List (View.Piece (Elt F) S8x1024 .f32)), { LS3 : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg28.view.loc (c : Thread nD τ) ↦[arg28.view.set]{fullShare} arg28.view.writes (Elt F) f LS2) ∗ (∃ f, arg29.view.loc (c : Thread nD τ) ↦[arg29.view.set]{fullShare} arg29.view.writes (Elt F) f LS3)) -∗ K ⟨⟩))
          ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, fun E K => ?run⟩
  case run =>
    simp only [cc0_mixer_eq_skeleton]; unfold cc0_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22
    sl_exec_parts (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]; · iexists _; iexact H23
    isplitl [HS0]; · iexists _; iexact HS0
    isplitl [HS1]; · iexists _; iexact HS1
    isplitl [HS2]; · iexists _; iexact HS2
    iexists _; iexact HS3

end Cert.Mix

end
-- ==== Proof.MixRunB.lean ====
module

public import proofs.«01_k».proof.Proof.Gen.KernelIdeal.Frame.Runs

@[expose] public section

set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body at a later block of a sequence: what its stores leave in the result's block and in the four scratch
    buffers, as pieces, with the proof that the body runs to them from the scratch of the block before. -/
noncomputable def runLater (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1536 .bf16) (harg7 : arg7.IsWhole) (arg8 : Memref sig .tc .vmem S1024x128 .bf16) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x1536 .f32) (harg16 : arg16.IsWhole) (arg17 : Memref sig .tc .vmem S1x1536 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1x1024 .f32) (harg24 : arg24.IsWhole) (arg25 : Memref sig .tc .vmem S1x256x1024 .f32) (harg25 : arg25.IsWhole) (arg26 : Memref sig .tc .vmem S264x1024 .f32) (harg26 : arg26.IsWhole) (arg27 : Memref sig .tc .vmem S264x1536 .f32) (harg27 : arg27.IsWhole) (arg28 : Memref sig .tc .vmem S8x1024 .f32) (harg28 : arg28.IsWhole) (arg29 : Memref sig .tc .vmem S8x128x128 .f32) (harg29 : arg29.IsWhole) (hc0 : ¬cond0_0 i) (hc1 : cond0_1 i)
    (x0 : Vec F S1x256x1024 .f32) (x1 : Vec F S1x1024 .f32) (x2 : Vec F S1024x1024 .bf16) (x3 : Vec F S1024x1024 .bf16) (x4 : Vec F S1024x1024 .bf16) (x5 : Vec F S1024x1536 .bf16) (x6 : Vec F S1024x128 .bf16) (x7 : Vec F S4x1024 .f32) (x8 : Vec F S1x1024 .f32) (x9 : Vec F S4x256x512 .bf16) (x10 : Vec F S1x1024 .f32) (x11 : Vec F S1x1024 .f32) (x12 : Vec F S1x1024 .f32) (x13 : Vec F S1x1024 .f32) (x14 : Vec F S4x1536 .f32) (x15 : Vec F S1x1536 .f32) (x16 : Vec F S1x128 .f32) (x17 : Vec F S1x128 .f32) (x18 : Vec F S1x1024 .f32) (x19 : Vec F S1x1024 .f32) (x20 : Vec F S1024x1024 .bf16) (x21 : Vec F S1024x1024 .bf16) (x22 : Vec F S1x1024 .f32) (xs0 : Vec F S264x1024 .f32) (xs1 : Vec F S264x1536 .f32) (xs2 : Vec F S8x1024 .f32) (xs3 : Vec F S8x128x128 .f32) :
    Σ' (L23 : List (View.Piece (Elt F) S1x256x1024 .f32)), Σ' (LS0 : List (View.Piece (Elt F) S264x1024 .f32)), Σ' (LS1 : List (View.Piece (Elt F) S264x1536 .f32)), Σ' (LS2 : List (View.Piece (Elt F) S8x1024 .f32)), { LS3 : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d) ∗ owns (c : Thread nD τ) arg26 fullShare xs0 ∗ owns (c : Thread nD τ) arg27 fullShare xs1 ∗ owns (c : Thread nD τ) arg28 fullShare xs2 ∗ owns (c : Thread nD τ) arg29 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg28.view.loc (c : Thread nD τ) ↦[arg28.view.set]{fullShare} arg28.view.writes (Elt F) f LS2) ∗ (∃ f, arg29.view.loc (c : Thread nD τ) ↦[arg29.view.set]{fullShare} arg29.view.writes (Elt F) f LS3)) -∗ K ⟨⟩))
          ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, fun E K => ?run⟩
  case run =>
    simp only [cc0_mixer_eq_skeleton]; unfold cc0_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg26.eq_unread hfs0; obtain rfl := harg27.eq_unread hfs1; obtain rfl := harg28.eq_unread hfs2; obtain rfl := harg29.eq_unread hfs3
    sl_exec_parts (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]; · iexists _; iexact H23
    isplitl [HS0]; · iexists _; iexact HS0
    isplitl [HS1]; · iexists _; iexact HS1
    isplitl [HS2]; · iexists _; iexact HS2
    iexists _; iexact HS3

end Cert.Mix

end
-- ==== Proof.MixFrame.lean ====
module

public import proofs.«01_k».proof.Proof.MixRunA
public import proofs.«01_k».proof.Proof.MixRunB
public import Idealize.ShloMosaic.Lib.Claim

@[expose] public section

set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at the point `t`, a sequence's first block. -/
def firstAt (c : Dev nD) (t : Fin cfg0.N) (h0 : t.val % 32 = 0) :=
  runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _)
    ((hcond0_0 t).mpr h0) (fun h => absurd ((hcond0_1 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)

/-- The body at the point `t`, a later block, of what the block before left in the scratch. -/
def laterAt (c : Dev nD) (t : Fin cfg0.N) (h0 : ¬t.val % 32 = 0) (x0 : Vec F S264x1024 .f32) (x1 : Vec F S264x1536 .f32)
    (x2 : Vec F S8x1024 .f32) (x3 : Vec F S8x128x128 .f32) :=
  runLater (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _)
    (fun h => h0 ((hcond0_0 t).mp h)) ((hcond0_1 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) x0 x1 x2 x3

theorem first_cover_out (c : Dev nD) (t : Fin cfg0.N) (h0 : t.val % 32 = 0) (y) :
    ∃ pc ∈ (firstAt m c t h0).1, y ∈ pc.1.set :=
  View.cover_of_tiledL (firstAt m c t h0).1 S1x256x1024.size (by sl_kernel_rfl) y

theorem first_cover_0 (c : Dev nD) (t : Fin cfg0.N) (h0 : t.val % 32 = 0) (y) :
    ∃ pc ∈ (firstAt m c t h0).2.1, y ∈ pc.1.set :=
  View.cover_of_tiledBy (firstAt m c t h0).2.1 ![8, 1024] (by sl_kernel_rfl) y

theorem first_cover_1 (c : Dev nD) (t : Fin cfg0.N) (h0 : t.val % 32 = 0) (y) :
    ∃ pc ∈ (firstAt m c t h0).2.2.1, y ∈ pc.1.set :=
  View.cover_of_tiledBy (firstAt m c t h0).2.2.1 ![8, 1536] (by sl_kernel_rfl) y

theorem first_cover_2 (c : Dev nD) (t : Fin cfg0.N) (h0 : t.val % 32 = 0) (y) :
    ∃ pc ∈ (firstAt m c t h0).2.2.2.1, y ∈ pc.1.set :=
  View.cover_of_tiledL (firstAt m c t h0).2.2.2.1 S8x1024.size (by sl_kernel_rfl) y

theorem first_cover_3 (c : Dev nD) (t : Fin cfg0.N) (h0 : t.val % 32 = 0) (y) :
    ∃ pc ∈ (firstAt m c t h0).2.2.2.2.1, y ∈ pc.1.set :=
  View.cover_of_wholeMem (firstAt m c t h0).2.2.2.2.1 (by sl_whole_mem) y

theorem later_cover_out (c : Dev nD) (t : Fin cfg0.N) (h0 : ¬t.val % 32 = 0) (x0 : Vec F S264x1024 .f32) (x1 : Vec F S264x1536 .f32) (x2 : Vec F S8x1024 .f32) (x3 : Vec F S8x128x128 .f32) (y) :
    ∃ pc ∈ (laterAt m c t h0 x0 x1 x2 x3).1, y ∈ pc.1.set :=
  View.cover_of_tiledL (laterAt m c t h0 x0 x1 x2 x3).1 S1x256x1024.size (by sl_kernel_rfl) y

theorem later_cover_0 (c : Dev nD) (t : Fin cfg0.N) (h0 : ¬t.val % 32 = 0) (x0 : Vec F S264x1024 .f32) (x1 : Vec F S264x1536 .f32) (x2 : Vec F S8x1024 .f32) (x3 : Vec F S8x128x128 .f32) (y) :
    ∃ pc ∈ (laterAt m c t h0 x0 x1 x2 x3).2.1, y ∈ pc.1.set :=
  View.cover_of_tiledBy (laterAt m c t h0 x0 x1 x2 x3).2.1 ![8, 1024] (by sl_kernel_rfl) y

theorem later_cover_1 (c : Dev nD) (t : Fin cfg0.N) (h0 : ¬t.val % 32 = 0) (x0 : Vec F S264x1024 .f32) (x1 : Vec F S264x1536 .f32) (x2 : Vec F S8x1024 .f32) (x3 : Vec F S8x128x128 .f32) (y) :
    ∃ pc ∈ (laterAt m c t h0 x0 x1 x2 x3).2.2.1, y ∈ pc.1.set :=
  View.cover_of_tiledBy (laterAt m c t h0 x0 x1 x2 x3).2.2.1 ![8, 1536] (by sl_kernel_rfl) y

theorem later_cover_2 (c : Dev nD) (t : Fin cfg0.N) (h0 : ¬t.val % 32 = 0) (x0 : Vec F S264x1024 .f32) (x1 : Vec F S264x1536 .f32) (x2 : Vec F S8x1024 .f32) (x3 : Vec F S8x128x128 .f32) (y) :
    ∃ pc ∈ (laterAt m c t h0 x0 x1 x2 x3).2.2.2.1, y ∈ pc.1.set :=
  View.cover_of_tiledL (laterAt m c t h0 x0 x1 x2 x3).2.2.2.1 S8x1024.size (by sl_kernel_rfl) y

theorem later_cover_3 (c : Dev nD) (t : Fin cfg0.N) (h0 : ¬t.val % 32 = 0) (x0 : Vec F S264x1024 .f32) (x1 : Vec F S264x1536 .f32) (x2 : Vec F S8x1024 .f32) (x3 : Vec F S8x128x128 .f32) (y) :
    ∃ pc ∈ (laterAt m c t h0 x0 x1 x2 x3).2.2.2.2.1, y ∈ pc.1.set :=
  View.cover_of_tiledL (laterAt m c t h0 x0 x1 x2 x3).2.2.2.2.1 S1x128x128.size (by sl_kernel_rfl) y

/-- What a sequence's first block leaves in the result's block and in the four scratch buffers. -/
def firstOut (c : Dev nD) (t : Fin cfg0.N) (h0 : t.val % 32 = 0) : Vec F S1x256x1024 .f32 × Vec F S264x1024 .f32 × Vec F S264x1536 .f32 × Vec F S8x1024 .f32 × Vec F S8x128x128 .f32 :=
  (VO0_23.read (Elt F) (VO0_23.writes (Elt F) VO0_23.junk (firstAt m c t h0).1),
    VS0_0.read (Elt F) (VS0_0.writes (Elt F) VS0_0.junk (firstAt m c t h0).2.1),
    VS0_1.read (Elt F) (VS0_1.writes (Elt F) VS0_1.junk (firstAt m c t h0).2.2.1),
    VS0_2.read (Elt F) (VS0_2.writes (Elt F) VS0_2.junk (firstAt m c t h0).2.2.2.1),
    VS0_3.read (Elt F) (VS0_3.writes (Elt F) VS0_3.junk (firstAt m c t h0).2.2.2.2.1))

/-- What a later block leaves there. -/
def laterOut (c : Dev nD) (t : Fin cfg0.N) (h0 : ¬t.val % 32 = 0) (x0 : Vec F S264x1024 .f32) (x1 : Vec F S264x1536 .f32)
    (x2 : Vec F S8x1024 .f32) (x3 : Vec F S8x128x128 .f32) : Vec F S1x256x1024 .f32 × Vec F S264x1024 .f32 × Vec F S264x1536 .f32 × Vec F S8x1024 .f32 × Vec F S8x128x128 .f32 :=
  (VO0_23.read (Elt F) (VO0_23.writes (Elt F) VO0_23.junk (laterAt m c t h0 x0 x1 x2 x3).1),
    VS0_0.read (Elt F) (VS0_0.writes (Elt F) VS0_0.junk (laterAt m c t h0 x0 x1 x2 x3).2.1),
    VS0_1.read (Elt F) (VS0_1.writes (Elt F) VS0_1.junk (laterAt m c t h0 x0 x1 x2 x3).2.2.1),
    VS0_2.read (Elt F) (VS0_2.writes (Elt F) VS0_2.junk (laterAt m c t h0 x0 x1 x2 x3).2.2.2.1),
    VS0_3.read (Elt F) (VS0_3.writes (Elt F) VS0_3.junk (laterAt m c t h0 x0 x1 x2 x3).2.2.2.2.1))

/-- What the buffers hold after the point `n`. -/
def leftAt (c : Dev nD) : (n : ℕ) → n < cfg0.N → Vec F S1x256x1024 .f32 × Vec F S264x1024 .f32 × Vec F S264x1536 .f32 × Vec F S8x1024 .f32 × Vec F S8x128x128 .f32
  | 0, hn => firstOut m c ⟨0, hn⟩ rfl
  | n + 1, hn =>
    if h0 : (n + 1) % 32 = 0 then firstOut m c ⟨n + 1, hn⟩ h0
    else laterOut m c ⟨n + 1, hn⟩ h0 (leftAt c n (Nat.lt_of_succ_lt hn)).2.1 (leftAt c n (Nat.lt_of_succ_lt hn)).2.2.1
      (leftAt c n (Nat.lt_of_succ_lt hn)).2.2.2.1 (leftAt c n (Nat.lt_of_succ_lt hn)).2.2.2.2

theorem leftAt_first (c : Dev nD) (t : Fin cfg0.N) (h0 : t.val % 32 = 0) :
    leftAt m c t.val t.isLt = firstOut m c t h0 := by
  obtain ⟨n, hn⟩ := t
  cases n with
  | zero => rfl
  | succ n => exact dif_pos h0

theorem leftAt_later (c : Dev nD) (t : Fin cfg0.N) (h0 : ¬t.val % 32 = 0) :
    leftAt m c t.val t.isLt = laterOut m c t h0 (leftAt m c (t.val - 1) (by omega)).2.1 (leftAt m c (t.val - 1) (by omega)).2.2.1
      (leftAt m c (t.val - 1) (by omega)).2.2.2.1 (leftAt m c (t.val - 1) (by omega)).2.2.2.2 := by
  obtain ⟨n, hn⟩ := t
  cases n with
  | zero => exact absurd (Nat.zero_mod _) h0
  | succ n => exact dif_neg h0

/-- Before the position `n`: at the start the scratch at anything, later at what the point before left. -/
def held (c : Dev nD) : (n : ℕ) → n ≤ cfg0.N → sProp 𝕄
  | 0, _ => Pipeline.ΦA spec0 c
  | n + 1, hn => iprop(iprop(owns (c : Thread nD τ) scM0_0 fullShare ((leftAt m c n hn).2.1) ∗ owns (c : Thread nD τ) scM0_1 fullShare ((leftAt m c n hn).2.2.1) ∗ owns (c : Thread nD τ) scM0_2 fullShare ((leftAt m c n hn).2.2.2.1) ∗ owns (c : Thread nD τ) scM0_3 fullShare ((leftAt m c n hn).2.2.2.2)) ∗ (∃ r, prngReg c r))

theorem held_zero (c : Dev nD) (n : ℕ) (h : n ≤ cfg0.N) (hz : n = 0) : held m c n h = Pipeline.ΦA spec0 c := by
  subst hz; rfl

theorem held_succ (c : Dev nD) (n : ℕ) (hn : n < cfg0.N) :
    held m c (n + 1) hn = iprop(iprop(owns (c : Thread nD τ) scM0_0 fullShare ((leftAt m c n hn).2.1) ∗ owns (c : Thread nD τ) scM0_1 fullShare ((leftAt m c n hn).2.2.1) ∗ owns (c : Thread nD τ) scM0_2 fullShare ((leftAt m c n hn).2.2.2.1) ∗ owns (c : Thread nD τ) scM0_3 fullShare ((leftAt m c n hn).2.2.2.2)) ∗ (∃ r, prngReg c r)) := rfl

theorem held_pos (c : Dev nD) (n : ℕ) (h : n ≤ cfg0.N) (hz : n ≠ 0) :
    held m c n h = iprop(iprop(owns (c : Thread nD τ) scM0_0 fullShare ((leftAt m c (n - 1) (by omega)).2.1) ∗ owns (c : Thread nD τ) scM0_1 fullShare ((leftAt m c (n - 1) (by omega)).2.2.1) ∗ owns (c : Thread nD τ) scM0_2 fullShare ((leftAt m c (n - 1) (by omega)).2.2.2.1) ∗ owns (c : Thread nD τ) scM0_3 fullShare ((leftAt m c (n - 1) (by omega)).2.2.2.2)) ∗ (∃ r, prngReg c r)) := by
  cases n with
  | zero => exact absurd rfl hz
  | succ n => rfl

attribute [local irreducible] leftAt held

/-- The pipeline's data: each input's block stays, the result's is what the point leaves, the scratch as `held` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (leftAt m c t.val t.isLt).1
    | ⟨_ + 24, h⟩ => absurd h (Nat.not_lt.2 (Nat.le_add_left _ _))
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = (leftAt m c t.val t.isLt).1 := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d
theorem before_15 (c : Dev nD) (t : Fin cfg0.N) (d) : (dats m 0 c).before 15 t d = iblk m c 15 t := before0_15_of m (dats m 0 c) (A_eq m c 15) (after_15 m c) t d
theorem before_16 (c : Dev nD) (t : Fin cfg0.N) (d) : (dats m 0 c).before 16 t d = iblk m c 16 t := before0_16_of m (dats m 0 c) (A_eq m c 16) (after_16 m c) t d
theorem before_17 (c : Dev nD) (t : Fin cfg0.N) (d) : (dats m 0 c).before 17 t d = iblk m c 17 t := before0_17_of m (dats m 0 c) (A_eq m c 17) (after_17 m c) t d
theorem before_18 (c : Dev nD) (t : Fin cfg0.N) (d) : (dats m 0 c).before 18 t d = iblk m c 18 t := before0_18_of m (dats m 0 c) (A_eq m c 18) (after_18 m c) t d
theorem before_19 (c : Dev nD) (t : Fin cfg0.N) (d) : (dats m 0 c).before 19 t d = iblk m c 19 t := before0_19_of m (dats m 0 c) (A_eq m c 19) (after_19 m c) t d
theorem before_20 (c : Dev nD) (t : Fin cfg0.N) (d) : (dats m 0 c).before 20 t d = iblk m c 20 t := before0_20_of m (dats m 0 c) (A_eq m c 20) (after_20 m c) t d
theorem before_21 (c : Dev nD) (t : Fin cfg0.N) (d) : (dats m 0 c).before 21 t d = iblk m c 21 t := before0_21_of m (dats m 0 c) (A_eq m c 21) (after_21 m c) t d
theorem before_22 (c : Dev nD) (t : Fin cfg0.N) (d) : (dats m 0 c).before 22 t d = iblk m c 22 t := before0_22_of m (dats m 0 c) (A_eq m c 22) (after_22 m c) t d

theorem held_out (c : Dev nD) (n : ℕ) (h : n ≤ cfg0.N) (hz : n ≠ 0) : held m c n h ⊢ Pipeline.ΦA spec0 c := by
  rw [held_pos m c n h hz, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem held_forget (c : Dev nD) (n : ℕ) (h : n ≤ cfg0.N) : held m c n h ⊢ iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  by_cases hz : n = 0
  · rw [held_zero m c n h hz, PhiA0_eq]
  · exact PhiA0_eq (F := F) c ▸ held_out m c n h hz

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23]
  rw [show (dats m 0 c).Φ t.succ = held m c (t.val + 1) t.isLt from rfl, held_succ, held_castSucc m c t]
  by_cases h0 : t.val % 32 = 0
  · rw [leftAt_first m c t h0]
    unfold firstOut; dsimp only
    iintro ⟨HA, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    ihave HB := (held_forget m c t.val (Nat.le_of_lt t.isLt)) $$ HA
    icases HB with ⟨⟨HS0, HS1, HS2, HS3⟩, Hg⟩
    iapply ((firstAt m c t h0).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, ⟨%e23, H23⟩, ⟨%es0, HS0⟩, ⟨%es1, HS1⟩, ⟨%es2, HS2⟩, ⟨%es3, HS3⟩⟩
    isplitl [HS0 HS1 HS2 HS3 Hg]
    · isplitl [HS0 HS1 HS2 HS3]
      · skip
        isplitl [HS0]
        · unfold owns; iexists _; isplitr
          swap; · iexact HS0
          ipureintro; exact View.read_writes_of_cover _ _ _ _ _ (first_cover_0 m c t h0)
        isplitl [HS1]
        · unfold owns; iexists _; isplitr
          swap; · iexact HS1
          ipureintro; exact View.read_writes_of_cover _ _ _ _ _ (first_cover_1 m c t h0)
        isplitl [HS2]
        · unfold owns; iexists _; isplitr
          swap; · iexact HS2
          ipureintro; exact View.read_writes_of_cover _ _ _ _ _ (first_cover_2 m c t h0)
        unfold owns; iexists _; isplitr
        swap; · iexact HS3
        ipureintro; exact View.read_writes_of_cover _ _ _ _ _ (first_cover_3 m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    unfold owns; iexists _; isplitr
    swap; · iexact H23
    ipureintro; exact View.read_writes_of_cover _ _ _ _ _ (first_cover_out m c t h0)
  · have hz : t.val ≠ 0 := fun h => h0 (by rw [h])
    rw [held_pos m c _ _ hz, leftAt_later m c t h0]
    unfold laterOut; dsimp only
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply ((laterAt m c t h0 _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, ⟨%e23, H23⟩, ⟨%es0, HS0⟩, ⟨%es1, HS1⟩, ⟨%es2, HS2⟩, ⟨%es3, HS3⟩⟩
    isplitl [HS0 HS1 HS2 HS3 Hg]
    · isplitl [HS0 HS1 HS2 HS3]
      · skip
        isplitl [HS0]
        · unfold owns; iexists _; isplitr
          swap; · iexact HS0
          ipureintro; exact View.read_writes_of_cover _ _ _ _ _ (later_cover_0 m c t h0 _ _ _ _)
        isplitl [HS1]
        · unfold owns; iexists _; isplitr
          swap; · iexact HS1
          ipureintro; exact View.read_writes_of_cover _ _ _ _ _ (later_cover_1 m c t h0 _ _ _ _)
        isplitl [HS2]
        · unfold owns; iexists _; isplitr
          swap; · iexact HS2
          ipureintro; exact View.read_writes_of_cover _ _ _ _ _ (later_cover_2 m c t h0 _ _ _ _)
        unfold owns; iexists _; isplitr
        swap; · iexact HS3
        ipureintro; exact View.read_writes_of_cover _ _ _ _ _ (later_cover_3 m c t h0 _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    unfold owns; iexists _; isplitr
    swap; · iexact H23
    ipureintro; exact View.read_writes_of_cover _ _ _ _ _ (later_cover_out m c t h0 _ _ _ _)

theorem defs₀_row (t : Fin cfg0.N) :
    defs₀ (F := F) .tc cfg0.body (cfg0.bodyArgs t (cfg0.slots t)) = bodyAt0 t := by
  unfold defs₀; rw [Defs.onTc_tc]

set_option maxHeartbeats 1000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = held m c 0 (Nat.zero_le _) from rfl, held_zero m c 0 _ rfl]

theorem hout (c : Dev nD) : (dats m 0 c).Φ (Fin.last cfg0.N) ⊢ Pipeline.ΦA spec0 c :=
  held_out m c _ (Nat.le_of_lt_succ (Fin.last cfg0.N).isLt) (by rw [Fin.val_last]; have : cfg0.N = 256 := N_0; omega)

set_option backward.isDefEq.respectTransparency.types false in
/-- The launch: every array ends at what the data says, the counters at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (frame_of m ρ (dats m) (A_eq m) (run_main m ρ)) ((θ_run defs _ _).mono (fun _ h => h.2) (run_quiet m ρ))

end Cert.Mix

end
-- ==== Proof.MixVal0.lean ====
module

public import proofs.«01_k».proof.Proof.MixKerD
public import proofs.«01_k».proof.Proof.MixFrame
public import Idealize.ShloMosaic.Lib.Pointwise
public import Idealize.ShloMosaic.Lib.Pipeline.ReadBack

@[expose] public section

set_option maxRecDepth 16384
set_option maxHeartbeats 400000

/-! What a block leaves, in the terms of the specification. -/

noncomputable section

namespace Cert.Mix

open Idealize.ShloMosaic Idealize.ShloMosaic.TcCoe Cert.KernelIdeal Cert.KernelIdeal.Gen

/-- The four carried arrays, as the first `t` tokens of a sequence leave them. -/
structure Left (W : Wt) (X : ℕ → Fin 1024 → EReal) (t : ℕ) (s0 : Vec Ideal S264x1024 .f32) (s1 : Vec Ideal S264x1536 .f32)
    (s2 : Vec Ideal S8x1024 .f32) (s3 : Vec Ideal S8x128x128 .f32) : Prop where
  b0 : ∀ (j : Fin 3) (l : Fin 1024), s0 (ix2 (⟨261 + j, by omega⟩ : Fin 264) l) = back (fun s => pj W X s ⟨l, by omega⟩) (t + j)
  b1 : ∀ (j : Fin 3) (l : Fin 1536), s1 (ix2 (⟨261 + j, by omega⟩ : Fin 264) l) = back (fun s => pj W X s ⟨3072 + l, by omega⟩) (t + j)
  b2 : ∀ l : Fin 1024, s2 (ix2 0 l) = hst W X t l
  b3 : ∀ (p : Fin 8) (n l : Fin 128), s3 (ix3 p n l) = sst W X t ⟨128 * p + l, by omega⟩ n

theorem st_hit (k : ℕ) (hk : k < 8) (inb : ∀ a, (![k, 0, 0] : Fin 3 → ℕ) a + S1x128x128.size a ≤ S8x128x128.size a)
    (w : Vec Ideal S1x128x128 .f32) (L : List (View.Piece (Elt Ideal) S8x128x128 .f32)) (n l : Fin 128) :
    View.canon ((⟨Rect.unit ![k, 0, 0] S1x128x128.size inb, w⟩ : View.Piece (Elt Ideal) S8x128x128 .f32) :: L) (ix3 (⟨k, hk⟩ : Fin 8) n l)
      = w (ix3 0 n l) := by
  have e : (Rect.unit ![k, 0, 0] S1x128x128.size inb : Rect S8x128x128).emb (ix3 0 n l) = (ix3 (⟨k, hk⟩ : Fin 8) n l : S8x128x128.Idx) := by
    funext a; apply Fin.ext; match a with
    | ⟨0, _⟩ => show k + 1 * 0 = k; omega
    | ⟨1, _⟩ => show 0 + 1 * (n : ℕ) = n; omega
    | ⟨2, _⟩ => show 0 + 1 * (l : ℕ) = l; omega
  exact (congrArg _ e.symm).trans (View.canon_cons_emb _ _ _ _)

theorem st_skip (k : ℕ) (p : Fin 8) (h : (p : ℕ) ≠ k) (inb : ∀ a, (![k, 0, 0] : Fin 3 → ℕ) a + S1x128x128.size a ≤ S8x128x128.size a)
    (w : Vec Ideal S1x128x128 .f32) (L : List (View.Piece (Elt Ideal) S8x128x128 .f32)) (n l : Fin 128) :
    View.canon ((⟨Rect.unit ![k, 0, 0] S1x128x128.size inb, w⟩ : View.Piece (Elt Ideal) S8x128x128 .f32) :: L) (ix3 p n l)
      = View.canon L (ix3 p n l) := by
  refine View.canon_cons_of_not_mem _ _ fun hm => ?_
  obtain ⟨x, hx⟩ := LoadRect.exists_idx_of_mem _ hm
  have h2 := congrArg (fun i : S8x128x128.Idx => (i 0 : ℕ)) hx
  have h3 : k + 1 * (x 0 : ℕ) = p := h2
  have h4 : (x 0 : ℕ) < 1 := (x 0).isLt
  omega

/-- What a block leaves, of what it is given. -/
theorem spec_of {W : Wt} {X : ℕ → Fin 1024 → EReal} {t0 : ℕ} {b : Blk} (A : Agr W X t0 b) (F : FinW W)
    (LO : List (View.Piece (Elt Ideal) S1x256x1024 .f32)) (L0 : List (View.Piece (Elt Ideal) S264x1024 .f32))
    (L1 : List (View.Piece (Elt Ideal) S264x1536 .f32)) (L2 : List (View.Piece (Elt Ideal) S8x1024 .f32))
    (L3 : List (View.Piece (Elt Ideal) S8x128x128 .f32))
    (eO : LO = [⟨Rect.unit ![0, 0, 0] S1x256x1024.size inb_S1x256x1024_S1x256x1024_0_0_0, R_out b⟩])
    (e0 : L0 = R_HS0_2 b) (e1 : L1 = R_HS1_2 b)
    (e2 : ∃ L, L2 = ⟨Rect.unit ![0, 0] S8x1024.size inb_S8x1024_S8x1024_0_0, R_carry b⟩ :: L)
    (e3 : ∃ L, L3 = ⟨Rect.unit ![7, 0, 0] S1x128x128.size inb_S8x128x128_S1x128x128_7_0_0, R_S1_7 b⟩ :: ⟨Rect.unit ![6, 0, 0] S1x128x128.size inb_S8x128x128_S1x128x128_6_0_0, R_S1_6 b⟩ :: ⟨Rect.unit ![5, 0, 0] S1x128x128.size inb_S8x128x128_S1x128x128_5_0_0, R_S1_5 b⟩ :: ⟨Rect.unit ![4, 0, 0] S1x128x128.size inb_S8x128x128_S1x128x128_4_0_0, R_S1_4 b⟩ :: ⟨Rect.unit ![3, 0, 0] S1x128x128.size inb_S8x128x128_S1x128x128_3_0_0, R_S1_3 b⟩ :: ⟨Rect.unit ![2, 0, 0] S1x128x128.size inb_S8x128x128_S1x128x128_2_0_0, R_S1_2 b⟩ :: ⟨Rect.unit ![1, 0, 0] S1x128x128.size inb_S8x128x128_S1x128x128_1_0_0, R_S1_1 b⟩ :: ⟨Rect.unit ![0, 0, 0] S1x128x128.size inb_S8x128x128_S1x128x128_0_0_0, R_S1_0 b⟩ :: L) :
    (∀ (r : Fin 256) (k : Fin 1024), View.canon LO (ix3 0 r k) = outp W X (t0 + r) k)
      ∧ Left W X (t0 + 256) (View.canon L0) (View.canon L1) (View.canon L2) (View.canon L3) := by
  obtain ⟨L, e2⟩ := e2
  obtain ⟨L', e3⟩ := e3
  subst eO e0 e1 e2 e3
  have hz3 : ∀ a : Fin 3, (![0, 0, 0] : Fin 3 → ℕ) a = 0 := by decide
  have hz2 : ∀ a : Fin 2, (![0, 0] : Fin 2 → ℕ) a = 0 := by decide
  refine ⟨fun r k => ?_, fun j l => ?_, fun j l => ?_, fun l => ?_, fun p n l => ?_⟩
  · rw [View.canon_cons_unit_lit _ _ _ hz3]; exact k_out A F r k
  · have h := lxb A (256 + j) (by omega) l
    rw [show t0 + (256 + (j : ℕ)) = t0 + 256 + j by omega] at h
    exact (congrArg (fun i : Fin 264 => View.canon (R_HS0_2 b) (ix2 i l)) (Fin.ext (show 261 + (j : ℕ) = 5 + (256 + j) by omega))).trans h
  · have h := xbb A (256 + j) (by omega) l
    rw [show t0 + (256 + (j : ℕ)) = t0 + 256 + j by omega] at h
    exact (congrArg (fun i : Fin 264 => View.canon (R_HS1_2 b) (ix2 i l)) (Fin.ext (show 261 + (j : ℕ) = 5 + (256 + j) by omega))).trans h
  · rw [View.canon_cons_unit_lit _ _ _ hz2]; exact k_carry A 0 l
  · rw [show t0 + 256 = (t0 + 128) + 128 by omega]
    match p with
    | ⟨0, h⟩ => exact (st_skip 7 _ (show (0:ℕ) ≠ 7 by decide) _ _ _ n l).trans ((st_skip 6 _ (show (0:ℕ) ≠ 6 by decide) _ _ _ n l).trans ((st_skip 5 _ (show (0:ℕ) ≠ 5 by decide) _ _ _ n l).trans ((st_skip 4 _ (show (0:ℕ) ≠ 4 by decide) _ _ _ n l).trans ((st_skip 3 _ (show (0:ℕ) ≠ 3 by decide) _ _ _ n l).trans ((st_skip 2 _ (show (0:ℕ) ≠ 2 by decide) _ _ _ n l).trans ((st_skip 1 _ (show (0:ℕ) ≠ 1 by decide) _ _ _ n l).trans ((st_hit 0 h _ _ _ n l).trans (s1_0 A F n l))))))))
    | ⟨1, h⟩ => exact (st_skip 7 _ (show (1:ℕ) ≠ 7 by decide) _ _ _ n l).trans ((st_skip 6 _ (show (1:ℕ) ≠ 6 by decide) _ _ _ n l).trans ((st_skip 5 _ (show (1:ℕ) ≠ 5 by decide) _ _ _ n l).trans ((st_skip 4 _ (show (1:ℕ) ≠ 4 by decide) _ _ _ n l).trans ((st_skip 3 _ (show (1:ℕ) ≠ 3 by decide) _ _ _ n l).trans ((st_skip 2 _ (show (1:ℕ) ≠ 2 by decide) _ _ _ n l).trans ((st_hit 1 h _ _ _ n l).trans (s1_1 A F n l)))))))
    | ⟨2, h⟩ => exact (st_skip 7 _ (show (2:ℕ) ≠ 7 by decide) _ _ _ n l).trans ((st_skip 6 _ (show (2:ℕ) ≠ 6 by decide) _ _ _ n l).trans ((st_skip 5 _ (show (2:ℕ) ≠ 5 by decide) _ _ _ n l).trans ((st_skip 4 _ (show (2:ℕ) ≠ 4 by decide) _ _ _ n l).trans ((st_skip 3 _ (show (2:ℕ) ≠ 3 by decide) _ _ _ n l).trans ((st_hit 2 h _ _ _ n l).trans (s1_2 A F n l))))))
    | ⟨3, h⟩ => exact (st_skip 7 _ (show (3:ℕ) ≠ 7 by decide) _ _ _ n l).trans ((st_skip 6 _ (show (3:ℕ) ≠ 6 by decide) _ _ _ n l).trans ((st_skip 5 _ (show (3:ℕ) ≠ 5 by decide) _ _ _ n l).trans ((st_skip 4 _ (show (3:ℕ) ≠ 4 by decide) _ _ _ n l).trans ((st_hit 3 h _ _ _ n l).trans (s1_3 A F n l)))))
    | ⟨4, h⟩ => exact (st_skip 7 _ (show (4:ℕ) ≠ 7 by decide) _ _ _ n l).trans ((st_skip 6 _ (show (4:ℕ) ≠ 6 by decide) _ _ _ n l).trans ((st_skip 5 _ (show (4:ℕ) ≠ 5 by decide) _ _ _ n l).trans ((st_hit 4 h _ _ _ n l).trans (s1_4 A F n l))))
    | ⟨5, h⟩ => exact (st_skip 7 _ (show (5:ℕ) ≠ 7 by decide) _ _ _ n l).trans ((st_skip 6 _ (show (5:ℕ) ≠ 6 by decide) _ _ _ n l).trans ((st_hit 5 h _ _ _ n l).trans (s1_5 A F n l)))
    | ⟨6, h⟩ => exact (st_skip 7 _ (show (6:ℕ) ≠ 7 by decide) _ _ _ n l).trans ((st_hit 6 h _ _ _ n l).trans (s1_6 A F n l))
    | ⟨7, h⟩ => exact (st_hit 7 h _ _ _ n l).trans (s1_7 A F n l)

/-- The same, read back off the arrays. -/
theorem read_of {W : Wt} {X : ℕ → Fin 1024 → EReal} {t0 : ℕ} {LO : List (View.Piece (Elt Ideal) S1x256x1024 .f32)}
    {L0 : List (View.Piece (Elt Ideal) S264x1024 .f32)} {L1 : List (View.Piece (Elt Ideal) S264x1536 .f32)}
    {L2 : List (View.Piece (Elt Ideal) S8x1024 .f32)} {L3 : List (View.Piece (Elt Ideal) S8x128x128 .f32)}
    (H : (∀ (r : Fin 256) (k : Fin 1024), View.canon LO (ix3 0 r k) = outp W X (t0 + r) k)
      ∧ Left W X (t0 + 256) (View.canon L0) (View.canon L1) (View.canon L2) (View.canon L3)) :
    (∀ (r : Fin 256) (k : Fin 1024), (VO0_23.read (Elt Ideal) (VO0_23.writes (Elt Ideal) VO0_23.junk LO)) (ix3 0 r k) = outp W X (t0 + r) k)
      ∧ Left W X (t0 + 256) (VS0_0.read (Elt Ideal) (VS0_0.writes (Elt Ideal) VS0_0.junk L0)) (VS0_1.read (Elt Ideal) (VS0_1.writes (Elt Ideal) VS0_1.junk L1))
        (VS0_2.read (Elt Ideal) (VS0_2.writes (Elt Ideal) VS0_2.junk L2)) (VS0_3.read (Elt Ideal) (VS0_3.writes (Elt Ideal) VS0_3.junk L3)) := by
  rw [View.read_writes_junk_eq_canon VO0_23, View.read_writes_junk_eq_canon VS0_0, View.read_writes_junk_eq_canon VS0_1,
    View.read_writes_junk_eq_canon VS0_2, View.read_writes_junk_eq_canon VS0_3]
  exact H

end Cert.Mix

end
-- ==== Proof.MixValR.lean ====
module

public import proofs.«01_k».proof.Proof.MixVal0

@[expose] public section

set_option maxRecDepth 16384
set_option maxHeartbeats 400000

/-! What a block leaves, read back. -/

noncomputable section

namespace Cert.Mix

open Idealize.ShloMosaic Idealize.ShloMosaic.TcCoe Cert.KernelIdeal Cert.KernelIdeal.Gen

/-- The arrays read back off what was written to them. -/
def rdAll (LO : List (View.Piece (Elt Ideal) S1x256x1024 .f32)) (L0 : List (View.Piece (Elt Ideal) S264x1024 .f32)) (L1 : List (View.Piece (Elt Ideal) S264x1536 .f32))
    (L2 : List (View.Piece (Elt Ideal) S8x1024 .f32)) (L3 : List (View.Piece (Elt Ideal) S8x128x128 .f32)) : Vec Ideal S1x256x1024 .f32 × Vec Ideal S264x1024 .f32 × Vec Ideal S264x1536 .f32 × Vec Ideal S8x1024 .f32 × Vec Ideal S8x128x128 .f32 :=
  (VO0_23.read (Elt Ideal) (VO0_23.writes (Elt Ideal) VO0_23.junk LO),
    VS0_0.read (Elt Ideal) (VS0_0.writes (Elt Ideal) VS0_0.junk L0),
    VS0_1.read (Elt Ideal) (VS0_1.writes (Elt Ideal) VS0_1.junk L1),
    VS0_2.read (Elt Ideal) (VS0_2.writes (Elt Ideal) VS0_2.junk L2),
    VS0_3.read (Elt Ideal) (VS0_3.writes (Elt Ideal) VS0_3.junk L3))

/-- A block leaves the specification's rows and carried arrays. -/
def Good (W : Wt) (X : ℕ → Fin 1024 → EReal) (t0 : ℕ) (o : Vec Ideal S1x256x1024 .f32 × Vec Ideal S264x1024 .f32 × Vec Ideal S264x1536 .f32 × Vec Ideal S8x1024 .f32 × Vec Ideal S8x128x128 .f32) : Prop :=
  (∀ (r : Fin 256) (k : Fin 1024), o.1 (ix3 0 r k) = outp W X (t0 + r) k) ∧ Left W X (t0 + 256) o.2.1 o.2.2.1 o.2.2.2.1 o.2.2.2.2

theorem good_of {W : Wt} {X : ℕ → Fin 1024 → EReal} {t0 : ℕ} {LO : List (View.Piece (Elt Ideal) S1x256x1024 .f32)} {L0 : List (View.Piece (Elt Ideal) S264x1024 .f32)} {L1 : List (View.Piece (Elt Ideal) S264x1536 .f32)}
    {L2 : List (View.Piece (Elt Ideal) S8x1024 .f32)} {L3 : List (View.Piece (Elt Ideal) S8x128x128 .f32)}
    (H : (∀ (r : Fin 256) (k : Fin 1024), View.canon LO (ix3 0 r k) = outp W X (t0 + r) k)
      ∧ Left W X (t0 + 256) (View.canon L0) (View.canon L1) (View.canon L2) (View.canon L3)) : Good W X t0 (rdAll LO L0 L1 L2 L3) := by
  unfold Good rdAll
  exact read_of H

end Cert.Mix

end
-- ==== Proof.MixEqFirst.lean ====
module

public import proofs.«01_k».proof.Proof.MixR
public import proofs.«01_k».proof.Proof.MixRunA
public import Idealize.ShloMosaic.Lib.Pipeline.ReadBack

@[expose] public section

set_option maxRecDepth 16384
set_option maxHeartbeats 400000

/-! The values the mixer's run names, in the first block of a sequence, are the block's own functions of what it is given. -/

noncomputable section

namespace Cert.Mix

open Cert.KernelIdeal Cert.KernelIdeal.Gen Idealize.ShloMosaic

/-- The arrays a first block reads. -/
structure PkF where
  x0 : Vec Ideal S1x256x1024 .f32
  x1 : Vec Ideal S1x1024 .f32
  x2 : Vec Ideal S1024x1024 .bf16
  x3 : Vec Ideal S1024x1024 .bf16
  x4 : Vec Ideal S1024x1024 .bf16
  x5 : Vec Ideal S1024x1536 .bf16
  x6 : Vec Ideal S1024x128 .bf16
  x7 : Vec Ideal S4x1024 .f32
  x8 : Vec Ideal S1x1024 .f32
  x9 : Vec Ideal S4x256x512 .bf16
  x10 : Vec Ideal S1x1024 .f32
  x11 : Vec Ideal S1x1024 .f32
  x12 : Vec Ideal S1x1024 .f32
  x13 : Vec Ideal S1x1024 .f32
  x14 : Vec Ideal S4x1536 .f32
  x15 : Vec Ideal S1x1536 .f32
  x16 : Vec Ideal S1x128 .f32
  x17 : Vec Ideal S1x128 .f32
  x18 : Vec Ideal S1x1024 .f32
  x19 : Vec Ideal S1x1024 .f32
  x20 : Vec Ideal S1024x1024 .bf16
  x21 : Vec Ideal S1024x1024 .bf16
  x22 : Vec Ideal S1x1024 .f32

/-- What such a block is given. -/
def firstB (q : PkF) : Blk :=
  ⟨q.x0, q.x1, q.x2, q.x3, q.x4, q.x5, q.x6, q.x7, q.x8, q.x9, q.x10, q.x11, q.x12, q.x13, q.x14, q.x15, q.x16, q.x17, q.x18, q.x19, q.x20, q.x21, q.x22, k0_pay2 (F := Ideal), k0_pay3 (F := Ideal), k0_pay4 (F := Ideal), k0_pay5 (F := Ideal)⟩

variable (c : Dev nD) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1536 .bf16) (harg7 : arg7.IsWhole) (arg8 : Memref sig .tc .vmem S1024x128 .bf16) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x1536 .f32) (harg16 : arg16.IsWhole) (arg17 : Memref sig .tc .vmem S1x1536 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1x1024 .f32) (harg24 : arg24.IsWhole) (arg25 : Memref sig .tc .vmem S1x256x1024 .f32) (harg25 : arg25.IsWhole) (arg26 : Memref sig .tc .vmem S264x1024 .f32) (harg26 : arg26.IsWhole) (arg27 : Memref sig .tc .vmem S264x1536 .f32) (harg27 : arg27.IsWhole) (arg28 : Memref sig .tc .vmem S8x1024 .f32) (harg28 : arg28.IsWhole) (arg29 : Memref sig .tc .vmem S8x128x128 .f32) (harg29 : arg29.IsWhole) (q : PkF)

theorem f_r_1 :
    runFirst.sl.r_1 (F := Ideal) c arg2 harg2 arg3 harg3 q.x0 q.x1 = R_r_1 (firstB q) := by
  unfold runFirst.sl.r_1 R_r_1
  (try simp only [View.readAt_eq_ld, Memref.IsWhole.read_unread]) <;> rfl

theorem f_r_5 :
    runFirst.sl.r_5 (F := Ideal) c arg2 harg2 arg3 harg3 arg8 harg8 q.x0 q.x1 q.x6 = R_r_5 (firstB q) := by
  unfold runFirst.sl.r_5 R_r_5
  (try simp only [f_r_1, View.readAt_eq_ld, Memref.IsWhole.read_unread]) <;> rfl

theorem f_r_63 :
    runFirst.sl.r_63 (F := Ideal) c arg2 harg2 arg3 harg3 arg8 harg8 arg18 harg18 q.x0 q.x1 q.x6 q.x16 = R_r_64 (firstB q) := by
  unfold runFirst.sl.r_63 R_r_64
  (try simp only [f_r_5, View.readAt_eq_ld, Memref.IsWhole.read_unread]) <;> rfl

theorem f_r_64 :
    runFirst.sl.r_64 (F := Ideal) c arg19 harg19 q.x17 = R_r_65 (firstB q) := by
  unfold runFirst.sl.r_64 R_r_65
  (try simp only [View.readAt_eq_ld, Memref.IsWhole.read_unread]) <;> rfl

theorem f_r_65 :
    runFirst.sl.r_65 (F := Ideal) c arg2 harg2 arg3 harg3 arg8 harg8 arg18 harg18 arg19 harg19 q.x0 q.x1 q.x6 q.x16 q.x17 = R_r_66 (firstB q) := by
  unfold runFirst.sl.r_65 R_r_66
  (try simp only [f_r_63, f_r_64, View.readAt_eq_ld, Memref.IsWhole.read_unread]) <;> rfl

theorem f_r_159 :
    runFirst.sl.r_159 (F := Ideal) c arg2 harg2 arg3 harg3 arg8 harg8 arg18 harg18 arg19 harg19 q.x0 q.x1 q.x6 q.x16 q.x17 = R_r_160 (firstB q) := by
  unfold runFirst.sl.r_159 R_r_160
  (try simp only [f_r_65, View.readAt_eq_ld, Memref.IsWhole.read_unread]) <;> rfl

theorem f_r_161 :
    runFirst.sl.r_161 (F := Ideal) c arg2 harg2 arg3 harg3 arg8 harg8 arg18 harg18 arg19 harg19 q.x0 q.x1 q.x6 q.x16 q.x17 = R_r_162 (firstB q) := by
  unfold runFirst.sl.r_161 R_r_162
  (try simp only [f_r_159, View.readAt_eq_ld, Memref.IsWhole.read_unread]) <;> rfl

theorem f_r_158 :
    runFirst.sl.r_158 (F := Ideal) c arg2 harg2 arg3 harg3 arg8 harg8 arg18 harg18 q.x0 q.x1 q.x6 q.x16 = R_r_159 (firstB q) := by
  unfold runFirst.sl.r_158 R_r_159
  (try simp only [f_r_63, View.readAt_eq_ld, Memref.IsWhole.read_unread]) <;> rfl

theorem f_r_162 :
    runFirst.sl.r_162 (F := Ideal) c arg2 harg2 arg3 harg3 arg8 harg8 arg18 harg18 q.x0 q.x1 q.x6 q.x16 = R_r_163 (firstB q) := by
  unfold runFirst.sl.r_162 R_r_163
  (try simp only [f_r_158, View.readAt_eq_ld, Memref.IsWhole.read_unread]) <;> rfl

theorem f_r_58 :
    runFirst.sl.r_58 (F := Ideal) c arg17 harg17 q.x15 = R_r_59 (firstB q) := by
  unfold runFirst.sl.r_58 R_r_59
  (try simp only [View.readAt_eq_ld, Memref.IsWhole.read_unread]) <;> rfl

theorem f_HS1_1 :
    runFirst.sl.HS1_1 (F := Ideal)  = R_HS1_1 (firstB q) := rfl

theorem f_r_2 :
    runFirst.sl.r_2 (F := Ideal) c arg2 harg2 arg3 harg3 arg7 harg7 q.x0 q.x1 q.x5 = R_r_2 (firstB q) := by
  unfold runFirst.sl.r_2 R_r_2
  (try simp only [View.readAt_eq_ld, Memref.IsWhole.read_unread]) <;> rfl

theorem f_HS1_2 :
    runFirst.sl.HS1_2 (F := Ideal) c arg2 harg2 arg3 harg3 arg7 harg7 q.x0 q.x1 q.x5 = R_HS1_2 (firstB q) := by
  unfold runFirst.sl.HS1_2 R_HS1_2
  (try simp only [f_HS1_1 (q := q), f_r_2, View.readAt_eq_ld, Memref.IsWhole.read_unread]) <;> rfl

theorem f_v477 :
    runFirst.sl.v477 (F := Ideal) c arg2 harg2 arg3 harg3 arg7 harg7 arg27 q.x0 q.x1 q.x5 = R_v477 (firstB q) := by
  unfold runFirst.sl.v477 R_v477
  rw [View.readCov_eq_canon', f_HS1_2] <;> rfl

theorem f_r_59 :
    runFirst.sl.r_59 (F := Ideal) c arg2 harg2 arg3 harg3 arg7 harg7 arg16 harg16 arg27 q.x0 q.x1 q.x5 q.x14 = R_r_60 (firstB q) := by
  unfold runFirst.sl.r_59 R_r_60
  (try simp only [f_v477, View.readAt_eq_ld, Memref.IsWhole.read_unread]) <;> rfl

theorem f_v484 :
    runFirst.sl.v484 (F := Ideal) c arg2 harg2 arg3 harg3 arg7 harg7 arg27 q.x0 q.x1 q.x5 = R_v484 (firstB q) := by
  unfold runFirst.sl.v484 R_v484
  rw [View.readCov_eq_canon', f_HS1_2] <;> rfl

theorem f_v490 :
    runFirst.sl.v490 (F := Ideal) c arg2 harg2 arg3 harg3 arg7 harg7 arg27 q.x0 q.x1 q.x5 = R_v490 (firstB q) := by
  unfold runFirst.sl.v490 R_v490
  rw [View.readCov_eq_canon', f_HS1_2] <;> rfl

theorem f_v496 :
    runFirst.sl.v496 (F := Ideal) c arg2 harg2 arg3 harg3 arg7 harg7 arg27 q.x0 q.x1 q.x5 = R_v496 (firstB q) := by
  unfold runFirst.sl.v496 R_v496
  rw [View.readCov_eq_canon', f_HS1_2] <;> rfl

theorem f_r_61 :
    runFirst.sl.r_61 (F := Ideal) c arg2 harg2 arg3 harg3 arg7 harg7 arg16 harg16 arg17 harg17 arg27 q.x0 q.x1 q.x5 q.x14 q.x15 = R_r_62 (firstB q) := by
  unfold runFirst.sl.r_61 R_r_62
  (try simp only [f_r_58, f_r_59, f_v484, f_v490, f_v496, View.readAt_eq_ld, Memref.IsWhole.read_unread]) <;> rfl

theorem f_r_62 :
    runFirst.sl.r_62 (F := Ideal) c arg2 harg2 arg3 harg3 arg7 harg7 arg16 harg16 arg17 harg17 arg27 q.x0 q.x1 q.x5 q.x14 q.x15 = R_r_63 (firstB q) := by
  unfold runFirst.sl.r_62 R_r_63
  (try simp only [f_r_58, f_r_59, f_v484, f_v490, f_v496, View.readAt_eq_ld, Memref.IsWhole.read_unread]) <;> rfl

theorem f_r_213 :
    runFirst.sl.r_213 (F := Ideal) c arg2 harg2 arg3 harg3 arg7 harg7 arg16 harg16 arg17 harg17 arg27 q.x0 q.x1 q.x5 q.x14 q.x15 = R_r_214 (firstB q) := by
  unfold runFirst.sl.r_213 R_r_214
  (try simp only [f_r_61, f_r_62, View.readAt_eq_ld, Memref.IsWhole.read_unread]) <;> rfl

theorem f_r_238 :
    runFirst.sl.r_238 (F := Ideal) c arg2 harg2 arg3 harg3 arg7 harg7 arg8 harg8 arg16 harg16 arg17 harg17 arg18 harg18 arg19 harg19 arg27 q.x0 q.x1 q.x5 q.x6 q.x14 q.x15 q.x16 q.x17 = R_r_239 (firstB q) := by
  unfold runFirst.sl.r_238 R_r_239
  (try simp only [f_r_159, f_r_161, f_r_162, f_r_213, View.readAt_eq_ld, Memref.IsWhole.read_unread]) <;> rfl

theorem f_cst_72 :
    runFirst.sl.cst_72 (F := Ideal)  = R_cst_72 (firstB q) := rfl

theorem f_HS0_2 :
    runFirst.sl.HS0_2 (F := Ideal) c arg2 harg2 arg3 harg3 arg4 harg4 q.x0 q.x1 q.x2 = R_HS0_2 (firstB q) := by
  unfold runFirst.sl.HS0_2 R_HS0_2
  (try simp only [View.readAt_eq_ld, Memref.IsWhole.read_unread]) <;> rfl

theorem f_v46 :
    runFirst.sl.v46 (F := Ideal) c arg2 harg2 arg3 harg3 arg4 harg4 arg26 q.x0 q.x1 q.x2 = R_v46 (firstB q) := by
  unfold runFirst.sl.v46 R_v46
  rw [View.readCov_eq_canon', f_HS0_2] <;> rfl

theorem f_v53 :
    runFirst.sl.v53 (F := Ideal) c arg2 harg2 arg3 harg3 arg4 harg4 arg26 q.x0 q.x1 q.x2 = R_v53 (firstB q) := by
  unfold runFirst.sl.v53 R_v53
  rw [View.readCov_eq_canon', f_HS0_2] <;> rfl

theorem f_v59 :
    runFirst.sl.v59 (F := Ideal) c arg2 harg2 arg3 harg3 arg4 harg4 arg26 q.x0 q.x1 q.x2 = R_v59 (firstB q) := by
  unfold runFirst.sl.v59 R_v59
  rw [View.readCov_eq_canon', f_HS0_2] <;> rfl

theorem f_r_6 :
    runFirst.sl.r_6 (F := Ideal) c arg2 harg2 arg3 harg3 arg4 harg4 arg9 harg9 arg10 harg10 arg26 q.x0 q.x1 q.x2 q.x7 q.x8 = R_r_6 (firstB q) := by
  unfold runFirst.sl.r_6 R_r_6
  (try simp only [f_v46, f_v53, f_v59, View.readAt_eq_ld, Memref.IsWhole.read_unread]) <;> rfl

theorem f_v65 :
    runFirst.sl.v65 (F := Ideal) c arg2 harg2 arg3 harg3 arg4 harg4 arg26 q.x0 q.x1 q.x2 = R_v65 (firstB q) := by
  unfold runFirst.sl.v65 R_v65
  rw [View.readCov_eq_canon', f_HS0_2] <;> rfl

theorem f_r_9 :
    runFirst.sl.r_9 (F := Ideal) c arg2 harg2 arg3 harg3 arg4 harg4 arg9 harg9 arg10 harg10 arg11 harg11 arg12 harg12 arg26 q.x0 q.x1 q.x2 q.x7 q.x8 q.x9 q.x10 = R_r_9 (firstB q) := by
  unfold runFirst.sl.r_9 R_r_9
  (try simp only [f_r_6, f_v65, View.readAt_eq_ld, Memref.IsWhole.read_unread]) <;> rfl

theorem f_r_11 :
    runFirst.sl.r_11 (F := Ideal) c arg2 harg2 arg3 harg3 arg4 harg4 arg9 harg9 arg10 harg10 arg11 harg11 arg12 harg12 arg14 harg14 arg26 q.x0 q.x1 q.x2 q.x7 q.x8 q.x9 q.x10 q.x12 = R_r_12 (firstB q) := by
  unfold runFirst.sl.r_11 R_r_12
  (try simp only [f_r_9, View.readAt_eq_ld, Memref.IsWhole.read_unread]) <;> rfl

theorem f_r_12 :
    runFirst.sl.r_12 (F := Ideal) c arg2 harg2 arg3 harg3 arg4 harg4 arg9 harg9 arg10 harg10 arg11 harg11 arg12 harg12 arg14 harg14 arg26 q.x0 q.x1 q.x2 q.x7 q.x8 q.x9 q.x10 q.x12 = R_r_13 (firstB q) := by
  unfold runFirst.sl.r_12 R_r_13
  (try simp only [f_r_9, View.readAt_eq_ld, Memref.IsWhole.read_unread]) <;> rfl

theorem f_r_10 :
    runFirst.sl.r_10 (F := Ideal) c arg13 harg13 q.x11 = R_r_10 (firstB q) := by
  unfold runFirst.sl.r_10 R_r_10
  (try simp only [View.readAt_eq_ld, Memref.IsWhole.read_unread]) <;> rfl

theorem f_r_7 :
    runFirst.sl.r_7 (F := Ideal) c arg2 harg2 arg3 harg3 arg4 harg4 arg9 harg9 arg10 harg10 arg26 q.x0 q.x1 q.x2 q.x7 q.x8 = R_r_7 (firstB q) := by
  unfold runFirst.sl.r_7 R_r_7
  (try simp only [f_r_6, f_v65, View.readAt_eq_ld, Memref.IsWhole.read_unread]) <;> rfl

theorem f_r_8 :
    runFirst.sl.r_8 (F := Ideal) c arg2 harg2 arg3 harg3 arg4 harg4 arg9 harg9 arg10 harg10 arg11 harg11 arg26 q.x0 q.x1 q.x2 q.x7 q.x8 q.x9 = R_r_8 (firstB q) := by
  unfold runFirst.sl.r_8 R_r_8
  (try simp only [f_r_6, f_v65, View.readAt_eq_ld, Memref.IsWhole.read_unread]) <;> rfl

theorem f_r_13 :
    runFirst.sl.r_13 (F := Ideal) c arg2 harg2 arg3 harg3 arg4 harg4 arg9 harg9 arg10 harg10 arg11 harg11 arg12 harg12 arg13 harg13 arg14 harg14 arg26 q.x0 q.x1 q.x2 q.x7 q.x8 q.x9 q.x10 q.x11 q.x12 = R_r_14 (firstB q) := by
  unfold runFirst.sl.r_13 R_r_14
  (try simp only [f_r_10, f_r_7, f_r_8, f_r_9, View.readAt_eq_ld, Memref.IsWhole.read_unread]) <;> rfl

theorem f_v138 :
    runFirst.sl.v138   = R_v138 (firstB q) := rfl

theorem f_r_14 :
    runFirst.sl.r_14 (F := Ideal) c arg2 harg2 arg3 harg3 arg4 harg4 arg9 harg9 arg10 harg10 arg11 harg11 arg12 harg12 arg13 harg13 arg14 harg14 arg26 q.x0 q.x1 q.x2 q.x7 q.x8 q.x9 q.x10 q.x11 q.x12 = R_r_15 (firstB q) := by
  unfold runFirst.sl.r_14 R_r_15
  (try simp only [f_cst_72 (q := q), f_r_11, f_r_12, f_r_13, f_v138 (q := q), View.readAt_eq_ld, Memref.IsWhole.read_unread]) <;> rfl

theorem f_r_15 :
    runFirst.sl.r_15 (F := Ideal) c arg2 harg2 arg3 harg3 arg4 harg4 arg9 harg9 arg10 harg10 arg11 harg11 arg12 harg12 arg14 harg14 arg26 q.x0 q.x1 q.x2 q.x7 q.x8 q.x9 q.x10 q.x12 = R_r_16 (firstB q) := by
  unfold runFirst.sl.r_15 R_r_16
  (try simp only [f_cst_72 (q := q), f_r_11, f_r_12, f_v138 (q := q), View.readAt_eq_ld, Memref.IsWhole.read_unread]) <;> rfl

theorem f_v135 :
    runFirst.sl.v135 (F := Ideal) c arg28 = R_r_11 (firstB q) := by
  unfold runFirst.sl.v135 R_r_11
  unfold runFirst.sl.HS2_1
  rw [View.readCov_fill _ _ _ _ _ (by decide)]
  rfl

theorem f_r_18 :
    runFirst.sl.r_18 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_19 (firstB q) := by
  unfold runFirst.sl.r_18 R_r_19
  (try simp only [f_cst_72 (q := q), f_r_11, f_r_12, f_r_13, f_v135 (q := q), f_v138 (q := q), View.readAt_eq_ld, Memref.IsWhole.read_unread]) <;> rfl

theorem f_r_26 :
    runFirst.sl.r_26 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_27 (firstB q) := by
  unfold runFirst.sl.r_26 R_r_27
  (try simp only [f_r_14, f_r_15, f_r_18, View.readAt_eq_ld, Memref.IsWhole.read_unread]) <;> rfl

theorem f_r_27 :
    runFirst.sl.r_27 (F := Ideal) c arg2 harg2 arg3 harg3 arg4 harg4 arg9 harg9 arg10 harg10 arg11 harg11 arg12 harg12 arg13 harg13 arg14 harg14 arg26 q.x0 q.x1 q.x2 q.x7 q.x8 q.x9 q.x10 q.x11 q.x12 = R_r_28 (firstB q) := by
  unfold runFirst.sl.r_27 R_r_28
  (try simp only [f_r_14, View.readAt_eq_ld, Memref.IsWhole.read_unread]) <;> rfl

theorem f_r_28 :
    runFirst.sl.r_28 (F := Ideal) c arg2 harg2 arg3 harg3 arg4 harg4 arg9 harg9 arg10 harg10 arg11 harg11 arg12 harg12 arg14 harg14 arg26 q.x0 q.x1 q.x2 q.x7 q.x8 q.x9 q.x10 q.x12 = R_r_29 (firstB q) := by
  unfold runFirst.sl.r_28 R_r_29
  (try simp only [f_r_15, View.readAt_eq_ld, Memref.IsWhole.read_unread]) <;> rfl

theorem f_r_37 :
    runFirst.sl.r_37 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_38 (firstB q) := by
  unfold runFirst.sl.r_37 R_r_38
  (try simp only [f_r_14, f_r_15, f_r_26, f_r_27, f_r_28, View.readAt_eq_ld, Memref.IsWhole.read_unread]) <;> rfl

theorem f_r_71 :
    runFirst.sl.r_71 (F := Ideal) c arg2 harg2 arg3 harg3 arg7 harg7 arg16 harg16 arg17 harg17 arg27 q.x0 q.x1 q.x5 q.x14 q.x15 = R_r_72 (firstB q) := by
  unfold runFirst.sl.r_71 R_r_72
  (try simp only [f_r_62, View.readAt_eq_ld, Memref.IsWhole.read_unread]) <;> rfl

theorem f_r_250 :
    runFirst.sl.r_250 (F := Ideal) c arg2 harg2 arg3 harg3 arg8 harg8 arg18 harg18 arg19 harg19 q.x0 q.x1 q.x6 q.x16 q.x17 = R_r_251 (firstB q) := by
  unfold runFirst.sl.r_250 R_r_251
  (try simp only [f_r_159, View.readAt_eq_ld, Memref.IsWhole.read_unread]) <;> rfl

theorem f_r_69 :
    runFirst.sl.r_69 (F := Ideal) c arg2 harg2 arg3 harg3 arg8 harg8 arg18 harg18 arg19 harg19 q.x0 q.x1 q.x6 q.x16 q.x17 = R_r_70 (firstB q) := by
  unfold runFirst.sl.r_69 R_r_70
  (try simp only [f_r_63, f_r_64, View.readAt_eq_ld, Memref.IsWhole.read_unread]) <;> rfl

theorem f_r_72 :
    runFirst.sl.r_72 (F := Ideal) c arg2 harg2 arg3 harg3 arg7 harg7 arg16 harg16 arg17 harg17 arg27 q.x0 q.x1 q.x5 q.x14 q.x15 = R_r_73 (firstB q) := by
  unfold runFirst.sl.r_72 R_r_73
  (try simp only [f_r_61, View.readAt_eq_ld, Memref.IsWhole.read_unread]) <;> rfl

theorem f_r_102 :
    runFirst.sl.r_102 (F := Ideal) c arg2 harg2 arg3 harg3 arg7 harg7 arg8 harg8 arg16 harg16 arg17 harg17 arg18 harg18 arg19 harg19 arg27 q.x0 q.x1 q.x5 q.x6 q.x14 q.x15 q.x16 q.x17 = R_r_103 (firstB q) := by
  unfold runFirst.sl.r_102 R_r_103
  (try simp only [f_r_69, f_r_72, View.readAt_eq_ld, Memref.IsWhole.read_unread]) <;> rfl

theorem f_r_66 :
    runFirst.sl.r_66 (F := Ideal) c arg2 harg2 arg3 harg3 arg8 harg8 arg18 harg18 arg19 harg19 q.x0 q.x1 q.x6 q.x16 q.x17 = R_r_67 (firstB q) := by
  unfold runFirst.sl.r_66 R_r_67
  (try simp only [f_r_63, f_r_64, View.readAt_eq_ld, Memref.IsWhole.read_unread]) <;> rfl

theorem f_r_103 :
    runFirst.sl.r_103 (F := Ideal) c arg2 harg2 arg3 harg3 arg8 harg8 arg18 harg18 arg19 harg19 q.x0 q.x1 q.x6 q.x16 q.x17 = R_r_104 (firstB q) := by
  unfold runFirst.sl.r_103 R_r_104
  (try simp only [f_r_66, View.readAt_eq_ld, Memref.IsWhole.read_unread]) <;> rfl

theorem f_r_104 :
    runFirst.sl.r_104 (F := Ideal) c arg2 harg2 arg3 harg3 arg8 harg8 arg18 harg18 arg19 harg19 q.x0 q.x1 q.x6 q.x16 q.x17 = R_r_105 (firstB q) := by
  unfold runFirst.sl.r_104 R_r_105
  (try simp only [f_r_66, View.readAt_eq_ld, Memref.IsWhole.read_unread]) <;> rfl

theorem f_r_60 :
    runFirst.sl.r_60 (F := Ideal) c arg2 harg2 arg3 harg3 arg7 harg7 arg16 harg16 arg17 harg17 arg27 q.x0 q.x1 q.x5 q.x14 q.x15 = R_r_61 (firstB q) := by
  unfold runFirst.sl.r_60 R_r_61
  (try simp only [f_r_58, f_r_59, f_v484, f_v490, f_v496, View.readAt_eq_ld, Memref.IsWhole.read_unread]) <;> rfl

theorem f_r_70 :
    runFirst.sl.r_70 (F := Ideal) c arg2 harg2 arg3 harg3 arg7 harg7 arg16 harg16 arg17 harg17 arg27 q.x0 q.x1 q.x5 q.x14 q.x15 = R_r_71 (firstB q) := by
  unfold runFirst.sl.r_70 R_r_71
  (try simp only [f_r_60, View.readAt_eq_ld, Memref.IsWhole.read_unread]) <;> rfl

theorem f_r_95 :
    runFirst.sl.r_95 (F := Ideal) c arg2 harg2 arg3 harg3 arg7 harg7 arg16 harg16 arg17 harg17 arg27 q.x0 q.x1 q.x5 q.x14 q.x15 = R_r_96 (firstB q) := by
  unfold runFirst.sl.r_95 R_r_96
  (try simp only [f_r_70, View.readAt_eq_ld, Memref.IsWhole.read_unread]) <;> rfl

theorem f_r_96 :
    runFirst.sl.r_96 (F := Ideal) c arg2 harg2 arg3 harg3 arg7 harg7 arg16 harg16 arg17 harg17 arg27 q.x0 q.x1 q.x5 q.x14 q.x15 = R_r_97 (firstB q) := by
  unfold runFirst.sl.r_96 R_r_97
  (try simp only [f_r_70, View.readAt_eq_ld, Memref.IsWhole.read_unread]) <;> rfl

theorem f_r_87 :
    runFirst.sl.r_87 (F := Ideal) c arg2 harg2 arg3 harg3 arg7 harg7 arg16 harg16 arg17 harg17 arg27 q.x0 q.x1 q.x5 q.x14 q.x15 = R_r_88 (firstB q) := by
  unfold runFirst.sl.r_87 R_r_88
  (try simp only [f_r_70, View.readAt_eq_ld, Memref.IsWhole.read_unread]) <;> rfl

theorem f_r_88 :
    runFirst.sl.r_88 (F := Ideal) c arg2 harg2 arg3 harg3 arg7 harg7 arg16 harg16 arg17 harg17 arg27 q.x0 q.x1 q.x5 q.x14 q.x15 = R_r_89 (firstB q) := by
  unfold runFirst.sl.r_88 R_r_89
  (try simp only [f_r_70, View.readAt_eq_ld, Memref.IsWhole.read_unread]) <;> rfl

theorem f_r_75 :
    runFirst.sl.r_75 (F := Ideal) c arg2 harg2 arg3 harg3 arg7 harg7 arg16 harg16 arg17 harg17 arg27 q.x0 q.x1 q.x5 q.x14 q.x15 = R_r_76 (firstB q) := by
  unfold runFirst.sl.r_75 R_r_76
  (try simp only [f_r_60, View.readAt_eq_ld, Memref.IsWhole.read_unread]) <;> rfl

theorem f_r_74 :
    runFirst.sl.r_74 (F := Ideal) c arg2 harg2 arg3 harg3 arg7 harg7 arg16 harg16 arg17 harg17 arg27 q.x0 q.x1 q.x5 q.x14 q.x15 = R_r_75 (firstB q) := by
  unfold runFirst.sl.r_74 R_r_75
  (try simp only [f_r_60, View.readAt_eq_ld, Memref.IsWhole.read_unread]) <;> rfl

theorem f_r_76 :
    runFirst.sl.r_76 (F := Ideal) c arg2 harg2 arg3 harg3 arg7 harg7 arg16 harg16 arg17 harg17 arg27 q.x0 q.x1 q.x5 q.x14 q.x15 = R_r_77 (firstB q) := by
  unfold runFirst.sl.r_76 R_r_77
  (try simp only [f_r_74, View.readAt_eq_ld, Memref.IsWhole.read_unread]) <;> rfl

theorem f_v580 :
    runFirst.sl.v580 (F := Ideal) c arg29 = (View.ld (firstB q).st (Rect.unit ![0, 0, 0] S1x128x128.size inb_S8x128x128_S1x128x128_0_0_0)) := by
  unfold runFirst.sl.v580
  unfold runFirst.sl.HS3_1
  rw [View.readCov_fill _ _ _ _ _ (by decide)]
  rfl

theorem f_r_77 :
    runFirst.sl.r_77 (F := Ideal) c arg29 = R_r_78 (firstB q) := by
  unfold runFirst.sl.r_77 R_r_78
  (try simp only [f_v580 (q := q), View.readAt_eq_ld, Memref.IsWhole.read_unread]) <;> rfl

theorem f_r_82 :
    runFirst.sl.r_82 (F := Ideal) c arg2 harg2 arg3 harg3 arg7 harg7 arg8 harg8 arg16 harg16 arg17 harg17 arg18 harg18 arg19 harg19 arg27 q.x0 q.x1 q.x5 q.x6 q.x14 q.x15 q.x16 q.x17 = R_r_83 (firstB q) := by
  unfold runFirst.sl.r_82 R_r_83
  (try simp only [f_r_69, f_r_72, View.readAt_eq_ld, Memref.IsWhole.read_unread]) <;> rfl

theorem f_r_83 :
    runFirst.sl.r_83 (F := Ideal) c arg2 harg2 arg3 harg3 arg8 harg8 arg18 harg18 arg19 harg19 q.x0 q.x1 q.x6 q.x16 q.x17 = R_r_84 (firstB q) := by
  unfold runFirst.sl.r_83 R_r_84
  (try simp only [f_r_66, View.readAt_eq_ld, Memref.IsWhole.read_unread]) <;> rfl

theorem f_r_84 :
    runFirst.sl.r_84 (F := Ideal) c arg2 harg2 arg3 harg3 arg8 harg8 arg18 harg18 arg19 harg19 q.x0 q.x1 q.x6 q.x16 q.x17 = R_r_85 (firstB q) := by
  unfold runFirst.sl.r_84 R_r_85
  (try simp only [f_r_66, View.readAt_eq_ld, Memref.IsWhole.read_unread]) <;> rfl

theorem f_v660 :
    runFirst.sl.v660 (F := Ideal) c arg2 harg2 arg3 harg3 arg7 harg7 arg8 harg8 arg16 harg16 arg17 harg17 arg18 harg18 arg19 harg19 arg27 arg29 q.x0 q.x1 q.x5 q.x6 q.x14 q.x15 q.x16 q.x17 = (View.ld (firstB q).st (Rect.unit ![1, 0, 0] S1x128x128.size inb_S8x128x128_S1x128x128_1_0_0)) := by
  unfold runFirst.sl.v660
  unfold runFirst.sl.HS3_2
  rw [View.readCov_skip]; swap; · decide
  unfold runFirst.sl.HS3_1
  rw [View.readCov_fill _ _ _ _ _ (by decide)]
  rfl

theorem f_r_89 :
    runFirst.sl.r_89 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_90 (firstB q) := by
  unfold runFirst.sl.r_89 R_r_90
  (try simp only [f_v660, View.readAt_eq_ld, Memref.IsWhole.read_unread]) <;> rfl

theorem f_r_92 :
    runFirst.sl.r_92 (F := Ideal) c arg2 harg2 arg3 harg3 arg8 harg8 arg18 harg18 arg19 harg19 q.x0 q.x1 q.x6 q.x16 q.x17 = R_r_93 (firstB q) := by
  unfold runFirst.sl.r_92 R_r_93
  (try simp only [f_r_66, View.readAt_eq_ld, Memref.IsWhole.read_unread]) <;> rfl

theorem f_r_94 :
    runFirst.sl.r_94 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_95 (firstB q) := by
  unfold runFirst.sl.r_94 R_r_95
  (try simp only [f_r_66, f_r_69, f_r_72, f_r_87, f_r_88, f_r_89, f_r_92, View.readAt_eq_ld, Memref.IsWhole.read_unread]) <;> rfl

theorem f_v740 :
    runFirst.sl.v740 (F := Ideal) c arg2 harg2 arg3 harg3 arg7 harg7 arg8 harg8 arg16 harg16 arg17 harg17 arg18 harg18 arg19 harg19 arg27 arg29 q.x0 q.x1 q.x5 q.x6 q.x14 q.x15 q.x16 q.x17 = (View.ld (firstB q).st (Rect.unit ![2, 0, 0] S1x128x128.size inb_S8x128x128_S1x128x128_2_0_0)) := by
  unfold runFirst.sl.v740
  unfold runFirst.sl.HS3_3
  rw [View.readCov_skip]; swap; · decide
  unfold runFirst.sl.HS3_2
  rw [View.readCov_skip]; swap; · decide
  unfold runFirst.sl.HS3_1
  rw [View.readCov_fill _ _ _ _ _ (by decide)]
  rfl

theorem f_r_97 :
    runFirst.sl.r_97 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_98 (firstB q) := by
  unfold runFirst.sl.r_97 R_r_98
  (try simp only [f_v740, View.readAt_eq_ld, Memref.IsWhole.read_unread]) <;> rfl

theorem f_v820 :
    runFirst.sl.v820 (F := Ideal) c arg2 harg2 arg3 harg3 arg7 harg7 arg8 harg8 arg16 harg16 arg17 harg17 arg18 harg18 arg19 harg19 arg27 arg29 q.x0 q.x1 q.x5 q.x6 q.x14 q.x15 q.x16 q.x17 = (View.ld (firstB q).st (Rect.unit ![3, 0, 0] S1x128x128.size inb_S8x128x128_S1x128x128_3_0_0)) := by
  unfold runFirst.sl.v820
  unfold runFirst.sl.HS3_4
  rw [View.readCov_skip]; swap; · decide
  unfold runFirst.sl.HS3_3
  rw [View.readCov_skip]; swap; · decide
  unfold runFirst.sl.HS3_2
  rw [View.readCov_skip]; swap; · decide
  unfold runFirst.sl.HS3_1
  rw [View.readCov_fill _ _ _ _ _ (by decide)]
  rfl

theorem f_r_109 :
    runFirst.sl.r_109 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_110 (firstB q) := by
  unfold runFirst.sl.r_109 R_r_110
  (try simp only [f_v820, View.readAt_eq_ld, Memref.IsWhole.read_unread]) <;> rfl

theorem f_r_211 :
    runFirst.sl.r_211 (F := Ideal) c arg2 harg2 arg3 harg3 arg7 harg7 arg16 harg16 arg17 harg17 arg27 q.x0 q.x1 q.x5 q.x14 q.x15 = R_r_212 (firstB q) := by
  unfold runFirst.sl.r_211 R_r_212
  (try simp only [f_r_62, View.readAt_eq_ld, Memref.IsWhole.read_unread]) <;> rfl

theorem f_r_164 :
    runFirst.sl.r_164 (F := Ideal) c arg2 harg2 arg3 harg3 arg7 harg7 arg16 harg16 arg17 harg17 arg27 q.x0 q.x1 q.x5 q.x14 q.x15 = R_r_165 (firstB q) := by
  unfold runFirst.sl.r_164 R_r_165
  (try simp only [f_r_60, View.readAt_eq_ld, Memref.IsWhole.read_unread]) <;> rfl

theorem f_r_233 :
    runFirst.sl.r_233 (F := Ideal) c arg2 harg2 arg3 harg3 arg7 harg7 arg16 harg16 arg17 harg17 arg27 q.x0 q.x1 q.x5 q.x14 q.x15 = R_r_234 (firstB q) := by
  unfold runFirst.sl.r_233 R_r_234
  (try simp only [f_r_164, View.readAt_eq_ld, Memref.IsWhole.read_unread]) <;> rfl

theorem f_cst_300 :
    runFirst.sl.cst_300 (F := Ideal)  = R_cst_300 (firstB q) := rfl

theorem f_r_232 :
    runFirst.sl.r_232 (F := Ideal) c arg2 harg2 arg3 harg3 arg7 harg7 arg16 harg16 arg17 harg17 arg27 q.x0 q.x1 q.x5 q.x14 q.x15 = R_r_233 (firstB q) := by
  unfold runFirst.sl.r_232 R_r_233
  (try simp only [f_r_164, View.readAt_eq_ld, Memref.IsWhole.read_unread]) <;> rfl

theorem f_r_234 :
    runFirst.sl.r_234 (F := Ideal) c arg2 harg2 arg3 harg3 arg7 harg7 arg16 harg16 arg17 harg17 arg27 q.x0 q.x1 q.x5 q.x14 q.x15 = R_r_235 (firstB q) := by
  unfold runFirst.sl.r_234 R_r_235
  (try simp only [f_cst_300 (q := q), f_r_232, View.readAt_eq_ld, Memref.IsWhole.read_unread]) <;> rfl

theorem f_r_160 :
    runFirst.sl.r_160 (F := Ideal) c arg2 harg2 arg3 harg3 arg8 harg8 arg18 harg18 arg19 harg19 q.x0 q.x1 q.x6 q.x16 q.x17 = R_r_161 (firstB q) := by
  unfold runFirst.sl.r_160 R_r_161
  (try simp only [f_r_65, View.readAt_eq_ld, Memref.IsWhole.read_unread]) <;> rfl

theorem f_r_163 :
    runFirst.sl.r_163 (F := Ideal) c arg2 harg2 arg3 harg3 arg8 harg8 arg18 harg18 arg19 harg19 q.x0 q.x1 q.x6 q.x16 q.x17 = R_r_164 (firstB q) := by
  unfold runFirst.sl.r_163 R_r_164
  (try simp only [f_r_158, f_r_159, f_r_160, View.readAt_eq_ld, Memref.IsWhole.read_unread]) <;> rfl

theorem f_r_212 :
    runFirst.sl.r_212 (F := Ideal) c arg2 harg2 arg3 harg3 arg7 harg7 arg16 harg16 arg17 harg17 arg27 q.x0 q.x1 q.x5 q.x14 q.x15 = R_r_213 (firstB q) := by
  unfold runFirst.sl.r_212 R_r_213
  (try simp only [f_r_61, View.readAt_eq_ld, Memref.IsWhole.read_unread]) <;> rfl

theorem f_r_224 :
    runFirst.sl.r_224 (F := Ideal) c arg2 harg2 arg3 harg3 arg7 harg7 arg16 harg16 arg17 harg17 arg27 q.x0 q.x1 q.x5 q.x14 q.x15 = R_r_225 (firstB q) := by
  unfold runFirst.sl.r_224 R_r_225
  (try simp only [f_r_164, View.readAt_eq_ld, Memref.IsWhole.read_unread]) <;> rfl

theorem f_r_225 :
    runFirst.sl.r_225 (F := Ideal) c arg2 harg2 arg3 harg3 arg7 harg7 arg16 harg16 arg17 harg17 arg27 q.x0 q.x1 q.x5 q.x14 q.x15 = R_r_226 (firstB q) := by
  unfold runFirst.sl.r_225 R_r_226
  (try simp only [f_r_164, View.readAt_eq_ld, Memref.IsWhole.read_unread]) <;> rfl

theorem f_r_214 :
    runFirst.sl.r_214 (F := Ideal) c arg2 harg2 arg3 harg3 arg7 harg7 arg16 harg16 arg17 harg17 arg27 q.x0 q.x1 q.x5 q.x14 q.x15 = R_r_215 (firstB q) := by
  unfold runFirst.sl.r_214 R_r_215
  (try simp only [f_r_164, View.readAt_eq_ld, Memref.IsWhole.read_unread]) <;> rfl

theorem f_r_215 :
    runFirst.sl.r_215 (F := Ideal) c arg2 harg2 arg3 harg3 arg7 harg7 arg16 harg16 arg17 harg17 arg27 q.x0 q.x1 q.x5 q.x14 q.x15 = R_r_216 (firstB q) := by
  unfold runFirst.sl.r_215 R_r_216
  (try simp only [f_r_164, View.readAt_eq_ld, Memref.IsWhole.read_unread]) <;> rfl

theorem f_r_166 :
    runFirst.sl.r_166 (F := Ideal) c arg2 harg2 arg3 harg3 arg7 harg7 arg16 harg16 arg17 harg17 arg27 q.x0 q.x1 q.x5 q.x14 q.x15 = R_r_167 (firstB q) := by
  unfold runFirst.sl.r_166 R_r_167
  (try simp only [f_r_61, View.readAt_eq_ld, Memref.IsWhole.read_unread]) <;> rfl

theorem f_r_198 :
    runFirst.sl.r_198 (F := Ideal) c arg2 harg2 arg3 harg3 arg7 harg7 arg16 harg16 arg17 harg17 arg27 q.x0 q.x1 q.x5 q.x14 q.x15 = R_r_199 (firstB q) := by
  unfold runFirst.sl.r_198 R_r_199
  (try simp only [f_r_164, View.readAt_eq_ld, Memref.IsWhole.read_unread]) <;> rfl

theorem f_r_199 :
    runFirst.sl.r_199 (F := Ideal) c arg2 harg2 arg3 harg3 arg7 harg7 arg16 harg16 arg17 harg17 arg27 q.x0 q.x1 q.x5 q.x14 q.x15 = R_r_200 (firstB q) := by
  unfold runFirst.sl.r_199 R_r_200
  (try simp only [f_r_198, View.readAt_eq_ld, Memref.IsWhole.read_unread]) <;> rfl

theorem f_r_200 :
    runFirst.sl.r_200 (F := Ideal) c arg2 harg2 arg3 harg3 arg7 harg7 arg16 harg16 arg17 harg17 arg27 q.x0 q.x1 q.x5 q.x14 q.x15 = R_r_201 (firstB q) := by
  unfold runFirst.sl.r_200 R_r_201
  (try simp only [f_r_198, View.readAt_eq_ld, Memref.IsWhole.read_unread]) <;> rfl

theorem f_r_190 :
    runFirst.sl.r_190 (F := Ideal) c arg2 harg2 arg3 harg3 arg7 harg7 arg16 harg16 arg17 harg17 arg27 q.x0 q.x1 q.x5 q.x14 q.x15 = R_r_191 (firstB q) := by
  unfold runFirst.sl.r_190 R_r_191
  (try simp only [f_r_164, View.readAt_eq_ld, Memref.IsWhole.read_unread]) <;> rfl

theorem f_r_191 :
    runFirst.sl.r_191 (F := Ideal) c arg2 harg2 arg3 harg3 arg7 harg7 arg16 harg16 arg17 harg17 arg27 q.x0 q.x1 q.x5 q.x14 q.x15 = R_r_192 (firstB q) := by
  unfold runFirst.sl.r_191 R_r_192
  (try simp only [f_r_164, View.readAt_eq_ld, Memref.IsWhole.read_unread]) <;> rfl

theorem f_r_177 :
    runFirst.sl.r_177 (F := Ideal) c arg2 harg2 arg3 harg3 arg7 harg7 arg16 harg16 arg17 harg17 arg27 q.x0 q.x1 q.x5 q.x14 q.x15 = R_r_178 (firstB q) := by
  unfold runFirst.sl.r_177 R_r_178
  (try simp only [f_r_164, View.readAt_eq_ld, Memref.IsWhole.read_unread]) <;> rfl

theorem f_r_176 :
    runFirst.sl.r_176 (F := Ideal) c arg2 harg2 arg3 harg3 arg7 harg7 arg16 harg16 arg17 harg17 arg27 q.x0 q.x1 q.x5 q.x14 q.x15 = R_r_177 (firstB q) := by
  unfold runFirst.sl.r_176 R_r_177
  (try simp only [f_r_164, View.readAt_eq_ld, Memref.IsWhole.read_unread]) <;> rfl

theorem f_r_178 :
    runFirst.sl.r_178 (F := Ideal) c arg2 harg2 arg3 harg3 arg7 harg7 arg16 harg16 arg17 harg17 arg27 q.x0 q.x1 q.x5 q.x14 q.x15 = R_r_179 (firstB q) := by
  unfold runFirst.sl.r_178 R_r_179
  (try simp only [f_r_176, View.readAt_eq_ld, Memref.IsWhole.read_unread]) <;> rfl

theorem f_r_168 :
    runFirst.sl.r_168 (F := Ideal) c arg2 harg2 arg3 harg3 arg7 harg7 arg16 harg16 arg17 harg17 arg27 q.x0 q.x1 q.x5 q.x14 q.x15 = R_r_169 (firstB q) := by
  unfold runFirst.sl.r_168 R_r_169
  (try simp only [f_r_60, View.readAt_eq_ld, Memref.IsWhole.read_unread]) <;> rfl

theorem f_r_169 :
    runFirst.sl.r_169 (F := Ideal) c arg2 harg2 arg3 harg3 arg7 harg7 arg16 harg16 arg17 harg17 arg27 q.x0 q.x1 q.x5 q.x14 q.x15 = R_r_170 (firstB q) := by
  unfold runFirst.sl.r_169 R_r_170
  (try simp only [f_r_60, View.readAt_eq_ld, Memref.IsWhole.read_unread]) <;> rfl

theorem f_r_116 :
    runFirst.sl.r_116 (F := Ideal) c arg2 harg2 arg3 harg3 arg7 harg7 arg16 harg16 arg17 harg17 arg27 q.x0 q.x1 q.x5 q.x14 q.x15 = R_r_117 (firstB q) := by
  unfold runFirst.sl.r_116 R_r_117
  (try simp only [f_r_61, View.readAt_eq_ld, Memref.IsWhole.read_unread]) <;> rfl

theorem f_r_147 :
    runFirst.sl.r_147 (F := Ideal) c arg2 harg2 arg3 harg3 arg7 harg7 arg16 harg16 arg17 harg17 arg27 q.x0 q.x1 q.x5 q.x14 q.x15 = R_r_148 (firstB q) := by
  unfold runFirst.sl.r_147 R_r_148
  (try simp only [f_r_70, View.readAt_eq_ld, Memref.IsWhole.read_unread]) <;> rfl

theorem f_r_148 :
    runFirst.sl.r_148 (F := Ideal) c arg2 harg2 arg3 harg3 arg7 harg7 arg16 harg16 arg17 harg17 arg27 q.x0 q.x1 q.x5 q.x14 q.x15 = R_r_149 (firstB q) := by
  unfold runFirst.sl.r_148 R_r_149
  (try simp only [f_r_70, View.readAt_eq_ld, Memref.IsWhole.read_unread]) <;> rfl

theorem f_r_140 :
    runFirst.sl.r_140 (F := Ideal) c arg2 harg2 arg3 harg3 arg7 harg7 arg16 harg16 arg17 harg17 arg27 q.x0 q.x1 q.x5 q.x14 q.x15 = R_r_141 (firstB q) := by
  unfold runFirst.sl.r_140 R_r_141
  (try simp only [f_r_70, View.readAt_eq_ld, Memref.IsWhole.read_unread]) <;> rfl

theorem f_r_141 :
    runFirst.sl.r_141 (F := Ideal) c arg2 harg2 arg3 harg3 arg7 harg7 arg16 harg16 arg17 harg17 arg27 q.x0 q.x1 q.x5 q.x14 q.x15 = R_r_142 (firstB q) := by
  unfold runFirst.sl.r_141 R_r_142
  (try simp only [f_r_70, View.readAt_eq_ld, Memref.IsWhole.read_unread]) <;> rfl

theorem f_r_126 :
    runFirst.sl.r_126 (F := Ideal) c arg2 harg2 arg3 harg3 arg7 harg7 arg16 harg16 arg17 harg17 arg27 q.x0 q.x1 q.x5 q.x14 q.x15 = R_r_127 (firstB q) := by
  unfold runFirst.sl.r_126 R_r_127
  (try simp only [f_r_70, View.readAt_eq_ld, Memref.IsWhole.read_unread]) <;> rfl

theorem f_r_127 :
    runFirst.sl.r_127 (F := Ideal) c arg2 harg2 arg3 harg3 arg7 harg7 arg16 harg16 arg17 harg17 arg27 q.x0 q.x1 q.x5 q.x14 q.x15 = R_r_128 (firstB q) := by
  unfold runFirst.sl.r_127 R_r_128
  (try simp only [f_r_126, View.readAt_eq_ld, Memref.IsWhole.read_unread]) <;> rfl

theorem f_r_128 :
    runFirst.sl.r_128 (F := Ideal) c arg2 harg2 arg3 harg3 arg7 harg7 arg16 harg16 arg17 harg17 arg27 q.x0 q.x1 q.x5 q.x14 q.x15 = R_r_129 (firstB q) := by
  unfold runFirst.sl.r_128 R_r_129
  (try simp only [f_r_126, View.readAt_eq_ld, Memref.IsWhole.read_unread]) <;> rfl

theorem f_r_118 :
    runFirst.sl.r_118 (F := Ideal) c arg2 harg2 arg3 harg3 arg7 harg7 arg16 harg16 arg17 harg17 arg27 q.x0 q.x1 q.x5 q.x14 q.x15 = R_r_119 (firstB q) := by
  unfold runFirst.sl.r_118 R_r_119
  (try simp only [f_r_70, View.readAt_eq_ld, Memref.IsWhole.read_unread]) <;> rfl

theorem f_r_119 :
    runFirst.sl.r_119 (F := Ideal) c arg2 harg2 arg3 harg3 arg7 harg7 arg16 harg16 arg17 harg17 arg27 q.x0 q.x1 q.x5 q.x14 q.x15 = R_r_120 (firstB q) := by
  unfold runFirst.sl.r_119 R_r_120
  (try simp only [f_r_70, View.readAt_eq_ld, Memref.IsWhole.read_unread]) <;> rfl

theorem f_r_110 :
    runFirst.sl.r_110 (F := Ideal) c arg2 harg2 arg3 harg3 arg8 harg8 arg18 harg18 arg19 harg19 q.x0 q.x1 q.x6 q.x16 q.x17 = R_r_111 (firstB q) := by
  unfold runFirst.sl.r_110 R_r_111
  (try simp only [f_r_66, View.readAt_eq_ld, Memref.IsWhole.read_unread]) <;> rfl

theorem f_r_111 :
    runFirst.sl.r_111 (F := Ideal) c arg2 harg2 arg3 harg3 arg8 harg8 arg18 harg18 arg19 harg19 q.x0 q.x1 q.x6 q.x16 q.x17 = R_r_112 (firstB q) := by
  unfold runFirst.sl.r_111 R_r_112
  (try simp only [f_r_66, View.readAt_eq_ld, Memref.IsWhole.read_unread]) <;> rfl

theorem f_r_113 :
    runFirst.sl.r_113 (F := Ideal) c arg2 harg2 arg3 harg3 arg7 harg7 arg8 harg8 arg16 harg16 arg17 harg17 arg18 harg18 arg19 harg19 arg27 q.x0 q.x1 q.x5 q.x6 q.x14 q.x15 q.x16 q.x17 = R_r_114 (firstB q) := by
  unfold runFirst.sl.r_113 R_r_114
  (try simp only [f_r_69, f_r_72, View.readAt_eq_ld, Memref.IsWhole.read_unread]) <;> rfl

theorem f_r_107 :
    runFirst.sl.r_107 (F := Ideal) c arg2 harg2 arg3 harg3 arg7 harg7 arg16 harg16 arg17 harg17 arg27 q.x0 q.x1 q.x5 q.x14 q.x15 = R_r_108 (firstB q) := by
  unfold runFirst.sl.r_107 R_r_108
  (try simp only [f_r_70, View.readAt_eq_ld, Memref.IsWhole.read_unread]) <;> rfl

theorem f_r_108 :
    runFirst.sl.r_108 (F := Ideal) c arg2 harg2 arg3 harg3 arg7 harg7 arg16 harg16 arg17 harg17 arg27 q.x0 q.x1 q.x5 q.x14 q.x15 = R_r_109 (firstB q) := by
  unfold runFirst.sl.r_108 R_r_109
  (try simp only [f_r_70, View.readAt_eq_ld, Memref.IsWhole.read_unread]) <;> rfl

theorem f_r_114 :
    runFirst.sl.r_114 (F := Ideal) c arg2 harg2 arg3 harg3 arg7 harg7 arg16 harg16 arg17 harg17 arg27 q.x0 q.x1 q.x5 q.x14 q.x15 = R_r_115 (firstB q) := by
  unfold runFirst.sl.r_114 R_r_115
  (try simp only [f_r_107, f_r_108, View.readAt_eq_ld, Memref.IsWhole.read_unread]) <;> rfl

theorem f_v906 :
    runFirst.sl.v906 (F := Ideal) c arg2 harg2 arg3 harg3 arg7 harg7 arg8 harg8 arg16 harg16 arg17 harg17 arg18 harg18 arg19 harg19 arg27 arg29 q.x0 q.x1 q.x5 q.x6 q.x14 q.x15 q.x16 q.x17 = (View.ld (firstB q).st (Rect.unit ![4, 0, 0] S1x128x128.size inb_S8x128x128_S1x128x128_4_0_0)) := by
  unfold runFirst.sl.v906
  unfold runFirst.sl.HS3_5
  rw [View.readCov_skip]; swap; · decide
  unfold runFirst.sl.HS3_4
  rw [View.readCov_skip]; swap; · decide
  unfold runFirst.sl.HS3_3
  rw [View.readCov_skip]; swap; · decide
  unfold runFirst.sl.HS3_2
  rw [View.readCov_skip]; swap; · decide
  unfold runFirst.sl.HS3_1
  rw [View.readCov_fill _ _ _ _ _ (by decide)]
  rfl

theorem f_r_120 :
    runFirst.sl.r_120 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_121 (firstB q) := by
  unfold runFirst.sl.r_120 R_r_121
  (try simp only [f_v906, View.readAt_eq_ld, Memref.IsWhole.read_unread]) <;> rfl

theorem f_r_123 :
    runFirst.sl.r_123 (F := Ideal) c arg2 harg2 arg3 harg3 arg8 harg8 arg18 harg18 arg19 harg19 q.x0 q.x1 q.x6 q.x16 q.x17 = R_r_124 (firstB q) := by
  unfold runFirst.sl.r_123 R_r_124
  (try simp only [f_r_66, View.readAt_eq_ld, Memref.IsWhole.read_unread]) <;> rfl

theorem f_v986 :
    runFirst.sl.v986 (F := Ideal) c arg2 harg2 arg3 harg3 arg7 harg7 arg8 harg8 arg16 harg16 arg17 harg17 arg18 harg18 arg19 harg19 arg27 arg29 q.x0 q.x1 q.x5 q.x6 q.x14 q.x15 q.x16 q.x17 = (View.ld (firstB q).st (Rect.unit ![5, 0, 0] S1x128x128.size inb_S8x128x128_S1x128x128_5_0_0)) := by
  unfold runFirst.sl.v986
  unfold runFirst.sl.HS3_6
  rw [View.readCov_skip]; swap; · decide
  unfold runFirst.sl.HS3_5
  rw [View.readCov_skip]; swap; · decide
  unfold runFirst.sl.HS3_4
  rw [View.readCov_skip]; swap; · decide
  unfold runFirst.sl.HS3_3
  rw [View.readCov_skip]; swap; · decide
  unfold runFirst.sl.HS3_2
  rw [View.readCov_skip]; swap; · decide
  unfold runFirst.sl.HS3_1
  rw [View.readCov_fill _ _ _ _ _ (by decide)]
  rfl

theorem f_r_129 :
    runFirst.sl.r_129 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_130 (firstB q) := by
  unfold runFirst.sl.r_129 R_r_130
  (try simp only [f_v986, View.readAt_eq_ld, Memref.IsWhole.read_unread]) <;> rfl

theorem f_r_134 :
    runFirst.sl.r_134 (F := Ideal) c arg2 harg2 arg3 harg3 arg7 harg7 arg8 harg8 arg16 harg16 arg17 harg17 arg18 harg18 arg19 harg19 arg27 q.x0 q.x1 q.x5 q.x6 q.x14 q.x15 q.x16 q.x17 = R_r_135 (firstB q) := by
  unfold runFirst.sl.r_134 R_r_135
  (try simp only [f_r_116, f_r_69, View.readAt_eq_ld, Memref.IsWhole.read_unread]) <;> rfl

theorem f_r_135 :
    runFirst.sl.r_135 (F := Ideal) c arg2 harg2 arg3 harg3 arg8 harg8 arg18 harg18 arg19 harg19 q.x0 q.x1 q.x6 q.x16 q.x17 = R_r_136 (firstB q) := by
  unfold runFirst.sl.r_135 R_r_136
  (try simp only [f_r_66, View.readAt_eq_ld, Memref.IsWhole.read_unread]) <;> rfl

theorem f_r_136 :
    runFirst.sl.r_136 (F := Ideal) c arg2 harg2 arg3 harg3 arg8 harg8 arg18 harg18 arg19 harg19 q.x0 q.x1 q.x6 q.x16 q.x17 = R_r_137 (firstB q) := by
  unfold runFirst.sl.r_136 R_r_137
  (try simp only [f_r_66, View.readAt_eq_ld, Memref.IsWhole.read_unread]) <;> rfl

theorem f_v1066 :
    runFirst.sl.v1066 (F := Ideal) c arg2 harg2 arg3 harg3 arg7 harg7 arg8 harg8 arg16 harg16 arg17 harg17 arg18 harg18 arg19 harg19 arg27 arg29 q.x0 q.x1 q.x5 q.x6 q.x14 q.x15 q.x16 q.x17 = (View.ld (firstB q).st (Rect.unit ![6, 0, 0] S1x128x128.size inb_S8x128x128_S1x128x128_6_0_0)) := by
  unfold runFirst.sl.v1066
  unfold runFirst.sl.HS3_7
  rw [View.readCov_skip]; swap; · decide
  unfold runFirst.sl.HS3_6
  rw [View.readCov_skip]; swap; · decide
  unfold runFirst.sl.HS3_5
  rw [View.readCov_skip]; swap; · decide
  unfold runFirst.sl.HS3_4
  rw [View.readCov_skip]; swap; · decide
  unfold runFirst.sl.HS3_3
  rw [View.readCov_skip]; swap; · decide
  unfold runFirst.sl.HS3_2
  rw [View.readCov_skip]; swap; · decide
  unfold runFirst.sl.HS3_1
  rw [View.readCov_fill _ _ _ _ _ (by decide)]
  rfl

theorem f_r_142 :
    runFirst.sl.r_142 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_143 (firstB q) := by
  unfold runFirst.sl.r_142 R_r_143
  (try simp only [f_v1066, View.readAt_eq_ld, Memref.IsWhole.read_unread]) <;> rfl

theorem f_r_146 :
    runFirst.sl.r_146 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_147 (firstB q) := by
  unfold runFirst.sl.r_146 R_r_147
  (try simp only [f_r_116, f_r_140, f_r_141, f_r_142, f_r_66, f_r_69, View.readAt_eq_ld, Memref.IsWhole.read_unread]) <;> rfl

theorem f_v1146 :
    runFirst.sl.v1146 (F := Ideal) c arg2 harg2 arg3 harg3 arg7 harg7 arg8 harg8 arg16 harg16 arg17 harg17 arg18 harg18 arg19 harg19 arg27 arg29 q.x0 q.x1 q.x5 q.x6 q.x14 q.x15 q.x16 q.x17 = (View.ld (firstB q).st (Rect.unit ![7, 0, 0] S1x128x128.size inb_S8x128x128_S1x128x128_7_0_0)) := by
  unfold runFirst.sl.v1146
  unfold runFirst.sl.HS3_8
  rw [View.readCov_skip]; swap; · decide
  unfold runFirst.sl.HS3_7
  rw [View.readCov_skip]; swap; · decide
  unfold runFirst.sl.HS3_6
  rw [View.readCov_skip]; swap; · decide
  unfold runFirst.sl.HS3_5
  rw [View.readCov_skip]; swap; · decide
  unfold runFirst.sl.HS3_4
  rw [View.readCov_skip]; swap; · decide
  unfold runFirst.sl.HS3_3
  rw [View.readCov_skip]; swap; · decide
  unfold runFirst.sl.HS3_2
  rw [View.readCov_skip]; swap; · decide
  unfold runFirst.sl.HS3_1
  rw [View.readCov_fill _ _ _ _ _ (by decide)]
  rfl

theorem f_r_149 :
    runFirst.sl.r_149 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_150 (firstB q) := by
  unfold runFirst.sl.r_149 R_r_150
  (try simp only [f_v1146, View.readAt_eq_ld, Memref.IsWhole.read_unread]) <;> rfl

theorem f_r_154 :
    runFirst.sl.r_154 (F := Ideal) c arg2 harg2 arg3 harg3 arg7 harg7 arg8 harg8 arg16 harg16 arg17 harg17 arg18 harg18 arg19 harg19 arg27 q.x0 q.x1 q.x5 q.x6 q.x14 q.x15 q.x16 q.x17 = R_r_155 (firstB q) := by
  unfold runFirst.sl.r_154 R_r_155
  (try simp only [f_r_116, f_r_69, View.readAt_eq_ld, Memref.IsWhole.read_unread]) <;> rfl

theorem f_r_155 :
    runFirst.sl.r_155 (F := Ideal) c arg2 harg2 arg3 harg3 arg8 harg8 arg18 harg18 arg19 harg19 q.x0 q.x1 q.x6 q.x16 q.x17 = R_r_156 (firstB q) := by
  unfold runFirst.sl.r_155 R_r_156
  (try simp only [f_r_66, View.readAt_eq_ld, Memref.IsWhole.read_unread]) <;> rfl

theorem f_r_156 :
    runFirst.sl.r_156 (F := Ideal) c arg2 harg2 arg3 harg3 arg8 harg8 arg18 harg18 arg19 harg19 q.x0 q.x1 q.x6 q.x16 q.x17 = R_r_157 (firstB q) := by
  unfold runFirst.sl.r_156 R_r_157
  (try simp only [f_r_66, View.readAt_eq_ld, Memref.IsWhole.read_unread]) <;> rfl

theorem f_v1256 :
    runFirst.sl.v1256 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_v1256 (firstB q) := by
  unfold runFirst.sl.v1256 R_v1256 R_S0_0
  unfold runFirst.sl.HS3_9
  rw [View.readCov_skip]; swap; · decide
  unfold runFirst.sl.HS3_8
  rw [View.readCov_skip]; swap; · decide
  unfold runFirst.sl.HS3_7
  rw [View.readCov_skip]; swap; · decide
  unfold runFirst.sl.HS3_6
  rw [View.readCov_skip]; swap; · decide
  unfold runFirst.sl.HS3_5
  rw [View.readCov_skip]; swap; · decide
  unfold runFirst.sl.HS3_4
  rw [View.readCov_skip]; swap; · decide
  unfold runFirst.sl.HS3_3
  rw [View.readCov_skip]; swap; · decide
  unfold runFirst.sl.HS3_2
  rw [View.readCov_cons_toLoadRect]
  (try simp only [f_r_69, f_r_72, f_r_75, f_r_76, f_r_77 (q := q), f_r_82, f_r_83, f_r_84, View.readAt_eq_ld, Memref.IsWhole.read_unread]) <;> rfl

theorem f_r_170 :
    runFirst.sl.r_170 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_171 (firstB q) := by
  unfold runFirst.sl.r_170 R_r_171
  (try simp only [f_v1256, View.readAt_eq_ld, Memref.IsWhole.read_unread]) <;> rfl

theorem f_r_173 :
    runFirst.sl.r_173 (F := Ideal) c arg2 harg2 arg3 harg3 arg8 harg8 arg18 harg18 arg19 harg19 q.x0 q.x1 q.x6 q.x16 q.x17 = R_r_174 (firstB q) := by
  unfold runFirst.sl.r_173 R_r_174
  (try simp only [f_r_159, View.readAt_eq_ld, Memref.IsWhole.read_unread]) <;> rfl

theorem f_v1336 :
    runFirst.sl.v1336 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_v1336 (firstB q) := by
  unfold runFirst.sl.v1336 R_v1336 R_S0_1
  unfold runFirst.sl.HS3_10
  rw [View.readCov_skip]; swap; · decide
  unfold runFirst.sl.HS3_9
  rw [View.readCov_skip]; swap; · decide
  unfold runFirst.sl.HS3_8
  rw [View.readCov_skip]; swap; · decide
  unfold runFirst.sl.HS3_7
  rw [View.readCov_skip]; swap; · decide
  unfold runFirst.sl.HS3_6
  rw [View.readCov_skip]; swap; · decide
  unfold runFirst.sl.HS3_5
  rw [View.readCov_skip]; swap; · decide
  unfold runFirst.sl.HS3_4
  rw [View.readCov_skip]; swap; · decide
  unfold runFirst.sl.HS3_3
  rw [View.readCov_cons_toLoadRect]
  (try simp only [f_r_94, View.readAt_eq_ld, Memref.IsWhole.read_unread]) <;> rfl

theorem f_r_179 :
    runFirst.sl.r_179 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_180 (firstB q) := by
  unfold runFirst.sl.r_179 R_r_180
  (try simp only [f_v1336, View.readAt_eq_ld, Memref.IsWhole.read_unread]) <;> rfl

theorem f_r_184 :
    runFirst.sl.r_184 (F := Ideal) c arg2 harg2 arg3 harg3 arg7 harg7 arg8 harg8 arg16 harg16 arg17 harg17 arg18 harg18 arg19 harg19 arg27 q.x0 q.x1 q.x5 q.x6 q.x14 q.x15 q.x16 q.x17 = R_r_185 (firstB q) := by
  unfold runFirst.sl.r_184 R_r_185
  (try simp only [f_r_163, f_r_166, View.readAt_eq_ld, Memref.IsWhole.read_unread]) <;> rfl

theorem f_r_185 :
    runFirst.sl.r_185 (F := Ideal) c arg2 harg2 arg3 harg3 arg8 harg8 arg18 harg18 arg19 harg19 q.x0 q.x1 q.x6 q.x16 q.x17 = R_r_186 (firstB q) := by
  unfold runFirst.sl.r_185 R_r_186
  (try simp only [f_r_159, View.readAt_eq_ld, Memref.IsWhole.read_unread]) <;> rfl

theorem f_r_186 :
    runFirst.sl.r_186 (F := Ideal) c arg2 harg2 arg3 harg3 arg8 harg8 arg18 harg18 arg19 harg19 q.x0 q.x1 q.x6 q.x16 q.x17 = R_r_187 (firstB q) := by
  unfold runFirst.sl.r_186 R_r_187
  (try simp only [f_r_159, View.readAt_eq_ld, Memref.IsWhole.read_unread]) <;> rfl

theorem f_v1416 :
    runFirst.sl.v1416 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_v1416 (firstB q) := by
  unfold runFirst.sl.v1416 R_v1416 R_S0_2
  unfold runFirst.sl.HS3_11
  rw [View.readCov_skip]; swap; · decide
  unfold runFirst.sl.HS3_10
  rw [View.readCov_skip]; swap; · decide
  unfold runFirst.sl.HS3_9
  rw [View.readCov_skip]; swap; · decide
  unfold runFirst.sl.HS3_8
  rw [View.readCov_skip]; swap; · decide
  unfold runFirst.sl.HS3_7
  rw [View.readCov_skip]; swap; · decide
  unfold runFirst.sl.HS3_6
  rw [View.readCov_skip]; swap; · decide
  unfold runFirst.sl.HS3_5
  rw [View.readCov_skip]; swap; · decide
  unfold runFirst.sl.HS3_4
  rw [View.readCov_cons_toLoadRect]
  (try simp only [f_r_102, f_r_103, f_r_104, f_r_69, f_r_72, f_r_95, f_r_96, f_r_97, View.readAt_eq_ld, Memref.IsWhole.read_unread]) <;> rfl

theorem f_r_192 :
    runFirst.sl.r_192 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_193 (firstB q) := by
  unfold runFirst.sl.r_192 R_r_193
  (try simp only [f_v1416, View.readAt_eq_ld, Memref.IsWhole.read_unread]) <;> rfl

theorem f_r_195 :
    runFirst.sl.r_195 (F := Ideal) c arg2 harg2 arg3 harg3 arg8 harg8 arg18 harg18 arg19 harg19 q.x0 q.x1 q.x6 q.x16 q.x17 = R_r_196 (firstB q) := by
  unfold runFirst.sl.r_195 R_r_196
  (try simp only [f_r_159, View.readAt_eq_ld, Memref.IsWhole.read_unread]) <;> rfl

theorem f_v1496 :
    runFirst.sl.v1496 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_v1496 (firstB q) := by
  unfold runFirst.sl.v1496 R_v1496 R_S0_3
  unfold runFirst.sl.HS3_12
  rw [View.readCov_skip]; swap; · decide
  unfold runFirst.sl.HS3_11
  rw [View.readCov_skip]; swap; · decide
  unfold runFirst.sl.HS3_10
  rw [View.readCov_skip]; swap; · decide
  unfold runFirst.sl.HS3_9
  rw [View.readCov_skip]; swap; · decide
  unfold runFirst.sl.HS3_8
  rw [View.readCov_skip]; swap; · decide
  unfold runFirst.sl.HS3_7
  rw [View.readCov_skip]; swap; · decide
  unfold runFirst.sl.HS3_6
  rw [View.readCov_skip]; swap; · decide
  unfold runFirst.sl.HS3_5
  rw [View.readCov_cons_toLoadRect]
  (try simp only [f_r_109, f_r_110, f_r_111, f_r_113, f_r_114, View.readAt_eq_ld, Memref.IsWhole.read_unread]) <;> rfl

theorem f_r_201 :
    runFirst.sl.r_201 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_202 (firstB q) := by
  unfold runFirst.sl.r_201 R_r_202
  (try simp only [f_v1496, View.readAt_eq_ld, Memref.IsWhole.read_unread]) <;> rfl

theorem f_r_206 :
    runFirst.sl.r_206 (F := Ideal) c arg2 harg2 arg3 harg3 arg7 harg7 arg8 harg8 arg16 harg16 arg17 harg17 arg18 harg18 arg19 harg19 arg27 q.x0 q.x1 q.x5 q.x6 q.x14 q.x15 q.x16 q.x17 = R_r_207 (firstB q) := by
  unfold runFirst.sl.r_206 R_r_207
  (try simp only [f_r_163, f_r_166, View.readAt_eq_ld, Memref.IsWhole.read_unread]) <;> rfl

theorem f_r_207 :
    runFirst.sl.r_207 (F := Ideal) c arg2 harg2 arg3 harg3 arg8 harg8 arg18 harg18 arg19 harg19 q.x0 q.x1 q.x6 q.x16 q.x17 = R_r_208 (firstB q) := by
  unfold runFirst.sl.r_207 R_r_208
  (try simp only [f_r_159, View.readAt_eq_ld, Memref.IsWhole.read_unread]) <;> rfl

theorem f_r_208 :
    runFirst.sl.r_208 (F := Ideal) c arg2 harg2 arg3 harg3 arg8 harg8 arg18 harg18 arg19 harg19 q.x0 q.x1 q.x6 q.x16 q.x17 = R_r_209 (firstB q) := by
  unfold runFirst.sl.r_208 R_r_209
  (try simp only [f_r_159, View.readAt_eq_ld, Memref.IsWhole.read_unread]) <;> rfl

theorem f_v1582 :
    runFirst.sl.v1582 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_v1582 (firstB q) := by
  unfold runFirst.sl.v1582 R_v1582 R_S0_4
  unfold runFirst.sl.HS3_13
  rw [View.readCov_skip]; swap; · decide
  unfold runFirst.sl.HS3_12
  rw [View.readCov_skip]; swap; · decide
  unfold runFirst.sl.HS3_11
  rw [View.readCov_skip]; swap; · decide
  unfold runFirst.sl.HS3_10
  rw [View.readCov_skip]; swap; · decide
  unfold runFirst.sl.HS3_9
  rw [View.readCov_skip]; swap; · decide
  unfold runFirst.sl.HS3_8
  rw [View.readCov_skip]; swap; · decide
  unfold runFirst.sl.HS3_7
  rw [View.readCov_skip]; swap; · decide
  unfold runFirst.sl.HS3_6
  rw [View.readCov_cons_toLoadRect]
  (try simp only [f_r_116, f_r_118, f_r_119, f_r_120, f_r_123, f_r_66, f_r_69, View.readAt_eq_ld, Memref.IsWhole.read_unread]) <;> rfl

theorem f_r_216 :
    runFirst.sl.r_216 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_217 (firstB q) := by
  unfold runFirst.sl.r_216 R_r_217
  (try simp only [f_v1582, View.readAt_eq_ld, Memref.IsWhole.read_unread]) <;> rfl

theorem f_r_217 :
    runFirst.sl.r_217 (F := Ideal) c arg2 harg2 arg3 harg3 arg7 harg7 arg8 harg8 arg16 harg16 arg17 harg17 arg18 harg18 arg19 harg19 arg27 q.x0 q.x1 q.x5 q.x6 q.x14 q.x15 q.x16 q.x17 = R_r_218 (firstB q) := by
  unfold runFirst.sl.r_217 R_r_218
  (try simp only [f_r_163, f_r_212, View.readAt_eq_ld, Memref.IsWhole.read_unread]) <;> rfl

theorem f_r_218 :
    runFirst.sl.r_218 (F := Ideal) c arg2 harg2 arg3 harg3 arg8 harg8 arg18 harg18 arg19 harg19 q.x0 q.x1 q.x6 q.x16 q.x17 = R_r_219 (firstB q) := by
  unfold runFirst.sl.r_218 R_r_219
  (try simp only [f_r_159, View.readAt_eq_ld, Memref.IsWhole.read_unread]) <;> rfl

theorem f_r_219 :
    runFirst.sl.r_219 (F := Ideal) c arg2 harg2 arg3 harg3 arg7 harg7 arg8 harg8 arg16 harg16 arg17 harg17 arg18 harg18 arg19 harg19 arg27 q.x0 q.x1 q.x5 q.x6 q.x14 q.x15 q.x16 q.x17 = R_r_220 (firstB q) := by
  unfold runFirst.sl.r_219 R_r_220
  (try simp only [f_r_163, f_r_212, View.readAt_eq_ld, Memref.IsWhole.read_unread]) <;> rfl

theorem f_r_220 :
    runFirst.sl.r_220 (F := Ideal) c arg2 harg2 arg3 harg3 arg8 harg8 arg18 harg18 arg19 harg19 q.x0 q.x1 q.x6 q.x16 q.x17 = R_r_221 (firstB q) := by
  unfold runFirst.sl.r_220 R_r_221
  (try simp only [f_r_159, View.readAt_eq_ld, Memref.IsWhole.read_unread]) <;> rfl

theorem f_v1662 :
    runFirst.sl.v1662 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_v1662 (firstB q) := by
  unfold runFirst.sl.v1662 R_v1662 R_S0_5
  unfold runFirst.sl.HS3_14
  rw [View.readCov_skip]; swap; · decide
  unfold runFirst.sl.HS3_13
  rw [View.readCov_skip]; swap; · decide
  unfold runFirst.sl.HS3_12
  rw [View.readCov_skip]; swap; · decide
  unfold runFirst.sl.HS3_11
  rw [View.readCov_skip]; swap; · decide
  unfold runFirst.sl.HS3_10
  rw [View.readCov_skip]; swap; · decide
  unfold runFirst.sl.HS3_9
  rw [View.readCov_skip]; swap; · decide
  unfold runFirst.sl.HS3_8
  rw [View.readCov_skip]; swap; · decide
  unfold runFirst.sl.HS3_7
  rw [View.readCov_cons_toLoadRect]
  (try simp only [f_r_116, f_r_127, f_r_128, f_r_129, f_r_134, f_r_135, f_r_136, f_r_69, View.readAt_eq_ld, Memref.IsWhole.read_unread]) <;> rfl

theorem f_r_226 :
    runFirst.sl.r_226 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_227 (firstB q) := by
  unfold runFirst.sl.r_226 R_r_227
  (try simp only [f_v1662, View.readAt_eq_ld, Memref.IsWhole.read_unread]) <;> rfl

theorem f_r_229 :
    runFirst.sl.r_229 (F := Ideal) c arg2 harg2 arg3 harg3 arg8 harg8 arg18 harg18 arg19 harg19 q.x0 q.x1 q.x6 q.x16 q.x17 = R_r_230 (firstB q) := by
  unfold runFirst.sl.r_229 R_r_230
  (try simp only [f_r_159, View.readAt_eq_ld, Memref.IsWhole.read_unread]) <;> rfl

theorem f_v1742 :
    runFirst.sl.v1742 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_v1742 (firstB q) := by
  unfold runFirst.sl.v1742 R_v1742 R_S0_6
  unfold runFirst.sl.HS3_15
  rw [View.readCov_skip]; swap; · decide
  unfold runFirst.sl.HS3_14
  rw [View.readCov_skip]; swap; · decide
  unfold runFirst.sl.HS3_13
  rw [View.readCov_skip]; swap; · decide
  unfold runFirst.sl.HS3_12
  rw [View.readCov_skip]; swap; · decide
  unfold runFirst.sl.HS3_11
  rw [View.readCov_skip]; swap; · decide
  unfold runFirst.sl.HS3_10
  rw [View.readCov_skip]; swap; · decide
  unfold runFirst.sl.HS3_9
  rw [View.readCov_skip]; swap; · decide
  unfold runFirst.sl.HS3_8
  rw [View.readCov_cons_toLoadRect]
  (try simp only [f_r_146, View.readAt_eq_ld, Memref.IsWhole.read_unread]) <;> rfl

theorem f_r_236 :
    runFirst.sl.r_236 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_237 (firstB q) := by
  unfold runFirst.sl.r_236 R_r_237
  (try simp only [f_v1742, View.readAt_eq_ld, Memref.IsWhole.read_unread]) <;> rfl

theorem f_r_237 :
    runFirst.sl.r_237 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_238 (firstB q) := by
  unfold runFirst.sl.r_237 R_r_238
  (try simp only [f_v1742, View.readAt_eq_ld, Memref.IsWhole.read_unread]) <;> rfl

theorem f_r_239 :
    runFirst.sl.r_239 (F := Ideal) c arg2 harg2 arg3 harg3 arg7 harg7 arg8 harg8 arg16 harg16 arg17 harg17 arg18 harg18 arg19 harg19 arg27 q.x0 q.x1 q.x5 q.x6 q.x14 q.x15 q.x16 q.x17 = R_r_240 (firstB q) := by
  unfold runFirst.sl.r_239 R_r_240
  (try simp only [f_r_159, f_r_211, View.readAt_eq_ld, Memref.IsWhole.read_unread]) <;> rfl

theorem f_r_242 :
    runFirst.sl.r_242 (F := Ideal) c arg2 harg2 arg3 harg3 arg8 harg8 arg18 harg18 arg19 harg19 q.x0 q.x1 q.x6 q.x16 q.x17 = R_r_243 (firstB q) := by
  unfold runFirst.sl.r_242 R_r_243
  (try simp only [f_r_159, View.readAt_eq_ld, Memref.IsWhole.read_unread]) <;> rfl

theorem f_r_243 :
    runFirst.sl.r_243 (F := Ideal) c arg2 harg2 arg3 harg3 arg7 harg7 arg8 harg8 arg16 harg16 arg17 harg17 arg18 harg18 arg19 harg19 arg27 q.x0 q.x1 q.x5 q.x6 q.x14 q.x15 q.x16 q.x17 = R_r_244 (firstB q) := by
  unfold runFirst.sl.r_243 R_r_244
  (try simp only [f_r_159, f_r_161, f_r_162, f_r_213, View.readAt_eq_ld, Memref.IsWhole.read_unread]) <;> rfl

theorem f_r_244 :
    runFirst.sl.r_244 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_245 (firstB q) := by
  unfold runFirst.sl.r_244 R_r_245
  (try simp only [f_r_211, f_r_233, f_r_234, f_r_236, f_r_237, f_r_238, f_r_239, f_r_242, f_r_243, View.readAt_eq_ld, Memref.IsWhole.read_unread]) <;> rfl

theorem f_r_151 :
    runFirst.sl.r_151 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_152 (firstB q) := by
  unfold runFirst.sl.r_151 R_r_152
  (try simp only [f_v1146, View.readAt_eq_ld, Memref.IsWhole.read_unread]) <;> rfl

theorem f_r_67 :
    runFirst.sl.r_67 (F := Ideal) c arg2 harg2 arg3 harg3 arg8 harg8 arg18 harg18 arg19 harg19 q.x0 q.x1 q.x6 q.x16 q.x17 = R_r_68 (firstB q) := by
  unfold runFirst.sl.r_67 R_r_68
  (try simp only [f_r_63, f_r_64, View.readAt_eq_ld, Memref.IsWhole.read_unread]) <;> rfl

theorem f_r_68 :
    runFirst.sl.r_68 (F := Ideal) c arg2 harg2 arg3 harg3 arg8 harg8 arg18 harg18 q.x0 q.x1 q.x6 q.x16 = R_r_69 (firstB q) := by
  unfold runFirst.sl.r_68 R_r_69
  (try simp only [f_r_63, View.readAt_eq_ld, Memref.IsWhole.read_unread]) <;> rfl

theorem f_r_73 :
    runFirst.sl.r_73 (F := Ideal) c arg2 harg2 arg3 harg3 arg7 harg7 arg16 harg16 arg17 harg17 arg27 q.x0 q.x1 q.x5 q.x14 q.x15 = R_r_74 (firstB q) := by
  unfold runFirst.sl.r_73 R_r_74
  (try simp only [f_r_61, f_r_62, View.readAt_eq_ld, Memref.IsWhole.read_unread]) <;> rfl

theorem f_r_100 :
    runFirst.sl.r_100 (F := Ideal) c arg2 harg2 arg3 harg3 arg7 harg7 arg8 harg8 arg16 harg16 arg17 harg17 arg18 harg18 arg19 harg19 arg27 q.x0 q.x1 q.x5 q.x6 q.x14 q.x15 q.x16 q.x17 = R_r_101 (firstB q) := by
  unfold runFirst.sl.r_100 R_r_101
  (try simp only [f_r_66, f_r_67, f_r_68, f_r_73, View.readAt_eq_ld, Memref.IsWhole.read_unread]) <;> rfl

theorem f_r_101 :
    runFirst.sl.r_101 (F := Ideal) c arg2 harg2 arg3 harg3 arg7 harg7 arg8 harg8 arg16 harg16 arg17 harg17 arg18 harg18 arg19 harg19 arg27 q.x0 q.x1 q.x5 q.x6 q.x14 q.x15 q.x16 q.x17 = R_r_102 (firstB q) := by
  unfold runFirst.sl.r_101 R_r_102
  (try simp only [f_r_66, f_r_71, View.readAt_eq_ld, Memref.IsWhole.read_unread]) <;> rfl

theorem f_r_105 :
    runFirst.sl.r_105 (F := Ideal) c arg2 harg2 arg3 harg3 arg8 harg8 arg18 harg18 arg19 harg19 q.x0 q.x1 q.x6 q.x16 q.x17 = R_r_106 (firstB q) := by
  unfold runFirst.sl.r_105 R_r_106
  (try simp only [f_r_67, View.readAt_eq_ld, Memref.IsWhole.read_unread]) <;> rfl

theorem f_r_98 :
    runFirst.sl.r_98 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_99 (firstB q) := by
  unfold runFirst.sl.r_98 R_r_99
  (try simp only [f_v740, View.readAt_eq_ld, Memref.IsWhole.read_unread]) <;> rfl

theorem f_r_99 :
    runFirst.sl.r_99 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_100 (firstB q) := by
  unfold runFirst.sl.r_99 R_r_100
  (try simp only [f_v740, View.readAt_eq_ld, Memref.IsWhole.read_unread]) <;> rfl

theorem f_r_106 :
    runFirst.sl.r_106 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_107 (firstB q) := by
  unfold runFirst.sl.r_106 R_r_107
  (try simp only [f_r_100, f_r_101, f_r_104, f_r_105, f_r_68, f_r_71, f_r_73, f_r_95, f_r_96, f_r_98, f_r_99, View.readAt_eq_ld, Memref.IsWhole.read_unread]) <;> rfl

theorem f_r_112 :
    runFirst.sl.r_112 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_113 (firstB q) := by
  unfold runFirst.sl.r_112 R_r_113
  (try simp only [f_r_107, f_r_108, f_r_109, f_r_66, f_r_67, f_r_68, f_r_71, f_r_73, View.readAt_eq_ld, Memref.IsWhole.read_unread]) <;> rfl

theorem f_r_115 :
    runFirst.sl.r_115 (F := Ideal) c arg2 harg2 arg3 harg3 arg7 harg7 arg16 harg16 arg17 harg17 arg27 q.x0 q.x1 q.x5 q.x14 q.x15 = R_r_116 (firstB q) := by
  unfold runFirst.sl.r_115 R_r_116
  (try simp only [f_r_62, View.readAt_eq_ld, Memref.IsWhole.read_unread]) <;> rfl

theorem f_r_117 :
    runFirst.sl.r_117 (F := Ideal) c arg2 harg2 arg3 harg3 arg7 harg7 arg16 harg16 arg17 harg17 arg27 q.x0 q.x1 q.x5 q.x14 q.x15 = R_r_118 (firstB q) := by
  unfold runFirst.sl.r_117 R_r_118
  (try simp only [f_r_61, f_r_62, View.readAt_eq_ld, Memref.IsWhole.read_unread]) <;> rfl

theorem f_r_121 :
    runFirst.sl.r_121 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_122 (firstB q) := by
  unfold runFirst.sl.r_121 R_r_122
  (try simp only [f_v906, View.readAt_eq_ld, Memref.IsWhole.read_unread]) <;> rfl

theorem f_r_122 :
    runFirst.sl.r_122 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_123 (firstB q) := by
  unfold runFirst.sl.r_122 R_r_123
  (try simp only [f_v906, View.readAt_eq_ld, Memref.IsWhole.read_unread]) <;> rfl

theorem f_r_124 :
    runFirst.sl.r_124 (F := Ideal) c arg2 harg2 arg3 harg3 arg7 harg7 arg8 harg8 arg16 harg16 arg17 harg17 arg18 harg18 arg19 harg19 arg27 q.x0 q.x1 q.x5 q.x6 q.x14 q.x15 q.x16 q.x17 = R_r_125 (firstB q) := by
  unfold runFirst.sl.r_124 R_r_125
  (try simp only [f_r_61, f_r_62, f_r_66, f_r_67, View.readAt_eq_ld, Memref.IsWhole.read_unread]) <;> rfl

theorem f_r_125 :
    runFirst.sl.r_125 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_126 (firstB q) := by
  unfold runFirst.sl.r_125 R_r_126
  (try simp only [f_r_115, f_r_117, f_r_118, f_r_119, f_r_121, f_r_122, f_r_123, f_r_124, f_r_66, f_r_67, f_r_68, View.readAt_eq_ld, Memref.IsWhole.read_unread]) <;> rfl

theorem f_r_130 :
    runFirst.sl.r_130 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_131 (firstB q) := by
  unfold runFirst.sl.r_130 R_r_131
  (try simp only [f_v986, View.readAt_eq_ld, Memref.IsWhole.read_unread]) <;> rfl

theorem f_r_131 :
    runFirst.sl.r_131 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_132 (firstB q) := by
  unfold runFirst.sl.r_131 R_r_132
  (try simp only [f_v986, View.readAt_eq_ld, Memref.IsWhole.read_unread]) <;> rfl

theorem f_r_132 :
    runFirst.sl.r_132 (F := Ideal) c arg2 harg2 arg3 harg3 arg7 harg7 arg8 harg8 arg16 harg16 arg17 harg17 arg18 harg18 arg19 harg19 arg27 q.x0 q.x1 q.x5 q.x6 q.x14 q.x15 q.x16 q.x17 = R_r_133 (firstB q) := by
  unfold runFirst.sl.r_132 R_r_133
  (try simp only [f_r_117, f_r_66, f_r_67, f_r_68, View.readAt_eq_ld, Memref.IsWhole.read_unread]) <;> rfl

theorem f_r_133 :
    runFirst.sl.r_133 (F := Ideal) c arg2 harg2 arg3 harg3 arg7 harg7 arg8 harg8 arg16 harg16 arg17 harg17 arg18 harg18 arg19 harg19 arg27 q.x0 q.x1 q.x5 q.x6 q.x14 q.x15 q.x16 q.x17 = R_r_134 (firstB q) := by
  unfold runFirst.sl.r_133 R_r_134
  (try simp only [f_r_115, f_r_66, View.readAt_eq_ld, Memref.IsWhole.read_unread]) <;> rfl

theorem f_r_137 :
    runFirst.sl.r_137 (F := Ideal) c arg2 harg2 arg3 harg3 arg7 harg7 arg8 harg8 arg16 harg16 arg17 harg17 arg18 harg18 arg19 harg19 arg27 q.x0 q.x1 q.x5 q.x6 q.x14 q.x15 q.x16 q.x17 = R_r_138 (firstB q) := by
  unfold runFirst.sl.r_137 R_r_138
  (try simp only [f_r_117, f_r_66, f_r_67, View.readAt_eq_ld, Memref.IsWhole.read_unread]) <;> rfl

theorem f_r_138 :
    runFirst.sl.r_138 (F := Ideal) c arg2 harg2 arg3 harg3 arg8 harg8 arg18 harg18 q.x0 q.x1 q.x6 q.x16 = R_r_139 (firstB q) := by
  unfold runFirst.sl.r_138 R_r_139
  (try simp only [f_r_68, View.readAt_eq_ld, Memref.IsWhole.read_unread]) <;> rfl

theorem f_r_139 :
    runFirst.sl.r_139 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_140 (firstB q) := by
  unfold runFirst.sl.r_139 R_r_140
  (try simp only [f_r_115, f_r_127, f_r_128, f_r_130, f_r_131, f_r_132, f_r_133, f_r_136, f_r_137, f_r_138, View.readAt_eq_ld, Memref.IsWhole.read_unread]) <;> rfl

theorem f_r_143 :
    runFirst.sl.r_143 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_144 (firstB q) := by
  unfold runFirst.sl.r_143 R_r_144
  (try simp only [f_v1066, View.readAt_eq_ld, Memref.IsWhole.read_unread]) <;> rfl

theorem f_r_144 :
    runFirst.sl.r_144 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_145 (firstB q) := by
  unfold runFirst.sl.r_144 R_r_145
  (try simp only [f_v1066, View.readAt_eq_ld, Memref.IsWhole.read_unread]) <;> rfl

theorem f_r_145 :
    runFirst.sl.r_145 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_146 (firstB q) := by
  unfold runFirst.sl.r_145 R_r_146
  (try simp only [f_r_115, f_r_117, f_r_140, f_r_141, f_r_143, f_r_144, f_r_66, f_r_67, f_r_68, View.readAt_eq_ld, Memref.IsWhole.read_unread]) <;> rfl

theorem f_r_150 :
    runFirst.sl.r_150 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_151 (firstB q) := by
  unfold runFirst.sl.r_150 R_r_151
  (try simp only [f_v1146, View.readAt_eq_ld, Memref.IsWhole.read_unread]) <;> rfl

theorem f_r_152 :
    runFirst.sl.r_152 (F := Ideal) c arg2 harg2 arg3 harg3 arg7 harg7 arg8 harg8 arg16 harg16 arg17 harg17 arg18 harg18 arg19 harg19 arg27 q.x0 q.x1 q.x5 q.x6 q.x14 q.x15 q.x16 q.x17 = R_r_153 (firstB q) := by
  unfold runFirst.sl.r_152 R_r_153
  (try simp only [f_r_117, f_r_66, f_r_67, f_r_68, View.readAt_eq_ld, Memref.IsWhole.read_unread]) <;> rfl

theorem f_r_153 :
    runFirst.sl.r_153 (F := Ideal) c arg2 harg2 arg3 harg3 arg7 harg7 arg8 harg8 arg16 harg16 arg17 harg17 arg18 harg18 arg19 harg19 arg27 q.x0 q.x1 q.x5 q.x6 q.x14 q.x15 q.x16 q.x17 = R_r_154 (firstB q) := by
  unfold runFirst.sl.r_153 R_r_154
  (try simp only [f_r_115, f_r_66, View.readAt_eq_ld, Memref.IsWhole.read_unread]) <;> rfl

theorem f_r_78 :
    runFirst.sl.r_78 (F := Ideal) c arg29 = R_r_79 (firstB q) := by
  unfold runFirst.sl.r_78 R_r_79
  (try simp only [f_v580 (q := q), View.readAt_eq_ld, Memref.IsWhole.read_unread]) <;> rfl

theorem f_r_79 :
    runFirst.sl.r_79 (F := Ideal) c arg29 = R_r_80 (firstB q) := by
  unfold runFirst.sl.r_79 R_r_80
  (try simp only [f_v580 (q := q), View.readAt_eq_ld, Memref.IsWhole.read_unread]) <;> rfl

theorem f_r_80 :
    runFirst.sl.r_80 (F := Ideal) c arg2 harg2 arg3 harg3 arg7 harg7 arg8 harg8 arg16 harg16 arg17 harg17 arg18 harg18 arg19 harg19 arg27 q.x0 q.x1 q.x5 q.x6 q.x14 q.x15 q.x16 q.x17 = R_r_81 (firstB q) := by
  unfold runFirst.sl.r_80 R_r_81
  (try simp only [f_r_66, f_r_67, f_r_68, f_r_73, View.readAt_eq_ld, Memref.IsWhole.read_unread]) <;> rfl

theorem f_r_81 :
    runFirst.sl.r_81 (F := Ideal) c arg2 harg2 arg3 harg3 arg7 harg7 arg8 harg8 arg16 harg16 arg17 harg17 arg18 harg18 arg19 harg19 arg27 q.x0 q.x1 q.x5 q.x6 q.x14 q.x15 q.x16 q.x17 = R_r_82 (firstB q) := by
  unfold runFirst.sl.r_81 R_r_82
  (try simp only [f_r_66, f_r_71, View.readAt_eq_ld, Memref.IsWhole.read_unread]) <;> rfl

theorem f_r_85 :
    runFirst.sl.r_85 (F := Ideal) c arg2 harg2 arg3 harg3 arg7 harg7 arg8 harg8 arg16 harg16 arg17 harg17 arg18 harg18 arg19 harg19 arg27 q.x0 q.x1 q.x5 q.x6 q.x14 q.x15 q.x16 q.x17 = R_r_86 (firstB q) := by
  unfold runFirst.sl.r_85 R_r_86
  (try simp only [f_r_66, f_r_67, f_r_68, f_r_73, View.readAt_eq_ld, Memref.IsWhole.read_unread]) <;> rfl

theorem f_r_86 :
    runFirst.sl.r_86 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_87 (firstB q) := by
  unfold runFirst.sl.r_86 R_r_87
  (try simp only [f_r_71, f_r_75, f_r_76, f_r_78 (q := q), f_r_79 (q := q), f_r_80, f_r_81, f_r_84, f_r_85, View.readAt_eq_ld, Memref.IsWhole.read_unread]) <;> rfl

theorem f_r_90 :
    runFirst.sl.r_90 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_91 (firstB q) := by
  unfold runFirst.sl.r_90 R_r_91
  (try simp only [f_v660, View.readAt_eq_ld, Memref.IsWhole.read_unread]) <;> rfl

theorem f_r_91 :
    runFirst.sl.r_91 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_92 (firstB q) := by
  unfold runFirst.sl.r_91 R_r_92
  (try simp only [f_v660, View.readAt_eq_ld, Memref.IsWhole.read_unread]) <;> rfl

theorem f_r_93 :
    runFirst.sl.r_93 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_94 (firstB q) := by
  unfold runFirst.sl.r_93 R_r_94
  (try simp only [f_r_66, f_r_67, f_r_68, f_r_71, f_r_73, f_r_87, f_r_88, f_r_90, f_r_91, f_r_92, View.readAt_eq_ld, Memref.IsWhole.read_unread]) <;> rfl

theorem f_r_157 :
    runFirst.sl.r_157 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_158 (firstB q) := by
  unfold runFirst.sl.r_157 R_r_158
  (try simp only [f_r_106, f_r_112, f_r_115, f_r_117, f_r_125, f_r_139, f_r_145, f_r_147, f_r_148, f_r_150, f_r_151, f_r_152, f_r_153, f_r_156, f_r_67, f_r_68, f_r_86, f_r_93, View.readAt_eq_ld, Memref.IsWhole.read_unread]) <;> rfl

theorem f_r_165 :
    runFirst.sl.r_165 (F := Ideal) c arg2 harg2 arg3 harg3 arg7 harg7 arg16 harg16 arg17 harg17 arg27 q.x0 q.x1 q.x5 q.x14 q.x15 = R_r_166 (firstB q) := by
  unfold runFirst.sl.r_165 R_r_166
  (try simp only [f_r_62, View.readAt_eq_ld, Memref.IsWhole.read_unread]) <;> rfl

theorem f_r_167 :
    runFirst.sl.r_167 (F := Ideal) c arg2 harg2 arg3 harg3 arg7 harg7 arg16 harg16 arg17 harg17 arg27 q.x0 q.x1 q.x5 q.x14 q.x15 = R_r_168 (firstB q) := by
  unfold runFirst.sl.r_167 R_r_168
  (try simp only [f_r_61, f_r_62, View.readAt_eq_ld, Memref.IsWhole.read_unread]) <;> rfl

theorem f_r_171 :
    runFirst.sl.r_171 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_172 (firstB q) := by
  unfold runFirst.sl.r_171 R_r_172
  (try simp only [f_v1256, View.readAt_eq_ld, Memref.IsWhole.read_unread]) <;> rfl

theorem f_r_172 :
    runFirst.sl.r_172 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_173 (firstB q) := by
  unfold runFirst.sl.r_172 R_r_173
  (try simp only [f_v1256, View.readAt_eq_ld, Memref.IsWhole.read_unread]) <;> rfl

theorem f_r_174 :
    runFirst.sl.r_174 (F := Ideal) c arg2 harg2 arg3 harg3 arg7 harg7 arg8 harg8 arg16 harg16 arg17 harg17 arg18 harg18 arg19 harg19 arg27 q.x0 q.x1 q.x5 q.x6 q.x14 q.x15 q.x16 q.x17 = R_r_175 (firstB q) := by
  unfold runFirst.sl.r_174 R_r_175
  (try simp only [f_r_158, f_r_159, f_r_61, f_r_62, View.readAt_eq_ld, Memref.IsWhole.read_unread]) <;> rfl

theorem f_r_175 :
    runFirst.sl.r_175 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_176 (firstB q) := by
  unfold runFirst.sl.r_175 R_r_176
  (try simp only [f_r_159, f_r_161, f_r_162, f_r_165, f_r_167, f_r_168, f_r_169, f_r_171, f_r_172, f_r_173, f_r_174, View.readAt_eq_ld, Memref.IsWhole.read_unread]) <;> rfl

theorem f_r_180 :
    runFirst.sl.r_180 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_181 (firstB q) := by
  unfold runFirst.sl.r_180 R_r_181
  (try simp only [f_v1336, View.readAt_eq_ld, Memref.IsWhole.read_unread]) <;> rfl

theorem f_r_181 :
    runFirst.sl.r_181 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_182 (firstB q) := by
  unfold runFirst.sl.r_181 R_r_182
  (try simp only [f_v1336, View.readAt_eq_ld, Memref.IsWhole.read_unread]) <;> rfl

theorem f_r_182 :
    runFirst.sl.r_182 (F := Ideal) c arg2 harg2 arg3 harg3 arg7 harg7 arg8 harg8 arg16 harg16 arg17 harg17 arg18 harg18 arg19 harg19 arg27 q.x0 q.x1 q.x5 q.x6 q.x14 q.x15 q.x16 q.x17 = R_r_183 (firstB q) := by
  unfold runFirst.sl.r_182 R_r_183
  (try simp only [f_r_159, f_r_161, f_r_162, f_r_167, View.readAt_eq_ld, Memref.IsWhole.read_unread]) <;> rfl

theorem f_r_183 :
    runFirst.sl.r_183 (F := Ideal) c arg2 harg2 arg3 harg3 arg7 harg7 arg8 harg8 arg16 harg16 arg17 harg17 arg18 harg18 arg19 harg19 arg27 q.x0 q.x1 q.x5 q.x6 q.x14 q.x15 q.x16 q.x17 = R_r_184 (firstB q) := by
  unfold runFirst.sl.r_183 R_r_184
  (try simp only [f_r_159, f_r_165, View.readAt_eq_ld, Memref.IsWhole.read_unread]) <;> rfl

theorem f_r_187 :
    runFirst.sl.r_187 (F := Ideal) c arg2 harg2 arg3 harg3 arg7 harg7 arg8 harg8 arg16 harg16 arg17 harg17 arg18 harg18 arg19 harg19 arg27 q.x0 q.x1 q.x5 q.x6 q.x14 q.x15 q.x16 q.x17 = R_r_188 (firstB q) := by
  unfold runFirst.sl.r_187 R_r_188
  (try simp only [f_r_159, f_r_161, f_r_162, f_r_167, View.readAt_eq_ld, Memref.IsWhole.read_unread]) <;> rfl

theorem f_r_188 :
    runFirst.sl.r_188 (F := Ideal) c arg2 harg2 arg3 harg3 arg7 harg7 arg8 harg8 arg16 harg16 arg17 harg17 arg18 harg18 arg19 harg19 arg27 q.x0 q.x1 q.x5 q.x6 q.x14 q.x15 q.x16 q.x17 = R_r_189 (firstB q) := by
  unfold runFirst.sl.r_188 R_r_189
  (try simp only [f_r_159, f_r_165, View.readAt_eq_ld, Memref.IsWhole.read_unread]) <;> rfl

theorem f_r_189 :
    runFirst.sl.r_189 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_190 (firstB q) := by
  unfold runFirst.sl.r_189 R_r_190
  (try simp only [f_r_177, f_r_178, f_r_180, f_r_181, f_r_182, f_r_183, f_r_187, f_r_188, View.readAt_eq_ld, Memref.IsWhole.read_unread]) <;> rfl

theorem f_r_193 :
    runFirst.sl.r_193 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_194 (firstB q) := by
  unfold runFirst.sl.r_193 R_r_194
  (try simp only [f_v1416, View.readAt_eq_ld, Memref.IsWhole.read_unread]) <;> rfl

theorem f_r_194 :
    runFirst.sl.r_194 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_195 (firstB q) := by
  unfold runFirst.sl.r_194 R_r_195
  (try simp only [f_v1416, View.readAt_eq_ld, Memref.IsWhole.read_unread]) <;> rfl

theorem f_r_196 :
    runFirst.sl.r_196 (F := Ideal) c arg2 harg2 arg3 harg3 arg8 harg8 arg18 harg18 arg19 harg19 q.x0 q.x1 q.x6 q.x16 q.x17 = R_r_197 (firstB q) := by
  unfold runFirst.sl.r_196 R_r_197
  (try simp only [f_r_159, f_r_161, View.readAt_eq_ld, Memref.IsWhole.read_unread]) <;> rfl

theorem f_r_197 :
    runFirst.sl.r_197 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_198 (firstB q) := by
  unfold runFirst.sl.r_197 R_r_198
  (try simp only [f_r_159, f_r_161, f_r_162, f_r_165, f_r_167, f_r_190, f_r_191, f_r_193, f_r_194, f_r_195, f_r_196, View.readAt_eq_ld, Memref.IsWhole.read_unread]) <;> rfl

theorem f_r_202 :
    runFirst.sl.r_202 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_203 (firstB q) := by
  unfold runFirst.sl.r_202 R_r_203
  (try simp only [f_v1496, View.readAt_eq_ld, Memref.IsWhole.read_unread]) <;> rfl

theorem f_r_203 :
    runFirst.sl.r_203 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_204 (firstB q) := by
  unfold runFirst.sl.r_203 R_r_204
  (try simp only [f_v1496, View.readAt_eq_ld, Memref.IsWhole.read_unread]) <;> rfl

theorem f_r_204 :
    runFirst.sl.r_204 (F := Ideal) c arg2 harg2 arg3 harg3 arg7 harg7 arg8 harg8 arg16 harg16 arg17 harg17 arg18 harg18 arg19 harg19 arg27 q.x0 q.x1 q.x5 q.x6 q.x14 q.x15 q.x16 q.x17 = R_r_205 (firstB q) := by
  unfold runFirst.sl.r_204 R_r_205
  (try simp only [f_r_159, f_r_161, f_r_162, f_r_167, View.readAt_eq_ld, Memref.IsWhole.read_unread]) <;> rfl

theorem f_r_205 :
    runFirst.sl.r_205 (F := Ideal) c arg2 harg2 arg3 harg3 arg7 harg7 arg8 harg8 arg16 harg16 arg17 harg17 arg18 harg18 arg19 harg19 arg27 q.x0 q.x1 q.x5 q.x6 q.x14 q.x15 q.x16 q.x17 = R_r_206 (firstB q) := by
  unfold runFirst.sl.r_205 R_r_206
  (try simp only [f_r_159, f_r_165, View.readAt_eq_ld, Memref.IsWhole.read_unread]) <;> rfl

theorem f_r_209 :
    runFirst.sl.r_209 (F := Ideal) c arg2 harg2 arg3 harg3 arg7 harg7 arg8 harg8 arg16 harg16 arg17 harg17 arg18 harg18 arg19 harg19 arg27 q.x0 q.x1 q.x5 q.x6 q.x14 q.x15 q.x16 q.x17 = R_r_210 (firstB q) := by
  unfold runFirst.sl.r_209 R_r_210
  (try simp only [f_r_159, f_r_161, f_r_167, View.readAt_eq_ld, Memref.IsWhole.read_unread]) <;> rfl

theorem f_r_210 :
    runFirst.sl.r_210 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_211 (firstB q) := by
  unfold runFirst.sl.r_210 R_r_211
  (try simp only [f_r_162, f_r_165, f_r_199, f_r_200, f_r_202, f_r_203, f_r_204, f_r_205, f_r_208, f_r_209, View.readAt_eq_ld, Memref.IsWhole.read_unread]) <;> rfl

theorem f_cst_304 :
    runFirst.sl.cst_304 (F := Ideal)  = R_cst_304 (firstB q) := rfl

theorem f_r_221 :
    runFirst.sl.r_221 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_222 (firstB q) := by
  unfold runFirst.sl.r_221 R_r_222
  (try simp only [f_cst_300 (q := q), f_r_214, f_r_215, f_r_216, View.readAt_eq_ld, Memref.IsWhole.read_unread]) <;> rfl

theorem f_r_222 :
    runFirst.sl.r_222 (F := Ideal) c arg2 harg2 arg3 harg3 arg7 harg7 arg8 harg8 arg16 harg16 arg17 harg17 arg18 harg18 arg19 harg19 arg27 q.x0 q.x1 q.x5 q.x6 q.x14 q.x15 q.x16 q.x17 = R_r_223 (firstB q) := by
  unfold runFirst.sl.r_222 R_r_223
  (try simp only [f_r_159, f_r_161, f_r_162, f_r_211, f_r_213, View.readAt_eq_ld, Memref.IsWhole.read_unread]) <;> rfl

theorem f_r_223 :
    runFirst.sl.r_223 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_224 (firstB q) := by
  unfold runFirst.sl.r_223 R_r_224
  (try simp only [f_cst_304 (q := q), f_r_221, f_r_222, View.readAt_eq_ld, Memref.IsWhole.read_unread]) <;> rfl

theorem f_r_227 :
    runFirst.sl.r_227 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_228 (firstB q) := by
  unfold runFirst.sl.r_227 R_r_228
  (try simp only [f_v1662, View.readAt_eq_ld, Memref.IsWhole.read_unread]) <;> rfl

theorem f_r_228 :
    runFirst.sl.r_228 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_229 (firstB q) := by
  unfold runFirst.sl.r_228 R_r_229
  (try simp only [f_v1662, View.readAt_eq_ld, Memref.IsWhole.read_unread]) <;> rfl

theorem f_r_230 :
    runFirst.sl.r_230 (F := Ideal) c arg2 harg2 arg3 harg3 arg7 harg7 arg8 harg8 arg16 harg16 arg17 harg17 arg18 harg18 arg19 harg19 arg27 q.x0 q.x1 q.x5 q.x6 q.x14 q.x15 q.x16 q.x17 = R_r_231 (firstB q) := by
  unfold runFirst.sl.r_230 R_r_231
  (try simp only [f_r_159, f_r_161, f_r_162, f_r_213, View.readAt_eq_ld, Memref.IsWhole.read_unread]) <;> rfl

theorem f_r_231 :
    runFirst.sl.r_231 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_232 (firstB q) := by
  unfold runFirst.sl.r_231 R_r_232
  (try simp only [f_r_159, f_r_161, f_r_162, f_r_211, f_r_213, f_r_224, f_r_225, f_r_227, f_r_228, f_r_229, f_r_230, View.readAt_eq_ld, Memref.IsWhole.read_unread]) <;> rfl

theorem f_r_245 :
    runFirst.sl.r_245 (F := Ideal) c arg2 harg2 arg3 harg3 arg7 harg7 arg16 harg16 arg17 harg17 arg27 q.x0 q.x1 q.x5 q.x14 q.x15 = R_r_246 (firstB q) := by
  unfold runFirst.sl.r_245 R_r_246
  (try simp only [f_r_164, View.readAt_eq_ld, Memref.IsWhole.read_unread]) <;> rfl

theorem f_r_246 :
    runFirst.sl.r_246 (F := Ideal) c arg2 harg2 arg3 harg3 arg7 harg7 arg16 harg16 arg17 harg17 arg27 q.x0 q.x1 q.x5 q.x14 q.x15 = R_r_247 (firstB q) := by
  unfold runFirst.sl.r_246 R_r_247
  (try simp only [f_r_164, View.readAt_eq_ld, Memref.IsWhole.read_unread]) <;> rfl

theorem f_r_235 :
    runFirst.sl.r_235 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_236 (firstB q) := by
  unfold runFirst.sl.r_235 R_r_236
  (try simp only [f_v1742, View.readAt_eq_ld, Memref.IsWhole.read_unread]) <;> rfl

theorem f_r_240 :
    runFirst.sl.r_240 (F := Ideal) c arg2 harg2 arg3 harg3 arg7 harg7 arg8 harg8 arg16 harg16 arg17 harg17 arg18 harg18 arg19 harg19 arg27 q.x0 q.x1 q.x5 q.x6 q.x14 q.x15 q.x16 q.x17 = R_r_241 (firstB q) := by
  unfold runFirst.sl.r_240 R_r_241
  (try simp only [f_r_163, f_r_212, View.readAt_eq_ld, Memref.IsWhole.read_unread]) <;> rfl

theorem f_r_241 :
    runFirst.sl.r_241 (F := Ideal) c arg2 harg2 arg3 harg3 arg8 harg8 arg18 harg18 arg19 harg19 q.x0 q.x1 q.x6 q.x16 q.x17 = R_r_242 (firstB q) := by
  unfold runFirst.sl.r_241 R_r_242
  (try simp only [f_r_159, View.readAt_eq_ld, Memref.IsWhole.read_unread]) <;> rfl

theorem f_v1822 :
    runFirst.sl.v1822 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_v1822 (firstB q) := by
  unfold runFirst.sl.v1822 R_v1822 R_S0_7
  unfold runFirst.sl.HS3_16
  rw [View.readCov_skip]; swap; · decide
  unfold runFirst.sl.HS3_15
  rw [View.readCov_skip]; swap; · decide
  unfold runFirst.sl.HS3_14
  rw [View.readCov_skip]; swap; · decide
  unfold runFirst.sl.HS3_13
  rw [View.readCov_skip]; swap; · decide
  unfold runFirst.sl.HS3_12
  rw [View.readCov_skip]; swap; · decide
  unfold runFirst.sl.HS3_11
  rw [View.readCov_skip]; swap; · decide
  unfold runFirst.sl.HS3_10
  rw [View.readCov_skip]; swap; · decide
  unfold runFirst.sl.HS3_9
  rw [View.readCov_cons_toLoadRect]
  (try simp only [f_r_116, f_r_147, f_r_148, f_r_149, f_r_154, f_r_155, f_r_156, f_r_69, View.readAt_eq_ld, Memref.IsWhole.read_unread]) <;> rfl

theorem f_r_248 :
    runFirst.sl.r_248 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_249 (firstB q) := by
  unfold runFirst.sl.r_248 R_r_249
  (try simp only [f_v1822, View.readAt_eq_ld, Memref.IsWhole.read_unread]) <;> rfl

theorem f_r_249 :
    runFirst.sl.r_249 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_250 (firstB q) := by
  unfold runFirst.sl.r_249 R_r_250
  (try simp only [f_v1822, View.readAt_eq_ld, Memref.IsWhole.read_unread]) <;> rfl

theorem f_r_251 :
    runFirst.sl.r_251 (F := Ideal) c arg2 harg2 arg3 harg3 arg8 harg8 arg18 harg18 arg19 harg19 q.x0 q.x1 q.x6 q.x16 q.x17 = R_r_252 (firstB q) := by
  unfold runFirst.sl.r_251 R_r_252
  (try simp only [f_r_161, View.readAt_eq_ld, Memref.IsWhole.read_unread]) <;> rfl

theorem f_r_252 :
    runFirst.sl.r_252 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_253 (firstB q) := by
  unfold runFirst.sl.r_252 R_r_253
  (try simp only [f_r_159, f_r_161, f_r_162, f_r_211, f_r_213, f_r_245, f_r_246, f_r_248, f_r_249, f_r_250, f_r_251, View.readAt_eq_ld, Memref.IsWhole.read_unread]) <;> rfl

theorem f_r_4 :
    runFirst.sl.r_4 (F := Ideal) c arg2 harg2 arg3 harg3 arg6 harg6 q.x0 q.x1 q.x4 = R_r_4 (firstB q) := by
  unfold runFirst.sl.r_4 R_r_4
  (try simp only [f_r_1, View.readAt_eq_ld, Memref.IsWhole.read_unread]) <;> rfl

theorem f_r_16 :
    runFirst.sl.r_16 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_17 (firstB q) := by
  unfold runFirst.sl.r_16 R_r_17
  (try simp only [f_cst_72 (q := q), f_r_11, f_r_12, f_r_13, f_v135 (q := q), f_v138 (q := q), View.readAt_eq_ld, Memref.IsWhole.read_unread]) <;> rfl

theorem f_r_17 :
    runFirst.sl.r_17 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_18 (firstB q) := by
  unfold runFirst.sl.r_17 R_r_18
  (try simp only [f_cst_72 (q := q), f_r_11, f_r_12, f_r_13, f_v135 (q := q), f_v138 (q := q), View.readAt_eq_ld, Memref.IsWhole.read_unread]) <;> rfl

theorem f_r_19 :
    runFirst.sl.r_19 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_20 (firstB q) := by
  unfold runFirst.sl.r_19 R_r_20
  (try simp only [f_r_14, f_r_15, f_r_18, View.readAt_eq_ld, Memref.IsWhole.read_unread]) <;> rfl

theorem f_r_20 :
    runFirst.sl.r_20 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_21 (firstB q) := by
  unfold runFirst.sl.r_20 R_r_21
  (try simp only [f_r_14, f_r_15, f_r_18, View.readAt_eq_ld, Memref.IsWhole.read_unread]) <;> rfl

theorem f_r_21 :
    runFirst.sl.r_21 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_22 (firstB q) := by
  unfold runFirst.sl.r_21 R_r_22
  (try simp only [f_r_14, f_r_15, f_r_18, View.readAt_eq_ld, Memref.IsWhole.read_unread]) <;> rfl

theorem f_r_22 :
    runFirst.sl.r_22 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_23 (firstB q) := by
  unfold runFirst.sl.r_22 R_r_23
  (try simp only [f_r_14, f_r_15, f_r_18, View.readAt_eq_ld, Memref.IsWhole.read_unread]) <;> rfl

theorem f_r_23 :
    runFirst.sl.r_23 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_24 (firstB q) := by
  unfold runFirst.sl.r_23 R_r_24
  (try simp only [f_r_14, f_r_15, f_r_18, View.readAt_eq_ld, Memref.IsWhole.read_unread]) <;> rfl

theorem f_r_24 :
    runFirst.sl.r_24 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_25 (firstB q) := by
  unfold runFirst.sl.r_24 R_r_25
  (try simp only [f_r_14, f_r_15, f_r_18, View.readAt_eq_ld, Memref.IsWhole.read_unread]) <;> rfl

theorem f_r_25 :
    runFirst.sl.r_25 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_26 (firstB q) := by
  unfold runFirst.sl.r_25 R_r_26
  (try simp only [f_r_14, f_r_15, f_r_18, View.readAt_eq_ld, Memref.IsWhole.read_unread]) <;> rfl

theorem f_r_29 :
    runFirst.sl.r_29 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_30 (firstB q) := by
  unfold runFirst.sl.r_29 R_r_30
  (try simp only [f_r_26, f_r_27, f_r_28, View.readAt_eq_ld, Memref.IsWhole.read_unread]) <;> rfl

theorem f_r_3 :
    runFirst.sl.r_3 (F := Ideal) c arg2 harg2 arg3 harg3 arg5 harg5 q.x0 q.x1 q.x3 = R_r_3 (firstB q) := by
  unfold runFirst.sl.r_3 R_r_3
  (try simp only [f_r_1, View.readAt_eq_ld, Memref.IsWhole.read_unread]) <;> rfl

theorem f_r_30 :
    runFirst.sl.r_30 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_31 (firstB q) := by
  unfold runFirst.sl.r_30 R_r_31
  (try simp only [f_r_14, f_r_15, f_r_26, f_r_27, f_r_28, View.readAt_eq_ld, Memref.IsWhole.read_unread]) <;> rfl

theorem f_r_31 :
    runFirst.sl.r_31 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_32 (firstB q) := by
  unfold runFirst.sl.r_31 R_r_32
  (try simp only [f_r_14, f_r_15, f_r_26, f_r_27, f_r_28, View.readAt_eq_ld, Memref.IsWhole.read_unread]) <;> rfl

theorem f_r_32 :
    runFirst.sl.r_32 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_33 (firstB q) := by
  unfold runFirst.sl.r_32 R_r_33
  (try simp only [f_r_14, f_r_15, f_r_26, f_r_27, f_r_28, View.readAt_eq_ld, Memref.IsWhole.read_unread]) <;> rfl

theorem f_r_33 :
    runFirst.sl.r_33 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_34 (firstB q) := by
  unfold runFirst.sl.r_33 R_r_34
  (try simp only [f_r_14, f_r_15, f_r_26, f_r_27, f_r_28, View.readAt_eq_ld, Memref.IsWhole.read_unread]) <;> rfl

theorem f_r_34 :
    runFirst.sl.r_34 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_35 (firstB q) := by
  unfold runFirst.sl.r_34 R_r_35
  (try simp only [f_r_14, f_r_15, f_r_26, f_r_27, f_r_28, View.readAt_eq_ld, Memref.IsWhole.read_unread]) <;> rfl

theorem f_r_35 :
    runFirst.sl.r_35 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_36 (firstB q) := by
  unfold runFirst.sl.r_35 R_r_36
  (try simp only [f_r_14, f_r_15, f_r_26, f_r_27, f_r_28, View.readAt_eq_ld, Memref.IsWhole.read_unread]) <;> rfl

theorem f_r_36 :
    runFirst.sl.r_36 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_37 (firstB q) := by
  unfold runFirst.sl.r_36 R_r_37
  (try simp only [f_r_14, f_r_15, f_r_26, f_r_27, f_r_28, View.readAt_eq_ld, Memref.IsWhole.read_unread]) <;> rfl

theorem f_r_38 :
    runFirst.sl.r_38 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_39 (firstB q) := by
  unfold runFirst.sl.r_38 R_r_39
  (try simp only [f_r_14, f_r_15, f_r_37, View.readAt_eq_ld, Memref.IsWhole.read_unread]) <;> rfl

theorem f_r_39 :
    runFirst.sl.r_39 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_40 (firstB q) := by
  unfold runFirst.sl.r_39 R_r_40
  (try simp only [f_r_14, f_r_15, f_r_37, View.readAt_eq_ld, Memref.IsWhole.read_unread]) <;> rfl

theorem f_r_40 :
    runFirst.sl.r_40 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_41 (firstB q) := by
  unfold runFirst.sl.r_40 R_r_41
  (try simp only [f_r_14, f_r_15, f_r_37, View.readAt_eq_ld, Memref.IsWhole.read_unread]) <;> rfl

theorem f_r_41 :
    runFirst.sl.r_41 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_42 (firstB q) := by
  unfold runFirst.sl.r_41 R_r_42
  (try simp only [f_r_14, f_r_15, f_r_37, View.readAt_eq_ld, Memref.IsWhole.read_unread]) <;> rfl

theorem f_r_42 :
    runFirst.sl.r_42 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_43 (firstB q) := by
  unfold runFirst.sl.r_42 R_r_43
  (try simp only [f_r_14, f_r_15, f_r_37, View.readAt_eq_ld, Memref.IsWhole.read_unread]) <;> rfl

theorem f_r_43 :
    runFirst.sl.r_43 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_44 (firstB q) := by
  unfold runFirst.sl.r_43 R_r_44
  (try simp only [f_r_14, f_r_15, f_r_37, View.readAt_eq_ld, Memref.IsWhole.read_unread]) <;> rfl

theorem f_r_44 :
    runFirst.sl.r_44 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_45 (firstB q) := by
  unfold runFirst.sl.r_44 R_r_45
  (try simp only [f_r_14, f_r_15, f_r_37, View.readAt_eq_ld, Memref.IsWhole.read_unread]) <;> rfl

theorem f_r_45 :
    runFirst.sl.r_45 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_46 (firstB q) := by
  unfold runFirst.sl.r_45 R_r_46
  (try simp only [f_r_14, f_r_15, f_r_37, View.readAt_eq_ld, Memref.IsWhole.read_unread]) <;> rfl

theorem f_r_46 :
    runFirst.sl.r_46 (F := Ideal) c arg2 harg2 arg3 harg3 arg4 harg4 arg9 harg9 arg10 harg10 arg11 harg11 arg12 harg12 arg13 harg13 arg14 harg14 arg26 q.x0 q.x1 q.x2 q.x7 q.x8 q.x9 q.x10 q.x11 q.x12 = R_r_47 (firstB q) := by
  unfold runFirst.sl.r_46 R_r_47
  (try simp only [f_r_14, View.readAt_eq_ld, Memref.IsWhole.read_unread]) <;> rfl

theorem f_r_47 :
    runFirst.sl.r_47 (F := Ideal) c arg2 harg2 arg3 harg3 arg4 harg4 arg9 harg9 arg10 harg10 arg11 harg11 arg12 harg12 arg14 harg14 arg26 q.x0 q.x1 q.x2 q.x7 q.x8 q.x9 q.x10 q.x12 = R_r_48 (firstB q) := by
  unfold runFirst.sl.r_47 R_r_48
  (try simp only [f_r_15, View.readAt_eq_ld, Memref.IsWhole.read_unread]) <;> rfl

theorem f_r_48 :
    runFirst.sl.r_48 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_49 (firstB q) := by
  unfold runFirst.sl.r_48 R_r_49
  (try simp only [f_r_45, f_r_46, f_r_47, View.readAt_eq_ld, Memref.IsWhole.read_unread]) <;> rfl

theorem f_r_49 :
    runFirst.sl.r_49 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_50 (firstB q) := by
  unfold runFirst.sl.r_49 R_r_50
  (try simp only [f_r_14, f_r_15, f_r_45, f_r_46, f_r_47, View.readAt_eq_ld, Memref.IsWhole.read_unread]) <;> rfl

theorem f_r_50 :
    runFirst.sl.r_50 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_51 (firstB q) := by
  unfold runFirst.sl.r_50 R_r_51
  (try simp only [f_r_14, f_r_15, f_r_45, f_r_46, f_r_47, View.readAt_eq_ld, Memref.IsWhole.read_unread]) <;> rfl

theorem f_r_51 :
    runFirst.sl.r_51 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_52 (firstB q) := by
  unfold runFirst.sl.r_51 R_r_52
  (try simp only [f_r_14, f_r_15, f_r_45, f_r_46, f_r_47, View.readAt_eq_ld, Memref.IsWhole.read_unread]) <;> rfl

theorem f_r_52 :
    runFirst.sl.r_52 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_53 (firstB q) := by
  unfold runFirst.sl.r_52 R_r_53
  (try simp only [f_r_14, f_r_15, f_r_45, f_r_46, f_r_47, View.readAt_eq_ld, Memref.IsWhole.read_unread]) <;> rfl

theorem f_r_53 :
    runFirst.sl.r_53 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_54 (firstB q) := by
  unfold runFirst.sl.r_53 R_r_54
  (try simp only [f_r_14, f_r_15, f_r_45, f_r_46, f_r_47, View.readAt_eq_ld, Memref.IsWhole.read_unread]) <;> rfl

theorem f_r_54 :
    runFirst.sl.r_54 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_55 (firstB q) := by
  unfold runFirst.sl.r_54 R_r_55
  (try simp only [f_r_14, f_r_15, f_r_45, f_r_46, f_r_47, View.readAt_eq_ld, Memref.IsWhole.read_unread]) <;> rfl

theorem f_r_55 :
    runFirst.sl.r_55 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_56 (firstB q) := by
  unfold runFirst.sl.r_55 R_r_56
  (try simp only [f_r_14, f_r_15, f_r_45, f_r_46, f_r_47, View.readAt_eq_ld, Memref.IsWhole.read_unread]) <;> rfl

theorem f_r_57 :
    runFirst.sl.r_57 (F := Ideal) c arg2 harg2 arg3 harg3 arg4 harg4 arg5 harg5 arg9 harg9 arg10 harg10 arg11 harg11 arg12 harg12 arg13 harg13 arg14 harg14 arg15 harg15 arg26 arg28 q.x0 q.x1 q.x2 q.x3 q.x7 q.x8 q.x9 q.x10 q.x11 q.x12 q.x13 = R_r_58 (firstB q) := by
  unfold runFirst.sl.r_57 R_r_58
  (try simp only [f_r_16, f_r_17, f_r_19, f_r_20, f_r_21, f_r_22, f_r_23, f_r_24, f_r_25, f_r_29, f_r_3, f_r_30, f_r_31, f_r_32, f_r_33, f_r_34, f_r_35, f_r_36, f_r_38, f_r_39, f_r_40, f_r_41, f_r_42, f_r_43, f_r_44, f_r_48, f_r_49, f_r_50, f_r_51, f_r_52, f_r_53, f_r_54, f_r_55, View.readAt_eq_ld, Memref.IsWhole.read_unread]) <;> rfl

theorem f_r_254 :
    runFirst.sl.r_254 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg26 arg27 arg28 arg29 q.x0 q.x1 q.x2 q.x3 q.x4 q.x5 q.x6 q.x7 q.x8 q.x9 q.x10 q.x11 q.x12 q.x13 q.x14 q.x15 q.x16 q.x17 q.x18 q.x19 q.x20 q.x21 = R_r_255 (firstB q) := by
  unfold runFirst.sl.r_254 R_r_255
  (try simp only [f_r_157, f_r_175, f_r_189, f_r_197, f_r_210, f_r_223, f_r_231, f_r_244, f_r_252, f_r_4, f_r_57, f_r_60, View.readAt_eq_ld, Memref.IsWhole.read_unread]) <;> rfl

theorem f_r_256 :
    runFirst.sl.r_256 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg26 arg27 arg28 arg29 q.x0 q.x1 q.x2 q.x3 q.x4 q.x5 q.x6 q.x7 q.x8 q.x9 q.x10 q.x11 q.x12 q.x13 q.x14 q.x15 q.x16 q.x17 q.x18 q.x19 q.x20 q.x21 = R_r_257 (firstB q) := by
  unfold runFirst.sl.r_256 R_r_257
  (try simp only [f_r_157, f_r_175, f_r_189, f_r_197, f_r_210, f_r_223, f_r_231, f_r_244, f_r_252, f_r_4, f_r_57, f_r_60, View.readAt_eq_ld, Memref.IsWhole.read_unread]) <;> rfl

theorem f_r_247 :
    runFirst.sl.r_247 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_248 (firstB q) := by
  unfold runFirst.sl.r_247 R_r_248
  (try simp only [f_v1822, View.readAt_eq_ld, Memref.IsWhole.read_unread]) <;> rfl

theorem f_r_253 :
    runFirst.sl.r_253 (F := Ideal) c arg2 harg2 arg3 harg3 arg7 harg7 arg8 harg8 arg16 harg16 arg17 harg17 arg18 harg18 arg19 harg19 arg27 arg29 q.x0 q.x1 q.x5 q.x6 q.x14 q.x15 q.x16 q.x17 = R_r_254 (firstB q) := by
  unfold runFirst.sl.r_253 R_r_254
  (try simp only [f_r_159, f_r_163, f_r_212, f_r_245, f_r_246, f_r_247, f_r_250, View.readAt_eq_ld, Memref.IsWhole.read_unread]) <;> rfl

theorem f_r :
    runFirst.sl.r (F := Ideal) c arg2 harg2 q.x0 = R_r (firstB q) := by
  unfold runFirst.sl.r R_r
  (try simp only [View.readAt_eq_ld, Memref.IsWhole.read_unread]) <;> rfl

theorem f_r_56 :
    runFirst.sl.r_56 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = R_r_57 (firstB q) := by
  unfold runFirst.sl.r_56 R_r_57
  (try simp only [f_r_14, f_r_15, f_r_45, f_r_46, f_r_47, View.readAt_eq_ld, Memref.IsWhole.read_unread]) <;> rfl

theorem f_r_255 :
    runFirst.sl.r_255 (F := Ideal) c arg24 harg24 q.x22 = R_r_256 (firstB q) := by
  unfold runFirst.sl.r_255 R_r_256
  (try simp only [View.readAt_eq_ld, Memref.IsWhole.read_unread]) <;> rfl

end Cert.Mix

end
-- ==== Proof.MixEqLater.lean ====
module

public import proofs.«01_k».proof.Proof.MixR
public import proofs.«01_k».proof.Proof.MixRunB
public import Idealize.ShloMosaic.Lib.Pipeline.ReadBack

@[expose] public section

set_option maxRecDepth 16384
set_option maxHeartbeats 400000

/-! The values the mixer's run names, in a later block of a sequence, are the block's own functions of what it is given. -/

noncomputable section

namespace Cert.Mix

open Cert.KernelIdeal Cert.KernelIdeal.Gen Idealize.ShloMosaic

/-- The arrays a later block reads. -/
structure PkL where
  x0 : Vec Ideal S1x256x1024 .f32
  x1 : Vec Ideal S1x1024 .f32
  x2 : Vec Ideal S1024x1024 .bf16
  x3 : Vec Ideal S1024x1024 .bf16
  x4 : Vec Ideal S1024x1024 .bf16
  x5 : Vec Ideal S1024x1536 .bf16
  x6 : Vec Ideal S1024x128 .bf16
  x7 : Vec Ideal S4x1024 .f32
  x8 : Vec Ideal S1x1024 .f32
  x9 : Vec Ideal S4x256x512 .bf16
  x10 : Vec Ideal S1x1024 .f32
  x11 : Vec Ideal S1x1024 .f32
  x12 : Vec Ideal S1x1024 .f32
  x13 : Vec Ideal S1x1024 .f32
  x14 : Vec Ideal S4x1536 .f32
  x15 : Vec Ideal S1x1536 .f32
  x16 : Vec Ideal S1x128 .f32
  x17 : Vec Ideal S1x128 .f32
  x18 : Vec Ideal S1x1024 .f32
  x19 : Vec Ideal S1x1024 .f32
  x20 : Vec Ideal S1024x1024 .bf16
  x21 : Vec Ideal S1024x1024 .bf16
  x22 : Vec Ideal S1x1024 .f32
  xs0 : Vec Ideal S264x1024 .f32
  xs1 : Vec Ideal S264x1536 .f32
  xs2 : Vec Ideal S8x1024 .f32
  xs3 : Vec Ideal S8x128x128 .f32

/-- What such a block is given. -/
def laterB (q : PkL) : Blk :=
  ⟨q.x0, q.x1, q.x2, q.x3, q.x4, q.x5, q.x6, q.x7, q.x8, q.x9, q.x10, q.x11, q.x12, q.x13, q.x14, q.x15, q.x16, q.x17, q.x18, q.x19, q.x20, q.x21, q.x22, k0_pay6 (View.ld q.xs0 (Rect.unit ![256, 0] S8x1024.size inb_S264x1024_S8x1024_256_0)), k0_pay7 (View.ld q.xs1 (Rect.unit ![256, 0] S8x1536.size inb_S264x1536_S8x1536_256_0)), q.xs2, q.xs3⟩

variable (c : Dev nD) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1536 .bf16) (harg7 : arg7.IsWhole) (arg8 : Memref sig .tc .vmem S1024x128 .bf16) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x1536 .f32) (harg16 : arg16.IsWhole) (arg17 : Memref sig .tc .vmem S1x1536 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1x1024 .f32) (harg24 : arg24.IsWhole) (arg25 : Memref sig .tc .vmem S1x256x1024 .f32) (harg25 : arg25.IsWhole) (arg26 : Memref sig .tc .vmem S264x1024 .f32) (harg26 : arg26.IsWhole) (arg27 : Memref sig .tc .vmem S264x1536 .f32) (harg27 : arg27.IsWhole) (arg28 : Memref sig .tc .vmem S8x1024 .f32) (harg28 : arg28.IsWhole) (arg29 : Memref sig .tc .vmem S8x128x128 .f32) (harg29 : arg29.IsWhole) (q : PkL)

theorem l_cst_72 :
    runLater.sl.cst_72 (F := Ideal)  = R_cst_72 (laterB q) := rfl

theorem l_HS0_2 :
    runLater.sl.HS0_2 (F := Ideal) c arg2 harg2 arg3 harg3 arg4 harg4 arg26 harg26 q.x0 q.x1 q.x2 q.xs0 = R_HS0_2 (laterB q) := by
  unfold runLater.sl.HS0_2 R_HS0_2
  (try simp only [View.readAt_eq_ld, Memref.IsWhole.read_unread]) <;> rfl

theorem l_v46 :
    runLater.sl.v46 (F := Ideal) c arg2 harg2 arg3 harg3 arg4 harg4 arg26 harg26 q.x0 q.x1 q.x2 q.xs0 = R_v46 (laterB q) := by
  unfold runLater.sl.v46 R_v46
  rw [View.readCov_eq_canon', l_HS0_2] <;> rfl

theorem l_v53 :
    runLater.sl.v53 (F := Ideal) c arg2 harg2 arg3 harg3 arg4 harg4 arg26 harg26 q.x0 q.x1 q.x2 q.xs0 = R_v53 (laterB q) := by
  unfold runLater.sl.v53 R_v53
  rw [View.readCov_eq_canon', l_HS0_2] <;> rfl

theorem l_v59 :
    runLater.sl.v59 (F := Ideal) c arg2 harg2 arg3 harg3 arg4 harg4 arg26 harg26 q.x0 q.x1 q.x2 q.xs0 = R_v59 (laterB q) := by
  unfold runLater.sl.v59 R_v59
  rw [View.readCov_eq_canon', l_HS0_2] <;> rfl

theorem l_r_6 :
    runLater.sl.r_6 (F := Ideal) c arg2 harg2 arg3 harg3 arg4 harg4 arg9 harg9 arg10 harg10 arg26 harg26 q.x0 q.x1 q.x2 q.x7 q.x8 q.xs0 = R_r_6 (laterB q) := by
  unfold runLater.sl.r_6 R_r_6
  (try simp only [l_v46, l_v53, l_v59, View.readAt_eq_ld, Memref.IsWhole.read_unread]) <;> rfl

theorem l_v65 :
    runLater.sl.v65 (F := Ideal) c arg2 harg2 arg3 harg3 arg4 harg4 arg26 harg26 q.x0 q.x1 q.x2 q.xs0 = R_v65 (laterB q) := by
  unfold runLater.sl.v65 R_v65
  rw [View.readCov_eq_canon', l_HS0_2] <;> rfl

theorem l_r_9 :
    runLater.sl.r_9 (F := Ideal) c arg2 harg2 arg3 harg3 arg4 harg4 arg9 harg9 arg10 harg10 arg11 harg11 arg12 harg12 arg26 harg26 q.x0 q.x1 q.x2 q.x7 q.x8 q.x9 q.x10 q.xs0 = R_r_9 (laterB q) := by
  unfold runLater.sl.r_9 R_r_9
  (try simp only [l_r_6, l_v65, View.readAt_eq_ld, Memref.IsWhole.read_unread]) <;> rfl

theorem l_r_12 :
    runLater.sl.r_12 (F := Ideal) c arg2 harg2 arg3 harg3 arg4 harg4 arg9 harg9 arg10 harg10 arg11 harg11 arg12 harg12 arg14 harg14 arg26 harg26 q.x0 q.x1 q.x2 q.x7 q.x8 q.x9 q.x10 q.x12 q.xs0 = R_r_12 (laterB q) := by
  unfold runLater.sl.r_12 R_r_12
  (try simp only [l_r_9, View.readAt_eq_ld, Memref.IsWhole.read_unread]) <;> rfl

theorem l_r_13 :
    runLater.sl.r_13 (F := Ideal) c arg2 harg2 arg3 harg3 arg4 harg4 arg9 harg9 arg10 harg10 arg11 harg11 arg12 harg12 arg14 harg14 arg26 harg26 q.x0 q.x1 q.x2 q.x7 q.x8 q.x9 q.x10 q.x12 q.xs0 = R_r_13 (laterB q) := by
  unfold runLater.sl.r_13 R_r_13
  (try simp only [l_r_9, View.readAt_eq_ld, Memref.IsWhole.read_unread]) <;> rfl

theorem l_r_10 :
    runLater.sl.r_10 (F := Ideal) c arg13 harg13 q.x11 = R_r_10 (laterB q) := by
  unfold runLater.sl.r_10 R_r_10
  (try simp only [View.readAt_eq_ld, Memref.IsWhole.read_unread]) <;> rfl

theorem l_r_7 :
    runLater.sl.r_7 (F := Ideal) c arg2 harg2 arg3 harg3 arg4 harg4 arg9 harg9 arg10 harg10 arg26 harg26 q.x0 q.x1 q.x2 q.x7 q.x8 q.xs0 = R_r_7 (laterB q) := by
  unfold runLater.sl.r_7 R_r_7
  (try simp only [l_r_6, l_v65, View.readAt_eq_ld, Memref.IsWhole.read_unread]) <;> rfl

theorem l_r_8 :
    runLater.sl.r_8 (F := Ideal) c arg2 harg2 arg3 harg3 arg4 harg4 arg9 harg9 arg10 harg10 arg11 harg11 arg26 harg26 q.x0 q.x1 q.x2 q.x7 q.x8 q.x9 q.xs0 = R_r_8 (laterB q) := by
  unfold runLater.sl.r_8 R_r_8
  (try simp only [l_r_6, l_v65, View.readAt_eq_ld, Memref.IsWhole.read_unread]) <;> rfl

theorem l_r_14 :
    runLater.sl.r_14 (F := Ideal) c arg2 harg2 arg3 harg3 arg4 harg4 arg9 harg9 arg10 harg10 arg11 harg11 arg12 harg12 arg13 harg13 arg14 harg14 arg26 harg26 q.x0 q.x1 q.x2 q.x7 q.x8 q.x9 q.x10 q.x11 q.x12 q.xs0 = R_r_14 (laterB q) := by
  unfold runLater.sl.r_14 R_r_14
  (try simp only [l_r_10, l_r_7, l_r_8, l_r_9, View.readAt_eq_ld, Memref.IsWhole.read_unread]) <;> rfl

theorem l_v138 :
    runLater.sl.v138   = R_v138 (laterB q) := rfl

theorem l_r_15 :
    runLater.sl.r_15 (F := Ideal) c arg2 harg2 arg3 harg3 arg4 harg4 arg9 harg9 arg10 harg10 arg11 harg11 arg12 harg12 arg13 harg13 arg14 harg14 arg26 harg26 q.x0 q.x1 q.x2 q.x7 q.x8 q.x9 q.x10 q.x11 q.x12 q.xs0 = R_r_15 (laterB q) := by
  unfold runLater.sl.r_15 R_r_15
  (try simp only [l_cst_72, l_r_12, l_r_13, l_r_14, l_v138, View.readAt_eq_ld, Memref.IsWhole.read_unread]) <;> rfl

theorem l_r_28 :
    runLater.sl.r_28 (F := Ideal) c arg2 harg2 arg3 harg3 arg4 harg4 arg9 harg9 arg10 harg10 arg11 harg11 arg12 harg12 arg13 harg13 arg14 harg14 arg26 harg26 q.x0 q.x1 q.x2 q.x7 q.x8 q.x9 q.x10 q.x11 q.x12 q.xs0 = R_r_28 (laterB q) := by
  unfold runLater.sl.r_28 R_r_28
  (try simp only [l_r_15, View.readAt_eq_ld, Memref.IsWhole.read_unread]) <;> rfl

theorem l_r_59 :
    runLater.sl.r_59 (F := Ideal) c arg17 harg17 q.x15 = R_r_59 (laterB q) := by
  unfold runLater.sl.r_59 R_r_59
  (try simp only [View.readAt_eq_ld, Memref.IsWhole.read_unread]) <;> rfl

theorem l_HS1_1 :
    runLater.sl.HS1_1 (F := Ideal) c arg27 harg27 q.xs1 = R_HS1_1 (laterB q) := by
  unfold runLater.sl.HS1_1 R_HS1_1
  (try simp only [View.readAt_eq_ld, Memref.IsWhole.read_unread]) <;> rfl

theorem l_r_2 :
    runLater.sl.r_2 (F := Ideal) c arg2 harg2 arg3 harg3 arg7 harg7 q.x0 q.x1 q.x5 = R_r_2 (laterB q) := by
  unfold runLater.sl.r_2 R_r_2
  (try simp only [View.readAt_eq_ld, Memref.IsWhole.read_unread]) <;> rfl

theorem l_HS1_2 :
    runLater.sl.HS1_2 (F := Ideal) c arg2 harg2 arg3 harg3 arg7 harg7 arg27 harg27 q.x0 q.x1 q.x5 q.xs1 = R_HS1_2 (laterB q) := by
  unfold runLater.sl.HS1_2 R_HS1_2
  (try simp only [l_HS1_1, l_r_2, View.readAt_eq_ld, Memref.IsWhole.read_unread]) <;> rfl

theorem l_v477 :
    runLater.sl.v477 (F := Ideal) c arg2 harg2 arg3 harg3 arg7 harg7 arg27 harg27 q.x0 q.x1 q.x5 q.xs1 = R_v477 (laterB q) := by
  unfold runLater.sl.v477 R_v477
  rw [View.readCov_eq_canon', l_HS1_2] <;> rfl

theorem l_r_60 :
    runLater.sl.r_60 (F := Ideal) c arg2 harg2 arg3 harg3 arg7 harg7 arg16 harg16 arg27 harg27 q.x0 q.x1 q.x5 q.x14 q.xs1 = R_r_60 (laterB q) := by
  unfold runLater.sl.r_60 R_r_60
  (try simp only [l_v477, View.readAt_eq_ld, Memref.IsWhole.read_unread]) <;> rfl

theorem l_v484 :
    runLater.sl.v484 (F := Ideal) c arg2 harg2 arg3 harg3 arg7 harg7 arg27 harg27 q.x0 q.x1 q.x5 q.xs1 = R_v484 (laterB q) := by
  unfold runLater.sl.v484 R_v484
  rw [View.readCov_eq_canon', l_HS1_2] <;> rfl

theorem l_v490 :
    runLater.sl.v490 (F := Ideal) c arg2 harg2 arg3 harg3 arg7 harg7 arg27 harg27 q.x0 q.x1 q.x5 q.xs1 = R_v490 (laterB q) := by
  unfold runLater.sl.v490 R_v490
  rw [View.readCov_eq_canon', l_HS1_2] <;> rfl

theorem l_v496 :
    runLater.sl.v496 (F := Ideal) c arg2 harg2 arg3 harg3 arg7 harg7 arg27 harg27 q.x0 q.x1 q.x5 q.xs1 = R_v496 (laterB q) := by
  unfold runLater.sl.v496 R_v496
  rw [View.readCov_eq_canon', l_HS1_2] <;> rfl

theorem l_r_62 :
    runLater.sl.r_62 (F := Ideal) c arg2 harg2 arg3 harg3 arg7 harg7 arg16 harg16 arg17 harg17 arg27 harg27 q.x0 q.x1 q.x5 q.x14 q.x15 q.xs1 = R_r_62 (laterB q) := by
  unfold runLater.sl.r_62 R_r_62
  (try simp only [l_r_59, l_r_60, l_v484, l_v490, l_v496, View.readAt_eq_ld, Memref.IsWhole.read_unread]) <;> rfl

theorem l_r_117 :
    runLater.sl.r_117 (F := Ideal) c arg2 harg2 arg3 harg3 arg7 harg7 arg16 harg16 arg17 harg17 arg27 harg27 q.x0 q.x1 q.x5 q.x14 q.x15 q.xs1 = R_r_117 (laterB q) := by
  unfold runLater.sl.r_117 R_r_117
  (try simp only [l_r_62, View.readAt_eq_ld, Memref.IsWhole.read_unread]) <;> rfl

theorem l_r_61 :
    runLater.sl.r_61 (F := Ideal) c arg2 harg2 arg3 harg3 arg7 harg7 arg16 harg16 arg17 harg17 arg27 harg27 q.x0 q.x1 q.x5 q.x14 q.x15 q.xs1 = R_r_61 (laterB q) := by
  unfold runLater.sl.r_61 R_r_61
  (try simp only [l_r_59, l_r_60, l_v484, l_v490, l_v496, View.readAt_eq_ld, Memref.IsWhole.read_unread]) <;> rfl

theorem l_r_71 :
    runLater.sl.r_71 (F := Ideal) c arg2 harg2 arg3 harg3 arg7 harg7 arg16 harg16 arg17 harg17 arg27 harg27 q.x0 q.x1 q.x5 q.x14 q.x15 q.xs1 = R_r_71 (laterB q) := by
  unfold runLater.sl.r_71 R_r_71
  (try simp only [l_r_61, View.readAt_eq_ld, Memref.IsWhole.read_unread]) <;> rfl

theorem l_r_148 :
    runLater.sl.r_148 (F := Ideal) c arg2 harg2 arg3 harg3 arg7 harg7 arg16 harg16 arg17 harg17 arg27 harg27 q.x0 q.x1 q.x5 q.x14 q.x15 q.xs1 = R_r_148 (laterB q) := by
  unfold runLater.sl.r_148 R_r_148
  (try simp only [l_r_71, View.readAt_eq_ld, Memref.IsWhole.read_unread]) <;> rfl

theorem l_r_149 :
    runLater.sl.r_149 (F := Ideal) c arg2 harg2 arg3 harg3 arg7 harg7 arg16 harg16 arg17 harg17 arg27 harg27 q.x0 q.x1 q.x5 q.x14 q.x15 q.xs1 = R_r_149 (laterB q) := by
  unfold runLater.sl.r_149 R_r_149
  (try simp only [l_r_71, View.readAt_eq_ld, Memref.IsWhole.read_unread]) <;> rfl

theorem l_v1146 :
    runLater.sl.v1146 (F := Ideal) c arg29 harg29 q.xs3 = R_v1146 (laterB q) := by
  unfold runLater.sl.v1146 R_v1146
  (try simp only [View.readAt_eq_ld, Memref.IsWhole.read_unread]) <;> rfl

theorem l_r_150 :
    runLater.sl.r_150 (F := Ideal) c arg29 harg29 q.xs3 = R_r_150 (laterB q) := by
  unfold runLater.sl.r_150 R_r_150
  (try simp only [l_v1146, View.readAt_eq_ld, Memref.IsWhole.read_unread]) <;> rfl

theorem l_r_1 :
    runLater.sl.r_1 (F := Ideal) c arg2 harg2 arg3 harg3 q.x0 q.x1 = R_r_1 (laterB q) := by
  unfold runLater.sl.r_1 R_r_1
  (try simp only [View.readAt_eq_ld, Memref.IsWhole.read_unread]) <;> rfl

theorem l_r_5 :
    runLater.sl.r_5 (F := Ideal) c arg2 harg2 arg3 harg3 arg8 harg8 q.x0 q.x1 q.x6 = R_r_5 (laterB q) := by
  unfold runLater.sl.r_5 R_r_5
  (try simp only [l_r_1, View.readAt_eq_ld, Memref.IsWhole.read_unread]) <;> rfl

theorem l_r_64 :
    runLater.sl.r_64 (F := Ideal) c arg2 harg2 arg3 harg3 arg8 harg8 arg18 harg18 q.x0 q.x1 q.x6 q.x16 = R_r_64 (laterB q) := by
  unfold runLater.sl.r_64 R_r_64
  (try simp only [l_r_5, View.readAt_eq_ld, Memref.IsWhole.read_unread]) <;> rfl

theorem l_r_65 :
    runLater.sl.r_65 (F := Ideal) c arg19 harg19 q.x17 = R_r_65 (laterB q) := by
  unfold runLater.sl.r_65 R_r_65
  (try simp only [View.readAt_eq_ld, Memref.IsWhole.read_unread]) <;> rfl

theorem l_r_70 :
    runLater.sl.r_70 (F := Ideal) c arg2 harg2 arg3 harg3 arg8 harg8 arg18 harg18 arg19 harg19 q.x0 q.x1 q.x6 q.x16 q.x17 = R_r_70 (laterB q) := by
  unfold runLater.sl.r_70 R_r_70
  (try simp only [l_r_64, l_r_65, View.readAt_eq_ld, Memref.IsWhole.read_unread]) <;> rfl

theorem l_r_155 :
    runLater.sl.r_155 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_155 (laterB q) := by
  unfold runLater.sl.r_155 R_r_155
  (try simp only [l_r_117, l_r_70, View.readAt_eq_ld, Memref.IsWhole.read_unread]) <;> rfl

theorem l_r_67 :
    runLater.sl.r_67 (F := Ideal) c arg2 harg2 arg3 harg3 arg8 harg8 arg18 harg18 arg19 harg19 q.x0 q.x1 q.x6 q.x16 q.x17 = R_r_67 (laterB q) := by
  unfold runLater.sl.r_67 R_r_67
  (try simp only [l_r_64, l_r_65, View.readAt_eq_ld, Memref.IsWhole.read_unread]) <;> rfl

theorem l_r_156 :
    runLater.sl.r_156 (F := Ideal) c arg2 harg2 arg3 harg3 arg8 harg8 arg18 harg18 arg19 harg19 q.x0 q.x1 q.x6 q.x16 q.x17 = R_r_156 (laterB q) := by
  unfold runLater.sl.r_156 R_r_156
  (try simp only [l_r_67, View.readAt_eq_ld, Memref.IsWhole.read_unread]) <;> rfl

theorem l_r_157 :
    runLater.sl.r_157 (F := Ideal) c arg2 harg2 arg3 harg3 arg8 harg8 arg18 harg18 arg19 harg19 q.x0 q.x1 q.x6 q.x16 q.x17 = R_r_157 (laterB q) := by
  unfold runLater.sl.r_157 R_r_157
  (try simp only [l_r_67, View.readAt_eq_ld, Memref.IsWhole.read_unread]) <;> rfl

theorem l_r_141 :
    runLater.sl.r_141 (F := Ideal) c arg2 harg2 arg3 harg3 arg7 harg7 arg16 harg16 arg17 harg17 arg27 harg27 q.x0 q.x1 q.x5 q.x14 q.x15 q.xs1 = R_r_141 (laterB q) := by
  unfold runLater.sl.r_141 R_r_141
  (try simp only [l_r_71, View.readAt_eq_ld, Memref.IsWhole.read_unread]) <;> rfl

theorem l_r_142 :
    runLater.sl.r_142 (F := Ideal) c arg2 harg2 arg3 harg3 arg7 harg7 arg16 harg16 arg17 harg17 arg27 harg27 q.x0 q.x1 q.x5 q.x14 q.x15 q.xs1 = R_r_142 (laterB q) := by
  unfold runLater.sl.r_142 R_r_142
  (try simp only [l_r_71, View.readAt_eq_ld, Memref.IsWhole.read_unread]) <;> rfl

theorem l_v1066 :
    runLater.sl.v1066 (F := Ideal) c arg29 harg29 q.xs3 = R_v1066 (laterB q) := by
  unfold runLater.sl.v1066 R_v1066
  (try simp only [View.readAt_eq_ld, Memref.IsWhole.read_unread]) <;> rfl

theorem l_r_143 :
    runLater.sl.r_143 (F := Ideal) c arg29 harg29 q.xs3 = R_r_143 (laterB q) := by
  unfold runLater.sl.r_143 R_r_143
  (try simp only [l_v1066, View.readAt_eq_ld, Memref.IsWhole.read_unread]) <;> rfl

theorem l_r_147 :
    runLater.sl.r_147 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_147 (laterB q) := by
  unfold runLater.sl.r_147 R_r_147
  (try simp only [l_r_117, l_r_141, l_r_142, l_r_143, l_r_67, l_r_70, View.readAt_eq_ld, Memref.IsWhole.read_unread]) <;> rfl

theorem l_r_127 :
    runLater.sl.r_127 (F := Ideal) c arg2 harg2 arg3 harg3 arg7 harg7 arg16 harg16 arg17 harg17 arg27 harg27 q.x0 q.x1 q.x5 q.x14 q.x15 q.xs1 = R_r_127 (laterB q) := by
  unfold runLater.sl.r_127 R_r_127
  (try simp only [l_r_71, View.readAt_eq_ld, Memref.IsWhole.read_unread]) <;> rfl

theorem l_r_128 :
    runLater.sl.r_128 (F := Ideal) c arg2 harg2 arg3 harg3 arg7 harg7 arg16 harg16 arg17 harg17 arg27 harg27 q.x0 q.x1 q.x5 q.x14 q.x15 q.xs1 = R_r_128 (laterB q) := by
  unfold runLater.sl.r_128 R_r_128
  (try simp only [l_r_127, View.readAt_eq_ld, Memref.IsWhole.read_unread]) <;> rfl

theorem l_r_129 :
    runLater.sl.r_129 (F := Ideal) c arg2 harg2 arg3 harg3 arg7 harg7 arg16 harg16 arg17 harg17 arg27 harg27 q.x0 q.x1 q.x5 q.x14 q.x15 q.xs1 = R_r_129 (laterB q) := by
  unfold runLater.sl.r_129 R_r_129
  (try simp only [l_r_127, View.readAt_eq_ld, Memref.IsWhole.read_unread]) <;> rfl

theorem l_v986 :
    runLater.sl.v986 (F := Ideal) c arg29 harg29 q.xs3 = R_v986 (laterB q) := by
  unfold runLater.sl.v986 R_v986
  (try simp only [View.readAt_eq_ld, Memref.IsWhole.read_unread]) <;> rfl

theorem l_r_130 :
    runLater.sl.r_130 (F := Ideal) c arg29 harg29 q.xs3 = R_r_130 (laterB q) := by
  unfold runLater.sl.r_130 R_r_130
  (try simp only [l_v986, View.readAt_eq_ld, Memref.IsWhole.read_unread]) <;> rfl

theorem l_r_135 :
    runLater.sl.r_135 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_135 (laterB q) := by
  unfold runLater.sl.r_135 R_r_135
  (try simp only [l_r_117, l_r_70, View.readAt_eq_ld, Memref.IsWhole.read_unread]) <;> rfl

theorem l_r_136 :
    runLater.sl.r_136 (F := Ideal) c arg2 harg2 arg3 harg3 arg8 harg8 arg18 harg18 arg19 harg19 q.x0 q.x1 q.x6 q.x16 q.x17 = R_r_136 (laterB q) := by
  unfold runLater.sl.r_136 R_r_136
  (try simp only [l_r_67, View.readAt_eq_ld, Memref.IsWhole.read_unread]) <;> rfl

theorem l_r_137 :
    runLater.sl.r_137 (F := Ideal) c arg2 harg2 arg3 harg3 arg8 harg8 arg18 harg18 arg19 harg19 q.x0 q.x1 q.x6 q.x16 q.x17 = R_r_137 (laterB q) := by
  unfold runLater.sl.r_137 R_r_137
  (try simp only [l_r_67, View.readAt_eq_ld, Memref.IsWhole.read_unread]) <;> rfl

theorem l_r_119 :
    runLater.sl.r_119 (F := Ideal) c arg2 harg2 arg3 harg3 arg7 harg7 arg16 harg16 arg17 harg17 arg27 harg27 q.x0 q.x1 q.x5 q.x14 q.x15 q.xs1 = R_r_119 (laterB q) := by
  unfold runLater.sl.r_119 R_r_119
  (try simp only [l_r_71, View.readAt_eq_ld, Memref.IsWhole.read_unread]) <;> rfl

theorem l_r_120 :
    runLater.sl.r_120 (F := Ideal) c arg2 harg2 arg3 harg3 arg7 harg7 arg16 harg16 arg17 harg17 arg27 harg27 q.x0 q.x1 q.x5 q.x14 q.x15 q.xs1 = R_r_120 (laterB q) := by
  unfold runLater.sl.r_120 R_r_120
  (try simp only [l_r_71, View.readAt_eq_ld, Memref.IsWhole.read_unread]) <;> rfl

theorem l_v906 :
    runLater.sl.v906 (F := Ideal) c arg29 harg29 q.xs3 = R_v906 (laterB q) := by
  unfold runLater.sl.v906 R_v906
  (try simp only [View.readAt_eq_ld, Memref.IsWhole.read_unread]) <;> rfl

theorem l_r_121 :
    runLater.sl.r_121 (F := Ideal) c arg29 harg29 q.xs3 = R_r_121 (laterB q) := by
  unfold runLater.sl.r_121 R_r_121
  (try simp only [l_v906, View.readAt_eq_ld, Memref.IsWhole.read_unread]) <;> rfl

theorem l_r_124 :
    runLater.sl.r_124 (F := Ideal) c arg2 harg2 arg3 harg3 arg8 harg8 arg18 harg18 arg19 harg19 q.x0 q.x1 q.x6 q.x16 q.x17 = R_r_124 (laterB q) := by
  unfold runLater.sl.r_124 R_r_124
  (try simp only [l_r_67, View.readAt_eq_ld, Memref.IsWhole.read_unread]) <;> rfl

theorem l_v820 :
    runLater.sl.v820 (F := Ideal) c arg29 harg29 q.xs3 = R_v820 (laterB q) := by
  unfold runLater.sl.v820 R_v820
  (try simp only [View.readAt_eq_ld, Memref.IsWhole.read_unread]) <;> rfl

theorem l_r_110 :
    runLater.sl.r_110 (F := Ideal) c arg29 harg29 q.xs3 = R_r_110 (laterB q) := by
  unfold runLater.sl.r_110 R_r_110
  (try simp only [l_v820, View.readAt_eq_ld, Memref.IsWhole.read_unread]) <;> rfl

theorem l_r_111 :
    runLater.sl.r_111 (F := Ideal) c arg2 harg2 arg3 harg3 arg8 harg8 arg18 harg18 arg19 harg19 q.x0 q.x1 q.x6 q.x16 q.x17 = R_r_111 (laterB q) := by
  unfold runLater.sl.r_111 R_r_111
  (try simp only [l_r_67, View.readAt_eq_ld, Memref.IsWhole.read_unread]) <;> rfl

theorem l_r_112 :
    runLater.sl.r_112 (F := Ideal) c arg2 harg2 arg3 harg3 arg8 harg8 arg18 harg18 arg19 harg19 q.x0 q.x1 q.x6 q.x16 q.x17 = R_r_112 (laterB q) := by
  unfold runLater.sl.r_112 R_r_112
  (try simp only [l_r_67, View.readAt_eq_ld, Memref.IsWhole.read_unread]) <;> rfl

theorem l_r_73 :
    runLater.sl.r_73 (F := Ideal) c arg2 harg2 arg3 harg3 arg7 harg7 arg16 harg16 arg17 harg17 arg27 harg27 q.x0 q.x1 q.x5 q.x14 q.x15 q.xs1 = R_r_73 (laterB q) := by
  unfold runLater.sl.r_73 R_r_73
  (try simp only [l_r_62, View.readAt_eq_ld, Memref.IsWhole.read_unread]) <;> rfl

theorem l_r_114 :
    runLater.sl.r_114 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_114 (laterB q) := by
  unfold runLater.sl.r_114 R_r_114
  (try simp only [l_r_70, l_r_73, View.readAt_eq_ld, Memref.IsWhole.read_unread]) <;> rfl

theorem l_r_108 :
    runLater.sl.r_108 (F := Ideal) c arg2 harg2 arg3 harg3 arg7 harg7 arg16 harg16 arg17 harg17 arg27 harg27 q.x0 q.x1 q.x5 q.x14 q.x15 q.xs1 = R_r_108 (laterB q) := by
  unfold runLater.sl.r_108 R_r_108
  (try simp only [l_r_71, View.readAt_eq_ld, Memref.IsWhole.read_unread]) <;> rfl

theorem l_r_109 :
    runLater.sl.r_109 (F := Ideal) c arg2 harg2 arg3 harg3 arg7 harg7 arg16 harg16 arg17 harg17 arg27 harg27 q.x0 q.x1 q.x5 q.x14 q.x15 q.xs1 = R_r_109 (laterB q) := by
  unfold runLater.sl.r_109 R_r_109
  (try simp only [l_r_71, View.readAt_eq_ld, Memref.IsWhole.read_unread]) <;> rfl

theorem l_r_115 :
    runLater.sl.r_115 (F := Ideal) c arg2 harg2 arg3 harg3 arg7 harg7 arg16 harg16 arg17 harg17 arg27 harg27 q.x0 q.x1 q.x5 q.x14 q.x15 q.xs1 = R_r_115 (laterB q) := by
  unfold runLater.sl.r_115 R_r_115
  (try simp only [l_r_108, l_r_109, View.readAt_eq_ld, Memref.IsWhole.read_unread]) <;> rfl

theorem l_r_103 :
    runLater.sl.r_103 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_103 (laterB q) := by
  unfold runLater.sl.r_103 R_r_103
  (try simp only [l_r_70, l_r_73, View.readAt_eq_ld, Memref.IsWhole.read_unread]) <;> rfl

theorem l_r_104 :
    runLater.sl.r_104 (F := Ideal) c arg2 harg2 arg3 harg3 arg8 harg8 arg18 harg18 arg19 harg19 q.x0 q.x1 q.x6 q.x16 q.x17 = R_r_104 (laterB q) := by
  unfold runLater.sl.r_104 R_r_104
  (try simp only [l_r_67, View.readAt_eq_ld, Memref.IsWhole.read_unread]) <;> rfl

theorem l_r_105 :
    runLater.sl.r_105 (F := Ideal) c arg2 harg2 arg3 harg3 arg8 harg8 arg18 harg18 arg19 harg19 q.x0 q.x1 q.x6 q.x16 q.x17 = R_r_105 (laterB q) := by
  unfold runLater.sl.r_105 R_r_105
  (try simp only [l_r_67, View.readAt_eq_ld, Memref.IsWhole.read_unread]) <;> rfl

theorem l_r_96 :
    runLater.sl.r_96 (F := Ideal) c arg2 harg2 arg3 harg3 arg7 harg7 arg16 harg16 arg17 harg17 arg27 harg27 q.x0 q.x1 q.x5 q.x14 q.x15 q.xs1 = R_r_96 (laterB q) := by
  unfold runLater.sl.r_96 R_r_96
  (try simp only [l_r_71, View.readAt_eq_ld, Memref.IsWhole.read_unread]) <;> rfl

theorem l_r_97 :
    runLater.sl.r_97 (F := Ideal) c arg2 harg2 arg3 harg3 arg7 harg7 arg16 harg16 arg17 harg17 arg27 harg27 q.x0 q.x1 q.x5 q.x14 q.x15 q.xs1 = R_r_97 (laterB q) := by
  unfold runLater.sl.r_97 R_r_97
  (try simp only [l_r_71, View.readAt_eq_ld, Memref.IsWhole.read_unread]) <;> rfl

theorem l_v740 :
    runLater.sl.v740 (F := Ideal) c arg29 harg29 q.xs3 = R_v740 (laterB q) := by
  unfold runLater.sl.v740 R_v740
  (try simp only [View.readAt_eq_ld, Memref.IsWhole.read_unread]) <;> rfl

theorem l_r_98 :
    runLater.sl.r_98 (F := Ideal) c arg29 harg29 q.xs3 = R_r_98 (laterB q) := by
  unfold runLater.sl.r_98 R_r_98
  (try simp only [l_v740, View.readAt_eq_ld, Memref.IsWhole.read_unread]) <;> rfl

theorem l_r_88 :
    runLater.sl.r_88 (F := Ideal) c arg2 harg2 arg3 harg3 arg7 harg7 arg16 harg16 arg17 harg17 arg27 harg27 q.x0 q.x1 q.x5 q.x14 q.x15 q.xs1 = R_r_88 (laterB q) := by
  unfold runLater.sl.r_88 R_r_88
  (try simp only [l_r_71, View.readAt_eq_ld, Memref.IsWhole.read_unread]) <;> rfl

theorem l_r_89 :
    runLater.sl.r_89 (F := Ideal) c arg2 harg2 arg3 harg3 arg7 harg7 arg16 harg16 arg17 harg17 arg27 harg27 q.x0 q.x1 q.x5 q.x14 q.x15 q.xs1 = R_r_89 (laterB q) := by
  unfold runLater.sl.r_89 R_r_89
  (try simp only [l_r_71, View.readAt_eq_ld, Memref.IsWhole.read_unread]) <;> rfl

theorem l_v660 :
    runLater.sl.v660 (F := Ideal) c arg29 harg29 q.xs3 = R_v660 (laterB q) := by
  unfold runLater.sl.v660 R_v660
  (try simp only [View.readAt_eq_ld, Memref.IsWhole.read_unread]) <;> rfl

theorem l_r_90 :
    runLater.sl.r_90 (F := Ideal) c arg29 harg29 q.xs3 = R_r_90 (laterB q) := by
  unfold runLater.sl.r_90 R_r_90
  (try simp only [l_v660, View.readAt_eq_ld, Memref.IsWhole.read_unread]) <;> rfl

theorem l_r_93 :
    runLater.sl.r_93 (F := Ideal) c arg2 harg2 arg3 harg3 arg8 harg8 arg18 harg18 arg19 harg19 q.x0 q.x1 q.x6 q.x16 q.x17 = R_r_93 (laterB q) := by
  unfold runLater.sl.r_93 R_r_93
  (try simp only [l_r_67, View.readAt_eq_ld, Memref.IsWhole.read_unread]) <;> rfl

theorem l_r_95 :
    runLater.sl.r_95 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_95 (laterB q) := by
  unfold runLater.sl.r_95 R_r_95
  (try simp only [l_r_67, l_r_70, l_r_73, l_r_88, l_r_89, l_r_90, l_r_93, View.readAt_eq_ld, Memref.IsWhole.read_unread]) <;> rfl

theorem l_r_76 :
    runLater.sl.r_76 (F := Ideal) c arg2 harg2 arg3 harg3 arg7 harg7 arg16 harg16 arg17 harg17 arg27 harg27 q.x0 q.x1 q.x5 q.x14 q.x15 q.xs1 = R_r_76 (laterB q) := by
  unfold runLater.sl.r_76 R_r_76
  (try simp only [l_r_61, View.readAt_eq_ld, Memref.IsWhole.read_unread]) <;> rfl

theorem l_r_75 :
    runLater.sl.r_75 (F := Ideal) c arg2 harg2 arg3 harg3 arg7 harg7 arg16 harg16 arg17 harg17 arg27 harg27 q.x0 q.x1 q.x5 q.x14 q.x15 q.xs1 = R_r_75 (laterB q) := by
  unfold runLater.sl.r_75 R_r_75
  (try simp only [l_r_61, View.readAt_eq_ld, Memref.IsWhole.read_unread]) <;> rfl

theorem l_r_77 :
    runLater.sl.r_77 (F := Ideal) c arg2 harg2 arg3 harg3 arg7 harg7 arg16 harg16 arg17 harg17 arg27 harg27 q.x0 q.x1 q.x5 q.x14 q.x15 q.xs1 = R_r_77 (laterB q) := by
  unfold runLater.sl.r_77 R_r_77
  (try simp only [l_r_75, View.readAt_eq_ld, Memref.IsWhole.read_unread]) <;> rfl

theorem l_r_78 :
    runLater.sl.r_78 (F := Ideal) c arg29 harg29 q.xs3 = R_r_78 (laterB q) := by
  unfold runLater.sl.r_78 R_r_78
  (try simp only [View.readAt_eq_ld, Memref.IsWhole.read_unread]) <;> rfl

theorem l_r_83 :
    runLater.sl.r_83 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_83 (laterB q) := by
  unfold runLater.sl.r_83 R_r_83
  (try simp only [l_r_70, l_r_73, View.readAt_eq_ld, Memref.IsWhole.read_unread]) <;> rfl

theorem l_r_84 :
    runLater.sl.r_84 (F := Ideal) c arg2 harg2 arg3 harg3 arg8 harg8 arg18 harg18 arg19 harg19 q.x0 q.x1 q.x6 q.x16 q.x17 = R_r_84 (laterB q) := by
  unfold runLater.sl.r_84 R_r_84
  (try simp only [l_r_67, View.readAt_eq_ld, Memref.IsWhole.read_unread]) <;> rfl

theorem l_r_85 :
    runLater.sl.r_85 (F := Ideal) c arg2 harg2 arg3 harg3 arg8 harg8 arg18 harg18 arg19 harg19 q.x0 q.x1 q.x6 q.x16 q.x17 = R_r_85 (laterB q) := by
  unfold runLater.sl.r_85 R_r_85
  (try simp only [l_r_67, View.readAt_eq_ld, Memref.IsWhole.read_unread]) <;> rfl

theorem l_v1256 :
    runLater.sl.v1256 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_v1256 (laterB q) := by
  unfold runLater.sl.v1256 R_v1256 R_S0_0
  unfold runLater.sl.HS3_8
  rw [View.readCov_skip]; swap; · decide
  unfold runLater.sl.HS3_7
  rw [View.readCov_skip]; swap; · decide
  unfold runLater.sl.HS3_6
  rw [View.readCov_skip]; swap; · decide
  unfold runLater.sl.HS3_5
  rw [View.readCov_skip]; swap; · decide
  unfold runLater.sl.HS3_4
  rw [View.readCov_skip]; swap; · decide
  unfold runLater.sl.HS3_3
  rw [View.readCov_skip]; swap; · decide
  unfold runLater.sl.HS3_2
  rw [View.readCov_skip]; swap; · decide
  unfold runLater.sl.HS3_1
  rw [View.readCov_cons_toLoadRect]
  (try simp only [l_r_70, l_r_73, l_r_76, l_r_77, l_r_78, l_r_83, l_r_84, l_r_85, View.readAt_eq_ld, Memref.IsWhole.read_unread]) <;> rfl

theorem l_r_165 :
    runLater.sl.r_165 (F := Ideal) c arg2 harg2 arg3 harg3 arg7 harg7 arg16 harg16 arg17 harg17 arg27 harg27 q.x0 q.x1 q.x5 q.x14 q.x15 q.xs1 = R_r_165 (laterB q) := by
  unfold runLater.sl.r_165 R_r_165
  (try simp only [l_r_61, View.readAt_eq_ld, Memref.IsWhole.read_unread]) <;> rfl

theorem l_r_177 :
    runLater.sl.r_177 (F := Ideal) c arg2 harg2 arg3 harg3 arg7 harg7 arg16 harg16 arg17 harg17 arg27 harg27 q.x0 q.x1 q.x5 q.x14 q.x15 q.xs1 = R_r_177 (laterB q) := by
  unfold runLater.sl.r_177 R_r_177
  (try simp only [l_r_165, View.readAt_eq_ld, Memref.IsWhole.read_unread]) <;> rfl

theorem l_r_66 :
    runLater.sl.r_66 (F := Ideal) c arg2 harg2 arg3 harg3 arg8 harg8 arg18 harg18 arg19 harg19 q.x0 q.x1 q.x6 q.x16 q.x17 = R_r_66 (laterB q) := by
  unfold runLater.sl.r_66 R_r_66
  (try simp only [l_r_64, l_r_65, View.readAt_eq_ld, Memref.IsWhole.read_unread]) <;> rfl

theorem l_r_160 :
    runLater.sl.r_160 (F := Ideal) c arg2 harg2 arg3 harg3 arg8 harg8 arg18 harg18 arg19 harg19 q.x0 q.x1 q.x6 q.x16 q.x17 = R_r_160 (laterB q) := by
  unfold runLater.sl.r_160 R_r_160
  (try simp only [l_r_66, View.readAt_eq_ld, Memref.IsWhole.read_unread]) <;> rfl

theorem l_r_63 :
    runLater.sl.r_63 (F := Ideal) c arg2 harg2 arg3 harg3 arg7 harg7 arg16 harg16 arg17 harg17 arg27 harg27 q.x0 q.x1 q.x5 q.x14 q.x15 q.xs1 = R_r_63 (laterB q) := by
  unfold runLater.sl.r_63 R_r_63
  (try simp only [l_r_59, l_r_60, l_v484, l_v490, l_v496, View.readAt_eq_ld, Memref.IsWhole.read_unread]) <;> rfl

theorem l_r_166 :
    runLater.sl.r_166 (F := Ideal) c arg2 harg2 arg3 harg3 arg7 harg7 arg16 harg16 arg17 harg17 arg27 harg27 q.x0 q.x1 q.x5 q.x14 q.x15 q.xs1 = R_r_166 (laterB q) := by
  unfold runLater.sl.r_166 R_r_166
  (try simp only [l_r_63, View.readAt_eq_ld, Memref.IsWhole.read_unread]) <;> rfl

theorem l_r_189 :
    runLater.sl.r_189 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_189 (laterB q) := by
  unfold runLater.sl.r_189 R_r_189
  (try simp only [l_r_160, l_r_166, View.readAt_eq_ld, Memref.IsWhole.read_unread]) <;> rfl

theorem l_r_72 :
    runLater.sl.r_72 (F := Ideal) c arg2 harg2 arg3 harg3 arg7 harg7 arg16 harg16 arg17 harg17 arg27 harg27 q.x0 q.x1 q.x5 q.x14 q.x15 q.xs1 = R_r_72 (laterB q) := by
  unfold runLater.sl.r_72 R_r_72
  (try simp only [l_r_63, View.readAt_eq_ld, Memref.IsWhole.read_unread]) <;> rfl

theorem l_r_102 :
    runLater.sl.r_102 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_102 (laterB q) := by
  unfold runLater.sl.r_102 R_r_102
  (try simp only [l_r_67, l_r_72, View.readAt_eq_ld, Memref.IsWhole.read_unread]) <;> rfl

theorem l_r_159 :
    runLater.sl.r_159 (F := Ideal) c arg2 harg2 arg3 harg3 arg8 harg8 arg18 harg18 q.x0 q.x1 q.x6 q.x16 = R_r_159 (laterB q) := by
  unfold runLater.sl.r_159 R_r_159
  (try simp only [l_r_64, View.readAt_eq_ld, Memref.IsWhole.read_unread]) <;> rfl

theorem l_r_161 :
    runLater.sl.r_161 (F := Ideal) c arg2 harg2 arg3 harg3 arg8 harg8 arg18 harg18 arg19 harg19 q.x0 q.x1 q.x6 q.x16 q.x17 = R_r_161 (laterB q) := by
  unfold runLater.sl.r_161 R_r_161
  (try simp only [l_r_66, View.readAt_eq_ld, Memref.IsWhole.read_unread]) <;> rfl

theorem l_r_164 :
    runLater.sl.r_164 (F := Ideal) c arg2 harg2 arg3 harg3 arg8 harg8 arg18 harg18 arg19 harg19 q.x0 q.x1 q.x6 q.x16 q.x17 = R_r_164 (laterB q) := by
  unfold runLater.sl.r_164 R_r_164
  (try simp only [l_r_159, l_r_160, l_r_161, View.readAt_eq_ld, Memref.IsWhole.read_unread]) <;> rfl

theorem l_r_225 :
    runLater.sl.r_225 (F := Ideal) c arg2 harg2 arg3 harg3 arg7 harg7 arg16 harg16 arg17 harg17 arg27 harg27 q.x0 q.x1 q.x5 q.x14 q.x15 q.xs1 = R_r_225 (laterB q) := by
  unfold runLater.sl.r_225 R_r_225
  (try simp only [l_r_165, View.readAt_eq_ld, Memref.IsWhole.read_unread]) <;> rfl

theorem l_r_178 :
    runLater.sl.r_178 (F := Ideal) c arg2 harg2 arg3 harg3 arg7 harg7 arg16 harg16 arg17 harg17 arg27 harg27 q.x0 q.x1 q.x5 q.x14 q.x15 q.xs1 = R_r_178 (laterB q) := by
  unfold runLater.sl.r_178 R_r_178
  (try simp only [l_r_165, View.readAt_eq_ld, Memref.IsWhole.read_unread]) <;> rfl

theorem l_r_179 :
    runLater.sl.r_179 (F := Ideal) c arg2 harg2 arg3 harg3 arg7 harg7 arg16 harg16 arg17 harg17 arg27 harg27 q.x0 q.x1 q.x5 q.x14 q.x15 q.xs1 = R_r_179 (laterB q) := by
  unfold runLater.sl.r_179 R_r_179
  (try simp only [l_r_177, View.readAt_eq_ld, Memref.IsWhole.read_unread]) <;> rfl

theorem l_r_167 :
    runLater.sl.r_167 (F := Ideal) c arg2 harg2 arg3 harg3 arg7 harg7 arg16 harg16 arg17 harg17 arg27 harg27 q.x0 q.x1 q.x5 q.x14 q.x15 q.xs1 = R_r_167 (laterB q) := by
  unfold runLater.sl.r_167 R_r_167
  (try simp only [l_r_62, View.readAt_eq_ld, Memref.IsWhole.read_unread]) <;> rfl

theorem l_r_169 :
    runLater.sl.r_169 (F := Ideal) c arg2 harg2 arg3 harg3 arg7 harg7 arg16 harg16 arg17 harg17 arg27 harg27 q.x0 q.x1 q.x5 q.x14 q.x15 q.xs1 = R_r_169 (laterB q) := by
  unfold runLater.sl.r_169 R_r_169
  (try simp only [l_r_61, View.readAt_eq_ld, Memref.IsWhole.read_unread]) <;> rfl

theorem l_r_170 :
    runLater.sl.r_170 (F := Ideal) c arg2 harg2 arg3 harg3 arg7 harg7 arg16 harg16 arg17 harg17 arg27 harg27 q.x0 q.x1 q.x5 q.x14 q.x15 q.xs1 = R_r_170 (laterB q) := by
  unfold runLater.sl.r_170 R_r_170
  (try simp only [l_r_61, View.readAt_eq_ld, Memref.IsWhole.read_unread]) <;> rfl

theorem l_r_171 :
    runLater.sl.r_171 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_171 (laterB q) := by
  unfold runLater.sl.r_171 R_r_171
  (try simp only [l_v1256, View.readAt_eq_ld, Memref.IsWhole.read_unread]) <;> rfl

theorem l_r_174 :
    runLater.sl.r_174 (F := Ideal) c arg2 harg2 arg3 harg3 arg8 harg8 arg18 harg18 arg19 harg19 q.x0 q.x1 q.x6 q.x16 q.x17 = R_r_174 (laterB q) := by
  unfold runLater.sl.r_174 R_r_174
  (try simp only [l_r_160, View.readAt_eq_ld, Memref.IsWhole.read_unread]) <;> rfl

theorem l_v1336 :
    runLater.sl.v1336 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_v1336 (laterB q) := by
  unfold runLater.sl.v1336 R_v1336 R_S0_1
  unfold runLater.sl.HS3_9
  rw [View.readCov_skip]; swap; · decide
  unfold runLater.sl.HS3_8
  rw [View.readCov_skip]; swap; · decide
  unfold runLater.sl.HS3_7
  rw [View.readCov_skip]; swap; · decide
  unfold runLater.sl.HS3_6
  rw [View.readCov_skip]; swap; · decide
  unfold runLater.sl.HS3_5
  rw [View.readCov_skip]; swap; · decide
  unfold runLater.sl.HS3_4
  rw [View.readCov_skip]; swap; · decide
  unfold runLater.sl.HS3_3
  rw [View.readCov_skip]; swap; · decide
  unfold runLater.sl.HS3_2
  rw [View.readCov_cons_toLoadRect]
  (try simp only [l_r_95, View.readAt_eq_ld, Memref.IsWhole.read_unread]) <;> rfl

theorem l_r_181 :
    runLater.sl.r_181 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_181 (laterB q) := by
  unfold runLater.sl.r_181 R_r_181
  (try simp only [l_v1336, View.readAt_eq_ld, Memref.IsWhole.read_unread]) <;> rfl

theorem l_r_182 :
    runLater.sl.r_182 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_182 (laterB q) := by
  unfold runLater.sl.r_182 R_r_182
  (try simp only [l_v1336, View.readAt_eq_ld, Memref.IsWhole.read_unread]) <;> rfl

theorem l_r_162 :
    runLater.sl.r_162 (F := Ideal) c arg2 harg2 arg3 harg3 arg8 harg8 arg18 harg18 arg19 harg19 q.x0 q.x1 q.x6 q.x16 q.x17 = R_r_162 (laterB q) := by
  unfold runLater.sl.r_162 R_r_162
  (try simp only [l_r_160, View.readAt_eq_ld, Memref.IsWhole.read_unread]) <;> rfl

theorem l_r_163 :
    runLater.sl.r_163 (F := Ideal) c arg2 harg2 arg3 harg3 arg8 harg8 arg18 harg18 q.x0 q.x1 q.x6 q.x16 = R_r_163 (laterB q) := by
  unfold runLater.sl.r_163 R_r_163
  (try simp only [l_r_159, View.readAt_eq_ld, Memref.IsWhole.read_unread]) <;> rfl

theorem l_r_168 :
    runLater.sl.r_168 (F := Ideal) c arg2 harg2 arg3 harg3 arg7 harg7 arg16 harg16 arg17 harg17 arg27 harg27 q.x0 q.x1 q.x5 q.x14 q.x15 q.xs1 = R_r_168 (laterB q) := by
  unfold runLater.sl.r_168 R_r_168
  (try simp only [l_r_62, l_r_63, View.readAt_eq_ld, Memref.IsWhole.read_unread]) <;> rfl

theorem l_r_183 :
    runLater.sl.r_183 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_183 (laterB q) := by
  unfold runLater.sl.r_183 R_r_183
  (try simp only [l_r_160, l_r_162, l_r_163, l_r_168, View.readAt_eq_ld, Memref.IsWhole.read_unread]) <;> rfl

theorem l_r_184 :
    runLater.sl.r_184 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_184 (laterB q) := by
  unfold runLater.sl.r_184 R_r_184
  (try simp only [l_r_160, l_r_166, View.readAt_eq_ld, Memref.IsWhole.read_unread]) <;> rfl

theorem l_r_188 :
    runLater.sl.r_188 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_188 (laterB q) := by
  unfold runLater.sl.r_188 R_r_188
  (try simp only [l_r_160, l_r_162, l_r_163, l_r_168, View.readAt_eq_ld, Memref.IsWhole.read_unread]) <;> rfl

theorem l_r_190 :
    runLater.sl.r_190 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_190 (laterB q) := by
  unfold runLater.sl.r_190 R_r_190
  (try simp only [l_r_178, l_r_179, l_r_181, l_r_182, l_r_183, l_r_184, l_r_188, l_r_189, View.readAt_eq_ld, Memref.IsWhole.read_unread]) <;> rfl

theorem l_r_214 :
    runLater.sl.r_214 (F := Ideal) c arg2 harg2 arg3 harg3 arg7 harg7 arg16 harg16 arg17 harg17 arg27 harg27 q.x0 q.x1 q.x5 q.x14 q.x15 q.xs1 = R_r_214 (laterB q) := by
  unfold runLater.sl.r_214 R_r_214
  (try simp only [l_r_62, l_r_63, View.readAt_eq_ld, Memref.IsWhole.read_unread]) <;> rfl

theorem l_r_239 :
    runLater.sl.r_239 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_239 (laterB q) := by
  unfold runLater.sl.r_239 R_r_239
  (try simp only [l_r_160, l_r_162, l_r_163, l_r_214, View.readAt_eq_ld, Memref.IsWhole.read_unread]) <;> rfl

theorem l_r_16 :
    runLater.sl.r_16 (F := Ideal) c arg2 harg2 arg3 harg3 arg4 harg4 arg9 harg9 arg10 harg10 arg11 harg11 arg12 harg12 arg14 harg14 arg26 harg26 q.x0 q.x1 q.x2 q.x7 q.x8 q.x9 q.x10 q.x12 q.xs0 = R_r_16 (laterB q) := by
  unfold runLater.sl.r_16 R_r_16
  (try simp only [l_cst_72, l_r_12, l_r_13, l_v138, View.readAt_eq_ld, Memref.IsWhole.read_unread]) <;> rfl

theorem l_r_11 :
    runLater.sl.r_11 (F := Ideal) c arg28 harg28 q.xs2 = R_r_11 (laterB q) := by
  unfold runLater.sl.r_11 R_r_11
  (try simp only [View.readAt_eq_ld, Memref.IsWhole.read_unread]) <;> rfl

theorem l_r_19 :
    runLater.sl.r_19 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_19 (laterB q) := by
  unfold runLater.sl.r_19 R_r_19
  (try simp only [l_cst_72, l_r_11, l_r_12, l_r_13, l_r_14, l_v138, View.readAt_eq_ld, Memref.IsWhole.read_unread]) <;> rfl

theorem l_r_27 :
    runLater.sl.r_27 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_27 (laterB q) := by
  unfold runLater.sl.r_27 R_r_27
  (try simp only [l_r_15, l_r_16, l_r_19, View.readAt_eq_ld, Memref.IsWhole.read_unread]) <;> rfl

theorem l_r_29 :
    runLater.sl.r_29 (F := Ideal) c arg2 harg2 arg3 harg3 arg4 harg4 arg9 harg9 arg10 harg10 arg11 harg11 arg12 harg12 arg14 harg14 arg26 harg26 q.x0 q.x1 q.x2 q.x7 q.x8 q.x9 q.x10 q.x12 q.xs0 = R_r_29 (laterB q) := by
  unfold runLater.sl.r_29 R_r_29
  (try simp only [l_r_16, View.readAt_eq_ld, Memref.IsWhole.read_unread]) <;> rfl

theorem l_r_38 :
    runLater.sl.r_38 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_38 (laterB q) := by
  unfold runLater.sl.r_38 R_r_38
  (try simp only [l_r_15, l_r_16, l_r_27, l_r_28, l_r_29, View.readAt_eq_ld, Memref.IsWhole.read_unread]) <;> rfl

theorem l_r_45 :
    runLater.sl.r_45 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_45 (laterB q) := by
  unfold runLater.sl.r_45 R_r_45
  (try simp only [l_r_15, l_r_16, l_r_38, View.readAt_eq_ld, Memref.IsWhole.read_unread]) <;> rfl

theorem l_r_92 :
    runLater.sl.r_92 (F := Ideal) c arg29 harg29 q.xs3 = R_r_92 (laterB q) := by
  unfold runLater.sl.r_92 R_r_92
  (try simp only [l_v660, View.readAt_eq_ld, Memref.IsWhole.read_unread]) <;> rfl

theorem l_r_17 :
    runLater.sl.r_17 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_17 (laterB q) := by
  unfold runLater.sl.r_17 R_r_17
  (try simp only [l_cst_72, l_r_11, l_r_12, l_r_13, l_r_14, l_v138, View.readAt_eq_ld, Memref.IsWhole.read_unread]) <;> rfl

theorem l_r_18 :
    runLater.sl.r_18 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_18 (laterB q) := by
  unfold runLater.sl.r_18 R_r_18
  (try simp only [l_cst_72, l_r_11, l_r_12, l_r_13, l_r_14, l_v138, View.readAt_eq_ld, Memref.IsWhole.read_unread]) <;> rfl

theorem l_r_20 :
    runLater.sl.r_20 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_20 (laterB q) := by
  unfold runLater.sl.r_20 R_r_20
  (try simp only [l_r_15, l_r_16, l_r_19, View.readAt_eq_ld, Memref.IsWhole.read_unread]) <;> rfl

theorem l_r_21 :
    runLater.sl.r_21 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_21 (laterB q) := by
  unfold runLater.sl.r_21 R_r_21
  (try simp only [l_r_15, l_r_16, l_r_19, View.readAt_eq_ld, Memref.IsWhole.read_unread]) <;> rfl

theorem l_r_22 :
    runLater.sl.r_22 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_22 (laterB q) := by
  unfold runLater.sl.r_22 R_r_22
  (try simp only [l_r_15, l_r_16, l_r_19, View.readAt_eq_ld, Memref.IsWhole.read_unread]) <;> rfl

theorem l_r_23 :
    runLater.sl.r_23 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_23 (laterB q) := by
  unfold runLater.sl.r_23 R_r_23
  (try simp only [l_r_15, l_r_16, l_r_19, View.readAt_eq_ld, Memref.IsWhole.read_unread]) <;> rfl

theorem l_r_24 :
    runLater.sl.r_24 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_24 (laterB q) := by
  unfold runLater.sl.r_24 R_r_24
  (try simp only [l_r_15, l_r_16, l_r_19, View.readAt_eq_ld, Memref.IsWhole.read_unread]) <;> rfl

theorem l_r_25 :
    runLater.sl.r_25 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_25 (laterB q) := by
  unfold runLater.sl.r_25 R_r_25
  (try simp only [l_r_15, l_r_16, l_r_19, View.readAt_eq_ld, Memref.IsWhole.read_unread]) <;> rfl

theorem l_r_26 :
    runLater.sl.r_26 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_26 (laterB q) := by
  unfold runLater.sl.r_26 R_r_26
  (try simp only [l_r_15, l_r_16, l_r_19, View.readAt_eq_ld, Memref.IsWhole.read_unread]) <;> rfl

theorem l_r_3 :
    runLater.sl.r_3 (F := Ideal) c arg2 harg2 arg3 harg3 arg5 harg5 q.x0 q.x1 q.x3 = R_r_3 (laterB q) := by
  unfold runLater.sl.r_3 R_r_3
  (try simp only [l_r_1, View.readAt_eq_ld, Memref.IsWhole.read_unread]) <;> rfl

theorem l_r_30 :
    runLater.sl.r_30 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_30 (laterB q) := by
  unfold runLater.sl.r_30 R_r_30
  (try simp only [l_r_27, l_r_28, l_r_29, View.readAt_eq_ld, Memref.IsWhole.read_unread]) <;> rfl

theorem l_r_31 :
    runLater.sl.r_31 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_31 (laterB q) := by
  unfold runLater.sl.r_31 R_r_31
  (try simp only [l_r_15, l_r_16, l_r_27, l_r_28, l_r_29, View.readAt_eq_ld, Memref.IsWhole.read_unread]) <;> rfl

theorem l_r_32 :
    runLater.sl.r_32 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_32 (laterB q) := by
  unfold runLater.sl.r_32 R_r_32
  (try simp only [l_r_15, l_r_16, l_r_27, l_r_28, l_r_29, View.readAt_eq_ld, Memref.IsWhole.read_unread]) <;> rfl

theorem l_r_33 :
    runLater.sl.r_33 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_33 (laterB q) := by
  unfold runLater.sl.r_33 R_r_33
  (try simp only [l_r_15, l_r_16, l_r_27, l_r_28, l_r_29, View.readAt_eq_ld, Memref.IsWhole.read_unread]) <;> rfl

theorem l_r_34 :
    runLater.sl.r_34 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_34 (laterB q) := by
  unfold runLater.sl.r_34 R_r_34
  (try simp only [l_r_15, l_r_16, l_r_27, l_r_28, l_r_29, View.readAt_eq_ld, Memref.IsWhole.read_unread]) <;> rfl

theorem l_r_35 :
    runLater.sl.r_35 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_35 (laterB q) := by
  unfold runLater.sl.r_35 R_r_35
  (try simp only [l_r_15, l_r_16, l_r_27, l_r_28, l_r_29, View.readAt_eq_ld, Memref.IsWhole.read_unread]) <;> rfl

theorem l_r_36 :
    runLater.sl.r_36 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_36 (laterB q) := by
  unfold runLater.sl.r_36 R_r_36
  (try simp only [l_r_15, l_r_16, l_r_27, l_r_28, l_r_29, View.readAt_eq_ld, Memref.IsWhole.read_unread]) <;> rfl

theorem l_r_37 :
    runLater.sl.r_37 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_37 (laterB q) := by
  unfold runLater.sl.r_37 R_r_37
  (try simp only [l_r_15, l_r_16, l_r_27, l_r_28, l_r_29, View.readAt_eq_ld, Memref.IsWhole.read_unread]) <;> rfl

theorem l_r_39 :
    runLater.sl.r_39 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_39 (laterB q) := by
  unfold runLater.sl.r_39 R_r_39
  (try simp only [l_r_15, l_r_16, l_r_38, View.readAt_eq_ld, Memref.IsWhole.read_unread]) <;> rfl

theorem l_r_40 :
    runLater.sl.r_40 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_40 (laterB q) := by
  unfold runLater.sl.r_40 R_r_40
  (try simp only [l_r_15, l_r_16, l_r_38, View.readAt_eq_ld, Memref.IsWhole.read_unread]) <;> rfl

theorem l_r_41 :
    runLater.sl.r_41 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_41 (laterB q) := by
  unfold runLater.sl.r_41 R_r_41
  (try simp only [l_r_15, l_r_16, l_r_38, View.readAt_eq_ld, Memref.IsWhole.read_unread]) <;> rfl

theorem l_r_42 :
    runLater.sl.r_42 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_42 (laterB q) := by
  unfold runLater.sl.r_42 R_r_42
  (try simp only [l_r_15, l_r_16, l_r_38, View.readAt_eq_ld, Memref.IsWhole.read_unread]) <;> rfl

theorem l_r_43 :
    runLater.sl.r_43 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_43 (laterB q) := by
  unfold runLater.sl.r_43 R_r_43
  (try simp only [l_r_15, l_r_16, l_r_38, View.readAt_eq_ld, Memref.IsWhole.read_unread]) <;> rfl

theorem l_r_44 :
    runLater.sl.r_44 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_44 (laterB q) := by
  unfold runLater.sl.r_44 R_r_44
  (try simp only [l_r_15, l_r_16, l_r_38, View.readAt_eq_ld, Memref.IsWhole.read_unread]) <;> rfl

theorem l_r_46 :
    runLater.sl.r_46 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_46 (laterB q) := by
  unfold runLater.sl.r_46 R_r_46
  (try simp only [l_r_15, l_r_16, l_r_38, View.readAt_eq_ld, Memref.IsWhole.read_unread]) <;> rfl

theorem l_r_47 :
    runLater.sl.r_47 (F := Ideal) c arg2 harg2 arg3 harg3 arg4 harg4 arg9 harg9 arg10 harg10 arg11 harg11 arg12 harg12 arg13 harg13 arg14 harg14 arg26 harg26 q.x0 q.x1 q.x2 q.x7 q.x8 q.x9 q.x10 q.x11 q.x12 q.xs0 = R_r_47 (laterB q) := by
  unfold runLater.sl.r_47 R_r_47
  (try simp only [l_r_15, View.readAt_eq_ld, Memref.IsWhole.read_unread]) <;> rfl

theorem l_r_48 :
    runLater.sl.r_48 (F := Ideal) c arg2 harg2 arg3 harg3 arg4 harg4 arg9 harg9 arg10 harg10 arg11 harg11 arg12 harg12 arg14 harg14 arg26 harg26 q.x0 q.x1 q.x2 q.x7 q.x8 q.x9 q.x10 q.x12 q.xs0 = R_r_48 (laterB q) := by
  unfold runLater.sl.r_48 R_r_48
  (try simp only [l_r_16, View.readAt_eq_ld, Memref.IsWhole.read_unread]) <;> rfl

theorem l_r_49 :
    runLater.sl.r_49 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_49 (laterB q) := by
  unfold runLater.sl.r_49 R_r_49
  (try simp only [l_r_46, l_r_47, l_r_48, View.readAt_eq_ld, Memref.IsWhole.read_unread]) <;> rfl

theorem l_r_50 :
    runLater.sl.r_50 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_50 (laterB q) := by
  unfold runLater.sl.r_50 R_r_50
  (try simp only [l_r_15, l_r_16, l_r_46, l_r_47, l_r_48, View.readAt_eq_ld, Memref.IsWhole.read_unread]) <;> rfl

theorem l_r_51 :
    runLater.sl.r_51 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_51 (laterB q) := by
  unfold runLater.sl.r_51 R_r_51
  (try simp only [l_r_15, l_r_16, l_r_46, l_r_47, l_r_48, View.readAt_eq_ld, Memref.IsWhole.read_unread]) <;> rfl

theorem l_r_52 :
    runLater.sl.r_52 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_52 (laterB q) := by
  unfold runLater.sl.r_52 R_r_52
  (try simp only [l_r_15, l_r_16, l_r_46, l_r_47, l_r_48, View.readAt_eq_ld, Memref.IsWhole.read_unread]) <;> rfl

theorem l_r_53 :
    runLater.sl.r_53 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_53 (laterB q) := by
  unfold runLater.sl.r_53 R_r_53
  (try simp only [l_r_15, l_r_16, l_r_46, l_r_47, l_r_48, View.readAt_eq_ld, Memref.IsWhole.read_unread]) <;> rfl

theorem l_r_54 :
    runLater.sl.r_54 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_54 (laterB q) := by
  unfold runLater.sl.r_54 R_r_54
  (try simp only [l_r_15, l_r_16, l_r_46, l_r_47, l_r_48, View.readAt_eq_ld, Memref.IsWhole.read_unread]) <;> rfl

theorem l_r_55 :
    runLater.sl.r_55 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_55 (laterB q) := by
  unfold runLater.sl.r_55 R_r_55
  (try simp only [l_r_15, l_r_16, l_r_46, l_r_47, l_r_48, View.readAt_eq_ld, Memref.IsWhole.read_unread]) <;> rfl

theorem l_r_56 :
    runLater.sl.r_56 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_56 (laterB q) := by
  unfold runLater.sl.r_56 R_r_56
  (try simp only [l_r_15, l_r_16, l_r_46, l_r_47, l_r_48, View.readAt_eq_ld, Memref.IsWhole.read_unread]) <;> rfl

theorem l_r_58 :
    runLater.sl.r_58 (F := Ideal) c arg2 harg2 arg3 harg3 arg4 harg4 arg5 harg5 arg9 harg9 arg10 harg10 arg11 harg11 arg12 harg12 arg13 harg13 arg14 harg14 arg15 harg15 arg26 harg26 arg28 harg28 q.x0 q.x1 q.x2 q.x3 q.x7 q.x8 q.x9 q.x10 q.x11 q.x12 q.x13 q.xs0 q.xs2 = R_r_58 (laterB q) := by
  unfold runLater.sl.r_58 R_r_58
  (try simp only [l_r_17, l_r_18, l_r_20, l_r_21, l_r_22, l_r_23, l_r_24, l_r_25, l_r_26, l_r_3, l_r_30, l_r_31, l_r_32, l_r_33, l_r_34, l_r_35, l_r_36, l_r_37, l_r_39, l_r_40, l_r_41, l_r_42, l_r_43, l_r_44, l_r_45, l_r_49, l_r_50, l_r_51, l_r_52, l_r_53, l_r_54, l_r_55, l_r_56, View.readAt_eq_ld, Memref.IsWhole.read_unread]) <;> rfl

theorem l_r_69 :
    runLater.sl.r_69 (F := Ideal) c arg2 harg2 arg3 harg3 arg8 harg8 arg18 harg18 q.x0 q.x1 q.x6 q.x16 = R_r_69 (laterB q) := by
  unfold runLater.sl.r_69 R_r_69
  (try simp only [l_r_64, View.readAt_eq_ld, Memref.IsWhole.read_unread]) <;> rfl

theorem l_r_199 :
    runLater.sl.r_199 (F := Ideal) c arg2 harg2 arg3 harg3 arg7 harg7 arg16 harg16 arg17 harg17 arg27 harg27 q.x0 q.x1 q.x5 q.x14 q.x15 q.xs1 = R_r_199 (laterB q) := by
  unfold runLater.sl.r_199 R_r_199
  (try simp only [l_r_165, View.readAt_eq_ld, Memref.IsWhole.read_unread]) <;> rfl

theorem l_r_201 :
    runLater.sl.r_201 (F := Ideal) c arg2 harg2 arg3 harg3 arg7 harg7 arg16 harg16 arg17 harg17 arg27 harg27 q.x0 q.x1 q.x5 q.x14 q.x15 q.xs1 = R_r_201 (laterB q) := by
  unfold runLater.sl.r_201 R_r_201
  (try simp only [l_r_199, View.readAt_eq_ld, Memref.IsWhole.read_unread]) <;> rfl

theorem l_r_191 :
    runLater.sl.r_191 (F := Ideal) c arg2 harg2 arg3 harg3 arg7 harg7 arg16 harg16 arg17 harg17 arg27 harg27 q.x0 q.x1 q.x5 q.x14 q.x15 q.xs1 = R_r_191 (laterB q) := by
  unfold runLater.sl.r_191 R_r_191
  (try simp only [l_r_165, View.readAt_eq_ld, Memref.IsWhole.read_unread]) <;> rfl

theorem l_r_192 :
    runLater.sl.r_192 (F := Ideal) c arg2 harg2 arg3 harg3 arg7 harg7 arg16 harg16 arg17 harg17 arg27 harg27 q.x0 q.x1 q.x5 q.x14 q.x15 q.xs1 = R_r_192 (laterB q) := by
  unfold runLater.sl.r_192 R_r_192
  (try simp only [l_r_165, View.readAt_eq_ld, Memref.IsWhole.read_unread]) <;> rfl

theorem l_r_180 :
    runLater.sl.r_180 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_180 (laterB q) := by
  unfold runLater.sl.r_180 R_r_180
  (try simp only [l_v1336, View.readAt_eq_ld, Memref.IsWhole.read_unread]) <;> rfl

theorem l_r_185 :
    runLater.sl.r_185 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_185 (laterB q) := by
  unfold runLater.sl.r_185 R_r_185
  (try simp only [l_r_164, l_r_167, View.readAt_eq_ld, Memref.IsWhole.read_unread]) <;> rfl

theorem l_r_186 :
    runLater.sl.r_186 (F := Ideal) c arg2 harg2 arg3 harg3 arg8 harg8 arg18 harg18 arg19 harg19 q.x0 q.x1 q.x6 q.x16 q.x17 = R_r_186 (laterB q) := by
  unfold runLater.sl.r_186 R_r_186
  (try simp only [l_r_160, View.readAt_eq_ld, Memref.IsWhole.read_unread]) <;> rfl

theorem l_r_187 :
    runLater.sl.r_187 (F := Ideal) c arg2 harg2 arg3 harg3 arg8 harg8 arg18 harg18 arg19 harg19 q.x0 q.x1 q.x6 q.x16 q.x17 = R_r_187 (laterB q) := by
  unfold runLater.sl.r_187 R_r_187
  (try simp only [l_r_160, View.readAt_eq_ld, Memref.IsWhole.read_unread]) <;> rfl

theorem l_v1416 :
    runLater.sl.v1416 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_v1416 (laterB q) := by
  unfold runLater.sl.v1416 R_v1416 R_S0_2
  unfold runLater.sl.HS3_10
  rw [View.readCov_skip]; swap; · decide
  unfold runLater.sl.HS3_9
  rw [View.readCov_skip]; swap; · decide
  unfold runLater.sl.HS3_8
  rw [View.readCov_skip]; swap; · decide
  unfold runLater.sl.HS3_7
  rw [View.readCov_skip]; swap; · decide
  unfold runLater.sl.HS3_6
  rw [View.readCov_skip]; swap; · decide
  unfold runLater.sl.HS3_5
  rw [View.readCov_skip]; swap; · decide
  unfold runLater.sl.HS3_4
  rw [View.readCov_skip]; swap; · decide
  unfold runLater.sl.HS3_3
  rw [View.readCov_cons_toLoadRect]
  (try simp only [l_r_103, l_r_104, l_r_105, l_r_70, l_r_73, l_r_96, l_r_97, l_r_98, View.readAt_eq_ld, Memref.IsWhole.read_unread]) <;> rfl

theorem l_r_193 :
    runLater.sl.r_193 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_193 (laterB q) := by
  unfold runLater.sl.r_193 R_r_193
  (try simp only [l_v1416, View.readAt_eq_ld, Memref.IsWhole.read_unread]) <;> rfl

theorem l_r_196 :
    runLater.sl.r_196 (F := Ideal) c arg2 harg2 arg3 harg3 arg8 harg8 arg18 harg18 arg19 harg19 q.x0 q.x1 q.x6 q.x16 q.x17 = R_r_196 (laterB q) := by
  unfold runLater.sl.r_196 R_r_196
  (try simp only [l_r_160, View.readAt_eq_ld, Memref.IsWhole.read_unread]) <;> rfl

theorem l_v1496 :
    runLater.sl.v1496 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_v1496 (laterB q) := by
  unfold runLater.sl.v1496 R_v1496 R_S0_3
  unfold runLater.sl.HS3_11
  rw [View.readCov_skip]; swap; · decide
  unfold runLater.sl.HS3_10
  rw [View.readCov_skip]; swap; · decide
  unfold runLater.sl.HS3_9
  rw [View.readCov_skip]; swap; · decide
  unfold runLater.sl.HS3_8
  rw [View.readCov_skip]; swap; · decide
  unfold runLater.sl.HS3_7
  rw [View.readCov_skip]; swap; · decide
  unfold runLater.sl.HS3_6
  rw [View.readCov_skip]; swap; · decide
  unfold runLater.sl.HS3_5
  rw [View.readCov_skip]; swap; · decide
  unfold runLater.sl.HS3_4
  rw [View.readCov_cons_toLoadRect]
  (try simp only [l_r_110, l_r_111, l_r_112, l_r_114, l_r_115, View.readAt_eq_ld, Memref.IsWhole.read_unread]) <;> rfl

theorem l_r_203 :
    runLater.sl.r_203 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_203 (laterB q) := by
  unfold runLater.sl.r_203 R_r_203
  (try simp only [l_v1496, View.readAt_eq_ld, Memref.IsWhole.read_unread]) <;> rfl

theorem l_r_221 :
    runLater.sl.r_221 (F := Ideal) c arg2 harg2 arg3 harg3 arg8 harg8 arg18 harg18 arg19 harg19 q.x0 q.x1 q.x6 q.x16 q.x17 = R_r_221 (laterB q) := by
  unfold runLater.sl.r_221 R_r_221
  (try simp only [l_r_160, View.readAt_eq_ld, Memref.IsWhole.read_unread]) <;> rfl

theorem l_r_208 :
    runLater.sl.r_208 (F := Ideal) c arg2 harg2 arg3 harg3 arg8 harg8 arg18 harg18 arg19 harg19 q.x0 q.x1 q.x6 q.x16 q.x17 = R_r_208 (laterB q) := by
  unfold runLater.sl.r_208 R_r_208
  (try simp only [l_r_160, View.readAt_eq_ld, Memref.IsWhole.read_unread]) <;> rfl

theorem l_r_213 :
    runLater.sl.r_213 (F := Ideal) c arg2 harg2 arg3 harg3 arg7 harg7 arg16 harg16 arg17 harg17 arg27 harg27 q.x0 q.x1 q.x5 q.x14 q.x15 q.xs1 = R_r_213 (laterB q) := by
  unfold runLater.sl.r_213 R_r_213
  (try simp only [l_r_62, View.readAt_eq_ld, Memref.IsWhole.read_unread]) <;> rfl

theorem l_r_241 :
    runLater.sl.r_241 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_241 (laterB q) := by
  unfold runLater.sl.r_241 R_r_241
  (try simp only [l_r_164, l_r_213, View.readAt_eq_ld, Memref.IsWhole.read_unread]) <;> rfl

theorem l_r_218 :
    runLater.sl.r_218 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_218 (laterB q) := by
  unfold runLater.sl.r_218 R_r_218
  (try simp only [l_r_164, l_r_213, View.readAt_eq_ld, Memref.IsWhole.read_unread]) <;> rfl

theorem l_r_68 :
    runLater.sl.r_68 (F := Ideal) c arg2 harg2 arg3 harg3 arg8 harg8 arg18 harg18 arg19 harg19 q.x0 q.x1 q.x6 q.x16 q.x17 = R_r_68 (laterB q) := by
  unfold runLater.sl.r_68 R_r_68
  (try simp only [l_r_64, l_r_65, View.readAt_eq_ld, Memref.IsWhole.read_unread]) <;> rfl

theorem l_r_74 :
    runLater.sl.r_74 (F := Ideal) c arg2 harg2 arg3 harg3 arg7 harg7 arg16 harg16 arg17 harg17 arg27 harg27 q.x0 q.x1 q.x5 q.x14 q.x15 q.xs1 = R_r_74 (laterB q) := by
  unfold runLater.sl.r_74 R_r_74
  (try simp only [l_r_62, l_r_63, View.readAt_eq_ld, Memref.IsWhole.read_unread]) <;> rfl

theorem l_r_91 :
    runLater.sl.r_91 (F := Ideal) c arg29 harg29 q.xs3 = R_r_91 (laterB q) := by
  unfold runLater.sl.r_91 R_r_91
  (try simp only [l_v660, View.readAt_eq_ld, Memref.IsWhole.read_unread]) <;> rfl

theorem l_r_94 :
    runLater.sl.r_94 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_94 (laterB q) := by
  unfold runLater.sl.r_94 R_r_94
  (try simp only [l_r_67, l_r_68, l_r_69, l_r_72, l_r_74, l_r_88, l_r_89, l_r_91, l_r_92, l_r_93, View.readAt_eq_ld, Memref.IsWhole.read_unread]) <;> rfl

theorem l_cst_304 :
    runLater.sl.cst_304 (F := Ideal)  = R_cst_304 (laterB q) := rfl

theorem l_r_197 :
    runLater.sl.r_197 (F := Ideal) c arg2 harg2 arg3 harg3 arg8 harg8 arg18 harg18 arg19 harg19 q.x0 q.x1 q.x6 q.x16 q.x17 = R_r_197 (laterB q) := by
  unfold runLater.sl.r_197 R_r_197
  (try simp only [l_r_160, l_r_162, View.readAt_eq_ld, Memref.IsWhole.read_unread]) <;> rfl

theorem l_r_212 :
    runLater.sl.r_212 (F := Ideal) c arg2 harg2 arg3 harg3 arg7 harg7 arg16 harg16 arg17 harg17 arg27 harg27 q.x0 q.x1 q.x5 q.x14 q.x15 q.xs1 = R_r_212 (laterB q) := by
  unfold runLater.sl.r_212 R_r_212
  (try simp only [l_r_63, View.readAt_eq_ld, Memref.IsWhole.read_unread]) <;> rfl

theorem l_r_226 :
    runLater.sl.r_226 (F := Ideal) c arg2 harg2 arg3 harg3 arg7 harg7 arg16 harg16 arg17 harg17 arg27 harg27 q.x0 q.x1 q.x5 q.x14 q.x15 q.xs1 = R_r_226 (laterB q) := by
  unfold runLater.sl.r_226 R_r_226
  (try simp only [l_r_165, View.readAt_eq_ld, Memref.IsWhole.read_unread]) <;> rfl

theorem l_r_215 :
    runLater.sl.r_215 (F := Ideal) c arg2 harg2 arg3 harg3 arg7 harg7 arg16 harg16 arg17 harg17 arg27 harg27 q.x0 q.x1 q.x5 q.x14 q.x15 q.xs1 = R_r_215 (laterB q) := by
  unfold runLater.sl.r_215 R_r_215
  (try simp only [l_r_165, View.readAt_eq_ld, Memref.IsWhole.read_unread]) <;> rfl

theorem l_r_216 :
    runLater.sl.r_216 (F := Ideal) c arg2 harg2 arg3 harg3 arg7 harg7 arg16 harg16 arg17 harg17 arg27 harg27 q.x0 q.x1 q.x5 q.x14 q.x15 q.xs1 = R_r_216 (laterB q) := by
  unfold runLater.sl.r_216 R_r_216
  (try simp only [l_r_165, View.readAt_eq_ld, Memref.IsWhole.read_unread]) <;> rfl

theorem l_r_200 :
    runLater.sl.r_200 (F := Ideal) c arg2 harg2 arg3 harg3 arg7 harg7 arg16 harg16 arg17 harg17 arg27 harg27 q.x0 q.x1 q.x5 q.x14 q.x15 q.xs1 = R_r_200 (laterB q) := by
  unfold runLater.sl.r_200 R_r_200
  (try simp only [l_r_199, View.readAt_eq_ld, Memref.IsWhole.read_unread]) <;> rfl

theorem l_r_202 :
    runLater.sl.r_202 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_202 (laterB q) := by
  unfold runLater.sl.r_202 R_r_202
  (try simp only [l_v1496, View.readAt_eq_ld, Memref.IsWhole.read_unread]) <;> rfl

theorem l_r_207 :
    runLater.sl.r_207 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_207 (laterB q) := by
  unfold runLater.sl.r_207 R_r_207
  (try simp only [l_r_164, l_r_167, View.readAt_eq_ld, Memref.IsWhole.read_unread]) <;> rfl

theorem l_r_209 :
    runLater.sl.r_209 (F := Ideal) c arg2 harg2 arg3 harg3 arg8 harg8 arg18 harg18 arg19 harg19 q.x0 q.x1 q.x6 q.x16 q.x17 = R_r_209 (laterB q) := by
  unfold runLater.sl.r_209 R_r_209
  (try simp only [l_r_160, View.readAt_eq_ld, Memref.IsWhole.read_unread]) <;> rfl

theorem l_v1582 :
    runLater.sl.v1582 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_v1582 (laterB q) := by
  unfold runLater.sl.v1582 R_v1582 R_S0_4
  unfold runLater.sl.HS3_12
  rw [View.readCov_skip]; swap; · decide
  unfold runLater.sl.HS3_11
  rw [View.readCov_skip]; swap; · decide
  unfold runLater.sl.HS3_10
  rw [View.readCov_skip]; swap; · decide
  unfold runLater.sl.HS3_9
  rw [View.readCov_skip]; swap; · decide
  unfold runLater.sl.HS3_8
  rw [View.readCov_skip]; swap; · decide
  unfold runLater.sl.HS3_7
  rw [View.readCov_skip]; swap; · decide
  unfold runLater.sl.HS3_6
  rw [View.readCov_skip]; swap; · decide
  unfold runLater.sl.HS3_5
  rw [View.readCov_cons_toLoadRect]
  (try simp only [l_r_117, l_r_119, l_r_120, l_r_121, l_r_124, l_r_67, l_r_70, View.readAt_eq_ld, Memref.IsWhole.read_unread]) <;> rfl

theorem l_r_217 :
    runLater.sl.r_217 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_217 (laterB q) := by
  unfold runLater.sl.r_217 R_r_217
  (try simp only [l_v1582, View.readAt_eq_ld, Memref.IsWhole.read_unread]) <;> rfl

theorem l_r_219 :
    runLater.sl.r_219 (F := Ideal) c arg2 harg2 arg3 harg3 arg8 harg8 arg18 harg18 arg19 harg19 q.x0 q.x1 q.x6 q.x16 q.x17 = R_r_219 (laterB q) := by
  unfold runLater.sl.r_219 R_r_219
  (try simp only [l_r_160, View.readAt_eq_ld, Memref.IsWhole.read_unread]) <;> rfl

theorem l_r_220 :
    runLater.sl.r_220 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_220 (laterB q) := by
  unfold runLater.sl.r_220 R_r_220
  (try simp only [l_r_164, l_r_213, View.readAt_eq_ld, Memref.IsWhole.read_unread]) <;> rfl

theorem l_v1662 :
    runLater.sl.v1662 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_v1662 (laterB q) := by
  unfold runLater.sl.v1662 R_v1662 R_S0_5
  unfold runLater.sl.HS3_13
  rw [View.readCov_skip]; swap; · decide
  unfold runLater.sl.HS3_12
  rw [View.readCov_skip]; swap; · decide
  unfold runLater.sl.HS3_11
  rw [View.readCov_skip]; swap; · decide
  unfold runLater.sl.HS3_10
  rw [View.readCov_skip]; swap; · decide
  unfold runLater.sl.HS3_9
  rw [View.readCov_skip]; swap; · decide
  unfold runLater.sl.HS3_8
  rw [View.readCov_skip]; swap; · decide
  unfold runLater.sl.HS3_7
  rw [View.readCov_skip]; swap; · decide
  unfold runLater.sl.HS3_6
  rw [View.readCov_cons_toLoadRect]
  (try simp only [l_r_117, l_r_128, l_r_129, l_r_130, l_r_135, l_r_136, l_r_137, l_r_70, View.readAt_eq_ld, Memref.IsWhole.read_unread]) <;> rfl

theorem l_r_228 :
    runLater.sl.r_228 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_228 (laterB q) := by
  unfold runLater.sl.r_228 R_r_228
  (try simp only [l_v1662, View.readAt_eq_ld, Memref.IsWhole.read_unread]) <;> rfl

theorem l_r_229 :
    runLater.sl.r_229 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_229 (laterB q) := by
  unfold runLater.sl.r_229 R_r_229
  (try simp only [l_v1662, View.readAt_eq_ld, Memref.IsWhole.read_unread]) <;> rfl

theorem l_r_230 :
    runLater.sl.r_230 (F := Ideal) c arg2 harg2 arg3 harg3 arg8 harg8 arg18 harg18 arg19 harg19 q.x0 q.x1 q.x6 q.x16 q.x17 = R_r_230 (laterB q) := by
  unfold runLater.sl.r_230 R_r_230
  (try simp only [l_r_160, View.readAt_eq_ld, Memref.IsWhole.read_unread]) <;> rfl

theorem l_r_231 :
    runLater.sl.r_231 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_231 (laterB q) := by
  unfold runLater.sl.r_231 R_r_231
  (try simp only [l_r_160, l_r_162, l_r_163, l_r_214, View.readAt_eq_ld, Memref.IsWhole.read_unread]) <;> rfl

theorem l_r_232 :
    runLater.sl.r_232 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_232 (laterB q) := by
  unfold runLater.sl.r_232 R_r_232
  (try simp only [l_r_160, l_r_162, l_r_163, l_r_212, l_r_214, l_r_225, l_r_226, l_r_228, l_r_229, l_r_230, l_r_231, View.readAt_eq_ld, Memref.IsWhole.read_unread]) <;> rfl

theorem l_r_210 :
    runLater.sl.r_210 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_210 (laterB q) := by
  unfold runLater.sl.r_210 R_r_210
  (try simp only [l_r_160, l_r_162, l_r_168, View.readAt_eq_ld, Memref.IsWhole.read_unread]) <;> rfl

theorem l_r_172 :
    runLater.sl.r_172 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_172 (laterB q) := by
  unfold runLater.sl.r_172 R_r_172
  (try simp only [l_v1256, View.readAt_eq_ld, Memref.IsWhole.read_unread]) <;> rfl

theorem l_r_173 :
    runLater.sl.r_173 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_173 (laterB q) := by
  unfold runLater.sl.r_173 R_r_173
  (try simp only [l_v1256, View.readAt_eq_ld, Memref.IsWhole.read_unread]) <;> rfl

theorem l_r_175 :
    runLater.sl.r_175 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_175 (laterB q) := by
  unfold runLater.sl.r_175 R_r_175
  (try simp only [l_r_159, l_r_160, l_r_62, l_r_63, View.readAt_eq_ld, Memref.IsWhole.read_unread]) <;> rfl

theorem l_r_176 :
    runLater.sl.r_176 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_176 (laterB q) := by
  unfold runLater.sl.r_176 R_r_176
  (try simp only [l_r_160, l_r_162, l_r_163, l_r_166, l_r_168, l_r_169, l_r_170, l_r_172, l_r_173, l_r_174, l_r_175, View.readAt_eq_ld, Memref.IsWhole.read_unread]) <;> rfl

theorem l_r_86 :
    runLater.sl.r_86 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_86 (laterB q) := by
  unfold runLater.sl.r_86 R_r_86
  (try simp only [l_r_67, l_r_68, l_r_69, l_r_74, View.readAt_eq_ld, Memref.IsWhole.read_unread]) <;> rfl

theorem l_r_251 :
    runLater.sl.r_251 (F := Ideal) c arg2 harg2 arg3 harg3 arg8 harg8 arg18 harg18 arg19 harg19 q.x0 q.x1 q.x6 q.x16 q.x17 = R_r_251 (laterB q) := by
  unfold runLater.sl.r_251 R_r_251
  (try simp only [l_r_160, View.readAt_eq_ld, Memref.IsWhole.read_unread]) <;> rfl

theorem l_r_195 :
    runLater.sl.r_195 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_195 (laterB q) := by
  unfold runLater.sl.r_195 R_r_195
  (try simp only [l_v1416, View.readAt_eq_ld, Memref.IsWhole.read_unread]) <;> rfl

theorem l_r_118 :
    runLater.sl.r_118 (F := Ideal) c arg2 harg2 arg3 harg3 arg7 harg7 arg16 harg16 arg17 harg17 arg27 harg27 q.x0 q.x1 q.x5 q.x14 q.x15 q.xs1 = R_r_118 (laterB q) := by
  unfold runLater.sl.r_118 R_r_118
  (try simp only [l_r_62, l_r_63, View.readAt_eq_ld, Memref.IsWhole.read_unread]) <;> rfl

theorem l_r_153 :
    runLater.sl.r_153 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_153 (laterB q) := by
  unfold runLater.sl.r_153 R_r_153
  (try simp only [l_r_118, l_r_67, l_r_68, l_r_69, View.readAt_eq_ld, Memref.IsWhole.read_unread]) <;> rfl

theorem l_r_100 :
    runLater.sl.r_100 (F := Ideal) c arg29 harg29 q.xs3 = R_r_100 (laterB q) := by
  unfold runLater.sl.r_100 R_r_100
  (try simp only [l_v740, View.readAt_eq_ld, Memref.IsWhole.read_unread]) <;> rfl

theorem l_r_101 :
    runLater.sl.r_101 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_101 (laterB q) := by
  unfold runLater.sl.r_101 R_r_101
  (try simp only [l_r_67, l_r_68, l_r_69, l_r_74, View.readAt_eq_ld, Memref.IsWhole.read_unread]) <;> rfl

theorem l_r_106 :
    runLater.sl.r_106 (F := Ideal) c arg2 harg2 arg3 harg3 arg8 harg8 arg18 harg18 arg19 harg19 q.x0 q.x1 q.x6 q.x16 q.x17 = R_r_106 (laterB q) := by
  unfold runLater.sl.r_106 R_r_106
  (try simp only [l_r_68, View.readAt_eq_ld, Memref.IsWhole.read_unread]) <;> rfl

theorem l_r_99 :
    runLater.sl.r_99 (F := Ideal) c arg29 harg29 q.xs3 = R_r_99 (laterB q) := by
  unfold runLater.sl.r_99 R_r_99
  (try simp only [l_v740, View.readAt_eq_ld, Memref.IsWhole.read_unread]) <;> rfl

theorem l_r_107 :
    runLater.sl.r_107 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_107 (laterB q) := by
  unfold runLater.sl.r_107 R_r_107
  (try simp only [l_r_100, l_r_101, l_r_102, l_r_105, l_r_106, l_r_69, l_r_72, l_r_74, l_r_96, l_r_97, l_r_99, View.readAt_eq_ld, Memref.IsWhole.read_unread]) <;> rfl

theorem l_r_113 :
    runLater.sl.r_113 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_113 (laterB q) := by
  unfold runLater.sl.r_113 R_r_113
  (try simp only [l_r_108, l_r_109, l_r_110, l_r_67, l_r_68, l_r_69, l_r_72, l_r_74, View.readAt_eq_ld, Memref.IsWhole.read_unread]) <;> rfl

theorem l_r_116 :
    runLater.sl.r_116 (F := Ideal) c arg2 harg2 arg3 harg3 arg7 harg7 arg16 harg16 arg17 harg17 arg27 harg27 q.x0 q.x1 q.x5 q.x14 q.x15 q.xs1 = R_r_116 (laterB q) := by
  unfold runLater.sl.r_116 R_r_116
  (try simp only [l_r_63, View.readAt_eq_ld, Memref.IsWhole.read_unread]) <;> rfl

theorem l_r_122 :
    runLater.sl.r_122 (F := Ideal) c arg29 harg29 q.xs3 = R_r_122 (laterB q) := by
  unfold runLater.sl.r_122 R_r_122
  (try simp only [l_v906, View.readAt_eq_ld, Memref.IsWhole.read_unread]) <;> rfl

theorem l_r_123 :
    runLater.sl.r_123 (F := Ideal) c arg29 harg29 q.xs3 = R_r_123 (laterB q) := by
  unfold runLater.sl.r_123 R_r_123
  (try simp only [l_v906, View.readAt_eq_ld, Memref.IsWhole.read_unread]) <;> rfl

theorem l_r_125 :
    runLater.sl.r_125 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_125 (laterB q) := by
  unfold runLater.sl.r_125 R_r_125
  (try simp only [l_r_62, l_r_63, l_r_67, l_r_68, View.readAt_eq_ld, Memref.IsWhole.read_unread]) <;> rfl

theorem l_r_126 :
    runLater.sl.r_126 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_126 (laterB q) := by
  unfold runLater.sl.r_126 R_r_126
  (try simp only [l_r_116, l_r_118, l_r_119, l_r_120, l_r_122, l_r_123, l_r_124, l_r_125, l_r_67, l_r_68, l_r_69, View.readAt_eq_ld, Memref.IsWhole.read_unread]) <;> rfl

theorem l_r_131 :
    runLater.sl.r_131 (F := Ideal) c arg29 harg29 q.xs3 = R_r_131 (laterB q) := by
  unfold runLater.sl.r_131 R_r_131
  (try simp only [l_v986, View.readAt_eq_ld, Memref.IsWhole.read_unread]) <;> rfl

theorem l_r_132 :
    runLater.sl.r_132 (F := Ideal) c arg29 harg29 q.xs3 = R_r_132 (laterB q) := by
  unfold runLater.sl.r_132 R_r_132
  (try simp only [l_v986, View.readAt_eq_ld, Memref.IsWhole.read_unread]) <;> rfl

theorem l_r_133 :
    runLater.sl.r_133 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_133 (laterB q) := by
  unfold runLater.sl.r_133 R_r_133
  (try simp only [l_r_118, l_r_67, l_r_68, l_r_69, View.readAt_eq_ld, Memref.IsWhole.read_unread]) <;> rfl

theorem l_r_134 :
    runLater.sl.r_134 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_134 (laterB q) := by
  unfold runLater.sl.r_134 R_r_134
  (try simp only [l_r_116, l_r_67, View.readAt_eq_ld, Memref.IsWhole.read_unread]) <;> rfl

theorem l_r_138 :
    runLater.sl.r_138 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_138 (laterB q) := by
  unfold runLater.sl.r_138 R_r_138
  (try simp only [l_r_118, l_r_67, l_r_68, View.readAt_eq_ld, Memref.IsWhole.read_unread]) <;> rfl

theorem l_r_139 :
    runLater.sl.r_139 (F := Ideal) c arg2 harg2 arg3 harg3 arg8 harg8 arg18 harg18 q.x0 q.x1 q.x6 q.x16 = R_r_139 (laterB q) := by
  unfold runLater.sl.r_139 R_r_139
  (try simp only [l_r_69, View.readAt_eq_ld, Memref.IsWhole.read_unread]) <;> rfl

theorem l_r_140 :
    runLater.sl.r_140 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_140 (laterB q) := by
  unfold runLater.sl.r_140 R_r_140
  (try simp only [l_r_116, l_r_128, l_r_129, l_r_131, l_r_132, l_r_133, l_r_134, l_r_137, l_r_138, l_r_139, View.readAt_eq_ld, Memref.IsWhole.read_unread]) <;> rfl

theorem l_r_144 :
    runLater.sl.r_144 (F := Ideal) c arg29 harg29 q.xs3 = R_r_144 (laterB q) := by
  unfold runLater.sl.r_144 R_r_144
  (try simp only [l_v1066, View.readAt_eq_ld, Memref.IsWhole.read_unread]) <;> rfl

theorem l_r_145 :
    runLater.sl.r_145 (F := Ideal) c arg29 harg29 q.xs3 = R_r_145 (laterB q) := by
  unfold runLater.sl.r_145 R_r_145
  (try simp only [l_v1066, View.readAt_eq_ld, Memref.IsWhole.read_unread]) <;> rfl

theorem l_r_146 :
    runLater.sl.r_146 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_146 (laterB q) := by
  unfold runLater.sl.r_146 R_r_146
  (try simp only [l_r_116, l_r_118, l_r_141, l_r_142, l_r_144, l_r_145, l_r_67, l_r_68, l_r_69, View.readAt_eq_ld, Memref.IsWhole.read_unread]) <;> rfl

theorem l_r_151 :
    runLater.sl.r_151 (F := Ideal) c arg29 harg29 q.xs3 = R_r_151 (laterB q) := by
  unfold runLater.sl.r_151 R_r_151
  (try simp only [l_v1146, View.readAt_eq_ld, Memref.IsWhole.read_unread]) <;> rfl

theorem l_r_152 :
    runLater.sl.r_152 (F := Ideal) c arg29 harg29 q.xs3 = R_r_152 (laterB q) := by
  unfold runLater.sl.r_152 R_r_152
  (try simp only [l_v1146, View.readAt_eq_ld, Memref.IsWhole.read_unread]) <;> rfl

theorem l_r_154 :
    runLater.sl.r_154 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_154 (laterB q) := by
  unfold runLater.sl.r_154 R_r_154
  (try simp only [l_r_116, l_r_67, View.readAt_eq_ld, Memref.IsWhole.read_unread]) <;> rfl

theorem l_r_79 :
    runLater.sl.r_79 (F := Ideal) c arg29 harg29 q.xs3 = R_r_79 (laterB q) := by
  unfold runLater.sl.r_79 R_r_79
  (try simp only [View.readAt_eq_ld, Memref.IsWhole.read_unread]) <;> rfl

theorem l_r_80 :
    runLater.sl.r_80 (F := Ideal) c arg29 harg29 q.xs3 = R_r_80 (laterB q) := by
  unfold runLater.sl.r_80 R_r_80
  (try simp only [View.readAt_eq_ld, Memref.IsWhole.read_unread]) <;> rfl

theorem l_r_81 :
    runLater.sl.r_81 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_81 (laterB q) := by
  unfold runLater.sl.r_81 R_r_81
  (try simp only [l_r_67, l_r_68, l_r_69, l_r_74, View.readAt_eq_ld, Memref.IsWhole.read_unread]) <;> rfl

theorem l_r_82 :
    runLater.sl.r_82 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_82 (laterB q) := by
  unfold runLater.sl.r_82 R_r_82
  (try simp only [l_r_67, l_r_72, View.readAt_eq_ld, Memref.IsWhole.read_unread]) <;> rfl

theorem l_r_87 :
    runLater.sl.r_87 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_87 (laterB q) := by
  unfold runLater.sl.r_87 R_r_87
  (try simp only [l_r_72, l_r_76, l_r_77, l_r_79, l_r_80, l_r_81, l_r_82, l_r_85, l_r_86, View.readAt_eq_ld, Memref.IsWhole.read_unread]) <;> rfl

theorem l_r_158 :
    runLater.sl.r_158 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_158 (laterB q) := by
  unfold runLater.sl.r_158 R_r_158
  (try simp only [l_r_107, l_r_113, l_r_116, l_r_118, l_r_126, l_r_140, l_r_146, l_r_148, l_r_149, l_r_151, l_r_152, l_r_153, l_r_154, l_r_157, l_r_68, l_r_69, l_r_87, l_r_94, View.readAt_eq_ld, Memref.IsWhole.read_unread]) <;> rfl

theorem l_r_194 :
    runLater.sl.r_194 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_194 (laterB q) := by
  unfold runLater.sl.r_194 R_r_194
  (try simp only [l_v1416, View.readAt_eq_ld, Memref.IsWhole.read_unread]) <;> rfl

theorem l_r_198 :
    runLater.sl.r_198 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_198 (laterB q) := by
  unfold runLater.sl.r_198 R_r_198
  (try simp only [l_r_160, l_r_162, l_r_163, l_r_166, l_r_168, l_r_191, l_r_192, l_r_194, l_r_195, l_r_196, l_r_197, View.readAt_eq_ld, Memref.IsWhole.read_unread]) <;> rfl

theorem l_r_204 :
    runLater.sl.r_204 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_204 (laterB q) := by
  unfold runLater.sl.r_204 R_r_204
  (try simp only [l_v1496, View.readAt_eq_ld, Memref.IsWhole.read_unread]) <;> rfl

theorem l_r_205 :
    runLater.sl.r_205 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_205 (laterB q) := by
  unfold runLater.sl.r_205 R_r_205
  (try simp only [l_r_160, l_r_162, l_r_163, l_r_168, View.readAt_eq_ld, Memref.IsWhole.read_unread]) <;> rfl

theorem l_r_206 :
    runLater.sl.r_206 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_206 (laterB q) := by
  unfold runLater.sl.r_206 R_r_206
  (try simp only [l_r_160, l_r_166, View.readAt_eq_ld, Memref.IsWhole.read_unread]) <;> rfl

theorem l_r_211 :
    runLater.sl.r_211 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_211 (laterB q) := by
  unfold runLater.sl.r_211 R_r_211
  (try simp only [l_r_163, l_r_166, l_r_200, l_r_201, l_r_203, l_r_204, l_r_205, l_r_206, l_r_209, l_r_210, View.readAt_eq_ld, Memref.IsWhole.read_unread]) <;> rfl

theorem l_cst_300 :
    runLater.sl.cst_300 (F := Ideal)  = R_cst_300 (laterB q) := rfl

theorem l_r_222 :
    runLater.sl.r_222 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_222 (laterB q) := by
  unfold runLater.sl.r_222 R_r_222
  (try simp only [l_cst_300, l_r_215, l_r_216, l_r_217, View.readAt_eq_ld, Memref.IsWhole.read_unread]) <;> rfl

theorem l_r_223 :
    runLater.sl.r_223 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_223 (laterB q) := by
  unfold runLater.sl.r_223 R_r_223
  (try simp only [l_r_160, l_r_162, l_r_163, l_r_212, l_r_214, View.readAt_eq_ld, Memref.IsWhole.read_unread]) <;> rfl

theorem l_r_224 :
    runLater.sl.r_224 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_224 (laterB q) := by
  unfold runLater.sl.r_224 R_r_224
  (try simp only [l_cst_304, l_r_222, l_r_223, View.readAt_eq_ld, Memref.IsWhole.read_unread]) <;> rfl

theorem l_r_234 :
    runLater.sl.r_234 (F := Ideal) c arg2 harg2 arg3 harg3 arg7 harg7 arg16 harg16 arg17 harg17 arg27 harg27 q.x0 q.x1 q.x5 q.x14 q.x15 q.xs1 = R_r_234 (laterB q) := by
  unfold runLater.sl.r_234 R_r_234
  (try simp only [l_r_165, View.readAt_eq_ld, Memref.IsWhole.read_unread]) <;> rfl

theorem l_r_233 :
    runLater.sl.r_233 (F := Ideal) c arg2 harg2 arg3 harg3 arg7 harg7 arg16 harg16 arg17 harg17 arg27 harg27 q.x0 q.x1 q.x5 q.x14 q.x15 q.xs1 = R_r_233 (laterB q) := by
  unfold runLater.sl.r_233 R_r_233
  (try simp only [l_r_165, View.readAt_eq_ld, Memref.IsWhole.read_unread]) <;> rfl

theorem l_r_235 :
    runLater.sl.r_235 (F := Ideal) c arg2 harg2 arg3 harg3 arg7 harg7 arg16 harg16 arg17 harg17 arg27 harg27 q.x0 q.x1 q.x5 q.x14 q.x15 q.xs1 = R_r_235 (laterB q) := by
  unfold runLater.sl.r_235 R_r_235
  (try simp only [l_cst_300, l_r_233, View.readAt_eq_ld, Memref.IsWhole.read_unread]) <;> rfl

theorem l_r_227 :
    runLater.sl.r_227 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_227 (laterB q) := by
  unfold runLater.sl.r_227 R_r_227
  (try simp only [l_v1662, View.readAt_eq_ld, Memref.IsWhole.read_unread]) <;> rfl

theorem l_v1742 :
    runLater.sl.v1742 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_v1742 (laterB q) := by
  unfold runLater.sl.v1742 R_v1742 R_S0_6
  unfold runLater.sl.HS3_14
  rw [View.readCov_skip]; swap; · decide
  unfold runLater.sl.HS3_13
  rw [View.readCov_skip]; swap; · decide
  unfold runLater.sl.HS3_12
  rw [View.readCov_skip]; swap; · decide
  unfold runLater.sl.HS3_11
  rw [View.readCov_skip]; swap; · decide
  unfold runLater.sl.HS3_10
  rw [View.readCov_skip]; swap; · decide
  unfold runLater.sl.HS3_9
  rw [View.readCov_skip]; swap; · decide
  unfold runLater.sl.HS3_8
  rw [View.readCov_skip]; swap; · decide
  unfold runLater.sl.HS3_7
  rw [View.readCov_cons_toLoadRect]
  (try simp only [l_r_147, View.readAt_eq_ld, Memref.IsWhole.read_unread]) <;> rfl

theorem l_r_237 :
    runLater.sl.r_237 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_237 (laterB q) := by
  unfold runLater.sl.r_237 R_r_237
  (try simp only [l_v1742, View.readAt_eq_ld, Memref.IsWhole.read_unread]) <;> rfl

theorem l_r_238 :
    runLater.sl.r_238 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_238 (laterB q) := by
  unfold runLater.sl.r_238 R_r_238
  (try simp only [l_v1742, View.readAt_eq_ld, Memref.IsWhole.read_unread]) <;> rfl

theorem l_r_240 :
    runLater.sl.r_240 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_240 (laterB q) := by
  unfold runLater.sl.r_240 R_r_240
  (try simp only [l_r_160, l_r_212, View.readAt_eq_ld, Memref.IsWhole.read_unread]) <;> rfl

theorem l_r_243 :
    runLater.sl.r_243 (F := Ideal) c arg2 harg2 arg3 harg3 arg8 harg8 arg18 harg18 arg19 harg19 q.x0 q.x1 q.x6 q.x16 q.x17 = R_r_243 (laterB q) := by
  unfold runLater.sl.r_243 R_r_243
  (try simp only [l_r_160, View.readAt_eq_ld, Memref.IsWhole.read_unread]) <;> rfl

theorem l_r_244 :
    runLater.sl.r_244 (F := Ideal) c arg2 harg2 arg3 harg3 arg7 harg7 arg8 harg8 arg16 harg16 arg17 harg17 arg18 harg18 arg19 harg19 arg27 harg27 q.x0 q.x1 q.x5 q.x6 q.x14 q.x15 q.x16 q.x17 q.xs1 = R_r_244 (laterB q) := by
  unfold runLater.sl.r_244 R_r_244
  (try simp only [l_r_160, l_r_162, l_r_163, l_r_214, View.readAt_eq_ld, Memref.IsWhole.read_unread]) <;> rfl

theorem l_r_245 :
    runLater.sl.r_245 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_245 (laterB q) := by
  unfold runLater.sl.r_245 R_r_245
  (try simp only [l_r_212, l_r_234, l_r_235, l_r_237, l_r_238, l_r_239, l_r_240, l_r_243, l_r_244, View.readAt_eq_ld, Memref.IsWhole.read_unread]) <;> rfl

theorem l_r_246 :
    runLater.sl.r_246 (F := Ideal) c arg2 harg2 arg3 harg3 arg7 harg7 arg16 harg16 arg17 harg17 arg27 harg27 q.x0 q.x1 q.x5 q.x14 q.x15 q.xs1 = R_r_246 (laterB q) := by
  unfold runLater.sl.r_246 R_r_246
  (try simp only [l_r_165, View.readAt_eq_ld, Memref.IsWhole.read_unread]) <;> rfl

theorem l_r_247 :
    runLater.sl.r_247 (F := Ideal) c arg2 harg2 arg3 harg3 arg7 harg7 arg16 harg16 arg17 harg17 arg27 harg27 q.x0 q.x1 q.x5 q.x14 q.x15 q.xs1 = R_r_247 (laterB q) := by
  unfold runLater.sl.r_247 R_r_247
  (try simp only [l_r_165, View.readAt_eq_ld, Memref.IsWhole.read_unread]) <;> rfl

theorem l_r_236 :
    runLater.sl.r_236 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_236 (laterB q) := by
  unfold runLater.sl.r_236 R_r_236
  (try simp only [l_v1742, View.readAt_eq_ld, Memref.IsWhole.read_unread]) <;> rfl

theorem l_r_242 :
    runLater.sl.r_242 (F := Ideal) c arg2 harg2 arg3 harg3 arg8 harg8 arg18 harg18 arg19 harg19 q.x0 q.x1 q.x6 q.x16 q.x17 = R_r_242 (laterB q) := by
  unfold runLater.sl.r_242 R_r_242
  (try simp only [l_r_160, View.readAt_eq_ld, Memref.IsWhole.read_unread]) <;> rfl

theorem l_v1822 :
    runLater.sl.v1822 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_v1822 (laterB q) := by
  unfold runLater.sl.v1822 R_v1822 R_S0_7
  unfold runLater.sl.HS3_15
  rw [View.readCov_skip]; swap; · decide
  unfold runLater.sl.HS3_14
  rw [View.readCov_skip]; swap; · decide
  unfold runLater.sl.HS3_13
  rw [View.readCov_skip]; swap; · decide
  unfold runLater.sl.HS3_12
  rw [View.readCov_skip]; swap; · decide
  unfold runLater.sl.HS3_11
  rw [View.readCov_skip]; swap; · decide
  unfold runLater.sl.HS3_10
  rw [View.readCov_skip]; swap; · decide
  unfold runLater.sl.HS3_9
  rw [View.readCov_skip]; swap; · decide
  unfold runLater.sl.HS3_8
  rw [View.readCov_cons_toLoadRect]
  (try simp only [l_r_117, l_r_148, l_r_149, l_r_150, l_r_155, l_r_156, l_r_157, l_r_70, View.readAt_eq_ld, Memref.IsWhole.read_unread]) <;> rfl

theorem l_r_249 :
    runLater.sl.r_249 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_249 (laterB q) := by
  unfold runLater.sl.r_249 R_r_249
  (try simp only [l_v1822, View.readAt_eq_ld, Memref.IsWhole.read_unread]) <;> rfl

theorem l_r_250 :
    runLater.sl.r_250 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_250 (laterB q) := by
  unfold runLater.sl.r_250 R_r_250
  (try simp only [l_v1822, View.readAt_eq_ld, Memref.IsWhole.read_unread]) <;> rfl

theorem l_r_252 :
    runLater.sl.r_252 (F := Ideal) c arg2 harg2 arg3 harg3 arg8 harg8 arg18 harg18 arg19 harg19 q.x0 q.x1 q.x6 q.x16 q.x17 = R_r_252 (laterB q) := by
  unfold runLater.sl.r_252 R_r_252
  (try simp only [l_r_162, View.readAt_eq_ld, Memref.IsWhole.read_unread]) <;> rfl

theorem l_r_253 :
    runLater.sl.r_253 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_253 (laterB q) := by
  unfold runLater.sl.r_253 R_r_253
  (try simp only [l_r_160, l_r_162, l_r_163, l_r_212, l_r_214, l_r_246, l_r_247, l_r_249, l_r_250, l_r_251, l_r_252, View.readAt_eq_ld, Memref.IsWhole.read_unread]) <;> rfl

theorem l_r_4 :
    runLater.sl.r_4 (F := Ideal) c arg2 harg2 arg3 harg3 arg6 harg6 q.x0 q.x1 q.x4 = R_r_4 (laterB q) := by
  unfold runLater.sl.r_4 R_r_4
  (try simp only [l_r_1, View.readAt_eq_ld, Memref.IsWhole.read_unread]) <;> rfl

theorem l_r_255 :
    runLater.sl.r_255 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg26 harg26 arg27 harg27 arg28 harg28 arg29 harg29 q.x0 q.x1 q.x2 q.x3 q.x4 q.x5 q.x6 q.x7 q.x8 q.x9 q.x10 q.x11 q.x12 q.x13 q.x14 q.x15 q.x16 q.x17 q.x18 q.x19 q.x20 q.x21 q.xs0 q.xs1 q.xs2 q.xs3 = R_r_255 (laterB q) := by
  unfold runLater.sl.r_255 R_r_255
  (try simp only [l_r_158, l_r_176, l_r_190, l_r_198, l_r_211, l_r_224, l_r_232, l_r_245, l_r_253, l_r_4, l_r_58, l_r_61, View.readAt_eq_ld, Memref.IsWhole.read_unread]) <;> rfl

theorem l_r_257 :
    runLater.sl.r_257 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg26 harg26 arg27 harg27 arg28 harg28 arg29 harg29 q.x0 q.x1 q.x2 q.x3 q.x4 q.x5 q.x6 q.x7 q.x8 q.x9 q.x10 q.x11 q.x12 q.x13 q.x14 q.x15 q.x16 q.x17 q.x18 q.x19 q.x20 q.x21 q.xs0 q.xs1 q.xs2 q.xs3 = R_r_257 (laterB q) := by
  unfold runLater.sl.r_257 R_r_257
  (try simp only [l_r_158, l_r_176, l_r_190, l_r_198, l_r_211, l_r_224, l_r_232, l_r_245, l_r_253, l_r_4, l_r_58, l_r_61, View.readAt_eq_ld, Memref.IsWhole.read_unread]) <;> rfl

theorem l_r_248 :
    runLater.sl.r_248 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_248 (laterB q) := by
  unfold runLater.sl.r_248 R_r_248
  (try simp only [l_v1822, View.readAt_eq_ld, Memref.IsWhole.read_unread]) <;> rfl

theorem l_r :
    runLater.sl.r (F := Ideal) c arg2 harg2 q.x0 = R_r (laterB q) := by
  unfold runLater.sl.r R_r
  (try simp only [View.readAt_eq_ld, Memref.IsWhole.read_unread]) <;> rfl

theorem l_r_57 :
    runLater.sl.r_57 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = R_r_57 (laterB q) := by
  unfold runLater.sl.r_57 R_r_57
  (try simp only [l_r_15, l_r_16, l_r_46, l_r_47, l_r_48, View.readAt_eq_ld, Memref.IsWhole.read_unread]) <;> rfl

theorem l_r_254 :
    runLater.sl.r_254 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = R_r_254 (laterB q) := by
  unfold runLater.sl.r_254 R_r_254
  (try simp only [l_r_160, l_r_164, l_r_213, l_r_246, l_r_247, l_r_248, l_r_251, View.readAt_eq_ld, Memref.IsWhole.read_unread]) <;> rfl

theorem l_r_256 :
    runLater.sl.r_256 (F := Ideal) c arg24 harg24 q.x22 = R_r_256 (laterB q) := by
  unfold runLater.sl.r_256 R_r_256
  (try simp only [View.readAt_eq_ld, Memref.IsWhole.read_unread]) <;> rfl

end Cert.Mix

end
-- ==== Proof.MixValQ.lean ====
module

public import proofs.«01_k».proof.Proof.MixVal0
public import proofs.«01_k».proof.Proof.MixEqFirst
public import proofs.«01_k».proof.Proof.MixEqLater

@[expose] public section

set_option maxRecDepth 16384
set_option maxHeartbeats 400000

/-! A block whose arrays agree with the weights and the tokens is a block of the specification. -/

noncomputable section

namespace Cert.Mix

open Idealize.ShloMosaic Idealize.ShloMosaic.TcCoe Cert.KernelIdeal Cert.KernelIdeal.Gen

/-- The arrays a block is given agree with the weights and the tokens from `t0` on. -/
structure AgrQ (W : Wt) (X : ℕ → Fin 1024 → EReal) (t0 : ℕ) (g : PkF) : Prop where
  x : ∀ (i : Fin 256) (k : Fin 1024), g.x0 (ix3 0 i k) = X (t0 + i) k
  pre : ∀ k : Fin 1024, g.x1 (ix2 0 k) = W.pre k
  wlx : ∀ k l : Fin 1024, g.x2 (ix2 k l) = W.win k ⟨l, by omega⟩
  wlg : ∀ k l : Fin 1024, g.x3 (ix2 k l) = W.win k ⟨1024 + l, by omega⟩
  wz : ∀ k l : Fin 1024, g.x4 (ix2 k l) = W.win k ⟨2048 + l, by omega⟩
  wxb : ∀ (k : Fin 1024) (l : Fin 1536), g.x5 (ix2 k l) = W.win k ⟨3072 + l, by omega⟩
  wdt : ∀ (k : Fin 1024) (e : Fin 128), g.x6 (ix2 k e) = if h : (e : ℕ) < 16 then W.win k ⟨4608 + e, by omega⟩ else 0
  lcw : ∀ (k : Fin 4) (l : Fin 1024), g.x7 (ix2 k l) = W.lcw k l
  lcb : ∀ l : Fin 1024, g.x8 (ix2 0 l) = W.lcb l
  wa : ∀ (q : Fin 4) (x j : Fin 256), g.x9 (ix3 q x ⟨j, by omega⟩) = if (x : ℕ) / 64 = j / 64 then
    W.wa ⟨4 * q + x / 64, by omega⟩ ⟨x % 64, by omega⟩ ⟨j % 64, by omega⟩ else 0
  wx : ∀ (q : Fin 4) (x j : Fin 256), g.x9 (ix3 q x ⟨256 + j, by omega⟩) = if (x : ℕ) / 64 = j / 64 then
    W.wx ⟨4 * q + x / 64, by omega⟩ ⟨x % 64, by omega⟩ ⟨j % 64, by omega⟩ else 0
  ba : ∀ l : Fin 1024, g.x10 (ix2 0 l) = W.ba l
  bx : ∀ l : Fin 1024, g.x11 (ix2 0 l) = W.bx l
  lam : ∀ l : Fin 1024, g.x12 (ix2 0 l) = W.lam l
  lno : ∀ l : Fin 1024, g.x13 (ix2 0 l) = W.lno l
  scw : ∀ (k : Fin 4) (l : Fin 1536), g.x14 (ix2 k l) = W.scw k l
  scb : ∀ l : Fin 1536, g.x15 (ix2 0 l) = W.scb l
  dtb : ∀ e : Fin 128, g.x16 (ix2 0 e) = if h : (e : ℕ) < 16 then W.dtb ⟨e, h⟩ else 0
  alog : ∀ e : Fin 128, g.x17 (ix2 0 e) = if h : (e : ℕ) < 16 then W.alog ⟨e, h⟩ else 0
  dd : ∀ l : Fin 1024, g.x18 (ix2 0 l) = W.dd ⟨l / 64, by omega⟩
  sno : ∀ l : Fin 1024, g.x19 (ix2 0 l) = W.sno l
  wol : ∀ j k : Fin 1024, g.x20 (ix2 j k) = W.wout ⟨j, by omega⟩ k
  wos : ∀ j k : Fin 1024, g.x21 (ix2 j k) = W.wout ⟨1024 + j, by omega⟩ k
  post : ∀ k : Fin 1024, g.x22 (ix2 0 k) = W.post k

/-- A later block's arrays, of those it shares with a first one and the carried ones. -/
def mkL (q : PkF) (s0 : Vec Ideal S264x1024 .f32) (s1 : Vec Ideal S264x1536 .f32) (s2 : Vec Ideal S8x1024 .f32)
    (s3 : Vec Ideal S8x128x128 .f32) : PkL := ⟨q.x0, q.x1, q.x2, q.x3, q.x4, q.x5, q.x6, q.x7, q.x8, q.x9, q.x10, q.x11, q.x12, q.x13, q.x14, q.x15, q.x16, q.x17, q.x18, q.x19, q.x20, q.x21, q.x22, s0, s1, s2, s3⟩

variable {W : Wt} {X : ℕ → Fin 1024 → EReal} {t0 : ℕ} {q : PkF}

theorem zer : Ideal.ofBits .f32 0x00000000#32 = 0 := by simp [Ideal.ofBits, Ideal.ieee]
theorem p2 (j : Fin 8) (l : Fin 1024) : (k0_pay2 (F := Ideal)) (ix2 j l) = Ideal.ofBits .f32 0x00000000#32 := by pointwise [k0_pay2] <;> rfl
theorem p3 (j : Fin 8) (l : Fin 1536) : (k0_pay3 (F := Ideal)) (ix2 j l) = Ideal.ofBits .f32 0x00000000#32 := by pointwise [k0_pay3] <;> rfl
theorem p4 (l : Fin 1024) : (k0_pay4 (F := Ideal)) (ix2 0 l) = Ideal.ofBits .f32 0x00000000#32 := by pointwise [k0_pay4] <;> rfl
theorem p5 (p : Fin 8) (n l : Fin 128) : (k0_pay5 (F := Ideal)) (ix3 p n l) = Ideal.ofBits .f32 0x00000000#32 := by pointwise [k0_pay5] <;> rfl
theorem p6 (s0 : Vec Ideal S264x1024 .f32) (j : Fin 3) (l : Fin 1024) :
    (k0_pay6 (View.ld s0 (Rect.unit ![256, 0] S8x1024.size inb_S264x1024_S8x1024_256_0))) (ix2 (⟨5 + j, by omega⟩ : Fin 8) l)
      = s0 (ix2 (⟨261 + j, by omega⟩ : Fin 264) l) := by
  have e : (k0_pay6 (View.ld s0 (Rect.unit ![256, 0] S8x1024.size inb_S264x1024_S8x1024_256_0))) (ix2 (⟨5 + j, by omega⟩ : Fin 8) l)
      = s0 (ix2 (⟨256 + (5 + j), by omega⟩ : Fin 264) l) := by pointwise [k0_pay6] <;> rfl
  exact e.trans (congrArg (fun i : Fin 264 => s0 (ix2 i l)) (Fin.ext (show 256 + (5 + (j : ℕ)) = 261 + j by omega)))
theorem p7 (s1 : Vec Ideal S264x1536 .f32) (j : Fin 3) (l : Fin 1536) :
    (k0_pay7 (View.ld s1 (Rect.unit ![256, 0] S8x1536.size inb_S264x1536_S8x1536_256_0))) (ix2 (⟨5 + j, by omega⟩ : Fin 8) l)
      = s1 (ix2 (⟨261 + j, by omega⟩ : Fin 264) l) := by
  have e : (k0_pay7 (View.ld s1 (Rect.unit ![256, 0] S8x1536.size inb_S264x1536_S8x1536_256_0))) (ix2 (⟨5 + j, by omega⟩ : Fin 8) l)
      = s1 (ix2 (⟨256 + (5 + j), by omega⟩ : Fin 264) l) := by pointwise [k0_pay7] <;> rfl
  exact e.trans (congrArg (fun i : Fin 264 => s1 (ix2 i l)) (Fin.ext (show 256 + (5 + (j : ℕ)) = 261 + j by omega)))

theorem agr_firstB (h : t0 = 0) (A : AgrQ W X t0 q) : Agr W X t0 (firstB q) where
  x := A.x
  pre := A.pre
  wlx := A.wlx
  wlg := A.wlg
  wz := A.wz
  wxb := A.wxb
  wdt := A.wdt
  lcw := A.lcw
  lcb := A.lcb
  wa := A.wa
  wx := A.wx
  ba := A.ba
  bx := A.bx
  lam := A.lam
  lno := A.lno
  scw := A.scw
  scb := A.scb
  dtb := A.dtb
  alog := A.alog
  dd := A.dd
  sno := A.sno
  wol := A.wol
  wos := A.wos
  post := A.post
  hd0 j l := by
    refine (p2 ⟨5 + j, by omega⟩ l).trans (zer.trans ?_)
    unfold back; rw [if_pos (by omega)]
  hd1 j l := by
    refine (p3 ⟨5 + j, by omega⟩ l).trans (zer.trans ?_)
    unfold back; rw [if_pos (by omega)]
  h0 l := by
    refine (p4 l).trans (zer.trans ?_)
    rw [h]; rfl
  st p n l := by
    refine (p5 p n l).trans (zer.trans ?_)
    rw [h]; rfl

theorem agr_laterB {s0 : Vec Ideal S264x1024 .f32} {s1 : Vec Ideal S264x1536 .f32} {s2 : Vec Ideal S8x1024 .f32}
    {s3 : Vec Ideal S8x128x128 .f32} (A : AgrQ W X t0 q) (H : Left W X t0 s0 s1 s2 s3) : Agr W X t0 (laterB (mkL q s0 s1 s2 s3)) where
  x := A.x
  pre := A.pre
  wlx := A.wlx
  wlg := A.wlg
  wz := A.wz
  wxb := A.wxb
  wdt := A.wdt
  lcw := A.lcw
  lcb := A.lcb
  wa := A.wa
  wx := A.wx
  ba := A.ba
  bx := A.bx
  lam := A.lam
  lno := A.lno
  scw := A.scw
  scb := A.scb
  dtb := A.dtb
  alog := A.alog
  dd := A.dd
  sno := A.sno
  wol := A.wol
  wos := A.wos
  post := A.post
  hd0 j l := (p6 s0 j l).trans (H.b0 j l)
  hd1 j l := (p7 s1 j l).trans (H.b1 j l)
  h0 := H.b2
  st := H.b3

end Cert.Mix

end
-- ==== Proof.MixEndFirst.lean ====
module

public import proofs.«01_k».proof.Proof.MixEqFirst
public import proofs.«01_k».proof.Proof.MixRunA
public import Idealize.ShloMosaic.Lib.Pipeline.ReadBack

@[expose] public section

set_option maxRecDepth 16384
set_option maxHeartbeats 400000

/-! What the mixer's block leaves: its rows of the result and the arrays it carries on. -/

noncomputable section

namespace Cert.Mix

open Cert.KernelIdeal Cert.KernelIdeal.Gen Idealize.ShloMosaic

variable (c : Dev nD) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1536 .bf16) (harg7 : arg7.IsWhole) (arg8 : Memref sig .tc .vmem S1024x128 .bf16) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x1536 .f32) (harg16 : arg16.IsWhole) (arg17 : Memref sig .tc .vmem S1x1536 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1x1024 .f32) (harg24 : arg24.IsWhole) (arg25 : Memref sig .tc .vmem S1x256x1024 .f32) (harg25 : arg25.IsWhole) (arg26 : Memref sig .tc .vmem S264x1024 .f32) (harg26 : arg26.IsWhole) (arg27 : Memref sig .tc .vmem S264x1536 .f32) (harg27 : arg27.IsWhole) (arg28 : Memref sig .tc .vmem S8x1024 .f32) (harg28 : arg28.IsWhole) (arg29 : Memref sig .tc .vmem S8x128x128 .f32) (harg29 : arg29.IsWhole) (q : PkF)

theorem f_HS3_10 :
    runFirst.sl.HS3_10 (F := Ideal) c arg2 harg2 arg3 harg3 arg7 harg7 arg8 harg8 arg16 harg16 arg17 harg17 arg18 harg18 arg19 harg19 arg27 arg29 q.x0 q.x1 q.x5 q.x6 q.x14 q.x15 q.x16 q.x17
      = (⟨Rect.unit ![0, 0, 0] S1x128x128.size inb_S8x128x128_S1x128x128_0_0_0, R_S1_0 (firstB q)⟩ : View.Piece (Elt Ideal) S8x128x128 .f32) :: runFirst.sl.HS3_9 (F := Ideal) c arg2 harg2 arg3 harg3 arg7 harg7 arg8 harg8 arg16 harg16 arg17 harg17 arg18 harg18 arg19 harg19 arg27 arg29 q.x0 q.x1 q.x5 q.x6 q.x14 q.x15 q.x16 q.x17 := by
  unfold runFirst.sl.HS3_10 R_S1_0
  (try simp only [f_r_159, f_r_163, f_r_166, f_r_168, f_r_169, f_r_170, f_r_173, View.readAt_eq_ld, Memref.IsWhole.read_unread]) <;> rfl

theorem f_HS3_11 :
    runFirst.sl.HS3_11 (F := Ideal) c arg2 harg2 arg3 harg3 arg7 harg7 arg8 harg8 arg16 harg16 arg17 harg17 arg18 harg18 arg19 harg19 arg27 arg29 q.x0 q.x1 q.x5 q.x6 q.x14 q.x15 q.x16 q.x17
      = (⟨Rect.unit ![1, 0, 0] S1x128x128.size inb_S8x128x128_S1x128x128_1_0_0, R_S1_1 (firstB q)⟩ : View.Piece (Elt Ideal) S8x128x128 .f32) :: runFirst.sl.HS3_10 (F := Ideal) c arg2 harg2 arg3 harg3 arg7 harg7 arg8 harg8 arg16 harg16 arg17 harg17 arg18 harg18 arg19 harg19 arg27 arg29 q.x0 q.x1 q.x5 q.x6 q.x14 q.x15 q.x16 q.x17 := by
  unfold runFirst.sl.HS3_11 R_S1_1
  (try simp only [f_r_163, f_r_166, f_r_177, f_r_178, f_r_179, f_r_184, f_r_185, f_r_186, View.readAt_eq_ld, Memref.IsWhole.read_unread]) <;> rfl

theorem f_HS3_12 :
    runFirst.sl.HS3_12 (F := Ideal) c arg2 harg2 arg3 harg3 arg7 harg7 arg8 harg8 arg16 harg16 arg17 harg17 arg18 harg18 arg19 harg19 arg27 arg29 q.x0 q.x1 q.x5 q.x6 q.x14 q.x15 q.x16 q.x17
      = (⟨Rect.unit ![2, 0, 0] S1x128x128.size inb_S8x128x128_S1x128x128_2_0_0, R_S1_2 (firstB q)⟩ : View.Piece (Elt Ideal) S8x128x128 .f32) :: runFirst.sl.HS3_11 (F := Ideal) c arg2 harg2 arg3 harg3 arg7 harg7 arg8 harg8 arg16 harg16 arg17 harg17 arg18 harg18 arg19 harg19 arg27 arg29 q.x0 q.x1 q.x5 q.x6 q.x14 q.x15 q.x16 q.x17 := by
  unfold runFirst.sl.HS3_12 R_S1_2
  (try simp only [f_r_159, f_r_163, f_r_166, f_r_190, f_r_191, f_r_192, f_r_195, View.readAt_eq_ld, Memref.IsWhole.read_unread]) <;> rfl

theorem f_HS3_13 :
    runFirst.sl.HS3_13 (F := Ideal) c arg2 harg2 arg3 harg3 arg7 harg7 arg8 harg8 arg16 harg16 arg17 harg17 arg18 harg18 arg19 harg19 arg27 arg29 q.x0 q.x1 q.x5 q.x6 q.x14 q.x15 q.x16 q.x17
      = (⟨Rect.unit ![3, 0, 0] S1x128x128.size inb_S8x128x128_S1x128x128_3_0_0, R_S1_3 (firstB q)⟩ : View.Piece (Elt Ideal) S8x128x128 .f32) :: runFirst.sl.HS3_12 (F := Ideal) c arg2 harg2 arg3 harg3 arg7 harg7 arg8 harg8 arg16 harg16 arg17 harg17 arg18 harg18 arg19 harg19 arg27 arg29 q.x0 q.x1 q.x5 q.x6 q.x14 q.x15 q.x16 q.x17 := by
  unfold runFirst.sl.HS3_13 R_S1_3
  (try simp only [f_r_163, f_r_166, f_r_199, f_r_200, f_r_201, f_r_206, f_r_207, f_r_208, View.readAt_eq_ld, Memref.IsWhole.read_unread]) <;> rfl

theorem f_HS3_14 :
    runFirst.sl.HS3_14 (F := Ideal) c arg2 harg2 arg3 harg3 arg7 harg7 arg8 harg8 arg16 harg16 arg17 harg17 arg18 harg18 arg19 harg19 arg27 arg29 q.x0 q.x1 q.x5 q.x6 q.x14 q.x15 q.x16 q.x17
      = (⟨Rect.unit ![4, 0, 0] S1x128x128.size inb_S8x128x128_S1x128x128_4_0_0, R_S1_4 (firstB q)⟩ : View.Piece (Elt Ideal) S8x128x128 .f32) :: runFirst.sl.HS3_13 (F := Ideal) c arg2 harg2 arg3 harg3 arg7 harg7 arg8 harg8 arg16 harg16 arg17 harg17 arg18 harg18 arg19 harg19 arg27 arg29 q.x0 q.x1 q.x5 q.x6 q.x14 q.x15 q.x16 q.x17 := by
  unfold runFirst.sl.HS3_14 R_S1_4
  (try simp only [f_r_214, f_r_215, f_r_216, f_r_217, f_r_218, f_r_219, f_r_220, View.readAt_eq_ld, Memref.IsWhole.read_unread]) <;> rfl

theorem f_HS3_15 :
    runFirst.sl.HS3_15 (F := Ideal) c arg2 harg2 arg3 harg3 arg7 harg7 arg8 harg8 arg16 harg16 arg17 harg17 arg18 harg18 arg19 harg19 arg27 arg29 q.x0 q.x1 q.x5 q.x6 q.x14 q.x15 q.x16 q.x17
      = (⟨Rect.unit ![5, 0, 0] S1x128x128.size inb_S8x128x128_S1x128x128_5_0_0, R_S1_5 (firstB q)⟩ : View.Piece (Elt Ideal) S8x128x128 .f32) :: runFirst.sl.HS3_14 (F := Ideal) c arg2 harg2 arg3 harg3 arg7 harg7 arg8 harg8 arg16 harg16 arg17 harg17 arg18 harg18 arg19 harg19 arg27 arg29 q.x0 q.x1 q.x5 q.x6 q.x14 q.x15 q.x16 q.x17 := by
  unfold runFirst.sl.HS3_15 R_S1_5
  (try simp only [f_r_159, f_r_163, f_r_212, f_r_224, f_r_225, f_r_226, f_r_229, View.readAt_eq_ld, Memref.IsWhole.read_unread]) <;> rfl

theorem f_HS3_16 :
    runFirst.sl.HS3_16 (F := Ideal) c arg2 harg2 arg3 harg3 arg7 harg7 arg8 harg8 arg16 harg16 arg17 harg17 arg18 harg18 arg19 harg19 arg27 arg29 q.x0 q.x1 q.x5 q.x6 q.x14 q.x15 q.x16 q.x17
      = (⟨Rect.unit ![6, 0, 0] S1x128x128.size inb_S8x128x128_S1x128x128_6_0_0, R_S1_6 (firstB q)⟩ : View.Piece (Elt Ideal) S8x128x128 .f32) :: runFirst.sl.HS3_15 (F := Ideal) c arg2 harg2 arg3 harg3 arg7 harg7 arg8 harg8 arg16 harg16 arg17 harg17 arg18 harg18 arg19 harg19 arg27 arg29 q.x0 q.x1 q.x5 q.x6 q.x14 q.x15 q.x16 q.x17 := by
  unfold runFirst.sl.HS3_16 R_S1_6
  (try simp only [f_r_163, f_r_212, f_r_233, f_r_234, f_r_235, f_r_240, f_r_241, f_r_242, View.readAt_eq_ld, Memref.IsWhole.read_unread]) <;> rfl

theorem f_out (i : grid0.Coords)  (hc0 : cond0_0 i) (hc1 : ¬cond0_1 i) : (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 q.x0 q.x1 q.x2 q.x3 q.x4 q.x5 q.x6 q.x7 q.x8 q.x9 q.x10 q.x11 q.x12 q.x13 q.x14 q.x15 q.x16 q.x17 q.x18 q.x19 q.x20 q.x21 q.x22).1
    = [⟨Rect.unit ![0, 0, 0] S1x256x1024.size inb_S1x256x1024_S1x256x1024_0_0_0, R_out (firstB q)⟩] := by
  show [(⟨Rect.unit ![0, 0, 0] S1x256x1024.size inb_S1x256x1024_S1x256x1024_0_0_0, k0_pay1 (runFirst.sl.r (F := Ideal) c arg2 harg2 q.x0) (runFirst.sl.r_254 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg26 arg27 arg28 arg29 q.x0 q.x1 q.x2 q.x3 q.x4 q.x5 q.x6 q.x7 q.x8 q.x9 q.x10 q.x11 q.x12 q.x13 q.x14 q.x15 q.x16 q.x17 q.x18 q.x19 q.x20 q.x21) (runFirst.sl.r_255 (F := Ideal) c arg24 harg24 q.x22) (runFirst.sl.r_256 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg26 arg27 arg28 arg29 q.x0 q.x1 q.x2 q.x3 q.x4 q.x5 q.x6 q.x7 q.x8 q.x9 q.x10 q.x11 q.x12 q.x13 q.x14 q.x15 q.x16 q.x17 q.x18 q.x19 q.x20 q.x21)⟩ : View.Piece (Elt Ideal) S1x256x1024 .f32)] = _
  rw [f_r, f_r_254, f_r_255, f_r_256]; rfl

theorem f_b0 (i : grid0.Coords)  (hc0 : cond0_0 i) (hc1 : ¬cond0_1 i) : (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 q.x0 q.x1 q.x2 q.x3 q.x4 q.x5 q.x6 q.x7 q.x8 q.x9 q.x10 q.x11 q.x12 q.x13 q.x14 q.x15 q.x16 q.x17 q.x18 q.x19 q.x20 q.x21 q.x22).2.1 = R_HS0_2 (firstB q) := f_HS0_2 ..

theorem f_b1 (i : grid0.Coords)  (hc0 : cond0_0 i) (hc1 : ¬cond0_1 i) : (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 q.x0 q.x1 q.x2 q.x3 q.x4 q.x5 q.x6 q.x7 q.x8 q.x9 q.x10 q.x11 q.x12 q.x13 q.x14 q.x15 q.x16 q.x17 q.x18 q.x19 q.x20 q.x21 q.x22).2.2.1 = R_HS1_2 (firstB q) := f_HS1_2 ..

theorem f_b2 (i : grid0.Coords)  (hc0 : cond0_0 i) (hc1 : ¬cond0_1 i) : ∃ L, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 q.x0 q.x1 q.x2 q.x3 q.x4 q.x5 q.x6 q.x7 q.x8 q.x9 q.x10 q.x11 q.x12 q.x13 q.x14 q.x15 q.x16 q.x17 q.x18 q.x19 q.x20 q.x21 q.x22).2.2.2.1 = ⟨Rect.unit ![0, 0] S8x1024.size inb_S8x1024_S8x1024_0_0, R_carry (firstB q)⟩ :: L := by
  refine ⟨runFirst.sl.HS2_1 (F := Ideal), ?_⟩
  show runFirst.sl.HS2_2 (F := Ideal) c arg2 harg2 arg3 harg3 arg4 harg4 arg9 harg9 arg10 harg10 arg11 harg11 arg12 harg12 arg13 harg13 arg14 harg14 arg26 arg28 q.x0 q.x1 q.x2 q.x7 q.x8 q.x9 q.x10 q.x11 q.x12 = _
  unfold runFirst.sl.HS2_2
  rw [f_r_56]; rfl

theorem f_b3 (i : grid0.Coords)  (hc0 : cond0_0 i) (hc1 : ¬cond0_1 i) : ∃ L, (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 q.x0 q.x1 q.x2 q.x3 q.x4 q.x5 q.x6 q.x7 q.x8 q.x9 q.x10 q.x11 q.x12 q.x13 q.x14 q.x15 q.x16 q.x17 q.x18 q.x19 q.x20 q.x21 q.x22).2.2.2.2.1 = ⟨Rect.unit ![7, 0, 0] S1x128x128.size inb_S8x128x128_S1x128x128_7_0_0, R_S1_7 (firstB q)⟩ :: ⟨Rect.unit ![6, 0, 0] S1x128x128.size inb_S8x128x128_S1x128x128_6_0_0, R_S1_6 (firstB q)⟩ :: ⟨Rect.unit ![5, 0, 0] S1x128x128.size inb_S8x128x128_S1x128x128_5_0_0, R_S1_5 (firstB q)⟩ :: ⟨Rect.unit ![4, 0, 0] S1x128x128.size inb_S8x128x128_S1x128x128_4_0_0, R_S1_4 (firstB q)⟩ :: ⟨Rect.unit ![3, 0, 0] S1x128x128.size inb_S8x128x128_S1x128x128_3_0_0, R_S1_3 (firstB q)⟩ :: ⟨Rect.unit ![2, 0, 0] S1x128x128.size inb_S8x128x128_S1x128x128_2_0_0, R_S1_2 (firstB q)⟩ :: ⟨Rect.unit ![1, 0, 0] S1x128x128.size inb_S8x128x128_S1x128x128_1_0_0, R_S1_1 (firstB q)⟩ :: ⟨Rect.unit ![0, 0, 0] S1x128x128.size inb_S8x128x128_S1x128x128_0_0_0, R_S1_0 (firstB q)⟩ :: L := by
  refine ⟨runFirst.sl.HS3_9 (F := Ideal) c arg2 harg2 arg3 harg3 arg7 harg7 arg8 harg8 arg16 harg16 arg17 harg17 arg18 harg18 arg19 harg19 arg27 arg29 q.x0 q.x1 q.x5 q.x6 q.x14 q.x15 q.x16 q.x17, ?_⟩
  show (⟨Rect.unit ![7, 0, 0] S1x128x128.size inb_S8x128x128_S1x128x128_7_0_0, runFirst.sl.r_253 (F := Ideal) c arg2 harg2 arg3 harg3 arg7 harg7 arg8 harg8 arg16 harg16 arg17 harg17 arg18 harg18 arg19 harg19 arg27 arg29 q.x0 q.x1 q.x5 q.x6 q.x14 q.x15 q.x16 q.x17⟩ : View.Piece (Elt Ideal) S8x128x128 .f32) :: runFirst.sl.HS3_16 (F := Ideal) c arg2 harg2 arg3 harg3 arg7 harg7 arg8 harg8 arg16 harg16 arg17 harg17 arg18 harg18 arg19 harg19 arg27 arg29 q.x0 q.x1 q.x5 q.x6 q.x14 q.x15 q.x16 q.x17 = _
  rw [f_r_253, f_HS3_16, f_HS3_15, f_HS3_14, f_HS3_13, f_HS3_12, f_HS3_11, f_HS3_10]; rfl

end Cert.Mix

end
-- ==== Proof.MixValA.lean ====
module

public import proofs.«01_k».proof.Proof.MixValR
public import proofs.«01_k».proof.Proof.MixValQ
public import proofs.«01_k».proof.Proof.MixEndFirst

@[expose] public section

set_option maxRecDepth 16384
set_option maxHeartbeats 400000

/-! A block of the grid, of any arrays: it leaves what the specification says. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD) (t : Fin cfg0.N) (h : t.val % 32 = 0)

/-- The body at a point, of any arrays. -/
def firstAtQ (q : PkF) :=
  runFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) ((hcond0_0 t).mpr h) (fun h' => absurd ((hcond0_1 t).mp h') (by omega)) q.x0 q.x1 q.x2 q.x3 q.x4 q.x5 q.x6 q.x7 q.x8 q.x9 q.x10 q.x11 q.x12 q.x13 q.x14 q.x15 q.x16 q.x17 q.x18 q.x19 q.x20 q.x21 q.x22

/-- What it leaves. -/
def firstOutQ (q : PkF) :=
  rdAll (firstAtQ c t h q).1 (firstAtQ c t h q).2.1 (firstAtQ c t h q).2.2.1 (firstAtQ c t h q).2.2.2.1 (firstAtQ c t h q).2.2.2.2.1

theorem firstQ_out (q : PkF) : (firstAtQ c t h q).1 = [⟨Rect.unit ![0, 0, 0] S1x256x1024.size inb_S1x256x1024_S1x256x1024_0_0_0, R_out (firstB q)⟩] := by
  unfold firstAtQ
  exact f_out ..

theorem firstQ_b0 (q : PkF) : (firstAtQ c t h q).2.1 = R_HS0_2 (firstB q) := by
  unfold firstAtQ
  exact f_b0 ..

theorem firstQ_b1 (q : PkF) : (firstAtQ c t h q).2.2.1 = R_HS1_2 (firstB q) := by
  unfold firstAtQ
  exact f_b1 ..

theorem firstQ_b2 (q : PkF) : ∃ L, (firstAtQ c t h q).2.2.2.1 = ⟨Rect.unit ![0, 0] S8x1024.size inb_S8x1024_S8x1024_0_0, R_carry (firstB q)⟩ :: L := by
  unfold firstAtQ
  exact f_b2 ..

theorem firstQ_b3 (q : PkF) : ∃ L, (firstAtQ c t h q).2.2.2.2.1 = ⟨Rect.unit ![7, 0, 0] S1x128x128.size inb_S8x128x128_S1x128x128_7_0_0, R_S1_7 (firstB q)⟩ :: ⟨Rect.unit ![6, 0, 0] S1x128x128.size inb_S8x128x128_S1x128x128_6_0_0, R_S1_6 (firstB q)⟩ :: ⟨Rect.unit ![5, 0, 0] S1x128x128.size inb_S8x128x128_S1x128x128_5_0_0, R_S1_5 (firstB q)⟩ :: ⟨Rect.unit ![4, 0, 0] S1x128x128.size inb_S8x128x128_S1x128x128_4_0_0, R_S1_4 (firstB q)⟩ :: ⟨Rect.unit ![3, 0, 0] S1x128x128.size inb_S8x128x128_S1x128x128_3_0_0, R_S1_3 (firstB q)⟩ :: ⟨Rect.unit ![2, 0, 0] S1x128x128.size inb_S8x128x128_S1x128x128_2_0_0, R_S1_2 (firstB q)⟩ :: ⟨Rect.unit ![1, 0, 0] S1x128x128.size inb_S8x128x128_S1x128x128_1_0_0, R_S1_1 (firstB q)⟩ :: ⟨Rect.unit ![0, 0, 0] S1x128x128.size inb_S8x128x128_S1x128x128_0_0_0, R_S1_0 (firstB q)⟩ :: L := by
  unfold firstAtQ
  exact f_b3 ..

theorem firstQ_good {W : Wt} {X : ℕ → Fin 1024 → EReal} {t0 : ℕ} (q : PkF) (A : Agr W X t0 (firstB q)) (F : FinW W) :
    Good W X t0 (firstOutQ c t h q) := by
  unfold firstOutQ
  exact good_of (spec_of A F _ _ _ _ _ (firstQ_out c t h q) (firstQ_b0 c t h q) (firstQ_b1 c t h q) (firstQ_b2 c t h q) (firstQ_b3 c t h q))

end Cert.Mix

end
-- ==== Proof.MixRefA.lean ====
module

public import proofs.«01_k».proof.Proof.MixFin
public import proofs.«01_k».proof.Proof.Gen.ReferenceIdeal.Step
public import Idealize.ShloMosaic.Lib.Pointwise

/-!
  What the reference computes before its loop, read at an index: the values of the specification.
-/

@[expose] public section

set_option maxRecDepth 16384

noncomputable section

namespace Cert.Mix.Ref

open Idealize.ShloMosaic Cert.ReferenceIdeal Cert.ReferenceIdeal.Gen Cert.ReferenceIdeal.Step

/-- The arguments of the mixer. -/
structure G where
  g0 : (⟨S8x8192x1024, .f32⟩ : BufTy).Contents (Elt Ideal)
  g1 : (⟨S1x1024, .f32⟩ : BufTy).Contents (Elt Ideal)
  g2 : (⟨S1x1024x4624, .f32⟩ : BufTy).Contents (Elt Ideal)
  g3 : (⟨S1x4x1024, .f32⟩ : BufTy).Contents (Elt Ideal)
  g4 : (⟨S1x1024, .f32⟩ : BufTy).Contents (Elt Ideal)
  g5 : (⟨S1x16x64x64, .f32⟩ : BufTy).Contents (Elt Ideal)
  g6 : (⟨S1x1024, .f32⟩ : BufTy).Contents (Elt Ideal)
  g7 : (⟨S1x16x64x64, .f32⟩ : BufTy).Contents (Elt Ideal)
  g8 : (⟨S1x1024, .f32⟩ : BufTy).Contents (Elt Ideal)
  g9 : (⟨S1x1024, .f32⟩ : BufTy).Contents (Elt Ideal)
  g10 : (⟨S1x1024, .f32⟩ : BufTy).Contents (Elt Ideal)
  g11 : (⟨S1x4x1536, .f32⟩ : BufTy).Contents (Elt Ideal)
  g12 : (⟨S1x1536, .f32⟩ : BufTy).Contents (Elt Ideal)
  g13 : (⟨S1x16, .f32⟩ : BufTy).Contents (Elt Ideal)
  g14 : (⟨S1x16, .f32⟩ : BufTy).Contents (Elt Ideal)
  g15 : (⟨S1x16, .f32⟩ : BufTy).Contents (Elt Ideal)
  g16 : (⟨S1x1024, .f32⟩ : BufTy).Contents (Elt Ideal)
  g17 : (⟨S1x2048x1024, .f32⟩ : BufTy).Contents (Elt Ideal)
  g18 : (⟨S1x1024, .f32⟩ : BufTy).Contents (Elt Ideal)

/-- The weights of the specification. -/
def G.wt (q : G) : Wt where
  pre k := q.g1 (ix2 0 k)
  win k c := q.g2 (ix3 0 k c)
  lcw k l := q.g3 (ix3 0 k l)
  lcb l := q.g4 (ix2 0 l)
  wa h i j := q.g5 (ix4 0 h i j)
  ba l := q.g6 (ix2 0 l)
  wx h i j := q.g7 (ix4 0 h i j)
  bx l := q.g8 (ix2 0 l)
  lam l := q.g9 (ix2 0 l)
  lno l := q.g10 (ix2 0 l)
  scw k l := q.g11 (ix3 0 k l)
  scb l := q.g12 (ix2 0 l)
  dtb e := q.g13 (ix2 0 e)
  alog e := q.g14 (ix2 0 e)
  dd e := q.g15 (ix2 0 e)
  sno l := q.g16 (ix2 0 l)
  wout j k := q.g17 (ix3 0 j k)
  post k := q.g18 (ix2 0 k)

/-- One sequence of tokens, continued by zeros. -/
def G.x (q : G) (B : Fin 8) (t : ℕ) (k : Fin 1024) : EReal := if h : t < 8192 then q.g0 (ix3 B ⟨t, h⟩ k) else 0

theorem G.x_at (q : G) (B : Fin 8) (t : Fin 8192) : q.x B t = fun k => q.g0 (ix3 B t k) :=
  funext fun _ => dif_pos t.2

variable (q : G) (B : Fin 8) (t : Fin 8192)

theorem r13 (k : Fin 1024) : (A_main_v13 (F := Ideal) q.g0 q.g1 q.g2 q.g3 q.g4 q.g5 q.g6 q.g7 q.g8 q.g9 q.g11 q.g12 q.g13 q.g14) (ix3 B t k) = hb q.wt (q.x B) t k := by
  have e : (A_main_v13 (F := Ideal) q.g0 q.g1 q.g2 q.g3 q.g4 q.g5 q.g6 q.g7 q.g8 q.g9 q.g11 q.g12 q.g13 q.g14) (ix3 B t k) = nrm (fun k => q.g0 (ix3 B t k)) (fun k => q.g1 (ix2 0 k)) k := by
    pointwise [A_main_v13, A_main_v12, A_main_v11, A_main_v0, A_main_v10, A_main_v9, A_main_v8, A_main_v7, K_main_v6, K_main_cst_1, A_main_v5, K_main_v4, K_main_cst_0, A_main_v3, A_main_v2, K_main_cst, A_main_v1] <;> rfl
  rw [e]; unfold hb; rw [q.x_at]; rfl

theorem r15 (c : Fin 4624) : (A_main_v15 (F := Ideal) q.g0 q.g1 q.g2 q.g3 q.g4 q.g5 q.g6 q.g7 q.g8 q.g9 q.g11 q.g12 q.g13 q.g14) (ix3 B t c) = pj q.wt (q.x B) t c := by
  have e : (A_main_v15 (F := Ideal) q.g0 q.g1 q.g2 q.g3 q.g4 q.g5 q.g6 q.g7 q.g8 q.g9 q.g11 q.g12 q.g13 q.g14) (ix3 B t c) = ∑ k : Fin 1024, (A_main_v13 (F := Ideal) q.g0 q.g1 q.g2 q.g3 q.g4 q.g5 q.g6 q.g7 q.g8 q.g9 q.g11 q.g12 q.g13 q.g14) (ix3 B t k) * q.g2 (ix3 0 k c) := by
    pointwise [A_main_v15, A_main_v14] <;> rfl
  rw [e]; exact Finset.sum_congr rfl fun k _ => by rw [r13]; rfl

theorem sito : FloatOps.sitofp (F := Ideal) FTy.f32 (0#32) = 0 := by
  show (((0#32 : BitVec 32).toInt : ℝ) : EReal) = 0
  simp

theorem r23 (n : ℕ) (hn : n < 8195) (l : Fin 1024) : (A_main_v23 (F := Ideal) q.g0 q.g1 q.g2 q.g3 q.g4 q.g5 q.g6 q.g7 q.g8 q.g9 q.g11 q.g12 q.g13 q.g14) (ix3 B ⟨n, hn⟩ l) = back (fun s => pj q.wt (q.x B) s ⟨l, by omega⟩) n := by
  have e : (A_main_v23 (F := Ideal) q.g0 q.g1 q.g2 q.g3 q.g4 q.g5 q.g6 q.g7 q.g8 q.g9 q.g11 q.g12 q.g13 q.g14) (ix3 B ⟨n, hn⟩ l) = if h : 3 ≤ n ∧ n - 3 < 8192 then (A_main_v15 (F := Ideal) q.g0 q.g1 q.g2 q.g3 q.g4 q.g5 q.g6 q.g7 q.g8 q.g9 q.g11 q.g12 q.g13 q.g14) (ix3 B ⟨n - 3, h.2⟩ ⟨l, by omega⟩) else FloatOps.sitofp (F := Ideal) FTy.f32 (0#32) := by
    pointwise [A_main_v23, K_main_call0_v0, K_main_c, A_main_v16] <;> rfl
  rw [e]; unfold back
  by_cases h : n < 3
  · rw [if_pos h, dif_neg (by omega), sito]
  · rw [if_neg h, dif_pos ⟨by omega, by omega⟩, r15]

theorem r53 (l : Fin 1024) : (A_main_v53 (F := Ideal) q.g0 q.g1 q.g2 q.g3 q.g4 q.g5 q.g6 q.g7 q.g8 q.g9 q.g11 q.g12 q.g13 q.g14) (ix3 B t l) = lx q.wt (q.x B) t l := by
  have e : (A_main_v53 (F := Ideal) q.g0 q.g1 q.g2 q.g3 q.g4 q.g5 q.g6 q.g7 q.g8 q.g9 q.g11 q.g12 q.g13 q.g14) (ix3 B t l) = q.g4 (ix2 0 l) + (A_main_v23 (F := Ideal) q.g0 q.g1 q.g2 q.g3 q.g4 q.g5 q.g6 q.g7 q.g8 q.g9 q.g11 q.g12 q.g13 q.g14) (ix3 B ⟨(t : ℕ), by omega⟩ l) * q.g3 (ix3 0 0 l) + (A_main_v23 (F := Ideal) q.g0 q.g1 q.g2 q.g3 q.g4 q.g5 q.g6 q.g7 q.g8 q.g9 q.g11 q.g12 q.g13 q.g14) (ix3 B ⟨1 + (t : ℕ), by omega⟩ l) * q.g3 (ix3 0 1 l) + (A_main_v23 (F := Ideal) q.g0 q.g1 q.g2 q.g3 q.g4 q.g5 q.g6 q.g7 q.g8 q.g9 q.g11 q.g12 q.g13 q.g14) (ix3 B ⟨2 + (t : ℕ), by omega⟩ l) * q.g3 (ix3 0 2 l) + (A_main_v23 (F := Ideal) q.g0 q.g1 q.g2 q.g3 q.g4 q.g5 q.g6 q.g7 q.g8 q.g9 q.g11 q.g12 q.g13 q.g14) (ix3 B ⟨3 + (t : ℕ), by omega⟩ l) * q.g3 (ix3 0 3 l) := by
    pointwise [A_main_v53, A_main_v52, A_main_v51, A_main_v50, A_main_v49, A_main_v48, A_main_v21, A_main_v47, A_main_v46, A_main_v45, A_main_v44, A_main_v43, A_main_v42, A_main_v41, A_main_v40, A_main_v39, A_main_v38, A_main_v37, A_main_v36, A_main_v35, A_main_v34, A_main_v33, A_main_v32, A_main_v29, A_main_v28, A_main_v27, A_main_v26, A_main_v25, A_main_v24, A_main_v31, A_main_v30, A_main_v22] <;> rfl
  rw [e, r23, r23, r23, r23, Nat.add_comm 1, Nat.add_comm 2, Nat.add_comm 3]; rfl

theorem r56 (h : Fin 16) (j : Fin 64) : (A_main_v56 (F := Ideal) q.g0 q.g1 q.g2 q.g3 q.g4 q.g5 q.g6 q.g7 q.g8 q.g9 q.g11 q.g12 q.g13 q.g14) (ix4 h j B t) = ∑ i : Fin 64, lx q.wt (q.x B) t ⟨64 * h + i, by omega⟩ * q.wt.wa h i j := by
  have e : (A_main_v56 (F := Ideal) q.g0 q.g1 q.g2 q.g3 q.g4 q.g5 q.g6 q.g7 q.g8 q.g9 q.g11 q.g12 q.g13 q.g14) (ix4 h j B t) = ∑ i : Fin 64, q.g5 (ix4 0 h i j) * (A_main_v53 (F := Ideal) q.g0 q.g1 q.g2 q.g3 q.g4 q.g5 q.g6 q.g7 q.g8 q.g9 q.g11 q.g12 q.g13 q.g14) (ix3 B t ⟨(h : ℕ) * 64 + i, by omega⟩) := by
    pointwise [A_main_v56, A_main_v54, A_main_v55] <;> rfl
  rw [e]; refine Finset.sum_congr rfl fun i _ => ?_
  rw [r53, mul_comm]; congr 2; exact Fin.ext (by show (h : ℕ) * 64 + i = 64 * h + i; omega)

theorem r58 (l : Fin 1024) : (A_main_v58 (F := Ideal) q.g0 q.g1 q.g2 q.g3 q.g4 q.g5 q.g6 q.g7 q.g8 q.g9 q.g11 q.g12 q.g13 q.g14) (ix3 B t l) = gat q.wt (q.x B) q.wt.wa t l := by
  have e : (A_main_v58 (F := Ideal) q.g0 q.g1 q.g2 q.g3 q.g4 q.g5 q.g6 q.g7 q.g8 q.g9 q.g11 q.g12 q.g13 q.g14) (ix3 B t l) = (A_main_v56 (F := Ideal) q.g0 q.g1 q.g2 q.g3 q.g4 q.g5 q.g6 q.g7 q.g8 q.g9 q.g11 q.g12 q.g13 q.g14) (ix4 ⟨(l : ℕ) / 64, by omega⟩ ⟨(l : ℕ) % 64, by omega⟩ B t) := by
    pointwise [A_main_v58, A_main_v57] <;> rfl
  rw [e, r56]; rfl

theorem r68 (l : Fin 1024) : (A_main_v68 (F := Ideal) q.g0 q.g1 q.g2 q.g3 q.g4 q.g5 q.g6 q.g7 q.g8 q.g9 q.g11 q.g12 q.g13 q.g14) (ix3 B t l) = rg q.wt (q.x B) t l := by
  have e : (A_main_v68 (F := Ideal) q.g0 q.g1 q.g2 q.g3 q.g4 q.g5 q.g6 q.g7 q.g8 q.g9 q.g11 q.g12 q.g13 q.g14) (ix3 B t l) = sgm ((A_main_v58 (F := Ideal) q.g0 q.g1 q.g2 q.g3 q.g4 q.g5 q.g6 q.g7 q.g8 q.g9 q.g11 q.g12 q.g13 q.g14) (ix3 B t l) + q.g6 (ix2 0 l)) := by
    pointwise [A_main_v68, A_main_v66, A_main_v64, A_main_v63, A_main_v62, A_main_v61, A_main_v60, A_main_v59, K_main_v65, K_main_cst_2, K_main_v67, K_main_cst_3] <;> rfl
  rw [e, r58]; rfl

theorem r70 (h : Fin 16) (j : Fin 64) : (A_main_v70 (F := Ideal) q.g0 q.g1 q.g2 q.g3 q.g4 q.g5 q.g6 q.g7 q.g8 q.g9 q.g11 q.g12 q.g13 q.g14) (ix4 h j B t) = ∑ i : Fin 64, lx q.wt (q.x B) t ⟨64 * h + i, by omega⟩ * q.wt.wx h i j := by
  have e : (A_main_v70 (F := Ideal) q.g0 q.g1 q.g2 q.g3 q.g4 q.g5 q.g6 q.g7 q.g8 q.g9 q.g11 q.g12 q.g13 q.g14) (ix4 h j B t) = ∑ i : Fin 64, q.g7 (ix4 0 h i j) * (A_main_v53 (F := Ideal) q.g0 q.g1 q.g2 q.g3 q.g4 q.g5 q.g6 q.g7 q.g8 q.g9 q.g11 q.g12 q.g13 q.g14) (ix3 B t ⟨(h : ℕ) * 64 + i, by omega⟩) := by
    pointwise [A_main_v70, A_main_v54, A_main_v69] <;> rfl
  rw [e]; refine Finset.sum_congr rfl fun i _ => ?_
  rw [r53, mul_comm]; congr 2; exact Fin.ext (by show (h : ℕ) * 64 + i = 64 * h + i; omega)

theorem r72 (l : Fin 1024) : (A_main_v72 (F := Ideal) q.g0 q.g1 q.g2 q.g3 q.g4 q.g5 q.g6 q.g7 q.g8 q.g9 q.g11 q.g12 q.g13 q.g14) (ix3 B t l) = gat q.wt (q.x B) q.wt.wx t l := by
  have e : (A_main_v72 (F := Ideal) q.g0 q.g1 q.g2 q.g3 q.g4 q.g5 q.g6 q.g7 q.g8 q.g9 q.g11 q.g12 q.g13 q.g14) (ix3 B t l) = (A_main_v70 (F := Ideal) q.g0 q.g1 q.g2 q.g3 q.g4 q.g5 q.g6 q.g7 q.g8 q.g9 q.g11 q.g12 q.g13 q.g14) (ix4 ⟨(l : ℕ) / 64, by omega⟩ ⟨(l : ℕ) % 64, by omega⟩ B t) := by
    pointwise [A_main_v72, A_main_v71] <;> rfl
  rw [e, r70]; rfl

theorem r82 (l : Fin 1024) : (A_main_v82 (F := Ideal) q.g0 q.g1 q.g2 q.g3 q.g4 q.g5 q.g6 q.g7 q.g8 q.g9 q.g11 q.g12 q.g13 q.g14) (ix3 B t l) = ig q.wt (q.x B) t l := by
  have e : (A_main_v82 (F := Ideal) q.g0 q.g1 q.g2 q.g3 q.g4 q.g5 q.g6 q.g7 q.g8 q.g9 q.g11 q.g12 q.g13 q.g14) (ix3 B t l) = sgm ((A_main_v72 (F := Ideal) q.g0 q.g1 q.g2 q.g3 q.g4 q.g5 q.g6 q.g7 q.g8 q.g9 q.g11 q.g12 q.g13 q.g14) (ix3 B t l) + q.g8 (ix2 0 l)) := by
    pointwise [A_main_v82, A_main_v80, A_main_v78, A_main_v77, A_main_v76, A_main_v75, A_main_v74, A_main_v73, K_main_v79, K_main_cst_4, K_main_v81, K_main_cst_5] <;> rfl
  rw [e, r72]; rfl

theorem r87 (l : Fin 1024) : (A_main_v87 (F := Ideal) q.g0 q.g1 q.g2 q.g3 q.g4 q.g5 q.g6 q.g7 q.g8 q.g9 q.g11 q.g12 q.g13 q.g14) (ix1 l) = sp (-(q.wt.lam l)) := by
  pointwise [A_main_v87, A_main_call1_v11, A_main_call1_v10, A_main_call1_v9, A_main_call1_v8, A_main_call1_v7, A_main_call1_v3, K_main_call1_v2, K_main_call1_cst, A_main_v86, A_main_v85, A_main_call1_v1, K_main_call1_v0, A_main_call1_v6, K_main_call1_v5, A_main_call1_v4]
  rw [if_neg (fun h => h rfl)]; rfl

theorem r90 (l : Fin 1024) : (A_main_v90 (F := Ideal) q.g0 q.g1 q.g2 q.g3 q.g4 q.g5 q.g6 q.g7 q.g8 q.g9 q.g11 q.g12 q.g13 q.g14) (ix3 B t l) = la q.wt (q.x B) t l := by
  have e : (A_main_v90 (F := Ideal) q.g0 q.g1 q.g2 q.g3 q.g4 q.g5 q.g6 q.g7 q.g8 q.g9 q.g11 q.g12 q.g13 q.g14) (ix3 B t l) = Ideal.ofBits .f32 0xC1000000#32 * (A_main_v68 (F := Ideal) q.g0 q.g1 q.g2 q.g3 q.g4 q.g5 q.g6 q.g7 q.g8 q.g9 q.g11 q.g12 q.g13 q.g14) (ix3 B t l) * (A_main_v87 (F := Ideal) q.g0 q.g1 q.g2 q.g3 q.g4 q.g5 q.g6 q.g7 q.g8 q.g9 q.g11 q.g12 q.g13 q.g14) (ix1 l) := by
    pointwise [A_main_v90, A_main_v89, A_main_v88, A_main_v84, K_main_v83, K_main_cst_6] <;> rfl
  rw [e, r68, r87]; rfl

theorem r91 (l : Fin 1024) : (A_main_v91 (F := Ideal) q.g0 q.g1 q.g2 q.g3 q.g4 q.g5 q.g6 q.g7 q.g8 q.g9 q.g11 q.g12 q.g13 q.g14) (ix3 B t l) = av q.wt (q.x B) t l := by
  have e : (A_main_v91 (F := Ideal) q.g0 q.g1 q.g2 q.g3 q.g4 q.g5 q.g6 q.g7 q.g8 q.g9 q.g11 q.g12 q.g13 q.g14) (ix3 B t l) = Ideal.exp ((A_main_v90 (F := Ideal) q.g0 q.g1 q.g2 q.g3 q.g4 q.g5 q.g6 q.g7 q.g8 q.g9 q.g11 q.g12 q.g13 q.g14) (ix3 B t l)) := by
    pointwise [A_main_v91] <;> rfl
  rw [e, r90]; rfl

theorem two_lit : Ideal.ofBits .f32 0x40000000#32 = 2 := by
  simp [Ideal.ofBits, Ideal.ieee, -EReal.coe_mul, -EReal.coe_neg]; norm_num; rfl

theorem r98 (l : Fin 1024) : (A_main_v98 (F := Ideal) q.g0 q.g1 q.g2 q.g3 q.g4 q.g5 q.g6 q.g7 q.g8 q.g9 q.g11 q.g12 q.g13 q.g14) (ix3 B t l) = uv q.wt (q.x B) t l := by
  have e : (A_main_v98 (F := Ideal) q.g0 q.g1 q.g2 q.g3 q.g4 q.g5 q.g6 q.g7 q.g8 q.g9 q.g11 q.g12 q.g13 q.g14) (ix3 B t l) = Ideal.sqrt (-(Ideal.exp (Ideal.ofBits .f32 0x40000000#32 * (A_main_v90 (F := Ideal) q.g0 q.g1 q.g2 q.g3 q.g4 q.g5 q.g6 q.g7 q.g8 q.g9 q.g11 q.g12 q.g13 q.g14) (ix3 B t l)) - 1)) * ((A_main_v82 (F := Ideal) q.g0 q.g1 q.g2 q.g3 q.g4 q.g5 q.g6 q.g7 q.g8 q.g9 q.g11 q.g12 q.g13 q.g14) (ix3 B t l) * (A_main_v53 (F := Ideal) q.g0 q.g1 q.g2 q.g3 q.g4 q.g5 q.g6 q.g7 q.g8 q.g9 q.g11 q.g12 q.g13 q.g14) (ix3 B t l)) := by
    pointwise [A_main_v98, A_main_v97, A_main_v96, A_main_v95, A_main_v94, A_main_v93, K_main_v92, K_main_cst_7] <;> rfl
  rw [e, r90, r82, r53, two_lit]; rfl

theorem r101 (n : ℕ) (hn : n < 8195) (l : Fin 1536) : (A_main_v101 (F := Ideal) q.g0 q.g1 q.g2 q.g3 q.g4 q.g5 q.g6 q.g7 q.g8 q.g9 q.g11 q.g12 q.g13 q.g14) (ix3 B ⟨n, hn⟩ l) = back (fun s => pj q.wt (q.x B) s ⟨3072 + l, by omega⟩) n := by
  have e : (A_main_v101 (F := Ideal) q.g0 q.g1 q.g2 q.g3 q.g4 q.g5 q.g6 q.g7 q.g8 q.g9 q.g11 q.g12 q.g13 q.g14) (ix3 B ⟨n, hn⟩ l) = if h : 3 ≤ n ∧ n - 3 < 8192 then (A_main_v15 (F := Ideal) q.g0 q.g1 q.g2 q.g3 q.g4 q.g5 q.g6 q.g7 q.g8 q.g9 q.g11 q.g12 q.g13 q.g14) (ix3 B ⟨n - 3, h.2⟩ ⟨3072 + l, by omega⟩) else FloatOps.sitofp (F := Ideal) FTy.f32 (0#32) := by
    pointwise [A_main_v101, K_main_call2_v0, K_main_c_8, A_main_v19] <;> rfl
  rw [e]; unfold back
  by_cases h : n < 3
  · rw [if_pos h, dif_neg (by omega), sito]
  · rw [if_neg h, dif_pos ⟨by omega, by omega⟩, r15]

theorem r131 (l : Fin 1536) : (A_main_v131 (F := Ideal) q.g0 q.g1 q.g2 q.g3 q.g4 q.g5 q.g6 q.g7 q.g8 q.g9 q.g11 q.g12 q.g13 q.g14) (ix3 B t l) = conv (fun s => pj q.wt (q.x B) s ⟨3072 + l, by omega⟩) (fun k => q.wt.scw k l) (q.wt.scb l) t := by
  have e : (A_main_v131 (F := Ideal) q.g0 q.g1 q.g2 q.g3 q.g4 q.g5 q.g6 q.g7 q.g8 q.g9 q.g11 q.g12 q.g13 q.g14) (ix3 B t l) = q.g12 (ix2 0 l) + (A_main_v101 (F := Ideal) q.g0 q.g1 q.g2 q.g3 q.g4 q.g5 q.g6 q.g7 q.g8 q.g9 q.g11 q.g12 q.g13 q.g14) (ix3 B ⟨(t : ℕ), by omega⟩ l) * q.g11 (ix3 0 0 l) + (A_main_v101 (F := Ideal) q.g0 q.g1 q.g2 q.g3 q.g4 q.g5 q.g6 q.g7 q.g8 q.g9 q.g11 q.g12 q.g13 q.g14) (ix3 B ⟨1 + (t : ℕ), by omega⟩ l) * q.g11 (ix3 0 1 l) + (A_main_v101 (F := Ideal) q.g0 q.g1 q.g2 q.g3 q.g4 q.g5 q.g6 q.g7 q.g8 q.g9 q.g11 q.g12 q.g13 q.g14) (ix3 B ⟨2 + (t : ℕ), by omega⟩ l) * q.g11 (ix3 0 2 l) + (A_main_v101 (F := Ideal) q.g0 q.g1 q.g2 q.g3 q.g4 q.g5 q.g6 q.g7 q.g8 q.g9 q.g11 q.g12 q.g13 q.g14) (ix3 B ⟨3 + (t : ℕ), by omega⟩ l) * q.g11 (ix3 0 3 l) := by
    pointwise [A_main_v131, A_main_v130, A_main_v129, A_main_v128, A_main_v127, A_main_v126, A_main_v99, A_main_v125, A_main_v124, A_main_v123, A_main_v122, A_main_v121, A_main_v120, A_main_v119, A_main_v118, A_main_v117, A_main_v116, A_main_v115, A_main_v114, A_main_v113, A_main_v112, A_main_v111, A_main_v110, A_main_v107, A_main_v106, A_main_v105, A_main_v104, A_main_v103, A_main_v102, A_main_v109, A_main_v108, A_main_v100] <;> rfl
  rw [e, r101, r101, r101, r101, Nat.add_comm 1, Nat.add_comm 2, Nat.add_comm 3]; rfl

theorem r132 (l : Fin 1536) : (A_main_v132 (F := Ideal) q.g0 q.g1 q.g2 q.g3 q.g4 q.g5 q.g6 q.g7 q.g8 q.g9 q.g11 q.g12 q.g13 q.g14) (ix3 B t l) = xbc q.wt (q.x B) t l := by
  have e : (A_main_v132 (F := Ideal) q.g0 q.g1 q.g2 q.g3 q.g4 q.g5 q.g6 q.g7 q.g8 q.g9 q.g11 q.g12 q.g13 q.g14) (ix3 B t l) = silu ((A_main_v131 (F := Ideal) q.g0 q.g1 q.g2 q.g3 q.g4 q.g5 q.g6 q.g7 q.g8 q.g9 q.g11 q.g12 q.g13 q.g14) (ix3 B t l)) := by
    pointwise [A_main_v132, A_main_call3_v5, A_main_call3_v3, A_main_call3_v1, A_main_call3_v0, K_main_call3_v2, K_main_call3_cst, K_main_call3_v4, K_main_call3_cst_0] <;> rfl
  rw [e, r131]; rfl

theorem r143 (l : Fin 16) : (A_main_v143 (F := Ideal) q.g0 q.g1 q.g2 q.g3 q.g4 q.g5 q.g6 q.g7 q.g8 q.g9 q.g11 q.g12 q.g13 q.g14) (ix3 B t l) = dt q.wt (q.x B) t l := by
  have e : (A_main_v143 (F := Ideal) q.g0 q.g1 q.g2 q.g3 q.g4 q.g5 q.g6 q.g7 q.g8 q.g9 q.g11 q.g12 q.g13 q.g14) (ix3 B t l) = sp ((A_main_v15 (F := Ideal) q.g0 q.g1 q.g2 q.g3 q.g4 q.g5 q.g6 q.g7 q.g8 q.g9 q.g11 q.g12 q.g13 q.g14) (ix3 B t ⟨4608 + l, by omega⟩) + q.g13 (ix2 0 l)) := by
    pointwise [A_main_v143, A_main_call4_v11, A_main_call4_v10, A_main_call4_v9, A_main_call4_v8, A_main_call4_v7, A_main_call4_v3, K_main_call4_v2, K_main_call4_cst, A_main_v142, A_main_v141, A_main_v140, A_main_v139, A_main_v20, A_main_call4_v1, K_main_call4_v0, A_main_call4_v6, K_main_call4_v5, A_main_call4_v4]
    rw [if_neg (fun h => h rfl)]; rfl
  rw [e, r15]; rfl

theorem r152 (g : Fin 2) (u : Fin 8) : (A_main_v152 (F := Ideal) q.g0 q.g1 q.g2 q.g3 q.g4 q.g5 q.g6 q.g7 q.g8 q.g9 q.g11 q.g12 q.g13 q.g14) (ix4 B t g u) = dec q.wt (q.x B) t ⟨g * 8 + u, by omega⟩ := by
  have e : (A_main_v152 (F := Ideal) q.g0 q.g1 q.g2 q.g3 q.g4 q.g5 q.g6 q.g7 q.g8 q.g9 q.g11 q.g12 q.g13 q.g14) (ix4 B t g u) = Ideal.exp ((A_main_v143 (F := Ideal) q.g0 q.g1 q.g2 q.g3 q.g4 q.g5 q.g6 q.g7 q.g8 q.g9 q.g11 q.g12 q.g13 q.g14) (ix3 B t ⟨(g : ℕ) * 8 + u, by omega⟩) * -Ideal.exp (q.g14 (ix2 0 ⟨(g : ℕ) * 8 + u, by omega⟩))) := by
    pointwise [A_main_v152, A_main_v151, A_main_v150, A_main_v149, A_main_v148, A_main_v147, A_main_v146, A_main_v145, A_main_v144] <;> rfl
  rw [e, r143]; rfl

theorem r134 (g : Fin 2) (u : Fin 8) (p : Fin 64) : (A_main_v134 (F := Ideal) q.g0 q.g1 q.g2 q.g3 q.g4 q.g5 q.g6 q.g7 q.g8 q.g9 q.g11 q.g12 q.g13 q.g14) (ix5 B t g u p) = xbc q.wt (q.x B) t ⟨g * 512 + u * 64 + p, by omega⟩ := by
  have e : (A_main_v134 (F := Ideal) q.g0 q.g1 q.g2 q.g3 q.g4 q.g5 q.g6 q.g7 q.g8 q.g9 q.g11 q.g12 q.g13 q.g14) (ix5 B t g u p) = (A_main_v132 (F := Ideal) q.g0 q.g1 q.g2 q.g3 q.g4 q.g5 q.g6 q.g7 q.g8 q.g9 q.g11 q.g12 q.g13 q.g14) (ix3 B t ⟨(g : ℕ) * 512 + u * 64 + p, by omega⟩) := by
    pointwise [A_main_v134, A_main_v133] <;> rfl
  rw [e, r132]

theorem r155 (g : Fin 2) (u : Fin 8) (p : Fin 64) : (A_main_v155 (F := Ideal) q.g0 q.g1 q.g2 q.g3 q.g4 q.g5 q.g6 q.g7 q.g8 q.g9 q.g11 q.g12 q.g13 q.g14) (ix5 B t g u p) = xbc q.wt (q.x B) t ⟨g * 512 + u * 64 + p, by omega⟩ * dt q.wt (q.x B) t ⟨g * 8 + u, by omega⟩ := by
  have e : (A_main_v155 (F := Ideal) q.g0 q.g1 q.g2 q.g3 q.g4 q.g5 q.g6 q.g7 q.g8 q.g9 q.g11 q.g12 q.g13 q.g14) (ix5 B t g u p) = (A_main_v134 (F := Ideal) q.g0 q.g1 q.g2 q.g3 q.g4 q.g5 q.g6 q.g7 q.g8 q.g9 q.g11 q.g12 q.g13 q.g14) (ix5 B t g u p) * (A_main_v143 (F := Ideal) q.g0 q.g1 q.g2 q.g3 q.g4 q.g5 q.g6 q.g7 q.g8 q.g9 q.g11 q.g12 q.g13 q.g14) (ix3 B t ⟨(g : ℕ) * 8 + u, by omega⟩) := by
    pointwise [A_main_v155, A_main_v154, A_main_v153, A_main_v144] <;> rfl
  rw [e, r134, r143]

theorem r136 (g : Fin 2) (n : Fin 128) : (A_main_v136 (F := Ideal) q.g0 q.g1 q.g2 q.g3 q.g4 q.g5 q.g6 q.g7 q.g8 q.g9 q.g11 q.g12 q.g13 q.g14) (ix4 B t g n) = xbc q.wt (q.x B) t ⟨1024 + (g * 128 + n), by omega⟩ := by
  have e : (A_main_v136 (F := Ideal) q.g0 q.g1 q.g2 q.g3 q.g4 q.g5 q.g6 q.g7 q.g8 q.g9 q.g11 q.g12 q.g13 q.g14) (ix4 B t g n) = (A_main_v132 (F := Ideal) q.g0 q.g1 q.g2 q.g3 q.g4 q.g5 q.g6 q.g7 q.g8 q.g9 q.g11 q.g12 q.g13 q.g14) (ix3 B t ⟨1024 + ((g : ℕ) * 128 + n), by omega⟩) := by
    pointwise [A_main_v136, A_main_v135] <;> rfl
  rw [e, r132]

theorem r138 (g : Fin 2) (n : Fin 128) : (A_main_v138 (F := Ideal) q.g0 q.g1 q.g2 q.g3 q.g4 q.g5 q.g6 q.g7 q.g8 q.g9 q.g11 q.g12 q.g13 q.g14) (ix4 B t g n) = xbc q.wt (q.x B) t ⟨1280 + (g * 128 + n), by omega⟩ := by
  have e : (A_main_v138 (F := Ideal) q.g0 q.g1 q.g2 q.g3 q.g4 q.g5 q.g6 q.g7 q.g8 q.g9 q.g11 q.g12 q.g13 q.g14) (ix4 B t g n) = (A_main_v132 (F := Ideal) q.g0 q.g1 q.g2 q.g3 q.g4 q.g5 q.g6 q.g7 q.g8 q.g9 q.g11 q.g12 q.g13 q.g14) (ix3 B t ⟨1280 + ((g : ℕ) * 128 + n), by omega⟩) := by
    pointwise [A_main_v138, A_main_v137] <;> rfl
  rw [e, r132]

theorem i0 (l : Fin 1024) : (A_main_v158 (F := Ideal) q.g0 q.g1 q.g2 q.g3 q.g4 q.g5 q.g6 q.g7 q.g8 q.g9 q.g11 q.g12 q.g13 q.g14) (ix3 t B l) = (A_main_v91 (F := Ideal) q.g0 q.g1 q.g2 q.g3 q.g4 q.g5 q.g6 q.g7 q.g8 q.g9 q.g11 q.g12 q.g13 q.g14) (ix3 B t l) := by
  pointwise [A_main_v158] <;> rfl

theorem i1 (l : Fin 1024) : (A_main_v159 (F := Ideal) q.g0 q.g1 q.g2 q.g3 q.g4 q.g5 q.g6 q.g7 q.g8 q.g9 q.g11 q.g12 q.g13 q.g14) (ix3 t B l) = (A_main_v98 (F := Ideal) q.g0 q.g1 q.g2 q.g3 q.g4 q.g5 q.g6 q.g7 q.g8 q.g9 q.g11 q.g12 q.g13 q.g14) (ix3 B t l) := by
  pointwise [A_main_v159] <;> rfl

theorem i2 (g : Fin 2) (u : Fin 8) : (A_main_v160 (F := Ideal) q.g0 q.g1 q.g2 q.g3 q.g4 q.g5 q.g6 q.g7 q.g8 q.g9 q.g11 q.g12 q.g13 q.g14) (ix4 t B g u) = (A_main_v152 (F := Ideal) q.g0 q.g1 q.g2 q.g3 q.g4 q.g5 q.g6 q.g7 q.g8 q.g9 q.g11 q.g12 q.g13 q.g14) (ix4 B t g u) := by
  pointwise [A_main_v160] <;> rfl

theorem i3 (g : Fin 2) (u : Fin 8) (p : Fin 64) : (A_main_v161 (F := Ideal) q.g0 q.g1 q.g2 q.g3 q.g4 q.g5 q.g6 q.g7 q.g8 q.g9 q.g11 q.g12 q.g13 q.g14) (ix5 t B g u p) = (A_main_v155 (F := Ideal) q.g0 q.g1 q.g2 q.g3 q.g4 q.g5 q.g6 q.g7 q.g8 q.g9 q.g11 q.g12 q.g13 q.g14) (ix5 B t g u p) := by
  pointwise [A_main_v161] <;> rfl

theorem i4 (g : Fin 2) (n : Fin 128) : (A_main_v162 (F := Ideal) q.g0 q.g1 q.g2 q.g3 q.g4 q.g5 q.g6 q.g7 q.g8 q.g9 q.g11 q.g12 q.g13 q.g14) (ix4 t B g n) = (A_main_v136 (F := Ideal) q.g0 q.g1 q.g2 q.g3 q.g4 q.g5 q.g6 q.g7 q.g8 q.g9 q.g11 q.g12 q.g13 q.g14) (ix4 B t g n) := by
  pointwise [A_main_v162] <;> rfl

theorem i5 (g : Fin 2) (n : Fin 128) : (A_main_v163 (F := Ideal) q.g0 q.g1 q.g2 q.g3 q.g4 q.g5 q.g6 q.g7 q.g8 q.g9 q.g11 q.g12 q.g13 q.g14) (ix4 t B g n) = (A_main_v138 (F := Ideal) q.g0 q.g1 q.g2 q.g3 q.g4 q.g5 q.g6 q.g7 q.g8 q.g9 q.g11 q.g12 q.g13 q.g14) (ix4 B t g n) := by
  pointwise [A_main_v163] <;> rfl

theorem i6 (g : Fin 2) (u : Fin 8) (p : Fin 64) : (A_main_v164 (F := Ideal) q.g0 q.g1 q.g2 q.g3 q.g4 q.g5 q.g6 q.g7 q.g8 q.g9 q.g11 q.g12 q.g13 q.g14) (ix5 t B g u p) = (A_main_v134 (F := Ideal) q.g0 q.g1 q.g2 q.g3 q.g4 q.g5 q.g6 q.g7 q.g8 q.g9 q.g11 q.g12 q.g13 q.g14) (ix5 B t g u p) := by
  pointwise [A_main_v164] <;> rfl

theorem i7 (l : Fin 1024) : (A_main_v165 (F := Ideal) q.g0 q.g1 q.g2 q.g3 q.g4 q.g5 q.g6 q.g7 q.g8 q.g9 q.g11 q.g12 q.g13 q.g14) (ix3 t B l) = pj q.wt (q.x B) t ⟨1024 + l, by omega⟩ := by
  have e : (A_main_v165 (F := Ideal) q.g0 q.g1 q.g2 q.g3 q.g4 q.g5 q.g6 q.g7 q.g8 q.g9 q.g11 q.g12 q.g13 q.g14) (ix3 t B l) = (A_main_v15 (F := Ideal) q.g0 q.g1 q.g2 q.g3 q.g4 q.g5 q.g6 q.g7 q.g8 q.g9 q.g11 q.g12 q.g13 q.g14) (ix3 B t ⟨1024 + l, by omega⟩) := by
    pointwise [A_main_v165, A_main_v17] <;> rfl
  rw [e, r15]

theorem i8 (l : Fin 1024) : (A_main_v166 (F := Ideal) q.g0 q.g1 q.g2 q.g3 q.g4 q.g5 q.g6 q.g7 q.g8 q.g9 q.g11 q.g12 q.g13 q.g14) (ix3 t B l) = pj q.wt (q.x B) t ⟨2048 + l, by omega⟩ := by
  have e : (A_main_v166 (F := Ideal) q.g0 q.g1 q.g2 q.g3 q.g4 q.g5 q.g6 q.g7 q.g8 q.g9 q.g11 q.g12 q.g13 q.g14) (ix3 t B l) = (A_main_v15 (F := Ideal) q.g0 q.g1 q.g2 q.g3 q.g4 q.g5 q.g6 q.g7 q.g8 q.g9 q.g11 q.g12 q.g13 q.g14) (ix3 B t ⟨2048 + l, by omega⟩) := by
    pointwise [A_main_v166, A_main_v18] <;> rfl
  rw [e, r15]

theorem i9 (l : Fin 1024) : (A_main_v167 (F := Ideal) q.g0 q.g1 q.g2 q.g3 q.g4 q.g5 q.g6 q.g7 q.g8 q.g9 q.g11 q.g12 q.g13 q.g14) (ix3 t B l) = q.g0 (ix3 B t l) := by
  pointwise [A_main_v167] <;> rfl

end Cert.Mix.Ref
end
-- ==== Proof.MixValP.lean ====
module

public import proofs.«01_k».proof.Proof.MixFrame
public import proofs.«01_k».proof.Proof.MixEqFirst
public import proofs.«01_k».proof.Proof.MixRefA

@[expose] public section

set_option maxRecDepth 16384
set_option maxHeartbeats 400000

/-! What a point of the grid reads, and the arguments. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

/-- The arguments of the call in the launch memory. -/
def qm : Ref.G := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18)⟩

/-- What a point reads. -/
def qF (t : Fin cfg0.N) : PkF := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t⟩

end Cert.Mix

end
-- ==== Proof.MixValAx.lean ====
module

public import proofs.«01_k».proof.Proof.MixValA
public import proofs.«01_k».proof.Proof.MixValP

@[expose] public section

set_option maxRecDepth 16384
set_option maxHeartbeats 400000

/-! A block of the grid, of the arrays it finds. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD) (t : Fin cfg0.N) (h : t.val % 32 = 0)

/-- The body at a point. -/
def firstAtX (x0 : Vec Ideal S1x256x1024 .f32) (x1 : Vec Ideal S1x1024 .f32) (x2 : Vec Ideal S1024x1024 .bf16) (x3 : Vec Ideal S1024x1024 .bf16) (x4 : Vec Ideal S1024x1024 .bf16) (x5 : Vec Ideal S1024x1536 .bf16) (x6 : Vec Ideal S1024x128 .bf16) (x7 : Vec Ideal S4x1024 .f32) (x8 : Vec Ideal S1x1024 .f32) (x9 : Vec Ideal S4x256x512 .bf16) (x10 : Vec Ideal S1x1024 .f32) (x11 : Vec Ideal S1x1024 .f32) (x12 : Vec Ideal S1x1024 .f32) (x13 : Vec Ideal S1x1024 .f32) (x14 : Vec Ideal S4x1536 .f32) (x15 : Vec Ideal S1x1536 .f32) (x16 : Vec Ideal S1x128 .f32) (x17 : Vec Ideal S1x128 .f32) (x18 : Vec Ideal S1x1024 .f32) (x19 : Vec Ideal S1x1024 .f32) (x20 : Vec Ideal S1024x1024 .bf16) (x21 : Vec Ideal S1024x1024 .bf16) (x22 : Vec Ideal S1x1024 .f32) :=
  runFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) ((hcond0_0 t).mpr h) (fun h' => absurd ((hcond0_1 t).mp h') (by omega)) x0 x1 x2 x3 x4 x5 x6 x7 x8 x9 x10 x11 x12 x13 x14 x15 x16 x17 x18 x19 x20 x21 x22

/-- What it leaves. -/
def firstOutX (x0 : Vec Ideal S1x256x1024 .f32) (x1 : Vec Ideal S1x1024 .f32) (x2 : Vec Ideal S1024x1024 .bf16) (x3 : Vec Ideal S1024x1024 .bf16) (x4 : Vec Ideal S1024x1024 .bf16) (x5 : Vec Ideal S1024x1536 .bf16) (x6 : Vec Ideal S1024x128 .bf16) (x7 : Vec Ideal S4x1024 .f32) (x8 : Vec Ideal S1x1024 .f32) (x9 : Vec Ideal S4x256x512 .bf16) (x10 : Vec Ideal S1x1024 .f32) (x11 : Vec Ideal S1x1024 .f32) (x12 : Vec Ideal S1x1024 .f32) (x13 : Vec Ideal S1x1024 .f32) (x14 : Vec Ideal S4x1536 .f32) (x15 : Vec Ideal S1x1536 .f32) (x16 : Vec Ideal S1x128 .f32) (x17 : Vec Ideal S1x128 .f32) (x18 : Vec Ideal S1x1024 .f32) (x19 : Vec Ideal S1x1024 .f32) (x20 : Vec Ideal S1024x1024 .bf16) (x21 : Vec Ideal S1024x1024 .bf16) (x22 : Vec Ideal S1x1024 .f32) :=
  rdAll (firstAtX c t h x0 x1 x2 x3 x4 x5 x6 x7 x8 x9 x10 x11 x12 x13 x14 x15 x16 x17 x18 x19 x20 x21 x22).1 (firstAtX c t h x0 x1 x2 x3 x4 x5 x6 x7 x8 x9 x10 x11 x12 x13 x14 x15 x16 x17 x18 x19 x20 x21 x22).2.1 (firstAtX c t h x0 x1 x2 x3 x4 x5 x6 x7 x8 x9 x10 x11 x12 x13 x14 x15 x16 x17 x18 x19 x20 x21 x22).2.2.1 (firstAtX c t h x0 x1 x2 x3 x4 x5 x6 x7 x8 x9 x10 x11 x12 x13 x14 x15 x16 x17 x18 x19 x20 x21 x22).2.2.2.1 (firstAtX c t h x0 x1 x2 x3 x4 x5 x6 x7 x8 x9 x10 x11 x12 x13 x14 x15 x16 x17 x18 x19 x20 x21 x22).2.2.2.2.1

theorem first_X  : firstOut m c t h  = firstOutX c t h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)  := by
  delta firstOut firstOutX firstAt firstAtX rdAll
  rfl

theorem first_Q (x0 : Vec Ideal S1x256x1024 .f32) (x1 : Vec Ideal S1x1024 .f32) (x2 : Vec Ideal S1024x1024 .bf16) (x3 : Vec Ideal S1024x1024 .bf16) (x4 : Vec Ideal S1024x1024 .bf16) (x5 : Vec Ideal S1024x1536 .bf16) (x6 : Vec Ideal S1024x128 .bf16) (x7 : Vec Ideal S4x1024 .f32) (x8 : Vec Ideal S1x1024 .f32) (x9 : Vec Ideal S4x256x512 .bf16) (x10 : Vec Ideal S1x1024 .f32) (x11 : Vec Ideal S1x1024 .f32) (x12 : Vec Ideal S1x1024 .f32) (x13 : Vec Ideal S1x1024 .f32) (x14 : Vec Ideal S4x1536 .f32) (x15 : Vec Ideal S1x1536 .f32) (x16 : Vec Ideal S1x128 .f32) (x17 : Vec Ideal S1x128 .f32) (x18 : Vec Ideal S1x1024 .f32) (x19 : Vec Ideal S1x1024 .f32) (x20 : Vec Ideal S1024x1024 .bf16) (x21 : Vec Ideal S1024x1024 .bf16) (x22 : Vec Ideal S1x1024 .f32) : firstOutX c t h x0 x1 x2 x3 x4 x5 x6 x7 x8 x9 x10 x11 x12 x13 x14 x15 x16 x17 x18 x19 x20 x21 x22 = firstOutQ c t h ⟨x0, x1, x2, x3, x4, x5, x6, x7, x8, x9, x10, x11, x12, x13, x14, x15, x16, x17, x18, x19, x20, x21, x22⟩ := rfl

theorem first_eq  : firstOut m c t h  = firstOutQ c t h (qF m c t) :=
  (first_X m c t h ).trans (first_Q c t h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) )

end Cert.Mix

end
-- ==== Proof.MixEndLater.lean ====
module

public import proofs.«01_k».proof.Proof.MixEqLater
public import proofs.«01_k».proof.Proof.MixRunB
public import Idealize.ShloMosaic.Lib.Pipeline.ReadBack

@[expose] public section

set_option maxRecDepth 16384
set_option maxHeartbeats 400000

/-! What the mixer's block leaves: its rows of the result and the arrays it carries on. -/

noncomputable section

namespace Cert.Mix

open Cert.KernelIdeal Cert.KernelIdeal.Gen Idealize.ShloMosaic

variable (c : Dev nD) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1536 .bf16) (harg7 : arg7.IsWhole) (arg8 : Memref sig .tc .vmem S1024x128 .bf16) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S4x1536 .f32) (harg16 : arg16.IsWhole) (arg17 : Memref sig .tc .vmem S1x1536 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1x1024 .f32) (harg24 : arg24.IsWhole) (arg25 : Memref sig .tc .vmem S1x256x1024 .f32) (harg25 : arg25.IsWhole) (arg26 : Memref sig .tc .vmem S264x1024 .f32) (harg26 : arg26.IsWhole) (arg27 : Memref sig .tc .vmem S264x1536 .f32) (harg27 : arg27.IsWhole) (arg28 : Memref sig .tc .vmem S8x1024 .f32) (harg28 : arg28.IsWhole) (arg29 : Memref sig .tc .vmem S8x128x128 .f32) (harg29 : arg29.IsWhole) (q : PkL)

theorem l_HS3_9 :
    runLater.sl.HS3_9 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3
      = (⟨Rect.unit ![0, 0, 0] S1x128x128.size inb_S8x128x128_S1x128x128_0_0_0, R_S1_0 (laterB q)⟩ : View.Piece (Elt Ideal) S8x128x128 .f32) :: runLater.sl.HS3_8 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 := by
  unfold runLater.sl.HS3_9 R_S1_0
  (try simp only [l_r_160, l_r_164, l_r_167, l_r_169, l_r_170, l_r_171, l_r_174, View.readAt_eq_ld, Memref.IsWhole.read_unread]) <;> rfl

theorem l_HS3_10 :
    runLater.sl.HS3_10 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3
      = (⟨Rect.unit ![1, 0, 0] S1x128x128.size inb_S8x128x128_S1x128x128_1_0_0, R_S1_1 (laterB q)⟩ : View.Piece (Elt Ideal) S8x128x128 .f32) :: runLater.sl.HS3_9 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 := by
  unfold runLater.sl.HS3_10 R_S1_1
  (try simp only [l_r_164, l_r_167, l_r_178, l_r_179, l_r_180, l_r_185, l_r_186, l_r_187, View.readAt_eq_ld, Memref.IsWhole.read_unread]) <;> rfl

theorem l_HS3_11 :
    runLater.sl.HS3_11 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3
      = (⟨Rect.unit ![2, 0, 0] S1x128x128.size inb_S8x128x128_S1x128x128_2_0_0, R_S1_2 (laterB q)⟩ : View.Piece (Elt Ideal) S8x128x128 .f32) :: runLater.sl.HS3_10 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 := by
  unfold runLater.sl.HS3_11 R_S1_2
  (try simp only [l_r_160, l_r_164, l_r_167, l_r_191, l_r_192, l_r_193, l_r_196, View.readAt_eq_ld, Memref.IsWhole.read_unread]) <;> rfl

theorem l_HS3_12 :
    runLater.sl.HS3_12 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3
      = (⟨Rect.unit ![3, 0, 0] S1x128x128.size inb_S8x128x128_S1x128x128_3_0_0, R_S1_3 (laterB q)⟩ : View.Piece (Elt Ideal) S8x128x128 .f32) :: runLater.sl.HS3_11 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 := by
  unfold runLater.sl.HS3_12 R_S1_3
  (try simp only [l_r_164, l_r_167, l_r_200, l_r_201, l_r_202, l_r_207, l_r_208, l_r_209, View.readAt_eq_ld, Memref.IsWhole.read_unread]) <;> rfl

theorem l_HS3_13 :
    runLater.sl.HS3_13 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3
      = (⟨Rect.unit ![4, 0, 0] S1x128x128.size inb_S8x128x128_S1x128x128_4_0_0, R_S1_4 (laterB q)⟩ : View.Piece (Elt Ideal) S8x128x128 .f32) :: runLater.sl.HS3_12 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 := by
  unfold runLater.sl.HS3_13 R_S1_4
  (try simp only [l_r_215, l_r_216, l_r_217, l_r_218, l_r_219, l_r_220, l_r_221, View.readAt_eq_ld, Memref.IsWhole.read_unread]) <;> rfl

theorem l_HS3_14 :
    runLater.sl.HS3_14 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3
      = (⟨Rect.unit ![5, 0, 0] S1x128x128.size inb_S8x128x128_S1x128x128_5_0_0, R_S1_5 (laterB q)⟩ : View.Piece (Elt Ideal) S8x128x128 .f32) :: runLater.sl.HS3_13 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 := by
  unfold runLater.sl.HS3_14 R_S1_5
  (try simp only [l_r_160, l_r_164, l_r_213, l_r_225, l_r_226, l_r_227, l_r_230, View.readAt_eq_ld, Memref.IsWhole.read_unread]) <;> rfl

theorem l_HS3_15 :
    runLater.sl.HS3_15 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3
      = (⟨Rect.unit ![6, 0, 0] S1x128x128.size inb_S8x128x128_S1x128x128_6_0_0, R_S1_6 (laterB q)⟩ : View.Piece (Elt Ideal) S8x128x128 .f32) :: runLater.sl.HS3_14 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 := by
  unfold runLater.sl.HS3_15 R_S1_6
  (try simp only [l_r_164, l_r_213, l_r_234, l_r_235, l_r_236, l_r_241, l_r_242, l_r_243, View.readAt_eq_ld, Memref.IsWhole.read_unread]) <;> rfl

theorem l_out (i : grid0.Coords)  (hc0 : ¬cond0_0 i) (hc1 : cond0_1 i) : (runLater (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 q.x0 q.x1 q.x2 q.x3 q.x4 q.x5 q.x6 q.x7 q.x8 q.x9 q.x10 q.x11 q.x12 q.x13 q.x14 q.x15 q.x16 q.x17 q.x18 q.x19 q.x20 q.x21 q.x22 q.xs0 q.xs1 q.xs2 q.xs3).1
    = [⟨Rect.unit ![0, 0, 0] S1x256x1024.size inb_S1x256x1024_S1x256x1024_0_0_0, R_out (laterB q)⟩] := by
  show [(⟨Rect.unit ![0, 0, 0] S1x256x1024.size inb_S1x256x1024_S1x256x1024_0_0_0, k0_pay1 (runLater.sl.r (F := Ideal) c arg2 harg2 q.x0) (runLater.sl.r_255 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg26 harg26 arg27 harg27 arg28 harg28 arg29 harg29 q.x0 q.x1 q.x2 q.x3 q.x4 q.x5 q.x6 q.x7 q.x8 q.x9 q.x10 q.x11 q.x12 q.x13 q.x14 q.x15 q.x16 q.x17 q.x18 q.x19 q.x20 q.x21 q.xs0 q.xs1 q.xs2 q.xs3) (runLater.sl.r_256 (F := Ideal) c arg24 harg24 q.x22) (runLater.sl.r_257 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg26 harg26 arg27 harg27 arg28 harg28 arg29 harg29 q.x0 q.x1 q.x2 q.x3 q.x4 q.x5 q.x6 q.x7 q.x8 q.x9 q.x10 q.x11 q.x12 q.x13 q.x14 q.x15 q.x16 q.x17 q.x18 q.x19 q.x20 q.x21 q.xs0 q.xs1 q.xs2 q.xs3)⟩ : View.Piece (Elt Ideal) S1x256x1024 .f32)] = _
  rw [l_r, l_r_255, l_r_256, l_r_257]; rfl

theorem l_b0 (i : grid0.Coords)  (hc0 : ¬cond0_0 i) (hc1 : cond0_1 i) : (runLater (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 q.x0 q.x1 q.x2 q.x3 q.x4 q.x5 q.x6 q.x7 q.x8 q.x9 q.x10 q.x11 q.x12 q.x13 q.x14 q.x15 q.x16 q.x17 q.x18 q.x19 q.x20 q.x21 q.x22 q.xs0 q.xs1 q.xs2 q.xs3).2.1 = R_HS0_2 (laterB q) := l_HS0_2 ..

theorem l_b1 (i : grid0.Coords)  (hc0 : ¬cond0_0 i) (hc1 : cond0_1 i) : (runLater (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 q.x0 q.x1 q.x2 q.x3 q.x4 q.x5 q.x6 q.x7 q.x8 q.x9 q.x10 q.x11 q.x12 q.x13 q.x14 q.x15 q.x16 q.x17 q.x18 q.x19 q.x20 q.x21 q.x22 q.xs0 q.xs1 q.xs2 q.xs3).2.2.1 = R_HS1_2 (laterB q) := l_HS1_2 ..

theorem l_b2 (i : grid0.Coords)  (hc0 : ¬cond0_0 i) (hc1 : cond0_1 i) : (runLater (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 q.x0 q.x1 q.x2 q.x3 q.x4 q.x5 q.x6 q.x7 q.x8 q.x9 q.x10 q.x11 q.x12 q.x13 q.x14 q.x15 q.x16 q.x17 q.x18 q.x19 q.x20 q.x21 q.x22 q.xs0 q.xs1 q.xs2 q.xs3).2.2.2.1 = [⟨Rect.unit ![0, 0] S8x1024.size inb_S8x1024_S8x1024_0_0, R_carry (laterB q)⟩] := by
  show runLater.sl.HS2_1 (F := Ideal) c arg2 harg2 arg3 harg3 arg4 harg4 arg9 harg9 arg10 harg10 arg11 harg11 arg12 harg12 arg13 harg13 arg14 harg14 arg26 harg26 arg28 harg28 q.x0 q.x1 q.x2 q.x7 q.x8 q.x9 q.x10 q.x11 q.x12 q.xs0 q.xs2 = _
  unfold runLater.sl.HS2_1
  rw [l_r_57]; rfl

theorem l_b3 (i : grid0.Coords)  (hc0 : ¬cond0_0 i) (hc1 : cond0_1 i) : ∃ L, (runLater (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 q.x0 q.x1 q.x2 q.x3 q.x4 q.x5 q.x6 q.x7 q.x8 q.x9 q.x10 q.x11 q.x12 q.x13 q.x14 q.x15 q.x16 q.x17 q.x18 q.x19 q.x20 q.x21 q.x22 q.xs0 q.xs1 q.xs2 q.xs3).2.2.2.2.1 = ⟨Rect.unit ![7, 0, 0] S1x128x128.size inb_S8x128x128_S1x128x128_7_0_0, R_S1_7 (laterB q)⟩ :: ⟨Rect.unit ![6, 0, 0] S1x128x128.size inb_S8x128x128_S1x128x128_6_0_0, R_S1_6 (laterB q)⟩ :: ⟨Rect.unit ![5, 0, 0] S1x128x128.size inb_S8x128x128_S1x128x128_5_0_0, R_S1_5 (laterB q)⟩ :: ⟨Rect.unit ![4, 0, 0] S1x128x128.size inb_S8x128x128_S1x128x128_4_0_0, R_S1_4 (laterB q)⟩ :: ⟨Rect.unit ![3, 0, 0] S1x128x128.size inb_S8x128x128_S1x128x128_3_0_0, R_S1_3 (laterB q)⟩ :: ⟨Rect.unit ![2, 0, 0] S1x128x128.size inb_S8x128x128_S1x128x128_2_0_0, R_S1_2 (laterB q)⟩ :: ⟨Rect.unit ![1, 0, 0] S1x128x128.size inb_S8x128x128_S1x128x128_1_0_0, R_S1_1 (laterB q)⟩ :: ⟨Rect.unit ![0, 0, 0] S1x128x128.size inb_S8x128x128_S1x128x128_0_0_0, R_S1_0 (laterB q)⟩ :: L := by
  refine ⟨runLater.sl.HS3_8 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3, ?_⟩
  show (⟨Rect.unit ![7, 0, 0] S1x128x128.size inb_S8x128x128_S1x128x128_7_0_0, runLater.sl.r_254 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3⟩ : View.Piece (Elt Ideal) S8x128x128 .f32) :: runLater.sl.HS3_15 (F := Ideal) c arg2 harg2 arg3 harg3 arg7 harg7 arg8 harg8 arg16 harg16 arg17 harg17 arg18 harg18 arg19 harg19 arg27 harg27 arg29 harg29 q.x0 q.x1 q.x5 q.x6 q.x14 q.x15 q.x16 q.x17 q.xs1 q.xs3 = _
  rw [l_r_254, l_HS3_15, l_HS3_14, l_HS3_13, l_HS3_12, l_HS3_11, l_HS3_10, l_HS3_9]; rfl

end Cert.Mix

end
-- ==== Proof.MixValB.lean ====
module

public import proofs.«01_k».proof.Proof.MixValR
public import proofs.«01_k».proof.Proof.MixValQ
public import proofs.«01_k».proof.Proof.MixEndLater

@[expose] public section

set_option maxRecDepth 16384
set_option maxHeartbeats 400000

/-! A block of the grid, of any arrays: it leaves what the specification says. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD) (t : Fin cfg0.N) (h : ¬t.val % 32 = 0)

/-- The body at a point, of any arrays. -/
def laterAtQ (q : PkL) :=
  runLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (fun h' => h ((hcond0_0 t).mp h')) ((hcond0_1 t).mpr (by omega)) q.x0 q.x1 q.x2 q.x3 q.x4 q.x5 q.x6 q.x7 q.x8 q.x9 q.x10 q.x11 q.x12 q.x13 q.x14 q.x15 q.x16 q.x17 q.x18 q.x19 q.x20 q.x21 q.x22 q.xs0 q.xs1 q.xs2 q.xs3

/-- What it leaves. -/
def laterOutQ (q : PkL) :=
  rdAll (laterAtQ c t h q).1 (laterAtQ c t h q).2.1 (laterAtQ c t h q).2.2.1 (laterAtQ c t h q).2.2.2.1 (laterAtQ c t h q).2.2.2.2.1

theorem laterQ_out (q : PkL) : (laterAtQ c t h q).1 = [⟨Rect.unit ![0, 0, 0] S1x256x1024.size inb_S1x256x1024_S1x256x1024_0_0_0, R_out (laterB q)⟩] := by
  unfold laterAtQ
  exact l_out ..

theorem laterQ_b0 (q : PkL) : (laterAtQ c t h q).2.1 = R_HS0_2 (laterB q) := by
  unfold laterAtQ
  exact l_b0 ..

theorem laterQ_b1 (q : PkL) : (laterAtQ c t h q).2.2.1 = R_HS1_2 (laterB q) := by
  unfold laterAtQ
  exact l_b1 ..

theorem laterQ_b2 (q : PkL) : (laterAtQ c t h q).2.2.2.1 = [⟨Rect.unit ![0, 0] S8x1024.size inb_S8x1024_S8x1024_0_0, R_carry (laterB q)⟩] := by
  unfold laterAtQ
  exact l_b2 ..

theorem laterQ_b3 (q : PkL) : ∃ L, (laterAtQ c t h q).2.2.2.2.1 = ⟨Rect.unit ![7, 0, 0] S1x128x128.size inb_S8x128x128_S1x128x128_7_0_0, R_S1_7 (laterB q)⟩ :: ⟨Rect.unit ![6, 0, 0] S1x128x128.size inb_S8x128x128_S1x128x128_6_0_0, R_S1_6 (laterB q)⟩ :: ⟨Rect.unit ![5, 0, 0] S1x128x128.size inb_S8x128x128_S1x128x128_5_0_0, R_S1_5 (laterB q)⟩ :: ⟨Rect.unit ![4, 0, 0] S1x128x128.size inb_S8x128x128_S1x128x128_4_0_0, R_S1_4 (laterB q)⟩ :: ⟨Rect.unit ![3, 0, 0] S1x128x128.size inb_S8x128x128_S1x128x128_3_0_0, R_S1_3 (laterB q)⟩ :: ⟨Rect.unit ![2, 0, 0] S1x128x128.size inb_S8x128x128_S1x128x128_2_0_0, R_S1_2 (laterB q)⟩ :: ⟨Rect.unit ![1, 0, 0] S1x128x128.size inb_S8x128x128_S1x128x128_1_0_0, R_S1_1 (laterB q)⟩ :: ⟨Rect.unit ![0, 0, 0] S1x128x128.size inb_S8x128x128_S1x128x128_0_0_0, R_S1_0 (laterB q)⟩ :: L := by
  unfold laterAtQ
  exact l_b3 ..

theorem laterQ_good {W : Wt} {X : ℕ → Fin 1024 → EReal} {t0 : ℕ} (q : PkL) (A : Agr W X t0 (laterB q)) (F : FinW W) :
    Good W X t0 (laterOutQ c t h q) := by
  unfold laterOutQ
  exact good_of (spec_of A F _ _ _ _ _ (laterQ_out c t h q) (laterQ_b0 c t h q) (laterQ_b1 c t h q) ⟨[], laterQ_b2 c t h q⟩ (laterQ_b3 c t h q))

end Cert.Mix

end
-- ==== Proof.MixValBx.lean ====
module

public import proofs.«01_k».proof.Proof.MixValB
public import proofs.«01_k».proof.Proof.MixValP

@[expose] public section

set_option maxRecDepth 16384
set_option maxHeartbeats 400000

/-! A block of the grid, of the arrays it finds. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD) (t : Fin cfg0.N) (h : ¬t.val % 32 = 0)

/-- The body at a point. -/
def laterAtX (x0 : Vec Ideal S1x256x1024 .f32) (x1 : Vec Ideal S1x1024 .f32) (x2 : Vec Ideal S1024x1024 .bf16) (x3 : Vec Ideal S1024x1024 .bf16) (x4 : Vec Ideal S1024x1024 .bf16) (x5 : Vec Ideal S1024x1536 .bf16) (x6 : Vec Ideal S1024x128 .bf16) (x7 : Vec Ideal S4x1024 .f32) (x8 : Vec Ideal S1x1024 .f32) (x9 : Vec Ideal S4x256x512 .bf16) (x10 : Vec Ideal S1x1024 .f32) (x11 : Vec Ideal S1x1024 .f32) (x12 : Vec Ideal S1x1024 .f32) (x13 : Vec Ideal S1x1024 .f32) (x14 : Vec Ideal S4x1536 .f32) (x15 : Vec Ideal S1x1536 .f32) (x16 : Vec Ideal S1x128 .f32) (x17 : Vec Ideal S1x128 .f32) (x18 : Vec Ideal S1x1024 .f32) (x19 : Vec Ideal S1x1024 .f32) (x20 : Vec Ideal S1024x1024 .bf16) (x21 : Vec Ideal S1024x1024 .bf16) (x22 : Vec Ideal S1x1024 .f32) (xs0 : Vec Ideal S264x1024 .f32) (xs1 : Vec Ideal S264x1536 .f32) (xs2 : Vec Ideal S8x1024 .f32) (xs3 : Vec Ideal S8x128x128 .f32) :=
  runLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (fun h' => h ((hcond0_0 t).mp h')) ((hcond0_1 t).mpr (by omega)) x0 x1 x2 x3 x4 x5 x6 x7 x8 x9 x10 x11 x12 x13 x14 x15 x16 x17 x18 x19 x20 x21 x22 xs0 xs1 xs2 xs3

/-- What it leaves. -/
def laterOutX (x0 : Vec Ideal S1x256x1024 .f32) (x1 : Vec Ideal S1x1024 .f32) (x2 : Vec Ideal S1024x1024 .bf16) (x3 : Vec Ideal S1024x1024 .bf16) (x4 : Vec Ideal S1024x1024 .bf16) (x5 : Vec Ideal S1024x1536 .bf16) (x6 : Vec Ideal S1024x128 .bf16) (x7 : Vec Ideal S4x1024 .f32) (x8 : Vec Ideal S1x1024 .f32) (x9 : Vec Ideal S4x256x512 .bf16) (x10 : Vec Ideal S1x1024 .f32) (x11 : Vec Ideal S1x1024 .f32) (x12 : Vec Ideal S1x1024 .f32) (x13 : Vec Ideal S1x1024 .f32) (x14 : Vec Ideal S4x1536 .f32) (x15 : Vec Ideal S1x1536 .f32) (x16 : Vec Ideal S1x128 .f32) (x17 : Vec Ideal S1x128 .f32) (x18 : Vec Ideal S1x1024 .f32) (x19 : Vec Ideal S1x1024 .f32) (x20 : Vec Ideal S1024x1024 .bf16) (x21 : Vec Ideal S1024x1024 .bf16) (x22 : Vec Ideal S1x1024 .f32) (xs0 : Vec Ideal S264x1024 .f32) (xs1 : Vec Ideal S264x1536 .f32) (xs2 : Vec Ideal S8x1024 .f32) (xs3 : Vec Ideal S8x128x128 .f32) :=
  rdAll (laterAtX c t h x0 x1 x2 x3 x4 x5 x6 x7 x8 x9 x10 x11 x12 x13 x14 x15 x16 x17 x18 x19 x20 x21 x22 xs0 xs1 xs2 xs3).1 (laterAtX c t h x0 x1 x2 x3 x4 x5 x6 x7 x8 x9 x10 x11 x12 x13 x14 x15 x16 x17 x18 x19 x20 x21 x22 xs0 xs1 xs2 xs3).2.1 (laterAtX c t h x0 x1 x2 x3 x4 x5 x6 x7 x8 x9 x10 x11 x12 x13 x14 x15 x16 x17 x18 x19 x20 x21 x22 xs0 xs1 xs2 xs3).2.2.1 (laterAtX c t h x0 x1 x2 x3 x4 x5 x6 x7 x8 x9 x10 x11 x12 x13 x14 x15 x16 x17 x18 x19 x20 x21 x22 xs0 xs1 xs2 xs3).2.2.2.1 (laterAtX c t h x0 x1 x2 x3 x4 x5 x6 x7 x8 x9 x10 x11 x12 x13 x14 x15 x16 x17 x18 x19 x20 x21 x22 xs0 xs1 xs2 xs3).2.2.2.2.1

theorem later_X (xs0 : Vec Ideal S264x1024 .f32) (xs1 : Vec Ideal S264x1536 .f32) (xs2 : Vec Ideal S8x1024 .f32) (xs3 : Vec Ideal S8x128x128 .f32) : laterOut m c t h xs0 xs1 xs2 xs3 = laterOutX c t h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) xs0 xs1 xs2 xs3 := by
  delta laterOut laterOutX laterAt laterAtX rdAll
  rfl

theorem later_Q (x0 : Vec Ideal S1x256x1024 .f32) (x1 : Vec Ideal S1x1024 .f32) (x2 : Vec Ideal S1024x1024 .bf16) (x3 : Vec Ideal S1024x1024 .bf16) (x4 : Vec Ideal S1024x1024 .bf16) (x5 : Vec Ideal S1024x1536 .bf16) (x6 : Vec Ideal S1024x128 .bf16) (x7 : Vec Ideal S4x1024 .f32) (x8 : Vec Ideal S1x1024 .f32) (x9 : Vec Ideal S4x256x512 .bf16) (x10 : Vec Ideal S1x1024 .f32) (x11 : Vec Ideal S1x1024 .f32) (x12 : Vec Ideal S1x1024 .f32) (x13 : Vec Ideal S1x1024 .f32) (x14 : Vec Ideal S4x1536 .f32) (x15 : Vec Ideal S1x1536 .f32) (x16 : Vec Ideal S1x128 .f32) (x17 : Vec Ideal S1x128 .f32) (x18 : Vec Ideal S1x1024 .f32) (x19 : Vec Ideal S1x1024 .f32) (x20 : Vec Ideal S1024x1024 .bf16) (x21 : Vec Ideal S1024x1024 .bf16) (x22 : Vec Ideal S1x1024 .f32) (xs0 : Vec Ideal S264x1024 .f32) (xs1 : Vec Ideal S264x1536 .f32) (xs2 : Vec Ideal S8x1024 .f32) (xs3 : Vec Ideal S8x128x128 .f32) : laterOutX c t h x0 x1 x2 x3 x4 x5 x6 x7 x8 x9 x10 x11 x12 x13 x14 x15 x16 x17 x18 x19 x20 x21 x22 xs0 xs1 xs2 xs3 = laterOutQ c t h (mkL ⟨x0, x1, x2, x3, x4, x5, x6, x7, x8, x9, x10, x11, x12, x13, x14, x15, x16, x17, x18, x19, x20, x21, x22⟩ xs0 xs1 xs2 xs3) := rfl

theorem later_eq (xs0 : Vec Ideal S264x1024 .f32) (xs1 : Vec Ideal S264x1536 .f32) (xs2 : Vec Ideal S8x1024 .f32) (xs3 : Vec Ideal S8x128x128 .f32) : laterOut m c t h xs0 xs1 xs2 xs3 = laterOutQ c t h (mkL (qF m c t) xs0 xs1 xs2 xs3) :=
  (later_X m c t h xs0 xs1 xs2 xs3).trans (later_Q c t h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) xs0 xs1 xs2 xs3)

end Cert.Mix

end
-- ==== Proof.MixBlk0.lean ====
module

public import proofs.«01_k».proof.Proof.MixFrame
public import Idealize.ShloMosaic.Lib.Pointwise

@[expose] public section

set_option maxRecDepth 16384
set_option maxHeartbeats 400000

/-! The blocks the mixer's windows stage: 256 tokens of one sequence, and the whole of each weight. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem rd0 (Q : Buf (Elt Ideal) ((c : Thread nD τ).loc (Pipeline.arrRef spec0 0))) (t : Fin cfg0.N) (r : Fin 256) (k : Fin 1024) (B : Fin 8) (T : Fin 8192) (hB : B.val = t.val / 32) (hT : T.val = 256 * (t.val % 32) + r.val) :
    (((cfg0.win 0).blk t).view.read (Elt Ideal) Q : S1x256x1024.Idx → EReal) (ix3 0 r k) = (Q : S8x8192x1024.Idx → EReal) (ix3 B T k) := by
  have e0 : win0_0.index t ⟨0, by decide⟩ = t.val / 32 := (by decide +kernel : ∀ t : Fin grid0.N, win0_0.index t ⟨0, by decide⟩ = t.val / 32) t
  have e1 : win0_0.index t ⟨1, by decide⟩ = t.val % 32 := (by decide +kernel : ∀ t : Fin grid0.N, win0_0.index t ⟨1, by decide⟩ = t.val % 32) t
  have e2 : win0_0.index t ⟨2, by decide⟩ = 0 := (by decide +kernel : ∀ t : Fin grid0.N, win0_0.index t ⟨2, by decide⟩ = 0) t
  show (Q : S8x8192x1024.Idx → EReal) _ = _
  refine congrArg _ (funext fun a => Fin.ext ?_)
  match a with
  | ⟨0, _⟩ => show win0_0.index t ⟨0, _⟩ * 1 + 1 * 0 = B.val; rw [e0]; omega
  | ⟨1, _⟩ => show win0_0.index t ⟨1, _⟩ * 256 + 1 * r.val = T.val; rw [e1]; omega
  | ⟨2, _⟩ => show win0_0.index t ⟨2, _⟩ * 1024 + 1 * k.val = k.val; rw [e2]; omega

theorem iblk0 (t : Fin cfg0.N) (r : Fin 256) (k : Fin 1024) (B : Fin 8) (T : Fin 8192) (hB : B.val = t.val / 32) (hT : T.val = 256 * (t.val % 32) + r.val) :
    (iblk m c 0 t : S1x256x1024.Idx → EReal) (ix3 0 r k) = (m ((c : Thread nD τ).loc main_arg0) : S8x8192x1024.Idx → EReal) (ix3 B T k) :=
  (rd0 c (V m c (Pipeline.arrRef spec0 0)) t r k B T hB hT).trans (congrFun (V_main_arg0 m c) _)

theorem rd1 (Q : Buf (Elt Ideal) ((c : Thread nD τ).loc (Pipeline.arrRef spec0 1))) (t : Fin cfg0.N) (r : Fin 1) (k : Fin 1024) :
    (((cfg0.win 1).blk t).view.read (Elt Ideal) Q : S1x1024.Idx → EReal) (ix2 r k) = (Q : S1x1024.Idx → EReal) (ix2 r k) := by
  have e0 : win0_1.index t ⟨0, by decide⟩ = 0 := rfl
  have e1 : win0_1.index t ⟨1, by decide⟩ = 0 := rfl
  show (Q : S1x1024.Idx → EReal) _ = _
  refine congrArg _ (funext fun a => Fin.ext ?_)
  match a with
  | ⟨0, _⟩ => show win0_1.index t ⟨0, _⟩ * 1 + 1 * r.val = r.val; rw [e0]; omega
  | ⟨1, _⟩ => show win0_1.index t ⟨1, _⟩ * 1024 + 1 * k.val = k.val; rw [e1]; omega

theorem iblk1 (t : Fin cfg0.N) (r : Fin 1) (k : Fin 1024) :
    (iblk m c 1 t : S1x1024.Idx → EReal) (ix2 r k) = (V m c main_v5 : S1x1024.Idx → EReal) (ix2 r k) :=
  rd1 c (V m c (Pipeline.arrRef spec0 1)) t r k

theorem rd2 (Q : Buf (Elt Ideal) ((c : Thread nD τ).loc (Pipeline.arrRef spec0 2))) (t : Fin cfg0.N) (r : Fin 1024) (k : Fin 1024) :
    (((cfg0.win 2).blk t).view.read (Elt Ideal) Q : S1024x1024.Idx → EReal) (ix2 r k) = (Q : S1024x1024.Idx → EReal) (ix2 r k) := by
  have e0 : win0_2.index t ⟨0, by decide⟩ = 0 := rfl
  have e1 : win0_2.index t ⟨1, by decide⟩ = 0 := rfl
  show (Q : S1024x1024.Idx → EReal) _ = _
  refine congrArg _ (funext fun a => Fin.ext ?_)
  match a with
  | ⟨0, _⟩ => show win0_2.index t ⟨0, _⟩ * 1024 + 1 * r.val = r.val; rw [e0]; omega
  | ⟨1, _⟩ => show win0_2.index t ⟨1, _⟩ * 1024 + 1 * k.val = k.val; rw [e1]; omega

theorem iblk2 (t : Fin cfg0.N) (r : Fin 1024) (k : Fin 1024) :
    (iblk m c 2 t : S1024x1024.Idx → EReal) (ix2 r k) = (V m c main_v6 : S1024x1024.Idx → EReal) (ix2 r k) :=
  rd2 c (V m c (Pipeline.arrRef spec0 2)) t r k

theorem rd3 (Q : Buf (Elt Ideal) ((c : Thread nD τ).loc (Pipeline.arrRef spec0 3))) (t : Fin cfg0.N) (r : Fin 1024) (k : Fin 1024) :
    (((cfg0.win 3).blk t).view.read (Elt Ideal) Q : S1024x1024.Idx → EReal) (ix2 r k) = (Q : S1024x1024.Idx → EReal) (ix2 r k) := by
  have e0 : win0_3.index t ⟨0, by decide⟩ = 0 := rfl
  have e1 : win0_3.index t ⟨1, by decide⟩ = 0 := rfl
  show (Q : S1024x1024.Idx → EReal) _ = _
  refine congrArg _ (funext fun a => Fin.ext ?_)
  match a with
  | ⟨0, _⟩ => show win0_3.index t ⟨0, _⟩ * 1024 + 1 * r.val = r.val; rw [e0]; omega
  | ⟨1, _⟩ => show win0_3.index t ⟨1, _⟩ * 1024 + 1 * k.val = k.val; rw [e1]; omega

theorem iblk3 (t : Fin cfg0.N) (r : Fin 1024) (k : Fin 1024) :
    (iblk m c 3 t : S1024x1024.Idx → EReal) (ix2 r k) = (V m c main_v7 : S1024x1024.Idx → EReal) (ix2 r k) :=
  rd3 c (V m c (Pipeline.arrRef spec0 3)) t r k

end Cert.Mix

end
-- ==== Proof.MixBlk1.lean ====
module

public import proofs.«01_k».proof.Proof.MixFrame
public import Idealize.ShloMosaic.Lib.Pointwise

@[expose] public section

set_option maxRecDepth 16384
set_option maxHeartbeats 400000

/-! The blocks the mixer's windows stage: 256 tokens of one sequence, and the whole of each weight. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem rd4 (Q : Buf (Elt Ideal) ((c : Thread nD τ).loc (Pipeline.arrRef spec0 4))) (t : Fin cfg0.N) (r : Fin 1024) (k : Fin 1024) :
    (((cfg0.win 4).blk t).view.read (Elt Ideal) Q : S1024x1024.Idx → EReal) (ix2 r k) = (Q : S1024x1024.Idx → EReal) (ix2 r k) := by
  have e0 : win0_4.index t ⟨0, by decide⟩ = 0 := rfl
  have e1 : win0_4.index t ⟨1, by decide⟩ = 0 := rfl
  show (Q : S1024x1024.Idx → EReal) _ = _
  refine congrArg _ (funext fun a => Fin.ext ?_)
  match a with
  | ⟨0, _⟩ => show win0_4.index t ⟨0, _⟩ * 1024 + 1 * r.val = r.val; rw [e0]; omega
  | ⟨1, _⟩ => show win0_4.index t ⟨1, _⟩ * 1024 + 1 * k.val = k.val; rw [e1]; omega

theorem iblk4 (t : Fin cfg0.N) (r : Fin 1024) (k : Fin 1024) :
    (iblk m c 4 t : S1024x1024.Idx → EReal) (ix2 r k) = (V m c main_v8 : S1024x1024.Idx → EReal) (ix2 r k) :=
  rd4 c (V m c (Pipeline.arrRef spec0 4)) t r k

theorem rd5 (Q : Buf (Elt Ideal) ((c : Thread nD τ).loc (Pipeline.arrRef spec0 5))) (t : Fin cfg0.N) (r : Fin 1024) (k : Fin 1536) :
    (((cfg0.win 5).blk t).view.read (Elt Ideal) Q : S1024x1536.Idx → EReal) (ix2 r k) = (Q : S1024x1536.Idx → EReal) (ix2 r k) := by
  have e0 : win0_5.index t ⟨0, by decide⟩ = 0 := rfl
  have e1 : win0_5.index t ⟨1, by decide⟩ = 0 := rfl
  show (Q : S1024x1536.Idx → EReal) _ = _
  refine congrArg _ (funext fun a => Fin.ext ?_)
  match a with
  | ⟨0, _⟩ => show win0_5.index t ⟨0, _⟩ * 1024 + 1 * r.val = r.val; rw [e0]; omega
  | ⟨1, _⟩ => show win0_5.index t ⟨1, _⟩ * 1536 + 1 * k.val = k.val; rw [e1]; omega

theorem iblk5 (t : Fin cfg0.N) (r : Fin 1024) (k : Fin 1536) :
    (iblk m c 5 t : S1024x1536.Idx → EReal) (ix2 r k) = (V m c main_v9 : S1024x1536.Idx → EReal) (ix2 r k) :=
  rd5 c (V m c (Pipeline.arrRef spec0 5)) t r k

theorem rd6 (Q : Buf (Elt Ideal) ((c : Thread nD τ).loc (Pipeline.arrRef spec0 6))) (t : Fin cfg0.N) (r : Fin 1024) (k : Fin 128) :
    (((cfg0.win 6).blk t).view.read (Elt Ideal) Q : S1024x128.Idx → EReal) (ix2 r k) = (Q : S1024x128.Idx → EReal) (ix2 r k) := by
  have e0 : win0_6.index t ⟨0, by decide⟩ = 0 := rfl
  have e1 : win0_6.index t ⟨1, by decide⟩ = 0 := rfl
  show (Q : S1024x128.Idx → EReal) _ = _
  refine congrArg _ (funext fun a => Fin.ext ?_)
  match a with
  | ⟨0, _⟩ => show win0_6.index t ⟨0, _⟩ * 1024 + 1 * r.val = r.val; rw [e0]; omega
  | ⟨1, _⟩ => show win0_6.index t ⟨1, _⟩ * 128 + 1 * k.val = k.val; rw [e1]; omega

theorem iblk6 (t : Fin cfg0.N) (r : Fin 1024) (k : Fin 128) :
    (iblk m c 6 t : S1024x128.Idx → EReal) (ix2 r k) = (V m c main_v11 : S1024x128.Idx → EReal) (ix2 r k) :=
  rd6 c (V m c (Pipeline.arrRef spec0 6)) t r k

theorem rd7 (Q : Buf (Elt Ideal) ((c : Thread nD τ).loc (Pipeline.arrRef spec0 7))) (t : Fin cfg0.N) (r : Fin 4) (k : Fin 1024) :
    (((cfg0.win 7).blk t).view.read (Elt Ideal) Q : S4x1024.Idx → EReal) (ix2 r k) = (Q : S4x1024.Idx → EReal) (ix2 r k) := by
  have e0 : win0_7.index t ⟨0, by decide⟩ = 0 := rfl
  have e1 : win0_7.index t ⟨1, by decide⟩ = 0 := rfl
  show (Q : S4x1024.Idx → EReal) _ = _
  refine congrArg _ (funext fun a => Fin.ext ?_)
  match a with
  | ⟨0, _⟩ => show win0_7.index t ⟨0, _⟩ * 4 + 1 * r.val = r.val; rw [e0]; omega
  | ⟨1, _⟩ => show win0_7.index t ⟨1, _⟩ * 1024 + 1 * k.val = k.val; rw [e1]; omega

theorem iblk7 (t : Fin cfg0.N) (r : Fin 4) (k : Fin 1024) :
    (iblk m c 7 t : S4x1024.Idx → EReal) (ix2 r k) = (V m c main_v12 : S4x1024.Idx → EReal) (ix2 r k) :=
  rd7 c (V m c (Pipeline.arrRef spec0 7)) t r k

end Cert.Mix

end
-- ==== Proof.MixBlk2.lean ====
module

public import proofs.«01_k».proof.Proof.MixFrame
public import Idealize.ShloMosaic.Lib.Pointwise

@[expose] public section

set_option maxRecDepth 16384
set_option maxHeartbeats 400000

/-! The blocks the mixer's windows stage: 256 tokens of one sequence, and the whole of each weight. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem rd8 (Q : Buf (Elt Ideal) ((c : Thread nD τ).loc (Pipeline.arrRef spec0 8))) (t : Fin cfg0.N) (r : Fin 1) (k : Fin 1024) :
    (((cfg0.win 8).blk t).view.read (Elt Ideal) Q : S1x1024.Idx → EReal) (ix2 r k) = (Q : S1x1024.Idx → EReal) (ix2 r k) := by
  have e0 : win0_8.index t ⟨0, by decide⟩ = 0 := rfl
  have e1 : win0_8.index t ⟨1, by decide⟩ = 0 := rfl
  show (Q : S1x1024.Idx → EReal) _ = _
  refine congrArg _ (funext fun a => Fin.ext ?_)
  match a with
  | ⟨0, _⟩ => show win0_8.index t ⟨0, _⟩ * 1 + 1 * r.val = r.val; rw [e0]; omega
  | ⟨1, _⟩ => show win0_8.index t ⟨1, _⟩ * 1024 + 1 * k.val = k.val; rw [e1]; omega

theorem iblk8 (t : Fin cfg0.N) (r : Fin 1) (k : Fin 1024) :
    (iblk m c 8 t : S1x1024.Idx → EReal) (ix2 r k) = (V m c main_v14 : S1x1024.Idx → EReal) (ix2 r k) :=
  rd8 c (V m c (Pipeline.arrRef spec0 8)) t r k

theorem rd9 (Q : Buf (Elt Ideal) ((c : Thread nD τ).loc (Pipeline.arrRef spec0 9))) (t : Fin cfg0.N) (r : Fin 4) (k : Fin 256) (l : Fin 512) :
    (((cfg0.win 9).blk t).view.read (Elt Ideal) Q : S4x256x512.Idx → EReal) (ix3 r k l) = (Q : S4x256x512.Idx → EReal) (ix3 r k l) := by
  have e0 : win0_9.index t ⟨0, by decide⟩ = 0 := rfl
  have e1 : win0_9.index t ⟨1, by decide⟩ = 0 := rfl
  have e2 : win0_9.index t ⟨2, by decide⟩ = 0 := rfl
  show (Q : S4x256x512.Idx → EReal) _ = _
  refine congrArg _ (funext fun a => Fin.ext ?_)
  match a with
  | ⟨0, _⟩ => show win0_9.index t ⟨0, _⟩ * 4 + 1 * r.val = r.val; rw [e0]; omega
  | ⟨1, _⟩ => show win0_9.index t ⟨1, _⟩ * 256 + 1 * k.val = k.val; rw [e1]; omega
  | ⟨2, _⟩ => show win0_9.index t ⟨2, _⟩ * 512 + 1 * l.val = l.val; rw [e2]; omega

theorem iblk9 (t : Fin cfg0.N) (r : Fin 4) (k : Fin 256) (l : Fin 512) :
    (iblk m c 9 t : S4x256x512.Idx → EReal) (ix3 r k l) = (V m c main_v44 : S4x256x512.Idx → EReal) (ix3 r k l) :=
  rd9 c (V m c (Pipeline.arrRef spec0 9)) t r k l

theorem rd10 (Q : Buf (Elt Ideal) ((c : Thread nD τ).loc (Pipeline.arrRef spec0 10))) (t : Fin cfg0.N) (r : Fin 1) (k : Fin 1024) :
    (((cfg0.win 10).blk t).view.read (Elt Ideal) Q : S1x1024.Idx → EReal) (ix2 r k) = (Q : S1x1024.Idx → EReal) (ix2 r k) := by
  have e0 : win0_10.index t ⟨0, by decide⟩ = 0 := rfl
  have e1 : win0_10.index t ⟨1, by decide⟩ = 0 := rfl
  show (Q : S1x1024.Idx → EReal) _ = _
  refine congrArg _ (funext fun a => Fin.ext ?_)
  match a with
  | ⟨0, _⟩ => show win0_10.index t ⟨0, _⟩ * 1 + 1 * r.val = r.val; rw [e0]; omega
  | ⟨1, _⟩ => show win0_10.index t ⟨1, _⟩ * 1024 + 1 * k.val = k.val; rw [e1]; omega

theorem iblk10 (t : Fin cfg0.N) (r : Fin 1) (k : Fin 1024) :
    (iblk m c 10 t : S1x1024.Idx → EReal) (ix2 r k) = (V m c main_v46 : S1x1024.Idx → EReal) (ix2 r k) :=
  rd10 c (V m c (Pipeline.arrRef spec0 10)) t r k

end Cert.Mix

end
-- ==== Proof.MixBlk3.lean ====
module

public import proofs.«01_k».proof.Proof.MixFrame
public import Idealize.ShloMosaic.Lib.Pointwise

@[expose] public section

set_option maxRecDepth 16384
set_option maxHeartbeats 400000

/-! The blocks the mixer's windows stage: 256 tokens of one sequence, and the whole of each weight. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem rd11 (Q : Buf (Elt Ideal) ((c : Thread nD τ).loc (Pipeline.arrRef spec0 11))) (t : Fin cfg0.N) (r : Fin 1) (k : Fin 1024) :
    (((cfg0.win 11).blk t).view.read (Elt Ideal) Q : S1x1024.Idx → EReal) (ix2 r k) = (Q : S1x1024.Idx → EReal) (ix2 r k) := by
  have e0 : win0_11.index t ⟨0, by decide⟩ = 0 := rfl
  have e1 : win0_11.index t ⟨1, by decide⟩ = 0 := rfl
  show (Q : S1x1024.Idx → EReal) _ = _
  refine congrArg _ (funext fun a => Fin.ext ?_)
  match a with
  | ⟨0, _⟩ => show win0_11.index t ⟨0, _⟩ * 1 + 1 * r.val = r.val; rw [e0]; omega
  | ⟨1, _⟩ => show win0_11.index t ⟨1, _⟩ * 1024 + 1 * k.val = k.val; rw [e1]; omega

theorem iblk11 (t : Fin cfg0.N) (r : Fin 1) (k : Fin 1024) :
    (iblk m c 11 t : S1x1024.Idx → EReal) (ix2 r k) = (V m c main_v48 : S1x1024.Idx → EReal) (ix2 r k) :=
  rd11 c (V m c (Pipeline.arrRef spec0 11)) t r k

theorem rd12 (Q : Buf (Elt Ideal) ((c : Thread nD τ).loc (Pipeline.arrRef spec0 12))) (t : Fin cfg0.N) (r : Fin 1) (k : Fin 1024) :
    (((cfg0.win 12).blk t).view.read (Elt Ideal) Q : S1x1024.Idx → EReal) (ix2 r k) = (Q : S1x1024.Idx → EReal) (ix2 r k) := by
  have e0 : win0_12.index t ⟨0, by decide⟩ = 0 := rfl
  have e1 : win0_12.index t ⟨1, by decide⟩ = 0 := rfl
  show (Q : S1x1024.Idx → EReal) _ = _
  refine congrArg _ (funext fun a => Fin.ext ?_)
  match a with
  | ⟨0, _⟩ => show win0_12.index t ⟨0, _⟩ * 1 + 1 * r.val = r.val; rw [e0]; omega
  | ⟨1, _⟩ => show win0_12.index t ⟨1, _⟩ * 1024 + 1 * k.val = k.val; rw [e1]; omega

theorem iblk12 (t : Fin cfg0.N) (r : Fin 1) (k : Fin 1024) :
    (iblk m c 12 t : S1x1024.Idx → EReal) (ix2 r k) = (V m c main_v50 : S1x1024.Idx → EReal) (ix2 r k) :=
  rd12 c (V m c (Pipeline.arrRef spec0 12)) t r k

theorem rd13 (Q : Buf (Elt Ideal) ((c : Thread nD τ).loc (Pipeline.arrRef spec0 13))) (t : Fin cfg0.N) (r : Fin 1) (k : Fin 1024) :
    (((cfg0.win 13).blk t).view.read (Elt Ideal) Q : S1x1024.Idx → EReal) (ix2 r k) = (Q : S1x1024.Idx → EReal) (ix2 r k) := by
  have e0 : win0_13.index t ⟨0, by decide⟩ = 0 := rfl
  have e1 : win0_13.index t ⟨1, by decide⟩ = 0 := rfl
  show (Q : S1x1024.Idx → EReal) _ = _
  refine congrArg _ (funext fun a => Fin.ext ?_)
  match a with
  | ⟨0, _⟩ => show win0_13.index t ⟨0, _⟩ * 1 + 1 * r.val = r.val; rw [e0]; omega
  | ⟨1, _⟩ => show win0_13.index t ⟨1, _⟩ * 1024 + 1 * k.val = k.val; rw [e1]; omega

theorem iblk13 (t : Fin cfg0.N) (r : Fin 1) (k : Fin 1024) :
    (iblk m c 13 t : S1x1024.Idx → EReal) (ix2 r k) = (V m c main_v52 : S1x1024.Idx → EReal) (ix2 r k) :=
  rd13 c (V m c (Pipeline.arrRef spec0 13)) t r k

end Cert.Mix

end
-- ==== Proof.MixBlk4.lean ====
module

public import proofs.«01_k».proof.Proof.MixFrame
public import Idealize.ShloMosaic.Lib.Pointwise

@[expose] public section

set_option maxRecDepth 16384
set_option maxHeartbeats 400000

/-! The blocks the mixer's windows stage: 256 tokens of one sequence, and the whole of each weight. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem rd14 (Q : Buf (Elt Ideal) ((c : Thread nD τ).loc (Pipeline.arrRef spec0 14))) (t : Fin cfg0.N) (r : Fin 4) (k : Fin 1536) :
    (((cfg0.win 14).blk t).view.read (Elt Ideal) Q : S4x1536.Idx → EReal) (ix2 r k) = (Q : S4x1536.Idx → EReal) (ix2 r k) := by
  have e0 : win0_14.index t ⟨0, by decide⟩ = 0 := rfl
  have e1 : win0_14.index t ⟨1, by decide⟩ = 0 := rfl
  show (Q : S4x1536.Idx → EReal) _ = _
  refine congrArg _ (funext fun a => Fin.ext ?_)
  match a with
  | ⟨0, _⟩ => show win0_14.index t ⟨0, _⟩ * 4 + 1 * r.val = r.val; rw [e0]; omega
  | ⟨1, _⟩ => show win0_14.index t ⟨1, _⟩ * 1536 + 1 * k.val = k.val; rw [e1]; omega

theorem iblk14 (t : Fin cfg0.N) (r : Fin 4) (k : Fin 1536) :
    (iblk m c 14 t : S4x1536.Idx → EReal) (ix2 r k) = (V m c main_v53 : S4x1536.Idx → EReal) (ix2 r k) :=
  rd14 c (V m c (Pipeline.arrRef spec0 14)) t r k

theorem rd15 (Q : Buf (Elt Ideal) ((c : Thread nD τ).loc (Pipeline.arrRef spec0 15))) (t : Fin cfg0.N) (r : Fin 1) (k : Fin 1536) :
    (((cfg0.win 15).blk t).view.read (Elt Ideal) Q : S1x1536.Idx → EReal) (ix2 r k) = (Q : S1x1536.Idx → EReal) (ix2 r k) := by
  have e0 : win0_15.index t ⟨0, by decide⟩ = 0 := rfl
  have e1 : win0_15.index t ⟨1, by decide⟩ = 0 := rfl
  show (Q : S1x1536.Idx → EReal) _ = _
  refine congrArg _ (funext fun a => Fin.ext ?_)
  match a with
  | ⟨0, _⟩ => show win0_15.index t ⟨0, _⟩ * 1 + 1 * r.val = r.val; rw [e0]; omega
  | ⟨1, _⟩ => show win0_15.index t ⟨1, _⟩ * 1536 + 1 * k.val = k.val; rw [e1]; omega

theorem iblk15 (t : Fin cfg0.N) (r : Fin 1) (k : Fin 1536) :
    (iblk m c 15 t : S1x1536.Idx → EReal) (ix2 r k) = (V m c main_v55 : S1x1536.Idx → EReal) (ix2 r k) :=
  rd15 c (V m c (Pipeline.arrRef spec0 15)) t r k

theorem rd16 (Q : Buf (Elt Ideal) ((c : Thread nD τ).loc (Pipeline.arrRef spec0 16))) (t : Fin cfg0.N) (r : Fin 1) (k : Fin 128) :
    (((cfg0.win 16).blk t).view.read (Elt Ideal) Q : S1x128.Idx → EReal) (ix2 r k) = (Q : S1x128.Idx → EReal) (ix2 r k) := by
  have e0 : win0_16.index t ⟨0, by decide⟩ = 0 := rfl
  have e1 : win0_16.index t ⟨1, by decide⟩ = 0 := rfl
  show (Q : S1x128.Idx → EReal) _ = _
  refine congrArg _ (funext fun a => Fin.ext ?_)
  match a with
  | ⟨0, _⟩ => show win0_16.index t ⟨0, _⟩ * 1 + 1 * r.val = r.val; rw [e0]; omega
  | ⟨1, _⟩ => show win0_16.index t ⟨1, _⟩ * 128 + 1 * k.val = k.val; rw [e1]; omega

theorem iblk16 (t : Fin cfg0.N) (r : Fin 1) (k : Fin 128) :
    (iblk m c 16 t : S1x128.Idx → EReal) (ix2 r k) = (V m c main_v58 : S1x128.Idx → EReal) (ix2 r k) :=
  rd16 c (V m c (Pipeline.arrRef spec0 16)) t r k

end Cert.Mix

end
-- ==== Proof.MixBlk5.lean ====
module

public import proofs.«01_k».proof.Proof.MixFrame
public import Idealize.ShloMosaic.Lib.Pointwise

@[expose] public section

set_option maxRecDepth 16384
set_option maxHeartbeats 400000

/-! The blocks the mixer's windows stage: 256 tokens of one sequence, and the whole of each weight. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem rd17 (Q : Buf (Elt Ideal) ((c : Thread nD τ).loc (Pipeline.arrRef spec0 17))) (t : Fin cfg0.N) (r : Fin 1) (k : Fin 128) :
    (((cfg0.win 17).blk t).view.read (Elt Ideal) Q : S1x128.Idx → EReal) (ix2 r k) = (Q : S1x128.Idx → EReal) (ix2 r k) := by
  have e0 : win0_17.index t ⟨0, by decide⟩ = 0 := rfl
  have e1 : win0_17.index t ⟨1, by decide⟩ = 0 := rfl
  show (Q : S1x128.Idx → EReal) _ = _
  refine congrArg _ (funext fun a => Fin.ext ?_)
  match a with
  | ⟨0, _⟩ => show win0_17.index t ⟨0, _⟩ * 1 + 1 * r.val = r.val; rw [e0]; omega
  | ⟨1, _⟩ => show win0_17.index t ⟨1, _⟩ * 128 + 1 * k.val = k.val; rw [e1]; omega

theorem iblk17 (t : Fin cfg0.N) (r : Fin 1) (k : Fin 128) :
    (iblk m c 17 t : S1x128.Idx → EReal) (ix2 r k) = (V m c main_v61 : S1x128.Idx → EReal) (ix2 r k) :=
  rd17 c (V m c (Pipeline.arrRef spec0 17)) t r k

theorem rd18 (Q : Buf (Elt Ideal) ((c : Thread nD τ).loc (Pipeline.arrRef spec0 18))) (t : Fin cfg0.N) (r : Fin 1) (k : Fin 1024) :
    (((cfg0.win 18).blk t).view.read (Elt Ideal) Q : S1x1024.Idx → EReal) (ix2 r k) = (Q : S1x1024.Idx → EReal) (ix2 r k) := by
  have e0 : win0_18.index t ⟨0, by decide⟩ = 0 := rfl
  have e1 : win0_18.index t ⟨1, by decide⟩ = 0 := rfl
  show (Q : S1x1024.Idx → EReal) _ = _
  refine congrArg _ (funext fun a => Fin.ext ?_)
  match a with
  | ⟨0, _⟩ => show win0_18.index t ⟨0, _⟩ * 1 + 1 * r.val = r.val; rw [e0]; omega
  | ⟨1, _⟩ => show win0_18.index t ⟨1, _⟩ * 1024 + 1 * k.val = k.val; rw [e1]; omega

theorem iblk18 (t : Fin cfg0.N) (r : Fin 1) (k : Fin 1024) :
    (iblk m c 18 t : S1x1024.Idx → EReal) (ix2 r k) = (V m c main_v65 : S1x1024.Idx → EReal) (ix2 r k) :=
  rd18 c (V m c (Pipeline.arrRef spec0 18)) t r k

theorem rd19 (Q : Buf (Elt Ideal) ((c : Thread nD τ).loc (Pipeline.arrRef spec0 19))) (t : Fin cfg0.N) (r : Fin 1) (k : Fin 1024) :
    (((cfg0.win 19).blk t).view.read (Elt Ideal) Q : S1x1024.Idx → EReal) (ix2 r k) = (Q : S1x1024.Idx → EReal) (ix2 r k) := by
  have e0 : win0_19.index t ⟨0, by decide⟩ = 0 := rfl
  have e1 : win0_19.index t ⟨1, by decide⟩ = 0 := rfl
  show (Q : S1x1024.Idx → EReal) _ = _
  refine congrArg _ (funext fun a => Fin.ext ?_)
  match a with
  | ⟨0, _⟩ => show win0_19.index t ⟨0, _⟩ * 1 + 1 * r.val = r.val; rw [e0]; omega
  | ⟨1, _⟩ => show win0_19.index t ⟨1, _⟩ * 1024 + 1 * k.val = k.val; rw [e1]; omega

theorem iblk19 (t : Fin cfg0.N) (r : Fin 1) (k : Fin 1024) :
    (iblk m c 19 t : S1x1024.Idx → EReal) (ix2 r k) = (V m c main_v67 : S1x1024.Idx → EReal) (ix2 r k) :=
  rd19 c (V m c (Pipeline.arrRef spec0 19)) t r k

end Cert.Mix

end
-- ==== Proof.MixBlk6.lean ====
module

public import proofs.«01_k».proof.Proof.MixFrame
public import Idealize.ShloMosaic.Lib.Pointwise

@[expose] public section

set_option maxRecDepth 16384
set_option maxHeartbeats 400000

/-! The blocks the mixer's windows stage: 256 tokens of one sequence, and the whole of each weight. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem rd20 (Q : Buf (Elt Ideal) ((c : Thread nD τ).loc (Pipeline.arrRef spec0 20))) (t : Fin cfg0.N) (r : Fin 1024) (k : Fin 1024) :
    (((cfg0.win 20).blk t).view.read (Elt Ideal) Q : S1024x1024.Idx → EReal) (ix2 r k) = (Q : S1024x1024.Idx → EReal) (ix2 r k) := by
  have e0 : win0_20.index t ⟨0, by decide⟩ = 0 := rfl
  have e1 : win0_20.index t ⟨1, by decide⟩ = 0 := rfl
  show (Q : S1024x1024.Idx → EReal) _ = _
  refine congrArg _ (funext fun a => Fin.ext ?_)
  match a with
  | ⟨0, _⟩ => show win0_20.index t ⟨0, _⟩ * 1024 + 1 * r.val = r.val; rw [e0]; omega
  | ⟨1, _⟩ => show win0_20.index t ⟨1, _⟩ * 1024 + 1 * k.val = k.val; rw [e1]; omega

theorem iblk20 (t : Fin cfg0.N) (r : Fin 1024) (k : Fin 1024) :
    (iblk m c 20 t : S1024x1024.Idx → EReal) (ix2 r k) = (V m c main_v68 : S1024x1024.Idx → EReal) (ix2 r k) :=
  rd20 c (V m c (Pipeline.arrRef spec0 20)) t r k

theorem rd21 (Q : Buf (Elt Ideal) ((c : Thread nD τ).loc (Pipeline.arrRef spec0 21))) (t : Fin cfg0.N) (r : Fin 1024) (k : Fin 1024) :
    (((cfg0.win 21).blk t).view.read (Elt Ideal) Q : S1024x1024.Idx → EReal) (ix2 r k) = (Q : S1024x1024.Idx → EReal) (ix2 r k) := by
  have e0 : win0_21.index t ⟨0, by decide⟩ = 0 := rfl
  have e1 : win0_21.index t ⟨1, by decide⟩ = 0 := rfl
  show (Q : S1024x1024.Idx → EReal) _ = _
  refine congrArg _ (funext fun a => Fin.ext ?_)
  match a with
  | ⟨0, _⟩ => show win0_21.index t ⟨0, _⟩ * 1024 + 1 * r.val = r.val; rw [e0]; omega
  | ⟨1, _⟩ => show win0_21.index t ⟨1, _⟩ * 1024 + 1 * k.val = k.val; rw [e1]; omega

theorem iblk21 (t : Fin cfg0.N) (r : Fin 1024) (k : Fin 1024) :
    (iblk m c 21 t : S1024x1024.Idx → EReal) (ix2 r k) = (V m c main_v69 : S1024x1024.Idx → EReal) (ix2 r k) :=
  rd21 c (V m c (Pipeline.arrRef spec0 21)) t r k

theorem rd22 (Q : Buf (Elt Ideal) ((c : Thread nD τ).loc (Pipeline.arrRef spec0 22))) (t : Fin cfg0.N) (r : Fin 1) (k : Fin 1024) :
    (((cfg0.win 22).blk t).view.read (Elt Ideal) Q : S1x1024.Idx → EReal) (ix2 r k) = (Q : S1x1024.Idx → EReal) (ix2 r k) := by
  have e0 : win0_22.index t ⟨0, by decide⟩ = 0 := rfl
  have e1 : win0_22.index t ⟨1, by decide⟩ = 0 := rfl
  show (Q : S1x1024.Idx → EReal) _ = _
  refine congrArg _ (funext fun a => Fin.ext ?_)
  match a with
  | ⟨0, _⟩ => show win0_22.index t ⟨0, _⟩ * 1 + 1 * r.val = r.val; rw [e0]; omega
  | ⟨1, _⟩ => show win0_22.index t ⟨1, _⟩ * 1024 + 1 * k.val = k.val; rw [e1]; omega

theorem iblk22 (t : Fin cfg0.N) (r : Fin 1) (k : Fin 1024) :
    (iblk m c 22 t : S1x1024.Idx → EReal) (ix2 r k) = (V m c main_v71 : S1x1024.Idx → EReal) (ix2 r k) :=
  rd22 c (V m c (Pipeline.arrRef spec0 22)) t r k

end Cert.Mix

end
-- ==== Proof.MixBlk.lean ====
module

public import proofs.«01_k».proof.Proof.MixBlk0
public import proofs.«01_k».proof.Proof.MixBlk1
public import proofs.«01_k».proof.Proof.MixBlk2
public import proofs.«01_k».proof.Proof.MixBlk3
public import proofs.«01_k».proof.Proof.MixBlk4
public import proofs.«01_k».proof.Proof.MixBlk5
public import proofs.«01_k».proof.Proof.MixBlk6

/-! The blocks the mixer's windows stage, together. -/
-- ==== Proof.MixWin.lean ====
module

public import proofs.«01_k».proof.Proof.MixFrame
public import Idealize.ShloMosaic.Lib.Pointwise
public import Idealize.ShloMosaic.Lib.Pipeline.ReadBack

@[expose] public section

set_option maxRecDepth 16384
set_option maxHeartbeats 400000

/-! The arrays the mixer's windows read, prepared by the program before the call, at an index. -/

noncomputable section

namespace Cert.Mix

open Idealize.ShloMosaic Idealize.ShloMosaic.TcCoe Cert.KernelIdeal Cert.KernelIdeal.Gen

theorem rowA (x : FVec Ideal S1x1024 .f32) (l : Fin 1024) :
    shapeCast S1x1024 (shapeCast S1024 x shapeCasts_S1x1024_S1024) shapeCasts_S1024_S1x1024 (ix2 0 l) = x (ix2 0 l) := by
  refine (shapeCast_apply _ _ (ix2 0 l) (ix1 l) ?_).trans (shapeCast_apply _ _ (ix1 l) (ix2 0 l) ?_)
  · rw [Shape.rowMajor_val_one, Shape.rowMajor_val_two]; show l.val = 0 * 1024 + l.val; omega
  · rw [Shape.rowMajor_val_one, Shape.rowMajor_val_two]; show 0 * 1024 + l.val = l.val; omega

theorem rowB (x : FVec Ideal S1x1536 .f32) (l : Fin 1536) :
    shapeCast S1x1536 (shapeCast S1536 x shapeCasts_S1x1536_S1536) shapeCasts_S1536_S1x1536 (ix2 0 l) = x (ix2 0 l) := by
  refine (shapeCast_apply _ _ (ix2 0 l) (ix1 l) ?_).trans (shapeCast_apply _ _ (ix1 l) (ix2 0 l) ?_)
  · rw [Shape.rowMajor_val_one, Shape.rowMajor_val_two]; show l.val = 0 * 1536 + l.val; omega
  · rw [Shape.rowMajor_val_one, Shape.rowMajor_val_two]; show 0 * 1536 + l.val = l.val; omega

theorem winP (x : FVec Ideal S1x1024x4624 .f32) (k : Fin 1024) (i : Fin 4624) :
    (truncf .bf16 (shapeCast S1024x4624 x shapeCasts_S1x1024x4624_S1024x4624) bitsLt_bf16_f32 : FVec Ideal S1024x4624 .bf16) (ix2 k i) = x (ix3 0 k i) := by
  show shapeCast S1024x4624 _ _ (ix2 k i) = _
  refine shapeCast_apply _ _ (ix2 k i) (ix3 0 k i) ?_
  rw [Shape.rowMajor_val_two, Shape.rowMajor_val_three]
  show (0 * 1024 + k.val) * 4624 + i.val = k.val * 4624 + i.val
  omega

theorem woutP (x : FVec Ideal S1x2048x1024 .f32) (i : Fin 2048) (k : Fin 1024) :
    (truncf .bf16 (shapeCast S2048x1024 x shapeCasts_S1x2048x1024_S2048x1024) bitsLt_bf16_f32 : FVec Ideal S2048x1024 .bf16) (ix2 i k) = x (ix3 0 i k) := by
  show shapeCast S2048x1024 _ _ (ix2 i k) = _
  refine shapeCast_apply _ _ (ix2 i k) (ix3 0 i k) ?_
  rw [Shape.rowMajor_val_two, Shape.rowMajor_val_three]
  show (0 * 2048 + i.val) * 1024 + k.val = i.val * 1024 + k.val
  omega

theorem padA (x : FVec Ideal S1024x16 .bf16) (k : Fin 1024) (l : Fin 128) :
    (pad S1024x128 ![0, 0] ![0, 112] ![0, 0] x (sitofp .bf16 (constantI S_ 32 0#32)) pads_S1024x16_S1024x128_000_01120 h_S_ : FVec Ideal S1024x128 .bf16) (ix2 k l)
      = if h : (l : ℕ) < 16 then x (ix2 k ⟨l, h⟩) else (0 : EReal) := by
  have z : ((sitofp .bf16 (constantI S_ 32 0#32) : FVec Ideal S_ .bf16) (Shape.Idx.first h_S_) : EReal) = 0 := by
    show (((0#32 : BitVec 32).toInt : ℝ) : EReal) = 0
    simp
  generalize (sitofp .bf16 (constantI S_ 32 0#32) : FVec Ideal S_ .bf16) = Z at z ⊢
  rw [← z]
  pointwise <;> rfl

theorem padB (x : FVec Ideal S1x16 .f32) (l : Fin 128) :
    (pad S1x128 ![0, 0] ![0, 112] ![0, 0] x (sitofp .f32 (constantI S_ 32 0#32)) pads_S1x16_S1x128_000_01120 h_S_ : FVec Ideal S1x128 .f32) (ix2 0 l)
      = if h : (l : ℕ) < 16 then x (ix2 0 ⟨l, h⟩) else (0 : EReal) := by
  have z : ((sitofp .f32 (constantI S_ 32 0#32) : FVec Ideal S_ .f32) (Shape.Idx.first h_S_) : EReal) = 0 := by
    show (((0#32 : BitVec 32).toInt : ℝ) : EReal) = 0
    simp
  generalize (sitofp .f32 (constantI S_ 32 0#32) : FVec Ideal S_ .f32) = Z at z ⊢
  rw [← z]
  pointwise <;> rfl

theorem rowC (x : FVec Ideal S1x16 .f32) (l : Fin 16) :
    shapeCast S1x16 (shapeCast S16 x shapeCasts_S1x16_S16) shapeCasts_S16_S1x16 (ix2 0 l) = x (ix2 0 l) := by
  refine (shapeCast_apply _ _ (ix2 0 l) (ix1 l) ?_).trans (shapeCast_apply _ _ (ix1 l) (ix2 0 l) ?_)
  · rw [Shape.rowMajor_val_one, Shape.rowMajor_val_two]; show l.val = 0 * 16 + l.val; omega
  · rw [Shape.rowMajor_val_one, Shape.rowMajor_val_two]; show 0 * 16 + l.val = l.val; omega

theorem rowD (x : FVec Ideal S1x16 .f32) (l : Fin 1024) :
    shapeCast S1x1024 (shapeCast S1024 (broadcastInDim S16x64 ![0] bcast_S16_S16x64_0 (shapeCast S16 x shapeCasts_S1x16_S16)) shapeCasts_S16x64_S1024) shapeCasts_S1024_S1x1024 (ix2 0 l)
      = x (ix2 0 ⟨l / 64, by omega⟩) := by
  have e : shapeCast S16 x shapeCasts_S1x16_S16 (ix1 (⟨l / 64, by omega⟩ : Fin 16)) = x (ix2 0 ⟨l / 64, by omega⟩) := by
    refine shapeCast_apply _ _ _ (ix2 0 (⟨l / 64, by omega⟩ : Fin 16)) ?_
    rw [Shape.rowMajor_val_one, Shape.rowMajor_val_two]; show 0 * 16 + l.val / 64 = l.val / 64; omega
  rw [← e]
  generalize shapeCast S16 x shapeCasts_S1x16_S16 = P
  refine (shapeCast_apply _ _ (ix2 0 l) (ix1 l) ?_).trans ((shapeCast_apply _ _ (ix1 l) (ix2 (⟨l / 64, by omega⟩ : Fin 16) (⟨l % 64, by omega⟩ : Fin 64)) ?_).trans ?_)
  · rw [Shape.rowMajor_val_one, Shape.rowMajor_val_two]; show l.val = 0 * 1024 + l.val; omega
  · rw [Shape.rowMajor_val_one, Shape.rowMajor_val_two]; show l.val / 64 * 64 + l.val % 64 = l.val; omega
  · pointwise <;> rfl

/-- Four blocks of 64 rows and columns down a diagonal, from one gate's sixteen blocks. -/
def bdiag (a : FVec Ideal S1x16x64x64 .f32) : FVec Ideal S4x256x256 .f32 :=
  shapeCast S4x256x256 (mulf
    (broadcastInDim S4x4x64x4x64 ![0, 1, 2, 3, 4] bcast_S4x4x64x1x64_S4x4x64x4x64_0_1_2_3_4
      (broadcastInDim S4x4x64x1x64 ![0, 1, 2, 4] bcast_S4x4x64x64_S4x4x64x1x64_0_1_2_4
        (shapeCast S4x4x64x64 (shapeCast S16x64x64 a shapeCasts_S1x16x64x64_S16x64x64) shapeCasts_S16x64x64_S4x4x64x64)))
    (broadcastInDim S4x4x64x4x64 ![0, 1, 2, 3, 4] bcast_S1x4x1x4x1_S4x4x64x4x64_0_1_2_3_4
      (broadcastInDim S1x4x1x4x1 ![1, 3] bcast_S4x4_S1x4x1x4x1_1_3
        (uitofp .f32 (cmpi .eq (addi (iotaInDim S4x4 32 0) (broadcastInDim S4x4 ![] bcast_S_S4x4 (constantI S_ 32 0#32))) (iotaInDim S4x4 32 1)) : FVec Ideal S4x4 .f32)))
    : FVec Ideal S4x4x64x4x64 .f32) shapeCasts_S4x4x64x4x64_S4x256x256

theorem eye (a b : Fin 4) : (uitofp .f32 (cmpi .eq (addi (iotaInDim S4x4 32 0) (broadcastInDim S4x4 ![] bcast_S_S4x4 (constantI S_ 32 0#32))) (iotaInDim S4x4 32 1)) : FVec Ideal S4x4 .f32) (ix2 a b)
    = if a = b then (1 : EReal) else 0 := by
  have e : cmpi .eq (addi (iotaInDim S4x4 32 0) (broadcastInDim S4x4 ![] bcast_S_S4x4 (constantI S_ 32 0#32))) (iotaInDim S4x4 32 1) (ix2 a b)
      = if a = b then 1#1 else 0#1 := by
    revert a b; decide
  show (((cmpi .eq (addi (iotaInDim S4x4 32 0) (broadcastInDim S4x4 ![] bcast_S_S4x4 (constantI S_ 32 0#32))) (iotaInDim S4x4 32 1) (ix2 a b)).toNat : ℝ) : EReal) = _
  rw [e]
  split <;> simp

theorem bdiag_apply (a : FVec Ideal S1x16x64x64 .f32) (q : Fin 4) (x j : Fin 256) :
    bdiag a (ix3 q x j) = if (x : ℕ) / 64 = j / 64 then
      a (ix4 0 ⟨4 * q + x / 64, by omega⟩ ⟨x % 64, by omega⟩ ⟨j % 64, by omega⟩) else 0 := by
  unfold bdiag
  refine (shapeCast_apply _ _ (ix3 q x j) (ix5 q (⟨x / 64, by omega⟩ : Fin 4) (⟨x % 64, by omega⟩ : Fin 64) (⟨j / 64, by omega⟩ : Fin 4) (⟨j % 64, by omega⟩ : Fin 64)) ?_).trans ?_
  · rw [Shape.rowMajor_val_three, Shape.rowMajor_val_five]
    show (((q.val * 4 + x.val / 64) * 64 + x.val % 64) * 4 + j.val / 64) * 64 + j.val % 64 = (q.val * 256 + x.val) * 256 + j.val
    omega
  have e1 : shapeCast S4x4x64x64 (shapeCast S16x64x64 a shapeCasts_S1x16x64x64_S16x64x64) shapeCasts_S16x64x64_S4x4x64x64
      (ix4 q (⟨x / 64, by omega⟩ : Fin 4) (⟨x % 64, by omega⟩ : Fin 64) (⟨j % 64, by omega⟩ : Fin 64))
      = a (ix4 0 ⟨4 * q + x / 64, by omega⟩ ⟨x % 64, by omega⟩ ⟨j % 64, by omega⟩) := by
    refine (shapeCast_apply _ _ _ (ix3 (⟨4 * q + x / 64, by omega⟩ : Fin 16) (⟨x % 64, by omega⟩ : Fin 64) (⟨j % 64, by omega⟩ : Fin 64)) ?_).trans
      (shapeCast_apply _ _ _ (ix4 0 (⟨4 * q + x / 64, by omega⟩ : Fin 16) (⟨x % 64, by omega⟩ : Fin 64) (⟨j % 64, by omega⟩ : Fin 64)) ?_)
    · rw [Shape.rowMajor_val_three, Shape.rowMajor_val_four]
      show ((4 * q.val + x.val / 64) * 64 + x.val % 64) * 64 + j.val % 64 = ((q.val * 4 + x.val / 64) * 64 + x.val % 64) * 64 + j.val % 64
      omega
    · rw [Shape.rowMajor_val_three, Shape.rowMajor_val_four]
      show ((0 * 16 + (4 * q.val + x.val / 64)) * 64 + x.val % 64) * 64 + j.val % 64 = ((4 * q.val + x.val / 64) * 64 + x.val % 64) * 64 + j.val % 64
      omega
  have e2 := eye ⟨x / 64, by omega⟩ ⟨j / 64, by omega⟩
  generalize shapeCast S4x4x64x64 (shapeCast S16x64x64 a shapeCasts_S1x16x64x64_S16x64x64) shapeCasts_S16x64x64_S4x4x64x64 = P at e1 ⊢
  generalize (uitofp .f32 (cmpi .eq (addi (iotaInDim S4x4 32 0) (broadcastInDim S4x4 ![] bcast_S_S4x4 (constantI S_ 32 0#32))) (iotaInDim S4x4 32 1)) : FVec Ideal S4x4 .f32) = E at e2 ⊢
  have e3 : (mulf
    (broadcastInDim S4x4x64x4x64 ![0, 1, 2, 3, 4] bcast_S4x4x64x1x64_S4x4x64x4x64_0_1_2_3_4
      (broadcastInDim S4x4x64x1x64 ![0, 1, 2, 4] bcast_S4x4x64x64_S4x4x64x1x64_0_1_2_4 P))
    (broadcastInDim S4x4x64x4x64 ![0, 1, 2, 3, 4] bcast_S1x4x1x4x1_S4x4x64x4x64_0_1_2_3_4
      (broadcastInDim S1x4x1x4x1 ![1, 3] bcast_S4x4_S1x4x1x4x1_1_3 E)) : FVec Ideal S4x4x64x4x64 .f32)
      (ix5 q (⟨x / 64, by omega⟩ : Fin 4) (⟨x % 64, by omega⟩ : Fin 64) (⟨j / 64, by omega⟩ : Fin 4) (⟨j % 64, by omega⟩ : Fin 64))
      = P (ix4 q (⟨x / 64, by omega⟩ : Fin 4) (⟨x % 64, by omega⟩ : Fin 64) (⟨j % 64, by omega⟩ : Fin 64)) * E (ix2 (⟨x / 64, by omega⟩ : Fin 4) (⟨j / 64, by omega⟩ : Fin 4)) := by
    pointwise <;> rfl
  refine e3.trans ?_
  rw [e1, e2]
  by_cases h : (x : ℕ) / 64 = j / 64
  · rw [if_pos h, if_pos (Fin.ext h), mul_one]
  · rw [if_neg h, if_neg (fun h' => h (congrArg Fin.val h')), mul_zero]

end Cert.Mix

end
-- ==== Proof.MixWin0.lean ====
module

public import proofs.«01_k».proof.Proof.MixWin

@[expose] public section

set_option maxRecDepth 16384
set_option maxHeartbeats 400000

/-! The arrays the mixer's windows read, prepared by the program before the call, at an index. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem V_v5 (l : Fin 1024) :
    (V m c main_v5 : S1x1024.Idx → EReal) (ix2 0 l) = (m ((c : Thread nD τ).loc main_arg1) : S1x1024.Idx → EReal) (ix2 0 l) := by
  have e : V m c main_v5 = (shapeCast S1x1024 (shapeCast S1024 (m ((c : Thread nD τ).loc main_arg1) : FVec Ideal S1x1024 .f32) shapeCasts_S1x1024_S1024) shapeCasts_S1024_S1x1024 : FVec Ideal S1x1024 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  exact rowA _ l

theorem V_v14 (l : Fin 1024) :
    (V m c main_v14 : S1x1024.Idx → EReal) (ix2 0 l) = (m ((c : Thread nD τ).loc main_arg4) : S1x1024.Idx → EReal) (ix2 0 l) := by
  have e : V m c main_v14 = (shapeCast S1x1024 (shapeCast S1024 (m ((c : Thread nD τ).loc main_arg4) : FVec Ideal S1x1024 .f32) shapeCasts_S1x1024_S1024) shapeCasts_S1024_S1x1024 : FVec Ideal S1x1024 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  exact rowA _ l

theorem V_v46 (l : Fin 1024) :
    (V m c main_v46 : S1x1024.Idx → EReal) (ix2 0 l) = (m ((c : Thread nD τ).loc main_arg6) : S1x1024.Idx → EReal) (ix2 0 l) := by
  have e : V m c main_v46 = (shapeCast S1x1024 (shapeCast S1024 (m ((c : Thread nD τ).loc main_arg6) : FVec Ideal S1x1024 .f32) shapeCasts_S1x1024_S1024) shapeCasts_S1024_S1x1024 : FVec Ideal S1x1024 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  exact rowA _ l

end Cert.Mix

end
-- ==== Proof.MixWin1.lean ====
module

public import proofs.«01_k».proof.Proof.MixWin

@[expose] public section

set_option maxRecDepth 16384
set_option maxHeartbeats 400000

/-! The arrays the mixer's windows read, prepared by the program before the call, at an index. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem V_v48 (l : Fin 1024) :
    (V m c main_v48 : S1x1024.Idx → EReal) (ix2 0 l) = (m ((c : Thread nD τ).loc main_arg8) : S1x1024.Idx → EReal) (ix2 0 l) := by
  have e : V m c main_v48 = (shapeCast S1x1024 (shapeCast S1024 (m ((c : Thread nD τ).loc main_arg8) : FVec Ideal S1x1024 .f32) shapeCasts_S1x1024_S1024) shapeCasts_S1024_S1x1024 : FVec Ideal S1x1024 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  exact rowA _ l

theorem V_v50 (l : Fin 1024) :
    (V m c main_v50 : S1x1024.Idx → EReal) (ix2 0 l) = (m ((c : Thread nD τ).loc main_arg9) : S1x1024.Idx → EReal) (ix2 0 l) := by
  have e : V m c main_v50 = (shapeCast S1x1024 (shapeCast S1024 (m ((c : Thread nD τ).loc main_arg9) : FVec Ideal S1x1024 .f32) shapeCasts_S1x1024_S1024) shapeCasts_S1024_S1x1024 : FVec Ideal S1x1024 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  exact rowA _ l

theorem V_v52 (l : Fin 1024) :
    (V m c main_v52 : S1x1024.Idx → EReal) (ix2 0 l) = (m ((c : Thread nD τ).loc main_arg10) : S1x1024.Idx → EReal) (ix2 0 l) := by
  have e : V m c main_v52 = (shapeCast S1x1024 (shapeCast S1024 (m ((c : Thread nD τ).loc main_arg10) : FVec Ideal S1x1024 .f32) shapeCasts_S1x1024_S1024) shapeCasts_S1024_S1x1024 : FVec Ideal S1x1024 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  exact rowA _ l

end Cert.Mix

end
-- ==== Proof.MixWin2.lean ====
module

public import proofs.«01_k».proof.Proof.MixWin

@[expose] public section

set_option maxRecDepth 16384
set_option maxHeartbeats 400000

/-! The arrays the mixer's windows read, prepared by the program before the call, at an index. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem V_v67 (l : Fin 1024) :
    (V m c main_v67 : S1x1024.Idx → EReal) (ix2 0 l) = (m ((c : Thread nD τ).loc main_arg16) : S1x1024.Idx → EReal) (ix2 0 l) := by
  have e : V m c main_v67 = (shapeCast S1x1024 (shapeCast S1024 (m ((c : Thread nD τ).loc main_arg16) : FVec Ideal S1x1024 .f32) shapeCasts_S1x1024_S1024) shapeCasts_S1024_S1x1024 : FVec Ideal S1x1024 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  exact rowA _ l

theorem V_v71 (l : Fin 1024) :
    (V m c main_v71 : S1x1024.Idx → EReal) (ix2 0 l) = (m ((c : Thread nD τ).loc main_arg18) : S1x1024.Idx → EReal) (ix2 0 l) := by
  have e : V m c main_v71 = (shapeCast S1x1024 (shapeCast S1024 (m ((c : Thread nD τ).loc main_arg18) : FVec Ideal S1x1024 .f32) shapeCasts_S1x1024_S1024) shapeCasts_S1024_S1x1024 : FVec Ideal S1x1024 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  exact rowA _ l

theorem V_v55 (l : Fin 1536) :
    (V m c main_v55 : S1x1536.Idx → EReal) (ix2 0 l) = (m ((c : Thread nD τ).loc main_arg12) : S1x1536.Idx → EReal) (ix2 0 l) := by
  have e : V m c main_v55 = (shapeCast S1x1536 (shapeCast S1536 (m ((c : Thread nD τ).loc main_arg12) : FVec Ideal S1x1536 .f32) shapeCasts_S1x1536_S1536) shapeCasts_S1536_S1x1536 : FVec Ideal S1x1536 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  exact rowB _ l

end Cert.Mix

end
-- ==== Proof.MixWin3.lean ====
module

public import proofs.«01_k».proof.Proof.MixWin

@[expose] public section

set_option maxRecDepth 16384
set_option maxHeartbeats 400000

/-! The arrays the mixer's windows read, prepared by the program before the call, at an index. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem V_v6 (k : Fin 1024) (l : Fin 1024) :
    (V m c main_v6 : S1024x1024.Idx → EReal) (ix2 k l) = (m ((c : Thread nD τ).loc main_arg2) : S1x1024x4624.Idx → EReal) (ix3 0 k ⟨0 + l, by omega⟩) := by
  have e : V m c main_v6 = (extractStridedSlice S1024x1024 ![0, 0] (truncf .bf16 (shapeCast S1024x4624 (m ((c : Thread nD τ).loc main_arg2) : FVec Ideal S1x1024x4624 .f32) shapeCasts_S1x1024x4624_S1024x4624) bitsLt_bf16_f32 : FVec Ideal S1024x4624 .bf16) slices_S1024x4624_S1024x1024_0_0 : FVec Ideal S1024x1024 .bf16) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  have h : ∀ i : Fin 4624, (truncf .bf16 (shapeCast S1024x4624 (m ((c : Thread nD τ).loc main_arg2) : FVec Ideal S1x1024x4624 .f32) shapeCasts_S1x1024x4624_S1024x4624) bitsLt_bf16_f32 : FVec Ideal S1024x4624 .bf16) (ix2 k i) = (m ((c : Thread nD τ).loc main_arg2) : S1x1024x4624.Idx → EReal) (ix3 0 k i) := fun i => winP _ k i
  generalize (truncf .bf16 (shapeCast S1024x4624 (m ((c : Thread nD τ).loc main_arg2) : FVec Ideal S1x1024x4624 .f32) shapeCasts_S1x1024x4624_S1024x4624) bitsLt_bf16_f32 : FVec Ideal S1024x4624 .bf16) = P at h ⊢
  rw [← h]
  pointwise <;> rfl

theorem V_v7 (k : Fin 1024) (l : Fin 1024) :
    (V m c main_v7 : S1024x1024.Idx → EReal) (ix2 k l) = (m ((c : Thread nD τ).loc main_arg2) : S1x1024x4624.Idx → EReal) (ix3 0 k ⟨1024 + l, by omega⟩) := by
  have e : V m c main_v7 = (extractStridedSlice S1024x1024 ![0, 1024] (truncf .bf16 (shapeCast S1024x4624 (m ((c : Thread nD τ).loc main_arg2) : FVec Ideal S1x1024x4624 .f32) shapeCasts_S1x1024x4624_S1024x4624) bitsLt_bf16_f32 : FVec Ideal S1024x4624 .bf16) slices_S1024x4624_S1024x1024_0_1024 : FVec Ideal S1024x1024 .bf16) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  have h : ∀ i : Fin 4624, (truncf .bf16 (shapeCast S1024x4624 (m ((c : Thread nD τ).loc main_arg2) : FVec Ideal S1x1024x4624 .f32) shapeCasts_S1x1024x4624_S1024x4624) bitsLt_bf16_f32 : FVec Ideal S1024x4624 .bf16) (ix2 k i) = (m ((c : Thread nD τ).loc main_arg2) : S1x1024x4624.Idx → EReal) (ix3 0 k i) := fun i => winP _ k i
  generalize (truncf .bf16 (shapeCast S1024x4624 (m ((c : Thread nD τ).loc main_arg2) : FVec Ideal S1x1024x4624 .f32) shapeCasts_S1x1024x4624_S1024x4624) bitsLt_bf16_f32 : FVec Ideal S1024x4624 .bf16) = P at h ⊢
  rw [← h]
  pointwise <;> rfl

theorem V_v8 (k : Fin 1024) (l : Fin 1024) :
    (V m c main_v8 : S1024x1024.Idx → EReal) (ix2 k l) = (m ((c : Thread nD τ).loc main_arg2) : S1x1024x4624.Idx → EReal) (ix3 0 k ⟨2048 + l, by omega⟩) := by
  have e : V m c main_v8 = (extractStridedSlice S1024x1024 ![0, 2048] (truncf .bf16 (shapeCast S1024x4624 (m ((c : Thread nD τ).loc main_arg2) : FVec Ideal S1x1024x4624 .f32) shapeCasts_S1x1024x4624_S1024x4624) bitsLt_bf16_f32 : FVec Ideal S1024x4624 .bf16) slices_S1024x4624_S1024x1024_0_2048 : FVec Ideal S1024x1024 .bf16) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  have h : ∀ i : Fin 4624, (truncf .bf16 (shapeCast S1024x4624 (m ((c : Thread nD τ).loc main_arg2) : FVec Ideal S1x1024x4624 .f32) shapeCasts_S1x1024x4624_S1024x4624) bitsLt_bf16_f32 : FVec Ideal S1024x4624 .bf16) (ix2 k i) = (m ((c : Thread nD τ).loc main_arg2) : S1x1024x4624.Idx → EReal) (ix3 0 k i) := fun i => winP _ k i
  generalize (truncf .bf16 (shapeCast S1024x4624 (m ((c : Thread nD τ).loc main_arg2) : FVec Ideal S1x1024x4624 .f32) shapeCasts_S1x1024x4624_S1024x4624) bitsLt_bf16_f32 : FVec Ideal S1024x4624 .bf16) = P at h ⊢
  rw [← h]
  pointwise <;> rfl

end Cert.Mix

end
-- ==== Proof.MixWin4.lean ====
module

public import proofs.«01_k».proof.Proof.MixWin

@[expose] public section

set_option maxRecDepth 16384
set_option maxHeartbeats 400000

/-! The arrays the mixer's windows read, prepared by the program before the call, at an index. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem V_v9 (k : Fin 1024) (l : Fin 1536) :
    (V m c main_v9 : S1024x1536.Idx → EReal) (ix2 k l) = (m ((c : Thread nD τ).loc main_arg2) : S1x1024x4624.Idx → EReal) (ix3 0 k ⟨3072 + l, by omega⟩) := by
  have e : V m c main_v9 = (extractStridedSlice S1024x1536 ![0, 3072] (truncf .bf16 (shapeCast S1024x4624 (m ((c : Thread nD τ).loc main_arg2) : FVec Ideal S1x1024x4624 .f32) shapeCasts_S1x1024x4624_S1024x4624) bitsLt_bf16_f32 : FVec Ideal S1024x4624 .bf16) slices_S1024x4624_S1024x1536_0_3072 : FVec Ideal S1024x1536 .bf16) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  have h : ∀ i : Fin 4624, (truncf .bf16 (shapeCast S1024x4624 (m ((c : Thread nD τ).loc main_arg2) : FVec Ideal S1x1024x4624 .f32) shapeCasts_S1x1024x4624_S1024x4624) bitsLt_bf16_f32 : FVec Ideal S1024x4624 .bf16) (ix2 k i) = (m ((c : Thread nD τ).loc main_arg2) : S1x1024x4624.Idx → EReal) (ix3 0 k i) := fun i => winP _ k i
  generalize (truncf .bf16 (shapeCast S1024x4624 (m ((c : Thread nD τ).loc main_arg2) : FVec Ideal S1x1024x4624 .f32) shapeCasts_S1x1024x4624_S1024x4624) bitsLt_bf16_f32 : FVec Ideal S1024x4624 .bf16) = P at h ⊢
  rw [← h]
  pointwise <;> rfl

theorem V_v11 (k : Fin 1024) (l : Fin 128) :
    (V m c main_v11 : S1024x128.Idx → EReal) (ix2 k l) = if h : (l : ℕ) < 16 then (m ((c : Thread nD τ).loc main_arg2) : S1x1024x4624.Idx → EReal) (ix3 0 k ⟨4608 + l, by omega⟩) else (0 : EReal) := by
  have e : V m c main_v11 = (pad S1024x128 ![0, 0] ![0, 112] ![0, 0] (extractStridedSlice S1024x16 ![0, 4608] (truncf .bf16 (shapeCast S1024x4624 (m ((c : Thread nD τ).loc main_arg2) : FVec Ideal S1x1024x4624 .f32) shapeCasts_S1x1024x4624_S1024x4624) bitsLt_bf16_f32 : FVec Ideal S1024x4624 .bf16) slices_S1024x4624_S1024x16_0_4608) (sitofp .bf16 (constantI S_ 32 0#32)) pads_S1024x16_S1024x128_000_01120 h_S_ : FVec Ideal S1024x128 .bf16) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  have h : ∀ i : Fin 4624, (truncf .bf16 (shapeCast S1024x4624 (m ((c : Thread nD τ).loc main_arg2) : FVec Ideal S1x1024x4624 .f32) shapeCasts_S1x1024x4624_S1024x4624) bitsLt_bf16_f32 : FVec Ideal S1024x4624 .bf16) (ix2 k i) = (m ((c : Thread nD τ).loc main_arg2) : S1x1024x4624.Idx → EReal) (ix3 0 k i) := fun i => winP _ k i
  have h2 : ∀ i : Fin 16, (extractStridedSlice S1024x16 ![0, 4608] (truncf .bf16 (shapeCast S1024x4624 (m ((c : Thread nD τ).loc main_arg2) : FVec Ideal S1x1024x4624 .f32) shapeCasts_S1x1024x4624_S1024x4624) bitsLt_bf16_f32 : FVec Ideal S1024x4624 .bf16) slices_S1024x4624_S1024x16_0_4608 : FVec Ideal S1024x16 .bf16) (ix2 k i) = (m ((c : Thread nD τ).loc main_arg2) : S1x1024x4624.Idx → EReal) (ix3 0 k ⟨4608 + i, by omega⟩) := by
    intro i
    generalize (truncf .bf16 (shapeCast S1024x4624 (m ((c : Thread nD τ).loc main_arg2) : FVec Ideal S1x1024x4624 .f32) shapeCasts_S1x1024x4624_S1024x4624) bitsLt_bf16_f32 : FVec Ideal S1024x4624 .bf16) = P at h ⊢
    rw [← h]
    pointwise <;> rfl
  generalize (extractStridedSlice S1024x16 ![0, 4608] (truncf .bf16 (shapeCast S1024x4624 (m ((c : Thread nD τ).loc main_arg2) : FVec Ideal S1x1024x4624 .f32) shapeCasts_S1x1024x4624_S1024x4624) bitsLt_bf16_f32 : FVec Ideal S1024x4624 .bf16) slices_S1024x4624_S1024x16_0_4608 : FVec Ideal S1024x16 .bf16) = Q at h2 ⊢
  refine (padA _ k l).trans ?_
  by_cases h' : (l : ℕ) < 16
  · rw [dif_pos h', dif_pos h']; exact h2 ⟨l, h'⟩
  · rw [dif_neg h', dif_neg h']

end Cert.Mix

end
-- ==== Proof.MixWin5.lean ====
module

public import proofs.«01_k».proof.Proof.MixWin

@[expose] public section

set_option maxRecDepth 16384
set_option maxHeartbeats 400000

/-! The arrays the mixer's windows read, prepared by the program before the call, at an index. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem V_v12 (k : Fin 4) (l : Fin 1024) :
    (V m c main_v12 : S4x1024.Idx → EReal) (ix2 k l) = (m ((c : Thread nD τ).loc main_arg3) : S1x4x1024.Idx → EReal) (ix3 0 k l) := by
  have e : V m c main_v12 = (shapeCast S4x1024 (m ((c : Thread nD τ).loc main_arg3) : FVec Ideal S1x4x1024 .f32) shapeCasts_S1x4x1024_S4x1024 : FVec Ideal S4x1024 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  refine shapeCast_apply _ _ (ix2 k l) (ix3 0 k l) ?_
  rw [Shape.rowMajor_val_two, Shape.rowMajor_val_three]
  show (0 * 4 + k.val) * 1024 + l.val = k.val * 1024 + l.val
  omega

theorem V_v53 (k : Fin 4) (l : Fin 1536) :
    (V m c main_v53 : S4x1536.Idx → EReal) (ix2 k l) = (m ((c : Thread nD τ).loc main_arg11) : S1x4x1536.Idx → EReal) (ix3 0 k l) := by
  have e : V m c main_v53 = (shapeCast S4x1536 (m ((c : Thread nD τ).loc main_arg11) : FVec Ideal S1x4x1536 .f32) shapeCasts_S1x4x1536_S4x1536 : FVec Ideal S4x1536 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  refine shapeCast_apply _ _ (ix2 k l) (ix3 0 k l) ?_
  rw [Shape.rowMajor_val_two, Shape.rowMajor_val_three]
  show (0 * 4 + k.val) * 1536 + l.val = k.val * 1536 + l.val
  omega

end Cert.Mix

end
-- ==== Proof.MixWin6.lean ====
module

public import proofs.«01_k».proof.Proof.MixWin

@[expose] public section

set_option maxRecDepth 16384
set_option maxHeartbeats 400000

/-! The arrays the mixer's windows read, prepared by the program before the call, at an index. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem V_v44 : V m c main_v44 = (truncf .bf16 (concatenate S4x256x512 2 [⟨S4x256x256, bdiag (m ((c : Thread nD τ).loc main_arg5) : FVec Ideal S1x16x64x64 .f32)⟩, ⟨S4x256x256, bdiag (m ((c : Thread nD τ).loc main_arg7) : FVec Ideal S1x16x64x64 .f32)⟩] concatenates_S4x256x256_S4x256x256_S4x256x512_d2 : FVec Ideal S4x256x512 .f32) bitsLt_bf16_f32 : FVec Ideal S4x256x512 .bf16) := by
  dsimp only [V, hostOps0, hostOps0_1, hostOps0_2, hostOps0_3, hostOps0_4, hostOps0_5, hostOps0_6, List.flatten_cons, List.flatten_nil, List.cons_append, List.nil_append, List.append_nil]
  after_results_simp <;> rfl

theorem V_v44a (q : Fin 4) (x j : Fin 256) :
    (V m c main_v44 : S4x256x512.Idx → EReal) (ix3 q x ⟨j, by omega⟩) = if (x : ℕ) / 64 = j / 64 then
      (m ((c : Thread nD τ).loc main_arg5) : S1x16x64x64.Idx → EReal) (ix4 0 ⟨4 * q + x / 64, by omega⟩ ⟨x % 64, by omega⟩ ⟨j % 64, by omega⟩) else (0 : EReal) := by
  rw [V_v44]
  refine Eq.trans ?_ (bdiag_apply _ q x j)
  generalize bdiag (m ((c : Thread nD τ).loc main_arg5) : FVec Ideal S1x16x64x64 .f32) = P
  generalize bdiag (m ((c : Thread nD τ).loc main_arg7) : FVec Ideal S1x16x64x64 .f32) = P'
  pointwise <;> rfl

theorem V_v44b (q : Fin 4) (x j : Fin 256) :
    (V m c main_v44 : S4x256x512.Idx → EReal) (ix3 q x ⟨256 + j, by omega⟩) = if (x : ℕ) / 64 = j / 64 then
      (m ((c : Thread nD τ).loc main_arg7) : S1x16x64x64.Idx → EReal) (ix4 0 ⟨4 * q + x / 64, by omega⟩ ⟨x % 64, by omega⟩ ⟨j % 64, by omega⟩) else (0 : EReal) := by
  rw [V_v44]
  refine Eq.trans ?_ (bdiag_apply _ q x j)
  generalize bdiag (m ((c : Thread nD τ).loc main_arg5) : FVec Ideal S1x16x64x64 .f32) = P
  generalize bdiag (m ((c : Thread nD τ).loc main_arg7) : FVec Ideal S1x16x64x64 .f32) = P'
  pointwise <;> rfl

theorem V_v58 (l : Fin 128) :
    (V m c main_v58 : S1x128.Idx → EReal) (ix2 0 l) = if h : (l : ℕ) < 16 then (m ((c : Thread nD τ).loc main_arg13) : S1x16.Idx → EReal) (ix2 0 ⟨l, h⟩) else (0 : EReal) := by
  have e : V m c main_v58 = (pad S1x128 ![0, 0] ![0, 112] ![0, 0] (shapeCast S1x16 (shapeCast S16 (m ((c : Thread nD τ).loc main_arg13) : FVec Ideal S1x16 .f32) shapeCasts_S1x16_S16) shapeCasts_S16_S1x16) (sitofp .f32 (constantI S_ 32 0#32)) pads_S1x16_S1x128_000_01120 h_S_ : FVec Ideal S1x128 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  refine (padB _ l).trans ?_
  simp only [rowC]

theorem V_v61 (l : Fin 128) :
    (V m c main_v61 : S1x128.Idx → EReal) (ix2 0 l) = if h : (l : ℕ) < 16 then (m ((c : Thread nD τ).loc main_arg14) : S1x16.Idx → EReal) (ix2 0 ⟨l, h⟩) else (0 : EReal) := by
  have e : V m c main_v61 = (pad S1x128 ![0, 0] ![0, 112] ![0, 0] (shapeCast S1x16 (shapeCast S16 (m ((c : Thread nD τ).loc main_arg14) : FVec Ideal S1x16 .f32) shapeCasts_S1x16_S16) shapeCasts_S16_S1x16) (sitofp .f32 (constantI S_ 32 0#32)) pads_S1x16_S1x128_000_01120 h_S_ : FVec Ideal S1x128 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  refine (padB _ l).trans ?_
  simp only [rowC]

end Cert.Mix

end
-- ==== Proof.MixWin7.lean ====
module

public import proofs.«01_k».proof.Proof.MixWin

@[expose] public section

set_option maxRecDepth 16384
set_option maxHeartbeats 400000

/-! The arrays the mixer's windows read, prepared by the program before the call, at an index. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem V_v65 (l : Fin 1024) :
    (V m c main_v65 : S1x1024.Idx → EReal) (ix2 0 l) = (m ((c : Thread nD τ).loc main_arg15) : S1x16.Idx → EReal) (ix2 0 ⟨l / 64, by omega⟩) := by
  have e : V m c main_v65 = (shapeCast S1x1024 (shapeCast S1024 (broadcastInDim S16x64 ![0] bcast_S16_S16x64_0 (shapeCast S16 (m ((c : Thread nD τ).loc main_arg15) : FVec Ideal S1x16 .f32) shapeCasts_S1x16_S16)) shapeCasts_S16x64_S1024) shapeCasts_S1024_S1x1024 : FVec Ideal S1x1024 .f32) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  exact rowD _ l

theorem V_v68 (j k : Fin 1024) :
    (V m c main_v68 : S1024x1024.Idx → EReal) (ix2 j k) = (m ((c : Thread nD τ).loc main_arg17) : S1x2048x1024.Idx → EReal) (ix3 0 ⟨0 + j, by omega⟩ k) := by
  have e : V m c main_v68 = (extractStridedSlice S1024x1024 ![0, 0] (truncf .bf16 (shapeCast S2048x1024 (m ((c : Thread nD τ).loc main_arg17) : FVec Ideal S1x2048x1024 .f32) shapeCasts_S1x2048x1024_S2048x1024) bitsLt_bf16_f32 : FVec Ideal S2048x1024 .bf16) slices_S2048x1024_S1024x1024_0_0 : FVec Ideal S1024x1024 .bf16) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  have h : ∀ i : Fin 2048, (truncf .bf16 (shapeCast S2048x1024 (m ((c : Thread nD τ).loc main_arg17) : FVec Ideal S1x2048x1024 .f32) shapeCasts_S1x2048x1024_S2048x1024) bitsLt_bf16_f32 : FVec Ideal S2048x1024 .bf16) (ix2 i k) = (m ((c : Thread nD τ).loc main_arg17) : S1x2048x1024.Idx → EReal) (ix3 0 i k) := fun i => woutP _ i k
  generalize (truncf .bf16 (shapeCast S2048x1024 (m ((c : Thread nD τ).loc main_arg17) : FVec Ideal S1x2048x1024 .f32) shapeCasts_S1x2048x1024_S2048x1024) bitsLt_bf16_f32 : FVec Ideal S2048x1024 .bf16) = P at h ⊢
  rw [← h]
  pointwise <;> rfl

theorem V_v69 (j k : Fin 1024) :
    (V m c main_v69 : S1024x1024.Idx → EReal) (ix2 j k) = (m ((c : Thread nD τ).loc main_arg17) : S1x2048x1024.Idx → EReal) (ix3 0 ⟨1024 + j, by omega⟩ k) := by
  have e : V m c main_v69 = (extractStridedSlice S1024x1024 ![1024, 0] (truncf .bf16 (shapeCast S2048x1024 (m ((c : Thread nD τ).loc main_arg17) : FVec Ideal S1x2048x1024 .f32) shapeCasts_S1x2048x1024_S2048x1024) bitsLt_bf16_f32 : FVec Ideal S2048x1024 .bf16) slices_S2048x1024_S1024x1024_1024_0 : FVec Ideal S1024x1024 .bf16) := by
    dsimp only [V, hostOps0, hostOps0_1, hostOps0_2, hostOps0_3, hostOps0_4, hostOps0_5, hostOps0_6, List.flatten_cons, List.flatten_nil, List.cons_append, List.nil_append, List.append_nil]
    after_results_simp <;> rfl
  rw [e]
  have h : ∀ i : Fin 2048, (truncf .bf16 (shapeCast S2048x1024 (m ((c : Thread nD τ).loc main_arg17) : FVec Ideal S1x2048x1024 .f32) shapeCasts_S1x2048x1024_S2048x1024) bitsLt_bf16_f32 : FVec Ideal S2048x1024 .bf16) (ix2 i k) = (m ((c : Thread nD τ).loc main_arg17) : S1x2048x1024.Idx → EReal) (ix3 0 i k) := fun i => woutP _ i k
  generalize (truncf .bf16 (shapeCast S2048x1024 (m ((c : Thread nD τ).loc main_arg17) : FVec Ideal S1x2048x1024 .f32) shapeCasts_S1x2048x1024_S2048x1024) bitsLt_bf16_f32 : FVec Ideal S2048x1024 .bf16) = P at h ⊢
  rw [← h]
  pointwise <;> rfl

end Cert.Mix

end
-- ==== Proof.MixValF0.lean ====
module

public import proofs.«01_k».proof.Proof.MixValP
public import proofs.«01_k».proof.Proof.MixBlk
public import proofs.«01_k».proof.Proof.MixWin0
public import proofs.«01_k».proof.Proof.MixWin1
public import proofs.«01_k».proof.Proof.MixWin2
public import proofs.«01_k».proof.Proof.MixWin3
public import proofs.«01_k».proof.Proof.MixWin4
public import proofs.«01_k».proof.Proof.MixWin5
public import proofs.«01_k».proof.Proof.MixWin6
public import proofs.«01_k».proof.Proof.MixWin7

@[expose] public section

set_option maxRecDepth 16384
set_option maxHeartbeats 400000

/-! What a point of the grid reads, read off the arguments. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD) (t : Fin cfg0.N)

theorem a_x (B : Fin 8) (hB : B.val = t.val / 32) (i : Fin 256) (k : Fin 1024) :
    (qF m c t).x0 (ix3 0 i k) = (qm m c).x B (256 * (t.val % 32) + i) k := by
  have hN : t.val < 256 := t.isLt
  have hT : 256 * (t.val % 32) + i.val < 8192 := by omega
  dsimp only [qF]
  refine (iblk0 m c t i k B ⟨256 * (t.val % 32) + i, hT⟩ hB rfl).trans ?_
  unfold Ref.G.x
  exact (dif_pos hT : (if h : 256 * (t.val % 32) + i.val < 8192 then (qm m c).g0 (ix3 B ⟨256 * (t.val % 32) + i.val, h⟩ k) else 0) = _).symm

theorem a_pre (k : Fin 1024) : (qF m c t).x1 (ix2 0 k) = (qm m c).wt.pre k := by
  dsimp only [qF]
  exact (iblk1 m c t 0 k).trans (V_v5 m c k)

theorem a_wxb (k : Fin 1024) (l : Fin 1536) : (qF m c t).x5 (ix2 k l) = (qm m c).wt.win k ⟨3072 + l, by omega⟩ := by
  dsimp only [qF]
  exact (iblk5 m c t k l).trans (V_v9 m c k l)

theorem a_wa (q : Fin 4) (x j : Fin 256) : (qF m c t).x9 (ix3 q x ⟨j, by omega⟩) = if (x : ℕ) / 64 = j / 64 then
    (qm m c).wt.wa ⟨4 * q + x / 64, by omega⟩ ⟨x % 64, by omega⟩ ⟨j % 64, by omega⟩ else 0 := by
  dsimp only [qF]
  exact (iblk9 m c t q x ⟨j, by omega⟩).trans (V_v44a m c q x j)

theorem a_lam (l : Fin 1024) : (qF m c t).x12 (ix2 0 l) = (qm m c).wt.lam l := by
  dsimp only [qF]
  exact (iblk12 m c t 0 l).trans (V_v50 m c l)

theorem a_dtb (e : Fin 128) : (qF m c t).x16 (ix2 0 e) = if h : (e : ℕ) < 16 then (qm m c).wt.dtb ⟨e, h⟩ else 0 := by
  dsimp only [qF]
  exact (iblk16 m c t 0 e).trans (V_v58 m c e)

theorem a_wol (j k : Fin 1024) : (qF m c t).x20 (ix2 j k) = (qm m c).wt.wout ⟨j, by omega⟩ k := by
  dsimp only [qF]
  exact (iblk20 m c t j k).trans ((V_v68 m c j k).trans (congrArg (fun i => (qm m c).wt.wout i k) (Fin.ext (Nat.zero_add _))))

end Cert.Mix

end
-- ==== Proof.MixValF1.lean ====
module

public import proofs.«01_k».proof.Proof.MixValP
public import proofs.«01_k».proof.Proof.MixBlk
public import proofs.«01_k».proof.Proof.MixWin0
public import proofs.«01_k».proof.Proof.MixWin1
public import proofs.«01_k».proof.Proof.MixWin2
public import proofs.«01_k».proof.Proof.MixWin3
public import proofs.«01_k».proof.Proof.MixWin4
public import proofs.«01_k».proof.Proof.MixWin5
public import proofs.«01_k».proof.Proof.MixWin6
public import proofs.«01_k».proof.Proof.MixWin7

@[expose] public section

set_option maxRecDepth 16384
set_option maxHeartbeats 400000

/-! What a point of the grid reads, read off the arguments. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD) (t : Fin cfg0.N)

theorem a_wlx (k l : Fin 1024) : (qF m c t).x2 (ix2 k l) = (qm m c).wt.win k ⟨l, by omega⟩ := by
  dsimp only [qF]
  exact (iblk2 m c t k l).trans ((V_v6 m c k l).trans (congrArg ((qm m c).wt.win k) (Fin.ext (Nat.zero_add _))))

theorem a_wdt (k : Fin 1024) (e : Fin 128) : (qF m c t).x6 (ix2 k e) = if h : (e : ℕ) < 16 then (qm m c).wt.win k ⟨4608 + e, by omega⟩ else 0 := by
  dsimp only [qF]
  exact (iblk6 m c t k e).trans (V_v11 m c k e)

theorem a_wx (q : Fin 4) (x j : Fin 256) : (qF m c t).x9 (ix3 q x ⟨256 + j, by omega⟩) = if (x : ℕ) / 64 = j / 64 then
    (qm m c).wt.wx ⟨4 * q + x / 64, by omega⟩ ⟨x % 64, by omega⟩ ⟨j % 64, by omega⟩ else 0 := by
  dsimp only [qF]
  exact (iblk9 m c t q x ⟨256 + j, by omega⟩).trans (V_v44b m c q x j)

theorem a_lno (l : Fin 1024) : (qF m c t).x13 (ix2 0 l) = (qm m c).wt.lno l := by
  dsimp only [qF]
  exact (iblk13 m c t 0 l).trans (V_v52 m c l)

theorem a_alog (e : Fin 128) : (qF m c t).x17 (ix2 0 e) = if h : (e : ℕ) < 16 then (qm m c).wt.alog ⟨e, h⟩ else 0 := by
  dsimp only [qF]
  exact (iblk17 m c t 0 e).trans (V_v61 m c e)

theorem a_wos (j k : Fin 1024) : (qF m c t).x21 (ix2 j k) = (qm m c).wt.wout ⟨1024 + j, by omega⟩ k := by
  dsimp only [qF]
  exact (iblk21 m c t j k).trans (V_v69 m c j k)

end Cert.Mix

end
-- ==== Proof.MixValF2.lean ====
module

public import proofs.«01_k».proof.Proof.MixValP
public import proofs.«01_k».proof.Proof.MixBlk
public import proofs.«01_k».proof.Proof.MixWin0
public import proofs.«01_k».proof.Proof.MixWin1
public import proofs.«01_k».proof.Proof.MixWin2
public import proofs.«01_k».proof.Proof.MixWin3
public import proofs.«01_k».proof.Proof.MixWin4
public import proofs.«01_k».proof.Proof.MixWin5
public import proofs.«01_k».proof.Proof.MixWin6
public import proofs.«01_k».proof.Proof.MixWin7

@[expose] public section

set_option maxRecDepth 16384
set_option maxHeartbeats 400000

/-! What a point of the grid reads, read off the arguments. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD) (t : Fin cfg0.N)

theorem a_wlg (k l : Fin 1024) : (qF m c t).x3 (ix2 k l) = (qm m c).wt.win k ⟨1024 + l, by omega⟩ := by
  dsimp only [qF]
  exact (iblk3 m c t k l).trans (V_v7 m c k l)

theorem a_lcw (k : Fin 4) (l : Fin 1024) : (qF m c t).x7 (ix2 k l) = (qm m c).wt.lcw k l := by
  dsimp only [qF]
  exact (iblk7 m c t k l).trans (V_v12 m c k l)

theorem a_ba (l : Fin 1024) : (qF m c t).x10 (ix2 0 l) = (qm m c).wt.ba l := by
  dsimp only [qF]
  exact (iblk10 m c t 0 l).trans (V_v46 m c l)

theorem a_scw (k : Fin 4) (l : Fin 1536) : (qF m c t).x14 (ix2 k l) = (qm m c).wt.scw k l := by
  dsimp only [qF]
  exact (iblk14 m c t k l).trans (V_v53 m c k l)

theorem a_dd (l : Fin 1024) : (qF m c t).x18 (ix2 0 l) = (qm m c).wt.dd ⟨l / 64, by omega⟩ := by
  dsimp only [qF]
  exact (iblk18 m c t 0 l).trans (V_v65 m c l)

theorem a_post (k : Fin 1024) : (qF m c t).x22 (ix2 0 k) = (qm m c).wt.post k := by
  dsimp only [qF]
  exact (iblk22 m c t 0 k).trans (V_v71 m c k)

end Cert.Mix

end
-- ==== Proof.MixValF3.lean ====
module

public import proofs.«01_k».proof.Proof.MixValP
public import proofs.«01_k».proof.Proof.MixBlk
public import proofs.«01_k».proof.Proof.MixWin0
public import proofs.«01_k».proof.Proof.MixWin1
public import proofs.«01_k».proof.Proof.MixWin2
public import proofs.«01_k».proof.Proof.MixWin3
public import proofs.«01_k».proof.Proof.MixWin4
public import proofs.«01_k».proof.Proof.MixWin5
public import proofs.«01_k».proof.Proof.MixWin6
public import proofs.«01_k».proof.Proof.MixWin7

@[expose] public section

set_option maxRecDepth 16384
set_option maxHeartbeats 400000

/-! What a point of the grid reads, read off the arguments. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD) (t : Fin cfg0.N)

theorem a_wz (k l : Fin 1024) : (qF m c t).x4 (ix2 k l) = (qm m c).wt.win k ⟨2048 + l, by omega⟩ := by
  dsimp only [qF]
  exact (iblk4 m c t k l).trans (V_v8 m c k l)

theorem a_lcb (l : Fin 1024) : (qF m c t).x8 (ix2 0 l) = (qm m c).wt.lcb l := by
  dsimp only [qF]
  exact (iblk8 m c t 0 l).trans (V_v14 m c l)

theorem a_bx (l : Fin 1024) : (qF m c t).x11 (ix2 0 l) = (qm m c).wt.bx l := by
  dsimp only [qF]
  exact (iblk11 m c t 0 l).trans (V_v48 m c l)

theorem a_scb (l : Fin 1536) : (qF m c t).x15 (ix2 0 l) = (qm m c).wt.scb l := by
  dsimp only [qF]
  exact (iblk15 m c t 0 l).trans (V_v55 m c l)

theorem a_sno (l : Fin 1024) : (qF m c t).x19 (ix2 0 l) = (qm m c).wt.sno l := by
  dsimp only [qF]
  exact (iblk19 m c t 0 l).trans (V_v67 m c l)

end Cert.Mix

end
-- ==== Proof.MixVal.lean ====
module

public import proofs.«01_k».proof.Proof.MixValAx
public import proofs.«01_k».proof.Proof.MixValBx
public import proofs.«01_k».proof.Proof.MixValF0
public import proofs.«01_k».proof.Proof.MixValF1
public import proofs.«01_k».proof.Proof.MixValF2
public import proofs.«01_k».proof.Proof.MixValF3

@[expose] public section

set_option maxRecDepth 16384
set_option maxHeartbeats 400000

/-! Block after block of a sequence, the mixer leaves the specification's rows, and the carried arrays as the specification has them. -/

noncomputable section

namespace Cert.Mix

open Idealize.ShloMosaic Idealize.ShloMosaic.TcCoe Cert.KernelIdeal Cert.KernelIdeal.Gen

variable (m : (ℓ : Loc nD τ sig) → Buf (Elt Ideal) ℓ) (c : Dev nD)

theorem agrQ (t : Fin cfg0.N) (B : Fin 8) (hB : B.val = t.val / 32) :
    AgrQ (qm m c).wt ((qm m c).x B) (256 * (t.val % 32)) (qF m c t) where
  x := a_x m c t B hB
  pre := a_pre m c t
  wlx := a_wlx m c t
  wlg := a_wlg m c t
  wz := a_wz m c t
  wxb := a_wxb m c t
  wdt := a_wdt m c t
  lcw := a_lcw m c t
  lcb := a_lcb m c t
  wa := a_wa m c t
  wx := a_wx m c t
  ba := a_ba m c t
  bx := a_bx m c t
  lam := a_lam m c t
  lno := a_lno m c t
  scw := a_scw m c t
  scb := a_scb m c t
  dtb := a_dtb m c t
  alog := a_alog m c t
  dd := a_dd m c t
  sno := a_sno m c t
  wol := a_wol m c t
  wos := a_wos m c t
  post := a_post m c t

theorem first_spec (F : FinW (qm m c).wt) (t : Fin cfg0.N) (h : t.val % 32 = 0) (B : Fin 8) (hB : B.val = t.val / 32) :
    Good (qm m c).wt ((qm m c).x B) (256 * (t.val % 32)) (firstOut m c t h) := by
  rw [first_eq]
  exact firstQ_good c t h _ (agr_firstB (by omega) (agrQ m c t B hB)) F

theorem later_spec (F : FinW (qm m c).wt) (t : Fin cfg0.N) (h : ¬t.val % 32 = 0) (B : Fin 8) (hB : B.val = t.val / 32)
    (s0 : Vec Ideal S264x1024 .f32) (s1 : Vec Ideal S264x1536 .f32) (s2 : Vec Ideal S8x1024 .f32) (s3 : Vec Ideal S8x128x128 .f32)
    (H : Left (qm m c).wt ((qm m c).x B) (256 * (t.val % 32)) s0 s1 s2 s3) :
    Good (qm m c).wt ((qm m c).x B) (256 * (t.val % 32)) (laterOut m c t h s0 s1 s2 s3) := by
  rw [later_eq]
  exact laterQ_good c t h _ (agr_laterB (agrQ m c t B hB) H) F

/-- After the point `n`: its rows of the result, and the carried arrays. -/
theorem left_spec (F : FinW (qm m c).wt) : ∀ (n : ℕ) (hn : n < cfg0.N) (B : Fin 8), B.val = n / 32 →
    Good (qm m c).wt ((qm m c).x B) (256 * (n % 32)) (leftAt m c n hn) := by
  intro n
  induction n with
  | zero =>
    intro hn B hB
    rw [show leftAt m c 0 hn = firstOut m c ⟨0, hn⟩ rfl from leftAt_first m c ⟨0, hn⟩ rfl]
    exact first_spec m c F ⟨0, hn⟩ rfl B hB
  | succ n ih =>
    intro hn B hB
    by_cases h : (n + 1) % 32 = 0
    · rw [show leftAt m c (n + 1) hn = firstOut m c ⟨n + 1, hn⟩ h from leftAt_first m c ⟨n + 1, hn⟩ h]
      exact first_spec m c F ⟨n + 1, hn⟩ h B hB
    · have i := (ih (Nat.lt_of_succ_lt hn) B (by omega)).2
      rw [show 256 * (n % 32) + 256 = 256 * ((n + 1) % 32) by omega] at i
      rw [show leftAt m c (n + 1) hn = laterOut m c ⟨n + 1, hn⟩ h (leftAt m c n (Nat.lt_of_succ_lt hn)).2.1 (leftAt m c n (Nat.lt_of_succ_lt hn)).2.2.1
        (leftAt m c n (Nat.lt_of_succ_lt hn)).2.2.2.1 (leftAt m c n (Nat.lt_of_succ_lt hn)).2.2.2.2 from leftAt_later m c ⟨n + 1, hn⟩ h]
      exact later_spec m c F ⟨n + 1, hn⟩ h B hB _ _ _ _ i

end Cert.Mix

end
-- ==== Proof.MixRefRun.lean ====
/-
  The mixer reference's loop, trip after trip: at values that hold a state, one trip leaves the next state, so after all the
  trips the result is the field of the state the steps reach.
-/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_16 : V0 (Proc.devRef .tc main_v169_16) = s.main_v169_16
  f_17 : V0 (Proc.devRef .tc main_v169_17) = s.main_v169_17
  f_18 : V0 (Proc.devRef .tc main_v169_18) = s.main_v169_18
  f_0 : V0 (Proc.devRef .tc main_v169_0) = s.main_v169_0
  f_1 : V0 (Proc.devRef .tc main_v169_1) = s.main_v169_1
  f_2 : V0 (Proc.devRef .tc main_v169_2) = s.main_v169_2
  f_3 : V0 (Proc.devRef .tc main_v169_3) = s.main_v169_3
  f_4 : V0 (Proc.devRef .tc main_v169_4) = s.main_v169_4
  f_5 : V0 (Proc.devRef .tc main_v169_5) = s.main_v169_5
  f_6 : V0 (Proc.devRef .tc main_v169_6) = s.main_v169_6
  f_7 : V0 (Proc.devRef .tc main_v169_7) = s.main_v169_7
  f_8 : V0 (Proc.devRef .tc main_v169_8) = s.main_v169_8
  f_9 : V0 (Proc.devRef .tc main_v169_9) = s.main_v169_9
  f_10 : V0 (Proc.devRef .tc main_v169_10) = s.main_v169_10
  f_11 : V0 (Proc.devRef .tc main_v169_11) = s.main_v169_11
  f_12 : V0 (Proc.devRef .tc main_v169_12) = s.main_v169_12
  f_13 : V0 (Proc.devRef .tc main_v169_13) = s.main_v169_13
  f_14 : V0 (Proc.devRef .tc main_v169_14) = s.main_v169_14
  n_15 : V0 (Proc.devRef .tc main_v169_15) = constantI S_ 32 (BitVec.ofNat 32 j)

variable {V0 s j}

set_option maxRecDepth 8192 in
theorem al_0 (h : Holds V0 s j) : (constantI S_ 32 0#32 : (Proc.devRef .tc main_while0b_call5_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call5_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x8x1024 (V0 (Proc.devRef .tc main_v169_0)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024 : (Proc.devRef .tc main_while0b_call5_v0 : DevRef τ sig).ty.Contents (Elt F)) = Cert.ReferenceIdeal.Step.b2 j s := by
  unfold Cert.ReferenceIdeal.Step.b2
  rw [← al_0 h, ← al_1 h, h.f_0, h.n_15]
  try rfl
set_option maxRecDepth 8192 in
theorem al_3 (h : Holds V0 s j) : (shapeCast S8x1024 (Host.dynamicSlice S1x8x1024 (V0 (Proc.devRef .tc main_v169_0)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024) shapeCasts_S1x8x1024_S8x1024 : (Proc.devRef .tc main_while0b_v171 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call6_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call6_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x8x1024 (V0 (Proc.devRef .tc main_v169_1)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024 : (Proc.devRef .tc main_while0b_call6_v0 : DevRef τ sig).ty.Contents (Elt F)) = Cert.ReferenceIdeal.Step.b6 j s := by
  unfold Cert.ReferenceIdeal.Step.b6
  rw [← al_4 h, ← al_5 h, h.f_1, h.n_15]
  try rfl
set_option maxRecDepth 8192 in
theorem al_7 (h : Holds V0 s j) : (shapeCast S8x1024 (Host.dynamicSlice S1x8x1024 (V0 (Proc.devRef .tc main_v169_1)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024) shapeCasts_S1x8x1024_S8x1024 : (Proc.devRef .tc main_while0b_v172 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (constantI S_ 32 0#32 : (Proc.devRef .tc main_while0b_call7_c : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call7_c_0 : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call7_c_1 : DevRef τ sig).ty.Contents (Elt F)) = Cert.ReferenceIdeal.Step.b10 j s := by
  unfold Cert.ReferenceIdeal.Step.b10
  rfl
set_option maxRecDepth 8192 in
theorem al_11 (h : Holds V0 s j) : (Host.dynamicSlice S1x8x2x8 (V0 (Proc.devRef .tc main_v169_2)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x8_S1x8x2x8 : (Proc.devRef .tc main_while0b_call7_v0 : DevRef τ sig).ty.Contents (Elt F)) = Cert.ReferenceIdeal.Step.b11 j s := by
  unfold Cert.ReferenceIdeal.Step.b11
  rw [← al_8 h, ← al_9 h, ← al_10 h, h.f_2, h.n_15]
  try rfl
set_option maxRecDepth 8192 in
theorem al_12 (h : Holds V0 s j) : (shapeCast S8x2x8 (Host.dynamicSlice S1x8x2x8 (V0 (Proc.devRef .tc main_v169_2)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x8_S1x8x2x8) shapeCasts_S1x8x2x8_S8x2x8 : (Proc.devRef .tc main_while0b_v173 : DevRef τ sig).ty.Contents (Elt F)) = Cert.ReferenceIdeal.Step.b12 j s := by
  unfold Cert.ReferenceIdeal.Step.b12
  rw [← al_11 h]
  try rfl
set_option maxRecDepth 8192 in
theorem al_13 (h : Holds V0 s j) : (constantI S_ 32 0#32 : (Proc.devRef .tc main_while0b_call8_c : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call8_c_0 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call8_c_1 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call8_c_2 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x8x2x8x64 (V0 (Proc.devRef .tc main_v169_3)) (fun k => (((![V0 (Proc.devRef .tc main_v169_15), constantI S_ 32 0#32, constantI S_ 32 0#32, constantI S_ 32 0#32, constantI S_ 32 0#32] : Fin 5 → (⟨S_, .i32⟩ : BufTy).Contents (Elt F))) k (Shape.Idx.first h_S_)).toInt) sliceFits_S8192x8x2x8x64_S1x8x2x8x64 : (Proc.devRef .tc main_while0b_call8_v0 : DevRef τ sig).ty.Contents (Elt F)) = Cert.ReferenceIdeal.Step.b17 j s := by
  unfold Cert.ReferenceIdeal.Step.b17
  rw [← al_13 h, ← al_14 h, ← al_15 h, ← al_16 h, h.f_3, h.n_15]
  try rfl
set_option maxRecDepth 8192 in
theorem al_18 (h : Holds V0 s j) : (shapeCast S8x2x8x64 (Host.dynamicSlice S1x8x2x8x64 (V0 (Proc.devRef .tc main_v169_3)) (fun k => (((![V0 (Proc.devRef .tc main_v169_15), constantI S_ 32 0#32, constantI S_ 32 0#32, constantI S_ 32 0#32, constantI S_ 32 0#32] : Fin 5 → (⟨S_, .i32⟩ : BufTy).Contents (Elt F))) k (Shape.Idx.first h_S_)).toInt) sliceFits_S8192x8x2x8x64_S1x8x2x8x64) shapeCasts_S1x8x2x8x64_S8x2x8x64 : (Proc.devRef .tc main_while0b_v174 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (constantI S_ 32 0#32 : (Proc.devRef .tc main_while0b_call9_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call9_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call9_c_1 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x8x2x128 (V0 (Proc.devRef .tc main_v169_4)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128 : (Proc.devRef .tc main_while0b_call9_v0 : DevRef τ sig).ty.Contents (Elt F)) = Cert.ReferenceIdeal.Step.b22 j s := by
  unfold Cert.ReferenceIdeal.Step.b22
  rw [← al_19 h, ← al_20 h, ← al_21 h, h.f_4, h.n_15]
  try rfl
set_option maxRecDepth 8192 in
theorem al_23 (h : Holds V0 s j) : (shapeCast S8x2x128 (Host.dynamicSlice S1x8x2x128 (V0 (Proc.devRef .tc main_v169_4)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128) shapeCasts_S1x8x2x128_S8x2x128 : (Proc.devRef .tc main_while0b_v175 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constantI S_ 32 0#32 : (Proc.devRef .tc main_while0b_call10_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call10_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call10_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x8x2x128 (V0 (Proc.devRef .tc main_v169_5)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128 : (Proc.devRef .tc main_while0b_call10_v0 : DevRef τ sig).ty.Contents (Elt F)) = Cert.ReferenceIdeal.Step.b27 j s := by
  unfold Cert.ReferenceIdeal.Step.b27
  rw [← al_24 h, ← al_25 h, ← al_26 h, h.f_5, h.n_15]
  try rfl
set_option maxRecDepth 8192 in
theorem al_28 (h : Holds V0 s j) : (shapeCast S8x2x128 (Host.dynamicSlice S1x8x2x128 (V0 (Proc.devRef .tc main_v169_5)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128) shapeCasts_S1x8x2x128_S8x2x128 : (Proc.devRef .tc main_while0b_v176 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (constantI S_ 32 0#32 : (Proc.devRef .tc main_while0b_call11_c : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call11_c_0 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call11_c_1 : DevRef τ sig).ty.Contents (Elt F)) = Cert.ReferenceIdeal.Step.b31 j s := by
  unfold Cert.ReferenceIdeal.Step.b31
  rfl
set_option maxRecDepth 8192 in
theorem al_32 (h : Holds V0 s j) : (constantI S_ 32 0#32 : (Proc.devRef .tc main_while0b_call11_c_2 : DevRef τ sig).ty.Contents (Elt F)) = Cert.ReferenceIdeal.Step.b32 j s := by
  unfold Cert.ReferenceIdeal.Step.b32
  rfl
set_option maxRecDepth 8192 in
theorem al_33 (h : Holds V0 s j) : (Host.dynamicSlice S1x8x2x8x64 (V0 (Proc.devRef .tc main_v169_6)) (fun k => (((![V0 (Proc.devRef .tc main_v169_15), constantI S_ 32 0#32, constantI S_ 32 0#32, constantI S_ 32 0#32, constantI S_ 32 0#32] : Fin 5 → (⟨S_, .i32⟩ : BufTy).Contents (Elt F))) k (Shape.Idx.first h_S_)).toInt) sliceFits_S8192x8x2x8x64_S1x8x2x8x64 : (Proc.devRef .tc main_while0b_call11_v0 : DevRef τ sig).ty.Contents (Elt F)) = Cert.ReferenceIdeal.Step.b33 j s := by
  unfold Cert.ReferenceIdeal.Step.b33
  rw [← al_29 h, ← al_30 h, ← al_31 h, ← al_32 h, h.f_6, h.n_15]
  try rfl
set_option maxRecDepth 8192 in
theorem al_34 (h : Holds V0 s j) : (shapeCast S8x2x8x64 (Host.dynamicSlice S1x8x2x8x64 (V0 (Proc.devRef .tc main_v169_6)) (fun k => (((![V0 (Proc.devRef .tc main_v169_15), constantI S_ 32 0#32, constantI S_ 32 0#32, constantI S_ 32 0#32, constantI S_ 32 0#32] : Fin 5 → (⟨S_, .i32⟩ : BufTy).Contents (Elt F))) k (Shape.Idx.first h_S_)).toInt) sliceFits_S8192x8x2x8x64_S1x8x2x8x64) shapeCasts_S1x8x2x8x64_S8x2x8x64 : (Proc.devRef .tc main_while0b_v177 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (constantI S_ 32 0#32 : (Proc.devRef .tc main_while0b_call12_c : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call12_c_0 : DevRef τ sig).ty.Contents (Elt F)) = Cert.ReferenceIdeal.Step.b36 j s := by
  unfold Cert.ReferenceIdeal.Step.b36
  rfl
set_option maxRecDepth 8192 in
theorem al_37 (h : Holds V0 s j) : (Host.dynamicSlice S1x8x1024 (V0 (Proc.devRef .tc main_v169_7)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024 : (Proc.devRef .tc main_while0b_call12_v0 : DevRef τ sig).ty.Contents (Elt F)) = Cert.ReferenceIdeal.Step.b37 j s := by
  unfold Cert.ReferenceIdeal.Step.b37
  rw [← al_35 h, ← al_36 h, h.f_7, h.n_15]
  try rfl
set_option maxRecDepth 8192 in
theorem al_38 (h : Holds V0 s j) : (res_main_while0b_v178 V0 : (Proc.devRef .tc main_while0b_v178 : DevRef τ sig).ty.Contents (Elt F)) = Cert.ReferenceIdeal.Step.b38 j s := by
  unfold res_main_while0b_v178 Cert.ReferenceIdeal.Step.b38
  rw [← al_37 h]
  try rfl
set_option maxRecDepth 8192 in
theorem al_39 (h : Holds V0 s j) : (constantI S_ 32 0#32 : (Proc.devRef .tc main_while0b_call13_c : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call13_c_0 : DevRef τ sig).ty.Contents (Elt F)) = Cert.ReferenceIdeal.Step.b40 j s := by
  unfold Cert.ReferenceIdeal.Step.b40
  rfl
set_option maxRecDepth 8192 in
theorem al_41 (h : Holds V0 s j) : (Host.dynamicSlice S1x8x1024 (V0 (Proc.devRef .tc main_v169_8)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024 : (Proc.devRef .tc main_while0b_call13_v0 : DevRef τ sig).ty.Contents (Elt F)) = Cert.ReferenceIdeal.Step.b41 j s := by
  unfold Cert.ReferenceIdeal.Step.b41
  rw [← al_39 h, ← al_40 h, h.f_8, h.n_15]
  try rfl
set_option maxRecDepth 8192 in
theorem al_42 (h : Holds V0 s j) : (res_main_while0b_v179 V0 : (Proc.devRef .tc main_while0b_v179 : DevRef τ sig).ty.Contents (Elt F)) = Cert.ReferenceIdeal.Step.b42 j s := by
  unfold res_main_while0b_v179 Cert.ReferenceIdeal.Step.b42
  rw [← al_41 h]
  try rfl
set_option maxRecDepth 8192 in
theorem al_43 (h : Holds V0 s j) : (constantI S_ 32 0#32 : (Proc.devRef .tc main_while0b_call14_c : DevRef τ sig).ty.Contents (Elt F)) = Cert.ReferenceIdeal.Step.b43 j s := by
  unfold Cert.ReferenceIdeal.Step.b43
  rfl
set_option maxRecDepth 8192 in
theorem al_44 (h : Holds V0 s j) : (constantI S_ 32 0#32 : (Proc.devRef .tc main_while0b_call14_c_0 : DevRef τ sig).ty.Contents (Elt F)) = Cert.ReferenceIdeal.Step.b44 j s := by
  unfold Cert.ReferenceIdeal.Step.b44
  rfl
set_option maxRecDepth 8192 in
theorem al_45 (h : Holds V0 s j) : (Host.dynamicSlice S1x8x1024 (V0 (Proc.devRef .tc main_v169_9)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024 : (Proc.devRef .tc main_while0b_call14_v0 : DevRef τ sig).ty.Contents (Elt F)) = Cert.ReferenceIdeal.Step.b45 j s := by
  unfold Cert.ReferenceIdeal.Step.b45
  rw [← al_43 h, ← al_44 h, h.f_9, h.n_15]
  try rfl
set_option maxRecDepth 8192 in
theorem al_46 (h : Holds V0 s j) : (shapeCast S8x1024 (Host.dynamicSlice S1x8x1024 (V0 (Proc.devRef .tc main_v169_9)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024) shapeCasts_S1x8x1024_S8x1024 : (Proc.devRef .tc main_while0b_v180 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (mulf (shapeCast S8x1024 (Host.dynamicSlice S1x8x1024 (V0 (Proc.devRef .tc main_v169_0)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024) shapeCasts_S1x8x1024_S8x1024) (V0 (Proc.devRef .tc main_v169_16)) : (Proc.devRef .tc main_while0b_v181 : DevRef τ sig).ty.Contents (Elt F)) = Cert.ReferenceIdeal.Step.b47 j s := by
  unfold Cert.ReferenceIdeal.Step.b47
  rw [← al_3 h, h.f_16]
  try rfl
set_option maxRecDepth 8192 in
theorem al_48 (h : Holds V0 s j) : (res_main_while0b_v182 V0 : (Proc.devRef .tc main_while0b_v182 : DevRef τ sig).ty.Contents (Elt F)) = Cert.ReferenceIdeal.Step.b48 j s := by
  unfold res_main_while0b_v182 Cert.ReferenceIdeal.Step.b48
  rw [← al_47 h, ← al_7 h]
  try rfl
set_option maxRecDepth 8192 in
theorem al_49 (h : Holds V0 s j) : (broadcastInDim S8x2x8x1x1 ![0, 1, 2] bcast_S8x2x8_S8x2x8x1x1_0_1_2 (shapeCast S8x2x8 (Host.dynamicSlice S1x8x2x8 (V0 (Proc.devRef .tc main_v169_2)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x8_S1x8x2x8) shapeCasts_S1x8x2x8_S8x2x8) : (Proc.devRef .tc main_while0b_v183 : DevRef τ sig).ty.Contents (Elt F)) = Cert.ReferenceIdeal.Step.b49 j s := by
  unfold Cert.ReferenceIdeal.Step.b49
  rw [← al_12 h]
  try rfl
set_option maxRecDepth 8192 in
theorem al_50 (h : Holds V0 s j) : (broadcastInDim S8x2x8x64x128 ![0, 1, 2, 3, 4] bcast_S8x2x8x1x1_S8x2x8x64x128_0_1_2_3_4 (broadcastInDim S8x2x8x1x1 ![0, 1, 2] bcast_S8x2x8_S8x2x8x1x1_0_1_2 (shapeCast S8x2x8 (Host.dynamicSlice S1x8x2x8 (V0 (Proc.devRef .tc main_v169_2)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x8_S1x8x2x8) shapeCasts_S1x8x2x8_S8x2x8)) : (Proc.devRef .tc main_while0b_v184 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (mulf (broadcastInDim S8x2x8x64x128 ![0, 1, 2, 3, 4] bcast_S8x2x8x1x1_S8x2x8x64x128_0_1_2_3_4 (broadcastInDim S8x2x8x1x1 ![0, 1, 2] bcast_S8x2x8_S8x2x8x1x1_0_1_2 (shapeCast S8x2x8 (Host.dynamicSlice S1x8x2x8 (V0 (Proc.devRef .tc main_v169_2)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x8_S1x8x2x8) shapeCasts_S1x8x2x8_S8x2x8))) (V0 (Proc.devRef .tc main_v169_17)) : (Proc.devRef .tc main_while0b_v185 : DevRef τ sig).ty.Contents (Elt F)) = Cert.ReferenceIdeal.Step.b51 j s := by
  unfold Cert.ReferenceIdeal.Step.b51
  rw [← al_50 h, h.f_17]
  try rfl
set_option maxRecDepth 8192 in
theorem al_52 (h : Holds V0 s j) : (broadcastInDim S8x2x8x64x1 ![0, 1, 2, 3] bcast_S8x2x8x64_S8x2x8x64x1_0_1_2_3 (shapeCast S8x2x8x64 (Host.dynamicSlice S1x8x2x8x64 (V0 (Proc.devRef .tc main_v169_3)) (fun k => (((![V0 (Proc.devRef .tc main_v169_15), constantI S_ 32 0#32, constantI S_ 32 0#32, constantI S_ 32 0#32, constantI S_ 32 0#32] : Fin 5 → (⟨S_, .i32⟩ : BufTy).Contents (Elt F))) k (Shape.Idx.first h_S_)).toInt) sliceFits_S8192x8x2x8x64_S1x8x2x8x64) shapeCasts_S1x8x2x8x64_S8x2x8x64) : (Proc.devRef .tc main_while0b_v186 : DevRef τ sig).ty.Contents (Elt F)) = Cert.ReferenceIdeal.Step.b52 j s := by
  unfold Cert.ReferenceIdeal.Step.b52
  rw [← al_18 h]
  try rfl
set_option maxRecDepth 8192 in
theorem al_53 (h : Holds V0 s j) : (broadcastInDim S8x2x1x1x128 ![0, 1, 4] bcast_S8x2x128_S8x2x1x1x128_0_1_4 (shapeCast S8x2x128 (Host.dynamicSlice S1x8x2x128 (V0 (Proc.devRef .tc main_v169_4)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128) shapeCasts_S1x8x2x128_S8x2x128) : (Proc.devRef .tc main_while0b_v187 : DevRef τ sig).ty.Contents (Elt F)) = Cert.ReferenceIdeal.Step.b53 j s := by
  unfold Cert.ReferenceIdeal.Step.b53
  rw [← al_23 h]
  try rfl
set_option maxRecDepth 8192 in
theorem al_54 (h : Holds V0 s j) : (broadcastInDim S8x2x8x64x128 ![0, 1, 2, 3, 4] bcast_S8x2x8x64x1_S8x2x8x64x128_0_1_2_3_4 (broadcastInDim S8x2x8x64x1 ![0, 1, 2, 3] bcast_S8x2x8x64_S8x2x8x64x1_0_1_2_3 (shapeCast S8x2x8x64 (Host.dynamicSlice S1x8x2x8x64 (V0 (Proc.devRef .tc main_v169_3)) (fun k => (((![V0 (Proc.devRef .tc main_v169_15), constantI S_ 32 0#32, constantI S_ 32 0#32, constantI S_ 32 0#32, constantI S_ 32 0#32] : Fin 5 → (⟨S_, .i32⟩ : BufTy).Contents (Elt F))) k (Shape.Idx.first h_S_)).toInt) sliceFits_S8192x8x2x8x64_S1x8x2x8x64) shapeCasts_S1x8x2x8x64_S8x2x8x64)) : (Proc.devRef .tc main_while0b_v188 : DevRef τ sig).ty.Contents (Elt F)) = Cert.ReferenceIdeal.Step.b54 j s := by
  unfold Cert.ReferenceIdeal.Step.b54
  rw [← al_52 h]
  try rfl
set_option maxRecDepth 8192 in
theorem al_55 (h : Holds V0 s j) : (broadcastInDim S8x2x8x64x128 ![0, 1, 2, 3, 4] bcast_S8x2x1x1x128_S8x2x8x64x128_0_1_2_3_4 (broadcastInDim S8x2x1x1x128 ![0, 1, 4] bcast_S8x2x128_S8x2x1x1x128_0_1_4 (shapeCast S8x2x128 (Host.dynamicSlice S1x8x2x128 (V0 (Proc.devRef .tc main_v169_4)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128) shapeCasts_S1x8x2x128_S8x2x128)) : (Proc.devRef .tc main_while0b_v189 : DevRef τ sig).ty.Contents (Elt F)) = Cert.ReferenceIdeal.Step.b55 j s := by
  unfold Cert.ReferenceIdeal.Step.b55
  rw [← al_53 h]
  try rfl
set_option maxRecDepth 8192 in
theorem al_56 (h : Holds V0 s j) : (mulf (broadcastInDim S8x2x8x64x128 ![0, 1, 2, 3, 4] bcast_S8x2x8x64x1_S8x2x8x64x128_0_1_2_3_4 (broadcastInDim S8x2x8x64x1 ![0, 1, 2, 3] bcast_S8x2x8x64_S8x2x8x64x1_0_1_2_3 (shapeCast S8x2x8x64 (Host.dynamicSlice S1x8x2x8x64 (V0 (Proc.devRef .tc main_v169_3)) (fun k => (((![V0 (Proc.devRef .tc main_v169_15), constantI S_ 32 0#32, constantI S_ 32 0#32, constantI S_ 32 0#32, constantI S_ 32 0#32] : Fin 5 → (⟨S_, .i32⟩ : BufTy).Contents (Elt F))) k (Shape.Idx.first h_S_)).toInt) sliceFits_S8192x8x2x8x64_S1x8x2x8x64) shapeCasts_S1x8x2x8x64_S8x2x8x64))) (broadcastInDim S8x2x8x64x128 ![0, 1, 2, 3, 4] bcast_S8x2x1x1x128_S8x2x8x64x128_0_1_2_3_4 (broadcastInDim S8x2x1x1x128 ![0, 1, 4] bcast_S8x2x128_S8x2x1x1x128_0_1_4 (shapeCast S8x2x128 (Host.dynamicSlice S1x8x2x128 (V0 (Proc.devRef .tc main_v169_4)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128) shapeCasts_S1x8x2x128_S8x2x128))) : (Proc.devRef .tc main_while0b_v190 : DevRef τ sig).ty.Contents (Elt F)) = Cert.ReferenceIdeal.Step.b56 j s := by
  unfold Cert.ReferenceIdeal.Step.b56
  rw [← al_54 h, ← al_55 h]
  try rfl
set_option maxRecDepth 8192 in
theorem al_57 (h : Holds V0 s j) : (res_main_while0b_v191 V0 : (Proc.devRef .tc main_while0b_v191 : DevRef τ sig).ty.Contents (Elt F)) = Cert.ReferenceIdeal.Step.b57 j s := by
  unfold res_main_while0b_v191 Cert.ReferenceIdeal.Step.b57
  rw [← al_51 h, ← al_56 h]
  try rfl
set_option maxRecDepth 8192 in
theorem al_58 (h : Holds V0 s j) : (broadcastInDim S8x2x1x1x128 ![0, 1, 4] bcast_S8x2x128_S8x2x1x1x128_0_1_4 (shapeCast S8x2x128 (Host.dynamicSlice S1x8x2x128 (V0 (Proc.devRef .tc main_v169_5)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128) shapeCasts_S1x8x2x128_S8x2x128) : (Proc.devRef .tc main_while0b_v192 : DevRef τ sig).ty.Contents (Elt F)) = Cert.ReferenceIdeal.Step.b58 j s := by
  unfold Cert.ReferenceIdeal.Step.b58
  rw [← al_28 h]
  try rfl
set_option maxRecDepth 8192 in
theorem al_59 (h : Holds V0 s j) : (broadcastInDim S8x2x8x64x128 ![0, 1, 2, 3, 4] bcast_S8x2x1x1x128_S8x2x8x64x128_0_1_2_3_4 (broadcastInDim S8x2x1x1x128 ![0, 1, 4] bcast_S8x2x128_S8x2x1x1x128_0_1_4 (shapeCast S8x2x128 (Host.dynamicSlice S1x8x2x128 (V0 (Proc.devRef .tc main_v169_5)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128) shapeCasts_S1x8x2x128_S8x2x128)) : (Proc.devRef .tc main_while0b_v193 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (mulf (res_main_while0b_v191 V0) (broadcastInDim S8x2x8x64x128 ![0, 1, 2, 3, 4] bcast_S8x2x1x1x128_S8x2x8x64x128_0_1_2_3_4 (broadcastInDim S8x2x1x1x128 ![0, 1, 4] bcast_S8x2x128_S8x2x1x1x128_0_1_4 (shapeCast S8x2x128 (Host.dynamicSlice S1x8x2x128 (V0 (Proc.devRef .tc main_v169_5)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128) shapeCasts_S1x8x2x128_S8x2x128))) : (Proc.devRef .tc main_while0b_v194 : DevRef τ sig).ty.Contents (Elt F)) = Cert.ReferenceIdeal.Step.b60 j s := by
  unfold Cert.ReferenceIdeal.Step.b60
  rw [← al_57 h, ← al_59 h]
  try rfl
set_option maxRecDepth 8192 in
theorem al_61 (h : Holds V0 s j) : (constant S_ .f32 0x00000000#32 : (Proc.devRef .tc main_while0b_cst_31 : DevRef τ sig).ty.Contents (Elt F)) = Cert.ReferenceIdeal.Step.b61 j s := by
  unfold Cert.ReferenceIdeal.Step.b61
  rfl
set_option maxRecDepth 8192 in
theorem al_62 (h : Holds V0 s j) : (Host.reduceAdd (mulf (res_main_while0b_v191 V0) (broadcastInDim S8x2x8x64x128 ![0, 1, 2, 3, 4] bcast_S8x2x1x1x128_S8x2x8x64x128_0_1_2_3_4 (broadcastInDim S8x2x1x1x128 ![0, 1, 4] bcast_S8x2x128_S8x2x1x1x128_0_1_4 (shapeCast S8x2x128 (Host.dynamicSlice S1x8x2x128 (V0 (Proc.devRef .tc main_v169_5)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128) shapeCasts_S1x8x2x128_S8x2x128)))) (constant S_ .f32 0x00000000#32) reducesTo_S8x2x8x64x128_S8x2x8x64_d4 h_S_ : (Proc.devRef .tc main_while0b_v195 : DevRef τ sig).ty.Contents (Elt F)) = Cert.ReferenceIdeal.Step.b62 j s := by
  unfold Cert.ReferenceIdeal.Step.b62
  rw [← al_60 h, ← al_61 h]
  try rfl
set_option maxRecDepth 8192 in
theorem al_63 (h : Holds V0 s j) : (mulf (res_main_while0b_v178 V0) (res_main_while0b_v178 V0) : (Proc.devRef .tc main_while0b_v196 : DevRef τ sig).ty.Contents (Elt F)) = Cert.ReferenceIdeal.Step.b63 j s := by
  unfold Cert.ReferenceIdeal.Step.b63
  rw [← al_38 h]
  try rfl
set_option maxRecDepth 8192 in
theorem al_64 (h : Holds V0 s j) : (mulf (mulf (res_main_while0b_v178 V0) (res_main_while0b_v178 V0)) (res_main_while0b_v178 V0) : (Proc.devRef .tc main_while0b_v197 : DevRef τ sig).ty.Contents (Elt F)) = Cert.ReferenceIdeal.Step.b64 j s := by
  unfold Cert.ReferenceIdeal.Step.b64
  rw [← al_63 h, ← al_38 h]
  try rfl
set_option maxRecDepth 8192 in
theorem al_65 (h : Holds V0 s j) : (constant S_ .f32 0x3D372713#32 : (Proc.devRef .tc main_while0b_cst_32 : DevRef τ sig).ty.Contents (Elt F)) = Cert.ReferenceIdeal.Step.b65 j s := by
  unfold Cert.ReferenceIdeal.Step.b65
  rfl
set_option maxRecDepth 8192 in
theorem al_66 (h : Holds V0 s j) : (broadcastInDim S8x1024 ![] bcast_S_S8x1024 (constant S_ .f32 0x3D372713#32) : (Proc.devRef .tc main_while0b_v198 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (mulf (broadcastInDim S8x1024 ![] bcast_S_S8x1024 (constant S_ .f32 0x3D372713#32)) (mulf (mulf (res_main_while0b_v178 V0) (res_main_while0b_v178 V0)) (res_main_while0b_v178 V0)) : (Proc.devRef .tc main_while0b_v199 : DevRef τ sig).ty.Contents (Elt F)) = Cert.ReferenceIdeal.Step.b67 j s := by
  unfold Cert.ReferenceIdeal.Step.b67
  rw [← al_66 h, ← al_64 h]
  try rfl
set_option maxRecDepth 8192 in
theorem al_68 (h : Holds V0 s j) : (addf (res_main_while0b_v178 V0) (mulf (broadcastInDim S8x1024 ![] bcast_S_S8x1024 (constant S_ .f32 0x3D372713#32)) (mulf (mulf (res_main_while0b_v178 V0) (res_main_while0b_v178 V0)) (res_main_while0b_v178 V0))) : (Proc.devRef .tc main_while0b_v200 : DevRef τ sig).ty.Contents (Elt F)) = Cert.ReferenceIdeal.Step.b68 j s := by
  unfold Cert.ReferenceIdeal.Step.b68
  rw [← al_38 h, ← al_67 h]
  try rfl
set_option maxRecDepth 8192 in
theorem al_69 (h : Holds V0 s j) : (constant S_ .f32 0x3F4C422A#32 : (Proc.devRef .tc main_while0b_cst_33 : DevRef τ sig).ty.Contents (Elt F)) = Cert.ReferenceIdeal.Step.b69 j s := by
  unfold Cert.ReferenceIdeal.Step.b69
  rfl
set_option maxRecDepth 8192 in
theorem al_70 (h : Holds V0 s j) : (broadcastInDim S8x1024 ![] bcast_S_S8x1024 (constant S_ .f32 0x3F4C422A#32) : (Proc.devRef .tc main_while0b_v201 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (mulf (broadcastInDim S8x1024 ![] bcast_S_S8x1024 (constant S_ .f32 0x3F4C422A#32)) (addf (res_main_while0b_v178 V0) (mulf (broadcastInDim S8x1024 ![] bcast_S_S8x1024 (constant S_ .f32 0x3D372713#32)) (mulf (mulf (res_main_while0b_v178 V0) (res_main_while0b_v178 V0)) (res_main_while0b_v178 V0)))) : (Proc.devRef .tc main_while0b_v202 : DevRef τ sig).ty.Contents (Elt F)) = Cert.ReferenceIdeal.Step.b71 j s := by
  unfold Cert.ReferenceIdeal.Step.b71
  rw [← al_70 h, ← al_68 h]
  try rfl
set_option maxRecDepth 8192 in
theorem al_72 (h : Holds V0 s j) : (Host.tanh (mulf (broadcastInDim S8x1024 ![] bcast_S_S8x1024 (constant S_ .f32 0x3F4C422A#32)) (addf (res_main_while0b_v178 V0) (mulf (broadcastInDim S8x1024 ![] bcast_S_S8x1024 (constant S_ .f32 0x3D372713#32)) (mulf (mulf (res_main_while0b_v178 V0) (res_main_while0b_v178 V0)) (res_main_while0b_v178 V0))))) : (Proc.devRef .tc main_while0b_v203 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (constant S_ .f32 0x3F800000#32 : (Proc.devRef .tc main_while0b_cst_34 : DevRef τ sig).ty.Contents (Elt F)) = Cert.ReferenceIdeal.Step.b73 j s := by
  unfold Cert.ReferenceIdeal.Step.b73
  rfl
set_option maxRecDepth 8192 in
theorem al_74 (h : Holds V0 s j) : (broadcastInDim S8x1024 ![] bcast_S_S8x1024 (constant S_ .f32 0x3F800000#32) : (Proc.devRef .tc main_while0b_v204 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (addf (broadcastInDim S8x1024 ![] bcast_S_S8x1024 (constant S_ .f32 0x3F800000#32)) (Host.tanh (mulf (broadcastInDim S8x1024 ![] bcast_S_S8x1024 (constant S_ .f32 0x3F4C422A#32)) (addf (res_main_while0b_v178 V0) (mulf (broadcastInDim S8x1024 ![] bcast_S_S8x1024 (constant S_ .f32 0x3D372713#32)) (mulf (mulf (res_main_while0b_v178 V0) (res_main_while0b_v178 V0)) (res_main_while0b_v178 V0)))))) : (Proc.devRef .tc main_while0b_v205 : DevRef τ sig).ty.Contents (Elt F)) = Cert.ReferenceIdeal.Step.b75 j s := by
  unfold Cert.ReferenceIdeal.Step.b75
  rw [← al_74 h, ← al_72 h]
  try rfl
set_option maxRecDepth 8192 in
theorem al_76 (h : Holds V0 s j) : (constant S_ .f32 0x3F000000#32 : (Proc.devRef .tc main_while0b_cst_35 : DevRef τ sig).ty.Contents (Elt F)) = Cert.ReferenceIdeal.Step.b76 j s := by
  unfold Cert.ReferenceIdeal.Step.b76
  rfl
set_option maxRecDepth 8192 in
theorem al_77 (h : Holds V0 s j) : (broadcastInDim S8x1024 ![] bcast_S_S8x1024 (constant S_ .f32 0x3F000000#32) : (Proc.devRef .tc main_while0b_v206 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (mulf (broadcastInDim S8x1024 ![] bcast_S_S8x1024 (constant S_ .f32 0x3F000000#32)) (addf (broadcastInDim S8x1024 ![] bcast_S_S8x1024 (constant S_ .f32 0x3F800000#32)) (Host.tanh (mulf (broadcastInDim S8x1024 ![] bcast_S_S8x1024 (constant S_ .f32 0x3F4C422A#32)) (addf (res_main_while0b_v178 V0) (mulf (broadcastInDim S8x1024 ![] bcast_S_S8x1024 (constant S_ .f32 0x3D372713#32)) (mulf (mulf (res_main_while0b_v178 V0) (res_main_while0b_v178 V0)) (res_main_while0b_v178 V0))))))) : (Proc.devRef .tc main_while0b_v207 : DevRef τ sig).ty.Contents (Elt F)) = Cert.ReferenceIdeal.Step.b78 j s := by
  unfold Cert.ReferenceIdeal.Step.b78
  rw [← al_77 h, ← al_75 h]
  try rfl
set_option maxRecDepth 8192 in
theorem al_79 (h : Holds V0 s j) : (mulf (res_main_while0b_v178 V0) (mulf (broadcastInDim S8x1024 ![] bcast_S_S8x1024 (constant S_ .f32 0x3F000000#32)) (addf (broadcastInDim S8x1024 ![] bcast_S_S8x1024 (constant S_ .f32 0x3F800000#32)) (Host.tanh (mulf (broadcastInDim S8x1024 ![] bcast_S_S8x1024 (constant S_ .f32 0x3F4C422A#32)) (addf (res_main_while0b_v178 V0) (mulf (broadcastInDim S8x1024 ![] bcast_S_S8x1024 (constant S_ .f32 0x3D372713#32)) (mulf (mulf (res_main_while0b_v178 V0) (res_main_while0b_v178 V0)) (res_main_while0b_v178 V0)))))))) : (Proc.devRef .tc main_while0b_v208 : DevRef τ sig).ty.Contents (Elt F)) = Cert.ReferenceIdeal.Step.b79 j s := by
  unfold Cert.ReferenceIdeal.Step.b79
  rw [← al_38 h, ← al_78 h]
  try rfl
set_option maxRecDepth 8192 in
theorem al_80 (h : Holds V0 s j) : (res_main_while0b_v209 V0 : (Proc.devRef .tc main_while0b_v209 : DevRef τ sig).ty.Contents (Elt F)) = Cert.ReferenceIdeal.Step.b80 j s := by
  unfold res_main_while0b_v209 Cert.ReferenceIdeal.Step.b80
  rw [← al_48 h, ← al_79 h]
  try rfl
set_option maxRecDepth 8192 in
theorem al_81 (h : Holds V0 s j) : (shapeCast S1024 (V0 (Proc.devRef .tc main_v169_10)) shapeCasts_S1x1024_S1024 : (Proc.devRef .tc main_while0b_v210 : DevRef τ sig).ty.Contents (Elt F)) = Cert.ReferenceIdeal.Step.b81 j s := by
  unfold Cert.ReferenceIdeal.Step.b81
  rw [h.f_10]
  try rfl
set_option maxRecDepth 8192 in
theorem al_82 (h : Holds V0 s j) : (mulf (res_main_while0b_v209 V0) (res_main_while0b_v209 V0) : (Proc.devRef .tc main_while0b_v211 : DevRef τ sig).ty.Contents (Elt F)) = Cert.ReferenceIdeal.Step.b82 j s := by
  unfold Cert.ReferenceIdeal.Step.b82
  rw [← al_80 h]
  try rfl
set_option maxRecDepth 8192 in
theorem al_83 (h : Holds V0 s j) : (constant S_ .f32 0x00000000#32 : (Proc.devRef .tc main_while0b_cst_36 : DevRef τ sig).ty.Contents (Elt F)) = Cert.ReferenceIdeal.Step.b83 j s := by
  unfold Cert.ReferenceIdeal.Step.b83
  rfl
set_option maxRecDepth 8192 in
theorem al_84 (h : Holds V0 s j) : (Host.reduceAdd (mulf (res_main_while0b_v209 V0) (res_main_while0b_v209 V0)) (constant S_ .f32 0x00000000#32) reducesTo_S8x1024_S8_d1 h_S_ : (Proc.devRef .tc main_while0b_v212 : DevRef τ sig).ty.Contents (Elt F)) = Cert.ReferenceIdeal.Step.b84 j s := by
  unfold Cert.ReferenceIdeal.Step.b84
  rw [← al_82 h, ← al_83 h]
  try rfl
set_option maxRecDepth 8192 in
theorem al_85 (h : Holds V0 s j) : (broadcastInDim S8x1 ![0] bcast_S8_S8x1_0 (Host.reduceAdd (mulf (res_main_while0b_v209 V0) (res_main_while0b_v209 V0)) (constant S_ .f32 0x00000000#32) reducesTo_S8x1024_S8_d1 h_S_) : (Proc.devRef .tc main_while0b_v213 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (constant S_ .f32 0x44800000#32 : (Proc.devRef .tc main_while0b_cst_37 : DevRef τ sig).ty.Contents (Elt F)) = Cert.ReferenceIdeal.Step.b86 j s := by
  unfold Cert.ReferenceIdeal.Step.b86
  rfl
set_option maxRecDepth 8192 in
theorem al_87 (h : Holds V0 s j) : (broadcastInDim S8x1 ![] bcast_S_S8x1 (constant S_ .f32 0x44800000#32) : (Proc.devRef .tc main_while0b_v214 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (Host.divf (broadcastInDim S8x1 ![0] bcast_S8_S8x1_0 (Host.reduceAdd (mulf (res_main_while0b_v209 V0) (res_main_while0b_v209 V0)) (constant S_ .f32 0x00000000#32) reducesTo_S8x1024_S8_d1 h_S_)) (broadcastInDim S8x1 ![] bcast_S_S8x1 (constant S_ .f32 0x44800000#32)) : (Proc.devRef .tc main_while0b_v215 : DevRef τ sig).ty.Contents (Elt F)) = Cert.ReferenceIdeal.Step.b88 j s := by
  unfold Cert.ReferenceIdeal.Step.b88
  rw [← al_85 h, ← al_87 h]
  try rfl
set_option maxRecDepth 8192 in
theorem al_89 (h : Holds V0 s j) : (constant S_ .f32 0x358637BD#32 : (Proc.devRef .tc main_while0b_cst_38 : DevRef τ sig).ty.Contents (Elt F)) = Cert.ReferenceIdeal.Step.b89 j s := by
  unfold Cert.ReferenceIdeal.Step.b89
  rfl
set_option maxRecDepth 8192 in
theorem al_90 (h : Holds V0 s j) : (broadcastInDim S8x1 ![] bcast_S_S8x1 (constant S_ .f32 0x358637BD#32) : (Proc.devRef .tc main_while0b_v216 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (addf (Host.divf (broadcastInDim S8x1 ![0] bcast_S8_S8x1_0 (Host.reduceAdd (mulf (res_main_while0b_v209 V0) (res_main_while0b_v209 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)) : (Proc.devRef .tc main_while0b_v217 : DevRef τ sig).ty.Contents (Elt F)) = Cert.ReferenceIdeal.Step.b91 j s := by
  unfold Cert.ReferenceIdeal.Step.b91
  rw [← al_88 h, ← al_90 h]
  try rfl
set_option maxRecDepth 8192 in
theorem al_92 (h : Holds V0 s j) : (Host.rsqrt (addf (Host.divf (broadcastInDim S8x1 ![0] bcast_S8_S8x1_0 (Host.reduceAdd (mulf (res_main_while0b_v209 V0) (res_main_while0b_v209 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32))) : (Proc.devRef .tc main_while0b_v218 : DevRef τ sig).ty.Contents (Elt F)) = Cert.ReferenceIdeal.Step.b92 j s := by
  unfold Cert.ReferenceIdeal.Step.b92
  rw [← al_91 h]
  try rfl
set_option maxRecDepth 8192 in
theorem al_93 (h : Holds V0 s j) : (broadcastInDim S8x1024 ![0, 1] bcast_S8x1_S8x1024_0_1 (Host.rsqrt (addf (Host.divf (broadcastInDim S8x1 ![0] bcast_S8_S8x1_0 (Host.reduceAdd (mulf (res_main_while0b_v209 V0) (res_main_while0b_v209 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))) : (Proc.devRef .tc main_while0b_v219 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (mulf (res_main_while0b_v209 V0) (broadcastInDim S8x1024 ![0, 1] bcast_S8x1_S8x1024_0_1 (Host.rsqrt (addf (Host.divf (broadcastInDim S8x1 ![0] bcast_S8_S8x1_0 (Host.reduceAdd (mulf (res_main_while0b_v209 V0) (res_main_while0b_v209 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32))))) : (Proc.devRef .tc main_while0b_v220 : DevRef τ sig).ty.Contents (Elt F)) = Cert.ReferenceIdeal.Step.b94 j s := by
  unfold Cert.ReferenceIdeal.Step.b94
  rw [← al_80 h, ← al_93 h]
  try rfl
set_option maxRecDepth 8192 in
theorem al_95 (h : Holds V0 s j) : (broadcastInDim S1x1024 ![1] bcast_S1024_S1x1024_1 (shapeCast S1024 (V0 (Proc.devRef .tc main_v169_10)) shapeCasts_S1x1024_S1024) : (Proc.devRef .tc main_while0b_v221 : DevRef τ sig).ty.Contents (Elt F)) = Cert.ReferenceIdeal.Step.b95 j s := by
  unfold Cert.ReferenceIdeal.Step.b95
  rw [← al_81 h]
  try rfl
set_option maxRecDepth 8192 in
theorem al_96 (h : Holds V0 s j) : (broadcastInDim S8x1024 ![0, 1] bcast_S1x1024_S8x1024_0_1 (broadcastInDim S1x1024 ![1] bcast_S1024_S1x1024_1 (shapeCast S1024 (V0 (Proc.devRef .tc main_v169_10)) shapeCasts_S1x1024_S1024)) : (Proc.devRef .tc main_while0b_v222 : DevRef τ sig).ty.Contents (Elt F)) = Cert.ReferenceIdeal.Step.b96 j s := by
  unfold Cert.ReferenceIdeal.Step.b96
  rw [← al_95 h]
  try rfl
set_option maxRecDepth 8192 in
theorem al_97 (h : Holds V0 s j) : (mulf (mulf (res_main_while0b_v209 V0) (broadcastInDim S8x1024 ![0, 1] bcast_S8x1_S8x1024_0_1 (Host.rsqrt (addf (Host.divf (broadcastInDim S8x1 ![0] bcast_S8_S8x1_0 (Host.reduceAdd (mulf (res_main_while0b_v209 V0) (res_main_while0b_v209 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v169_10)) shapeCasts_S1x1024_S1024))) : (Proc.devRef .tc main_while0b_v223 : DevRef τ sig).ty.Contents (Elt F)) = Cert.ReferenceIdeal.Step.b97 j s := by
  unfold Cert.ReferenceIdeal.Step.b97
  rw [← al_94 h, ← al_96 h]
  try rfl
set_option maxRecDepth 8192 in
theorem al_98 (h : Holds V0 s j) : (shapeCast S16 (V0 (Proc.devRef .tc main_v169_11)) shapeCasts_S1x16_S16 : (Proc.devRef .tc main_while0b_v224 : DevRef τ sig).ty.Contents (Elt F)) = Cert.ReferenceIdeal.Step.b98 j s := by
  unfold Cert.ReferenceIdeal.Step.b98
  rw [h.f_11]
  try rfl
set_option maxRecDepth 8192 in
theorem al_99 (h : Holds V0 s j) : (shapeCast S2x8 (shapeCast S16 (V0 (Proc.devRef .tc main_v169_11)) shapeCasts_S1x16_S16) shapeCasts_S16_S2x8 : (Proc.devRef .tc main_while0b_v225 : DevRef τ sig).ty.Contents (Elt F)) = Cert.ReferenceIdeal.Step.b99 j s := by
  unfold Cert.ReferenceIdeal.Step.b99
  rw [← al_98 h]
  try rfl
set_option maxRecDepth 8192 in
theorem al_100 (h : Holds V0 s j) : (broadcastInDim S2x8x1 ![0, 1] bcast_S2x8_S2x8x1_0_1 (shapeCast S2x8 (shapeCast S16 (V0 (Proc.devRef .tc main_v169_11)) shapeCasts_S1x16_S16) shapeCasts_S16_S2x8) : (Proc.devRef .tc main_while0b_v226 : DevRef τ sig).ty.Contents (Elt F)) = Cert.ReferenceIdeal.Step.b100 j s := by
  unfold Cert.ReferenceIdeal.Step.b100
  rw [← al_99 h]
  try rfl
set_option maxRecDepth 8192 in
theorem al_101 (h : Holds V0 s j) : (broadcastInDim S1x2x8x1 ![1, 2, 3] bcast_S2x8x1_S1x2x8x1_1_2_3 (broadcastInDim S2x8x1 ![0, 1] bcast_S2x8_S2x8x1_0_1 (shapeCast S2x8 (shapeCast S16 (V0 (Proc.devRef .tc main_v169_11)) shapeCasts_S1x16_S16) shapeCasts_S16_S2x8)) : (Proc.devRef .tc main_while0b_v227 : DevRef τ sig).ty.Contents (Elt F)) = Cert.ReferenceIdeal.Step.b101 j s := by
  unfold Cert.ReferenceIdeal.Step.b101
  rw [← al_100 h]
  try rfl
set_option maxRecDepth 8192 in
theorem al_102 (h : Holds V0 s j) : (broadcastInDim S8x2x8x64 ![0, 1, 2, 3] bcast_S1x2x8x1_S8x2x8x64_0_1_2_3 (broadcastInDim S1x2x8x1 ![1, 2, 3] bcast_S2x8x1_S1x2x8x1_1_2_3 (broadcastInDim S2x8x1 ![0, 1] bcast_S2x8_S2x8x1_0_1 (shapeCast S2x8 (shapeCast S16 (V0 (Proc.devRef .tc main_v169_11)) shapeCasts_S1x16_S16) shapeCasts_S16_S2x8))) : (Proc.devRef .tc main_while0b_v228 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (mulf (broadcastInDim S8x2x8x64 ![0, 1, 2, 3] bcast_S1x2x8x1_S8x2x8x64_0_1_2_3 (broadcastInDim S1x2x8x1 ![1, 2, 3] bcast_S2x8x1_S1x2x8x1_1_2_3 (broadcastInDim S2x8x1 ![0, 1] bcast_S2x8_S2x8x1_0_1 (shapeCast S2x8 (shapeCast S16 (V0 (Proc.devRef .tc main_v169_11)) shapeCasts_S1x16_S16) shapeCasts_S16_S2x8)))) (shapeCast S8x2x8x64 (Host.dynamicSlice S1x8x2x8x64 (V0 (Proc.devRef .tc main_v169_6)) (fun k => (((![V0 (Proc.devRef .tc main_v169_15), constantI S_ 32 0#32, constantI S_ 32 0#32, constantI S_ 32 0#32, constantI S_ 32 0#32] : Fin 5 → (⟨S_, .i32⟩ : BufTy).Contents (Elt F))) k (Shape.Idx.first h_S_)).toInt) sliceFits_S8192x8x2x8x64_S1x8x2x8x64) shapeCasts_S1x8x2x8x64_S8x2x8x64) : (Proc.devRef .tc main_while0b_v229 : DevRef τ sig).ty.Contents (Elt F)) = Cert.ReferenceIdeal.Step.b103 j s := by
  unfold Cert.ReferenceIdeal.Step.b103
  rw [← al_102 h, ← al_34 h]
  try rfl
set_option maxRecDepth 8192 in
theorem al_104 (h : Holds V0 s j) : (addf (Host.reduceAdd (mulf (res_main_while0b_v191 V0) (broadcastInDim S8x2x8x64x128 ![0, 1, 2, 3, 4] bcast_S8x2x1x1x128_S8x2x8x64x128_0_1_2_3_4 (broadcastInDim S8x2x1x1x128 ![0, 1, 4] bcast_S8x2x128_S8x2x1x1x128_0_1_4 (shapeCast S8x2x128 (Host.dynamicSlice S1x8x2x128 (V0 (Proc.devRef .tc main_v169_5)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128) shapeCasts_S1x8x2x128_S8x2x128)))) (constant S_ .f32 0x00000000#32) reducesTo_S8x2x8x64x128_S8x2x8x64_d4 h_S_) (mulf (broadcastInDim S8x2x8x64 ![0, 1, 2, 3] bcast_S1x2x8x1_S8x2x8x64_0_1_2_3 (broadcastInDim S1x2x8x1 ![1, 2, 3] bcast_S2x8x1_S1x2x8x1_1_2_3 (broadcastInDim S2x8x1 ![0, 1] bcast_S2x8_S2x8x1_0_1 (shapeCast S2x8 (shapeCast S16 (V0 (Proc.devRef .tc main_v169_11)) shapeCasts_S1x16_S16) shapeCasts_S16_S2x8)))) (shapeCast S8x2x8x64 (Host.dynamicSlice S1x8x2x8x64 (V0 (Proc.devRef .tc main_v169_6)) (fun k => (((![V0 (Proc.devRef .tc main_v169_15), constantI S_ 32 0#32, constantI S_ 32 0#32, constantI S_ 32 0#32, constantI S_ 32 0#32] : Fin 5 → (⟨S_, .i32⟩ : BufTy).Contents (Elt F))) k (Shape.Idx.first h_S_)).toInt) sliceFits_S8192x8x2x8x64_S1x8x2x8x64) shapeCasts_S1x8x2x8x64_S8x2x8x64)) : (Proc.devRef .tc main_while0b_v230 : DevRef τ sig).ty.Contents (Elt F)) = Cert.ReferenceIdeal.Step.b104 j s := by
  unfold Cert.ReferenceIdeal.Step.b104
  rw [← al_62 h, ← al_103 h]
  try rfl
set_option maxRecDepth 8192 in
theorem al_105 (h : Holds V0 s j) : (shapeCast S8x1024 (addf (Host.reduceAdd (mulf (res_main_while0b_v191 V0) (broadcastInDim S8x2x8x64x128 ![0, 1, 2, 3, 4] bcast_S8x2x1x1x128_S8x2x8x64x128_0_1_2_3_4 (broadcastInDim S8x2x1x1x128 ![0, 1, 4] bcast_S8x2x128_S8x2x1x1x128_0_1_4 (shapeCast S8x2x128 (Host.dynamicSlice S1x8x2x128 (V0 (Proc.devRef .tc main_v169_5)) (fun k => (((![V0 (Proc.devRef .tc main_v169_15), constantI S_ 32 0#32, constantI S_ 32 0#32, constantI S_ 32 0#32] : Fin 4 → (⟨S_, .i32⟩ : BufTy).Contents (Elt F))) k (Shape.Idx.first h_S_)).toInt) sliceFits_S8192x8x2x128_S1x8x2x128) shapeCasts_S1x8x2x128_S8x2x128)))) (constant S_ .f32 0x00000000#32) reducesTo_S8x2x8x64x128_S8x2x8x64_d4 h_S_) (mulf (broadcastInDim S8x2x8x64 ![0, 1, 2, 3] bcast_S1x2x8x1_S8x2x8x64_0_1_2_3 (broadcastInDim S1x2x8x1 ![1, 2, 3] bcast_S2x8x1_S1x2x8x1_1_2_3 (broadcastInDim S2x8x1 ![0, 1] bcast_S2x8_S2x8x1_0_1 (shapeCast S2x8 (shapeCast S16 (V0 (Proc.devRef .tc main_v169_11)) shapeCasts_S1x16_S16) shapeCasts_S16_S2x8)))) (shapeCast S8x2x8x64 (Host.dynamicSlice S1x8x2x8x64 (V0 (Proc.devRef .tc main_v169_6)) (fun k => (((![V0 (Proc.devRef .tc main_v169_15), constantI S_ 32 0#32, constantI S_ 32 0#32, constantI S_ 32 0#32, constantI S_ 32 0#32] : Fin 5 → (⟨S_, .i32⟩ : BufTy).Contents (Elt F))) k (Shape.Idx.first h_S_)).toInt) sliceFits_S8192x8x2x8x64_S1x8x2x8x64) shapeCasts_S1x8x2x8x64_S8x2x8x64))) shapeCasts_S8x2x8x64_S8x1024 : (Proc.devRef .tc main_while0b_v231 : DevRef τ sig).ty.Contents (Elt F)) = Cert.ReferenceIdeal.Step.b105 j s := by
  unfold Cert.ReferenceIdeal.Step.b105
  rw [← al_104 h]
  try rfl
set_option maxRecDepth 8192 in
theorem al_106 (h : Holds V0 s j) : (Host.negf (res_main_while0b_v179 V0) : (Proc.devRef .tc main_while0b_call15_v0 : DevRef τ sig).ty.Contents (Elt F)) = Cert.ReferenceIdeal.Step.b106 j s := by
  unfold Cert.ReferenceIdeal.Step.b106
  rw [← al_42 h]
  try rfl
set_option maxRecDepth 8192 in
theorem al_107 (h : Holds V0 s j) : (Host.exp (Host.negf (res_main_while0b_v179 V0)) : (Proc.devRef .tc main_while0b_call15_v1 : DevRef τ sig).ty.Contents (Elt F)) = Cert.ReferenceIdeal.Step.b107 j s := by
  unfold Cert.ReferenceIdeal.Step.b107
  rw [← al_106 h]
  try rfl
set_option maxRecDepth 8192 in
theorem al_108 (h : Holds V0 s j) : (constant S_ .f32 0x3F800000#32 : (Proc.devRef .tc main_while0b_call15_cst : DevRef τ sig).ty.Contents (Elt F)) = Cert.ReferenceIdeal.Step.b108 j s := by
  unfold Cert.ReferenceIdeal.Step.b108
  rfl
set_option maxRecDepth 8192 in
theorem al_109 (h : Holds V0 s j) : (broadcastInDim S8x1024 ![] bcast_S_S8x1024 (constant S_ .f32 0x3F800000#32) : (Proc.devRef .tc main_while0b_call15_v2 : DevRef τ sig).ty.Contents (Elt F)) = Cert.ReferenceIdeal.Step.b109 j s := by
  unfold Cert.ReferenceIdeal.Step.b109
  rw [← al_108 h]
  try rfl
set_option maxRecDepth 8192 in
theorem al_110 (h : Holds V0 s j) : (addf (broadcastInDim S8x1024 ![] bcast_S_S8x1024 (constant S_ .f32 0x3F800000#32)) (Host.exp (Host.negf (res_main_while0b_v179 V0))) : (Proc.devRef .tc main_while0b_call15_v3 : DevRef τ sig).ty.Contents (Elt F)) = Cert.ReferenceIdeal.Step.b110 j s := by
  unfold Cert.ReferenceIdeal.Step.b110
  rw [← al_109 h, ← al_107 h]
  try rfl
set_option maxRecDepth 8192 in
theorem al_111 (h : Holds V0 s j) : (constant S_ .f32 0x3F800000#32 : (Proc.devRef .tc main_while0b_call15_cst_0 : DevRef τ sig).ty.Contents (Elt F)) = Cert.ReferenceIdeal.Step.b111 j s := by
  unfold Cert.ReferenceIdeal.Step.b111
  rfl
set_option maxRecDepth 8192 in
theorem al_112 (h : Holds V0 s j) : (broadcastInDim S8x1024 ![] bcast_S_S8x1024 (constant S_ .f32 0x3F800000#32) : (Proc.devRef .tc main_while0b_call15_v4 : DevRef τ sig).ty.Contents (Elt F)) = Cert.ReferenceIdeal.Step.b112 j s := by
  unfold Cert.ReferenceIdeal.Step.b112
  rw [← al_111 h]
  try rfl
set_option maxRecDepth 8192 in
theorem al_113 (h : Holds V0 s j) : (Host.divf (broadcastInDim S8x1024 ![] bcast_S_S8x1024 (constant S_ .f32 0x3F800000#32)) (addf (broadcastInDim S8x1024 ![] bcast_S_S8x1024 (constant S_ .f32 0x3F800000#32)) (Host.exp (Host.negf (res_main_while0b_v179 V0)))) : (Proc.devRef .tc main_while0b_call15_v5 : DevRef τ sig).ty.Contents (Elt F)) = Cert.ReferenceIdeal.Step.b113 j s := by
  unfold Cert.ReferenceIdeal.Step.b113
  rw [← al_112 h, ← al_110 h]
  try rfl
set_option maxRecDepth 8192 in
theorem al_114 (h : Holds V0 s j) : (mulf (res_main_while0b_v179 V0) (Host.divf (broadcastInDim S8x1024 ![] bcast_S_S8x1024 (constant S_ .f32 0x3F800000#32)) (addf (broadcastInDim S8x1024 ![] bcast_S_S8x1024 (constant S_ .f32 0x3F800000#32)) (Host.exp (Host.negf (res_main_while0b_v179 V0))))) : (Proc.devRef .tc main_while0b_v232 : DevRef τ sig).ty.Contents (Elt F)) = Cert.ReferenceIdeal.Step.b114 j s := by
  unfold Cert.ReferenceIdeal.Step.b114
  rw [← al_42 h, ← al_113 h]
  try rfl
set_option maxRecDepth 8192 in
theorem al_115 (h : Holds V0 s j) : (res_main_while0b_v233 V0 : (Proc.devRef .tc main_while0b_v233 : DevRef τ sig).ty.Contents (Elt F)) = Cert.ReferenceIdeal.Step.b115 j s := by
  unfold res_main_while0b_v233 Cert.ReferenceIdeal.Step.b115
  rw [← al_105 h, ← al_114 h]
  try rfl
set_option maxRecDepth 8192 in
theorem al_116 (h : Holds V0 s j) : (shapeCast S1024 (V0 (Proc.devRef .tc main_v169_12)) shapeCasts_S1x1024_S1024 : (Proc.devRef .tc main_while0b_v234 : DevRef τ sig).ty.Contents (Elt F)) = Cert.ReferenceIdeal.Step.b116 j s := by
  unfold Cert.ReferenceIdeal.Step.b116
  rw [h.f_12]
  try rfl
set_option maxRecDepth 8192 in
theorem al_117 (h : Holds V0 s j) : (mulf (res_main_while0b_v233 V0) (res_main_while0b_v233 V0) : (Proc.devRef .tc main_while0b_v235 : DevRef τ sig).ty.Contents (Elt F)) = Cert.ReferenceIdeal.Step.b117 j s := by
  unfold Cert.ReferenceIdeal.Step.b117
  rw [← al_115 h]
  try rfl
set_option maxRecDepth 8192 in
theorem al_118 (h : Holds V0 s j) : (constant S_ .f32 0x00000000#32 : (Proc.devRef .tc main_while0b_cst_39 : DevRef τ sig).ty.Contents (Elt F)) = Cert.ReferenceIdeal.Step.b118 j s := by
  unfold Cert.ReferenceIdeal.Step.b118
  rfl
set_option maxRecDepth 8192 in
theorem al_119 (h : Holds V0 s j) : (Host.reduceAdd (mulf (res_main_while0b_v233 V0) (res_main_while0b_v233 V0)) (constant S_ .f32 0x00000000#32) reducesTo_S8x1024_S8_d1 h_S_ : (Proc.devRef .tc main_while0b_v236 : DevRef τ sig).ty.Contents (Elt F)) = Cert.ReferenceIdeal.Step.b119 j s := by
  unfold Cert.ReferenceIdeal.Step.b119
  rw [← al_117 h, ← al_118 h]
  try rfl
set_option maxRecDepth 8192 in
theorem al_120 (h : Holds V0 s j) : (broadcastInDim S8x1 ![0] bcast_S8_S8x1_0 (Host.reduceAdd (mulf (res_main_while0b_v233 V0) (res_main_while0b_v233 V0)) (constant S_ .f32 0x00000000#32) reducesTo_S8x1024_S8_d1 h_S_) : (Proc.devRef .tc main_while0b_v237 : DevRef τ sig).ty.Contents (Elt F)) = Cert.ReferenceIdeal.Step.b120 j s := by
  unfold Cert.ReferenceIdeal.Step.b120
  rw [← al_119 h]
  try rfl
set_option maxRecDepth 8192 in
theorem al_121 (h : Holds V0 s j) : (constant S_ .f32 0x44800000#32 : (Proc.devRef .tc main_while0b_cst_40 : DevRef τ sig).ty.Contents (Elt F)) = Cert.ReferenceIdeal.Step.b121 j s := by
  unfold Cert.ReferenceIdeal.Step.b121
  rfl
set_option maxRecDepth 8192 in
theorem al_122 (h : Holds V0 s j) : (broadcastInDim S8x1 ![] bcast_S_S8x1 (constant S_ .f32 0x44800000#32) : (Proc.devRef .tc main_while0b_v238 : DevRef τ sig).ty.Contents (Elt F)) = Cert.ReferenceIdeal.Step.b122 j s := by
  unfold Cert.ReferenceIdeal.Step.b122
  rw [← al_121 h]
  try rfl
set_option maxRecDepth 8192 in
theorem al_123 (h : Holds V0 s j) : (Host.divf (broadcastInDim S8x1 ![0] bcast_S8_S8x1_0 (Host.reduceAdd (mulf (res_main_while0b_v233 V0) (res_main_while0b_v233 V0)) (constant S_ .f32 0x00000000#32) reducesTo_S8x1024_S8_d1 h_S_)) (broadcastInDim S8x1 ![] bcast_S_S8x1 (constant S_ .f32 0x44800000#32)) : (Proc.devRef .tc main_while0b_v239 : DevRef τ sig).ty.Contents (Elt F)) = Cert.ReferenceIdeal.Step.b123 j s := by
  unfold Cert.ReferenceIdeal.Step.b123
  rw [← al_120 h, ← al_122 h]
  try rfl
set_option maxRecDepth 8192 in
theorem al_124 (h : Holds V0 s j) : (constant S_ .f32 0x358637BD#32 : (Proc.devRef .tc main_while0b_cst_41 : DevRef τ sig).ty.Contents (Elt F)) = Cert.ReferenceIdeal.Step.b124 j s := by
  unfold Cert.ReferenceIdeal.Step.b124
  rfl
set_option maxRecDepth 8192 in
theorem al_125 (h : Holds V0 s j) : (broadcastInDim S8x1 ![] bcast_S_S8x1 (constant S_ .f32 0x358637BD#32) : (Proc.devRef .tc main_while0b_v240 : DevRef τ sig).ty.Contents (Elt F)) = Cert.ReferenceIdeal.Step.b125 j s := by
  unfold Cert.ReferenceIdeal.Step.b125
  rw [← al_124 h]
  try rfl
set_option maxRecDepth 8192 in
theorem al_126 (h : Holds V0 s j) : (addf (Host.divf (broadcastInDim S8x1 ![0] bcast_S8_S8x1_0 (Host.reduceAdd (mulf (res_main_while0b_v233 V0) (res_main_while0b_v233 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)) : (Proc.devRef .tc main_while0b_v241 : DevRef τ sig).ty.Contents (Elt F)) = Cert.ReferenceIdeal.Step.b126 j s := by
  unfold Cert.ReferenceIdeal.Step.b126
  rw [← al_123 h, ← al_125 h]
  try rfl
set_option maxRecDepth 8192 in
theorem al_127 (h : Holds V0 s j) : (Host.rsqrt (addf (Host.divf (broadcastInDim S8x1 ![0] bcast_S8_S8x1_0 (Host.reduceAdd (mulf (res_main_while0b_v233 V0) (res_main_while0b_v233 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32))) : (Proc.devRef .tc main_while0b_v242 : DevRef τ sig).ty.Contents (Elt F)) = Cert.ReferenceIdeal.Step.b127 j s := by
  unfold Cert.ReferenceIdeal.Step.b127
  rw [← al_126 h]
  try rfl
set_option maxRecDepth 8192 in
theorem al_128 (h : Holds V0 s j) : (broadcastInDim S8x1024 ![0, 1] bcast_S8x1_S8x1024_0_1 (Host.rsqrt (addf (Host.divf (broadcastInDim S8x1 ![0] bcast_S8_S8x1_0 (Host.reduceAdd (mulf (res_main_while0b_v233 V0) (res_main_while0b_v233 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))) : (Proc.devRef .tc main_while0b_v243 : DevRef τ sig).ty.Contents (Elt F)) = Cert.ReferenceIdeal.Step.b128 j s := by
  unfold Cert.ReferenceIdeal.Step.b128
  rw [← al_127 h]
  try rfl
set_option maxRecDepth 8192 in
theorem al_129 (h : Holds V0 s j) : (mulf (res_main_while0b_v233 V0) (broadcastInDim S8x1024 ![0, 1] bcast_S8x1_S8x1024_0_1 (Host.rsqrt (addf (Host.divf (broadcastInDim S8x1 ![0] bcast_S8_S8x1_0 (Host.reduceAdd (mulf (res_main_while0b_v233 V0) (res_main_while0b_v233 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32))))) : (Proc.devRef .tc main_while0b_v244 : DevRef τ sig).ty.Contents (Elt F)) = Cert.ReferenceIdeal.Step.b129 j s := by
  unfold Cert.ReferenceIdeal.Step.b129
  rw [← al_115 h, ← al_128 h]
  try rfl
set_option maxRecDepth 8192 in
theorem al_130 (h : Holds V0 s j) : (broadcastInDim S1x1024 ![1] bcast_S1024_S1x1024_1 (shapeCast S1024 (V0 (Proc.devRef .tc main_v169_12)) shapeCasts_S1x1024_S1024) : (Proc.devRef .tc main_while0b_v245 : DevRef τ sig).ty.Contents (Elt F)) = Cert.ReferenceIdeal.Step.b130 j s := by
  unfold Cert.ReferenceIdeal.Step.b130
  rw [← al_116 h]
  try rfl
set_option maxRecDepth 8192 in
theorem al_131 (h : Holds V0 s j) : (broadcastInDim S8x1024 ![0, 1] bcast_S1x1024_S8x1024_0_1 (broadcastInDim S1x1024 ![1] bcast_S1024_S1x1024_1 (shapeCast S1024 (V0 (Proc.devRef .tc main_v169_12)) shapeCasts_S1x1024_S1024)) : (Proc.devRef .tc main_while0b_v246 : DevRef τ sig).ty.Contents (Elt F)) = Cert.ReferenceIdeal.Step.b131 j s := by
  unfold Cert.ReferenceIdeal.Step.b131
  rw [← al_130 h]
  try rfl
set_option maxRecDepth 8192 in
theorem al_132 (h : Holds V0 s j) : (mulf (mulf (res_main_while0b_v233 V0) (broadcastInDim S8x1024 ![0, 1] bcast_S8x1_S8x1024_0_1 (Host.rsqrt (addf (Host.divf (broadcastInDim S8x1 ![0] bcast_S8_S8x1_0 (Host.reduceAdd (mulf (res_main_while0b_v233 V0) (res_main_while0b_v233 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v169_12)) shapeCasts_S1x1024_S1024))) : (Proc.devRef .tc main_while0b_v247 : DevRef τ sig).ty.Contents (Elt F)) = Cert.ReferenceIdeal.Step.b132 j s := by
  unfold Cert.ReferenceIdeal.Step.b132
  rw [← al_129 h, ← al_131 h]
  try rfl
set_option maxRecDepth 8192 in
theorem al_133 (h : Holds V0 s j) : (concatenate S8x2048 1 [⟨S8x1024, (mulf (mulf (res_main_while0b_v209 V0) (broadcastInDim S8x1024 ![0, 1] bcast_S8x1_S8x1024_0_1 (Host.rsqrt (addf (Host.divf (broadcastInDim S8x1 ![0] bcast_S8_S8x1_0 (Host.reduceAdd (mulf (res_main_while0b_v209 V0) (res_main_while0b_v209 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v169_10)) shapeCasts_S1x1024_S1024))))⟩, ⟨S8x1024, (mulf (mulf (res_main_while0b_v233 V0) (broadcastInDim S8x1024 ![0, 1] bcast_S8x1_S8x1024_0_1 (Host.rsqrt (addf (Host.divf (broadcastInDim S8x1 ![0] bcast_S8_S8x1_0 (Host.reduceAdd (mulf (res_main_while0b_v233 V0) (res_main_while0b_v233 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v169_12)) shapeCasts_S1x1024_S1024))))⟩] concatenates_S8x1024_S8x1024_S8x2048_d1 : (Proc.devRef .tc main_while0b_v248 : DevRef τ sig).ty.Contents (Elt F)) = Cert.ReferenceIdeal.Step.b133 j s := by
  unfold Cert.ReferenceIdeal.Step.b133
  rw [← al_97 h, ← al_132 h]
  try rfl
set_option maxRecDepth 8192 in
theorem al_134 (h : Holds V0 s j) : (shapeCast S2048x1024 (V0 (Proc.devRef .tc main_v169_13)) shapeCasts_S1x2048x1024_S2048x1024 : (Proc.devRef .tc main_while0b_v249 : DevRef τ sig).ty.Contents (Elt F)) = Cert.ReferenceIdeal.Step.b134 j s := by
  unfold Cert.ReferenceIdeal.Step.b134
  rw [h.f_13]
  try rfl
set_option maxRecDepth 8192 in
theorem al_135 (h : Holds V0 s j) : (res_main_while0b_v250 V0 : (Proc.devRef .tc main_while0b_v250 : DevRef τ sig).ty.Contents (Elt F)) = Cert.ReferenceIdeal.Step.b135 j s := by
  unfold res_main_while0b_v250 Cert.ReferenceIdeal.Step.b135
  rw [← al_133 h, ← al_134 h]
  try rfl
set_option maxRecDepth 8192 in
theorem al_136 (h : Holds V0 s j) : (shapeCast S1024 (V0 (Proc.devRef .tc main_v169_14)) shapeCasts_S1x1024_S1024 : (Proc.devRef .tc main_while0b_v251 : DevRef τ sig).ty.Contents (Elt F)) = Cert.ReferenceIdeal.Step.b136 j s := by
  unfold Cert.ReferenceIdeal.Step.b136
  rw [h.f_14]
  try rfl
set_option maxRecDepth 8192 in
theorem al_137 (h : Holds V0 s j) : (mulf (res_main_while0b_v250 V0) (res_main_while0b_v250 V0) : (Proc.devRef .tc main_while0b_v252 : DevRef τ sig).ty.Contents (Elt F)) = Cert.ReferenceIdeal.Step.b137 j s := by
  unfold Cert.ReferenceIdeal.Step.b137
  rw [← al_135 h]
  try rfl
set_option maxRecDepth 8192 in
theorem al_138 (h : Holds V0 s j) : (constant S_ .f32 0x00000000#32 : (Proc.devRef .tc main_while0b_cst_42 : DevRef τ sig).ty.Contents (Elt F)) = Cert.ReferenceIdeal.Step.b138 j s := by
  unfold Cert.ReferenceIdeal.Step.b138
  rfl
set_option maxRecDepth 8192 in
theorem al_139 (h : Holds V0 s j) : (Host.reduceAdd (mulf (res_main_while0b_v250 V0) (res_main_while0b_v250 V0)) (constant S_ .f32 0x00000000#32) reducesTo_S8x1024_S8_d1 h_S_ : (Proc.devRef .tc main_while0b_v253 : DevRef τ sig).ty.Contents (Elt F)) = Cert.ReferenceIdeal.Step.b139 j s := by
  unfold Cert.ReferenceIdeal.Step.b139
  rw [← al_137 h, ← al_138 h]
  try rfl
set_option maxRecDepth 8192 in
theorem al_140 (h : Holds V0 s j) : (broadcastInDim S8x1 ![0] bcast_S8_S8x1_0 (Host.reduceAdd (mulf (res_main_while0b_v250 V0) (res_main_while0b_v250 V0)) (constant S_ .f32 0x00000000#32) reducesTo_S8x1024_S8_d1 h_S_) : (Proc.devRef .tc main_while0b_v254 : DevRef τ sig).ty.Contents (Elt F)) = Cert.ReferenceIdeal.Step.b140 j s := by
  unfold Cert.ReferenceIdeal.Step.b140
  rw [← al_139 h]
  try rfl
set_option maxRecDepth 8192 in
theorem al_141 (h : Holds V0 s j) : (constant S_ .f32 0x44800000#32 : (Proc.devRef .tc main_while0b_cst_43 : DevRef τ sig).ty.Contents (Elt F)) = Cert.ReferenceIdeal.Step.b141 j s := by
  unfold Cert.ReferenceIdeal.Step.b141
  rfl
set_option maxRecDepth 8192 in
theorem al_142 (h : Holds V0 s j) : (broadcastInDim S8x1 ![] bcast_S_S8x1 (constant S_ .f32 0x44800000#32) : (Proc.devRef .tc main_while0b_v255 : DevRef τ sig).ty.Contents (Elt F)) = Cert.ReferenceIdeal.Step.b142 j s := by
  unfold Cert.ReferenceIdeal.Step.b142
  rw [← al_141 h]
  try rfl
set_option maxRecDepth 8192 in
theorem al_143 (h : Holds V0 s j) : (Host.divf (broadcastInDim S8x1 ![0] bcast_S8_S8x1_0 (Host.reduceAdd (mulf (res_main_while0b_v250 V0) (res_main_while0b_v250 V0)) (constant S_ .f32 0x00000000#32) reducesTo_S8x1024_S8_d1 h_S_)) (broadcastInDim S8x1 ![] bcast_S_S8x1 (constant S_ .f32 0x44800000#32)) : (Proc.devRef .tc main_while0b_v256 : DevRef τ sig).ty.Contents (Elt F)) = Cert.ReferenceIdeal.Step.b143 j s := by
  unfold Cert.ReferenceIdeal.Step.b143
  rw [← al_140 h, ← al_142 h]
  try rfl
set_option maxRecDepth 8192 in
theorem al_144 (h : Holds V0 s j) : (constant S_ .f32 0x358637BD#32 : (Proc.devRef .tc main_while0b_cst_44 : DevRef τ sig).ty.Contents (Elt F)) = Cert.ReferenceIdeal.Step.b144 j s := by
  unfold Cert.ReferenceIdeal.Step.b144
  rfl
set_option maxRecDepth 8192 in
theorem al_145 (h : Holds V0 s j) : (broadcastInDim S8x1 ![] bcast_S_S8x1 (constant S_ .f32 0x358637BD#32) : (Proc.devRef .tc main_while0b_v257 : DevRef τ sig).ty.Contents (Elt F)) = Cert.ReferenceIdeal.Step.b145 j s := by
  unfold Cert.ReferenceIdeal.Step.b145
  rw [← al_144 h]
  try rfl
set_option maxRecDepth 8192 in
theorem al_146 (h : Holds V0 s j) : (addf (Host.divf (broadcastInDim S8x1 ![0] bcast_S8_S8x1_0 (Host.reduceAdd (mulf (res_main_while0b_v250 V0) (res_main_while0b_v250 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)) : (Proc.devRef .tc main_while0b_v258 : DevRef τ sig).ty.Contents (Elt F)) = Cert.ReferenceIdeal.Step.b146 j s := by
  unfold Cert.ReferenceIdeal.Step.b146
  rw [← al_143 h, ← al_145 h]
  try rfl
set_option maxRecDepth 8192 in
theorem al_147 (h : Holds V0 s j) : (Host.rsqrt (addf (Host.divf (broadcastInDim S8x1 ![0] bcast_S8_S8x1_0 (Host.reduceAdd (mulf (res_main_while0b_v250 V0) (res_main_while0b_v250 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32))) : (Proc.devRef .tc main_while0b_v259 : DevRef τ sig).ty.Contents (Elt F)) = Cert.ReferenceIdeal.Step.b147 j s := by
  unfold Cert.ReferenceIdeal.Step.b147
  rw [← al_146 h]
  try rfl
set_option maxRecDepth 8192 in
theorem al_148 (h : Holds V0 s j) : (broadcastInDim S8x1024 ![0, 1] bcast_S8x1_S8x1024_0_1 (Host.rsqrt (addf (Host.divf (broadcastInDim S8x1 ![0] bcast_S8_S8x1_0 (Host.reduceAdd (mulf (res_main_while0b_v250 V0) (res_main_while0b_v250 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))) : (Proc.devRef .tc main_while0b_v260 : DevRef τ sig).ty.Contents (Elt F)) = Cert.ReferenceIdeal.Step.b148 j s := by
  unfold Cert.ReferenceIdeal.Step.b148
  rw [← al_147 h]
  try rfl
set_option maxRecDepth 8192 in
theorem al_149 (h : Holds V0 s j) : (mulf (res_main_while0b_v250 V0) (broadcastInDim S8x1024 ![0, 1] bcast_S8x1_S8x1024_0_1 (Host.rsqrt (addf (Host.divf (broadcastInDim S8x1 ![0] bcast_S8_S8x1_0 (Host.reduceAdd (mulf (res_main_while0b_v250 V0) (res_main_while0b_v250 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32))))) : (Proc.devRef .tc main_while0b_v261 : DevRef τ sig).ty.Contents (Elt F)) = Cert.ReferenceIdeal.Step.b149 j s := by
  unfold Cert.ReferenceIdeal.Step.b149
  rw [← al_135 h, ← al_148 h]
  try rfl
set_option maxRecDepth 8192 in
theorem al_150 (h : Holds V0 s j) : (broadcastInDim S1x1024 ![1] bcast_S1024_S1x1024_1 (shapeCast S1024 (V0 (Proc.devRef .tc main_v169_14)) shapeCasts_S1x1024_S1024) : (Proc.devRef .tc main_while0b_v262 : DevRef τ sig).ty.Contents (Elt F)) = Cert.ReferenceIdeal.Step.b150 j s := by
  unfold Cert.ReferenceIdeal.Step.b150
  rw [← al_136 h]
  try rfl
set_option maxRecDepth 8192 in
theorem al_151 (h : Holds V0 s j) : (broadcastInDim S8x1024 ![0, 1] bcast_S1x1024_S8x1024_0_1 (broadcastInDim S1x1024 ![1] bcast_S1024_S1x1024_1 (shapeCast S1024 (V0 (Proc.devRef .tc main_v169_14)) shapeCasts_S1x1024_S1024)) : (Proc.devRef .tc main_while0b_v263 : DevRef τ sig).ty.Contents (Elt F)) = Cert.ReferenceIdeal.Step.b151 j s := by
  unfold Cert.ReferenceIdeal.Step.b151
  rw [← al_150 h]
  try rfl
set_option maxRecDepth 8192 in
theorem al_152 (h : Holds V0 s j) : (mulf (mulf (res_main_while0b_v250 V0) (broadcastInDim S8x1024 ![0, 1] bcast_S8x1_S8x1024_0_1 (Host.rsqrt (addf (Host.divf (broadcastInDim S8x1 ![0] bcast_S8_S8x1_0 (Host.reduceAdd (mulf (res_main_while0b_v250 V0) (res_main_while0b_v250 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v169_14)) shapeCasts_S1x1024_S1024))) : (Proc.devRef .tc main_while0b_v264 : DevRef τ sig).ty.Contents (Elt F)) = Cert.ReferenceIdeal.Step.b152 j s := by
  unfold Cert.ReferenceIdeal.Step.b152
  rw [← al_149 h, ← al_151 h]
  try rfl
set_option maxRecDepth 8192 in
theorem al_153 (h : Holds V0 s j) : (addf (shapeCast S8x1024 (Host.dynamicSlice S1x8x1024 (V0 (Proc.devRef .tc main_v169_9)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024) shapeCasts_S1x8x1024_S8x1024) (mulf (mulf (res_main_while0b_v250 V0) (broadcastInDim S8x1024 ![0, 1] bcast_S8x1_S8x1024_0_1 (Host.rsqrt (addf (Host.divf (broadcastInDim S8x1 ![0] bcast_S8_S8x1_0 (Host.reduceAdd (mulf (res_main_while0b_v250 V0) (res_main_while0b_v250 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v169_14)) shapeCasts_S1x1024_S1024)))) : (Proc.devRef .tc main_while0b_v265 : DevRef τ sig).ty.Contents (Elt F)) = Cert.ReferenceIdeal.Step.b153 j s := by
  unfold Cert.ReferenceIdeal.Step.b153
  rw [← al_46 h, ← al_152 h]
  try rfl
set_option maxRecDepth 8192 in
theorem al_154 (h : Holds V0 s j) : (broadcastInDim S1x8x1024 ![1, 2] bcast_S8x1024_S1x8x1024_1_2 (addf (shapeCast S8x1024 (Host.dynamicSlice S1x8x1024 (V0 (Proc.devRef .tc main_v169_9)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024) shapeCasts_S1x8x1024_S8x1024) (mulf (mulf (res_main_while0b_v250 V0) (broadcastInDim S8x1024 ![0, 1] bcast_S8x1_S8x1024_0_1 (Host.rsqrt (addf (Host.divf (broadcastInDim S8x1 ![0] bcast_S8_S8x1_0 (Host.reduceAdd (mulf (res_main_while0b_v250 V0) (res_main_while0b_v250 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v169_14)) shapeCasts_S1x1024_S1024))))) : (Proc.devRef .tc main_while0b_call16_v0 : DevRef τ sig).ty.Contents (Elt F)) = Cert.ReferenceIdeal.Step.b154 j s := by
  unfold Cert.ReferenceIdeal.Step.b154
  rw [← al_153 h]
  try rfl
set_option maxRecDepth 8192 in
theorem al_155 (h : Holds V0 s j) : (constantI S_ 32 0#32 : (Proc.devRef .tc main_while0b_call16_c : DevRef τ sig).ty.Contents (Elt F)) = Cert.ReferenceIdeal.Step.b155 j s := by
  unfold Cert.ReferenceIdeal.Step.b155
  rfl
set_option maxRecDepth 8192 in
theorem al_156 (h : Holds V0 s j) : (constantI S_ 32 0#32 : (Proc.devRef .tc main_while0b_call16_c_0 : DevRef τ sig).ty.Contents (Elt F)) = Cert.ReferenceIdeal.Step.b156 j s := by
  unfold Cert.ReferenceIdeal.Step.b156
  rfl
set_option maxRecDepth 8192 in
theorem al_157 (h : Holds V0 s j) : (Host.dynamicUpdateSlice (V0 (Proc.devRef .tc main_v169_18)) (broadcastInDim S1x8x1024 ![1, 2] bcast_S8x1024_S1x8x1024_1_2 (addf (shapeCast S8x1024 (Host.dynamicSlice S1x8x1024 (V0 (Proc.devRef .tc main_v169_9)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024) shapeCasts_S1x8x1024_S8x1024) (mulf (mulf (res_main_while0b_v250 V0) (broadcastInDim S8x1024 ![0, 1] bcast_S8x1_S8x1024_0_1 (Host.rsqrt (addf (Host.divf (broadcastInDim S8x1 ![0] bcast_S8_S8x1_0 (Host.reduceAdd (mulf (res_main_while0b_v250 V0) (res_main_while0b_v250 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v169_14)) shapeCasts_S1x1024_S1024)))))) (fun k => (((![V0 (Proc.devRef .tc main_v169_15), constantI S_ 32 0#32, constantI S_ 32 0#32] : Fin 3 → (⟨S_, .i32⟩ : BufTy).Contents (Elt F))) k (Shape.Idx.first h_S_)).toInt) updateFits_S8192x8x1024_S1x8x1024 : (Proc.devRef .tc main_while0b_v266 : DevRef τ sig).ty.Contents (Elt F)) = Cert.ReferenceIdeal.Step.b157 j s := by
  unfold Cert.ReferenceIdeal.Step.b157
  rw [← al_154 h, ← al_155 h, ← al_156 h, h.f_18, h.n_15]
  try rfl

/-! One trip's step of the carried values is `step`, field by field; a counter steps to the next number. -/

theorem step_16 (h : Holds V0 s j) : step_main_v169_16 V0 = (step j s).main_v169_16 := by
  unfold step_main_v169_16 Cert.ReferenceIdeal.Step.step
  show id (res_main_while0b_v182 V0) = _
  rw [al_48 h]
  try rfl
theorem step_17 (h : Holds V0 s j) : step_main_v169_17 V0 = (step j s).main_v169_17 := by
  unfold step_main_v169_17 Cert.ReferenceIdeal.Step.step
  show id (res_main_while0b_v191 V0) = _
  rw [al_57 h]
  try rfl
theorem step_18 (h : Holds V0 s j) : step_main_v169_18 V0 = (step j s).main_v169_18 := by
  unfold step_main_v169_18 Cert.ReferenceIdeal.Step.step
  show id (Host.dynamicUpdateSlice (V0 (Proc.devRef .tc main_v169_18)) (broadcastInDim S1x8x1024 ![1, 2] bcast_S8x1024_S1x8x1024_1_2 (addf (shapeCast S8x1024 (Host.dynamicSlice S1x8x1024 (V0 (Proc.devRef .tc main_v169_9)) (fun k => (((![V0 (Proc.devRef .tc main_v169_15), constantI S_ 32 0#32, constantI S_ 32 0#32] : Fin 3 → (⟨S_, .i32⟩ : BufTy).Contents (Elt F))) k (Shape.Idx.first h_S_)).toInt) sliceFits_S8192x8x1024_S1x8x1024) shapeCasts_S1x8x1024_S8x1024) (mulf (mulf (res_main_while0b_v250 V0) (broadcastInDim S8x1024 ![0, 1] bcast_S8x1_S8x1024_0_1 (Host.rsqrt (addf (Host.divf (broadcastInDim S8x1 ![0] bcast_S8_S8x1_0 (Host.reduceAdd (mulf (res_main_while0b_v250 V0) (res_main_while0b_v250 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v169_14)) shapeCasts_S1x1024_S1024)))))) (fun k => (((![V0 (Proc.devRef .tc main_v169_15), constantI S_ 32 0#32, constantI S_ 32 0#32] : Fin 3 → (⟨S_, .i32⟩ : BufTy).Contents (Elt F))) k (Shape.Idx.first h_S_)).toInt) updateFits_S8192x8x1024_S1x8x1024) = _
  exact al_157 h
theorem step_15 (h : Holds V0 s j) : step_main_v169_15 V0 = constantI S_ 32 (BitVec.ofNat 32 (j + 1)) := by
  unfold step_main_v169_15
  rw [h.n_15]
  funext i
  show BitVec.ofNat 32 j + 1#32 = BitVec.ofNat 32 (j + 1)
  simp only [BitVec.ofNat_add]

set_option maxRecDepth 8192 in
theorem out_main_v170_holds (h : Holds V0 s j) : out_main_v170 V0 = Cert.ReferenceIdeal.Step.R_main_v170 s := by
  unfold out_main_v170 Cert.ReferenceIdeal.Step.R_main_v170
  rw [h.f_18]
  try rfl

/-- One trip keeps the valuation holding: `step` of the state, the same set-up values, the next number. -/
theorem holds_step (h : Holds V0 s j) : Holds (STEP V0) (step j s) (j + 1) where
  f_16 := (STEP_main_v169_16 V0).trans (step_16 h)
  f_17 := (STEP_main_v169_17 V0).trans (step_17 h)
  f_18 := (STEP_main_v169_18 V0).trans (step_18 h)
  n_15 := (STEP_main_v169_15 V0).trans (step_15 h)
  f_0 := (STEP_main_v169_0 V0).trans h.f_0
  f_1 := (STEP_main_v169_1 V0).trans h.f_1
  f_2 := (STEP_main_v169_2 V0).trans h.f_2
  f_3 := (STEP_main_v169_3 V0).trans h.f_3
  f_4 := (STEP_main_v169_4 V0).trans h.f_4
  f_5 := (STEP_main_v169_5 V0).trans h.f_5
  f_6 := (STEP_main_v169_6 V0).trans h.f_6
  f_7 := (STEP_main_v169_7 V0).trans h.f_7
  f_8 := (STEP_main_v169_8 V0).trans h.f_8
  f_9 := (STEP_main_v169_9 V0).trans h.f_9
  f_10 := (STEP_main_v169_10 V0).trans h.f_10
  f_11 := (STEP_main_v169_11 V0).trans h.f_11
  f_12 := (STEP_main_v169_12 V0).trans h.f_12
  f_13 := (STEP_main_v169_13 V0).trans h.f_13
  f_14 := (STEP_main_v169_14 V0).trans h.f_14

/-- The state the first trip starts from, of the memory the run starts from. -/
abbrev initState (m : (ℓ : Loc nD τ sig) → Buf (Elt F) ℓ) (c : Dev nD) : State F :=
  init (m ((c.tc : Thread nD τ).loc main_arg10)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14))

variable (m : (ℓ : Loc nD τ sig) → Buf (Elt F) ℓ) (c : Dev nD)

set_option maxRecDepth 65536 in
set_option maxHeartbeats 2200000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v170) = Cert.ReferenceIdeal.Step.R_main_v170 (it c 8192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
    have hk := holds_iter m c (it c) (h0 c) (hs c) 8192
    ⟨(h c).1.trans (out_main_v170_holds hk), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2⟩) (Value.run m ρ)

end Cert.ReferenceIdeal.StepRun

end
-- ==== Proof.MixRefB.lean ====
module

public import proofs.«01_k».proof.Proof.MixRefA
public import proofs.«01_k».proof.Proof.MixRefRun
public import proofs.«01_k».proof.Proof.Gen.ReferenceIdeal.Step
public import Idealize.ShloMosaic.Lib.Pointwise

/-!
  One step of the reference loop read at an index, and the loop as a whole: the values of the specification.
-/

@[expose] public section

set_option maxRecDepth 16384

noncomputable section

namespace Cert.Mix.Ref

open Idealize.ShloMosaic Cert.ReferenceIdeal Cert.ReferenceIdeal.Gen Cert.ReferenceIdeal.Step

theorem toI (j : Fin 8192) : (BitVec.ofNat 32 (j : ℕ)).toInt = ((j : ℕ) : ℤ) := by
  have h := j.2
  rw [BitVec.toInt_eq_toNat_of_lt (by rw [BitVec.toNat_ofNat]; omega), BitVec.toNat_ofNat, Nat.mod_eq_of_lt (by omega)]

theorem finMk {n a : ℕ} {j : Fin n} {h : a < n} (e : a = j) : (⟨a, h⟩ : Fin n) = j := Fin.ext e
theorem zadd {a k : ℕ} (h : a = 0) : a + k = k := by omega
theorem zsub {a k : ℕ} (h : a = 0) : k - a = k := by omega
theorem cs_eq {a k t : ℕ} (h1 : a ≤ t) (h2 : t < a + 1) (e : a = k) : t = k := by omega

theorem ixe2 {n0 n1 : ℕ} {a a' : Fin n0} {b b' : Fin n1} (h0 : a = a') (h1 : b = b') : ix2 a b = ix2 a' b' := by
  subst h0 h1; rfl
theorem ixe3 {n0 n1 n2 : ℕ} {a a' : Fin n0} {b b' : Fin n1} {c c' : Fin n2} (h0 : a = a') (h1 : b = b') (h2 : c = c') :
    ix3 a b c = ix3 a' b' c' := by
  subst h0 h1 h2; rfl
theorem ixe4 {n0 n1 n2 n3 : ℕ} {a a' : Fin n0} {b b' : Fin n1} {c c' : Fin n2} {d d' : Fin n3} (h0 : a = a') (h1 : b = b')
    (h2 : c = c') (h3 : d = d') : ix4 a b c d = ix4 a' b' c' d' := by
  subst h0 h1 h2 h3; rfl
theorem ixe5 {n0 n1 n2 n3 n4 : ℕ} {a a' : Fin n0} {b b' : Fin n1} {c c' : Fin n2} {d d' : Fin n3} {f f' : Fin n4}
    (h0 : a = a') (h1 : b = b') (h2 : c = c') (h3 : d = d') (h4 : f = f') : ix5 a b c d f = ix5 a' b' c' d' f' := by
  subst h0 h1 h2 h3 h4; rfl

variable (j : Fin 8192) (s : State Ideal) (B : Fin 8)

theorem t_b3 (l : Fin 1024) : b3 (j : ℕ) s (ix2 B l) = s.main_v169_0 (ix3 j B l) := by
  pointwise [b3, b2, b1, b0]
  refine congrArg s.main_v169_0 (ixe3 (finMk ?_) (finMk ?_) (finMk ?_))
  · refine Host.clampedStart_of_le _ _ _ (j : ℕ) ?_ ?_
    · exact toI j
    · show (j : ℕ) + 1 ≤ 8192; omega
  · exact zadd (Host.clampedStart_of_le _ _ _ 0 rfl (by decide))
  · exact zadd (Host.clampedStart_of_le _ _ _ 0 rfl (by decide))

theorem t_b7 (l : Fin 1024) : b7 (j : ℕ) s (ix2 B l) = s.main_v169_1 (ix3 j B l) := by
  pointwise [b7, b6, b5, b4]
  refine congrArg s.main_v169_1 (ixe3 (finMk ?_) (finMk ?_) (finMk ?_))
  · refine Host.clampedStart_of_le _ _ _ (j : ℕ) ?_ ?_
    · exact toI j
    · show (j : ℕ) + 1 ≤ 8192; omega
  · exact zadd (Host.clampedStart_of_le _ _ _ 0 rfl (by decide))
  · exact zadd (Host.clampedStart_of_le _ _ _ 0 rfl (by decide))

theorem t_b12 (g : Fin 2) (u : Fin 8) : b12 (j : ℕ) s (ix3 B g u) = s.main_v169_2 (ix4 j B g u) := by
  pointwise [b12, b11, b10, b9, b8]
  refine congrArg s.main_v169_2 (ixe4 (finMk ?_) (finMk ?_) (finMk ?_) (finMk ?_))
  · refine Host.clampedStart_of_le _ _ _ (j : ℕ) ?_ ?_
    · exact toI j
    · show (j : ℕ) + 1 ≤ 8192; omega
  · exact zadd (Host.clampedStart_of_le _ _ _ 0 rfl (by decide))
  · exact zadd (Host.clampedStart_of_le _ _ _ 0 rfl (by decide))
  · exact zadd (Host.clampedStart_of_le _ _ _ 0 rfl (by decide))

theorem t_b18 (g : Fin 2) (u : Fin 8) (p : Fin 64) : b18 (j : ℕ) s (ix4 B g u p) = s.main_v169_3 (ix5 j B g u p) := by
  pointwise [b18, b17, b16, b15, b14, b13]
  refine congrArg s.main_v169_3 (ixe5 (finMk ?_) (finMk ?_) (finMk ?_) (finMk ?_) (finMk ?_))
  · refine Host.clampedStart_of_le _ _ _ (j : ℕ) ?_ ?_
    · exact toI j
    · show (j : ℕ) + 1 ≤ 8192; omega
  · exact zadd (Host.clampedStart_of_le _ _ _ 0 rfl (by decide))
  · exact zadd (Host.clampedStart_of_le _ _ _ 0 rfl (by decide))
  · exact zadd (Host.clampedStart_of_le _ _ _ 0 rfl (by decide))
  · exact zadd (Host.clampedStart_of_le _ _ _ 0 rfl (by decide))

theorem t_b23 (g : Fin 2) (n : Fin 128) : b23 (j : ℕ) s (ix3 B g n) = s.main_v169_4 (ix4 j B g n) := by
  pointwise [b23, b22, b21, b20, b19]
  refine congrArg s.main_v169_4 (ixe4 (finMk ?_) (finMk ?_) (finMk ?_) (finMk ?_))
  · refine Host.clampedStart_of_le _ _ _ (j : ℕ) ?_ ?_
    · exact toI j
    · show (j : ℕ) + 1 ≤ 8192; omega
  · exact zadd (Host.clampedStart_of_le _ _ _ 0 rfl (by decide))
  · exact zadd (Host.clampedStart_of_le _ _ _ 0 rfl (by decide))
  · exact zadd (Host.clampedStart_of_le _ _ _ 0 rfl (by decide))

theorem t_b28 (g : Fin 2) (n : Fin 128) : b28 (j : ℕ) s (ix3 B g n) = s.main_v169_5 (ix4 j B g n) := by
  pointwise [b28, b27, b26, b25, b24]
  refine congrArg s.main_v169_5 (ixe4 (finMk ?_) (finMk ?_) (finMk ?_) (finMk ?_))
  · refine Host.clampedStart_of_le _ _ _ (j : ℕ) ?_ ?_
    · exact toI j
    · show (j : ℕ) + 1 ≤ 8192; omega
  · exact zadd (Host.clampedStart_of_le _ _ _ 0 rfl (by decide))
  · exact zadd (Host.clampedStart_of_le _ _ _ 0 rfl (by decide))
  · exact zadd (Host.clampedStart_of_le _ _ _ 0 rfl (by decide))

theorem t_b34 (g : Fin 2) (u : Fin 8) (p : Fin 64) : b34 (j : ℕ) s (ix4 B g u p) = s.main_v169_6 (ix5 j B g u p) := by
  pointwise [b34, b33, b32, b31, b30, b29]
  refine congrArg s.main_v169_6 (ixe5 (finMk ?_) (finMk ?_) (finMk ?_) (finMk ?_) (finMk ?_))
  · refine Host.clampedStart_of_le _ _ _ (j : ℕ) ?_ ?_
    · exact toI j
    · show (j : ℕ) + 1 ≤ 8192; omega
  · exact zadd (Host.clampedStart_of_le _ _ _ 0 rfl (by decide))
  · exact zadd (Host.clampedStart_of_le _ _ _ 0 rfl (by decide))
  · exact zadd (Host.clampedStart_of_le _ _ _ 0 rfl (by decide))
  · exact zadd (Host.clampedStart_of_le _ _ _ 0 rfl (by decide))

theorem t_b38 (l : Fin 1024) : b38 (j : ℕ) s (ix2 B l) = s.main_v169_7 (ix3 j B l) := by
  pointwise [b38, b37, b36, b35]
  refine congrArg s.main_v169_7 (ixe3 (finMk ?_) (finMk ?_) (finMk ?_))
  · refine Host.clampedStart_of_le _ _ _ (j : ℕ) ?_ ?_
    · exact toI j
    · show (j : ℕ) + 1 ≤ 8192; omega
  · exact zadd (Host.clampedStart_of_le _ _ _ 0 rfl (by decide))
  · exact zadd (Host.clampedStart_of_le _ _ _ 0 rfl (by decide))

theorem t_b42 (l : Fin 1024) : b42 (j : ℕ) s (ix2 B l) = s.main_v169_8 (ix3 j B l) := by
  pointwise [b42, b41, b40, b39]
  refine congrArg s.main_v169_8 (ixe3 (finMk ?_) (finMk ?_) (finMk ?_))
  · refine Host.clampedStart_of_le _ _ _ (j : ℕ) ?_ ?_
    · exact toI j
    · show (j : ℕ) + 1 ≤ 8192; omega
  · exact zadd (Host.clampedStart_of_le _ _ _ 0 rfl (by decide))
  · exact zadd (Host.clampedStart_of_le _ _ _ 0 rfl (by decide))

theorem t_b46 (l : Fin 1024) : b46 (j : ℕ) s (ix2 B l) = s.main_v169_9 (ix3 j B l) := by
  pointwise [b46, b45, b44, b43]
  refine congrArg s.main_v169_9 (ixe3 (finMk ?_) (finMk ?_) (finMk ?_))
  · refine Host.clampedStart_of_le _ _ _ (j : ℕ) ?_ ?_
    · exact toI j
    · show (j : ℕ) + 1 ≤ 8192; omega
  · exact zadd (Host.clampedStart_of_le _ _ _ 0 rfl (by decide))
  · exact zadd (Host.clampedStart_of_le _ _ _ 0 rfl (by decide))

theorem t_b48 (l : Fin 1024) : b48 (j : ℕ) s (ix2 B l) =
    b3 (j : ℕ) s (ix2 B l) * s.main_v169_16 (ix2 B l) + b7 (j : ℕ) s (ix2 B l) := by
  pointwise [b48, b47] <;> rfl

theorem t_b57 (g : Fin 2) (u : Fin 8) (p : Fin 64) (n : Fin 128) : b57 (j : ℕ) s (ix5 B g u p n) =
    b12 (j : ℕ) s (ix3 B g u) * s.main_v169_17 (ix5 B g u p n) + b18 (j : ℕ) s (ix4 B g u p) * b23 (j : ℕ) s (ix3 B g n) := by
  pointwise [b57, b56, b55, b53, b54, b52, b51, b50, b49] <;> rfl

theorem t_b62 (g : Fin 2) (u : Fin 8) (p : Fin 64) : b62 (j : ℕ) s (ix4 B g u p) =
    ∑ n : Fin 128, b57 (j : ℕ) s (ix5 B g u p n) * b28 (j : ℕ) s (ix3 B g n) := by
  pointwise [b62, b61, b60, b59, b58] <;> rfl

theorem t_b80 (l : Fin 1024) : b80 (j : ℕ) s (ix2 B l) =
    b48 (j : ℕ) s (ix2 B l) * gelu (b38 (j : ℕ) s (ix2 B l)) := by
  pointwise [b80, b79, b78, b75, b72, b71, b68, b67, b64, b63, b66, b65, b70, b69, b74, b73, b77, b76] <;> rfl

theorem t_b97 (l : Fin 1024) : b97 (j : ℕ) s (ix2 B l) =
    nrm (fun l => b80 (j : ℕ) s (ix2 B l)) (fun l => s.main_v169_10 (ix2 0 l)) l := by
  pointwise [b97, b96, b95, b81, b94, b93, b92, b91, b90, b89, b88, b87, b86, b85, b84, b83, b82] <;> rfl

theorem t_b104 (g : Fin 2) (u : Fin 8) (p : Fin 64) : b104 (j : ℕ) s (ix4 B g u p) =
    b62 (j : ℕ) s (ix4 B g u p) + s.main_v169_11 (ix2 0 ⟨(g : ℕ) * 8 + u, by omega⟩) * b34 (j : ℕ) s (ix4 B g u p) := by
  pointwise [b104, b103, b102, b101, b100, b99, b98] <;> rfl

theorem t_b115 (l : Fin 1024) : b115 (j : ℕ) s (ix2 B l) =
    b104 (j : ℕ) s (ix4 B ⟨(l : ℕ) / 512, by omega⟩ ⟨(l : ℕ) / 64 % 8, by omega⟩ ⟨(l : ℕ) % 64, by omega⟩) * silu (b42 (j : ℕ) s (ix2 B l)) := by
  pointwise [b115, b114, b113, b110, b107, b106, b109, b108, b112, b111, b105] <;> rfl

theorem t_b132 (l : Fin 1024) : b132 (j : ℕ) s (ix2 B l) =
    nrm (fun l => b115 (j : ℕ) s (ix2 B l)) (fun l => s.main_v169_12 (ix2 0 l)) l := by
  pointwise [b132, b131, b130, b116, b129, b128, b127, b126, b125, b124, b123, b122, b121, b120, b119, b118, b117] <;> rfl

theorem t_b135 (l : Fin 1024) : b135 (j : ℕ) s (ix2 B l) =
    ∑ x : Fin 1024, b97 (j : ℕ) s (ix2 B x) * s.main_v169_13 (ix3 0 ⟨x, by omega⟩ l) + ∑ x : Fin 1024, b132 (j : ℕ) s (ix2 B x) * s.main_v169_13 (ix3 0 ⟨1024 + x, by omega⟩ l) := by
  pointwise [b135, b134, b133] <;> rfl

theorem t_b153 (l : Fin 1024) : b153 (j : ℕ) s (ix2 B l) =
    b46 (j : ℕ) s (ix2 B l) + nrm (fun l => b135 (j : ℕ) s (ix2 B l)) (fun l => s.main_v169_14 (ix2 0 l)) l := by
  pointwise [b153, b152, b151, b150, b136, b149, b148, b147, b146, b145, b144, b143, b142, b141, b140, b139, b138, b137] <;> rfl

theorem t_b157 (t : Fin 8192) (l : Fin 1024) : b157 (j : ℕ) s (ix3 t B l) =
    if t = j then b153 (j : ℕ) s (ix2 B l) else s.main_v169_18 (ix3 t B l) := by
  pointwise [b157, b156, b155, b154]
  split
  · next h =>
    have e : t = j := Fin.ext (cs_eq h.1.1 h.1.2 (Host.clampedStart_of_le _ _ _ (j : ℕ) (toI j) (by show (j : ℕ) + 1 ≤ 8192; omega)))
    rw [if_pos e]
    exact congrArg _ (ixe2 (finMk (zsub (Host.clampedStart_of_le _ _ _ 0 rfl (by decide)))) (finMk (zsub (Host.clampedStart_of_le _ _ _ 0 rfl (by decide)))))
  · next h =>
    have e : t ≠ j := by
      rintro rfl
      exact h ⟨⟨(Host.clampedStart_of_le _ _ _ (t : ℕ) (toI t) (by show (t : ℕ) + 1 ≤ 8192; omega)).le, by rw [Host.clampedStart_of_le _ _ _ (t : ℕ) (toI t) (by show (t : ℕ) + 1 ≤ 8192; omega)]; omega⟩, (Host.clampedStart_of_le _ _ _ 0 rfl (by decide)).le.trans (Nat.zero_le _), (Host.clampedStart_of_le _ _ _ 0 rfl (by decide)).le.trans (Nat.zero_le _)⟩
    rw [if_neg e]

/-- The sum over both halves, one after the other. -/
theorem mix_halves (W : Wt) (X : ℕ → Fin 1024 → EReal) (t : ℕ) (k : Fin 1024) : mix W X t k
    = ∑ x : Fin 1024, yl W X t x * W.wout ⟨x, by omega⟩ k + ∑ x : Fin 1024, ys W X t x * W.wout ⟨1024 + x, by omega⟩ k := by
  unfold mix
  refine (Fin.sum_univ_add (a := 1024) (b := 1024) _).trans ?_
  congr 1

/-- What the loop's state holds before trip `n`. -/
structure Inv (q : G) (n : ℕ) (s : State Ideal) : Prop where
  h : ∀ (B : Fin 8) (l : Fin 1024), s.main_v169_16 (ix2 B l) = hst q.wt (q.x B) n l
  st : ∀ (B : Fin 8) (g : Fin 2) (u : Fin 8) (p : Fin 64) (m : Fin 128), s.main_v169_17 (ix5 B g u p m)
    = sst q.wt (q.x B) n ⟨g * 512 + u * 64 + p, by omega⟩ m
  out : ∀ (t : Fin 8192) (B : Fin 8) (l : Fin 1024), (t : ℕ) < n → s.main_v169_18 (ix3 t B l) = outp q.wt (q.x B) t l
  f0 : ∀ (t : Fin 8192) (B : Fin 8) (l : Fin 1024), s.main_v169_0 (ix3 t B l) = av q.wt (q.x B) t l
  f1 : ∀ (t : Fin 8192) (B : Fin 8) (l : Fin 1024), s.main_v169_1 (ix3 t B l) = uv q.wt (q.x B) t l
  f2 : ∀ (t : Fin 8192) (B : Fin 8) (g : Fin 2) (u : Fin 8), s.main_v169_2 (ix4 t B g u) = dec q.wt (q.x B) t ⟨g * 8 + u, by omega⟩
  f3 : ∀ (t : Fin 8192) (B : Fin 8) (g : Fin 2) (u : Fin 8) (p : Fin 64), s.main_v169_3 (ix5 t B g u p)
    = xbc q.wt (q.x B) t ⟨g * 512 + u * 64 + p, by omega⟩ * dt q.wt (q.x B) t ⟨g * 8 + u, by omega⟩
  f4 : ∀ (t : Fin 8192) (B : Fin 8) (g : Fin 2) (m : Fin 128), s.main_v169_4 (ix4 t B g m) = xbc q.wt (q.x B) t ⟨1024 + (g * 128 + m), by omega⟩
  f5 : ∀ (t : Fin 8192) (B : Fin 8) (g : Fin 2) (m : Fin 128), s.main_v169_5 (ix4 t B g m) = xbc q.wt (q.x B) t ⟨1280 + (g * 128 + m), by omega⟩
  f6 : ∀ (t : Fin 8192) (B : Fin 8) (g : Fin 2) (u : Fin 8) (p : Fin 64), s.main_v169_6 (ix5 t B g u p)
    = xbc q.wt (q.x B) t ⟨g * 512 + u * 64 + p, by omega⟩
  f7 : ∀ (t : Fin 8192) (B : Fin 8) (l : Fin 1024), s.main_v169_7 (ix3 t B l) = pj q.wt (q.x B) t ⟨1024 + l, by omega⟩
  f8 : ∀ (t : Fin 8192) (B : Fin 8) (l : Fin 1024), s.main_v169_8 (ix3 t B l) = pj q.wt (q.x B) t ⟨2048 + l, by omega⟩
  f9 : ∀ (t : Fin 8192) (B : Fin 8) (l : Fin 1024), s.main_v169_9 (ix3 t B l) = q.x B t l
  f10 : s.main_v169_10 = q.g10
  f11 : s.main_v169_11 = q.g15
  f12 : s.main_v169_12 = q.g16
  f13 : s.main_v169_13 = q.g17
  f14 : s.main_v169_14 = q.g18

variable {j s} {q : G}

theorem n_h (I : Inv q j s) (l : Fin 1024) : b48 (j : ℕ) s (ix2 B l) = hst q.wt (q.x B) (j + 1) l := by
  rw [t_b48, t_b3, t_b7, I.f0, I.f1, I.h, add_comm]; rfl

theorem n_st (I : Inv q j s) (g : Fin 2) (u : Fin 8) (p : Fin 64) (m : Fin 128) : b57 (j : ℕ) s (ix5 B g u p m)
    = sst q.wt (q.x B) (j + 1) ⟨g * 512 + u * 64 + p, by omega⟩ m := by
  rw [t_b57, t_b12, t_b18, t_b23, I.f2, I.f3, I.f4, I.st]
  have e : (⟨(g * 512 + u * 64 + p : ℕ) / 64, by omega⟩ : Fin 16) = ⟨g * 8 + u, by omega⟩ := Fin.ext (by show (g * 512 + u * 64 + p : ℕ) / 64 = g * 8 + u; omega)
  have e2 : (⟨1024 + 128 * ((g * 512 + u * 64 + p : ℕ) / 512) + m, by omega⟩ : Fin 1536) = ⟨1024 + (g * 128 + m), by omega⟩ :=
    Fin.ext (by show 1024 + 128 * ((g * 512 + u * 64 + p : ℕ) / 512) + m = 1024 + (g * 128 + m); omega)
  show _ = dec q.wt (q.x B) j ⟨(g * 512 + u * 64 + p : ℕ) / 64, by omega⟩ * sst q.wt (q.x B) j ⟨g * 512 + u * 64 + p, by omega⟩ m
    + (xbc q.wt (q.x B) j ⟨g * 512 + u * 64 + p, by omega⟩ * dt q.wt (q.x B) j ⟨(g * 512 + u * 64 + p : ℕ) / 64, by omega⟩)
      * xbc q.wt (q.x B) j ⟨1024 + 128 * ((g * 512 + u * 64 + p : ℕ) / 512) + m, by omega⟩
  rw [e, e2]

theorem n_yl (I : Inv q j s) (l : Fin 1024) : b97 (j : ℕ) s (ix2 B l) = yl q.wt (q.x B) j l := by
  rw [t_b97, I.f10]
  rw [show (fun l => b80 (j : ℕ) s (ix2 B l)) = fun l => hst q.wt (q.x B) (j + 1) l * gelu (pj q.wt (q.x B) j ⟨1024 + l, by omega⟩) from
    funext fun l => by rw [t_b80, n_h B I, t_b38, I.f7]]
  rfl

theorem n_yr (I : Inv q j s) (g : Fin 2) (u : Fin 8) (p : Fin 64) : b62 (j : ℕ) s (ix4 B g u p)
    = yr q.wt (q.x B) j ⟨g * 512 + u * 64 + p, by omega⟩ := by
  rw [t_b62]
  refine Finset.sum_congr rfl fun m _ => ?_
  rw [n_st B I, t_b28, I.f5]
  congr 2
  exact Fin.ext (by show 1280 + ((g : ℕ) * 128 + m) = 1280 + 128 * ((g * 512 + u * 64 + p : ℕ) / 512) + m; omega)

theorem n_ys (I : Inv q j s) (l : Fin 1024) : b132 (j : ℕ) s (ix2 B l) = ys q.wt (q.x B) j l := by
  rw [t_b132, I.f12]
  rw [show (fun l => b115 (j : ℕ) s (ix2 B l)) = fun L : Fin 1024 => (yr q.wt (q.x B) j L + q.wt.dd ⟨L / 64, by omega⟩ * xbc q.wt (q.x B) j ⟨L, by omega⟩)
      * silu (pj q.wt (q.x B) j ⟨2048 + L, by omega⟩) from funext fun l => by
    rw [t_b115, t_b104, n_yr B I, t_b34, I.f6, t_b42, I.f8, I.f11]
    have e : (l : ℕ) / 512 * 512 + (l : ℕ) / 64 % 8 * 64 + (l : ℕ) % 64 = l := by omega
    have e1 : (⟨(l : ℕ) / 512 * 512 + (l : ℕ) / 64 % 8 * 64 + (l : ℕ) % 64, by omega⟩ : Fin 1024) = l := Fin.ext e
    have e2 : (⟨(l : ℕ) / 512 * 512 + (l : ℕ) / 64 % 8 * 64 + (l : ℕ) % 64, by omega⟩ : Fin 1536) = ⟨l, by omega⟩ := Fin.ext e
    have e3 : (⟨(l : ℕ) / 512 * 8 + (l : ℕ) / 64 % 8, by omega⟩ : Fin 16) = ⟨l / 64, by omega⟩ :=
      Fin.ext (by show (l : ℕ) / 512 * 8 + (l : ℕ) / 64 % 8 = (l : ℕ) / 64; omega)
    show (yr q.wt (q.x B) j ⟨(l : ℕ) / 512 * 512 + (l : ℕ) / 64 % 8 * 64 + (l : ℕ) % 64, by omega⟩
      + q.g15 (ix2 0 ⟨(l : ℕ) / 512 * 8 + (l : ℕ) / 64 % 8, by omega⟩)
        * xbc q.wt (q.x B) j ⟨(l : ℕ) / 512 * 512 + (l : ℕ) / 64 % 8 * 64 + (l : ℕ) % 64, by omega⟩) * _ = _
    rw [e1, e2, e3]; rfl]
  rfl

theorem n_mix (I : Inv q j s) (l : Fin 1024) : b135 (j : ℕ) s (ix2 B l) = mix q.wt (q.x B) j l := by
  rw [t_b135, mix_halves, I.f13]
  congr 1
  · exact Finset.sum_congr rfl fun x _ => by rw [n_yl B I]; rfl
  · exact Finset.sum_congr rfl fun x _ => by rw [n_ys B I]; rfl

theorem n_out (I : Inv q j s) (l : Fin 1024) : b153 (j : ℕ) s (ix2 B l) = outp q.wt (q.x B) j l := by
  rw [t_b153, t_b46, I.f9, I.f14]
  rw [show (fun l => b135 (j : ℕ) s (ix2 B l)) = mix q.wt (q.x B) j from funext fun l => n_mix B I l]
  rfl

theorem inv_step (I : Inv q j s) : Inv q (j + 1) (step j s) where
  h B l := n_h B I l
  st B g u p m := n_st B I g u p m
  out t B l h := by
    show b157 (j : ℕ) s (ix3 t B l) = _
    rw [t_b157]
    split
    · next e => subst e; exact n_out B I l
    · next e => exact I.out t B l (by have : (t : ℕ) ≠ j := fun h => e (Fin.ext h); omega)
  f0 := I.f0
  f1 := I.f1
  f2 := I.f2
  f3 := I.f3
  f4 := I.f4
  f5 := I.f5
  f6 := I.f6
  f7 := I.f7
  f8 := I.f8
  f9 := I.f9
  f10 := I.f10
  f11 := I.f11
  f12 := I.f12
  f13 := I.f13
  f14 := I.f14

theorem z16 (B : Fin 8) (l : Fin 1024) : (K_main_v156 (F := Ideal)) (ix2 B l) = 0 := by
  pointwise [K_main_v156, K_main_cst_9] <;> rfl

theorem z17 (B : Fin 8) (g : Fin 2) (u : Fin 8) (p : Fin 64) (m : Fin 128) : (K_main_v157 (F := Ideal)) (ix5 B g u p m) = 0 := by
  pointwise [K_main_v157, K_main_cst_10] <;> rfl

theorem inv_init (q : G) : Inv q 0 (init q.g10 q.g15 q.g16 q.g17 q.g18 q.g0 q.g1 q.g2 q.g3 q.g4 q.g5 q.g6 q.g7 q.g8 q.g9 q.g11 q.g12 q.g13 q.g14) where
  h B l := z16 B l
  st B g u p m := z17 B g u p m
  out t B l h := absurd h (Nat.not_lt_zero _)
  f0 t B l := (i0 q B t l).trans (r91 q B t l)
  f1 t B l := (i1 q B t l).trans (r98 q B t l)
  f2 t B g u := (i2 q B t g u).trans (r152 q B t g u)
  f3 t B g u p := (i3 q B t g u p).trans (r155 q B t g u p)
  f4 t B g m := (i4 q B t g m).trans (r136 q B t g m)
  f5 t B g m := (i5 q B t g m).trans (r138 q B t g m)
  f6 t B g u p := (i6 q B t g u p).trans (r134 q B t g u p)
  f7 t B l := i7 q B t l
  f8 t B l := i8 q B t l
  f9 t B l := (i9 q B t l).trans (by rw [q.x_at])
  f10 := rfl
  f11 := rfl
  f12 := rfl
  f13 := rfl
  f14 := rfl

/-- What the loop leaves, transposed, is the specification's result. -/
theorem result (it : ℕ → State Ideal) (h0 : it 0 = init q.g10 q.g15 q.g16 q.g17 q.g18 q.g0 q.g1 q.g2 q.g3 q.g4 q.g5 q.g6 q.g7 q.g8 q.g9 q.g11 q.g12 q.g13 q.g14) (hs : ∀ n, it (n + 1) = step n (it n))
    (B : Fin 8) (t : Fin 8192) (l : Fin 1024) : R_main_v170 (it 8192) (ix3 B t l) = outp q.wt (q.x B) t l := by
  have H : ∀ n, n ≤ 8192 → Inv q n (it n) := by
    intro n
    induction n with
    | zero => intro _; rw [h0]; exact inv_init q
    | succ n ih =>
      intro h
      rw [hs]
      exact inv_step (j := ⟨n, by omega⟩) (ih (by omega))
  have e : R_main_v170 (it 8192) (ix3 B t l) = (it 8192).main_v169_18 (ix3 t B l) := by
    pointwise [R_main_v170] <;> rfl
  rw [e]; exact (H 8192 le_rfl).out t B l t.2

end Cert.Mix.Ref
end
-- ==== Proof.MixRes.lean ====
module

public import proofs.«01_k».proof.Proof.MixVal
public import proofs.«01_k».proof.Proof.MixRefB
public import proofs.«01_k».proof.Proof.MixRefRun

/-! The array the mixer call leaves, and the array its reference leaves: both are the specification's. -/

@[expose] public section

set_option maxRecDepth 16384
set_option maxHeartbeats 400000

noncomputable section

namespace Cert.Mix

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The result the arguments call for. -/
def res (q : Ref.G) : S8x8192x1024.Idx → EReal := fun i => outp q.wt (q.x (i 0)) (i 1).val (i 2)

theorem idx0 : ∀ t : Fin grid0.N, win0_23.index t ⟨0, by decide⟩ = t.val / 32 := by decide +kernel
theorem idx1 : ∀ t : Fin grid0.N, win0_23.index t ⟨1, by decide⟩ = t.val % 32 := by decide +kernel
theorem idx2 : ∀ t : Fin grid0.N, win0_23.index t ⟨2, by decide⟩ = 0 := by decide +kernel

/-- What point `t` writes back is its block of the result. -/
theorem flushed_eq (c : Dev nD) (F : FinW (qm m c).wt) (t : Fin cfg0.N) :
    (dats m 0 c).flushed 23 t = (win0_23.blk t).view.read (Elt Ideal) (res (qm m c)) := by
  have e0 := idx0 t
  have e1 := idx1 t
  have e2 := idx2 t
  have ht : t.val < 256 := t.isLt
  show (cfg0.win 23).cut (grid0.coords t) ((dats m 0 c).after 23 t) = _
  rw [after_23]
  funext y
  have h0 : (y 0).val < 1 := (y 0).isLt
  have h1 : (y 1).val < 256 := (y 1).isLt
  have h2 : (y 2).val < 1024 := (y 2).isLt
  have key := (left_spec m c F t.val t.isLt ⟨t.val / 32, by omega⟩ rfl).1 ⟨(y 1).val, h1⟩ ⟨(y 2).val, h2⟩
  generalize (leftAt m c t.val t.isLt).1 = A at key ⊢
  have k2 : outp (qm m c).wt ((qm m c).x ⟨t.val / 32, by omega⟩) (256 * (t.val % 32) + (y 1).val) ⟨(y 2).val, h2⟩
      = res (qm m c) (ix3 ⟨t.val / 32, by omega⟩ ⟨256 * (t.val % 32) + (y 1).val, by omega⟩ ⟨(y 2).val, h2⟩) := rfl
  show A _ = res (qm m c) _
  refine Eq.trans (congrArg A ?_) (key.trans (k2.trans (congrArg (res (qm m c)) ?_)))
  · funext a
    refine Fin.ext ?_
    match a with
    | ⟨0, _⟩ => show (y 0).val = 0; omega
    | ⟨1, _⟩ => rfl
    | ⟨2, _⟩ => rfl
  · funext a
    refine Fin.ext ?_
    match a with
    | ⟨0, _⟩ => show t.val / 32 = win0_23.index t ⟨0, _⟩ * 1 + 1 * (y 0).val; rw [e0]; omega
    | ⟨1, _⟩ => show 256 * (t.val % 32) + (y 1).val = win0_23.index t ⟨1, _⟩ * 256 + 1 * (y 1).val; rw [e1]; omega
    | ⟨2, _⟩ => show (y 2).val = win0_23.index t ⟨2, _⟩ * 1024 + 1 * (y 2).val; rw [e2]; omega

/-- The blocks fill the array. -/
theorem cover (i : S8x8192x1024.Idx) :
    ∃ t : Fin cfg0.N, (cfg0.win 23).flush t = true ∧ i ∈ ((cfg0.win 23).blk t).view.set := by
  have h0 : (i 0).val < 8 := (i 0).isLt
  have h1 : (i 1).val < 8192 := (i 1).isLt
  have h2 : (i 2).val < 1024 := (i 2).isLt
  have hN : cfg0.N = 256 := N_0
  refine ⟨⟨32 * (i 0).val + (i 1).val / 256, by omega⟩, flush0_23 _, ?_⟩
  generalize ht : (⟨32 * (i 0).val + (i 1).val / 256, by omega⟩ : Fin cfg0.N) = t
  have ht' : t.val = 32 * (i 0).val + (i 1).val / 256 := by rw [← ht]
  have e0 := idx0 t
  have e1 := idx1 t
  have e2 := idx2 t
  show i ∈ ((View.whole main_v72).slice (win0_23.rect t)).set
  rw [View.set_slice_whole, Rect.mem_set_unit]
  intro a
  match a with
  | ⟨0, _⟩ =>
    show win0_23.index t ⟨0, _⟩ * 1 ≤ (i 0).val ∧ (i 0).val < win0_23.index t ⟨0, _⟩ * 1 + 1
    rw [e0]; omega
  | ⟨1, _⟩ =>
    show win0_23.index t ⟨1, _⟩ * 256 ≤ (i 1).val ∧ (i 1).val < win0_23.index t ⟨1, _⟩ * 256 + 256
    rw [e1]; omega
  | ⟨2, _⟩ =>
    show win0_23.index t ⟨2, _⟩ * 1024 ≤ (i 2).val ∧ (i 2).val < win0_23.index t ⟨2, _⟩ * 1024 + 1024
    rw [e2]; omega

/-- The array the run leaves. -/
theorem final (c : Dev nD) (F : FinW (qm m c).wt) : (dats m 0 c).arrAt 23 cfg0.N = res (qm m c) :=
  (dats m 0 c).arrAt_eq_of_cover 23 (res (qm m c)) (fun t _ => flushed_eq m c F t) cover

/-- The run of the call leaves that array. -/
theorem run_res (F : ∀ c, FinW (qm m c).wt) : θ_run defs (onTc (τ := τ) (main (F := Ideal))) ⟨m, fun _ => 0, ρ⟩
    (fun r => ∀ c : Dev nD, r.2.mem ((c.tc : Thread nD τ).loc main_v72) = res (qm m c)) :=
  (θ_run defs _ _).mono (fun _ h c => ((h c).1 23).trans (final m c (F c))) (run_main m ρ)

/-- What the sequence of the reference's states ends in. -/
theorem ref_res (q : Ref.G) (it : ℕ → Cert.ReferenceIdeal.Step.State Ideal)
    (h0 : it 0 = Cert.ReferenceIdeal.Step.init q.g10 q.g15 q.g16 q.g17 q.g18 q.g0 q.g1 q.g2 q.g3 q.g4 q.g5 q.g6 q.g7 q.g8 q.g9 q.g11 q.g12 q.g13 q.g14)
    (hs : ∀ n, it (n + 1) = Cert.ReferenceIdeal.Step.step n (it n)) :
    Cert.ReferenceIdeal.Step.R_main_v170 (it 8192) = res q := by
  funext i
  have e : i = ix3 (i 0) (i 1) (i 2) := eq_ix3 i
  rw [e]
  exact Ref.result (q := q) it h0 hs (i 0) (i 1) (i 2)

/-- The reference's states. -/
def refIt (s0 : Cert.ReferenceIdeal.Step.State Ideal) : ℕ → Cert.ReferenceIdeal.Step.State Ideal
  | 0 => s0
  | n + 1 => Cert.ReferenceIdeal.Step.step n (refIt s0 n)

end Cert.Mix

end
-- ==== Proof.MixPre.lean ====
module

public import proofs.«01_k».proof.Defs
public import proofs.«01_k».proof.Proof.MixRes
public import Idealize.ShloMosaic.Lib.Pointwise

/-! The precondition: the weights it names are real numbers. -/

@[expose] public section

set_option maxRecDepth 16384

noncomputable section

namespace Cert.Mix

open Idealize.ShloMosaic Idealize.ShloMosaic.TcCoe

theorem preFacts : Cert.Pre_finite_weights.Facts where
  bcast_S_S1x1024 := by decide
  bcast_S_S1x1024x4624 := by decide
  bcast_S_S1x4x1536 := by decide
  bcast_S_S1x1536 := by decide
  bcast_S_S1x16 := by decide

theorem fin_lt {x : EReal} (h : max x (-x) < ⊤) : Fin' x := by
  induction x with
  | bot => simp at h
  | top => simp at h
  | coe r => exact ⟨r, rfl⟩

/-- An array whose comparison is one everywhere holds real numbers. -/
theorem fin_arr {S : Shape} (x : FVec Ideal S .f32) (hb : Cert.Pre_finite_weights.S_.BroadcastsInDim S (![] : Fin 0 → Fin S.rank))
    (h : cmpf .olt (Host.absf x) (broadcastInDim S ![] hb (constant (F := Ideal) Cert.Pre_finite_weights.S_ .f32 0x7F800000#32)) = fun _ => 1#1)
    (i : S.Idx) : Fin' (x i) := by
  have h1 : Ideal.cmp .olt (max (x i) (-(x i))) (Ideal.ofBits .f32 0x7F800000#32) = 1 := congrFun h i
  rw [show Ideal.ofBits .f32 0x7F800000#32 = (⊤ : EReal) by simp [Ideal.ofBits, Ideal.ieee]] at h1
  have h2 : BitVec.ofBool (decide (max (x i) (-(x i)) < ⊤)) = 1#1 := h1
  refine fin_lt ?_
  by_contra hn
  rw [decide_eq_false hn] at h2
  exact absurd h2 (by decide)

/-- The precondition gives what the value claim needs. -/
theorem fin_of_pre (m : (ℓ : Loc Cert.KernelIdeal.nD Cert.KernelIdeal.τ Cert.KernelIdeal.sig) → Buf (Elt Ideal) ℓ)
    (h : Cert.Pre_KernelIdeal_finite_weights (hPre_finite_weights := preFacts) m) (c : Dev Cert.KernelIdeal.nD) : FinW (qm m c).wt := by
  obtain ⟨h1, h2, h3, h4, h5, h6⟩ := h c
  exact ⟨fun k => fin_arr _ _ h1 (ix2 0 k), fun k l => fin_arr _ _ h2 (ix3 0 k l), fun k l => fin_arr _ _ h3 (ix3 0 k l),
    fun l => fin_arr _ _ h4 (ix2 0 l), fun e => fin_arr _ _ h5 (ix2 0 e), fun e => fin_arr _ _ h6 (ix2 0 e)⟩

end Cert.Mix

end
-- ==== Proof.MixClaims.lean ====
module

public import proofs.«01_k».proof.Proof.MixPre
public import proofs.«01_k».proof.Proof.MixBitsFrame
public import Idealize.ShloMosaic.Lib.Quiescent

/-! The claims about the mixer call. -/

@[expose] public section

set_option maxRecDepth 16384

noncomputable section

namespace Cert.Mix

open Idealize.ShloMosaic Idealize.ShloMosaic.TcCoe Idealize.SL.Sem

theorem frame_kernel : Cert.quiescent_Kernel (hKernel := Cert.Kernel.Gen.facts) := fun m ρ _ => Cert.MixBits.frame m ρ
theorem frame_ideal : Cert.quiescent_KernelIdeal (hKernelIdeal := Cert.KernelIdeal.Gen.facts) := fun m ρ _ => frame m ρ
theorem frame_ideal_pre : Cert.quiescent_KernelIdeal_pre_finite_weights (hKernelIdeal := Cert.KernelIdeal.Gen.facts)
    (hPre_finite_weights := preFacts) := fun m ρ _ => frame m ρ

theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.StepRun.run_iter m ρ (fun c => refIt (Cert.ReferenceIdeal.StepRun.initState m c)) (fun _ => rfl) (fun _ _ => rfl))
theorem frame_ref_pre : Cert.quiescent_ReferenceIdeal_pre_finite_weights (hReferenceIdeal := Cert.ReferenceIdeal.Gen.facts)
    (hPre_finite_weights := preFacts) := fun m ρ _ => frame_ref m ρ trivial
theorem preserves : Cert.preserves_Kernel_KernelIdeal := trivial

/-- The reference's arguments. -/
def qr (m : (ℓ : Loc Cert.ReferenceIdeal.nD Cert.ReferenceIdeal.τ Cert.ReferenceIdeal.sig) → Buf (Elt Ideal) ℓ) (c : Dev Cert.ReferenceIdeal.nD) : Ref.G :=
  ⟨m ((c.tc : Thread Cert.ReferenceIdeal.nD Cert.ReferenceIdeal.τ).loc Cert.ReferenceIdeal.main_arg0), m ((c.tc : Thread Cert.ReferenceIdeal.nD Cert.ReferenceIdeal.τ).loc Cert.ReferenceIdeal.main_arg1), m ((c.tc : Thread Cert.ReferenceIdeal.nD Cert.ReferenceIdeal.τ).loc Cert.ReferenceIdeal.main_arg2), m ((c.tc : Thread Cert.ReferenceIdeal.nD Cert.ReferenceIdeal.τ).loc Cert.ReferenceIdeal.main_arg3), m ((c.tc : Thread Cert.ReferenceIdeal.nD Cert.ReferenceIdeal.τ).loc Cert.ReferenceIdeal.main_arg4), m ((c.tc : Thread Cert.ReferenceIdeal.nD Cert.ReferenceIdeal.τ).loc Cert.ReferenceIdeal.main_arg5), m ((c.tc : Thread Cert.ReferenceIdeal.nD Cert.ReferenceIdeal.τ).loc Cert.ReferenceIdeal.main_arg6), m ((c.tc : Thread Cert.ReferenceIdeal.nD Cert.ReferenceIdeal.τ).loc Cert.ReferenceIdeal.main_arg7), m ((c.tc : Thread Cert.ReferenceIdeal.nD Cert.ReferenceIdeal.τ).loc Cert.ReferenceIdeal.main_arg8), m ((c.tc : Thread Cert.ReferenceIdeal.nD Cert.ReferenceIdeal.τ).loc Cert.ReferenceIdeal.main_arg9), m ((c.tc : Thread Cert.ReferenceIdeal.nD Cert.ReferenceIdeal.τ).loc Cert.ReferenceIdeal.main_arg10), m ((c.tc : Thread Cert.ReferenceIdeal.nD Cert.ReferenceIdeal.τ).loc Cert.ReferenceIdeal.main_arg11), m ((c.tc : Thread Cert.ReferenceIdeal.nD Cert.ReferenceIdeal.τ).loc Cert.ReferenceIdeal.main_arg12), m ((c.tc : Thread Cert.ReferenceIdeal.nD Cert.ReferenceIdeal.τ).loc Cert.ReferenceIdeal.main_arg13), m ((c.tc : Thread Cert.ReferenceIdeal.nD Cert.ReferenceIdeal.τ).loc Cert.ReferenceIdeal.main_arg14), m ((c.tc : Thread Cert.ReferenceIdeal.nD Cert.ReferenceIdeal.τ).loc Cert.ReferenceIdeal.main_arg15), m ((c.tc : Thread Cert.ReferenceIdeal.nD Cert.ReferenceIdeal.τ).loc Cert.ReferenceIdeal.main_arg16), m ((c.tc : Thread Cert.ReferenceIdeal.nD Cert.ReferenceIdeal.τ).loc Cert.ReferenceIdeal.main_arg17), m ((c.tc : Thread Cert.ReferenceIdeal.nD Cert.ReferenceIdeal.τ).loc Cert.ReferenceIdeal.main_arg18)⟩

theorem algebraic : Cert.algebraic_KernelIdeal_ReferenceIdeal_pre_finite_weights (hKernelIdeal := Cert.KernelIdeal.Gen.facts)
    (hReferenceIdeal := Cert.ReferenceIdeal.Gen.facts) (hPre_finite_weights := preFacts) := by
  intro m ρ m' ρ' hp hagree
  refine ⟨fun c => res (qm m c), ?_, ?_⟩
  · exact (θ_run Cert.KernelIdeal.defs _ _).mono (fun _ h c => ⟨h.1 c, h.2.1 c⟩)
      (θ_run_and (run_res m ρ (fin_of_pre m hp)) (frame m ρ))
  · refine (θ_run Cert.ReferenceIdeal.defs _ _).mono (fun _ h c => ⟨(h c).1.trans ?_, (h c).2⟩) (Cert.ReferenceIdeal.StepRun.run_iter m' ρ' (fun c => refIt (Cert.ReferenceIdeal.StepRun.initState m' c)) (fun _ => rfl) (fun _ _ => rfl))
    refine (ref_res (qr m' c) _ rfl (fun _ => rfl)).trans (congrArg res ?_)
    obtain ⟨e0, e1, e2, e3, e4, e5, e6, e7, e8, e9, e10, e11, e12, e13, e14, e15, e16, e17, e18⟩ := hagree c
    unfold qr qm
    rw [e0, e1, e2, e3, e4, e5, e6, e7, e8, e9, e10, e11, e12, e13, e14, e15, e16, e17, e18]

end Cert.Mix

end
-- ==== Proof.lean ====
module

public import proofs.«01_k».proof.Proof.FfnClaims
public import proofs.«01_k».proof.Proof.MixClaims
public import proofs.«01_k».proof.Defs
public import Idealize.ShloMosaic.Adequacy
public import Idealize.ShloMosaic.Init

@[expose] public section

noncomputable section

namespace Cert.Proof

open Idealize.ShloMosaic Idealize.SL.Sem Cert.Kernel

/-- The claims about the mixer call and the feed-forward call. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Mix.preFacts,
  Cert.Mix.frame_kernel, Cert.Mix.frame_ideal, Cert.Mix.frame_ideal_pre, Cert.Mix.frame_ref, Cert.Mix.frame_ref_pre,
  Cert.Ffn.frame_kernel, Cert.Ffn.frame_ideal, Cert.Ffn.frame_ref,
  Cert.Mix.preserves, Cert.Mix.algebraic, Cert.Ffn.preserves, Cert.Ffn.algebraic⟩

end Cert.Proof
